-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)) (v7 : (c : Dev Cert.KernelIdeal.nD) → Buf (Elt Ideal) ((c.tc : Thread Cert.KernelIdeal.nD Cert.KernelIdeal.τ).loc Cert.KernelIdeal.main_v7_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_v7_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v152) = v4 c
          ∧ r.2.mem ((c.tc : Thread Cert.ReferenceIdeal.nD Cert.ReferenceIdeal.τ).loc Cert.ReferenceIdeal.main_v153) = v5 c
          ∧ r.2.mem ((c.tc : Thread Cert.ReferenceIdeal.nD Cert.ReferenceIdeal.τ).loc Cert.ReferenceIdeal.main_v155) = v6 c
          ∧ r.2.mem ((c.tc : Thread Cert.ReferenceIdeal.nD Cert.ReferenceIdeal.τ).loc Cert.ReferenceIdeal.main_v156) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_v72) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v32_0)) (v1 : (c : Dev Cert.Kernel9Ideal.nD) → Buf (Elt Ideal) ((c.tc : Thread Cert.Kernel9Ideal.nD Cert.Kernel9Ideal.τ).loc Cert.Kernel9Ideal.main_v32_1)) (v2 : (c : Dev Cert.Kernel9Ideal.nD) → Buf (Elt Ideal) ((c.tc : Thread Cert.Kernel9Ideal.nD Cert.Kernel9Ideal.τ).loc Cert.Kernel9Ideal.main_v32_2)) (v3 : (c : Dev Cert.Kernel9Ideal.nD) → Buf (Elt Ideal) ((c.tc : Thread Cert.Kernel9Ideal.nD Cert.Kernel9Ideal.τ).loc Cert.Kernel9Ideal.main_v32_3)) (v4 : (c : Dev Cert.Kernel9Ideal.nD) → Buf (Elt Ideal) ((c.tc : Thread Cert.Kernel9Ideal.nD Cert.Kernel9Ideal.τ).loc Cert.Kernel9Ideal.main_v32_4)) (v5 : (c : Dev Cert.Kernel9Ideal.nD) → Buf (Elt Ideal) ((c.tc : Thread Cert.Kernel9Ideal.nD Cert.Kernel9Ideal.τ).loc Cert.Kernel9Ideal.main_v32_5)) (v6 : (c : Dev Cert.Kernel9Ideal.nD) → Buf (Elt Ideal) ((c.tc : Thread Cert.Kernel9Ideal.nD Cert.Kernel9Ideal.τ).loc Cert.Kernel9Ideal.main_v32_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v32_0) = v0 c
          ∧ r.2.mem ((c.tc : Thread Cert.Kernel9Ideal.nD Cert.Kernel9Ideal.τ).loc Cert.Kernel9Ideal.main_v32_1) = v1 c
          ∧ r.2.mem ((c.tc : Thread Cert.Kernel9Ideal.nD Cert.Kernel9Ideal.τ).loc Cert.Kernel9Ideal.main_v32_2) = v2 c
          ∧ r.2.mem ((c.tc : Thread Cert.Kernel9Ideal.nD Cert.Kernel9Ideal.τ).loc Cert.Kernel9Ideal.main_v32_3) = v3 c
          ∧ r.2.mem ((c.tc : Thread Cert.Kernel9Ideal.nD Cert.Kernel9Ideal.τ).loc Cert.Kernel9Ideal.main_v32_4) = v4 c
          ∧ r.2.mem ((c.tc : Thread Cert.Kernel9Ideal.nD Cert.Kernel9Ideal.τ).loc Cert.Kernel9Ideal.main_v32_5) = v5 c
          ∧ r.2.mem ((c.tc : Thread Cert.Kernel9Ideal.nD Cert.Kernel9Ideal.τ).loc Cert.Kernel9Ideal.main_v32_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v92) = v0 c
          ∧ r.2.mem ((c.tc : Thread Cert.Reference9Ideal.nD Cert.Reference9Ideal.τ).loc Cert.Reference9Ideal.main_v93) = v1 c
          ∧ r.2.mem ((c.tc : Thread Cert.Reference9Ideal.nD Cert.Reference9Ideal.τ).loc Cert.Reference9Ideal.main_v94) = v2 c
          ∧ r.2.mem ((c.tc : Thread Cert.Reference9Ideal.nD Cert.Reference9Ideal.τ).loc Cert.Reference9Ideal.main_v95) = v3 c
          ∧ r.2.mem ((c.tc : Thread Cert.Reference9Ideal.nD Cert.Reference9Ideal.τ).loc Cert.Reference9Ideal.main_v96) = v4 c
          ∧ r.2.mem ((c.tc : Thread Cert.Reference9Ideal.nD Cert.Reference9Ideal.τ).loc Cert.Reference9Ideal.main_v85) = v5 c
          ∧ r.2.mem ((c.tc : Thread Cert.Reference9Ideal.nD Cert.Reference9Ideal.τ).loc Cert.Reference9Ideal.main_v101) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)) (v3 : (c : Dev Cert.Kernel10Ideal.nD) → Buf (Elt Ideal) ((c.tc : Thread Cert.Kernel10Ideal.nD Cert.Kernel10Ideal.τ).loc Cert.Kernel10Ideal.main_v9_3)) (v4 : (c : Dev Cert.Kernel10Ideal.nD) → Buf (Elt Ideal) ((c.tc : Thread Cert.Kernel10Ideal.nD Cert.Kernel10Ideal.τ).loc Cert.Kernel10Ideal.main_v9_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_v9_3) = v3 c
          ∧ r.2.mem ((c.tc : Thread Cert.Kernel10Ideal.nD Cert.Kernel10Ideal.τ).loc Cert.Kernel10Ideal.main_v9_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_v33) = v2 c
          ∧ r.2.mem ((c.tc : Thread Cert.Reference10Ideal.nD Cert.Reference10Ideal.τ).loc Cert.Reference10Ideal.main_v30) = v3 c
          ∧ r.2.mem ((c.tc : Thread Cert.Reference10Ideal.nD Cert.Reference10Ideal.τ).loc Cert.Reference10Ideal.main_v35) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)) (v4 : (c : Dev Cert.Kernel11Ideal.nD) → Buf (Elt Ideal) ((c.tc : Thread Cert.Kernel11Ideal.nD Cert.Kernel11Ideal.τ).loc Cert.Kernel11Ideal.main_v5_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_v5_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v43) = v0 c
          ∧ r.2.mem ((c.tc : Thread Cert.Reference11Ideal.nD Cert.Reference11Ideal.τ).loc Cert.Reference11Ideal.main_v44) = v1 c
          ∧ r.2.mem ((c.tc : Thread Cert.Reference11Ideal.nD Cert.Reference11Ideal.τ).loc Cert.Reference11Ideal.main_v45) = v2 c
          ∧ r.2.mem ((c.tc : Thread Cert.Reference11Ideal.nD Cert.Reference11Ideal.τ).loc Cert.Reference11Ideal.main_v46) = v3 c
          ∧ r.2.mem ((c.tc : Thread Cert.Reference11Ideal.nD Cert.Reference11Ideal.τ).loc Cert.Reference11Ideal.main_v47) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite8 : Cert.Pre_finite8.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8192x1024 : Shape := ⟨2, ![8192, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_
  bcast_S_S4x1024 : S_.BroadcastsInDim S4x1024 (![] : Fin 0 → Fin S4x1024.rank)
  reducesTo_S4x1024_S_d0_1 : S4x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S6x1024 .f32) (main_arg3 : FVec F S4x1024 .f32) (main_arg4 : FVec F S1024x2816 .f32) (main_arg5 : FVec F S1024x2816 .f32) (main_arg6 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S6x1024 .f32 := Host.absf main_arg2
  let main_cst_2 : FVec F S_ .f32 := constant S_ .f32 0x7F800000#32
  let main_v10 : FVec F S6x1024 .f32 := broadcastInDim S6x1024 ![] bcast_S_S6x1024 main_cst_2
  let main_v11 : IVec S6x1024 1 := cmpf .olt main_v9 main_v10
  let main_c_3 : IVec S_ 1 := constantI S_ 1 1#1
  let main_v12 : IVec S_ 1 := (fun x v => Host.reduce IntOp.andi x v reducesTo_S6x1024_S_d0_1 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg4 main_arg5 main_arg6 main_v13 main_v16
-- ==== Pre_finite8.lean ====
abbrev S8192x768 : Shape := ⟨2, ![8192, 768]⟩
abbrev S8192x2176 : Shape := ⟨2, ![8192, 2176]⟩
abbrev S8192x2048 : Shape := ⟨2, ![8192, 2048]⟩
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S_ : Shape := ⟨0, ![]⟩

class Facts : Prop where
  bitsLt_bf16_f32 : FTy.bits .bf16 < FTy.bits .f32
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x2176 : S_.BroadcastsInDim S8192x2176 (![] : Fin 0 → Fin S8192x2176.rank)
  reducesTo_S8192x2176_S_d0_1 : S8192x2176.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S6x1024 : S_.BroadcastsInDim S6x1024 (![] : Fin 0 → Fin S6x1024.rank)
  reducesTo_S6x1024_S_d0_1 : S6x1024.ReducesTo [0, 1] S_
  bcast_S_S4x1024 : S_.BroadcastsInDim S4x1024 (![] : Fin 0 → Fin S4x1024.rank)
  reducesTo_S4x1024_S_d0_1 : S4x1024.ReducesTo [0, 1] S_
  bcast_S_S1024x4872 : S_.BroadcastsInDim S1024x4872 (![] : Fin 0 → Fin S1024x4872.rank)
  reducesTo_S1024x4872_S_d0_1 : S1024x4872.ReducesTo [0, 1] S_

variable [Facts]

def fn_part2 {F : FTy → Type} [FloatOps F] (main_arg7 : FVec F S1024x4872 .f32) (main_v31 : IVec S_ 1) (main_v34 : IVec S4x1024 1) : IVec S_ 1 :=
  let main_c_11 : IVec S_ 1 := constantI S_ 1 1#1
  let main_v35 : IVec S_ 1 := (fun x v => Host.reduce IntOp.andi x v reducesTo_S4x1024_S_d0_1 h_S_) main_v34 main_c_11
  let main_v36 : IVec S_ 1 := andi main_v31 main_v35
  let main_v37 : FVec F S1024x4872 .f32 := Host.absf main_arg7
  let main_cst_12 : FVec F S_ .f32 := constant S_ .f32 0x7F800000#32
  let main_v38 : FVec F S1024x4872 .f32 := broadcastInDim S1024x4872 ![] bcast_S_S1024x4872 main_cst_12
  let main_v39 : IVec S1024x4872 1 := cmpf .olt main_v37 main_v38
  let main_c_13 : IVec S_ 1 := constantI S_ 1 1#1
  let main_v40 : IVec S_ 1 := (fun x v => Host.reduce IntOp.andi x v reducesTo_S1024x4872_S_d0_1 h_S_) main_v39 main_c_13
  let main_v41 : IVec S_ 1 := andi main_v36 main_v40
  main_v41

def fn_part1 {F : FTy → Type} [FloatOps F] (main_arg4 : FVec F S8192x1024 .f32) (main_arg5 : FVec F S6x1024 .f32) (main_arg6 : FVec F S4x1024 .f32) (main_arg7 : FVec F S1024x4872 .f32) (main_v16 : IVec S_ 1) (main_v17 : FVec F S8192x1024 .f32) : IVec S_ 1 :=
  let main_cst_4 : FVec F S_ .f32 := constant S_ .f32 0x7F800000#32
  let main_v18 : FVec F S8192x1024 .f32 := broadcastInDim S8192x1024 ![] bcast_S_S8192x1024 main_cst_4
  let main_v19 : IVec S8192x1024 1 := cmpf .olt main_v17 main_v18
  let main_c_5 : IVec S_ 1 := constantI S_ 1 1#1
  let main_v20 : IVec S_ 1 := (fun x v => Host.reduce IntOp.andi x v reducesTo_S8192x1024_S_d0_1 h_S_) main_v19 main_c_5
  let main_v21 : IVec S_ 1 := andi main_v16 main_v20
  let main_v22 : FVec F S8192x1024 .f32 := Host.absf main_arg4
  let main_cst_6 : FVec F S_ .f32 := constant S_ .f32 0x7F800000#32
  let main_v23 : FVec F S8192x1024 .f32 := broadcastInDim S8192x1024 ![] bcast_S_S8192x1024 main_cst_6
  let main_v24 : IVec S8192x1024 1 := cmpf .olt main_v22 main_v23
  let main_c_7 : IVec S_ 1 := constantI S_ 1 1#1
  let main_v25 : IVec S_ 1 := (fun x v => Host.reduce IntOp.andi x v reducesTo_S8192x1024_S_d0_1 h_S_) main_v24 main_c_7
  let main_v26 : IVec S_ 1 := andi main_v21 main_v25
  let main_v27 : FVec F S6x1024 .f32 := Host.absf main_arg5
  let main_cst_8 : FVec F S_ .f32 := constant S_ .f32 0x7F800000#32
  let main_v28 : FVec F S6x1024 .f32 := broadcastInDim S6x1024 ![] bcast_S_S6x1024 main_cst_8
  let main_v29 : IVec S6x1024 1 := cmpf .olt main_v27 main_v28
  let main_c_9 : IVec S_ 1 := constantI S_ 1 1#1
  let main_v30 : IVec S_ 1 := (fun x v => Host.reduce IntOp.andi x v reducesTo_S6x1024_S_d0_1 h_S_) main_v29 main_c_9
  let main_v31 : IVec S_ 1 := andi main_v26 main_v30
  let main_v32 : FVec F S4x1024 .f32 := Host.absf main_arg6
  let main_cst_10 : FVec F S_ .f32 := constant S_ .f32 0x7F800000#32
  let main_v33 : FVec F S4x1024 .f32 := broadcastInDim S4x1024 ![] bcast_S_S4x1024 main_cst_10
  let main_v34 : IVec S4x1024 1 := cmpf .olt main_v32 main_v33
  fn_part2 (F := F) main_arg7 main_v31 main_v34

def fn {F : FTy → Type} [FloatOps F] (main_arg0 : FVec F S8192x768 .bf16) (main_arg1 : FVec F S8192x2176 .bf16) (main_arg2 : FVec F S8192x2048 .bf16) (main_arg3 : FVec F S8192x1024 .f32) (main_arg4 : FVec F S8192x1024 .f32) (main_arg5 : FVec F S6x1024 .f32) (main_arg6 : FVec F S4x1024 .f32) (main_arg7 : FVec F S1024x4872 .f32) : IVec S_ 1 :=
  let main_v0 : FVec F S8192x768 .f32 := (extf .f32 · bitsLt_bf16_f32) main_arg0
  let main_v1 : FVec F S8192x768 .f32 := Host.absf main_v0
  let main_cst : FVec F S_ .f32 := constant S_ .f32 0x7F800000#32
  let main_v2 : FVec F S8192x768 .f32 := broadcastInDim S8192x768 ![] bcast_S_S8192x768 main_cst
  let main_v3 : IVec S8192x768 1 := cmpf .olt main_v1 main_v2
  let main_c : IVec S_ 1 := constantI S_ 1 1#1
  let main_v4 : IVec S_ 1 := (fun x v => Host.reduce IntOp.andi x v reducesTo_S8192x768_S_d0_1 h_S_) main_v3 main_c
  let main_v5 : FVec F S8192x2176 .f32 := (extf .f32 · bitsLt_bf16_f32) main_arg1
  let main_v6 : FVec F S8192x2176 .f32 := Host.absf main_v5
  let main_cst_0 : FVec F S_ .f32 := constant S_ .f32 0x7F800000#32
  let main_v7 : FVec F S8192x2176 .f32 := broadcastInDim S8192x2176 ![] bcast_S_S8192x2176 main_cst_0
  let main_v8 : IVec S8192x2176 1 := cmpf .olt main_v6 main_v7
  let main_c_1 : IVec S_ 1 := constantI S_ 1 1#1
  let main_v9 : IVec S_ 1 := (fun x v => Host.reduce IntOp.andi x v reducesTo_S8192x2176_S_d0_1 h_S_) main_v8 main_c_1
  let main_v10 : IVec S_ 1 := andi main_v4 main_v9
  let main_v11 : FVec F S8192x2048 .f32 := (extf .f32 · bitsLt_bf16_f32) main_arg2
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_c_3 : IVec S_ 1 := constantI S_ 1 1#1
  let main_v15 : IVec S_ 1 := (fun x v => Host.reduce IntOp.andi x v reducesTo_S8192x2048_S_d0_1 h_S_) main_v14 main_c_3
  let main_v16 : IVec S_ 1 := andi main_v10 main_v15
  let main_v17 : FVec F S8192x1024 .f32 := Host.absf main_arg3
  fn_part1 (F := F) main_arg4 main_arg5 main_arg6 main_arg7 main_v16 main_v17
-- ==== Pre_finite9.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S6x1024 : S_.BroadcastsInDim S6x1024 (![] : Fin 0 → Fin S6x1024.rank)
  reducesTo_S6x1024_S_d0_1 : S6x1024.ReducesTo [0, 1] S_
  bcast_S_S4x1024 : S_.BroadcastsInDim S4x1024 (![] : Fin 0 → Fin S4x1024.rank)
  reducesTo_S4x1024_S_d0_1 : S4x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S512x1024 .f32) (main_arg8 : FVec F S1024x1024 .f32) (main_v31 : IVec S_ 1) (main_v34 : IVec S512x1024 1) : IVec S_ 1 :=
  let main_c_11 : IVec S_ 1 := constantI S_ 1 1#1
  let main_v35 : IVec S_ 1 := (fun x v => Host.reduce IntOp.andi x v reducesTo_S512x1024_S_d0_1 h_S_) main_v34 main_c_11
  let main_v36 : IVec S_ 1 := andi main_v31 main_v35
  let main_v37 : FVec F S512x1024 .f32 := Host.absf main_arg7
  let main_cst_12 : FVec F S_ .f32 := constant S_ .f32 0x7F800000#32
  let main_v38 : FVec F S512x1024 .f32 := broadcastInDim S512x1024 ![] bcast_S_S512x1024 main_cst_12
  let main_v39 : IVec S512x1024 1 := cmpf .olt main_v37 main_v38
  let main_c_13 : IVec S_ 1 := constantI S_ 1 1#1
  let main_v40 : IVec S_ 1 := (fun x v => Host.reduce IntOp.andi x v reducesTo_S512x1024_S_d0_1 h_S_) main_v39 main_c_13
  let main_v41 : IVec S_ 1 := andi main_v36 main_v40
  let main_v42 : FVec F S1024x1024 .f32 := Host.absf main_arg8
  let main_cst_14 : FVec F S_ .f32 := constant S_ .f32 0x7F800000#32
  let main_v43 : FVec F S1024x1024 .f32 := broadcastInDim S1024x1024 ![] bcast_S_S1024x1024 main_cst_14
  let main_v44 : IVec S1024x1024 1 := cmpf .olt main_v42 main_v43
  let main_c_15 : IVec S_ 1 := constantI S_ 1 1#1
  let main_v45 : IVec S_ 1 := (fun x v => Host.reduce IntOp.andi x v reducesTo_S1024x1024_S_d0_1 h_S_) main_v44 main_c_15
  let main_v46 : IVec S_ 1 := andi main_v41 main_v45
  main_v46

def fn_part1 {F : FTy → Type} [FloatOps F] (main_arg4 : FVec F S6x1024 .f32) (main_arg5 : FVec F S4x1024 .f32) (main_arg6 : FVec F S512x1024 .f32) (main_arg7 : FVec F S512x1024 .f32) (main_arg8 : FVec F S1024x1024 .f32) (main_v15 : IVec S_ 1) (main_v17 : FVec F S8192x2048 .f32) : IVec S_ 1 :=
  let main_cst_4 : FVec F S_ .f32 := constant S_ .f32 0x7F800000#32
  let main_v18 : FVec F S8192x2048 .f32 := broadcastInDim S8192x2048 ![] bcast_S_S8192x2048 main_cst_4
  let main_v19 : IVec S8192x2048 1 := cmpf .olt main_v17 main_v18
  let main_c_5 : IVec S_ 1 := constantI S_ 1 1#1
  let main_v20 : IVec S_ 1 := (fun x v => Host.reduce IntOp.andi x v reducesTo_S8192x2048_S_d0_1 h_S_) main_v19 main_c_5
  let main_v21 : IVec S_ 1 := andi main_v15 main_v20
  let main_v22 : FVec F S6x1024 .f32 := Host.absf main_arg4
  let main_cst_6 : FVec F S_ .f32 := constant S_ .f32 0x7F800000#32
  let main_v23 : FVec F S6x1024 .f32 := broadcastInDim S6x1024 ![] bcast_S_S6x1024 main_cst_6
  let main_v24 : IVec S6x1024 1 := cmpf .olt main_v22 main_v23
  let main_c_7 : IVec S_ 1 := constantI S_ 1 1#1
  let main_v25 : IVec S_ 1 := (fun x v => Host.reduce IntOp.andi x v reducesTo_S6x1024_S_d0_1 h_S_) main_v24 main_c_7
  let main_v26 : IVec S_ 1 := andi main_v21 main_v25
  let main_v27 : FVec F S4x1024 .f32 := Host.absf main_arg5
  let main_cst_8 : FVec F S_ .f32 := constant S_ .f32 0x7F800000#32
  let main_v28 : FVec F S4x1024 .f32 := broadcastInDim S4x1024 ![] bcast_S_S4x1024 main_cst_8
  let main_v29 : IVec S4x1024 1 := cmpf .olt main_v27 main_v28
  let main_c_9 : IVec S_ 1 := constantI S_ 1 1#1
  let main_v30 : IVec S_ 1 := (fun x v => Host.reduce IntOp.andi x v reducesTo_S4x1024_S_d0_1 h_S_) main_v29 main_c_9
  let main_v31 : IVec S_ 1 := andi main_v26 main_v30
  let main_v32 : FVec F S512x1024 .f32 := Host.absf main_arg6
  let main_cst_10 : FVec F S_ .f32 := constant S_ .f32 0x7F800000#32
  let main_v33 : FVec F S512x1024 .f32 := broadcastInDim S512x1024 ![] bcast_S_S512x1024 main_cst_10
  let main_v34 : IVec S512x1024 1 := cmpf .olt main_v32 main_v33
  fn_part2 (F := F) main_arg7 main_arg8 main_v31 main_v34

def fn {F : FTy → Type} [FloatOps F] (main_arg0 : FVec F S8192x1024 .f32) (main_arg1 : FVec F S8192x512 .bf16) (main_arg2 : FVec F S8192x512 .bf16) (main_arg3 : FVec F S8192x2048 .bf16) (main_arg4 : FVec F S6x1024 .f32) (main_arg5 : FVec F S4x1024 .f32) (main_arg6 : FVec F S512x1024 .f32) (main_arg7 : FVec F S512x1024 .f32) (main_arg8 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v3 main_v8
  let main_v10 : FVec F S8192x512 .f32 := (extf .f32 · bitsLt_bf16_f32) main_arg2
  let main_v11 : FVec F S8192x512 .f32 := Host.absf main_v10
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_c_3 : IVec S_ 1 := constantI S_ 1 1#1
  let main_v14 : IVec S_ 1 := (fun x v => Host.reduce IntOp.andi x v reducesTo_S8192x512_S_d0_1 h_S_) main_v13 main_c_3
  let main_v15 : IVec S_ 1 := andi main_v9 main_v14
  let main_v16 : FVec F S8192x2048 .f32 := (extf .f32 · bitsLt_bf16_f32) main_arg3
  let main_v17 : FVec F S8192x2048 .f32 := Host.absf main_v16
  fn_part1 (F := F) main_arg4 main_arg5 main_arg6 main_arg7 main_arg8 main_v15 main_v17
-- ==== Kernel.lean ====
abbrev S8192x1024 : Shape := ⟨2, ![8192, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S_ : Shape := ⟨0, ![]⟩
abbrev S16x1024 : Shape := ⟨2, ![16, 1024]⟩
abbrev S8192x2816 : Shape := ⟨2, ![8192, 2816]⟩
abbrev S8x1024 : Shape := ⟨2, ![8, 1024]⟩
abbrev S8x128 : Shape := ⟨2, ![8, 128]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩
abbrev S1x1024 : Shape := ⟨2, ![1, 1024]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S6x1024, .f32⟩
  | .hbm, ⟨3, _⟩ => ⟨S4x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S_, .f32⟩
  | .hbm, ⟨8, _⟩ => ⟨S6x1024, .f32⟩
  | .hbm, ⟨9, _⟩ => ⟨S16x1024, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S2816x1024, .bf16⟩
  | .hbm, ⟨15, _⟩ => ⟨S8192x1024, .f32⟩
  | .hbm, ⟨16, _⟩ => ⟨S8192x1024, .bf16⟩
  | .hbm, ⟨17, _⟩ => ⟨S8192x2816, .bf16⟩
  | .hbm, ⟨18, _⟩ => ⟨S8192x2816, .bf16⟩
  | .hbm, ⟨19, _⟩ => ⟨S8192x2816, .bf16⟩
  | .hbm, ⟨20, _⟩ => ⟨S8192x1024, .bf16⟩
  | .hbm, ⟨21, _⟩ => ⟨S8x1024, .f32⟩
  | .hbm, ⟨22, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | .local _ .vmem, ⟨18, _⟩ => ⟨S8x128, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S5x1024 : Shape := ⟨2, ![5, 1024]⟩
abbrev S3x1024 : Shape := ⟨2, ![3, 1024]⟩
abbrev S8x1024 : Shape := ⟨2, ![8, 1024]⟩
abbrev S8x128 : Shape := ⟨2, ![8, 128]⟩

abbrev nBuf : Space → Nat
  | .hbm => 216
  | .vmem => 0
  | .smem => 0
  | _ => 0

abbrev hbmTy0_0 (i : Nat) : BufTy := match i % 128 with
  | 0 => ⟨S8192x1024, .f32⟩
  | 1 => ⟨S8192x1024, .f32⟩
  | 2 => ⟨S6x1024, .f32⟩
  | 3 => ⟨S4x1024, .f32⟩
  | 4 => ⟨S1024x2816, .f32⟩
  | 5 => ⟨S1024x2816, .f32⟩
  | 6 => ⟨S2816x1024, .f32⟩
  | 7 => ⟨S1x1024, .f32⟩
  | 8 => ⟨S1024, .f32⟩
  | 9 => ⟨S1x1024, .f32⟩
  | 10 => ⟨S1024, .f32⟩
  | 11 => ⟨S1x1024, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S_, .f32⟩
  | 18 => ⟨S8192x2816, .f32⟩
  | 19 => ⟨S_, .f32⟩
  | 20 => ⟨S8192x2816, .f32⟩
  | 21 => ⟨S_, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S1x1024, .f32⟩
  | 44 => ⟨S_, .f32⟩
  | 45 => ⟨S1x1024, .f32⟩
  | 46 => ⟨S1x1024, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S_, .f32⟩
  | 65 => ⟨S8192x2816, .f32⟩
  | 66 => ⟨S8192x2816, .f32⟩
  | 67 => ⟨S8192x2816, .f32⟩
  | 68 => ⟨S8192x2816, .f32⟩
  | 69 => ⟨S8192x2816, .f32⟩
  | 70 => ⟨S8192x1024, .f32⟩
  | 71 => ⟨S8192x1024, .f32⟩
  | 72 => ⟨S1x1024, .f32⟩
  | 73 => ⟨S8192x1024, .f32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1024, .f32⟩
  | 89 => ⟨S8192x1024, .f32⟩
  | 90 => ⟨S1x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S_, .f32⟩
  | 99 => ⟨S8192x1024, .f32⟩
  | 100 => ⟨S8192x1024, .f32⟩
  | 101 => ⟨S_, .f32⟩
  | 102 => ⟨S8192, .f32⟩
  | 103 => ⟨S_, .f32⟩
  | 104 => ⟨S8192, .f32⟩
  | 105 => ⟨S8192, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S8192, .f32⟩
  | 114 => ⟨S_, .f32⟩
  | 115 => ⟨S8192, .f32⟩
  | 116 => ⟨S8192, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S_, .f32⟩
  | 127 => ⟨S1024, .f32⟩
  | _ => ⟨S8192x1024, .f32⟩

abbrev hbmTy0_1 (i : Nat) : BufTy := match i % 128 with
  | 0 => ⟨S1x1024, .f32⟩
  | 1 => ⟨S8192x1024, .f32⟩
  | 2 => ⟨S8192x1024, .f32⟩
  | 3 => ⟨S_, .f32⟩
  | 4 => ⟨S1024, .f32⟩
  | 5 => ⟨S8192x1024, .f32⟩
  | 6 => ⟨S_, .f32⟩
  | 7 => ⟨S8192, .f32⟩
  | 8 => ⟨S8192x1, .f32⟩
  | 9 => ⟨S8192x1024, .f32⟩
  | 10 => ⟨S8192x1024, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S_, .f32⟩
  | 23 => ⟨S1024, .f32⟩
  | 24 => ⟨S8192x2816, .f32⟩
  | 25 => ⟨S8192x2816, .f32⟩
  | 26 => ⟨S8192x2816, .f32⟩
  | 27 => ⟨S8192x2816, .f32⟩
  | 28 => ⟨S8192x2816, .f32⟩
  | 29 => ⟨S8192x2816, .f32⟩
  | 30 => ⟨S8192x2816, .f32⟩
  | 31 => ⟨S8192x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S_, .f32⟩
  | 38 => ⟨S1024, .f32⟩
  | 39 => ⟨S8192x1024, .f32⟩
  | 40 => ⟨S_, .f32⟩
  | 41 => ⟨S1024, .f32⟩
  | 42 => ⟨S1x1024, .f32⟩
  | 43 => ⟨S8192x1024, .f32⟩
  | 44 => ⟨S8192x1024, .f32⟩
  | 45 => ⟨S_, .f32⟩
  | 46 => ⟨S1024, .f32⟩
  | 47 => ⟨S8192x1024, .f32⟩
  | 48 => ⟨S_, .f32⟩
  | 49 => ⟨S1024, .f32⟩
  | 50 => ⟨S1x1024, .f32⟩
  | 51 => ⟨S8192x1024, .f32⟩
  | 52 => ⟨S8192x1024, .f32⟩
  | 53 => ⟨S_, .f32⟩
  | 54 => ⟨S1024, .f32⟩
  | 55 => ⟨S8192x1024, .f32⟩
  | 56 => ⟨S_, .f32⟩
  | 57 => ⟨S8192, .f32⟩
  | 58 => ⟨S8192x1, .f32⟩
  | 59 => ⟨S8192x1024, .f32⟩
  | 60 => ⟨S8192x1024, .f32⟩
  | 61 => ⟨S8192x1024, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S5x1024, .f32⟩
  | 79 => ⟨S8192x1024, .bf16⟩
  | 80 => ⟨S8192x2816, .bf16⟩
  | 81 => ⟨S8192x2816, .bf16⟩
  | 82 => ⟨S8192x2816, .bf16⟩
  | 83 => ⟨S8192x1024, .bf16⟩
  | 84 => ⟨S_, .f32⟩
  | 85 => ⟨S3x1024, .f32⟩
  | 86 => ⟨S8x1024, .f32⟩
  | 87 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v41_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v41_1 : Ref sig .tc := ⟨.hbm, 67, rfl⟩
abbrev main_v41_0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_cst_16 : Ref sig .tc := ⟨.hbm, 110, rfl⟩
abbrev main_cst_17 : Ref sig .tc := ⟨.hbm, 111, rfl⟩
abbrev main_v74 : Ref sig .tc := ⟨.hbm, 112, rfl⟩
abbrev main_v75 : Ref sig .tc := ⟨.hbm, 113, rfl⟩
abbrev main_cst_18 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_20 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_21 : Ref sig .tc := ⟨.hbm, 131, rfl⟩
abbrev main_v90 : Ref sig .tc := ⟨.hbm, 132, rfl⟩
abbrev main_v91 : Ref sig .tc := ⟨.hbm, 133, rfl⟩
abbrev main_cst_22 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_23 : Ref sig .tc := ⟨.hbm, 140, rfl⟩
abbrev main_v97 : Ref sig .tc := ⟨.hbm, 141, rfl⟩
abbrev main_v98 : Ref sig .tc := ⟨.hbm, 142, rfl⟩
abbrev main_cst_24 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_call1_v0 : Ref sig .tc := ⟨.hbm, 155, rfl⟩
abbrev main_call1_v1 : Ref sig .tc := ⟨.hbm, 156, rfl⟩
abbrev main_call1_v2 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_v114 : Ref sig .tc := ⟨.hbm, 164, rfl⟩
abbrev main_cst_27 : Ref sig .tc := ⟨.hbm, 165, rfl⟩
abbrev main_v115 : Ref sig .tc := ⟨.hbm, 166, rfl⟩
abbrev main_v116 : Ref sig .tc := ⟨.hbm, 167, rfl⟩
abbrev main_cst_28 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_29 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_31 : Ref sig .tc := ⟨.hbm, 181, rfl⟩
abbrev main_v127 : Ref sig .tc := ⟨.hbm, 182, rfl⟩
abbrev main_v128 : Ref sig .tc := ⟨.hbm, 183, rfl⟩
abbrev main_cst_32 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_33 : Ref sig .tc := ⟨.hbm, 191, rfl⟩
abbrev main_v135 : Ref sig .tc := ⟨.hbm, 192, rfl⟩
abbrev main_v136 : Ref sig .tc := ⟨.hbm, 193, rfl⟩
abbrev main_cst_34 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_35 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x1024, .f32⟩
  | .hbm, ⟨3, _⟩ => ⟨S8192x768, .f32⟩
  | .hbm, ⟨4, _⟩ => ⟨S_, .f32⟩
  | .hbm, ⟨5, _⟩ => ⟨S1024x768, .f32⟩
  | .hbm, ⟨6, _⟩ => ⟨S8192x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x2176 : Shape := ⟨2, ![8192, 2176]⟩
abbrev S1024x2176 : Shape := ⟨2, ![1024, 2176]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S1024x2176, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .bf16⟩
  | .local _ .vmem, ⟨5, _⟩ => ⟨S1024x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S8192x2176 : Shape := ⟨2, ![8192, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S8192x1024, .f32⟩
  | .hbm, ⟨3, _⟩ => ⟨S8192x2176, .f32⟩
  | .hbm, ⟨4, _⟩ => ⟨S_, .f32⟩
  | .hbm, ⟨5, _⟩ => ⟨S1024x2176, .f32⟩
  | .hbm, ⟨6, _⟩ => ⟨S8192x2176, .f32⟩
  | .hbm, ⟨7, _⟩ => ⟨S2176x1024, .f32⟩
  | .hbm, ⟨8, _⟩ => ⟨S1024x2176, .f32⟩
  | .hbm, ⟨9, _⟩ => ⟨S1024x2176, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x768 : Shape := ⟨2, ![8192, 768]⟩
abbrev S8192x2176 : Shape := ⟨2, ![8192, 2176]⟩
abbrev S8192x2048 : Shape := ⟨2, ![8192, 2048]⟩
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S_ : Shape := ⟨0, ![]⟩
abbrev S16x1024 : Shape := ⟨2, ![16, 1024]⟩
abbrev S1024x120 : Shape := ⟨2, ![1024, 120]⟩
abbrev S1024x2824 : Shape := ⟨2, ![1024, 2824]⟩
abbrev S1024x2048 : Shape := ⟨2, ![1024, 2048]⟩
abbrev S1024x4992 : Shape := ⟨2, ![1024, 4992]⟩
abbrev S8x128 : Shape := ⟨2, ![8, 128]⟩
abbrev S8x1024 : Shape := ⟨2, ![8, 1024]⟩
abbrev S512x768 : Shape := ⟨2, ![512, 768]⟩
abbrev S512x2176 : Shape := ⟨2, ![512, 2176]⟩
abbrev S512x2048 : Shape := ⟨2, ![512, 2048]⟩
abbrev S512x1024 : Shape := ⟨2, ![512, 1024]⟩
abbrev S1024x768 : Shape := ⟨2, ![1024, 768]⟩
abbrev S1024x2176 : Shape := ⟨2, ![1024, 2176]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 22
  | .vmem => 15
  | .smem => 0
  | _ => 0

abbrev bufTy : (tb : Table) → Fin (tcTables nBuf tb) → BufTy
  | .hbm, ⟨0, _⟩ => ⟨S8192x768, .bf16⟩
  | .hbm, ⟨1, _⟩ => ⟨S8192x2176, .bf16⟩
  | .hbm, ⟨2, _⟩ => ⟨S8192x2048, .bf16⟩
  | .hbm, ⟨3, _⟩ => ⟨S8192x1024, .f32⟩
  | .hbm, ⟨4, _⟩ => ⟨S8192x1024, .f32⟩
  | .hbm, ⟨5, _⟩ => ⟨S6x1024, .f32⟩
  | .hbm, ⟨6, _⟩ => ⟨S4x1024, .f32⟩
  | .hbm, ⟨7, _⟩ => ⟨S1024x4872, .f32⟩
  | .hbm, ⟨8, _⟩ => ⟨S_, .f32⟩
  | .hbm, ⟨9, _⟩ => ⟨S6x1024, .f32⟩
  | .hbm, ⟨10, _⟩ => ⟨S16x1024, .f32⟩
  | .hbm, ⟨11, _⟩ => ⟨S_, .bf16⟩
  | .hbm, ⟨12, _⟩ => ⟨S1024x120, .bf16⟩
  | .hbm, ⟨13, _⟩ => ⟨S1024x2824, .f32⟩
  | .hbm, ⟨14, _⟩ => ⟨S1024x2824, .bf16⟩
  | .hbm, ⟨15, _⟩ => ⟨S1024x2048, .f32⟩
  | .hbm, ⟨16, _⟩ => ⟨S1024x2048, .bf16⟩
  | .hbm, ⟨17, _⟩ => ⟨S1024x4992, .bf16⟩
  | .hbm, ⟨18, _⟩ => ⟨S_, .f32⟩
  | .hbm, ⟨19, _⟩ => ⟨S8x128, .f32⟩
  | .hbm, ⟨20, _⟩ => ⟨S8192x1024, .f32⟩
  | .hbm, ⟨21, _⟩ => ⟨S8x1024, .f32⟩
  | .local _ .vmem, ⟨0, _⟩ => ⟨S512x768, .bf16⟩
  | .local _ .vmem, ⟨1, _⟩ => ⟨S512x768, .bf16⟩
  | .local _ .vmem, ⟨2, _⟩ => ⟨S512x2176, .bf16⟩
  | .local _ .vmem, ⟨3, _⟩ => ⟨S512x2176, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S16x1024, .f32⟩
  | .local _ .vmem, ⟨11, _⟩ => ⟨S1024x4992, .bf16⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4992 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S8192x768 : Shape := ⟨2, ![8192, 768]⟩
abbrev S8192x2176 : Shape := ⟨2, ![8192, 2176]⟩
abbrev S8192x2048 : Shape := ⟨2, ![8192, 2048]⟩
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4872 : Shape := ⟨2, ![8192, 4872]⟩
abbrev S8192x2056 : Shape := ⟨2, ![8192, 2056]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x2176, .bf16⟩
  | .hbm, ⟨2, _⟩ => ⟨S8192x2048, .bf16⟩
  | .hbm, ⟨3, _⟩ => ⟨S8192x1024, .f32⟩
  | .hbm, ⟨4, _⟩ => ⟨S8192x1024, .f32⟩
  | .hbm, ⟨5, _⟩ => ⟨S6x1024, .f32⟩
  | .hbm, ⟨6, _⟩ => ⟨S4x1024, .f32⟩
  | .hbm, ⟨7, _⟩ => ⟨S1024x4872, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x4872, .f32⟩
  | .hbm, ⟨44, _⟩ => ⟨S8192x2056, .bf16⟩
  | .hbm, ⟨45, _⟩ => ⟨S8192x768, .f32⟩
  | .hbm, ⟨46, _⟩ => ⟨S8192x2056, .f32⟩
  | .hbm, ⟨47, _⟩ => ⟨S8192x2048, .f32⟩
  | .hbm, ⟨48, _⟩ => ⟨S8192x4872, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S3x1024, .f32⟩
  | .hbm, ⟨93, _⟩ => ⟨S_, .f32⟩
  | .hbm, ⟨94, _⟩ => ⟨S5x1024, .f32⟩
  | .hbm, ⟨95, _⟩ => ⟨S8x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel9.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S16x1024 : Shape := ⟨2, ![16, 1024]⟩
abbrev S8x128 : Shape := ⟨2, ![8, 128]⟩
abbrev S8x1024 : Shape := ⟨2, ![8, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 54
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .bf16⟩
  | .hbm, ⟨4, _⟩ => ⟨S6x1024, .f32⟩
  | .hbm, ⟨5, _⟩ => ⟨S4x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S_, .f32⟩
  | .hbm, ⟨10, _⟩ => ⟨S6x1024, .f32⟩
  | .hbm, ⟨11, _⟩ => ⟨S16x1024, .f32⟩
  | .hbm, ⟨12, _⟩ => ⟨S8192x512, .f32⟩
  | .hbm, ⟨13, _⟩ => ⟨S8192x1024, .f32⟩
  | .hbm, ⟨14, _⟩ => ⟨S8192x512, .f32⟩
  | .hbm, ⟨15, _⟩ => ⟨S8192x1024, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S512x1024, .bf16⟩
  | .hbm, ⟨43, _⟩ => ⟨S512x1024, .bf16⟩
  | .hbm, ⟨44, _⟩ => ⟨S1024x1024, .bf16⟩
  | .hbm, ⟨45, _⟩ => ⟨S_, .f32⟩
  | .hbm, ⟨46, _⟩ => ⟨S8x128, .f32⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x2048, .bf16⟩
  | .hbm, ⟨51, _⟩ => ⟨S8192x512, .bf16⟩
  | .hbm, ⟨52, _⟩ => ⟨S8192x512, .f32⟩
  | .hbm, ⟨53, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S16x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x2048, .bf16⟩
  | .local _ .vmem, ⟨21, _⟩ => ⟨S512x2048, .bf16⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev main_v32_4 : Ref sig .tc := ⟨.hbm, 51, rfl⟩
abbrev main_v32_5 : Ref sig .tc := ⟨.hbm, 52, rfl⟩
abbrev main_v32_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference9Ideal.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩
abbrev S2x1024 : Shape := ⟨2, ![2, 1024]⟩
abbrev S8x1024 : Shape := ⟨2, ![8, 1024]⟩

abbrev nBuf : Space → Nat
  | .hbm => 130
  | .vmem => 0
  | .smem => 0
  | _ => 0

abbrev hbmTy0_0 (i : Nat) : BufTy := match i % 128 with
  | 0 => ⟨S8192x1024, .f32⟩
  | 1 => ⟨S8192x512, .bf16⟩
  | 2 => ⟨S8192x512, .bf16⟩
  | 3 => ⟨S8192x2048, .bf16⟩
  | 4 => ⟨S6x1024, .f32⟩
  | 5 => ⟨S4x1024, .f32⟩
  | 6 => ⟨S512x1024, .f32⟩
  | 7 => ⟨S512x1024, .f32⟩
  | 8 => ⟨S1024x1024, .f32⟩
  | 9 => ⟨S8192x2048, .f32⟩
  | 10 => ⟨S_, .f32⟩
  | 11 => ⟨S8192x1024, .f32⟩
  | 12 => ⟨S8192x512, .f32⟩
  | 13 => ⟨S8192x512, .f32⟩
  | 14 => ⟨S8192x1024, .f32⟩
  | 15 => ⟨S8192x1024, .f32⟩
  | 16 => ⟨S1x1024, .f32⟩
  | 17 => ⟨S1024, .f32⟩
  | 18 => ⟨S1x1024, .f32⟩
  | 19 => ⟨S1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S1x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S8192x1024, .f32⟩
  | 83 => ⟨S_, .f32⟩
  | 84 => ⟨S1024, .f32⟩
  | 85 => ⟨S1x1024, .f32⟩
  | 86 => ⟨S8192x1024, .f32⟩
  | 87 => ⟨S8192x1024, .f32⟩
  | 88 => ⟨S_, .f32⟩
  | 89 => ⟨S1024, .f32⟩
  | 90 => ⟨S8192x1024, .f32⟩
  | 91 => ⟨S_, .f32⟩
  | 92 => ⟨S8192, .f32⟩
  | 93 => ⟨S8192x1, .f32⟩
  | 94 => ⟨S8192x1024, .f32⟩
  | 95 => ⟨S8192x1024, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S_, .f32⟩
  | 108 => ⟨S1024, .f32⟩
  | 109 => ⟨S8192x1024, .f32⟩
  | 110 => ⟨S8192x1024, .f32⟩
  | 111 => ⟨S8192x1024, .f32⟩
  | 112 => ⟨S8192x512, .f32⟩
  | 113 => ⟨S8192x1024, .f32⟩
  | 114 => ⟨S8192x1024, .f32⟩
  | 115 => ⟨S8192x1024, .f32⟩
  | 116 => ⟨S8192x512, .f32⟩
  | 117 => ⟨S8192x1024, .f32⟩
  | 118 => ⟨S8192x2048, .f32⟩
  | 119 => ⟨S8192x1024, .bf16⟩
  | 120 => ⟨S8192x1024, .bf16⟩
  | 121 => ⟨S8192x1024, .bf16⟩
  | 122 => ⟨S8192x2048, .bf16⟩
  | 123 => ⟨S8192x512, .bf16⟩
  | 124 => ⟨S1x1024, .f32⟩
  | 125 => ⟨S1x1024, .f32⟩
  | 126 => ⟨S2x1024, .f32⟩
  | 127 => ⟨S_, .f32⟩
  | _ => ⟨S8192x1024, .f32⟩

abbrev hbmTy0_1 (i : Nat) : BufTy := match i % 128 with
  | 0 => ⟨S6x1024, .f32⟩
  | 1 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_17 : Ref sig .tc := ⟨.hbm, 127, rfl⟩
abbrev main_v100 : Ref sig .tc := ⟨.hbm, 128, rfl⟩
abbrev main_v101 : Ref sig .tc := ⟨.hbm, 129, rfl⟩

abbrev nD : Nat := 1
abbrev τ : Topo := Topo.v7x

variable {F : FTy → Type} [FloatOps F]
-- ==== Kernel10.lean ====
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S_ : Shape := ⟨0, ![]⟩
abbrev S16x1024 : Shape := ⟨2, ![16, 1024]⟩
abbrev S1024x120 : Shape := ⟨2, ![1024, 120]⟩
abbrev S1024x2824 : Shape := ⟨2, ![1024, 2824]⟩
abbrev S1024x2048 : Shape := ⟨2, ![1024, 2048]⟩
abbrev S1024x4992 : Shape := ⟨2, ![1024, 4992]⟩
abbrev S8x128 : Shape := ⟨2, ![8, 128]⟩
abbrev S8192x768 : Shape := ⟨2, ![8192, 768]⟩
abbrev S8192x2048 : Shape := ⟨2, ![8192, 2048]⟩
abbrev S8192x128 : Shape := ⟨2, ![8192, 128]⟩
abbrev S512x1024 : Shape := ⟨2, ![512, 1024]⟩
abbrev S512x768 : Shape := ⟨2, ![512, 768]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩
abbrev S1024x768 : Shape := ⟨2, ![1024, 768]⟩
abbrev S1024x128 : Shape := ⟨2, ![1024, 128]⟩

abbrev nBuf : Space → Nat
  | .hbm => 21
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024, .f32⟩
  | .hbm, ⟨3, _⟩ => ⟨S1024x4872, .f32⟩
  | .hbm, ⟨4, _⟩ => ⟨S_, .f32⟩
  | .hbm, ⟨5, _⟩ => ⟨S6x1024, .f32⟩
  | .hbm, ⟨6, _⟩ => ⟨S16x1024, .f32⟩
  | .hbm, ⟨7, _⟩ => ⟨S_, .bf16⟩
  | .hbm, ⟨8, _⟩ => ⟨S1024x120, .bf16⟩
  | .hbm, ⟨9, _⟩ => ⟨S1024x2824, .f32⟩
  | .hbm, ⟨10, _⟩ => ⟨S1024x2824, .bf16⟩
  | .hbm, ⟨11, _⟩ => ⟨S1024x2048, .f32⟩
  | .hbm, ⟨12, _⟩ => ⟨S1024x2048, .bf16⟩
  | .hbm, ⟨13, _⟩ => ⟨S1024x4992, .bf16⟩
  | .hbm, ⟨14, _⟩ => ⟨S_, .f32⟩
  | .hbm, ⟨15, _⟩ => ⟨S8x128, .f32⟩
  | .hbm, ⟨16, _⟩ => ⟨S8192x1024, .bf16⟩
  | .hbm, ⟨17, _⟩ => ⟨S8192x768, .f32⟩
  | .hbm, ⟨18, _⟩ => ⟨S8192x2048, .f32⟩
  | .hbm, ⟨19, _⟩ => ⟨S8192x128, .f32⟩
  | .hbm, ⟨20, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1024x4992, .bf16⟩
  | .local _ .vmem, ⟨4, _⟩ => ⟨S512x1024, .bf16⟩
  | .local _ .vmem, ⟨5, _⟩ => ⟨S512x1024, .bf16⟩
  | .local _ .vmem, ⟨6, _⟩ => ⟨S512x768, .f32⟩
  | .local _ .vmem, ⟨7, _⟩ => ⟨S512x768, .f32⟩
  | .local _ .vmem, ⟨8, _⟩ => ⟨S512x2048, .f32⟩
  | .local _ .vmem, ⟨9, _⟩ => ⟨S512x2048, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4872 : Shape := ⟨2, ![8192, 4872]⟩
abbrev S8192x8 : Shape := ⟨2, ![8192, 8]⟩
abbrev S8192x120 : Shape := ⟨2, ![8192, 120]⟩
abbrev S8192x128 : Shape := ⟨2, ![8192, 128]⟩
abbrev S8192x768 : Shape := ⟨2, ![8192, 768]⟩
abbrev S8192x2048 : Shape := ⟨2, ![8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024, .f32⟩
  | .hbm, ⟨3, _⟩ => ⟨S1024x4872, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x4872, .f32⟩
  | .hbm, ⟨36, _⟩ => ⟨S8192x8, .f32⟩
  | .hbm, ⟨37, _⟩ => ⟨S_, .f32⟩
  | .hbm, ⟨38, _⟩ => ⟨S8192x120, .f32⟩
  | .hbm, ⟨39, _⟩ => ⟨S8192x128, .f32⟩
  | .hbm, ⟨40, _⟩ => ⟨S8192x1024, .bf16⟩
  | .hbm, ⟨41, _⟩ => ⟨S8192x768, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel11.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S16x1024 : Shape := ⟨2, ![16, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 20
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .bf16⟩
  | .hbm, ⟨4, _⟩ => ⟨S6x1024, .f32⟩
  | .hbm, ⟨5, _⟩ => ⟨S4x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S_, .f32⟩
  | .hbm, ⟨10, _⟩ => ⟨S6x1024, .f32⟩
  | .hbm, ⟨11, _⟩ => ⟨S16x1024, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S16x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference11Ideal.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .bf16⟩
  | .hbm, ⟨4, _⟩ => ⟨S6x1024, .f32⟩
  | .hbm, ⟨5, _⟩ => ⟨S4x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel12.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x1024x640 : Shape := ⟨3, ![8, 1024, 640]⟩
abbrev S1024x640 : Shape := ⟨2, ![1024, 640]⟩
abbrev S8x256x640 : Shape := ⟨3, ![8, 256, 640]⟩
abbrev S256x640 : Shape := ⟨2, ![256, 640]⟩
abbrev S1x256x640 : Shape := ⟨3, ![1, 256, 640]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .local _ .vmem, ⟨0, _⟩ => ⟨S8x256x640, .bf16⟩
  | .local _ .vmem, ⟨1, _⟩ => ⟨S8x256x640, .bf16⟩
  | .local _ .vmem, ⟨2, _⟩ => ⟨S256x640, .f32⟩
  | .local _ .vmem, ⟨3, _⟩ => ⟨S256x640, .f32⟩
  | _, _ => ⟨S8x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S8x1024x640 : Shape := ⟨3, ![8, 1024, 640]⟩
abbrev S_ : Shape := ⟨0, ![]⟩
abbrev S1024x640 : Shape := ⟨2, ![1024, 640]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x640, .bf16⟩
  | .hbm, ⟨1, _⟩ => ⟨S8x1024x640, .f32⟩
  | .hbm, ⟨2, _⟩ => ⟨S_, .f32⟩
  | .hbm, ⟨3, _⟩ => ⟨S1024x640, .f32⟩
  | _, _ => ⟨S8x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S609x1024 : Shape := ⟨2, ![609, 1024]⟩

abbrev nBuf : Space → Nat
  | .hbm => 7
  | .vmem => 7
  | .smem => 0
  | _ => 0

abbrev bufTy : (tb : Table) → Fin (tcTables nBuf tb) → BufTy
  | .hbm, ⟨0, _⟩ => ⟨S609x1024, .f32⟩
  | .hbm, ⟨1, _⟩ => ⟨S609x1024, .f32⟩
  | .hbm, ⟨2, _⟩ => ⟨S609x1024, .f32⟩
  | .hbm, ⟨3, _⟩ => ⟨S609x1024, .f32⟩
  | .hbm, ⟨4, _⟩ => ⟨S609x1024, .f32⟩
  | .hbm, ⟨5, _⟩ => ⟨S609x1024, .f32⟩
  | .hbm, ⟨6, _⟩ => ⟨S609x1024, .f32⟩
  | .local _ .vmem, ⟨0, _⟩ => ⟨S609x1024, .f32⟩
  | .local _ .vmem, ⟨1, _⟩ => ⟨S609x1024, .f32⟩
  | .local _ .vmem, ⟨2, _⟩ => ⟨S609x1024, .f32⟩
  | .local _ .vmem, ⟨3, _⟩ => ⟨S609x1024, .f32⟩
  | .local _ .vmem, ⟨4, _⟩ => ⟨S609x1024, .f32⟩
  | .local _ .vmem, ⟨5, _⟩ => ⟨S609x1024, .f32⟩
  | .local _ .vmem, ⟨6, _⟩ => ⟨S609x1024, .f32⟩
  | _, _ => ⟨S609x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S609x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S609x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S609x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S609x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S609x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S609x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S609x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S609x1024 : Shape := ⟨2, ![609, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S609x1024, .f32⟩
  | .hbm, ⟨1, _⟩ => ⟨S609x1024, .f32⟩
  | .hbm, ⟨2, _⟩ => ⟨S609x1024, .f32⟩
  | .hbm, ⟨3, _⟩ => ⟨S609x1024, .f32⟩
  | .hbm, ⟨4, _⟩ => ⟨S_, .f32⟩
  | .hbm, ⟨5, _⟩ => ⟨S609x1024, .f32⟩
  | .hbm, ⟨6, _⟩ => ⟨S609x1024, .f32⟩
  | .hbm, ⟨7, _⟩ => ⟨S_, .f32⟩
  | .hbm, ⟨8, _⟩ => ⟨S609x1024, .f32⟩
  | .hbm, ⟨9, _⟩ => ⟨S609x1024, .f32⟩
  | .hbm, ⟨10, _⟩ => ⟨S609x1024, .f32⟩
  | .hbm, ⟨11, _⟩ => ⟨S_, .f32⟩
  | .hbm, ⟨12, _⟩ => ⟨S609x1024, .f32⟩
  | .hbm, ⟨13, _⟩ => ⟨S609x1024, .f32⟩
  | .hbm, ⟨14, _⟩ => ⟨S609x1024, .f32⟩
  | .hbm, ⟨15, _⟩ => ⟨S_, .f32⟩
  | .hbm, ⟨16, _⟩ => ⟨S609x1024, .f32⟩
  | .hbm, ⟨17, _⟩ => ⟨S609x1024, .f32⟩
  | .hbm, ⟨18, _⟩ => ⟨S609x1024, .f32⟩
  | .hbm, ⟨19, _⟩ => ⟨S_, .f32⟩
  | .hbm, ⟨20, _⟩ => ⟨S609x1024, .f32⟩
  | .hbm, ⟨21, _⟩ => ⟨S609x1024, .f32⟩
  | .hbm, ⟨22, _⟩ => ⟨S_, .f32⟩
  | .hbm, ⟨23, _⟩ => ⟨S609x1024, .f32⟩
  | .hbm, ⟨24, _⟩ => ⟨S609x1024, .f32⟩
  | .hbm, ⟨25, _⟩ => ⟨S609x1024, .f32⟩
  | .hbm, ⟨26, _⟩ => ⟨S_, .f32⟩
  | .hbm, ⟨27, _⟩ => ⟨S609x1024, .f32⟩
  | .hbm, ⟨28, _⟩ => ⟨S609x1024, .f32⟩
  | .hbm, ⟨29, _⟩ => ⟨S609x1024, .f32⟩
  | .hbm, ⟨30, _⟩ => ⟨S_, .f32⟩
  | .hbm, ⟨31, _⟩ => ⟨S609x1024, .f32⟩
  | .hbm, ⟨32, _⟩ => ⟨S609x1024, .f32⟩
  | .hbm, ⟨33, _⟩ => ⟨S609x1024, .f32⟩
  | .hbm, ⟨34, _⟩ => ⟨S_, .f32⟩
  | .hbm, ⟨35, _⟩ => ⟨S609x1024, .f32⟩
  | .hbm, ⟨36, _⟩ => ⟨S609x1024, .f32⟩
  | _, _ => ⟨S609x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S8x1024 : Shape := ⟨2, ![8, 1024]⟩
abbrev S8x768 : Shape := ⟨2, ![8, 768]⟩
abbrev S1024x768 : Shape := ⟨2, ![1024, 768]⟩
abbrev S8x256 : Shape := ⟨2, ![8, 256]⟩
abbrev S256x768 : Shape := ⟨2, ![256, 768]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S8x256, .f32⟩
  | .local _ .vmem, ⟨1, _⟩ => ⟨S8x256, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S8x1024 : Shape := ⟨2, ![8, 1024]⟩
abbrev S8x768 : Shape := ⟨2, ![8, 768]⟩
abbrev S1024x768 : Shape := ⟨2, ![1024, 768]⟩
abbrev S768x1024 : Shape := ⟨2, ![768, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x768, .f32⟩
  | .hbm, ⟨6, _⟩ => ⟨S768x1024, .f32⟩
  | .hbm, ⟨7, _⟩ => ⟨S1024x768, .f32⟩
  | .hbm, ⟨8, _⟩ => ⟨S_, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S1024x768, .f32⟩
  | .hbm, ⟨23, _⟩ => ⟨S_, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S1024x768, .f32⟩
  | .hbm, ⟨40, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference16Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference17Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference18Ideal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Lift.lean ====
/- Arrays of real numbers read as arrays of extended reals, and the operations of the two programs on them: every
   operation of the kernel and of the reference, applied to an array whose entries are real numbers, gives an array
   whose entries are real numbers, and the entries are named here. -/
module

public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.IdealHost

@[expose] public section

noncomputable section

namespace Cert.Lift

open Idealize.ShloMosaic Idealize.ShloMosaic.ValueIdx
open scoped BigOperators

/-- A matrix of reals as a matrix of extended reals, at any format. -/
def L2 {φ : FTy} {n m : ℕ} (A : Fin n → Fin m → ℝ) : FVec Ideal ⟨2, ![n, m]⟩ φ := fun i => ((A (i 0) (i 1) : ℝ) : EReal)

/-- A vector of reals as a vector of extended reals. -/
def L1 {φ : FTy} {n : ℕ} (A : Fin n → ℝ) : FVec Ideal ⟨1, ![n]⟩ φ := fun i => ((A (i 0) : ℝ) : EReal)

/-- One real as an array without axes. -/
def L0 {φ : FTy} (x : ℝ) : FVec Ideal ⟨0, ![]⟩ φ := fun _ => (x : EReal)

/-- A sum of reals read as extended reals is the sum of the readings. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem L2_apply {φ : FTy} {n m : ℕ} (A : Fin n → Fin m → ℝ) (i : (⟨2, ![n, m]⟩ : Shape).Idx) :
    (L2 A : FVec Ideal _ φ) i = ((A (i 0) (i 1) : ℝ) : EReal) := rfl

theorem L1_apply {φ : FTy} {n : ℕ} (A : Fin n → ℝ) (i : (⟨1, ![n]⟩ : Shape).Idx) :
    (L1 A : FVec Ideal _ φ) i = ((A (i 0) : ℝ) : EReal) := rfl

/-- An array that reads a real at every pair of coordinates is the lifted matrix of those reals. -/
theorem eq_L2 {φ : FTy} {n m : ℕ} {v : FVec Ideal ⟨2, ![n, m]⟩ φ} {A : Fin n → Fin m → ℝ}
    (h : ∀ a b, v (ix2 a b) = ((A a b : ℝ) : EReal)) : v = L2 A := by
  funext i
  rw [eq_ix2 i]
  exact h _ _

theorem eq_L1 {φ : FTy} {n : ℕ} {v : FVec Ideal ⟨1, ![n]⟩ φ} {A : Fin n → ℝ}
    (h : ∀ a, v (ix1 a) = ((A a : ℝ) : EReal)) : v = L1 A := by
  funext i
  rw [eq_ix1 i]
  exact h _

section Kernel
variable {φ : FTy} {n m : ℕ} (A B : Fin n → Fin m → ℝ)

theorem mulf_L2 : mulf (L2 A : FVec Ideal _ φ) (L2 B) = L2 fun i j => A i j * B i j := by
  funext i; rw [mulf_apply]; exact (EReal.coe_mul _ _).symm

theorem addf_L2 : addf (L2 A : FVec Ideal _ φ) (L2 B) = L2 fun i j => A i j + B i j := by
  funext i; rw [addf_apply]; exact (EReal.coe_add _ _).symm

theorem subf_L2 : subf (L2 A : FVec Ideal _ φ) (L2 B) = L2 fun i j => A i j - B i j := by
  funext i; rw [subf_apply]; exact (EReal.coe_sub _ _).symm

/-- The ideal division of reals by a real that is not zero. -/
theorem div_coe (x y : ℝ) (hy : y ≠ 0) : Ideal.div (x : EReal) (y : EReal) = ((x / y : ℝ) : EReal) := by
  unfold Ideal.div
  rw [if_neg (by simpa using hy), div_eq_mul_inv, EReal.coe_mul, EReal.coe_inv]

theorem divf_L2 (hB : ∀ i j, B i j ≠ 0) : divf (L2 A : FVec Ideal _ φ) (L2 B) = L2 fun i j => A i j / B i j := by
  funext i; rw [divf_apply]; exact div_coe _ _ (hB _ _)

theorem rsqrt_L2 (hA : ∀ i j, 0 < A i j) : rsqrt (L2 A : FVec Ideal _ φ) = L2 fun i j => (√(A i j))⁻¹ := by
  funext i
  show Ideal.rsqrt ((A (i 0) (i 1) : ℝ) : EReal) = _
  have := hA (i 0) (i 1)
  have e : Ideal.rsqrt ((A (i 0) (i 1) : ℝ) : EReal)
      = if A (i 0) (i 1) < 0 then ⊥ else if A (i 0) (i 1) = 0 then ⊤ else (((√(A (i 0) (i 1)))⁻¹ : ℝ) : EReal) := rfl
  rw [e, if_neg (not_lt.mpr this.le), if_neg this.ne']
  rfl

theorem exp_L2 : exp (L2 A : FVec Ideal _ φ) = L2 fun i j => Real.exp (A i j) := by
  funext i; rfl

theorem truncf_L2 {ψ : FTy} (h : ψ.bits < φ.bits) : (truncf ψ (L2 A : FVec Ideal _ φ) h : FVec Ideal _ ψ) = L2 A := rfl

theorem broadcast_L2 (x : Ideal φ) (r : ℝ) (h : x = ((r : ℝ) : EReal)) :
    (broadcast ⟨2, ![n, m]⟩ x : FVec Ideal _ φ) = L2 fun _ _ => r := by
  funext i; exact h

theorem constant_L2 (b : BitVec φ.bits) (r : ℝ) (h : Ideal.ofBits φ b = ((r : ℝ) : EReal)) :
    (constant (F := Ideal) ⟨2, ![n, m]⟩ φ b : FVec Ideal _ φ) = L2 fun _ _ => r := by
  funext i; exact h

theorem shapeCast_self_L2 (h : (⟨2, ![n, m]⟩ : Shape).ShapeCasts ⟨2, ![n, m]⟩) :
    (shapeCast ⟨2, ![n, m]⟩ (L2 A : FVec Ideal _ φ) h : FVec Ideal _ φ) = L2 A := by
  funext i; exact shapeCast_apply _ h _ _ rfl

theorem shapeCast_row_L2 (v : Fin m → ℝ) (h : (⟨1, ![m]⟩ : Shape).ShapeCasts ⟨2, ![1, m]⟩) :
    (shapeCast ⟨2, ![1, m]⟩ (L1 v : FVec Ideal _ φ) h : FVec Ideal _ φ) = L2 fun _ j => v j :=
  eq_L2 fun a b => (shapeCast_a_1a_apply _ h a b).trans rfl

theorem shapeCast_col_L2 (v : Fin n → ℝ) (h : (⟨1, ![n]⟩ : Shape).ShapeCasts ⟨2, ![n, 1]⟩) :
    (shapeCast ⟨2, ![n, 1]⟩ (L1 v : FVec Ideal _ φ) h : FVec Ideal _ φ) = L2 fun i _ => v i :=
  eq_L2 fun a b => (shapeCast_apply _ h (ix2 a b) (ix1 a) (by
    have hb : b.val = 0 := by omega
    rw [Shape.rowMajor_val_two, Shape.rowMajor_val_one]
    show a.val = a.val * 1 + b.val
    rw [hb, Nat.mul_one, Nat.add_zero])).trans rfl

theorem broadcastTo_row_L2 (R : Fin 1 → Fin m → ℝ) (h : (⟨2, ![1, m]⟩ : Shape).Broadcasts ⟨2, ![n, m]⟩) :
    (broadcastTo ⟨2, ![n, m]⟩ (L2 R : FVec Ideal _ φ) h : FVec Ideal _ φ) = L2 fun _ j => R 0 j :=
  eq_L2 fun a b => (broadcastTo_1b_ab_apply _ h a b).trans rfl

theorem broadcastTo_col_L2 (C : Fin n → Fin 1 → ℝ) (h : (⟨2, ![n, 1]⟩ : Shape).Broadcasts ⟨2, ![n, m]⟩) :
    (broadcastTo ⟨2, ![n, m]⟩ (L2 C : FVec Ideal _ φ) h : FVec Ideal _ φ) = L2 fun i _ => C i 0 :=
  eq_L2 fun a b => (broadcastTo_apply _ h (ix2 a b) (ix2 a 0) (fun ax => by
    match ax with
    | ⟨0, _⟩ =>
      show a.val = if n = 1 then 0 else a.val
      split
      · have := a.isLt; omega
      · rfl
    | ⟨1, _⟩ => rfl)).trans rfl

theorem reduce_cols_L2 (acc : BitVec φ.bits) (h : (⟨2, ![n, m]⟩ : Shape).Reduces [1] ⟨1, ![n]⟩) (hφ : FKind.Formats φ)
    (hacc : acc = FKind.add.neutral φ hφ) :
    multiReduction .add [1] ⟨1, ![n]⟩ (L2 A : FVec Ideal _ φ) acc h hφ hacc = L1 fun i => ∑ j, A i j :=
  eq_L1 fun a => by
    rw [Ideal.multiReduction_add_single, ← coe_sum]
    rfl

theorem reduce_rows_L2 (acc : BitVec φ.bits) (h : (⟨2, ![n, m]⟩ : Shape).Reduces [0] ⟨1, ![m]⟩) (hφ : FKind.Formats φ)
    (hacc : acc = FKind.add.neutral φ hφ) :
    multiReduction .add [0] ⟨1, ![m]⟩ (L2 A : FVec Ideal _ φ) acc h hφ hacc = L1 fun j => ∑ i, A i j :=
  eq_L1 fun a => by
    rw [Ideal.multiReduction_add_single, ← coe_sum]
    rfl

end Kernel

/-- A product of lifted matrices accumulated into zeros, the contraction over the columns of the first and the rows of the second. -/
theorem matmul_plain_L2 {φ₁ φ₂ : FTy} {M K N : ℕ} (p : Option ContractPrecision) (A : Fin M → Fin K → ℝ) (B : Fin K → Fin N → ℝ) :
    matmul (DotDims.plain M K N) p (L2 A : FVec Ideal _ φ₁) (L2 B : FVec Ideal _ φ₂) (constant _ .f32 0x00000000#32)
      = L2 fun i j => ∑ k, A i k * B k j :=
  eq_L2 fun a b => by
    refine (Ideal.matmul_plain_apply p _ _ _ a b).trans ?_
    rw [constant_apply, Ideal.ofBits_zero_f32, zero_add, ← coe_sum]
    exact Finset.sum_congr rfl fun k _ => (EReal.coe_mul _ _).symm

/-- The same with the contraction over the columns of both. -/
theorem matmul_tr_L2 {φ₁ φ₂ : FTy} {M K N : ℕ} (p : Option ContractPrecision) (A : Fin M → Fin K → ℝ) (B : Fin N → Fin K → ℝ) :
    matmul (DotDims.transposedRhs M K N) p (L2 A : FVec Ideal _ φ₁) (L2 B : FVec Ideal _ φ₂) (constant _ .f32 0x00000000#32)
      = L2 fun i j => ∑ k, A i k * B j k :=
  eq_L2 fun a b => by
    refine (Ideal.matmul_transposedRhs_apply p _ _ _ a b).trans ?_
    rw [constant_apply, Ideal.ofBits_zero_f32, zero_add, ← coe_sum]
    exact Finset.sum_congr rfl fun k _ => (EReal.coe_mul _ _).symm

/-! ## The constants -/

/-- The constant added under the square roots. -/
def eps : ℝ := 8796093 / 2 ^ 43

theorem eps_pos : 0 < eps := by unfold eps; positivity

theorem c_zero : Ideal.ofBits .f32 0x00000000#32 = ((0 : ℝ) : EReal) := by rw [Ideal.ofBits_zero_f32]; rfl
theorem c_one : Ideal.ofBits .f32 0x3F800000#32 = ((1 : ℝ) : EReal) := by
  simp [Ideal.ofBits, Ideal.ieee]; rw [← EReal.coe_mul]; norm_num
theorem c_1024 : Ideal.ofBits .f32 0x44800000#32 = ((1024 : ℝ) : EReal) := by
  simp [Ideal.ofBits, Ideal.ieee]; rw [← EReal.coe_mul]; norm_num
theorem c_eps : Ideal.ofBits .f32 0x358637BD#32 = ((eps : ℝ) : EReal) := by
  simp [Ideal.ofBits, Ideal.ieee, eps]; rw [← EReal.coe_mul]; norm_num
theorem c_inv1024 : Ideal.ofBits .f32 0x3A800000#32 = ((1 / 1024 : ℝ) : EReal) := by
  simp [Ideal.ofBits, Ideal.ieee]; rw [← EReal.coe_mul]; norm_num
theorem c_inv2048 : Ideal.ofBits .f32 0x3A000000#32 = ((1 / 2048 : ℝ) : EReal) := by
  simp [Ideal.ofBits, Ideal.ieee]; rw [← EReal.coe_mul]; norm_num
theorem c_half : Ideal.ofBits .f32 0x3F000000#32 = ((1 / 2 : ℝ) : EReal) := by
  simp [Ideal.ofBits, Ideal.ieee]; rw [← EReal.coe_mul]; norm_num
theorem c_neghalf : Ideal.ofBits .f32 0xBF000000#32 = ((-(1 / 2) : ℝ) : EReal) := by
  simp [Ideal.ofBits, Ideal.ieee]; rw [← EReal.coe_mul]; norm_num
theorem c_two : Ideal.ofBits .f32 0x40000000#32 = ((2 : ℝ) : EReal) := by
  simp [Ideal.ofBits, Ideal.ieee]; rw [← EReal.coe_mul]; norm_num

end Cert.Lift

end

end
-- ==== Proof.Model.lean ====
/- The mathematics of one row of the feed-forward block over the reals: the forward pass and the gradients as the kernel
   spells them. -/
module

public import proofs.«01_k».proof.Proof.Lift

@[expose] public section

noncomputable section

namespace Cert.Ffn

open scoped BigOperators
open Cert.Lift (eps eps_pos)

/-- One row of the model dimension, and one of the hidden dimension. -/
abbrev Row := Fin 1024 → ℝ
abbrev HRow := Fin 2816 → ℝ

/-- The parameters every row sees: the three modulation rows, the two gains and the three weights, each weight with the
hidden dimension first. -/
structure Par where
  shift : Row
  scale : Row
  gate : Row
  gpre : Row
  gpost : Row
  Wg : Fin 2816 → Row
  Wu : Fin 2816 → Row
  Wd : Fin 2816 → Row

/-- The reciprocal root mean square of a row. -/
def rs (x : Row) : ℝ := (√((∑ j, x j * x j) / 1024 + eps))⁻¹

/-- The row over its root mean square. -/
def hat (x : Row) : Row := fun j => x j * rs x

theorem ms_pos (x : Row) : 0 < (∑ j, x j * x j) / 1024 + eps :=
  add_pos_of_nonneg_of_pos (div_nonneg (Finset.sum_nonneg fun j _ => mul_self_nonneg _) (by norm_num)) eps_pos

/-- The gradient of `hat` as the kernel spells it, before the factor `rs`: the incoming gradient less its part along the row. -/
def cen (xh g : Row) : Row := fun j => g j - xh j * ((∑ k, g k * xh k) / 1024)

/-- The logistic function as the kernel spells it. -/
def sig (a : ℝ) : ℝ := 1 / (1 + Real.exp (0 - a))

variable (P : Par)

def xn (x : Row) : Row := fun j => hat x j * P.gpre j
def h2 (x : Row) : Row := fun j => xn P x j * (1 + P.scale j) + P.shift j
def pa (x : Row) : HRow := fun k => ∑ j, h2 P x j * P.Wg k j
def pu (x : Row) : HRow := fun k => ∑ j, h2 P x j * P.Wu k j
def sil (x : Row) : HRow := fun k => pa P x k * sig (pa P x k)
def hid (x : Row) : HRow := fun k => sil P x k * pu P x k
def ff (x : Row) : Row := fun j => ∑ k, hid P x k * P.Wd k j
def n4 (x : Row) : Row := fun j => hat (ff P x) j * P.gpost j
def err (x t : Row) : Row := fun j => x j + P.gate j * n4 P x j - t j
def dy (x t : Row) : Row := fun j => err P x t j * (1 / 1024)
def dn4 (x t : Row) : Row := fun j => dy P x t j * P.gate j
def dfh (x t : Row) : Row := fun j => dn4 P x t j * P.gpost j
def dff (x t : Row) : Row := fun j => rs (ff P x) * cen (hat (ff P x)) (dfh P x t) j
def dhid (x t : Row) : HRow := fun k => ∑ j, dff P x t j * P.Wd k j
def du (x t : Row) : HRow := fun k => dhid P x t k * sil P x k
def da (x t : Row) : HRow := fun k =>
  dhid P x t k * pu P x k * (sig (pa P x k) * (1 + pa P x k * (1 - sig (pa P x k))))
def dh2 (x t : Row) : Row := fun j => ∑ k, da P x t k * P.Wg k j + ∑ k, du P x t k * P.Wu k j
def dxn (x t : Row) : Row := fun j => dh2 P x t j * (1 + P.scale j)
def dxh (x t : Row) : Row := fun j => dxn P x t j * P.gpre j
def dx (x t : Row) : Row := fun j => dy P x t j + rs x * cen (hat x) (dxh P x t) j

/-- The terms a row adds to the gradients of the gate, of the two gains, of the scale and of the shift, and to the loss. -/
def gGate (x t : Row) : Row := fun j => dy P x t j * n4 P x j
def gPost (x t : Row) : Row := fun j => dn4 P x t j * hat (ff P x) j
def gScale (x t : Row) : Row := fun j => dh2 P x t j * xn P x j
def gShift (x t : Row) : Row := dh2 P x t
def gPre (x t : Row) : Row := fun j => dxn P x t j * hat x j
def sq (x t : Row) : ℝ := ∑ j, err P x t j * err P x t j

end Cert.Ffn

end

end
-- ==== Proof.Block.lean ====
/- What one point of the grid computes, value by value: each named value of the kernel body, on lifted arrays of reals, is
   the lifted array of the row model's reals. -/
module

public import proofs.«01_k».proof.Proof.Model
public import proofs.«01_k».proof.Proof.Gen.KernelIdeal.Skeleton

@[expose] public section

set_option maxRecDepth 16384

noncomputable section

namespace Cert.Block

open Idealize.ShloMosaic Cert.KernelIdeal Cert.KernelIdeal.Gen Cert.Lift Cert.Ffn

abbrev Blk := Fin 256 → Row
abbrev HBlk := Fin 256 → HRow

/-- A vector of reals as an array of one row. -/
abbrev row {φ : FTy} (v : Row) : FVec Ideal ⟨2, ![1, 1024]⟩ φ := L2 fun _ j => v j

abbrev bits (b : BitVec 32) : Ideal .f32 := Scalar.ofBits (F := Ideal) .f32 b

theorem mm_tr {φ₁ φ₂ : FTy} (A : Blk) (B : Fin 2816 → Row) :
    matmul dot_S256x1024_S2816x1024_S256x2816_1_1_0_0_n_n none (L2 A : FVec Ideal _ φ₁) (L2 B : FVec Ideal _ φ₂)
      (constant S256x2816 .f32 0x00000000#32) = L2 fun i k => ∑ j, A i j * B k j :=
  matmul_tr_L2 none A B

theorem mm_pl {φ₁ φ₂ : FTy} (A : HBlk) (B : Fin 2816 → Row) :
    matmul dot_S256x2816_S2816x1024_S256x1024_1_0_0_1_n_n none (L2 A : FVec Ideal _ φ₁) (L2 B : FVec Ideal _ φ₂)
      (constant S256x1024 .f32 0x00000000#32) = L2 fun i j => ∑ k, A i k * B k j :=
  matmul_plain_L2 none A B

theorem bc_zero {n m : ℕ} : (broadcast ⟨2, ![n, m]⟩ (bits 0x00000000#32) : FVec Ideal _ .f32) = L2 fun _ _ => 0 := broadcast_L2 _ _ c_zero
theorem bc_one {n m : ℕ} : (broadcast ⟨2, ![n, m]⟩ (bits 0x3F800000#32) : FVec Ideal _ .f32) = L2 fun _ _ => 1 := broadcast_L2 _ _ c_one
theorem bc_1024 {n m : ℕ} : (broadcast ⟨2, ![n, m]⟩ (bits 0x44800000#32) : FVec Ideal _ .f32) = L2 fun _ _ => 1024 := broadcast_L2 _ _ c_1024
theorem bc_eps {n m : ℕ} : (broadcast ⟨2, ![n, m]⟩ (bits 0x358637BD#32) : FVec Ideal _ .f32) = L2 fun _ _ => eps := broadcast_L2 _ _ c_eps
theorem bc_inv {n m : ℕ} : (broadcast ⟨2, ![n, m]⟩ (bits 0x3A800000#32) : FVec Ideal _ .f32) = L2 fun _ _ => 1 / 1024 := broadcast_L2 _ _ c_inv1024

/-- A column over 1024. -/
theorem over_1024 {n m : ℕ} (A : Fin n → Fin m → ℝ) :
    divf (L2 A : FVec Ideal _ .f32) (L2 fun _ _ => 1024) = L2 fun i j => A i j / 1024 :=
  divf_L2 _ _ fun _ _ => by norm_num

/-- A block's row sums as a column. -/
theorem sum_col (A : Blk) :
    shapeCast S256x1 (multiReduction .add [1] S256 (L2 A : FVec Ideal S256x1024 .f32) 0x00000000#32 reduces_S256x1024_S256 (.inl rfl) rfl)
      shapeCasts_S256_S256x1 = (L2 fun i _ => ∑ j, A i j : FVec Ideal ⟨2, ![256, 1]⟩ .f32) :=
  (congrArg (fun v => shapeCast S256x1 v shapeCasts_S256_S256x1) (reduce_cols_L2 A _ _ _ _)).trans (shapeCast_col_L2 _ _)

/-- The column of reciprocal root mean squares of a block. -/
theorem rms_col (X : Blk) :
    rsqrt (L2 (fun i (_ : Fin 1) => (∑ j, X i j * X i j) / 1024 + eps) : FVec Ideal _ .f32) = L2 fun i _ => rs (X i) :=
  rsqrt_L2 _ fun i _ => ms_pos (X i)

theorem pay7 (X : Blk) : k0_pay7 (F := Ideal) (L2 (φ := .f32) X) = L2 fun i _ => rs (X i) := by
  unfold k0_pay7
  simp only [mulf_L2, bc_1024, bc_eps]
  erw [sum_col]
  simp only [over_1024, addf_L2, rms_col]

theorem pay8 (X : Blk) : k0_pay8 (F := Ideal) (L2 (φ := .f32) X) = L2 fun i => hat (X i) := by
  unfold k0_pay8
  simp only [pay7, broadcastTo_col_L2, mulf_L2]
  rfl

theorem pay9 (P : Par) (X : Blk) : k0_pay9 (F := Ideal) (L2 (φ := .f32) X) (row (φ := .f32) P.gpre) = L2 fun i => xn P (X i) := by
  unfold k0_pay9
  simp only [pay8, shapeCast_self_L2, broadcastTo_row_L2, mulf_L2]
  rfl

theorem pay10 (P : Par) (X : Blk) :
    k0_pay10 (F := Ideal) (L2 (φ := .f32) X) (row (φ := .f32) P.gpre) (row (φ := .f32) P.scale) (row (φ := .f32) P.shift)
      = L2 fun i => h2 P (X i) := by
  unfold k0_pay10
  simp only [pay9, shapeCast_self_L2, bc_one, addf_L2, broadcastTo_row_L2, mulf_L2, truncf_L2]
  rfl

theorem pay11 (P : Par) (X : Blk) :
    k0_pay11 (F := Ideal) (L2 (φ := .f32) X) (row (φ := .f32) P.gpre) (row (φ := .f32) P.scale) (row (φ := .f32) P.shift)
      (L2 (φ := .bf16) P.Wg) = L2 fun i => pa P (X i) := by
  unfold k0_pay11
  simp only [pay10, mm_tr]
  rfl

theorem pay12 (P : Par) (X : Blk) :
    k0_pay12 (F := Ideal) (L2 (φ := .f32) X) (row (φ := .f32) P.gpre) (row (φ := .f32) P.scale) (row (φ := .f32) P.shift)
      (L2 (φ := .bf16) P.Wu) = L2 fun i => pu P (X i) := by
  unfold k0_pay12
  simp only [pay10, mm_tr]
  rfl

theorem pay13 (A : HBlk) : k0_pay13 (F := Ideal) (L2 A) (bits 0x00000000#32) = L2 fun i k => sig (A i k) := by
  unfold k0_pay13
  simp only [bc_zero, bc_one, subf_L2, exp_L2, addf_L2]
  rw [divf_L2 _ _ fun i j => (add_pos one_pos (Real.exp_pos _)).ne']
  rfl

theorem pay14 (P : Par) (X : Blk) :
    k0_pay14 (F := Ideal) (L2 fun i => pa P (X i)) (bits 0x00000000#32) = L2 fun i => sil P (X i) := by
  unfold k0_pay14
  simp only [pay13, mulf_L2]
  rfl

theorem pay15 (P : Par) (X : Blk) :
    k0_pay15 (F := Ideal) (L2 fun i => pa P (X i)) (L2 fun i => pu P (X i)) (bits 0x00000000#32) = L2 fun i => hid P (X i) := by
  unfold k0_pay15
  simp only [pay14, mulf_L2, truncf_L2]
  rfl

theorem pay16 (P : Par) (X : Blk) :
    k0_pay16 (F := Ideal) (L2 fun i => pa P (X i)) (L2 fun i => pu P (X i)) (bits 0x00000000#32) (L2 (φ := .bf16) P.Wd)
      = L2 fun i => ff P (X i) := by
  unfold k0_pay16
  simp only [pay15, mm_pl]
  rfl

theorem pay17 (P : Par) (X : Blk) :
    k0_pay17 (F := Ideal) (L2 fun i => pa P (X i)) (L2 fun i => pu P (X i)) (bits 0x00000000#32) (L2 (φ := .bf16) P.Wd)
      = L2 fun i _ => rs (ff P (X i)) := by
  unfold k0_pay17
  simp only [pay16, mulf_L2, bc_1024, bc_eps]
  erw [sum_col]
  simp only [over_1024, addf_L2]
  exact rms_col fun i => ff P (X i)

theorem pay18 (P : Par) (X : Blk) :
    k0_pay18 (F := Ideal) (L2 fun i => pa P (X i)) (L2 fun i => pu P (X i)) (bits 0x00000000#32) (L2 (φ := .bf16) P.Wd)
      = L2 fun i => hat (ff P (X i)) := by
  unfold k0_pay18
  simp only [pay17, pay16, broadcastTo_col_L2, mulf_L2]
  rfl

theorem pay19 (P : Par) (X : Blk) :
    k0_pay19 (F := Ideal) (L2 fun i => pa P (X i)) (L2 fun i => pu P (X i)) (bits 0x00000000#32) (L2 (φ := .bf16) P.Wd)
      (row (φ := .f32) P.gpost) = L2 fun i => n4 P (X i) := by
  unfold k0_pay19
  simp only [pay18, shapeCast_self_L2, broadcastTo_row_L2, mulf_L2]
  rfl

theorem pay20 (P : Par) (X T : Blk) :
    k0_pay20 (F := Ideal) (L2 (φ := .f32) X) (L2 fun i => pa P (X i)) (L2 fun i => pu P (X i)) (bits 0x00000000#32)
      (L2 (φ := .bf16) P.Wd) (row (φ := .f32) P.gpost) (row (φ := .f32) P.gate) (L2 (φ := .f32) T)
      = L2 fun i => err P (X i) (T i) := by
  unfold k0_pay20
  simp only [pay19, shapeCast_self_L2, broadcastTo_row_L2, mulf_L2, addf_L2, subf_L2]
  rfl

/-- The sum of all squares of the block's errors, as an array of three unit axes. -/
theorem pay22 (P : Par) (X T : Blk) (i : S1x1x1.Idx) :
    k0_pay22 (F := Ideal) (L2 (φ := .f32) X) (L2 fun i => pa P (X i)) (L2 fun i => pu P (X i)) (bits 0x00000000#32)
      (L2 (φ := .bf16) P.Wd) (row (φ := .f32) P.gpost) (row (φ := .f32) P.gate) (L2 (φ := .f32) T) i
      = ((∑ r, sq P (X r) (T r) : ℝ) : EReal) := by
  unfold k0_pay22
  simp only [pay20, mulf_L2]
  have h1 : (S1.rowMajor (ValueIdx.ix1 0)).val < 1 := lt_of_lt_of_eq (Fin.isLt _) (by decide)
  have h2 : (S1x1x1.rowMajor i).val < 1 := lt_of_lt_of_eq (Fin.isLt _) (by decide)
  refine (shapeCast_apply _ _ i (ValueIdx.ix1 0) ((Nat.lt_one_iff.mp h1).trans (Nat.lt_one_iff.mp h2).symm)).trans ?_
  refine (Ideal.multiReduction_add_total _ _ reduces_S1x256x1024_S1 (by decide) (.inl rfl) rfl _).trans ?_
  unfold shapeCast
  rw [Equiv.sum_comp (Shape.reshapeEquiv _), ValueIdx.sum_idx2]
  simp only [Ffn.sq, ← coe_sum]
  rfl

theorem pay23 (s : ℝ) (A : Fin 8 → Fin 128 → ℝ) (v : FVec Ideal S1x1x1 .f32) (hv : ∀ i, v i = ((s : ℝ) : EReal)) :
    k0_pay23 (F := Ideal) (L2 A) v = L2 fun i j => A i j + s * (1 / 2048) := by
  unfold k0_pay23
  dsimp only
  rw [broadcast_L2 (r := s * (1 / 2048)), addf_L2]
  have e : Scalar.mulf (extractAt ![0, 0, 0] v inpos_S1x1x1_p0_0_0) (bits 0x3A000000#32)
      = extractAt ![0, 0, 0] v inpos_S1x1x1_p0_0_0 * bits 0x3A000000#32 := rfl
  refine e.trans ?_
  rw [show extractAt ![0, 0, 0] v inpos_S1x1x1_p0_0_0 = ((s : ℝ) : EReal) from hv _, show bits 0x3A000000#32 = _ from c_inv2048]
  exact (EReal.coe_mul _ _).symm

theorem pay21 (A : Fin 8 → Fin 128 → ℝ) : k0_pay21 (F := Ideal) (L2 (φ := .f32) A) = L2 A := by
  unfold k0_pay21
  simp only [shapeCast_self_L2]

theorem pay24 (P : Par) (X T : Blk) : k0_pay24 (F := Ideal) (L2 fun i => err P (X i) (T i)) = L2 fun i => dy P (X i) (T i) := by
  unfold k0_pay24
  simp only [bc_inv, mulf_L2]
  rfl

/-- A row of running sums with a block's column sums added. -/
theorem add_rows (v : Row) (A : Blk) (h : S1024.ShapeCasts S1x1024) (h' : S1x1024.ShapeCasts S1x1024) (hr hφ hacc) :
    addf (shapeCast S1x1024 (row (φ := .f32) v) h')
      (shapeCast S1x1024 (multiReduction .add [0] S1024 (L2 A : FVec Ideal _ .f32) 0x00000000#32 hr hφ hacc) h)
      = row fun j => v j + ∑ i, A i j := by
  rw [reduce_rows_L2 A _ hr hφ hacc, shapeCast_row_L2 _ h, shapeCast_self_L2 _ h', addf_L2]

theorem pay25 (P : Par) (X T : Blk) (v : Row) :
    k0_pay25 (F := Ideal) (L2 fun i => n4 P (X i)) (L2 fun i => err P (X i) (T i)) (row (φ := .f32) v)
      = row fun j => v j + ∑ i, gGate P (X i) (T i) j := by
  unfold k0_pay25
  simp only [pay24, mulf_L2]
  exact add_rows v _ _ _ _ _ _

theorem pay26 (P : Par) (X T : Blk) :
    k0_pay26 (F := Ideal) (L2 fun i => err P (X i) (T i)) (row (φ := .f32) P.gate) = L2 fun i => dn4 P (X i) (T i) := by
  unfold k0_pay26
  simp only [pay24, shapeCast_self_L2, broadcastTo_row_L2, mulf_L2]
  rfl

theorem pay27 (P : Par) (X T : Blk) (v : Row) :
    k0_pay27 (F := Ideal) (L2 fun i => hat (ff P (X i))) (L2 fun i => err P (X i) (T i)) (row (φ := .f32) P.gate) (row (φ := .f32) v)
      = row fun j => v j + ∑ i, gPost P (X i) (T i) j := by
  unfold k0_pay27
  simp only [pay26, mulf_L2]
  exact add_rows v _ _ _ _ _ _

theorem pay28 (P : Par) (X T : Blk) :
    k0_pay28 (F := Ideal) (L2 fun i => hat (ff P (X i))) (L2 fun i => err P (X i) (T i)) (row (φ := .f32) P.gate)
      (row (φ := .f32) P.gpost) = L2 fun i => cen (hat (ff P (X i))) (dfh P (X i) (T i)) := by
  unfold k0_pay28
  simp only [pay26, shapeCast_self_L2, broadcastTo_row_L2, mulf_L2, bc_1024]
  erw [sum_col]
  simp only [over_1024, mulf_L2, broadcastTo_col_L2, subf_L2]
  rfl

theorem pay29 (P : Par) (X T : Blk) :
    k0_pay29 (F := Ideal) (L2 fun i _ => rs (ff P (X i))) (L2 fun i => cen (hat (ff P (X i))) (dfh P (X i) (T i)))
      = L2 fun i => dff P (X i) (T i) := by
  unfold k0_pay29
  simp only [broadcastTo_col_L2, mulf_L2, truncf_L2]
  rfl

theorem pay30 (P : Par) (X T : Blk) :
    k0_pay30 (F := Ideal) (L2 fun i _ => rs (ff P (X i))) (L2 fun i => cen (hat (ff P (X i))) (dfh P (X i) (T i)))
      (L2 (φ := .bf16) P.Wd) = L2 fun i => dhid P (X i) (T i) := by
  unfold k0_pay30
  simp only [pay29, mm_tr]
  rfl

theorem pay31 (P : Par) (X T : Blk) :
    k0_pay31 (F := Ideal) (L2 fun i => sil P (X i)) (L2 fun i _ => rs (ff P (X i)))
      (L2 fun i => cen (hat (ff P (X i))) (dfh P (X i) (T i))) (L2 (φ := .bf16) P.Wd) = L2 fun i => du P (X i) (T i) := by
  unfold k0_pay31
  simp only [pay30, mulf_L2, truncf_L2]
  rfl

theorem pay32 (P : Par) (X T : Blk) :
    k0_pay32 (F := Ideal) (L2 fun i => pa P (X i)) (L2 fun i => pu P (X i)) (L2 fun i k => sig (pa P (X i) k))
      (L2 fun i _ => rs (ff P (X i))) (L2 fun i => cen (hat (ff P (X i))) (dfh P (X i) (T i))) (L2 (φ := .bf16) P.Wd)
      = L2 fun i => da P (X i) (T i) := by
  unfold k0_pay32
  simp only [pay30, bc_one, mulf_L2, subf_L2, addf_L2, truncf_L2]
  rfl

theorem pay33 (P : Par) (X T : Blk) :
    k0_pay33 (F := Ideal) (L2 fun i => pa P (X i)) (L2 fun i => pu P (X i)) (L2 fun i k => sig (pa P (X i) k))
      (L2 fun i => sil P (X i)) (L2 fun i _ => rs (ff P (X i))) (L2 fun i => cen (hat (ff P (X i))) (dfh P (X i) (T i)))
      (L2 (φ := .bf16) P.Wd) (L2 (φ := .bf16) P.Wg) (L2 (φ := .bf16) P.Wu) = L2 fun i => dh2 P (X i) (T i) := by
  unfold k0_pay33
  simp only [pay32, pay31, mm_pl, addf_L2]
  rfl

theorem pay34 (P : Par) (X T : Blk) (v : Row) :
    k0_pay34 (F := Ideal) (L2 fun i => xn P (X i)) (L2 fun i => pa P (X i)) (L2 fun i => pu P (X i)) (L2 fun i k => sig (pa P (X i) k))
      (L2 fun i => sil P (X i)) (L2 fun i _ => rs (ff P (X i))) (L2 fun i => cen (hat (ff P (X i))) (dfh P (X i) (T i)))
      (L2 (φ := .bf16) P.Wd) (L2 (φ := .bf16) P.Wg) (L2 (φ := .bf16) P.Wu) (row (φ := .f32) v)
      = row fun j => v j + ∑ i, gScale P (X i) (T i) j := by
  unfold k0_pay34
  simp only [pay33, mulf_L2]
  exact add_rows v _ _ _ _ _ _

theorem pay1 (P : Par) (X T : Blk) (v : Row) :
    k0_pay1 (F := Ideal) (L2 fun i => dh2 P (X i) (T i)) (row (φ := .f32) v) = row fun j => v j + ∑ i, gShift P (X i) (T i) j := by
  unfold k0_pay1
  exact add_rows v _ _ _ _ _ _

theorem pay2 (P : Par) (X T : Blk) :
    k0_pay2 (F := Ideal) (L2 fun i => dh2 P (X i) (T i)) (row (φ := .f32) P.scale) = L2 fun i => dxn P (X i) (T i) := by
  unfold k0_pay2
  simp only [shapeCast_self_L2, bc_one, addf_L2, broadcastTo_row_L2, mulf_L2]
  rfl

theorem pay3 (P : Par) (X T : Blk) (v : Row) :
    k0_pay3 (F := Ideal) (L2 fun i => hat (X i)) (L2 fun i => dh2 P (X i) (T i)) (row (φ := .f32) P.scale) (row (φ := .f32) v)
      = row fun j => v j + ∑ i, gPre P (X i) (T i) j := by
  unfold k0_pay3
  simp only [pay2, mulf_L2]
  exact add_rows v _ _ _ _ _ _

theorem pay4 (P : Par) (X T : Blk) :
    k0_pay4 (F := Ideal) (L2 fun i _ => rs (X i)) (L2 fun i => hat (X i)) (L2 fun i => dy P (X i) (T i))
      (L2 fun i => dh2 P (X i) (T i)) (row (φ := .f32) P.scale) (row (φ := .f32) P.gpre) = L2 fun i => dx P (X i) (T i) := by
  unfold k0_pay4
  simp only [pay2, shapeCast_self_L2, broadcastTo_row_L2, mulf_L2, bc_1024]
  erw [sum_col]
  simp only [over_1024, mulf_L2, broadcastTo_col_L2, subf_L2, addf_L2]
  rfl

theorem pay5 : k0_pay5 (F := Ideal) = L2 fun _ _ => 0 := bc_zero
theorem pay6 : k0_pay6 (F := Ideal) = L2 fun _ _ => 0 := bc_zero

end Cert.Block

end

end
-- ==== Proof.Reads.lean ====
/- Loads and stores of whole buffers and of single rows, on lifted arrays of reals. -/
module

public import Idealize.ShloMosaic.Lib.WritesUnit
public import Idealize.ShloMosaic.Lib.Pipeline.ReadBack
public import proofs.«01_k».proof.Proof.Block
public import proofs.«01_k».proof.Proof.Gen.KernelIdeal.Value

@[expose] public section

set_option maxRecDepth 16384

noncomputable section

namespace Cert.Point

open Idealize.ShloMosaic Idealize.ShloMosaic.Pipeline Idealize.SL.Sem Cert.KernelIdeal Cert.KernelIdeal.Gen Cert.Lift Cert.Ffn Cert.Block

abbrev W8 := Fin 2816 → Row

/-- The parameters as the sixteen rows of vectors and the three weights hold them. -/
abbrev par (V : Fin 16 → Row) (Wg Wu Wd : W8) : Par := ⟨V 3, V 4, V 5, V 8, V 9, Wg, Wu, Wd⟩

/-- A load of the whole of a whole buffer. -/
theorem rd_all {n m : ℕ} {e : EltTy} {a : Memref sig .tc .vmem ⟨2, ![n, m]⟩ e} (ha : a.IsWhole) (x : Vec Ideal ⟨2, ![n, m]⟩ e) (inb) :
    View.readAt (Elt Ideal) a.view (Rect.unit ![0, 0] ![n, m] inb).toLoadRect (ha.unread x) = x := by
  rw [View.readAt_eq_ld, ha.read_unread]
  exact View.ld_unit_zero (S := ⟨2, ![n, m]⟩) (by funext d; match d with | ⟨0, _⟩ => rfl | ⟨1, _⟩ => rfl) inb x

/-- A load of one row of a lifted matrix. -/
theorem ld_row {n : ℕ} (A : Fin n → Row) (k : ℕ) (hk : k < n) (inb) :
    View.ld (Val := Elt Ideal) (e' := .f32) (L2 (φ := .f32) A : FVec Ideal ⟨2, ![n, 1024]⟩ .f32) (Rect.unit (s := ⟨2, ![n, 1024]⟩) ![k, 0] ![1, 1024] inb) = row (φ := .f32) (A ⟨k, hk⟩) := by
  refine eq_L2 (φ := .f32) fun a b => ?_
  rw [View.ld_unit]
  refine (extractStridedSlice_apply _ _ _ _ (ValueIdx.ix2 (⟨k, hk⟩ : Fin n) b) fun ax => ?_).trans rfl
  match ax with
  | ⟨0, _⟩ => show k = k + a.val; omega
  | ⟨1, _⟩ => exact (Nat.zero_add _).symm

theorem rd_row {n : ℕ} {a : Memref sig .tc .vmem ⟨2, ![n, 1024]⟩ .f32} (ha : a.IsWhole) (A : Fin n → Row) (k : ℕ) (hk : k < n) (inb) :
    View.readAt (Elt Ideal) a.view (Rect.unit ![k, 0] ![1, 1024] inb).toLoadRect (ha.unread (L2 (φ := .f32) A)) = row (φ := .f32) (A ⟨k, hk⟩) := by
  rw [View.readAt_eq_ld, ha.read_unread]
  exact ld_row A k hk inb

/-- A load of one row of what earlier stores left, where they left a lifted matrix. -/
theorem rd_cov {n : ℕ} (v : View sig .tc .vmem ⟨2, ![n, 1024]⟩ .f32) (L) (A : Fin n → Row)
    (h : v.read (Elt Ideal) (v.writes (Elt Ideal) v.junk L) = L2 (φ := .f32) A) (k : ℕ) (hk : k < n) (inb) :
    v.readCov L (Rect.unit ![k, 0] ![1, 1024] inb).toLoadRect = row (φ := .f32) (A ⟨k, hk⟩) := by
  unfold View.readCov
  rw [View.readAt_eq_ld, h]
  exact ld_row A k hk inb

/-- A store of one row over what earlier stores left. -/
theorem st_row {n : ℕ} (v : View sig .tc .vmem ⟨2, ![n, 1024]⟩ .f32) (f) (L) (A : Fin n → Row)
    (h : v.read (Elt Ideal) (v.writes (Elt Ideal) f L) = L2 (φ := .f32) A) (k : Fin n) (inb) (w : Row) (p) (hp : p = row (φ := .f32) w) :
    v.read (Elt Ideal) (v.writes (Elt Ideal) f ((⟨Rect.unit ![k.val, 0] ![1, 1024] inb, p⟩ : View.Piece (Elt Ideal) ⟨2, ![n, 1024]⟩ .f32) :: L))
      = L2 (φ := .f32) (Function.update A k w) := by
  subst hp
  refine eq_L2 (φ := .f32) fun a b => ?_
  by_cases hak : a = k
  · subst hak
    refine (View.read_writes_cons_rows_of_mem v f inb _ L (ValueIdx.ix2 a b) (ValueIdx.ix2 (0 : Fin 1) b) rfl ?_ rfl).trans ?_
    · exact (Nat.add_zero _).symm
    · rw [Function.update_self]
      rfl
  · refine (View.read_writes_cons_rows_of_not_mem v f inb _ L (ValueIdx.ix2 a b) rfl (W := 1) rfl ?_).trans ?_
    · have : a.val ≠ k.val := fun e => hak (Fin.ext e)
      show a.val < k.val ∨ k.val + 1 ≤ a.val
      omega
    · rw [h, Function.update_of_ne hak]
      rfl

/-- A load of the whole of a buffer that one copy filled. -/
theorem rd_copy {n m : ℕ} {e : EltTy} (v : View sig .tc .vmem ⟨2, ![n, m]⟩ e) (w : Vec Ideal ⟨2, ![n, m]⟩ e) (inb) :
    v.readCov [(⟨Rect.whole ⟨2, ![n, m]⟩, w⟩ : View.Piece (Elt Ideal) ⟨2, ![n, m]⟩ e)] (Rect.unit ![0, 0] ![n, m] inb).toLoadRect = w :=
  (View.readCov_fill v _ w [] (Rect.unit ![0, 0] ![n, m] inb) fun _ => rfl).trans
    (View.ld_unit_zero (S := ⟨2, ![n, m]⟩) (by funext d; match d with | ⟨0, _⟩ => rfl | ⟨1, _⟩ => rfl) inb w)

/-- A buffer after one store of the whole. -/
theorem st_all {n m : ℕ} {e : EltTy} (v : View sig .tc .vmem ⟨2, ![n, m]⟩ e) (f) (L) (w : Vec Ideal ⟨2, ![n, m]⟩ e) (inb) :
    v.read (Elt Ideal) (v.writes (Elt Ideal) f ((⟨Rect.unit ![0, 0] ![n, m] inb, w⟩ : View.Piece (Elt Ideal) ⟨2, ![n, m]⟩ e) :: L)) = w := by
  funext y
  exact View.read_writes_cons_unit_of_mem v f inb w L y y rfl fun a => match a with | ⟨0, _⟩ => (Nat.zero_add _).symm | ⟨1, _⟩ => (Nat.zero_add _).symm

/-- What one block of rows adds to the five sums of the vectors' gradients. -/
def g5 (P : Par) (X T : Blk) : Fin 8 → Row := fun k j =>
  match k with
  | 0 => ∑ i, gGate P (X i) (T i) j
  | 1 => ∑ i, gPost P (X i) (T i) j
  | 2 => ∑ i, gScale P (X i) (T i) j
  | 3 => ∑ i, gShift P (X i) (T i) j
  | 4 => ∑ i, gPre P (X i) (T i) j
  | _ => 0

theorem upd5 (A : Fin 8 → Row) (P : Par) (X T : Blk) :
    Function.update (Function.update (Function.update (Function.update (Function.update A
      0 fun j => A 0 j + ∑ i, gGate P (X i) (T i) j)
      1 fun j => A 1 j + ∑ i, gPost P (X i) (T i) j)
      2 fun j => A 2 j + ∑ i, gScale P (X i) (T i) j)
      3 fun j => A 3 j + ∑ i, gShift P (X i) (T i) j)
      4 (fun j => A 4 j + ∑ i, gPre P (X i) (T i) j) = fun k j => A k j + g5 P X T k j := by
  funext k j
  fin_cases k <;> simp [g5, Function.update]

/-- A load of the whole of a buffer that one store filled. -/
theorem rd_fill {n m : ℕ} {e : EltTy} (v : View sig .tc .vmem ⟨2, ![n, m]⟩ e) (w : Vec Ideal ⟨2, ![n, m]⟩ e) (inb) :
    v.readCov [(⟨Rect.unit ![0, 0] ![n, m] inb, w⟩ : View.Piece (Elt Ideal) ⟨2, ![n, m]⟩ e)] (Rect.unit ![0, 0] ![n, m] inb).toLoadRect = w :=
  View.readCov_unit_zero (S := ⟨2, ![n, m]⟩) v (by funext d; match d with | ⟨0, _⟩ => rfl | ⟨1, _⟩ => rfl) inb w

/-- A buffer after one copy into the whole. -/
theorem st_whole {n m : ℕ} {e : EltTy} (v : View sig .tc .vmem ⟨2, ![n, m]⟩ e) (f) (w : Vec Ideal ⟨2, ![n, m]⟩ e) :
    v.read (Elt Ideal) (v.writes (Elt Ideal) f [(⟨Rect.whole ⟨2, ![n, m]⟩, w⟩ : View.Piece (Elt Ideal) ⟨2, ![n, m]⟩ e)]) = w := by
  funext y
  exact View.read_writes_cons_unit_of_mem v f _ w [] y y rfl fun a => (Nat.zero_add _).symm

end Cert.Point

end
-- ==== Proof.WordsA.lean ====
/- The named values of the kernel body at the first point of the grid, on lifted arrays of reals. -/
module

public import Idealize.ShloMosaic.Lib.WritesUnit
public import Idealize.ShloMosaic.Lib.Pipeline.ReadBack
public import proofs.«01_k».proof.Proof.Reads

@[expose] public section

set_option maxRecDepth 16384

noncomputable section

namespace Cert.Point

open Idealize.ShloMosaic Idealize.ShloMosaic.Pipeline Idealize.SL.Sem Cert.KernelIdeal Cert.KernelIdeal.Gen Cert.Lift Cert.Ffn Cert.Block

variable {c : Dev nD} {X T : Blk} {V : Fin 16 → Row} {Wg Wu Wd : W8}

theorem A_v30 {arg15 : Memref sig .tc .vmem S2816x1024 .bf16} {fh0 : HbBuf0 (F := Ideal) c hbM0_0} (h0 : View.read (Elt Ideal) (Memref.whole main_v3).view fh0 = L2 (φ := .bf16) Wg) :
    kernelRun0_A.sl.v30 (F := Ideal) c arg15 fh0 = L2 (φ := .bf16) Wg := by
  unfold kernelRun0_A.sl.v30
  refine (rd_copy arg15.view (kernelRun0_A.sl.dma0 (F := Ideal) c fh0) _).trans ?_
  unfold kernelRun0_A.sl.dma0
  exact h0

theorem A_v32 {arg16 : Memref sig .tc .vmem S2816x1024 .bf16} {fh1 : HbBuf0 (F := Ideal) c hbM0_1} (h1 : View.read (Elt Ideal) (Memref.whole main_v5).view fh1 = L2 (φ := .bf16) Wu) :
    kernelRun0_A.sl.v32 (F := Ideal) c arg16 fh1 = L2 (φ := .bf16) Wu := by
  unfold kernelRun0_A.sl.v32
  refine (rd_copy arg16.view (kernelRun0_A.sl.dma0_1 (F := Ideal) c fh1) _).trans ?_
  unfold kernelRun0_A.sl.dma0_1
  exact h1

theorem A_v45 {arg17 : Memref sig .tc .vmem S2816x1024 .bf16} {fh2 : HbBuf0 (F := Ideal) c hbM0_2} (h2 : View.read (Elt Ideal) (Memref.whole main_v6).view fh2 = L2 (φ := .bf16) Wd) :
    kernelRun0_A.sl.v45 (F := Ideal) c arg17 fh2 = L2 (φ := .bf16) Wd := by
  unfold kernelRun0_A.sl.v45
  refine (rd_copy arg17.view (kernelRun0_A.sl.dma0_2 (F := Ideal) c fh2) _).trans ?_
  unfold kernelRun0_A.sl.dma0_2
  exact h2

theorem A_r {arg1 : Memref sig .tc .vmem S256x1024 .f32} (harg1 : arg1.IsWhole)   :
    kernelRun0_A.sl.r (F := Ideal) c arg1 harg1 (L2 (φ := .f32) X)
      = L2 (φ := .f32) X := by
  unfold kernelRun0_A.sl.r
  exact rd_all harg1 _ _

theorem A_r_1 {arg1 : Memref sig .tc .vmem S256x1024 .f32} (harg1 : arg1.IsWhole)   :
    kernelRun0_A.sl.r_1 (F := Ideal) c arg1 harg1 (L2 (φ := .f32) X)
      = L2 (φ := .f32) fun i _ => rs (X i) := by
  unfold kernelRun0_A.sl.r_1
  exact (congrArg (k0_pay7 (F := Ideal)) (rd_all harg1 _ _)).trans
    (pay7 X)

theorem A_r_2 {arg1 : Memref sig .tc .vmem S256x1024 .f32} (harg1 : arg1.IsWhole)   :
    kernelRun0_A.sl.r_2 (F := Ideal) c arg1 harg1 (L2 (φ := .f32) X)
      = L2 (φ := .f32) fun i => hat (X i) := by
  unfold kernelRun0_A.sl.r_2
  exact (congrArg (k0_pay8 (F := Ideal)) (rd_all harg1 _ _)).trans
    (pay8 X)

theorem A_r_3 {arg1 : Memref sig .tc .vmem S256x1024 .f32} (harg1 : arg1.IsWhole) {arg3 : Memref sig .tc .vmem S16x1024 .f32} (harg3 : arg3.IsWhole)   :
    kernelRun0_A.sl.r_3 (F := Ideal) c arg1 harg1 arg3 harg3 (L2 (φ := .f32) X) (L2 (φ := .f32) V)
      = L2 (φ := .f32) fun i => xn (par V Wg Wu Wd) (X i) := by
  unfold kernelRun0_A.sl.r_3
  exact (congr (congrArg (k0_pay9 (F := Ideal)) (rd_all harg1 _ _)) (rd_row harg3 V 8 (by decide) _)).trans
    (pay9 (par V Wg Wu Wd) X)

theorem A_r_4 {arg1 : Memref sig .tc .vmem S256x1024 .f32} (harg1 : arg1.IsWhole) {arg3 : Memref sig .tc .vmem S16x1024 .f32} (harg3 : arg3.IsWhole) {arg15 : Memref sig .tc .vmem S2816x1024 .bf16} {fh0 : HbBuf0 (F := Ideal) c hbM0_0} (h0 : View.read (Elt Ideal) (Memref.whole main_v3).view fh0 = L2 (φ := .bf16) Wg) :
    kernelRun0_A.sl.r_4 (F := Ideal) c arg1 harg1 arg3 harg3 arg15 (L2 (φ := .f32) X) (L2 (φ := .f32) V) fh0
      = L2 (φ := .f32) fun i => pa (par V Wg Wu Wd) (X i) := by
  unfold kernelRun0_A.sl.r_4
  exact (congr (congr (congr (congr (congrArg (k0_pay11 (F := Ideal)) (rd_all harg1 _ _)) (rd_row harg3 V 8 (by decide) _)) (rd_row harg3 V 4 (by decide) _)) (rd_row harg3 V 3 (by decide) _)) (A_v30 h0)).trans
    (pay11 (par V Wg Wu Wd) X)

theorem A_r_5 {arg1 : Memref sig .tc .vmem S256x1024 .f32} (harg1 : arg1.IsWhole) {arg3 : Memref sig .tc .vmem S16x1024 .f32} (harg3 : arg3.IsWhole) {arg16 : Memref sig .tc .vmem S2816x1024 .bf16} {fh1 : HbBuf0 (F := Ideal) c hbM0_1} (h1 : View.read (Elt Ideal) (Memref.whole main_v5).view fh1 = L2 (φ := .bf16) Wu) :
    kernelRun0_A.sl.r_5 (F := Ideal) c arg1 harg1 arg3 harg3 arg16 (L2 (φ := .f32) X) (L2 (φ := .f32) V) fh1
      = L2 (φ := .f32) fun i => pu (par V Wg Wu Wd) (X i) := by
  unfold kernelRun0_A.sl.r_5
  exact (congr (congr (congr (congr (congrArg (k0_pay12 (F := Ideal)) (rd_all harg1 _ _)) (rd_row harg3 V 8 (by decide) _)) (rd_row harg3 V 4 (by decide) _)) (rd_row harg3 V 3 (by decide) _)) (A_v32 h1)).trans
    (pay12 (par V Wg Wu Wd) X)

theorem A_r_6 {arg1 : Memref sig .tc .vmem S256x1024 .f32} (harg1 : arg1.IsWhole) {arg3 : Memref sig .tc .vmem S16x1024 .f32} (harg3 : arg3.IsWhole) {arg15 : Memref sig .tc .vmem S2816x1024 .bf16} {fh0 : HbBuf0 (F := Ideal) c hbM0_0} (h0 : View.read (Elt Ideal) (Memref.whole main_v3).view fh0 = L2 (φ := .bf16) Wg) :
    kernelRun0_A.sl.r_6 (F := Ideal) c arg1 harg1 arg3 harg3 arg15 (L2 (φ := .f32) X) (L2 (φ := .f32) V) fh0
      = L2 (φ := .f32) fun i k => sig (pa (par V Wg Wu Wd) (X i) k) := by
  unfold kernelRun0_A.sl.r_6
  exact (congr (congrArg (k0_pay13 (F := Ideal)) (A_r_4 (c := c) (X := X) (V := V) (Wg := Wg) (Wu := Wu) (Wd := Wd) harg1 harg3 h0)) rfl).trans
    (pay13 fun i => pa (par V Wg Wu Wd) (X i))

theorem A_r_7 {arg1 : Memref sig .tc .vmem S256x1024 .f32} (harg1 : arg1.IsWhole) {arg3 : Memref sig .tc .vmem S16x1024 .f32} (harg3 : arg3.IsWhole) {arg15 : Memref sig .tc .vmem S2816x1024 .bf16} {fh0 : HbBuf0 (F := Ideal) c hbM0_0} (h0 : View.read (Elt Ideal) (Memref.whole main_v3).view fh0 = L2 (φ := .bf16) Wg) :
    kernelRun0_A.sl.r_7 (F := Ideal) c arg1 harg1 arg3 harg3 arg15 (L2 (φ := .f32) X) (L2 (φ := .f32) V) fh0
      = L2 (φ := .f32) fun i => sil (par V Wg Wu Wd) (X i) := by
  unfold kernelRun0_A.sl.r_7
  exact (congr (congrArg (k0_pay14 (F := Ideal)) (A_r_4 (c := c) (X := X) (V := V) (Wg := Wg) (Wu := Wu) (Wd := Wd) harg1 harg3 h0)) rfl).trans
    (pay14 (par V Wg Wu Wd) X)

theorem A_r_8 {arg1 : Memref sig .tc .vmem S256x1024 .f32} (harg1 : arg1.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.r_8 (F := Ideal) c arg1 harg1 arg3 harg3 arg15 arg16 arg17 (L2 (φ := .f32) X) (L2 (φ := .f32) V) fh0 fh1 fh2
      = L2 (φ := .f32) fun i _ => rs (ff (par V Wg Wu Wd) (X i)) := by
  unfold kernelRun0_A.sl.r_8
  exact (congr (congr (congr (congrArg (k0_pay17 (F := Ideal)) (A_r_4 (c := c) (X := X) (V := V) (Wg := Wg) (Wu := Wu) (Wd := Wd) harg1 harg3 h0)) (A_r_5 (c := c) (X := X) (V := V) (Wg := Wg) (Wu := Wu) (Wd := Wd) harg1 harg3 h1)) rfl) (A_v45 h2)).trans
    (pay17 (par V Wg Wu Wd) X)

theorem A_r_9 {arg1 : Memref sig .tc .vmem S256x1024 .f32} (harg1 : arg1.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.r_9 (F := Ideal) c arg1 harg1 arg3 harg3 arg15 arg16 arg17 (L2 (φ := .f32) X) (L2 (φ := .f32) V) fh0 fh1 fh2
      = L2 (φ := .f32) fun i => hat (ff (par V Wg Wu Wd) (X i)) := by
  unfold kernelRun0_A.sl.r_9
  exact (congr (congr (congr (congrArg (k0_pay18 (F := Ideal)) (A_r_4 (c := c) (X := X) (V := V) (Wg := Wg) (Wu := Wu) (Wd := Wd) harg1 harg3 h0)) (A_r_5 (c := c) (X := X) (V := V) (Wg := Wg) (Wu := Wu) (Wd := Wd) harg1 harg3 h1)) rfl) (A_v45 h2)).trans
    (pay18 (par V Wg Wu Wd) X)

theorem A_r_10 {arg1 : Memref sig .tc .vmem S256x1024 .f32} (harg1 : arg1.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.r_10 (F := Ideal) c arg1 harg1 arg3 harg3 arg15 arg16 arg17 (L2 (φ := .f32) X) (L2 (φ := .f32) V) fh0 fh1 fh2
      = L2 (φ := .f32) fun i => n4 (par V Wg Wu Wd) (X i) := by
  unfold kernelRun0_A.sl.r_10
  exact (congr (congr (congr (congr (congrArg (k0_pay19 (F := Ideal)) (A_r_4 (c := c) (X := X) (V := V) (Wg := Wg) (Wu := Wu) (Wd := Wd) harg1 harg3 h0)) (A_r_5 (c := c) (X := X) (V := V) (Wg := Wg) (Wu := Wu) (Wd := Wd) harg1 harg3 h1)) rfl) (A_v45 h2)) (rd_row harg3 V 9 (by decide) _)).trans
    (pay19 (par V Wg Wu Wd) X)

theorem A_r_11 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.r_11 (F := Ideal) c arg1 harg1 arg2 harg2 arg3 harg3 arg15 arg16 arg17 (L2 (φ := .f32) X) (L2 (φ := .f32) T) (L2 (φ := .f32) V) fh0 fh1 fh2
      = L2 (φ := .f32) fun i => err (par V Wg Wu Wd) (X i) (T i) := by
  unfold kernelRun0_A.sl.r_11
  exact (congr (congr (congr (congr (congr (congr (congr (congrArg (k0_pay20 (F := Ideal)) (A_r (c := c) (X := X) harg1)) (A_r_4 (c := c) (X := X) (V := V) (Wg := Wg) (Wu := Wu) (Wd := Wd) harg1 harg3 h0)) (A_r_5 (c := c) (X := X) (V := V) (Wg := Wg) (Wu := Wu) (Wd := Wd) harg1 harg3 h1)) rfl) (A_v45 h2)) (rd_row harg3 V 9 (by decide) _)) (rd_row harg3 V 5 (by decide) _)) (rd_all harg2 _ _)).trans
    (pay20 (par V Wg Wu Wd) X T)

theorem A_r_14 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.r_14 (F := Ideal) c arg1 harg1 arg2 harg2 arg3 harg3 arg15 arg16 arg17 (L2 (φ := .f32) X) (L2 (φ := .f32) T) (L2 (φ := .f32) V) fh0 fh1 fh2
      = L2 (φ := .f32) fun i => dy (par V Wg Wu Wd) (X i) (T i) := by
  unfold kernelRun0_A.sl.r_14
  exact (congrArg (k0_pay24 (F := Ideal)) (A_r_11 (c := c) (X := X) (T := T) (V := V) (Wg := Wg) (Wu := Wu) (Wd := Wd) harg1 harg2 harg3 h0 h1 h2)).trans
    (pay24 (par V Wg Wu Wd) X T)

theorem A_r_15 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.r_15 (F := Ideal) c arg1 harg1 arg2 harg2 arg3 harg3 arg15 arg16 arg17 (L2 (φ := .f32) X) (L2 (φ := .f32) T) (L2 (φ := .f32) V) fh0 fh1 fh2
      = L2 (φ := .f32) fun i => cen (hat (ff (par V Wg Wu Wd) (X i))) (dfh (par V Wg Wu Wd) (X i) (T i)) := by
  unfold kernelRun0_A.sl.r_15
  exact (congr (congr (congr (congrArg (k0_pay28 (F := Ideal)) (A_r_9 (c := c) (X := X) (V := V) (Wg := Wg) (Wu := Wu) (Wd := Wd) harg1 harg3 h0 h1 h2)) (A_r_11 (c := c) (X := X) (T := T) (V := V) (Wg := Wg) (Wu := Wu) (Wd := Wd) harg1 harg2 harg3 h0 h1 h2)) (rd_row harg3 V 5 (by decide) _)) (rd_row harg3 V 9 (by decide) _)).trans
    (pay28 (par V Wg Wu Wd) X T)

theorem A_r_16 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.r_16 (F := Ideal) c arg1 harg1 arg2 harg2 arg3 harg3 arg15 arg16 arg17 (L2 (φ := .f32) X) (L2 (φ := .f32) T) (L2 (φ := .f32) V) fh0 fh1 fh2
      = L2 (φ := .f32) fun i => dh2 (par V Wg Wu Wd) (X i) (T i) := by
  unfold kernelRun0_A.sl.r_16
  exact (congr (congr (congr (congr (congr (congr (congr (congr (congrArg (k0_pay33 (F := Ideal)) (A_r_4 (c := c) (X := X) (V := V) (Wg := Wg) (Wu := Wu) (Wd := Wd) harg1 harg3 h0)) (A_r_5 (c := c) (X := X) (V := V) (Wg := Wg) (Wu := Wu) (Wd := Wd) harg1 harg3 h1)) (A_r_6 (c := c) (X := X) (V := V) (Wg := Wg) (Wu := Wu) (Wd := Wd) harg1 harg3 h0)) (A_r_7 (c := c) (X := X) (V := V) (Wg := Wg) (Wu := Wu) (Wd := Wd) harg1 harg3 h0)) (A_r_8 (c := c) (X := X) (V := V) (Wg := Wg) (Wu := Wu) (Wd := Wd) harg1 harg3 h0 h1 h2)) (A_r_15 (c := c) (X := X) (T := T) (V := V) (Wg := Wg) (Wu := Wu) (Wd := Wd) harg1 harg2 harg3 h0 h1 h2)) (A_v45 h2)) (A_v30 h0)) (A_v32 h1)).trans
    (pay33 (par V Wg Wu Wd) X T)

theorem A_r_13 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) (j : S1x1x1.Idx) :
    kernelRun0_A.sl.r_13 (F := Ideal) c arg1 harg1 arg2 harg2 arg3 harg3 arg15 arg16 arg17 (L2 (φ := .f32) X) (L2 (φ := .f32) T) (L2 (φ := .f32) V) fh0 fh1 fh2 j
      = ((∑ r, sq (par V Wg Wu Wd) (X r) (T r) : ℝ) : EReal) := by
  unfold kernelRun0_A.sl.r_13
  exact (congrFun (congr (congr (congr (congr (congr (congr (congr (congrArg (k0_pay22 (F := Ideal)) (A_r (c := c) (X := X) harg1)) (A_r_4 (c := c) (X := X) (V := V) (Wg := Wg) (Wu := Wu) (Wd := Wd) harg1 harg3 h0)) (A_r_5 (c := c) (X := X) (V := V) (Wg := Wg) (Wu := Wu) (Wd := Wd) harg1 harg3 h1)) rfl) (A_v45 h2)) (rd_row harg3 V 9 (by decide) _)) (rd_row harg3 V 5 (by decide) _)) (rd_all harg2 _ _)) j).trans
    (pay22 (par V Wg Wu Wd) X T j)

end Cert.Point

end
-- ==== Proof.PointA.lean ====
/- What the first point of the grid leaves in the staging buffers, on lifted arrays of reals. -/
module

public import Idealize.ShloMosaic.Lib.WritesUnit
public import Idealize.ShloMosaic.Lib.Pipeline.ReadBack
public import proofs.«01_k».proof.Proof.WordsA
public import proofs.«01_k».proof.Proof.Gen.KernelIdeal.Value

@[expose] public section

set_option maxRecDepth 16384

noncomputable section

namespace Cert.Point

open Idealize.ShloMosaic Idealize.ShloMosaic.Pipeline Idealize.SL.Sem Cert.KernelIdeal Cert.KernelIdeal.Gen Cert.Lift Cert.Ffn Cert.Block

theorem outA_3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    out0_A_3 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) fh0 fh1 fh2
      = L2 (φ := .f32) fun i => dx (par V Wg Wu Wd) (X i) (T i) := by
  unfold out0_A_3 kernelRun0_A
  dsimp only
  refine (st_all VO0_3 _ _ _ _).trans ?_
  exact (congr (congr (congr (congr (congr (congrArg (k0_pay4 (F := Ideal)) (A_r_1 (c := c) (X := X) harg1)) (A_r_2 (c := c) (X := X) harg1)) (A_r_14 (c := c) (X := X) (T := T) (V := V) (Wg := Wg) (Wu := Wu) (Wd := Wd) harg1 harg2 harg3 h0 h1 h2)) (A_r_16 (c := c) (X := X) (T := T) (V := V) (Wg := Wg) (Wu := Wu) (Wd := Wd) harg1 harg2 harg3 h0 h1 h2)) (rd_row harg3 V 4 (by decide) _)) (rd_row harg3 V 8 (by decide) _)).trans
    (pay4 (par V Wg Wu Wd) X T)

theorem outA_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    out0_A_4 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) fh0 fh1 fh2
      = L2 (φ := .bf16) fun i => Ffn.h2 (par V Wg Wu Wd) (X i) := by
  unfold out0_A_4 kernelRun0_A
  dsimp only
  refine (st_all VO0_4 _ _ _ _).trans ?_
  exact (congr (congr (congr (congrArg (k0_pay10 (F := Ideal)) (rd_all harg1 _ _)) (rd_row harg3 V 8 (by decide) _)) (rd_row harg3 V 4 (by decide) _)) (rd_row harg3 V 3 (by decide) _)).trans
    (pay10 (par V Wg Wu Wd) X)

theorem outA_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    out0_A_5 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) fh0 fh1 fh2
      = L2 (φ := .bf16) fun i => hid (par V Wg Wu Wd) (X i) := by
  unfold out0_A_5 kernelRun0_A
  dsimp only
  refine (st_all VO0_5 _ _ _ _).trans ?_
  exact (congr (congr (congrArg (k0_pay15 (F := Ideal)) (A_r_4 (c := c) (X := X) (V := V) (Wg := Wg) (Wu := Wu) (Wd := Wd) harg1 harg3 h0)) (A_r_5 (c := c) (X := X) (V := V) (Wg := Wg) (Wu := Wu) (Wd := Wd) harg1 harg3 h1)) rfl).trans
    (pay15 (par V Wg Wu Wd) X)

theorem outA_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    out0_A_6 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) fh0 fh1 fh2
      = L2 (φ := .bf16) fun i => da (par V Wg Wu Wd) (X i) (T i) := by
  unfold out0_A_6 kernelRun0_A
  dsimp only
  refine (st_all VO0_6 _ _ _ _).trans ?_
  exact (congr (congr (congr (congr (congr (congrArg (k0_pay32 (F := Ideal)) (A_r_4 (c := c) (X := X) (V := V) (Wg := Wg) (Wu := Wu) (Wd := Wd) harg1 harg3 h0)) (A_r_5 (c := c) (X := X) (V := V) (Wg := Wg) (Wu := Wu) (Wd := Wd) harg1 harg3 h1)) (A_r_6 (c := c) (X := X) (V := V) (Wg := Wg) (Wu := Wu) (Wd := Wd) harg1 harg3 h0)) (A_r_8 (c := c) (X := X) (V := V) (Wg := Wg) (Wu := Wu) (Wd := Wd) harg1 harg3 h0 h1 h2)) (A_r_15 (c := c) (X := X) (T := T) (V := V) (Wg := Wg) (Wu := Wu) (Wd := Wd) harg1 harg2 harg3 h0 h1 h2)) (A_v45 h2)).trans
    (pay32 (par V Wg Wu Wd) X T)

theorem outA_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    out0_A_7 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) fh0 fh1 fh2
      = L2 (φ := .bf16) fun i => du (par V Wg Wu Wd) (X i) (T i) := by
  unfold out0_A_7 kernelRun0_A
  dsimp only
  refine (st_all VO0_7 _ _ _ _).trans ?_
  exact (congr (congr (congr (congrArg (k0_pay31 (F := Ideal)) (A_r_7 (c := c) (X := X) (V := V) (Wg := Wg) (Wu := Wu) (Wd := Wd) harg1 harg3 h0)) (A_r_8 (c := c) (X := X) (V := V) (Wg := Wg) (Wu := Wu) (Wd := Wd) harg1 harg3 h0 h1 h2)) (A_r_15 (c := c) (X := X) (T := T) (V := V) (Wg := Wg) (Wu := Wu) (Wd := Wd) harg1 harg2 harg3 h0 h1 h2)) (A_v45 h2)).trans
    (pay31 (par V Wg Wu Wd) X T)

theorem outA_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    out0_A_8 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) fh0 fh1 fh2
      = L2 (φ := .bf16) fun i => dff (par V Wg Wu Wd) (X i) (T i) := by
  unfold out0_A_8 kernelRun0_A
  dsimp only
  refine (st_all VO0_8 _ _ _ _).trans ?_
  exact (congr (congrArg (k0_pay29 (F := Ideal)) (A_r_8 (c := c) (X := X) (V := V) (Wg := Wg) (Wu := Wu) (Wd := Wd) harg1 harg3 h0 h1 h2)) (A_r_15 (c := c) (X := X) (T := T) (V := V) (Wg := Wg) (Wu := Wu) (Wd := Wd) harg1 harg2 harg3 h0 h1 h2)).trans
    (pay29 (par V Wg Wu Wd) X T)

theorem A_r_12 (c : Dev nD) (arg14 : Memref sig .tc .vmem S8x128 .f32) :
    kernelRun0_A.sl.r_12 (F := Ideal) c arg14 = L2 (φ := .f32) fun _ _ => 0 := by
  unfold kernelRun0_A.sl.r_12 kernelRun0_A.sl.v68 kernelRun0_A.sl.H10_1
  exact (congrArg (k0_pay21 (F := Ideal)) ((rd_fill arg14.view _ _).trans pay6)).trans (pay21 _)

theorem outA_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    out0_A_10 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) fh0 fh1 fh2
      = L2 (φ := .f32) fun a b => (fun _ _ => 0) a b + (∑ r, sq (par V Wg Wu Wd) (X r) (T r)) * (1 / 2048) := by
  unfold out0_A_10 kernelRun0_A
  dsimp only
  refine (st_all VO0_10 _ _ _ _).trans ?_
  exact (congrArg (fun z => k0_pay23 (F := Ideal) z _) (A_r_12 c arg14)).trans
    (pay23 _ (fun _ _ => 0) _ fun j => A_r_13 (c := c) (X := X) (T := T) (V := V) (Wg := Wg) (Wu := Wu) (Wd := Wd) harg1 harg2 harg3 h0 h1 h2 j)

abbrev zer : Fin 8 → Row := fun _ _ => 0

theorem H9_1 (v : View sig .tc .vmem S8x1024 .f32) :
    v.read (Elt Ideal) (v.writes (Elt Ideal) v.junk (kernelRun0_A.sl.H9_1 (F := Ideal))) = L2 (φ := .f32) zer := by
  unfold kernelRun0_A.sl.H9_1
  exact (st_all v _ _ _ _).trans pay5

theorem A_v81 (c : Dev nD) (arg13 : Memref sig .tc .vmem S8x1024 .f32) :
    kernelRun0_A.sl.v81 (F := Ideal) c arg13 = row (φ := .f32) (zer 0) := by
  unfold kernelRun0_A.sl.v81
  refine (rd_cov arg13.view _ _ (H9_1 _) 0 (by decide) _).trans ?_
  refine congrArg row ?_
  funext j
  simp [Function.update]

theorem H9_2 (c : Dev nD) {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} (arg13 : Memref sig .tc .vmem S8x1024 .f32) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) (v : View sig .tc .vmem S8x1024 .f32) :
    v.read (Elt Ideal) (v.writes (Elt Ideal) v.junk (kernelRun0_A.sl.H9_2 (F := Ideal) c arg1 harg1 arg2 harg2 arg3 harg3 arg13 arg15 arg16 arg17 (L2 (φ := .f32) X) (L2 (φ := .f32) T) (L2 (φ := .f32) V) fh0 fh1 fh2))
      = L2 (φ := .f32) (Function.update zer 0 fun j => zer 0 j + ∑ i, gGate (par V Wg Wu Wd) (X i) (T i) j) := by
  unfold kernelRun0_A.sl.H9_2
  refine st_row v _ _ _ (H9_1 _) 0 _ _ _ ?_
  exact (congr (congr (congrArg (k0_pay25 (F := Ideal)) (A_r_10 (c := c) (X := X) (V := V) (Wg := Wg) (Wu := Wu) (Wd := Wd) harg1 harg3 h0 h1 h2)) (A_r_11 (c := c) (X := X) (T := T) (V := V) (Wg := Wg) (Wu := Wu) (Wd := Wd) harg1 harg2 harg3 h0 h1 h2)) (A_v81 c arg13)).trans
    (pay25 (par V Wg Wu Wd) X T (zer 0))

theorem A_v92 (c : Dev nD) {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} (arg13 : Memref sig .tc .vmem S8x1024 .f32) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.v92 (F := Ideal) c arg1 harg1 arg2 harg2 arg3 harg3 arg13 arg15 arg16 arg17 (L2 (φ := .f32) X) (L2 (φ := .f32) T) (L2 (φ := .f32) V) fh0 fh1 fh2 = row (φ := .f32) (zer 1) := by
  unfold kernelRun0_A.sl.v92
  refine (rd_cov arg13.view _ _ (H9_2 c harg1 harg2 harg3 arg13 X T V Wg Wu Wd h0 h1 h2 _) 1 (by decide) _).trans ?_
  refine congrArg row ?_
  funext j
  simp [Function.update]

theorem H9_3 (c : Dev nD) {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} (arg13 : Memref sig .tc .vmem S8x1024 .f32) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) (v : View sig .tc .vmem S8x1024 .f32) :
    v.read (Elt Ideal) (v.writes (Elt Ideal) v.junk (kernelRun0_A.sl.H9_3 (F := Ideal) c arg1 harg1 arg2 harg2 arg3 harg3 arg13 arg15 arg16 arg17 (L2 (φ := .f32) X) (L2 (φ := .f32) T) (L2 (φ := .f32) V) fh0 fh1 fh2))
      = L2 (φ := .f32) (Function.update (Function.update zer 0 fun j => zer 0 j + ∑ i, gGate (par V Wg Wu Wd) (X i) (T i) j) 1 fun j => zer 1 j + ∑ i, gPost (par V Wg Wu Wd) (X i) (T i) j) := by
  unfold kernelRun0_A.sl.H9_3
  refine st_row v _ _ _ (H9_2 c harg1 harg2 harg3 arg13 X T V Wg Wu Wd h0 h1 h2 _) 1 _ _ _ ?_
  exact (congr (congr (congr (congrArg (k0_pay27 (F := Ideal)) (A_r_9 (c := c) (X := X) (V := V) (Wg := Wg) (Wu := Wu) (Wd := Wd) harg1 harg3 h0 h1 h2)) (A_r_11 (c := c) (X := X) (T := T) (V := V) (Wg := Wg) (Wu := Wu) (Wd := Wd) harg1 harg2 harg3 h0 h1 h2)) (rd_row harg3 V 5 (by decide) _)) (A_v92 c harg1 harg2 harg3 arg13 X T V Wg Wu Wd h0 h1 h2)).trans
    (pay27 (par V Wg Wu Wd) X T (zer 1))

theorem A_v135 (c : Dev nD) {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} (arg13 : Memref sig .tc .vmem S8x1024 .f32) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.v135 (F := Ideal) c arg1 harg1 arg2 harg2 arg3 harg3 arg13 arg15 arg16 arg17 (L2 (φ := .f32) X) (L2 (φ := .f32) T) (L2 (φ := .f32) V) fh0 fh1 fh2 = row (φ := .f32) (zer 2) := by
  unfold kernelRun0_A.sl.v135
  refine (rd_cov arg13.view _ _ (H9_3 c harg1 harg2 harg3 arg13 X T V Wg Wu Wd h0 h1 h2 _) 2 (by decide) _).trans ?_
  refine congrArg row ?_
  funext j
  simp [Function.update]

theorem H9_4 (c : Dev nD) {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} (arg13 : Memref sig .tc .vmem S8x1024 .f32) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) (v : View sig .tc .vmem S8x1024 .f32) :
    v.read (Elt Ideal) (v.writes (Elt Ideal) v.junk (kernelRun0_A.sl.H9_4 (F := Ideal) c arg1 harg1 arg2 harg2 arg3 harg3 arg13 arg15 arg16 arg17 (L2 (φ := .f32) X) (L2 (φ := .f32) T) (L2 (φ := .f32) V) fh0 fh1 fh2))
      = L2 (φ := .f32) (Function.update (Function.update (Function.update zer 0 fun j => zer 0 j + ∑ i, gGate (par V Wg Wu Wd) (X i) (T i) j) 1 fun j => zer 1 j + ∑ i, gPost (par V Wg Wu Wd) (X i) (T i) j) 2 fun j => zer 2 j + ∑ i, gScale (par V Wg Wu Wd) (X i) (T i) j) := by
  unfold kernelRun0_A.sl.H9_4
  refine st_row v _ _ _ (H9_3 c harg1 harg2 harg3 arg13 X T V Wg Wu Wd h0 h1 h2 _) 2 _ _ _ ?_
  exact (congr (congr (congr (congr (congr (congr (congr (congr (congr (congr (congrArg (k0_pay34 (F := Ideal)) (A_r_3 (c := c) (X := X) (V := V) (Wg := Wg) (Wu := Wu) (Wd := Wd) harg1 harg3)) (A_r_4 (c := c) (X := X) (V := V) (Wg := Wg) (Wu := Wu) (Wd := Wd) harg1 harg3 h0)) (A_r_5 (c := c) (X := X) (V := V) (Wg := Wg) (Wu := Wu) (Wd := Wd) harg1 harg3 h1)) (A_r_6 (c := c) (X := X) (V := V) (Wg := Wg) (Wu := Wu) (Wd := Wd) harg1 harg3 h0)) (A_r_7 (c := c) (X := X) (V := V) (Wg := Wg) (Wu := Wu) (Wd := Wd) harg1 harg3 h0)) (A_r_8 (c := c) (X := X) (V := V) (Wg := Wg) (Wu := Wu) (Wd := Wd) harg1 harg3 h0 h1 h2)) (A_r_15 (c := c) (X := X) (T := T) (V := V) (Wg := Wg) (Wu := Wu) (Wd := Wd) harg1 harg2 harg3 h0 h1 h2)) (A_v45 h2)) (A_v30 h0)) (A_v32 h1)) (A_v135 c harg1 harg2 harg3 arg13 X T V Wg Wu Wd h0 h1 h2)).trans
    (pay34 (par V Wg Wu Wd) X T (zer 2))

theorem A_v142 (c : Dev nD) {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} (arg13 : Memref sig .tc .vmem S8x1024 .f32) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.v142 (F := Ideal) c arg1 harg1 arg2 harg2 arg3 harg3 arg13 arg15 arg16 arg17 (L2 (φ := .f32) X) (L2 (φ := .f32) T) (L2 (φ := .f32) V) fh0 fh1 fh2 = row (φ := .f32) (zer 3) := by
  unfold kernelRun0_A.sl.v142
  refine (rd_cov arg13.view _ _ (H9_4 c harg1 harg2 harg3 arg13 X T V Wg Wu Wd h0 h1 h2 _) 3 (by decide) _).trans ?_
  refine congrArg row ?_
  funext j
  simp [Function.update]

theorem H9_5 (c : Dev nD) {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} (arg13 : Memref sig .tc .vmem S8x1024 .f32) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) (v : View sig .tc .vmem S8x1024 .f32) :
    v.read (Elt Ideal) (v.writes (Elt Ideal) v.junk (kernelRun0_A.sl.H9_5 (F := Ideal) c arg1 harg1 arg2 harg2 arg3 harg3 arg13 arg15 arg16 arg17 (L2 (φ := .f32) X) (L2 (φ := .f32) T) (L2 (φ := .f32) V) fh0 fh1 fh2))
      = L2 (φ := .f32) (Function.update (Function.update (Function.update (Function.update zer 0 fun j => zer 0 j + ∑ i, gGate (par V Wg Wu Wd) (X i) (T i) j) 1 fun j => zer 1 j + ∑ i, gPost (par V Wg Wu Wd) (X i) (T i) j) 2 fun j => zer 2 j + ∑ i, gScale (par V Wg Wu Wd) (X i) (T i) j) 3 fun j => zer 3 j + ∑ i, gShift (par V Wg Wu Wd) (X i) (T i) j) := by
  unfold kernelRun0_A.sl.H9_5
  refine st_row v _ _ _ (H9_4 c harg1 harg2 harg3 arg13 X T V Wg Wu Wd h0 h1 h2 _) 3 _ _ _ ?_
  exact (congr (congrArg (k0_pay1 (F := Ideal)) (A_r_16 (c := c) (X := X) (T := T) (V := V) (Wg := Wg) (Wu := Wu) (Wd := Wd) harg1 harg2 harg3 h0 h1 h2)) (A_v142 c harg1 harg2 harg3 arg13 X T V Wg Wu Wd h0 h1 h2)).trans
    (pay1 (par V Wg Wu Wd) X T (zer 3))

theorem A_v154 (c : Dev nD) {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} {arg16 : Memref sig .tc .vmem S2816x1024 .bf16} {arg17 : Memref sig .tc .vmem S2816x1024 .bf16} (arg13 : Memref sig .tc .vmem S8x1024 .f32) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    kernelRun0_A.sl.v154 (F := Ideal) c arg1 harg1 arg2 harg2 arg3 harg3 arg13 arg15 arg16 arg17 (L2 (φ := .f32) X) (L2 (φ := .f32) T) (L2 (φ := .f32) V) fh0 fh1 fh2 = row (φ := .f32) (zer 4) := by
  unfold kernelRun0_A.sl.v154
  refine (rd_cov arg13.view _ _ (H9_5 c harg1 harg2 harg3 arg13 X T V Wg Wu Wd h0 h1 h2 _) 4 (by decide) _).trans ?_
  refine congrArg row ?_
  funext j
  simp [Function.update]

theorem outA_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (X T : Blk) (V : Fin 16 → Row) (Wg Wu Wd : W8) {fh0 : HbBuf0 (F := Ideal) c hbM0_0} {fh1 : HbBuf0 (F := Ideal) c hbM0_1} {fh2 : HbBuf0 (F := Ideal) c hbM0_2} (h0 : View.read (Elt Ideal) (Memref.whole main_v3).view fh0 = L2 (φ := .bf16) Wg) (h1 : View.read (Elt Ideal) (Memref.whole main_v5).view fh1 = L2 (φ := .bf16) Wu) (h2 : View.read (Elt Ideal) (Memref.whole main_v6).view fh2 = L2 (φ := .bf16) Wd) :
    out0_A_9 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) fh0 fh1 fh2
      = L2 (φ := .f32) fun k j => g5 (par V Wg Wu Wd) X T k j := by
  unfold out0_A_9 kernelRun0_A
  dsimp only
  refine (st_row VO0_9 _ _ _ (H9_5 c harg1 harg2 harg3 arg13 X T V Wg Wu Wd h0 h1 h2 _) 4 _ (fun j => zer 4 j + ∑ i, gPre (par V Wg Wu Wd) (X i) (T i) j) _ ?_).trans ?_
  · exact (congr (congr (congr (congrArg (k0_pay3 (F := Ideal)) (A_r_2 (c := c) (X := X) harg1)) (A_r_16 (c := c) (X := X) (T := T) (V := V) (Wg := Wg) (Wu := Wu) (Wd := Wd) harg1 harg2 harg3 h0 h1 h2)) (rd_row harg3 V 4 (by decide) _)) (A_v154 c harg1 harg2 harg3 arg13 X T V Wg Wu Wd h0 h1 h2)).trans
      (pay3 (par V Wg Wu Wd) X T (zer 4))
  · refine congrArg (L2 (φ := .f32)) ((upd5 zer (par V Wg Wu Wd) X T).trans ?_)
    funext k j
    exact zero_add _

end Cert.Point

end
-- ==== Proof.Tile.lean ====
/- A matrix cut into tiles of whole rows: each entry lies in the tile that its row number over the tile's height names. -/
module

public import Idealize.ShloMosaic.Lib.ValueIdx

@[expose] public section

namespace Cert.Tile

open Idealize.ShloMosaic

theorem in_tile {n k : ℕ} (i : (⟨2, ![n, k]⟩ : Shape).Idx) (R : ℕ) {a b : ℕ} (ha : a = (i 0).val / R) (hb : b = 0) (hR : 0 < R := by decide) :
    (a * R ≤ (i 0).val ∧ (i 0).val < a * R + R) ∧ (b * k ≤ (i 1).val ∧ (i 1).val < b * k + k) := by
  have h1 : (i 1).val < k := (i 1).isLt
  subst ha hb
  rw [Nat.zero_mul, Nat.zero_add]
  exact ⟨⟨Nat.div_mul_le_self _ _, Nat.lt_div_mul_add hR⟩, Nat.zero_le _, h1⟩

end Cert.Tile

end
-- ==== Proof.Windows.lean ====
/- The windows' blocks of lifted arrays, and that they cover the arrays. -/
module

public import proofs.«01_k».proof.Proof.Block
public import proofs.«01_k».proof.Proof.Gen.KernelIdeal.Value
public import proofs.«01_k».proof.Proof.Tile

@[expose] public section

set_option maxRecDepth 16384

noncomputable section

namespace Cert.Grid

open Idealize.ShloMosaic Idealize.ShloMosaic.Pipeline Idealize.SL.Sem Cert.KernelIdeal Cert.KernelIdeal.Gen Cert.Lift Cert.Ffn Cert.Block Cert.Tile

/-- Block `n` of 256 rows. -/
def blkN {d : ℕ} (X : Fin 8192 → Fin d → ℝ) (n : ℕ) : Fin 256 → Fin d → ℝ := fun i => X ⟨(256 * n + i.val) % 8192, Nat.mod_lt _ (by decide)⟩

theorem lt32 (t : Fin cfg0.N) : t.val < 32 := Nat.lt_of_lt_of_eq t.isLt N_0

theorem blkN_apply {d : ℕ} (X : Fin 8192 → Fin d → ℝ) (n : ℕ) (i : Fin 256) (r : Fin 8192) (h : r.val = 256 * n + i.val) :
    blkN X n i = X r := by
  unfold blkN
  congr 1
  apply Fin.ext
  show (256 * n + i.val) % 8192 = r.val
  rw [h, Nat.mod_eq_of_lt (h ▸ r.isLt)]

variable (m : (ℓ : Loc nD τ sig) → Buf (Elt Ideal) ℓ) (c : Dev nD)

theorem idx0 : ∀ t : Fin cfg0.N, win0_0.index t 0 = t.val ∧ win0_0.index t 1 = 0 :=
  (by decide +kernel : ∀ t : Fin grid0.N, win0_0.index t 0 = t.val ∧ win0_0.index t 1 = 0)

/-- Window 0's block at point `t` of a lifted array is the array's block of rows `t`. -/
theorem rd0 (A : Fin 8192 → Fin 1024 → ℝ) (t : Fin cfg0.N) :
    ((cfg0.win 0).blk t).view.read (Elt Ideal) (L2 (φ := .f32) A) = L2 (φ := .f32) (blkN A t.val) := by
  refine eq_L2 (φ := .f32) fun a b => ?_
  rw [View.read_apply]
  have ht := lt32 t
  have hi := idx0 t
  have e : ((cfg0.win 0).blk t).view.emb (ValueIdx.ix2 a b) = ValueIdx.ix2 (⟨256 * t.val + a.val, by omega⟩ : Fin 8192) b := by
    funext x
    apply Fin.ext
    match x with
    | ⟨0, _⟩ => show win0_0.index t 0 * 256 + 1 * a.val = 256 * t.val + a.val; rw [hi.1]; omega
    | ⟨1, _⟩ => show win0_0.index t 1 * 1024 + 1 * b.val = b.val; rw [hi.2]; omega
  refine (congrArg (L2 (φ := .f32) A) e).trans ?_
  rw [blkN_apply A t.val a ⟨256 * t.val + a.val, by omega⟩ rfl]
  rfl

theorem idx1 : ∀ t : Fin cfg0.N, win0_1.index t 0 = t.val ∧ win0_1.index t 1 = 0 :=
  (by decide +kernel : ∀ t : Fin grid0.N, win0_1.index t 0 = t.val ∧ win0_1.index t 1 = 0)

/-- Window 1's block at point `t` of a lifted array is the array's block of rows `t`. -/
theorem rd1 (A : Fin 8192 → Fin 1024 → ℝ) (t : Fin cfg0.N) :
    ((cfg0.win 1).blk t).view.read (Elt Ideal) (L2 (φ := .f32) A) = L2 (φ := .f32) (blkN A t.val) := by
  refine eq_L2 (φ := .f32) fun a b => ?_
  rw [View.read_apply]
  have ht := lt32 t
  have hi := idx1 t
  have e : ((cfg0.win 1).blk t).view.emb (ValueIdx.ix2 a b) = ValueIdx.ix2 (⟨256 * t.val + a.val, by omega⟩ : Fin 8192) b := by
    funext x
    apply Fin.ext
    match x with
    | ⟨0, _⟩ => show win0_1.index t 0 * 256 + 1 * a.val = 256 * t.val + a.val; rw [hi.1]; omega
    | ⟨1, _⟩ => show win0_1.index t 1 * 1024 + 1 * b.val = b.val; rw [hi.2]; omega
  refine (congrArg (L2 (φ := .f32) A) e).trans ?_
  rw [blkN_apply A t.val a ⟨256 * t.val + a.val, by omega⟩ rfl]
  rfl

theorem idx3 : ∀ t : Fin cfg0.N, win0_3.index t 0 = t.val ∧ win0_3.index t 1 = 0 :=
  (by decide +kernel : ∀ t : Fin grid0.N, win0_3.index t 0 = t.val ∧ win0_3.index t 1 = 0)

/-- Window 3's block at point `t` of a lifted array is the array's block of rows `t`. -/
theorem rd3 (A : Fin 8192 → Fin 1024 → ℝ) (t : Fin cfg0.N) :
    ((cfg0.win 3).blk t).view.read (Elt Ideal) (L2 (φ := .f32) A) = L2 (φ := .f32) (blkN A t.val) := by
  refine eq_L2 (φ := .f32) fun a b => ?_
  rw [View.read_apply]
  have ht := lt32 t
  have hi := idx3 t
  have e : ((cfg0.win 3).blk t).view.emb (ValueIdx.ix2 a b) = ValueIdx.ix2 (⟨256 * t.val + a.val, by omega⟩ : Fin 8192) b := by
    funext x
    apply Fin.ext
    match x with
    | ⟨0, _⟩ => show win0_3.index t 0 * 256 + 1 * a.val = 256 * t.val + a.val; rw [hi.1]; omega
    | ⟨1, _⟩ => show win0_3.index t 1 * 1024 + 1 * b.val = b.val; rw [hi.2]; omega
  refine (congrArg (L2 (φ := .f32) A) e).trans ?_
  rw [blkN_apply A t.val a ⟨256 * t.val + a.val, by omega⟩ rfl]
  rfl

theorem idx4 : ∀ t : Fin cfg0.N, win0_4.index t 0 = t.val ∧ win0_4.index t 1 = 0 :=
  (by decide +kernel : ∀ t : Fin grid0.N, win0_4.index t 0 = t.val ∧ win0_4.index t 1 = 0)

/-- Window 4's block at point `t` of a lifted array is the array's block of rows `t`. -/
theorem rd4 (A : Fin 8192 → Fin 1024 → ℝ) (t : Fin cfg0.N) :
    ((cfg0.win 4).blk t).view.read (Elt Ideal) (L2 (φ := .bf16) A) = L2 (φ := .bf16) (blkN A t.val) := by
  refine eq_L2 (φ := .bf16) fun a b => ?_
  rw [View.read_apply]
  have ht := lt32 t
  have hi := idx4 t
  have e : ((cfg0.win 4).blk t).view.emb (ValueIdx.ix2 a b) = ValueIdx.ix2 (⟨256 * t.val + a.val, by omega⟩ : Fin 8192) b := by
    funext x
    apply Fin.ext
    match x with
    | ⟨0, _⟩ => show win0_4.index t 0 * 256 + 1 * a.val = 256 * t.val + a.val; rw [hi.1]; omega
    | ⟨1, _⟩ => show win0_4.index t 1 * 1024 + 1 * b.val = b.val; rw [hi.2]; omega
  refine (congrArg (L2 (φ := .bf16) A) e).trans ?_
  rw [blkN_apply A t.val a ⟨256 * t.val + a.val, by omega⟩ rfl]
  rfl

theorem idx5 : ∀ t : Fin cfg0.N, win0_5.index t 0 = t.val ∧ win0_5.index t 1 = 0 :=
  (by decide +kernel : ∀ t : Fin grid0.N, win0_5.index t 0 = t.val ∧ win0_5.index t 1 = 0)

/-- Window 5's block at point `t` of a lifted array is the array's block of rows `t`. -/
theorem rd5 (A : Fin 8192 → Fin 2816 → ℝ) (t : Fin cfg0.N) :
    ((cfg0.win 5).blk t).view.read (Elt Ideal) (L2 (φ := .bf16) A) = L2 (φ := .bf16) (blkN A t.val) := by
  refine eq_L2 (φ := .bf16) fun a b => ?_
  rw [View.read_apply]
  have ht := lt32 t
  have hi := idx5 t
  have e : ((cfg0.win 5).blk t).view.emb (ValueIdx.ix2 a b) = ValueIdx.ix2 (⟨256 * t.val + a.val, by omega⟩ : Fin 8192) b := by
    funext x
    apply Fin.ext
    match x with
    | ⟨0, _⟩ => show win0_5.index t 0 * 256 + 1 * a.val = 256 * t.val + a.val; rw [hi.1]; omega
    | ⟨1, _⟩ => show win0_5.index t 1 * 2816 + 1 * b.val = b.val; rw [hi.2]; omega
  refine (congrArg (L2 (φ := .bf16) A) e).trans ?_
  rw [blkN_apply A t.val a ⟨256 * t.val + a.val, by omega⟩ rfl]
  rfl

theorem idx6 : ∀ t : Fin cfg0.N, win0_6.index t 0 = t.val ∧ win0_6.index t 1 = 0 :=
  (by decide +kernel : ∀ t : Fin grid0.N, win0_6.index t 0 = t.val ∧ win0_6.index t 1 = 0)

/-- Window 6's block at point `t` of a lifted array is the array's block of rows `t`. -/
theorem rd6 (A : Fin 8192 → Fin 2816 → ℝ) (t : Fin cfg0.N) :
    ((cfg0.win 6).blk t).view.read (Elt Ideal) (L2 (φ := .bf16) A) = L2 (φ := .bf16) (blkN A t.val) := by
  refine eq_L2 (φ := .bf16) fun a b => ?_
  rw [View.read_apply]
  have ht := lt32 t
  have hi := idx6 t
  have e : ((cfg0.win 6).blk t).view.emb (ValueIdx.ix2 a b) = ValueIdx.ix2 (⟨256 * t.val + a.val, by omega⟩ : Fin 8192) b := by
    funext x
    apply Fin.ext
    match x with
    | ⟨0, _⟩ => show win0_6.index t 0 * 256 + 1 * a.val = 256 * t.val + a.val; rw [hi.1]; omega
    | ⟨1, _⟩ => show win0_6.index t 1 * 2816 + 1 * b.val = b.val; rw [hi.2]; omega
  refine (congrArg (L2 (φ := .bf16) A) e).trans ?_
  rw [blkN_apply A t.val a ⟨256 * t.val + a.val, by omega⟩ rfl]
  rfl

theorem idx7 : ∀ t : Fin cfg0.N, win0_7.index t 0 = t.val ∧ win0_7.index t 1 = 0 :=
  (by decide +kernel : ∀ t : Fin grid0.N, win0_7.index t 0 = t.val ∧ win0_7.index t 1 = 0)

/-- Window 7's block at point `t` of a lifted array is the array's block of rows `t`. -/
theorem rd7 (A : Fin 8192 → Fin 2816 → ℝ) (t : Fin cfg0.N) :
    ((cfg0.win 7).blk t).view.read (Elt Ideal) (L2 (φ := .bf16) A) = L2 (φ := .bf16) (blkN A t.val) := by
  refine eq_L2 (φ := .bf16) fun a b => ?_
  rw [View.read_apply]
  have ht := lt32 t
  have hi := idx7 t
  have e : ((cfg0.win 7).blk t).view.emb (ValueIdx.ix2 a b) = ValueIdx.ix2 (⟨256 * t.val + a.val, by omega⟩ : Fin 8192) b := by
    funext x
    apply Fin.ext
    match x with
    | ⟨0, _⟩ => show win0_7.index t 0 * 256 + 1 * a.val = 256 * t.val + a.val; rw [hi.1]; omega
    | ⟨1, _⟩ => show win0_7.index t 1 * 2816 + 1 * b.val = b.val; rw [hi.2]; omega
  refine (congrArg (L2 (φ := .bf16) A) e).trans ?_
  rw [blkN_apply A t.val a ⟨256 * t.val + a.val, by omega⟩ rfl]
  rfl

theorem idx8 : ∀ t : Fin cfg0.N, win0_8.index t 0 = t.val ∧ win0_8.index t 1 = 0 :=
  (by decide +kernel : ∀ t : Fin grid0.N, win0_8.index t 0 = t.val ∧ win0_8.index t 1 = 0)

/-- Window 8's block at point `t` of a lifted array is the array's block of rows `t`. -/
theorem rd8 (A : Fin 8192 → Fin 1024 → ℝ) (t : Fin cfg0.N) :
    ((cfg0.win 8).blk t).view.read (Elt Ideal) (L2 (φ := .bf16) A) = L2 (φ := .bf16) (blkN A t.val) := by
  refine eq_L2 (φ := .bf16) fun a b => ?_
  rw [View.read_apply]
  have ht := lt32 t
  have hi := idx8 t
  have e : ((cfg0.win 8).blk t).view.emb (ValueIdx.ix2 a b) = ValueIdx.ix2 (⟨256 * t.val + a.val, by omega⟩ : Fin 8192) b := by
    funext x
    apply Fin.ext
    match x with
    | ⟨0, _⟩ => show win0_8.index t 0 * 256 + 1 * a.val = 256 * t.val + a.val; rw [hi.1]; omega
    | ⟨1, _⟩ => show win0_8.index t 1 * 1024 + 1 * b.val = b.val; rw [hi.2]; omega
  refine (congrArg (L2 (φ := .bf16) A) e).trans ?_
  rw [blkN_apply A t.val a ⟨256 * t.val + a.val, by omega⟩ rfl]
  rfl

/-- Window 3's blocks cover its array. -/
theorem cov3 (i : S8192x1024.Idx) : ∃ t : Fin cfg0.N, (cfg0.win 3).flush t = true ∧ i ∈ ((cfg0.win 3).blk t).view.set := by
  have h0 : (i 0 : Nat) < 8192 := (i 0).isLt
  let t : Fin cfg0.N := ⟨(i 0 : Nat) / 256, Nat.lt_of_lt_of_eq (by omega) N_0.symm⟩
  refine ⟨t, flush0_3 t, ?_⟩
  show i ∈ ((View.whole main_v7_0).slice (win0_3.rect t)).set
  rw [View.set_slice_whole, Rect.mem_set_unit]
  exact Fin.forall_fin_two.2 (in_tile i 256 (idx3 t).1 (idx3 t).2)

/-- Window 4's blocks cover its array. -/
theorem cov4 (i : S8192x1024.Idx) : ∃ t : Fin cfg0.N, (cfg0.win 4).flush t = true ∧ i ∈ ((cfg0.win 4).blk t).view.set := by
  have h0 : (i 0 : Nat) < 8192 := (i 0).isLt
  let t : Fin cfg0.N := ⟨(i 0 : Nat) / 256, Nat.lt_of_lt_of_eq (by omega) N_0.symm⟩
  refine ⟨t, flush0_4 t, ?_⟩
  show i ∈ ((View.whole main_v7_1).slice (win0_4.rect t)).set
  rw [View.set_slice_whole, Rect.mem_set_unit]
  exact Fin.forall_fin_two.2 (in_tile i 256 (idx4 t).1 (idx4 t).2)

/-- Window 5's blocks cover its array. -/
theorem cov5 (i : S8192x2816.Idx) : ∃ t : Fin cfg0.N, (cfg0.win 5).flush t = true ∧ i ∈ ((cfg0.win 5).blk t).view.set := by
  have h0 : (i 0 : Nat) < 8192 := (i 0).isLt
  let t : Fin cfg0.N := ⟨(i 0 : Nat) / 256, Nat.lt_of_lt_of_eq (by omega) N_0.symm⟩
  refine ⟨t, flush0_5 t, ?_⟩
  show i ∈ ((View.whole main_v7_2).slice (win0_5.rect t)).set
  rw [View.set_slice_whole, Rect.mem_set_unit]
  exact Fin.forall_fin_two.2 (in_tile i 256 (idx5 t).1 (idx5 t).2)

/-- Window 6's blocks cover its array. -/
theorem cov6 (i : S8192x2816.Idx) : ∃ t : Fin cfg0.N, (cfg0.win 6).flush t = true ∧ i ∈ ((cfg0.win 6).blk t).view.set := by
  have h0 : (i 0 : Nat) < 8192 := (i 0).isLt
  let t : Fin cfg0.N := ⟨(i 0 : Nat) / 256, Nat.lt_of_lt_of_eq (by omega) N_0.symm⟩
  refine ⟨t, flush0_6 t, ?_⟩
  show i ∈ ((View.whole main_v7_3).slice (win0_6.rect t)).set
  rw [View.set_slice_whole, Rect.mem_set_unit]
  exact Fin.forall_fin_two.2 (in_tile i 256 (idx6 t).1 (idx6 t).2)

/-- Window 7's blocks cover its array. -/
theorem cov7 (i : S8192x2816.Idx) : ∃ t : Fin cfg0.N, (cfg0.win 7).flush t = true ∧ i ∈ ((cfg0.win 7).blk t).view.set := by
  have h0 : (i 0 : Nat) < 8192 := (i 0).isLt
  let t : Fin cfg0.N := ⟨(i 0 : Nat) / 256, Nat.lt_of_lt_of_eq (by omega) N_0.symm⟩
  refine ⟨t, flush0_7 t, ?_⟩
  show i ∈ ((View.whole main_v7_4).slice (win0_7.rect t)).set
  rw [View.set_slice_whole, Rect.mem_set_unit]
  exact Fin.forall_fin_two.2 (in_tile i 256 (idx7 t).1 (idx7 t).2)

/-- Window 8's blocks cover its array. -/
theorem cov8 (i : S8192x1024.Idx) : ∃ t : Fin cfg0.N, (cfg0.win 8).flush t = true ∧ i ∈ ((cfg0.win 8).blk t).view.set := by
  have h0 : (i 0 : Nat) < 8192 := (i 0).isLt
  let t : Fin cfg0.N := ⟨(i 0 : Nat) / 256, Nat.lt_of_lt_of_eq (by omega) N_0.symm⟩
  refine ⟨t, flush0_8 t, ?_⟩
  show i ∈ ((View.whole main_v7_5).slice (win0_8.rect t)).set
  rw [View.set_slice_whole, Rect.mem_set_unit]
  exact Fin.forall_fin_two.2 (in_tile i 256 (idx8 t).1 (idx8 t).2)

theorem idx2 : ∀ t : Fin cfg0.N, win0_2.index t 0 = 0 ∧ win0_2.index t 1 = 0 :=
  (by decide +kernel : ∀ t : Fin grid0.N, win0_2.index t 0 = 0 ∧ win0_2.index t 1 = 0)

/-- Window 2's block is its whole array. -/
theorem rd2 (A : Fin 16 → Fin 1024 → ℝ) (t : Fin cfg0.N) :
    ((cfg0.win 2).blk t).view.read (Elt Ideal) (L2 (φ := .f32) A) = L2 (φ := .f32) A := by
  refine eq_L2 (φ := .f32) fun a b => ?_
  rw [View.read_apply]
  have hi := idx2 t
  have e : ((cfg0.win 2).blk t).view.emb (ValueIdx.ix2 a b) = ValueIdx.ix2 a b := by
    funext x
    apply Fin.ext
    match x with
    | ⟨0, _⟩ => show win0_2.index t 0 * 16 + 1 * a.val = a.val; rw [hi.1]; omega
    | ⟨1, _⟩ => show win0_2.index t 1 * 1024 + 1 * b.val = b.val; rw [hi.2]; omega
  exact congrArg (L2 (φ := .f32) A) e

theorem idx9 : ∀ t : Fin cfg0.N, win0_9.index t 0 = 0 ∧ win0_9.index t 1 = 0 :=
  (by decide +kernel : ∀ t : Fin grid0.N, win0_9.index t 0 = 0 ∧ win0_9.index t 1 = 0)

/-- Window 9's block is its whole array. -/
theorem rd9 (A : Fin 8 → Fin 1024 → ℝ) (t : Fin cfg0.N) :
    ((cfg0.win 9).blk t).view.read (Elt Ideal) (L2 (φ := .f32) A) = L2 (φ := .f32) A := by
  refine eq_L2 (φ := .f32) fun a b => ?_
  rw [View.read_apply]
  have hi := idx9 t
  have e : ((cfg0.win 9).blk t).view.emb (ValueIdx.ix2 a b) = ValueIdx.ix2 a b := by
    funext x
    apply Fin.ext
    match x with
    | ⟨0, _⟩ => show win0_9.index t 0 * 8 + 1 * a.val = a.val; rw [hi.1]; omega
    | ⟨1, _⟩ => show win0_9.index t 1 * 1024 + 1 * b.val = b.val; rw [hi.2]; omega
  exact congrArg (L2 (φ := .f32) A) e

theorem cov9 (i : S8x1024.Idx) : ∃ t : Fin cfg0.N, (cfg0.win 9).flush t = true ∧ i ∈ ((cfg0.win 9).blk t).view.set := by
  have h0 : (i 0 : Nat) < 8 := (i 0).isLt
  have h1 : (i 1 : Nat) < 1024 := (i 1).isLt
  let t : Fin cfg0.N := ⟨31, Nat.lt_of_lt_of_eq (by omega) N_0.symm⟩
  refine ⟨t, (flush0_9 t).mpr rfl, ?_⟩
  show i ∈ ((View.whole main_v7_6).slice (win0_9.rect t)).set
  rw [View.set_slice_whole, Rect.mem_set_unit]
  have hi := idx9 t
  intro a
  match a with
  | ⟨0, _⟩ => show win0_9.index t 0 * 8 ≤ (i 0 : Nat) ∧ (i 0 : Nat) < win0_9.index t 0 * 8 + 8
              rw [hi.1]; omega
  | ⟨1, _⟩ => show win0_9.index t 1 * 1024 ≤ (i 1 : Nat) ∧ (i 1 : Nat) < win0_9.index t 1 * 1024 + 1024
              rw [hi.2]; omega

theorem idx10 : ∀ t : Fin cfg0.N, win0_10.index t 0 = 0 ∧ win0_10.index t 1 = 0 :=
  (by decide +kernel : ∀ t : Fin grid0.N, win0_10.index t 0 = 0 ∧ win0_10.index t 1 = 0)

/-- Window 10's block is its whole array. -/
theorem rd10 (A : Fin 8 → Fin 128 → ℝ) (t : Fin cfg0.N) :
    ((cfg0.win 10).blk t).view.read (Elt Ideal) (L2 (φ := .f32) A) = L2 (φ := .f32) A := by
  refine eq_L2 (φ := .f32) fun a b => ?_
  rw [View.read_apply]
  have hi := idx10 t
  have e : ((cfg0.win 10).blk t).view.emb (ValueIdx.ix2 a b) = ValueIdx.ix2 a b := by
    funext x
    apply Fin.ext
    match x with
    | ⟨0, _⟩ => show win0_10.index t 0 * 8 + 1 * a.val = a.val; rw [hi.1]; omega
    | ⟨1, _⟩ => show win0_10.index t 1 * 128 + 1 * b.val = b.val; rw [hi.2]; omega
  exact congrArg (L2 (φ := .f32) A) e

theorem cov10 (i : S8x128.Idx) : ∃ t : Fin cfg0.N, (cfg0.win 10).flush t = true ∧ i ∈ ((cfg0.win 10).blk t).view.set := by
  have h0 : (i 0 : Nat) < 8 := (i 0).isLt
  have h1 : (i 1 : Nat) < 128 := (i 1).isLt
  let t : Fin cfg0.N := ⟨31, Nat.lt_of_lt_of_eq (by omega) N_0.symm⟩
  refine ⟨t, (flush0_10 t).mpr rfl, ?_⟩
  show i ∈ ((View.whole main_v7_7).slice (win0_10.rect t)).set
  rw [View.set_slice_whole, Rect.mem_set_unit]
  have hi := idx10 t
  intro a
  match a with
  | ⟨0, _⟩ => show win0_10.index t 0 * 8 ≤ (i 0 : Nat) ∧ (i 0 : Nat) < win0_10.index t 0 * 8 + 8
              rw [hi.1]; omega
  | ⟨1, _⟩ => show win0_10.index t 1 * 128 ≤ (i 1 : Nat) ∧ (i 1 : Nat) < win0_10.index t 1 * 128 + 128
              rw [hi.2]; omega

end Cert.Grid

end
-- ==== Proof.WordsB.lean ====
/- The named values of the kernel body at a later point of the grid, on lifted arrays of reals. -/
module

public import Idealize.ShloMosaic.Lib.WritesUnit
public import Idealize.ShloMosaic.Lib.Pipeline.ReadBack
public import proofs.«01_k».proof.Proof.Reads

@[expose] public section

set_option maxRecDepth 16384

noncomputable section

namespace Cert.Point

open Idealize.ShloMosaic Idealize.ShloMosaic.Pipeline Idealize.SL.Sem Cert.KernelIdeal Cert.KernelIdeal.Gen Cert.Lift Cert.Ffn Cert.Block

variable {c : Dev nD} {X T : Blk} {V : Fin 16 → Row} {Wg Wu Wd : W8}

theorem B_r {arg1 : Memref sig .tc .vmem S256x1024 .f32} (harg1 : arg1.IsWhole) :
    kernelRun0_B.sl.r (F := Ideal) c arg1 harg1 (L2 (φ := .f32) X)
      = L2 (φ := .f32) X := by
  unfold kernelRun0_B.sl.r
  exact rd_all harg1 _ _

theorem B_r_1 {arg1 : Memref sig .tc .vmem S256x1024 .f32} (harg1 : arg1.IsWhole) :
    kernelRun0_B.sl.r_1 (F := Ideal) c arg1 harg1 (L2 (φ := .f32) X)
      = L2 (φ := .f32) fun i _ => rs (X i) := by
  unfold kernelRun0_B.sl.r_1
  exact (congrArg (k0_pay7 (F := Ideal)) (rd_all harg1 _ _)).trans
    (pay7 X)

theorem B_r_2 {arg1 : Memref sig .tc .vmem S256x1024 .f32} (harg1 : arg1.IsWhole) :
    kernelRun0_B.sl.r_2 (F := Ideal) c arg1 harg1 (L2 (φ := .f32) X)
      = L2 (φ := .f32) fun i => hat (X i) := by
  unfold kernelRun0_B.sl.r_2
  exact (congrArg (k0_pay8 (F := Ideal)) (rd_all harg1 _ _)).trans
    (pay8 X)

theorem B_r_3 {arg1 : Memref sig .tc .vmem S256x1024 .f32} (harg1 : arg1.IsWhole) {arg3 : Memref sig .tc .vmem S16x1024 .f32} (harg3 : arg3.IsWhole) :
    kernelRun0_B.sl.r_3 (F := Ideal) c arg1 harg1 arg3 harg3 (L2 (φ := .f32) X) (L2 (φ := .f32) V)
      = L2 (φ := .f32) fun i => xn (par V Wg Wu Wd) (X i) := by
  unfold kernelRun0_B.sl.r_3
  exact (congr (congrArg (k0_pay9 (F := Ideal)) (rd_all harg1 _ _)) (rd_row harg3 V 8 (by decide) _)).trans
    (pay9 (par V Wg Wu Wd) X)

theorem B_r_4 {arg1 : Memref sig .tc .vmem S256x1024 .f32} (harg1 : arg1.IsWhole) {arg3 : Memref sig .tc .vmem S16x1024 .f32} (harg3 : arg3.IsWhole) {arg15 : Memref sig .tc .vmem S2816x1024 .bf16} (harg15 : arg15.IsWhole) :
    kernelRun0_B.sl.r_4 (F := Ideal) c arg1 harg1 arg3 harg3 arg15 harg15 (L2 (φ := .f32) X) (L2 (φ := .f32) V) (L2 (φ := .bf16) Wg)
      = L2 (φ := .f32) fun i => pa (par V Wg Wu Wd) (X i) := by
  unfold kernelRun0_B.sl.r_4
  exact (congr (congr (congr (congr (congrArg (k0_pay11 (F := Ideal)) (rd_all harg1 _ _)) (rd_row harg3 V 8 (by decide) _)) (rd_row harg3 V 4 (by decide) _)) (rd_row harg3 V 3 (by decide) _)) (rd_all harg15 _ _)).trans
    (pay11 (par V Wg Wu Wd) X)

theorem B_r_5 {arg1 : Memref sig .tc .vmem S256x1024 .f32} (harg1 : arg1.IsWhole) {arg3 : Memref sig .tc .vmem S16x1024 .f32} (harg3 : arg3.IsWhole) {arg16 : Memref sig .tc .vmem S2816x1024 .bf16} (harg16 : arg16.IsWhole) :
    kernelRun0_B.sl.r_5 (F := Ideal) c arg1 harg1 arg3 harg3 arg16 harg16 (L2 (φ := .f32) X) (L2 (φ := .f32) V) (L2 (φ := .bf16) Wu)
      = L2 (φ := .f32) fun i => pu (par V Wg Wu Wd) (X i) := by
  unfold kernelRun0_B.sl.r_5
  exact (congr (congr (congr (congr (congrArg (k0_pay12 (F := Ideal)) (rd_all harg1 _ _)) (rd_row harg3 V 8 (by decide) _)) (rd_row harg3 V 4 (by decide) _)) (rd_row harg3 V 3 (by decide) _)) (rd_all harg16 _ _)).trans
    (pay12 (par V Wg Wu Wd) X)

theorem B_r_6 {arg1 : Memref sig .tc .vmem S256x1024 .f32} (harg1 : arg1.IsWhole) {arg3 : Memref sig .tc .vmem S16x1024 .f32} (harg3 : arg3.IsWhole) {arg15 : Memref sig .tc .vmem S2816x1024 .bf16} (harg15 : arg15.IsWhole) :
    kernelRun0_B.sl.r_6 (F := Ideal) c arg1 harg1 arg3 harg3 arg15 harg15 (L2 (φ := .f32) X) (L2 (φ := .f32) V) (L2 (φ := .bf16) Wg)
      = L2 (φ := .f32) fun i k => sig (pa (par V Wg Wu Wd) (X i) k) := by
  unfold kernelRun0_B.sl.r_6
  exact (congr (congrArg (k0_pay13 (F := Ideal)) (B_r_4 (c := c) (X := X) (V := V) (Wg := Wg) (Wu := Wu) (Wd := Wd) harg1 harg3 harg15)) rfl).trans
    (pay13 fun i => pa (par V Wg Wu Wd) (X i))

theorem B_r_7 {arg1 : Memref sig .tc .vmem S256x1024 .f32} (harg1 : arg1.IsWhole) {arg3 : Memref sig .tc .vmem S16x1024 .f32} (harg3 : arg3.IsWhole) {arg15 : Memref sig .tc .vmem S2816x1024 .bf16} (harg15 : arg15.IsWhole) :
    kernelRun0_B.sl.r_7 (F := Ideal) c arg1 harg1 arg3 harg3 arg15 harg15 (L2 (φ := .f32) X) (L2 (φ := .f32) V) (L2 (φ := .bf16) Wg)
      = L2 (φ := .f32) fun i => sil (par V Wg Wu Wd) (X i) := by
  unfold kernelRun0_B.sl.r_7
  exact (congr (congrArg (k0_pay14 (F := Ideal)) (B_r_4 (c := c) (X := X) (V := V) (Wg := Wg) (Wu := Wu) (Wd := Wd) harg1 harg3 harg15)) rfl).trans
    (pay14 (par V Wg Wu Wd) X)

theorem B_r_8 {arg1 : Memref sig .tc .vmem S256x1024 .f32} (harg1 : arg1.IsWhole) {arg3 : Memref sig .tc .vmem S16x1024 .f32} (harg3 : arg3.IsWhole) {arg15 : Memref sig .tc .vmem S2816x1024 .bf16} (harg15 : arg15.IsWhole) {arg16 : Memref sig .tc .vmem S2816x1024 .bf16} (harg16 : arg16.IsWhole) {arg17 : Memref sig .tc .vmem S2816x1024 .bf16} (harg17 : arg17.IsWhole) :
    kernelRun0_B.sl.r_8 (F := Ideal) c arg1 harg1 arg3 harg3 arg15 harg15 arg16 harg16 arg17 harg17 (L2 (φ := .f32) X) (L2 (φ := .f32) V) (L2 (φ := .bf16) Wg) (L2 (φ := .bf16) Wu) (L2 (φ := .bf16) Wd)
      = L2 (φ := .f32) fun i _ => rs (ff (par V Wg Wu Wd) (X i)) := by
  unfold kernelRun0_B.sl.r_8
  exact (congr (congr (congr (congrArg (k0_pay17 (F := Ideal)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) rfl) (rd_all harg17 _ _)).trans
    (pay17 (par V Wg Wu Wd) X)

theorem B_r_9 {arg1 : Memref sig .tc .vmem S256x1024 .f32} (harg1 : arg1.IsWhole) {arg3 : Memref sig .tc .vmem S16x1024 .f32} (harg3 : arg3.IsWhole) {arg15 : Memref sig .tc .vmem S2816x1024 .bf16} (harg15 : arg15.IsWhole) {arg16 : Memref sig .tc .vmem S2816x1024 .bf16} (harg16 : arg16.IsWhole) {arg17 : Memref sig .tc .vmem S2816x1024 .bf16} (harg17 : arg17.IsWhole) :
    kernelRun0_B.sl.r_9 (F := Ideal) c arg1 harg1 arg3 harg3 arg15 harg15 arg16 harg16 arg17 harg17 (L2 (φ := .f32) X) (L2 (φ := .f32) V) (L2 (φ := .bf16) Wg) (L2 (φ := .bf16) Wu) (L2 (φ := .bf16) Wd)
      = L2 (φ := .f32) fun i => hat (ff (par V Wg Wu Wd) (X i)) := by
  unfold kernelRun0_B.sl.r_9
  exact (congr (congr (congr (congrArg (k0_pay18 (F := Ideal)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) rfl) (rd_all harg17 _ _)).trans
    (pay18 (par V Wg Wu Wd) X)

theorem B_r_10 {arg1 : Memref sig .tc .vmem S256x1024 .f32} (harg1 : arg1.IsWhole) {arg3 : Memref sig .tc .vmem S16x1024 .f32} (harg3 : arg3.IsWhole) {arg15 : Memref sig .tc .vmem S2816x1024 .bf16} (harg15 : arg15.IsWhole) {arg16 : Memref sig .tc .vmem S2816x1024 .bf16} (harg16 : arg16.IsWhole) {arg17 : Memref sig .tc .vmem S2816x1024 .bf16} (harg17 : arg17.IsWhole) :
    kernelRun0_B.sl.r_10 (F := Ideal) c arg1 harg1 arg3 harg3 arg15 harg15 arg16 harg16 arg17 harg17 (L2 (φ := .f32) X) (L2 (φ := .f32) V) (L2 (φ := .bf16) Wg) (L2 (φ := .bf16) Wu) (L2 (φ := .bf16) Wd)
      = L2 (φ := .f32) fun i => n4 (par V Wg Wu Wd) (X i) := by
  unfold kernelRun0_B.sl.r_10
  exact (congr (congr (congr (congr (congrArg (k0_pay19 (F := Ideal)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) rfl) (rd_all harg17 _ _)) (rd_row harg3 V 9 (by decide) _)).trans
    (pay19 (par V Wg Wu Wd) X)

theorem B_r_11 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} (harg15 : arg15.IsWhole) {arg16 : Memref sig .tc .vmem S2816x1024 .bf16} (harg16 : arg16.IsWhole) {arg17 : Memref sig .tc .vmem S2816x1024 .bf16} (harg17 : arg17.IsWhole) :
    kernelRun0_B.sl.r_11 (F := Ideal) c arg1 harg1 arg2 harg2 arg3 harg3 arg15 harg15 arg16 harg16 arg17 harg17 (L2 (φ := .f32) X) (L2 (φ := .f32) T) (L2 (φ := .f32) V) (L2 (φ := .bf16) Wg) (L2 (φ := .bf16) Wu) (L2 (φ := .bf16) Wd)
      = L2 (φ := .f32) fun i => err (par V Wg Wu Wd) (X i) (T i) := by
  unfold kernelRun0_B.sl.r_11
  exact (congr (congr (congr (congr (congr (congr (congr (congrArg (k0_pay20 (F := Ideal)) (B_r (c := c) (X := X) harg1)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) rfl) (rd_all harg17 _ _)) (rd_row harg3 V 9 (by decide) _)) (rd_row harg3 V 5 (by decide) _)) (rd_all harg2 _ _)).trans
    (pay20 (par V Wg Wu Wd) X T)

theorem B_r_14 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} (harg15 : arg15.IsWhole) {arg16 : Memref sig .tc .vmem S2816x1024 .bf16} (harg16 : arg16.IsWhole) {arg17 : Memref sig .tc .vmem S2816x1024 .bf16} (harg17 : arg17.IsWhole) :
    kernelRun0_B.sl.r_14 (F := Ideal) c arg1 harg1 arg2 harg2 arg3 harg3 arg15 harg15 arg16 harg16 arg17 harg17 (L2 (φ := .f32) X) (L2 (φ := .f32) T) (L2 (φ := .f32) V) (L2 (φ := .bf16) Wg) (L2 (φ := .bf16) Wu) (L2 (φ := .bf16) Wd)
      = L2 (φ := .f32) fun i => dy (par V Wg Wu Wd) (X i) (T i) := by
  unfold kernelRun0_B.sl.r_14
  exact (congrArg (k0_pay24 (F := Ideal)) (B_r_11 (c := c) (X := X) (T := T) (V := V) (Wg := Wg) (Wu := Wu) (Wd := Wd) harg1 harg2 harg3 harg15 harg16 harg17)).trans
    (pay24 (par V Wg Wu Wd) X T)

theorem B_r_15 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} (harg15 : arg15.IsWhole) {arg16 : Memref sig .tc .vmem S2816x1024 .bf16} (harg16 : arg16.IsWhole) {arg17 : Memref sig .tc .vmem S2816x1024 .bf16} (harg17 : arg17.IsWhole) :
    kernelRun0_B.sl.r_15 (F := Ideal) c arg1 harg1 arg2 harg2 arg3 harg3 arg15 harg15 arg16 harg16 arg17 harg17 (L2 (φ := .f32) X) (L2 (φ := .f32) T) (L2 (φ := .f32) V) (L2 (φ := .bf16) Wg) (L2 (φ := .bf16) Wu) (L2 (φ := .bf16) Wd)
      = L2 (φ := .f32) fun i => cen (hat (ff (par V Wg Wu Wd) (X i))) (dfh (par V Wg Wu Wd) (X i) (T i)) := by
  unfold kernelRun0_B.sl.r_15
  exact (congr (congr (congr (congrArg (k0_pay28 (F := Ideal)) (B_r_9 (c := c) (X := X) (V := V) (Wg := Wg) (Wu := Wu) (Wd := Wd) harg1 harg3 harg15 harg16 harg17)) (B_r_11 (c := c) (X := X) (T := T) (V := V) (Wg := Wg) (Wu := Wu) (Wd := Wd) harg1 harg2 harg3 harg15 harg16 harg17)) (rd_row harg3 V 5 (by decide) _)) (rd_row harg3 V 9 (by decide) _)).trans
    (pay28 (par V Wg Wu Wd) X T)

theorem B_r_16 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} (harg15 : arg15.IsWhole) {arg16 : Memref sig .tc .vmem S2816x1024 .bf16} (harg16 : arg16.IsWhole) {arg17 : Memref sig .tc .vmem S2816x1024 .bf16} (harg17 : arg17.IsWhole) :
    kernelRun0_B.sl.r_16 (F := Ideal) c arg1 harg1 arg2 harg2 arg3 harg3 arg15 harg15 arg16 harg16 arg17 harg17 (L2 (φ := .f32) X) (L2 (φ := .f32) T) (L2 (φ := .f32) V) (L2 (φ := .bf16) Wg) (L2 (φ := .bf16) Wu) (L2 (φ := .bf16) Wd)
      = L2 (φ := .f32) fun i => dh2 (par V Wg Wu Wd) (X i) (T i) := by
  unfold kernelRun0_B.sl.r_16
  exact (congr (congr (congr (congr (congr (congr (congr (congr (congrArg (k0_pay33 (F := Ideal)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) (B_r_6 (c := c) (X := X) (V := V) (Wg := Wg) (Wu := Wu) (Wd := Wd) harg1 harg3 harg15)) (B_r_7 (c := c) (X := X) (V := V) (Wg := Wg) (Wu := Wu) (Wd := Wd) harg1 harg3 harg15)) (B_r_8 (c := c) (X := X) (V := V) (Wg := Wg) (Wu := Wu) (Wd := Wd) harg1 harg3 harg15 harg16 harg17)) (B_r_15 (c := c) (X := X) (T := T) (V := V) (Wg := Wg) (Wu := Wu) (Wd := Wd) harg1 harg2 harg3 harg15 harg16 harg17)) (rd_all harg17 _ _)) (rd_all harg15 _ _)) (rd_all harg16 _ _)).trans
    (pay33 (par V Wg Wu Wd) X T)

theorem B_r_13 {arg1 : Memref sig .tc .vmem S256x1024 .f32} (harg1 : arg1.IsWhole) {arg2 : Memref sig .tc .vmem S256x1024 .f32} (harg2 : arg2.IsWhole) {arg3 : Memref sig .tc .vmem S16x1024 .f32} (harg3 : arg3.IsWhole) {arg15 : Memref sig .tc .vmem S2816x1024 .bf16} (harg15 : arg15.IsWhole) {arg16 : Memref sig .tc .vmem S2816x1024 .bf16} (harg16 : arg16.IsWhole) {arg17 : Memref sig .tc .vmem S2816x1024 .bf16} (harg17 : arg17.IsWhole) (j : S1x1x1.Idx) :
    kernelRun0_B.sl.r_13 (F := Ideal) c arg1 harg1 arg2 harg2 arg3 harg3 arg15 harg15 arg16 harg16 arg17 harg17 (L2 (φ := .f32) X) (L2 (φ := .f32) T) (L2 (φ := .f32) V) (L2 (φ := .bf16) Wg) (L2 (φ := .bf16) Wu) (L2 (φ := .bf16) Wd) j
      = ((∑ r, sq (par V Wg Wu Wd) (X r) (T r) : ℝ) : EReal) := by
  unfold kernelRun0_B.sl.r_13
  exact (congrFun (congr (congr (congr (congr (congr (congr (congr (congrArg (k0_pay22 (F := Ideal)) (B_r (c := c) (X := X) harg1)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) rfl) (rd_all harg17 _ _)) (rd_row harg3 V 9 (by decide) _)) (rd_row harg3 V 5 (by decide) _)) (rd_all harg2 _ _)) j).trans
    (pay22 (par V Wg Wu Wd) X T j)

end Cert.Point

end
-- ==== Proof.PointB.lean ====
/- What a later point of the grid leaves in the staging buffers, on lifted arrays of reals. -/
module

public import Idealize.ShloMosaic.Lib.WritesUnit
public import Idealize.ShloMosaic.Lib.Pipeline.ReadBack
public import proofs.«01_k».proof.Proof.WordsB
public import proofs.«01_k».proof.Proof.Gen.KernelIdeal.Value

@[expose] public section

set_option maxRecDepth 16384

noncomputable section

namespace Cert.Point

open Idealize.ShloMosaic Idealize.ShloMosaic.Pipeline Idealize.SL.Sem Cert.KernelIdeal Cert.KernelIdeal.Gen Cert.Lift Cert.Ffn Cert.Block

theorem outB_3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i) (X T : Blk) (V : Fin 16 → Row) (Wg Wu Wd : W8) (fh0 : HbBuf0 (F := Ideal) c hbM0_0) (fh1 : HbBuf0 (F := Ideal) c hbM0_1) (fh2 : HbBuf0 (F := Ideal) c hbM0_2) (Acc : Fin 8 → Row) (Lo : Fin 8 → Fin 128 → ℝ) :
    out0_B_3 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) (L2 (φ := .f32) Acc) (L2 (φ := .f32) Lo) (L2 (φ := .bf16) Wg) (L2 (φ := .bf16) Wu) (L2 (φ := .bf16) Wd) fh0 fh1 fh2
      = L2 (φ := .f32) fun i => dx (par V Wg Wu Wd) (X i) (T i) := by
  unfold out0_B_3 kernelRun0_B
  dsimp only
  refine (st_all VO0_3 _ _ _ _).trans ?_
  exact (congr (congr (congr (congr (congr (congrArg (k0_pay4 (F := Ideal)) (B_r_1 (c := c) (X := X) harg1)) (B_r_2 (c := c) (X := X) harg1)) (B_r_14 (c := c) (X := X) (T := T) (V := V) (Wg := Wg) (Wu := Wu) (Wd := Wd) harg1 harg2 harg3 harg15 harg16 harg17)) (B_r_16 (c := c) (X := X) (T := T) (V := V) (Wg := Wg) (Wu := Wu) (Wd := Wd) harg1 harg2 harg3 harg15 harg16 harg17)) (rd_row harg3 V 4 (by decide) _)) (rd_row harg3 V 8 (by decide) _)).trans
    (pay4 (par V Wg Wu Wd) X T)

theorem outB_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i) (X T : Blk) (V : Fin 16 → Row) (Wg Wu Wd : W8) (fh0 : HbBuf0 (F := Ideal) c hbM0_0) (fh1 : HbBuf0 (F := Ideal) c hbM0_1) (fh2 : HbBuf0 (F := Ideal) c hbM0_2) (Acc : Fin 8 → Row) (Lo : Fin 8 → Fin 128 → ℝ) :
    out0_B_4 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) (L2 (φ := .f32) Acc) (L2 (φ := .f32) Lo) (L2 (φ := .bf16) Wg) (L2 (φ := .bf16) Wu) (L2 (φ := .bf16) Wd) fh0 fh1 fh2
      = L2 (φ := .bf16) fun i => Ffn.h2 (par V Wg Wu Wd) (X i) := by
  unfold out0_B_4 kernelRun0_B
  dsimp only
  refine (st_all VO0_4 _ _ _ _).trans ?_
  exact (congr (congr (congr (congrArg (k0_pay10 (F := Ideal)) (rd_all harg1 _ _)) (rd_row harg3 V 8 (by decide) _)) (rd_row harg3 V 4 (by decide) _)) (rd_row harg3 V 3 (by decide) _)).trans
    (pay10 (par V Wg Wu Wd) X)

theorem outB_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i) (X T : Blk) (V : Fin 16 → Row) (Wg Wu Wd : W8) (fh0 : HbBuf0 (F := Ideal) c hbM0_0) (fh1 : HbBuf0 (F := Ideal) c hbM0_1) (fh2 : HbBuf0 (F := Ideal) c hbM0_2) (Acc : Fin 8 → Row) (Lo : Fin 8 → Fin 128 → ℝ) :
    out0_B_5 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) (L2 (φ := .f32) Acc) (L2 (φ := .f32) Lo) (L2 (φ := .bf16) Wg) (L2 (φ := .bf16) Wu) (L2 (φ := .bf16) Wd) fh0 fh1 fh2
      = L2 (φ := .bf16) fun i => hid (par V Wg Wu Wd) (X i) := by
  unfold out0_B_5 kernelRun0_B
  dsimp only
  refine (st_all VO0_5 _ _ _ _).trans ?_
  exact (congr (congr (congrArg (k0_pay15 (F := Ideal)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) rfl).trans
    (pay15 (par V Wg Wu Wd) X)

theorem outB_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i) (X T : Blk) (V : Fin 16 → Row) (Wg Wu Wd : W8) (fh0 : HbBuf0 (F := Ideal) c hbM0_0) (fh1 : HbBuf0 (F := Ideal) c hbM0_1) (fh2 : HbBuf0 (F := Ideal) c hbM0_2) (Acc : Fin 8 → Row) (Lo : Fin 8 → Fin 128 → ℝ) :
    out0_B_6 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) (L2 (φ := .f32) Acc) (L2 (φ := .f32) Lo) (L2 (φ := .bf16) Wg) (L2 (φ := .bf16) Wu) (L2 (φ := .bf16) Wd) fh0 fh1 fh2
      = L2 (φ := .bf16) fun i => da (par V Wg Wu Wd) (X i) (T i) := by
  unfold out0_B_6 kernelRun0_B
  dsimp only
  refine (st_all VO0_6 _ _ _ _).trans ?_
  exact (congr (congr (congr (congr (congr (congrArg (k0_pay32 (F := Ideal)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) (B_r_6 (c := c) (X := X) (V := V) (Wg := Wg) (Wu := Wu) (Wd := Wd) harg1 harg3 harg15)) (B_r_8 (c := c) (X := X) (V := V) (Wg := Wg) (Wu := Wu) (Wd := Wd) harg1 harg3 harg15 harg16 harg17)) (B_r_15 (c := c) (X := X) (T := T) (V := V) (Wg := Wg) (Wu := Wu) (Wd := Wd) harg1 harg2 harg3 harg15 harg16 harg17)) (rd_all harg17 _ _)).trans
    (pay32 (par V Wg Wu Wd) X T)

theorem outB_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i) (X T : Blk) (V : Fin 16 → Row) (Wg Wu Wd : W8) (fh0 : HbBuf0 (F := Ideal) c hbM0_0) (fh1 : HbBuf0 (F := Ideal) c hbM0_1) (fh2 : HbBuf0 (F := Ideal) c hbM0_2) (Acc : Fin 8 → Row) (Lo : Fin 8 → Fin 128 → ℝ) :
    out0_B_7 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) (L2 (φ := .f32) Acc) (L2 (φ := .f32) Lo) (L2 (φ := .bf16) Wg) (L2 (φ := .bf16) Wu) (L2 (φ := .bf16) Wd) fh0 fh1 fh2
      = L2 (φ := .bf16) fun i => du (par V Wg Wu Wd) (X i) (T i) := by
  unfold out0_B_7 kernelRun0_B
  dsimp only
  refine (st_all VO0_7 _ _ _ _).trans ?_
  exact (congr (congr (congr (congrArg (k0_pay31 (F := Ideal)) (B_r_7 (c := c) (X := X) (V := V) (Wg := Wg) (Wu := Wu) (Wd := Wd) harg1 harg3 harg15)) (B_r_8 (c := c) (X := X) (V := V) (Wg := Wg) (Wu := Wu) (Wd := Wd) harg1 harg3 harg15 harg16 harg17)) (B_r_15 (c := c) (X := X) (T := T) (V := V) (Wg := Wg) (Wu := Wu) (Wd := Wd) harg1 harg2 harg3 harg15 harg16 harg17)) (rd_all harg17 _ _)).trans
    (pay31 (par V Wg Wu Wd) X T)

theorem outB_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i) (X T : Blk) (V : Fin 16 → Row) (Wg Wu Wd : W8) (fh0 : HbBuf0 (F := Ideal) c hbM0_0) (fh1 : HbBuf0 (F := Ideal) c hbM0_1) (fh2 : HbBuf0 (F := Ideal) c hbM0_2) (Acc : Fin 8 → Row) (Lo : Fin 8 → Fin 128 → ℝ) :
    out0_B_8 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) (L2 (φ := .f32) Acc) (L2 (φ := .f32) Lo) (L2 (φ := .bf16) Wg) (L2 (φ := .bf16) Wu) (L2 (φ := .bf16) Wd) fh0 fh1 fh2
      = L2 (φ := .bf16) fun i => dff (par V Wg Wu Wd) (X i) (T i) := by
  unfold out0_B_8 kernelRun0_B
  dsimp only
  refine (st_all VO0_8 _ _ _ _).trans ?_
  exact (congr (congrArg (k0_pay29 (F := Ideal)) (B_r_8 (c := c) (X := X) (V := V) (Wg := Wg) (Wu := Wu) (Wd := Wd) harg1 harg3 harg15 harg16 harg17)) (B_r_15 (c := c) (X := X) (T := T) (V := V) (Wg := Wg) (Wu := Wu) (Wd := Wd) harg1 harg2 harg3 harg15 harg16 harg17)).trans
    (pay29 (par V Wg Wu Wd) X T)

theorem B_r_12 (c : Dev nD) {arg14 : Memref sig .tc .vmem S8x128 .f32} (harg14 : arg14.IsWhole) (Lo : Fin 8 → Fin 128 → ℝ) :
    kernelRun0_B.sl.r_12 (F := Ideal) c arg14 harg14 (L2 (φ := .f32) Lo) = L2 (φ := .f32) Lo := by
  unfold kernelRun0_B.sl.r_12
  exact (congrArg (k0_pay21 (F := Ideal)) (rd_all harg14 _ _)).trans (pay21 Lo)

theorem outB_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i) (X T : Blk) (V : Fin 16 → Row) (Wg Wu Wd : W8) (fh0 : HbBuf0 (F := Ideal) c hbM0_0) (fh1 : HbBuf0 (F := Ideal) c hbM0_1) (fh2 : HbBuf0 (F := Ideal) c hbM0_2) (Acc : Fin 8 → Row) (Lo : Fin 8 → Fin 128 → ℝ) :
    out0_B_10 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) (L2 (φ := .f32) Acc) (L2 (φ := .f32) Lo) (L2 (φ := .bf16) Wg) (L2 (φ := .bf16) Wu) (L2 (φ := .bf16) Wd) fh0 fh1 fh2
      = L2 (φ := .f32) fun a b => Lo a b + (∑ r, sq (par V Wg Wu Wd) (X r) (T r)) * (1 / 2048) := by
  unfold out0_B_10 kernelRun0_B
  dsimp only
  refine (st_all VO0_10 _ _ _ _).trans ?_
  exact (congrArg (fun z => k0_pay23 (F := Ideal) z _) (B_r_12 c harg14 Lo)).trans
    (pay23 _ Lo _ fun j => B_r_13 (c := c) (X := X) (T := T) (V := V) (Wg := Wg) (Wu := Wu) (Wd := Wd) harg1 harg2 harg3 harg15 harg16 harg17 j)

theorem B_v92 (c : Dev nD) {arg13 : Memref sig .tc .vmem S8x1024 .f32} (harg13 : arg13.IsWhole) (Acc : Fin 8 → Row) :
    kernelRun0_B.sl.v92 (F := Ideal) c arg13 harg13 (L2 (φ := .f32) Acc) = row (φ := .f32) (Acc 1) := by
  unfold kernelRun0_B.sl.v92
  exact rd_row harg13 Acc 1 (by decide) _

theorem B_v135 (c : Dev nD) {arg13 : Memref sig .tc .vmem S8x1024 .f32} (harg13 : arg13.IsWhole) (Acc : Fin 8 → Row) :
    kernelRun0_B.sl.v135 (F := Ideal) c arg13 harg13 (L2 (φ := .f32) Acc) = row (φ := .f32) (Acc 2) := by
  unfold kernelRun0_B.sl.v135
  exact rd_row harg13 Acc 2 (by decide) _

theorem B_v142 (c : Dev nD) {arg13 : Memref sig .tc .vmem S8x1024 .f32} (harg13 : arg13.IsWhole) (Acc : Fin 8 → Row) :
    kernelRun0_B.sl.v142 (F := Ideal) c arg13 harg13 (L2 (φ := .f32) Acc) = row (φ := .f32) (Acc 3) := by
  unfold kernelRun0_B.sl.v142
  exact rd_row harg13 Acc 3 (by decide) _

theorem B_v154 (c : Dev nD) {arg13 : Memref sig .tc .vmem S8x1024 .f32} (harg13 : arg13.IsWhole) (Acc : Fin 8 → Row) :
    kernelRun0_B.sl.v154 (F := Ideal) c arg13 harg13 (L2 (φ := .f32) Acc) = row (φ := .f32) (Acc 4) := by
  unfold kernelRun0_B.sl.v154
  exact rd_row harg13 Acc 4 (by decide) _

theorem outB_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i) (X T : Blk) (V : Fin 16 → Row) (Wg Wu Wd : W8) (fh0 : HbBuf0 (F := Ideal) c hbM0_0) (fh1 : HbBuf0 (F := Ideal) c hbM0_1) (fh2 : HbBuf0 (F := Ideal) c hbM0_2) (Acc : Fin 8 → Row) (Lo : Fin 8 → Fin 128 → ℝ) :
    out0_B_9 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 (L2 (φ := .f32) X) (L2 (φ := .f32) T) (L2 (φ := .f32) V) (L2 (φ := .f32) Acc) (L2 (φ := .f32) Lo) (L2 (φ := .bf16) Wg) (L2 (φ := .bf16) Wu) (L2 (φ := .bf16) Wd) fh0 fh1 fh2
      = L2 (φ := .f32) fun k j => Acc k j + g5 (par V Wg Wu Wd) X T k j := by
  unfold out0_B_9 kernelRun0_B
  dsimp only
  refine (st_row arg13.view _ _ _ (st_row arg13.view _ _ _ (st_row arg13.view _ _ _ (st_row arg13.view _ _ _ (st_row arg13.view _ _ _ (harg13.read_unread _) 0 _ _ _ ?h0) 1 _ _ _ ?h1) 2 _ _ _ ?h2) 3 _ _ _ ?h3) 4 _ _ _ ?h4).trans (congrArg (L2 (φ := .f32)) (upd5 Acc (par V Wg Wu Wd) X T))
  case h0 =>
    exact (congr (congr (congrArg (k0_pay25 (F := Ideal)) (B_r_10 (c := c) (X := X) (V := V) (Wg := Wg) (Wu := Wu) (Wd := Wd) harg1 harg3 harg15 harg16 harg17)) (B_r_11 (c := c) (X := X) (T := T) (V := V) (Wg := Wg) (Wu := Wu) (Wd := Wd) harg1 harg2 harg3 harg15 harg16 harg17)) (rd_row harg13 Acc 0 (by decide) _)).trans
      (pay25 (par V Wg Wu Wd) X T (Acc 0))
  case h1 =>
    exact (congr (congr (congr (congrArg (k0_pay27 (F := Ideal)) (B_r_9 (c := c) (X := X) (V := V) (Wg := Wg) (Wu := Wu) (Wd := Wd) harg1 harg3 harg15 harg16 harg17)) (B_r_11 (c := c) (X := X) (T := T) (V := V) (Wg := Wg) (Wu := Wu) (Wd := Wd) harg1 harg2 harg3 harg15 harg16 harg17)) (rd_row harg3 V 5 (by decide) _)) (B_v92 c harg13 Acc)).trans
      (pay27 (par V Wg Wu Wd) X T (Acc 1))
  case h2 =>
    exact (congr (congr (congr (congr (congr (congr (congr (congr (congr (congr (congrArg (k0_pay34 (F := Ideal)) (B_r_3 (c := c) (X := X) (V := V) (Wg := Wg) (Wu := Wu) (Wd := Wd) harg1 harg3)) (B_r_4 (c := c) (X := X) (V := V) (Wg := Wg) (Wu := Wu) (Wd := Wd) harg1 harg3 harg15)) (B_r_5 (c := c) (X := X) (V := V) (Wg := Wg) (Wu := Wu) (Wd := Wd) harg1 harg3 harg16)) (B_r_6 (c := c) (X := X) (V := V) (Wg := Wg) (Wu := Wu) (Wd := Wd) harg1 harg3 harg15)) (B_r_7 (c := c) (X := X) (V := V) (Wg := Wg) (Wu := Wu) (Wd := Wd) harg1 harg3 harg15)) (B_r_8 (c := c) (X := X) (V := V) (Wg := Wg) (Wu := Wu) (Wd := Wd) harg1 harg3 harg15 harg16 harg17)) (B_r_15 (c := c) (X := X) (T := T) (V := V) (Wg := Wg) (Wu := Wu) (Wd := Wd) harg1 harg2 harg3 harg15 harg16 harg17)) (rd_all harg17 _ _)) (rd_all harg15 _ _)) (rd_all harg16 _ _)) (B_v135 c harg13 Acc)).trans
      (pay34 (par V Wg Wu Wd) X T (Acc 2))
  case h3 =>
    exact (congr (congrArg (k0_pay1 (F := Ideal)) (B_r_16 (c := c) (X := X) (T := T) (V := V) (Wg := Wg) (Wu := Wu) (Wd := Wd) harg1 harg2 harg3 harg15 harg16 harg17)) (B_v142 c harg13 Acc)).trans
      (pay1 (par V Wg Wu Wd) X T (Acc 3))
  case h4 =>
    exact (congr (congr (congr (congrArg (k0_pay3 (F := Ideal)) (B_r_2 (c := c) (X := X) harg1)) (B_r_16 (c := c) (X := X) (T := T) (V := V) (Wg := Wg) (Wu := Wu) (Wd := Wd) harg1 harg2 harg3 harg15 harg16 harg17)) (rd_row harg3 V 4 (by decide) _)) (B_v154 c harg13 Acc)).trans
      (pay3 (par V Wg Wu Wd) X T (Acc 4))

end Cert.Point

end
-- ==== Proof.Grid.lean ====
/- The whole grid: what the buffers hold after every point, and the final arrays, on lifted arrays of reals. -/
module

public import proofs.«01_k».proof.Proof.PointA
public import proofs.«01_k».proof.Proof.Windows
public import proofs.«01_k».proof.Proof.PointB
public import proofs.«01_k».proof.Proof.Gen.KernelIdeal.Value

@[expose] public section

set_option maxRecDepth 16384

noncomputable section

namespace Cert.Grid

open Idealize.ShloMosaic Idealize.ShloMosaic.Pipeline Idealize.SL.Sem Cert.KernelIdeal Cert.KernelIdeal.Gen Cert.Lift Cert.Ffn Cert.Block Cert.Point

/-- The five sums after point `n`. -/
def accN (P : Par) (X T : Fin 8192 → Row) : ℕ → Fin 8 → Row
  | 0 => fun k j => g5 P (blkN X 0) (blkN T 0) k j
  | n + 1 => fun k j => accN P X T n k j + g5 P (blkN X (n + 1)) (blkN T (n + 1)) k j

/-- The running loss after point `n`, in every place of its block. -/
def losN (P : Par) (X T : Fin 8192 → Row) : ℕ → Fin 8 → Fin 128 → ℝ
  | 0 => fun _ _ => 0 + (∑ r, sq P (blkN X 0 r) (blkN T 0 r)) * (1 / 2048)
  | n + 1 => fun a b => losN P X T n a b + (∑ r, sq P (blkN X (n + 1) r) (blkN T (n + 1) r)) * (1 / 2048)

variable (m : (ℓ : Loc nD τ sig) → Buf (Elt Ideal) ℓ) (c : Dev nD) (X T : Fin 8192 → Row) (Vv : Fin 16 → Row) (Wg Wu Wd : W8)

/-- Tuples of eleven equal parts. -/
theorem mk11 {α₁ α₂ α₃ α₄ α₅ α₆ α₇ α₈ α₉ α₁₀ α₁₁ : Type} {a₁ b₁ : α₁} {a₂ b₂ : α₂} {a₃ b₃ : α₃} {a₄ b₄ : α₄} {a₅ b₅ : α₅} {a₆ b₆ : α₆} {a₇ b₇ : α₇}
    {a₈ b₈ : α₈} {a₉ b₉ : α₉} {a₁₀ b₁₀ : α₁₀} {a₁₁ b₁₁ : α₁₁} (h₁ : a₁ = b₁) (h₂ : a₂ = b₂) (h₃ : a₃ = b₃) (h₄ : a₄ = b₄) (h₅ : a₅ = b₅) (h₆ : a₆ = b₆)
    (h₇ : a₇ = b₇) (h₈ : a₈ = b₈) (h₉ : a₉ = b₉) (h₁₀ : a₁₀ = b₁₀) (h₁₁ : a₁₁ = b₁₁) :
    (a₁, a₂, a₃, a₄, a₅, a₆, a₇, a₈, a₉, a₁₀, a₁₁) = (b₁, b₂, b₃, b₄, b₅, b₆, b₇, b₈, b₉, b₁₀, b₁₁) := by
  subst h₁ h₂ h₃ h₄ h₅ h₆ h₇ h₈ h₉ h₁₀ h₁₁
  rfl

/-- What the buffers hold after point `n`. -/
abbrev state (n : ℕ) : Vec Ideal S256x1024 .f32 × Vec Ideal S256x1024 .bf16 × Vec Ideal S256x2816 .bf16 × Vec Ideal S256x2816 .bf16
    × Vec Ideal S256x2816 .bf16 × Vec Ideal S256x1024 .bf16 × Vec Ideal S8x1024 .f32 × Vec Ideal S8x128 .f32
    × Vec Ideal S2816x1024 .bf16 × Vec Ideal S2816x1024 .bf16 × Vec Ideal S2816x1024 .bf16 :=
  (L2 (φ := .f32) fun i => dx (par Vv Wg Wu Wd) (blkN X n i) (blkN T n i), L2 (φ := .bf16) fun i => Ffn.h2 (par Vv Wg Wu Wd) (blkN X n i),
   L2 (φ := .bf16) fun i => hid (par Vv Wg Wu Wd) (blkN X n i), L2 (φ := .bf16) fun i => da (par Vv Wg Wu Wd) (blkN X n i) (blkN T n i),
   L2 (φ := .bf16) fun i => du (par Vv Wg Wu Wd) (blkN X n i) (blkN T n i), L2 (φ := .bf16) fun i => dff (par Vv Wg Wu Wd) (blkN X n i) (blkN T n i),
   L2 (φ := .f32) (accN (par Vv Wg Wu Wd) X T n), L2 (φ := .f32) (losN (par Vv Wg Wu Wd) X T n), L2 (φ := .bf16) Wg, L2 (φ := .bf16) Wu, L2 (φ := .bf16) Wd)

/-- The first point leaves weight 0 in its scratch buffer. -/
theorem scA0 (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (x0 x1 : Vec Ideal S256x1024 .f32) (x2 : Vec Ideal S16x1024 .f32)
    (fh0 : HbBuf0 (F := Ideal) c hbM0_0) (fh1 : HbBuf0 (F := Ideal) c hbM0_1) (fh2 : HbBuf0 (F := Ideal) c hbM0_2)
    (h : View.read (Elt Ideal) (Memref.whole main_v3).view fh0 = L2 (φ := .bf16) Wg) :
    sout0_A_0 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 x0 x1 x2 fh0 fh1 fh2 = L2 (φ := .bf16) Wg := by
  unfold sout0_A_0 kernelRun0_A
  dsimp only
  refine (st_whole VS0_0 _ _).trans ?_
  unfold kernelRun0_A.sl.dma0
  exact h

/-- The first point leaves weight 1 in its scratch buffer. -/
theorem scA1 (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (x0 x1 : Vec Ideal S256x1024 .f32) (x2 : Vec Ideal S16x1024 .f32)
    (fh0 : HbBuf0 (F := Ideal) c hbM0_0) (fh1 : HbBuf0 (F := Ideal) c hbM0_1) (fh2 : HbBuf0 (F := Ideal) c hbM0_2)
    (h : View.read (Elt Ideal) (Memref.whole main_v5).view fh1 = L2 (φ := .bf16) Wu) :
    sout0_A_1 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 x0 x1 x2 fh0 fh1 fh2 = L2 (φ := .bf16) Wu := by
  unfold sout0_A_1 kernelRun0_A
  dsimp only
  refine (st_whole VS0_1 _ _).trans ?_
  unfold kernelRun0_A.sl.dma0_1
  exact h

/-- The first point leaves weight 2 in its scratch buffer. -/
theorem scA2 (i : grid0.Coords) (arg1 : Memref sig .tc .vmem S256x1024 .f32) (harg1 : arg1.IsWhole) (arg2 : Memref sig .tc .vmem S256x1024 .f32) (harg2 : arg2.IsWhole) (arg3 : Memref sig .tc .vmem S16x1024 .f32) (harg3 : arg3.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i) (x0 x1 : Vec Ideal S256x1024 .f32) (x2 : Vec Ideal S16x1024 .f32)
    (fh0 : HbBuf0 (F := Ideal) c hbM0_0) (fh1 : HbBuf0 (F := Ideal) c hbM0_1) (fh2 : HbBuf0 (F := Ideal) c hbM0_2)
    (h : View.read (Elt Ideal) (Memref.whole main_v6).view fh2 = L2 (φ := .bf16) Wd) :
    sout0_A_2 (F := Ideal) c i arg1 harg1 arg2 harg2 arg3 harg3 arg7 harg7 arg8 harg8 arg9 harg9 arg10 harg10 arg11 harg11 arg12 harg12 arg13 harg13 arg14 harg14 arg15 harg15 arg16 harg16 arg17 harg17 hc0 x0 x1 x2 fh0 fh1 fh2 = L2 (φ := .bf16) Wd := by
  unfold sout0_A_2 kernelRun0_A
  dsimp only
  refine (st_whole VS0_2 _ _).trans ?_
  unfold kernelRun0_A.sl.dma0_2
  exact h

section
variable (hX : V m c (arrRef spec0 0) = L2 (φ := .f32) X) (hT : V m c (arrRef spec0 1) = L2 (φ := .f32) T) (hV : V m c (arrRef spec0 2) = L2 (φ := .f32) Vv)
  (h0 : View.read (Elt Ideal) (Memref.whole main_v3).view (V m c main_v3) = L2 (φ := .bf16) Wg)
  (h1 : View.read (Elt Ideal) (Memref.whole main_v5).view (V m c main_v5) = L2 (φ := .bf16) Wu)
  (h2 : View.read (Elt Ideal) (Memref.whole main_v6).view (V m c main_v6) = L2 (φ := .bf16) Wd)

include hX hT hV in
theorem iblks (t : Fin cfg0.N) : iblk m c 0 t = L2 (φ := .f32) (blkN X t.val) ∧ iblk m c 1 t = L2 (φ := .f32) (blkN T t.val) ∧ iblk m c 2 t = L2 (φ := .f32) Vv := by
  refine ⟨?_, ?_, ?_⟩ <;> unfold iblk
  · rw [hX]; exact rd0 X t
  · rw [hT]; exact rd1 T t
  · rw [hV]; exact rd2 Vv t

include hX hT hV h0 h1 h2 in
theorem at_first (t : Fin cfg0.N) (ht : t.val % 32 = 0) : outsAt0 m c t.val t.isLt = state X T Vv Wg Wu Wd t.val := by
  have hz : t.val = 0 := by have := lt32 t; omega
  obtain ⟨e0, e1, e2⟩ := iblks m c X T Vv hX hT hV t
  have ea : L2 (φ := .f32) (fun k j => g5 (par Vv Wg Wu Wd) (blkN X t.val) (blkN T t.val) k j) = L2 (φ := .f32) (accN (par Vv Wg Wu Wd) X T t.val) := by rw [hz]; rfl
  have el : L2 (φ := .f32) (fun (a : Fin 8) (b : Fin 128) => 0 + (∑ r, sq (par Vv Wg Wu Wd) (blkN X t.val r) (blkN T t.val r)) * (1 / 2048)) = L2 (φ := .f32) (losN (par Vv Wg Wu Wd) X T t.val) := by rw [hz]; rfl
  rw [outsAt0_A m c t ht, e0, e1, e2]
  exact mk11
    (outA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) (blkN X t.val) (blkN T t.val) Vv Wg Wu Wd h0 h1 h2)
    (outA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) (blkN X t.val) (blkN T t.val) Vv Wg Wu Wd h0 h1 h2)
    (outA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) (blkN X t.val) (blkN T t.val) Vv Wg Wu Wd h0 h1 h2)
    (outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) (blkN X t.val) (blkN T t.val) Vv Wg Wu Wd h0 h1 h2)
    (outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) (blkN X t.val) (blkN T t.val) Vv Wg Wu Wd h0 h1 h2)
    (outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) (blkN X t.val) (blkN T t.val) Vv Wg Wu Wd h0 h1 h2)
    ((outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) (blkN X t.val) (blkN T t.val) Vv Wg Wu Wd h0 h1 h2).trans ea)
    ((outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) (blkN X t.val) (blkN T t.val) Vv Wg Wu Wd h0 h1 h2).trans el)
    (scA0 c Wg (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) _ _ _ _ _ _ h0)
    (scA1 c Wu (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) _ _ _ _ _ _ h1)
    (scA2 c Wd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr ht) _ _ _ _ _ _ h2)

include hX hT hV h0 h1 h2 in
theorem at_next (t : Fin cfg0.N) (ht : ¬t.val % 32 = 0)
    (hp : outsAt0 m c (t.val - 1) (Nat.lt_of_le_of_lt (Nat.sub_le _ _) t.isLt) = state X T Vv Wg Wu Wd (t.val - 1)) :
    outsAt0 m c t.val t.isLt = state X T Vv Wg Wu Wd t.val := by
  obtain ⟨n, hn⟩ : ∃ n, t.val = n + 1 := ⟨t.val - 1, by omega⟩
  obtain ⟨e0, e1, e2⟩ := iblks m c X T Vv hX hT hV t
  have ea : L2 (φ := .f32) (fun k j => accN (par Vv Wg Wu Wd) X T (t.val - 1) k j + g5 (par Vv Wg Wu Wd) (blkN X t.val) (blkN T t.val) k j) = L2 (φ := .f32) (accN (par Vv Wg Wu Wd) X T t.val) := by rw [hn]; rfl
  have el : L2 (φ := .f32) (fun a b => losN (par Vv Wg Wu Wd) X T (t.val - 1) a b + (∑ r, sq (par Vv Wg Wu Wd) (blkN X t.val r) (blkN T t.val r)) * (1 / 2048)) = L2 (φ := .f32) (losN (par Vv Wg Wu Wd) X T t.val) := by rw [hn]; rfl
  rw [outsAt0_B m c t ht, e0, e1, e2, hp]
  exact mk11
    (outB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => ht ((hcond0_0 t).mp h)) (blkN X t.val) (blkN T t.val) Vv Wg Wu Wd (V m c main_v3) (V m c main_v5) (V m c main_v6) (accN (par Vv Wg Wu Wd) X T (t.val - 1)) (losN (par Vv Wg Wu Wd) X T (t.val - 1)))
    (outB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => ht ((hcond0_0 t).mp h)) (blkN X t.val) (blkN T t.val) Vv Wg Wu Wd (V m c main_v3) (V m c main_v5) (V m c main_v6) (accN (par Vv Wg Wu Wd) X T (t.val - 1)) (losN (par Vv Wg Wu Wd) X T (t.val - 1)))
    (outB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => ht ((hcond0_0 t).mp h)) (blkN X t.val) (blkN T t.val) Vv Wg Wu Wd (V m c main_v3) (V m c main_v5) (V m c main_v6) (accN (par Vv Wg Wu Wd) X T (t.val - 1)) (losN (par Vv Wg Wu Wd) X T (t.val - 1)))
    (outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => ht ((hcond0_0 t).mp h)) (blkN X t.val) (blkN T t.val) Vv Wg Wu Wd (V m c main_v3) (V m c main_v5) (V m c main_v6) (accN (par Vv Wg Wu Wd) X T (t.val - 1)) (losN (par Vv Wg Wu Wd) X T (t.val - 1)))
    (outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => ht ((hcond0_0 t).mp h)) (blkN X t.val) (blkN T t.val) Vv Wg Wu Wd (V m c main_v3) (V m c main_v5) (V m c main_v6) (accN (par Vv Wg Wu Wd) X T (t.val - 1)) (losN (par Vv Wg Wu Wd) X T (t.val - 1)))
    (outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => ht ((hcond0_0 t).mp h)) (blkN X t.val) (blkN T t.val) Vv Wg Wu Wd (V m c main_v3) (V m c main_v5) (V m c main_v6) (accN (par Vv Wg Wu Wd) X T (t.val - 1)) (losN (par Vv Wg Wu Wd) X T (t.val - 1)))
    ((outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => ht ((hcond0_0 t).mp h)) (blkN X t.val) (blkN T t.val) Vv Wg Wu Wd (V m c main_v3) (V m c main_v5) (V m c main_v6) (accN (par Vv Wg Wu Wd) X T (t.val - 1)) (losN (par Vv Wg Wu Wd) X T (t.val - 1))).trans ea)
    ((outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => ht ((hcond0_0 t).mp h)) (blkN X t.val) (blkN T t.val) Vv Wg Wu Wd (V m c main_v3) (V m c main_v5) (V m c main_v6) (accN (par Vv Wg Wu Wd) X T (t.val - 1)) (losN (par Vv Wg Wu Wd) X T (t.val - 1))).trans el)
    rfl
    rfl
    rfl

include hX hT hV h0 h1 h2 in
/-- After every point the buffers hold `state`. -/
theorem at_all : ∀ (n : ℕ) (hn : n < cfg0.N), outsAt0 m c n hn = state X T Vv Wg Wu Wd n
  | 0, hn => at_first m c X T Vv Wg Wu Wd hX hT hV h0 h1 h2 ⟨0, hn⟩ rfl
  | n + 1, hn => by
    have h32 := lt32 ⟨n + 1, hn⟩
    exact at_next m c X T Vv Wg Wu Wd hX hT hV h0 h1 h2 ⟨n + 1, hn⟩ (by show ¬(n + 1) % 32 = 0; have : n + 1 < 32 := h32; omega)
      (at_all n (Nat.lt_of_succ_lt hn))

include hX hT hV h0 h1 h2 in
theorem fin3 : (dats m 0 c).arrAt 3 cfg0.N = L2 (φ := .f32) fun r => dx (par Vv Wg Wu Wd) (X r) (T r) :=
  (dats m 0 c).arrAt_eq_of_cover 3 _ (fun t _ =>
    (Value.flushed3 m c t).trans ((congrArg (fun s => (cfg0.win 3).cut (grid0.coords t) (s).1) (at_all m c X T Vv Wg Wu Wd hX hT hV h0 h1 h2 t.val t.isLt)).trans
      (rd3 (fun r => dx (par Vv Wg Wu Wd) (X r) (T r)) t).symm)) (cov3)

include hX hT hV h0 h1 h2 in
theorem fin4 : (dats m 0 c).arrAt 4 cfg0.N = L2 (φ := .bf16) fun r => Ffn.h2 (par Vv Wg Wu Wd) (X r) :=
  (dats m 0 c).arrAt_eq_of_cover 4 _ (fun t _ =>
    (Value.flushed4 m c t).trans ((congrArg (fun s => (cfg0.win 4).cut (grid0.coords t) (s).2.1) (at_all m c X T Vv Wg Wu Wd hX hT hV h0 h1 h2 t.val t.isLt)).trans
      (rd4 (fun r => Ffn.h2 (par Vv Wg Wu Wd) (X r)) t).symm)) (cov4)

include hX hT hV h0 h1 h2 in
theorem fin5 : (dats m 0 c).arrAt 5 cfg0.N = L2 (φ := .bf16) fun r => hid (par Vv Wg Wu Wd) (X r) :=
  (dats m 0 c).arrAt_eq_of_cover 5 _ (fun t _ =>
    (Value.flushed5 m c t).trans ((congrArg (fun s => (cfg0.win 5).cut (grid0.coords t) (s).2.2.1) (at_all m c X T Vv Wg Wu Wd hX hT hV h0 h1 h2 t.val t.isLt)).trans
      (rd5 (fun r => hid (par Vv Wg Wu Wd) (X r)) t).symm)) (cov5)

include hX hT hV h0 h1 h2 in
theorem fin6 : (dats m 0 c).arrAt 6 cfg0.N = L2 (φ := .bf16) fun r => da (par Vv Wg Wu Wd) (X r) (T r) :=
  (dats m 0 c).arrAt_eq_of_cover 6 _ (fun t _ =>
    (Value.flushed6 m c t).trans ((congrArg (fun s => (cfg0.win 6).cut (grid0.coords t) (s).2.2.2.1) (at_all m c X T Vv Wg Wu Wd hX hT hV h0 h1 h2 t.val t.isLt)).trans
      (rd6 (fun r => da (par Vv Wg Wu Wd) (X r) (T r)) t).symm)) (cov6)

include hX hT hV h0 h1 h2 in
theorem fin7 : (dats m 0 c).arrAt 7 cfg0.N = L2 (φ := .bf16) fun r => du (par Vv Wg Wu Wd) (X r) (T r) :=
  (dats m 0 c).arrAt_eq_of_cover 7 _ (fun t _ =>
    (Value.flushed7 m c t).trans ((congrArg (fun s => (cfg0.win 7).cut (grid0.coords t) (s).2.2.2.2.1) (at_all m c X T Vv Wg Wu Wd hX hT hV h0 h1 h2 t.val t.isLt)).trans
      (rd7 (fun r => du (par Vv Wg Wu Wd) (X r) (T r)) t).symm)) (cov7)

include hX hT hV h0 h1 h2 in
theorem fin8 : (dats m 0 c).arrAt 8 cfg0.N = L2 (φ := .bf16) fun r => dff (par Vv Wg Wu Wd) (X r) (T r) :=
  (dats m 0 c).arrAt_eq_of_cover 8 _ (fun t _ =>
    (Value.flushed8 m c t).trans ((congrArg (fun s => (cfg0.win 8).cut (grid0.coords t) (s).2.2.2.2.2.1) (at_all m c X T Vv Wg Wu Wd hX hT hV h0 h1 h2 t.val t.isLt)).trans
      (rd8 (fun r => dff (par Vv Wg Wu Wd) (X r) (T r)) t).symm)) (cov8)

include hX hT hV h0 h1 h2 in
theorem fin9 : (dats m 0 c).arrAt 9 cfg0.N = L2 (φ := .f32) (accN (par Vv Wg Wu Wd) X T 31) :=
  (dats m 0 c).arrAt_eq_of_cover 9 _ (fun t hf => by
    have h31 : t.val = 31 := by have := (flush0_9 t).mp hf; have := lt32 t; omega
    have e := at_all m c X T Vv Wg Wu Wd hX hT hV h0 h1 h2 t.val t.isLt
    refine (Value.flushed9 m c t).trans ((congrArg (fun s => (cfg0.win 9).cut (grid0.coords t) (s).2.2.2.2.2.2.1) e).trans ?_)
    rw [h31]
    exact (rd9 (accN (par Vv Wg Wu Wd) X T 31) t).symm) (cov9)

include hX hT hV h0 h1 h2 in
theorem fin10 : (dats m 0 c).arrAt 10 cfg0.N = L2 (φ := .f32) (losN (par Vv Wg Wu Wd) X T 31) :=
  (dats m 0 c).arrAt_eq_of_cover 10 _ (fun t hf => by
    have h31 : t.val = 31 := by have := (flush0_10 t).mp hf; have := lt32 t; omega
    have e := at_all m c X T Vv Wg Wu Wd hX hT hV h0 h1 h2 t.val t.isLt
    refine (Value.flushed10 m c t).trans ((congrArg (fun s => (cfg0.win 10).cut (grid0.coords t) (s).2.2.2.2.2.2.2.1) e).trans ?_)
    rw [h31]
    exact (rd10 (losN (par Vv Wg Wu Wd) X T 31) t).symm) (cov10)

end

end Cert.Grid

end
-- ==== Proof.Identity.lean ====
/- The real identities between the gradients as the reference's chain rule spells them and as the kernel does, one row at a
   time. -/
module

public import proofs.«01_k».proof.Proof.Model

@[expose] public section

noncomputable section

namespace Cert.Ffn

open scoped BigOperators
open Cert.Lift (eps eps_pos)

theorem rs_sq (x : Row) : rs x * rs x * ((∑ j, x j * x j) / 1024 + eps) = 1 := by
  have h := ms_pos x
  unfold rs
  rw [← mul_inv, Real.mul_self_sqrt h.le, inv_mul_cancel₀ h.ne']

/-- Dividing the reciprocal root mean square by the mean square once more cubes it. -/
theorem rs_div (x : Row) : rs x / ((∑ j, x j * x j) / 1024 + eps) = rs x * (rs x * rs x) := by
  rw [div_eq_iff (ms_pos x).ne', mul_assoc (rs x), rs_sq, mul_one]

/-- The gradient of the normalisation: the direct part and the two equal parts through the mean square. -/
theorem norm_bwd (x g : Row) (j : Fin 1024) :
    g j * rs x + x j * ((∑ k, x k * g k) * (-(1 / 2) * (rs x * (rs x * rs x))) / 1024)
        + (∑ k, x k * g k) * (-(1 / 2) * (rs x * (rs x * rs x))) / 1024 * x j
      = rs x * cen (hat x) g j := by
  have h : ∑ k, g k * hat x k = (∑ k, x k * g k) * rs x := by
    rw [Finset.sum_mul]
    exact Finset.sum_congr rfl fun k _ => by unfold hat; ring
  unfold cen
  rw [h]
  unfold hat
  ring

theorem sig_eq (a : ℝ) : 1 / (1 + Real.exp (-a)) = sig a := by rw [sig, zero_sub]

variable (P : Par)

theorem dy_eq (x t : Row) (j : Fin 1024) : 1 / 2 * 1 / 1024 * (2 * err P x t j) = dy P x t j := by
  unfold dy; ring

theorem da_eq (x t : Row) (k : Fin 2816) :
    dhid P x t k * pu P x k * sig (pa P x k)
        + pa P x k * (dhid P x t k * pu P x k) * (sig (pa P x k) * (1 - sig (pa P x k)))
      = da P x t k := by
  unfold da; ring

theorem dx_eq (x t : Row) (j : Fin 1024) :
    dy P x t j + dxh P x t j * rs x
        + x j * ((∑ k, x k * dxh P x t k) * (-(1 / 2) * (rs x * (rs x * rs x))) / 1024)
        + (∑ k, x k * dxh P x t k) * (-(1 / 2) * (rs x * (rs x * rs x))) / 1024 * x j
      = dx P x t j := by
  unfold dx; rw [← norm_bwd]; ring

end Cert.Ffn

end

end
-- ==== Proof.RefA.lean ====
/- The reference's values, operation by operation, on lifted arrays of reals, the first part: the forward pass up to the normalisation behind the projections. -/
module

public import proofs.«01_k».proof.Proof.Gen.ReferenceIdeal.Read
public import proofs.«01_k».proof.Proof.Identity

@[expose] public section

set_option maxRecDepth 16384

noncomputable section

namespace Cert.RefVal

open Idealize.ShloMosaic Idealize.ShloMosaic.ValueIdx Cert.ReferenceIdeal Cert.ReferenceIdeal.Read Cert.Lift Cert.Ffn
open scoped BigOperators

/-- The seven arguments as arrays of reals. -/
structure In where
  X : Fin 8192 → Row
  T : Fin 8192 → Row
  M : Fin 6 → Row
  G : Fin 4 → Row
  wg : Fin 1024 → HRow
  wu : Fin 1024 → HRow
  wd : Fin 2816 → Row

/-- The parameters every row sees. -/
abbrev In.par (I : In) : Par := ⟨I.M 3, I.M 4, I.M 5, I.G 2, I.G 3, fun k j => I.wg j k, fun k j => I.wu j k, I.wd⟩

/-- The seven arguments as the programs hold them. -/
abbrev In.aX (I : In) : (⟨S8192x1024, .f32⟩ : BufTy).Contents (Elt Ideal) := L2 (φ := .f32) I.X
abbrev In.aT (I : In) : (⟨S8192x1024, .f32⟩ : BufTy).Contents (Elt Ideal) := L2 (φ := .f32) I.T
abbrev In.aM (I : In) : (⟨S6x1024, .f32⟩ : BufTy).Contents (Elt Ideal) := L2 (φ := .f32) I.M
abbrev In.aG (I : In) : (⟨S4x1024, .f32⟩ : BufTy).Contents (Elt Ideal) := L2 (φ := .f32) I.G
abbrev In.ag (I : In) : (⟨S1024x2816, .f32⟩ : BufTy).Contents (Elt Ideal) := L2 (φ := .f32) I.wg
abbrev In.au (I : In) : (⟨S1024x2816, .f32⟩ : BufTy).Contents (Elt Ideal) := L2 (φ := .f32) I.wu
abbrev In.ad (I : In) : (⟨S2816x1024, .f32⟩ : BufTy).Contents (Elt Ideal) := L2 (φ := .f32) I.wd

theorem rsqrt_coe (x : ℝ) (h : 0 < x) : Ideal.rsqrt ((x : ℝ) : EReal) = (((√x)⁻¹ : ℝ) : EReal) :=
  congrFun (rsqrt_L2 (φ := .f32) (A := fun (_ _ : Fin 1) => x) fun _ _ => h) (ix2 0 0)

theorem dot_aux {n : ℕ} (f g : Fin n → ℝ) :
    ∑ k, ((f k : ℝ) : EReal) * ((g k : ℝ) : EReal) = ((∑ k, f k * g k : ℝ) : EReal) :=
  (Finset.sum_congr rfl fun _ _ => (EReal.coe_mul _ _).symm).trans (coe_sum _ _)

theorem red_aux {n : ℕ} (z : EReal) (hz : z = ((0 : ℝ) : EReal)) (f : Fin n → ℝ) :
    z + ∑ k, ((f k : ℝ) : EReal) = ((∑ k, f k : ℝ) : EReal) := by
  rw [hz, coe_sum, ← EReal.coe_add, zero_add]

theorem shapeCast_flat_L2 {φ : FTy} {m : ℕ} (A : Fin 1 → Fin m → ℝ) (h : (⟨2, ![1, m]⟩ : Shape).ShapeCasts ⟨1, ![m]⟩) :
    (shapeCast ⟨1, ![m]⟩ (L2 A : FVec Ideal _ φ) h : FVec Ideal _ φ) = L1 fun j => A 0 j :=
  eq_L1 fun a => shapeCast_apply _ h (ix1 a) (ix2 0 a) (by
    rw [Shape.rowMajor_val_two, Shape.rowMajor_val_one]
    show 0 * m + a.val = a.val
    omega)

theorem sum_idx1 {n : ℕ} (f : Fin n → ℝ) :
    ∑ i : (⟨1, ![n]⟩ : Shape).Idx, ((f (i 0) : ℝ) : EReal) = ((∑ k, f k : ℝ) : EReal) := by
  rw [← coe_sum]
  exact Fintype.sum_equiv ⟨fun i => i 0, ix1, fun i => (eq_ix1 i).symm, fun _ => rfl⟩ _ _ fun _ => rfl

theorem r_v0 (I : In) : val_main_v0 (F := Ideal) I.aM = L2 (φ := .f32) (fun _ j => I.M 3 j) := eq_L2 fun i j => by
  rw [val_main_v0_apply]
  exact congrArg (fun k : Fin 6 => ((I.M k j : ℝ) : EReal)) (Fin.ext (by have := i.isLt; show 3 + i.val = 3; omega))

theorem r_v1 (I : In) : val_main_v1 (F := Ideal) I.aM = L1 (φ := .f32) (fun j => I.M 3 j) := by
  unfold val_main_v1; rw [r_v0 I]; exact shapeCast_flat_L2 _ _

theorem r_v2 (I : In) : val_main_v2 (F := Ideal) I.aM = L2 (φ := .f32) (fun _ j => I.M 4 j) := eq_L2 fun i j => by
  rw [val_main_v2_apply]
  exact congrArg (fun k : Fin 6 => ((I.M k j : ℝ) : EReal)) (Fin.ext (by have := i.isLt; show 4 + i.val = 4; omega))

theorem r_v3 (I : In) : val_main_v3 (F := Ideal) I.aM = L1 (φ := .f32) (fun j => I.M 4 j) := by
  unfold val_main_v3; rw [r_v2 I]; exact shapeCast_flat_L2 _ _

theorem r_v4 (I : In) : val_main_v4 (F := Ideal) I.aM = L2 (φ := .f32) (fun _ j => I.M 5 j) := eq_L2 fun i j => by
  rw [val_main_v4_apply]
  exact congrArg (fun k : Fin 6 => ((I.M k j : ℝ) : EReal)) (Fin.ext (by have := i.isLt; show 5 + i.val = 5; omega))

theorem r_v5 (I : In) : val_main_v5 (F := Ideal) I.aM = L1 (φ := .f32) (fun j => I.M 5 j) := by
  unfold val_main_v5; rw [r_v4 I]; exact shapeCast_flat_L2 _ _

theorem r_v6 (I : In) : val_main_v6 (F := Ideal) I.aG = L2 (φ := .f32) (fun _ j => I.G 2 j) := eq_L2 fun i j => by
  rw [val_main_v6_apply]
  exact congrArg (fun k : Fin 4 => ((I.G k j : ℝ) : EReal)) (Fin.ext (by have := i.isLt; show 2 + i.val = 2; omega))

theorem r_v7 (I : In) : val_main_v7 (F := Ideal) I.aG = L1 (φ := .f32) (fun j => I.G 2 j) := by
  unfold val_main_v7; rw [r_v6 I]; exact shapeCast_flat_L2 _ _

theorem r_v8 (I : In) : val_main_v8 (F := Ideal) I.aG = L2 (φ := .f32) (fun _ j => I.G 3 j) := eq_L2 fun i j => by
  rw [val_main_v8_apply]
  exact congrArg (fun k : Fin 4 => ((I.G k j : ℝ) : EReal)) (Fin.ext (by have := i.isLt; show 3 + i.val = 3; omega))

theorem r_v9 (I : In) : val_main_v9 (F := Ideal) I.aG = L1 (φ := .f32) (fun j => I.G 3 j) := by
  unfold val_main_v9; rw [r_v8 I]; exact shapeCast_flat_L2 _ _

theorem r_cst (I : In) : val_main_cst (F := Ideal) = L0 (φ := .f32) 0 := by
  funext i; exact c_zero

theorem r_v10 (I : In) : val_main_v10 (F := Ideal) = L2 (φ := .f32) (fun _ _ => 0) := eq_L2 fun i j => by
  rw [val_main_v10_apply, r_cst I]
  exact rfl

theorem r_cst_0 (I : In) : val_main_cst_0 (F := Ideal) = L0 (φ := .f32) 0 := by
  funext i; exact c_zero

theorem r_v11 (I : In) : val_main_v11 (F := Ideal) = L2 (φ := .f32) (fun _ _ => 0) := eq_L2 fun i j => by
  rw [val_main_v11_apply, r_cst_0 I]
  exact rfl

theorem r_cst_1 (I : In) : val_main_cst_1 (F := Ideal) = L0 (φ := .f32) 0 := by
  funext i; exact c_zero

theorem r_v12 (I : In) : val_main_v12 (F := Ideal) = L2 (φ := .f32) (fun _ _ => 0) := eq_L2 fun i j => by
  rw [val_main_v12_apply, r_cst_1 I]
  exact rfl

theorem r_v13 (I : In) : val_main_v13 (F := Ideal) I.aX = L2 (φ := .f32) (fun i j => (I.X i j) * (I.X i j)) := eq_L2 fun i j => by
  rw [val_main_v13_apply]
  exact (EReal.coe_mul _ _).symm

theorem r_cst_2 (I : In) : val_main_cst_2 (F := Ideal) = L0 (φ := .f32) 0 := by
  funext i; exact c_zero

theorem r_v14 (I : In) : val_main_v14 (F := Ideal) I.aX = L1 (φ := .f32) (fun i => ∑ k, I.X i k * I.X i k) := eq_L1 fun i => by
  rw [val_main_v14_apply, r_v13 I, r_cst_2 I]
  exact (red_aux _ rfl _).trans (congrArg _ (rfl))

theorem r_v15 (I : In) : val_main_v15 (F := Ideal) I.aX = L2 (φ := .f32) (fun i _ => ∑ k, I.X i k * I.X i k) := eq_L2 fun i j => by
  rw [val_main_v15_apply, r_v14 I]
  exact rfl

theorem r_cst_3 (I : In) : val_main_cst_3 (F := Ideal) = L0 (φ := .f32) 1024 := by
  funext i; exact c_1024

theorem r_v16 (I : In) : val_main_v16 (F := Ideal) = L2 (φ := .f32) (fun _ _ => 1024) := eq_L2 fun i j => by
  rw [val_main_v16_apply, r_cst_3 I]
  exact rfl

theorem r_v17 (I : In) : val_main_v17 (F := Ideal) I.aX = L2 (φ := .f32) (fun i _ => (∑ k, I.X i k * I.X i k) / 1024) := eq_L2 fun i j => by
  rw [val_main_v17_apply, r_v15 I, r_v16 I]
  exact div_coe _ _ (by norm_num)

theorem r_cst_4 (I : In) : val_main_cst_4 (F := Ideal) = L0 (φ := .f32) eps := by
  funext i; exact c_eps

theorem r_v18 (I : In) : val_main_v18 (F := Ideal) = L2 (φ := .f32) (fun _ _ => eps) := eq_L2 fun i j => by
  rw [val_main_v18_apply, r_cst_4 I]
  exact rfl

theorem r_v19 (I : In) : val_main_v19 (F := Ideal) I.aX = L2 (φ := .f32) (fun i _ => ((∑ k, I.X i k * I.X i k) / 1024) + eps) := eq_L2 fun i j => by
  rw [val_main_v19_apply, r_v17 I, r_v18 I]
  exact (EReal.coe_add _ _).symm

theorem r_v20 (I : In) : val_main_v20 (F := Ideal) I.aX = L2 (φ := .f32) (fun i _ => rs (I.X i)) := eq_L2 fun i j => by
  rw [val_main_v20_apply, r_v19 I]
  exact (rsqrt_coe _ (ms_pos _)).trans (congrArg _ (rfl))

theorem r_v21 (I : In) : val_main_v21 (F := Ideal) I.aX = L2 (φ := .f32) (fun i _ => rs (I.X i) * (rs (I.X i) * rs (I.X i))) := eq_L2 fun i j => by
  rw [val_main_v21_apply, r_v20 I, r_v19 I]
  exact (div_coe _ _ ((ms_pos _).ne')).trans (congrArg _ (rs_div _))

theorem r_cst_5 (I : In) : val_main_cst_5 (F := Ideal) = L0 (φ := .f32) (-(1 / 2)) := by
  funext i; exact c_neghalf

theorem r_v22 (I : In) : val_main_v22 (F := Ideal) = L2 (φ := .f32) (fun _ _ => (-(1 / 2))) := eq_L2 fun i j => by
  rw [val_main_v22_apply, r_cst_5 I]
  exact rfl

theorem r_v23 (I : In) : val_main_v23 (F := Ideal) I.aX = L2 (φ := .f32) (fun i _ => ((-(1 / 2))) * (rs (I.X i) * (rs (I.X i) * rs (I.X i)))) := eq_L2 fun i j => by
  rw [val_main_v23_apply, r_v22 I, r_v21 I]
  exact (EReal.coe_mul _ _).symm

theorem r_v24 (I : In) : val_main_v24 (F := Ideal) I.aX = L2 (φ := .f32) (fun i _ => rs (I.X i)) := eq_L2 fun i j => by
  rw [val_main_v24_apply, r_v20 I]
  exact rfl

theorem r_v25 (I : In) : val_main_v25 (F := Ideal) I.aX = L2 (φ := .f32) (fun i j => hat (I.X i) j) := eq_L2 fun i j => by
  rw [val_main_v25_apply, r_v24 I]
  exact ((EReal.coe_mul _ _).symm).trans (congrArg _ (rfl))

theorem r_v26 (I : In) : val_main_v26 (F := Ideal) I.aG = L2 (φ := .f32) (fun _ j => I.G 2 j) := eq_L2 fun i j => by
  rw [val_main_v26_apply, r_v7 I]
  exact rfl

theorem r_v27 (I : In) : val_main_v27 (F := Ideal) I.aG = L2 (φ := .f32) (fun _ j => I.G 2 j) := eq_L2 fun i j => by
  rw [val_main_v27_apply, r_v26 I]
  exact rfl

theorem r_v28 (I : In) : val_main_v28 (F := Ideal) I.aX I.aG = L2 (φ := .f32) (fun i j => xn I.par (I.X i) j) := eq_L2 fun i j => by
  rw [val_main_v28_apply, r_v25 I, r_v27 I]
  exact ((EReal.coe_mul _ _).symm).trans (congrArg _ (rfl))

theorem r_v29 (I : In) : val_main_v29 (F := Ideal) I.aM = L2 (φ := .f32) (fun _ j => I.M 4 j) := eq_L2 fun i j => by
  rw [val_main_v29_apply, r_v3 I]
  exact rfl

theorem r_cst_6 (I : In) : val_main_cst_6 (F := Ideal) = L0 (φ := .f32) 1 := by
  funext i; exact c_one

theorem r_v30 (I : In) : val_main_v30 (F := Ideal) = L2 (φ := .f32) (fun _ _ => 1) := eq_L2 fun i j => by
  rw [val_main_v30_apply, r_cst_6 I]
  exact rfl

theorem r_v31 (I : In) : val_main_v31 (F := Ideal) I.aM = L2 (φ := .f32) (fun _ j => 1 + (I.M 4 j)) := eq_L2 fun i j => by
  rw [val_main_v31_apply, r_v30 I, r_v29 I]
  exact (EReal.coe_add _ _).symm

theorem r_v32 (I : In) : val_main_v32 (F := Ideal) I.aM = L2 (φ := .f32) (fun _ j => 1 + (I.M 4 j)) := eq_L2 fun i j => by
  rw [val_main_v32_apply, r_v31 I]
  exact rfl

theorem r_v33 (I : In) : val_main_v33 (F := Ideal) I.aX I.aM I.aG = L2 (φ := .f32) (fun i j => (xn I.par (I.X i) j) * (1 + (I.M 4 j))) := eq_L2 fun i j => by
  rw [val_main_v33_apply, r_v28 I, r_v32 I]
  exact (EReal.coe_mul _ _).symm

theorem r_v34 (I : In) : val_main_v34 (F := Ideal) I.aM = L2 (φ := .f32) (fun _ j => I.M 3 j) := eq_L2 fun i j => by
  rw [val_main_v34_apply, r_v1 I]
  exact rfl

theorem r_v35 (I : In) : val_main_v35 (F := Ideal) I.aM = L2 (φ := .f32) (fun _ j => I.M 3 j) := eq_L2 fun i j => by
  rw [val_main_v35_apply, r_v34 I]
  exact rfl

theorem r_v36 (I : In) : val_main_v36 (F := Ideal) I.aX I.aM I.aG = L2 (φ := .f32) (fun i j => h2 I.par (I.X i) j) := eq_L2 fun i j => by
  rw [val_main_v36_apply, r_v33 I, r_v35 I]
  exact ((EReal.coe_add _ _).symm).trans (congrArg _ (rfl))

theorem r_v37 (I : In) : val_main_v37 (F := Ideal) I.aX I.aM I.aG I.ag = L2 (φ := .f32) (fun i j => ∑ k, (h2 I.par (I.X i) k) * (I.wg k j)) := eq_L2 fun i j => by
  rw [val_main_v37_apply, r_v36 I]
  exact dot_aux _ _

theorem r_v38 (I : In) : val_main_v38 (F := Ideal) I.aX I.aM I.aG I.ag = L2 (φ := .f32) (fun i j => pa I.par (I.X i) j) := eq_L2 fun i j => by
  rw [val_main_v38_apply, r_v37 I, r_v10 I]
  exact ((EReal.coe_add _ _).symm).trans (congrArg _ (add_zero _))

theorem r_v39 (I : In) : val_main_v39 (F := Ideal) I.aX I.aM I.aG I.au = L2 (φ := .f32) (fun i j => ∑ k, (h2 I.par (I.X i) k) * (I.wu k j)) := eq_L2 fun i j => by
  rw [val_main_v39_apply, r_v36 I]
  exact dot_aux _ _

theorem r_v40 (I : In) : val_main_v40 (F := Ideal) I.aX I.aM I.aG I.au = L2 (φ := .f32) (fun i j => pu I.par (I.X i) j) := eq_L2 fun i j => by
  rw [val_main_v40_apply, r_v39 I, r_v11 I]
  exact ((EReal.coe_add _ _).symm).trans (congrArg _ (add_zero _))

theorem r_call0_v0 (I : In) : val_main_call0_v0 (F := Ideal) I.aX I.aM I.aG I.ag = L2 (φ := .f32) (fun i j => -(pa I.par (I.X i) j)) := eq_L2 fun i j => by
  rw [val_main_call0_v0_apply, r_v38 I]
  exact (EReal.coe_neg _).symm

theorem r_call0_v1 (I : In) : val_main_call0_v1 (F := Ideal) I.aX I.aM I.aG I.ag = L2 (φ := .f32) (fun i j => Real.exp (-(pa I.par (I.X i) j))) := eq_L2 fun i j => by
  rw [val_main_call0_v1_apply, r_call0_v0 I]
  exact rfl

theorem r_call0_cst (I : In) : val_main_call0_cst (F := Ideal) = L0 (φ := .f32) 1 := by
  funext i; exact c_one

theorem r_call0_v2 (I : In) : val_main_call0_v2 (F := Ideal) = L2 (φ := .f32) (fun _ _ => 1) := eq_L2 fun i j => by
  rw [val_main_call0_v2_apply, r_call0_cst I]
  exact rfl

theorem r_call0_v3 (I : In) : val_main_call0_v3 (F := Ideal) I.aX I.aM I.aG I.ag = L2 (φ := .f32) (fun i j => 1 + (Real.exp (-(pa I.par (I.X i) j)))) := eq_L2 fun i j => by
  rw [val_main_call0_v3_apply, r_call0_v2 I, r_call0_v1 I]
  exact (EReal.coe_add _ _).symm

theorem r_call0_cst_0 (I : In) : val_main_call0_cst_0 (F := Ideal) = L0 (φ := .f32) 1 := by
  funext i; exact c_one

theorem r_call0_v4 (I : In) : val_main_call0_v4 (F := Ideal) = L2 (φ := .f32) (fun _ _ => 1) := eq_L2 fun i j => by
  rw [val_main_call0_v4_apply, r_call0_cst_0 I]
  exact rfl

theorem r_v41_2 (I : In) : val_main_v41_2 (F := Ideal) I.aX I.aM I.aG I.ag = L2 (φ := .f32) (fun i j => sig (pa I.par (I.X i) j)) := eq_L2 fun i j => by
  rw [val_main_v41_2_apply, r_call0_v4 I, r_call0_v3 I]
  exact (div_coe _ _ ((add_pos one_pos (Real.exp_pos _)).ne')).trans (congrArg _ (sig_eq _))

theorem r_call0_cst_1 (I : In) : val_main_call0_cst_1 (F := Ideal) = L0 (φ := .f32) 1 := by
  funext i; exact c_one

theorem r_call0_v6 (I : In) : val_main_call0_v6 (F := Ideal) = L2 (φ := .f32) (fun _ _ => 1) := eq_L2 fun i j => by
  rw [val_main_call0_v6_apply, r_call0_cst_1 I]
  exact rfl

theorem r_call0_v7 (I : In) : val_main_call0_v7 (F := Ideal) I.aX I.aM I.aG I.ag = L2 (φ := .f32) (fun i j => 1 - (sig (pa I.par (I.X i) j))) := eq_L2 fun i j => by
  rw [val_main_call0_v7_apply, r_call0_v6 I, r_v41_2 I]
  exact (EReal.coe_sub _ _).symm

theorem r_v41_1 (I : In) : val_main_v41_1 (F := Ideal) I.aX I.aM I.aG I.ag = L2 (φ := .f32) (fun i j => (sig (pa I.par (I.X i) j)) * (1 - (sig (pa I.par (I.X i) j)))) := eq_L2 fun i j => by
  rw [val_main_v41_1_apply, r_v41_2 I, r_call0_v7 I]
  exact (EReal.coe_mul _ _).symm

theorem r_v41_0 (I : In) : val_main_v41_0 (F := Ideal) I.aX I.aM I.aG I.ag = L2 (φ := .f32) (fun i j => sil I.par (I.X i) j) := eq_L2 fun i j => by
  rw [val_main_v41_0_apply, r_v38 I, r_v41_2 I]
  exact ((EReal.coe_mul _ _).symm).trans (congrArg _ (rfl))

theorem r_v42 (I : In) : val_main_v42 (F := Ideal) I.aX I.aM I.aG I.ag I.au = L2 (φ := .f32) (fun i j => hid I.par (I.X i) j) := eq_L2 fun i j => by
  rw [val_main_v42_apply, r_v41_0 I, r_v40 I]
  exact ((EReal.coe_mul _ _).symm).trans (congrArg _ (rfl))

theorem r_v43 (I : In) : val_main_v43 (F := Ideal) I.aX I.aM I.aG I.ag I.au I.ad = L2 (φ := .f32) (fun i j => ∑ k, (hid I.par (I.X i) k) * (I.wd k j)) := eq_L2 fun i j => by
  rw [val_main_v43_apply, r_v42 I]
  exact dot_aux _ _

theorem r_v44 (I : In) : val_main_v44 (F := Ideal) I.aX I.aM I.aG I.ag I.au I.ad = L2 (φ := .f32) (fun i j => ff I.par (I.X i) j) := eq_L2 fun i j => by
  rw [val_main_v44_apply, r_v43 I, r_v12 I]
  exact ((EReal.coe_add _ _).symm).trans (congrArg _ (add_zero _))

theorem r_v45 (I : In) : val_main_v45 (F := Ideal) I.aM = L2 (φ := .f32) (fun _ j => I.M 5 j) := eq_L2 fun i j => by
  rw [val_main_v45_apply, r_v5 I]
  exact rfl

end Cert.RefVal

end

end
-- ==== Proof.HostIn.lean ====
/- What the kernel's host operations hand to the region: the sixteen parameter rows and the three weights with the hidden
   dimension first, as lifted arrays of reals. -/
module

public import proofs.«01_k».proof.Proof.Grid
public import proofs.«01_k».proof.Proof.RefA
public import Idealize.ShloMosaic.Lib.StableHlo.RunRead

@[expose] public section

set_option maxRecDepth 16384

noncomputable section

namespace Cert.HostIn

open Idealize.ShloMosaic Idealize.ShloMosaic.ValueIdx Cert.KernelIdeal Cert.KernelIdeal.Gen Cert.Lift Cert.Ffn Cert.RefVal Cert.Point
open scoped BigOperators

/-- The sixteen rows of parameters: six of modulation, four of gains, six of zeros. -/
def rows (M : Fin 6 → Row) (G : Fin 4 → Row) : Fin 16 → Row := fun a j =>
  if h : a.val < 6 then M ⟨a.val, h⟩ j else if h' : a.val < 10 then G ⟨a.val - 6, by omega⟩ j else 0

/-- The three arrays the sixteen rows are joined from. -/
abbrev pieces (M : Fin 6 → Row) (G : Fin 4 → Row) : List ((s : Shape) × (s.Idx → EReal)) :=
  [⟨S6x1024, (L2 (φ := .f32) M : FVec Ideal S6x1024 .f32)⟩, ⟨S4x1024, (L2 (φ := .f32) G : FVec Ideal S4x1024 .f32)⟩,
    ⟨S6x1024, (L2 (φ := .f32) (fun _ _ => 0) : FVec Ideal S6x1024 .f32)⟩]

theorem rows_concat (M : Fin 6 → Row) (G : Fin 4 → Row)
    (h : Shape.Concatenates ((pieces M G).map (·.1)) S16x1024 0) :
    concatenate S16x1024 0 (pieces M G) h
      = (L2 (φ := .f32) (rows M G) : FVec Ideal S16x1024 .f32) :=
  eq_L2 fun a j => by
    have ha := a.isLt
    by_cases h6 : a.val < 6
    · refine (concatenate_apply_piece (t := S16x1024) 0 (pieces M G) h (ix2 a j) 0 (by show 0 < 3; decide) S6x1024 _ rfl rfl 0 rfl (ix2 ⟨a.val, h6⟩ j)
        (fun b hb => ?_) (Nat.zero_add _)).trans ?_
      · match b with
        | ⟨0, _⟩ => exact absurd rfl hb
        | ⟨1, _⟩ => rfl
      · refine congrArg (fun x : ℝ => (x : EReal)) ?_
        show M ⟨a.val, h6⟩ j = rows M G a j
        unfold rows; rw [dif_pos h6]
    · by_cases h10 : a.val < 10
      · refine (concatenate_apply_piece (t := S16x1024) 0 (pieces M G) h (ix2 a j) 1 (by show 1 < 3; decide) S4x1024 _ rfl rfl 6 rfl (ix2 ⟨a.val - 6, by omega⟩ j)
          (fun b hb => ?_) (show 6 + (a.val - 6) = a.val by omega)).trans ?_
        · match b with
          | ⟨0, _⟩ => exact absurd rfl hb
          | ⟨1, _⟩ => rfl
        · refine congrArg (fun x : ℝ => (x : EReal)) ?_
          show G ⟨a.val - 6, _⟩ j = rows M G a j
          unfold rows; rw [dif_neg h6, dif_pos h10]
      · refine (concatenate_apply_piece (t := S16x1024) 0 (pieces M G) h (ix2 a j) 2 (by show 2 < 3; decide) S6x1024 _ rfl rfl 10 rfl (ix2 ⟨a.val - 10, by omega⟩ j)
          (fun b hb => ?_) (show 10 + (a.val - 10) = a.val by omega)).trans ?_
        · match b with
          | ⟨0, _⟩ => exact absurd rfl hb
          | ⟨1, _⟩ => rfl
        · refine congrArg (fun x : ℝ => (x : EReal)) ?_
          show (0 : ℝ) = rows M G a j
          unfold rows; rw [dif_neg h6, dif_neg h10]

theorem transpose_L2 {φ : FTy} {n m : ℕ} (A : Fin n → Fin m → ℝ) (h : (⟨2, ![n, m]⟩ : Shape).Transposes [1, 0] ⟨2, ![m, n]⟩) :
    (transpose ⟨2, ![m, n]⟩ [1, 0] (L2 A : FVec Ideal _ φ) h : FVec Ideal _ φ) = L2 fun j i => A i j :=
  eq_L2 fun a b => (transpose_apply [1, 0] _ h (ix2 a b) (ix2 b a) (fun k => match k with
    | ⟨0, _⟩ => rfl
    | ⟨1, _⟩ => rfl)).trans rfl

variable (I : In) (m : (ℓ : Loc nD τ sig) → Buf (Elt Ideal) ℓ) (c : Dev nD)

/-- The launch memory holds the seven arguments. -/
structure Holds : Prop where
  a0 : m ((c.tc : Thread nD τ).loc main_arg0) = I.aX
  a1 : m ((c.tc : Thread nD τ).loc main_arg1) = I.aT
  a2 : m ((c.tc : Thread nD τ).loc main_arg2) = I.aM
  a3 : m ((c.tc : Thread nD τ).loc main_arg3) = I.aG
  a4 : m ((c.tc : Thread nD τ).loc main_arg4) = I.ag
  a5 : m ((c.tc : Thread nD τ).loc main_arg5) = I.au
  a6 : m ((c.tc : Thread nD τ).loc main_arg6) = I.ad

variable {I m c}

theorem in_x (H : Holds I m c) : V m c (Pipeline.arrRef spec0 0) = L2 (φ := .f32) I.X := (V_main_arg0 m c).trans H.a0
theorem in_t (H : Holds I m c) : V m c (Pipeline.arrRef spec0 1) = L2 (φ := .f32) I.T := (V_main_arg1 m c).trans H.a1

theorem zeros6 : broadcastInDim S6x1024 ![] bcast_S_S6x1024 (constant (F := Ideal) S_ .f32 0x00000000#32)
    = (L2 (φ := .f32) (fun _ _ => 0) : FVec Ideal S6x1024 .f32) := by
  funext i; exact (broadcastInDim_apply _ bcast_S_S6x1024 _ i (fun a => a.elim0) (fun a => a.elim0)).trans c_zero

theorem concat_congr {a a' : S6x1024.Idx → EReal} {b b' : S4x1024.Idx → EReal} {z z' : S6x1024.Idx → EReal} (ha : a = a') (hb : b = b')
    (hz : z = z') (h : Shape.Concatenates [S6x1024, S4x1024, S6x1024] S16x1024 0) :
    concatenate S16x1024 0 [⟨S6x1024, a⟩, ⟨S4x1024, b⟩, ⟨S6x1024, z⟩] h
      = concatenate S16x1024 0 [⟨S6x1024, a'⟩, ⟨S4x1024, b'⟩, ⟨S6x1024, z'⟩] h := by
  subst ha hb hz; rfl

/-- The operations before the rows are joined. -/
abbrev ops2 {F : FTy → Type} [FloatOps F] : List (HloOp τ sig (Elt F)) :=
  [ StableHlo.nullary main_cst (constant S_ .f32 0x00000000#32),
    StableHlo.unary main_cst main_v0 (broadcastInDim S6x1024 ![] bcast_S_S6x1024 : (⟨S_, .f32⟩ : BufTy).Contents (Elt F) → (⟨S6x1024, .f32⟩ : BufTy).Contents (Elt F)) ]

theorem in_v (H : Holds I m c) : V m c (Pipeline.arrRef spec0 2) = L2 (φ := .f32) (rows I.M I.G) := by
  show StableHlo.after hostOps0 (fun b => m (c, b)) (Proc.devRef .tc main_v1) = _
  after_results
  refine (concat_congr ?_ ?_ ?_ _).trans (rows_concat _ _ concatenates_S6x1024_S4x1024_S6x1024_S16x1024_d0)
  · refine Eq.trans ?_ H.a2
    show StableHlo.after (ops2 (F := Ideal)) (fun b => m (c, b)) (Proc.devRef .tc main_arg2) = _
    after_results
  · refine Eq.trans ?_ H.a3
    show StableHlo.after (ops2 (F := Ideal)) (fun b => m (c, b)) (Proc.devRef .tc main_arg3) = _
    after_results
  · refine Eq.trans ?_ zeros6
    show StableHlo.after (ops2 (F := Ideal)) (fun b => m (c, b)) (Proc.devRef .tc main_v0) = _
    after_results

theorem in_wg (H : Holds I m c) : V m c main_v3 = L2 (φ := .bf16) (fun k j => I.wg j k) := by
  show StableHlo.after hostOps0 (fun b => m (c, b)) (Proc.devRef .tc main_v3) = _
  after_results
  rw [show m (c, Proc.devRef .tc main_arg4) = I.ag from H.a4]
  exact congrArg (fun x => truncf .bf16 x bitsLt_bf16_f32) (transpose_L2 _ _)

theorem in_wu (H : Holds I m c) : V m c main_v5 = L2 (φ := .bf16) (fun k j => I.wu j k) := by
  show StableHlo.after hostOps0 (fun b => m (c, b)) (Proc.devRef .tc main_v5) = _
  after_results
  rw [show m (c, Proc.devRef .tc main_arg5) = I.au from H.a5]
  exact congrArg (fun x => truncf .bf16 x bitsLt_bf16_f32) (transpose_L2 _ _)

theorem in_wd (H : Holds I m c) : V m c main_v6 = L2 (φ := .bf16) I.wd := by
  show StableHlo.after hostOps0 (fun b => m (c, b)) (Proc.devRef .tc main_v6) = _
  after_results
  rw [show m (c, Proc.devRef .tc main_arg6) = I.ad from H.a6]
  rfl

/-- The parameters the kernel's rows see are the reference's. -/
theorem par_eq : par (rows I.M I.G) (fun k j => I.wg j k) (fun k j => I.wu j k) I.wd = I.par := rfl

end Cert.HostIn

end

end
-- ==== Proof.RefB.lean ====
/- The reference's values, operation by operation, on lifted arrays of reals, the second part: the loss and the gradients down to the projections. -/
module

public import proofs.«01_k».proof.Proof.RefA
public import proofs.«01_k».proof.Proof.Identity

@[expose] public section

set_option maxRecDepth 16384

noncomputable section

namespace Cert.RefVal

open Idealize.ShloMosaic Idealize.ShloMosaic.ValueIdx Cert.ReferenceIdeal Cert.ReferenceIdeal.Read Cert.Lift Cert.Ffn
open scoped BigOperators

theorem r_v46 (I : In) : val_main_v46 (F := Ideal) I.aX I.aM I.aG I.ag I.au I.ad = L2 (φ := .f32) (fun i j => (ff I.par (I.X i) j) * (ff I.par (I.X i) j)) := eq_L2 fun i j => by
  rw [val_main_v46_apply, r_v44 I]
  exact (EReal.coe_mul _ _).symm

theorem r_cst_7 (I : In) : val_main_cst_7 (F := Ideal) = L0 (φ := .f32) 0 := by
  funext i; exact c_zero

theorem r_v47 (I : In) : val_main_v47 (F := Ideal) I.aX I.aM I.aG I.ag I.au I.ad = L1 (φ := .f32) (fun i => ∑ k, (ff I.par (I.X i) k) * (ff I.par (I.X i) k)) := eq_L1 fun i => by
  rw [val_main_v47_apply, r_v46 I, r_cst_7 I]
  exact red_aux _ rfl _

theorem r_v48 (I : In) : val_main_v48 (F := Ideal) I.aX I.aM I.aG I.ag I.au I.ad = L2 (φ := .f32) (fun i _ => ∑ k, (ff I.par (I.X i) k) * (ff I.par (I.X i) k)) := eq_L2 fun i j => by
  rw [val_main_v48_apply, r_v47 I]
  exact rfl

theorem r_cst_8 (I : In) : val_main_cst_8 (F := Ideal) = L0 (φ := .f32) 1024 := by
  funext i; exact c_1024

theorem r_v49 (I : In) : val_main_v49 (F := Ideal) = L2 (φ := .f32) (fun _ _ => 1024) := eq_L2 fun i j => by
  rw [val_main_v49_apply, r_cst_8 I]
  exact rfl

theorem r_v50 (I : In) : val_main_v50 (F := Ideal) I.aX I.aM I.aG I.ag I.au I.ad = L2 (φ := .f32) (fun i _ => (∑ k, (ff I.par (I.X i) k) * (ff I.par (I.X i) k)) / 1024) := eq_L2 fun i j => by
  rw [val_main_v50_apply, r_v48 I, r_v49 I]
  exact div_coe _ _ (by norm_num)

theorem r_cst_9 (I : In) : val_main_cst_9 (F := Ideal) = L0 (φ := .f32) eps := by
  funext i; exact c_eps

theorem r_v51 (I : In) : val_main_v51 (F := Ideal) = L2 (φ := .f32) (fun _ _ => eps) := eq_L2 fun i j => by
  rw [val_main_v51_apply, r_cst_9 I]
  exact rfl

theorem r_v52 (I : In) : val_main_v52 (F := Ideal) I.aX I.aM I.aG I.ag I.au I.ad = L2 (φ := .f32) (fun i _ => ((∑ k, (ff I.par (I.X i) k) * (ff I.par (I.X i) k)) / 1024) + eps) := eq_L2 fun i j => by
  rw [val_main_v52_apply, r_v50 I, r_v51 I]
  exact (EReal.coe_add _ _).symm

theorem r_v53 (I : In) : val_main_v53 (F := Ideal) I.aX I.aM I.aG I.ag I.au I.ad = L2 (φ := .f32) (fun i _ => rs (ff I.par (I.X i))) := eq_L2 fun i j => by
  rw [val_main_v53_apply, r_v52 I]
  exact (rsqrt_coe _ (ms_pos _)).trans (congrArg _ (rfl))

theorem r_v54 (I : In) : val_main_v54 (F := Ideal) I.aX I.aM I.aG I.ag I.au I.ad = L2 (φ := .f32) (fun i _ => rs (ff I.par (I.X i)) * (rs (ff I.par (I.X i)) * rs (ff I.par (I.X i)))) := eq_L2 fun i j => by
  rw [val_main_v54_apply, r_v53 I, r_v52 I]
  exact (div_coe _ _ ((ms_pos _).ne')).trans (congrArg _ (rs_div _))

theorem r_cst_10 (I : In) : val_main_cst_10 (F := Ideal) = L0 (φ := .f32) (-(1 / 2)) := by
  funext i; exact c_neghalf

theorem r_v55 (I : In) : val_main_v55 (F := Ideal) = L2 (φ := .f32) (fun _ _ => (-(1 / 2))) := eq_L2 fun i j => by
  rw [val_main_v55_apply, r_cst_10 I]
  exact rfl

theorem r_v56 (I : In) : val_main_v56 (F := Ideal) I.aX I.aM I.aG I.ag I.au I.ad = L2 (φ := .f32) (fun i _ => ((-(1 / 2))) * (rs (ff I.par (I.X i)) * (rs (ff I.par (I.X i)) * rs (ff I.par (I.X i))))) := eq_L2 fun i j => by
  rw [val_main_v56_apply, r_v55 I, r_v54 I]
  exact (EReal.coe_mul _ _).symm

theorem r_v57 (I : In) : val_main_v57 (F := Ideal) I.aX I.aM I.aG I.ag I.au I.ad = L2 (φ := .f32) (fun i _ => rs (ff I.par (I.X i))) := eq_L2 fun i j => by
  rw [val_main_v57_apply, r_v53 I]
  exact rfl

theorem r_v58 (I : In) : val_main_v58 (F := Ideal) I.aX I.aM I.aG I.ag I.au I.ad = L2 (φ := .f32) (fun i j => hat (ff I.par (I.X i)) j) := eq_L2 fun i j => by
  rw [val_main_v58_apply, r_v44 I, r_v57 I]
  exact ((EReal.coe_mul _ _).symm).trans (congrArg _ (rfl))

theorem r_v59 (I : In) : val_main_v59 (F := Ideal) I.aG = L2 (φ := .f32) (fun _ j => I.G 3 j) := eq_L2 fun i j => by
  rw [val_main_v59_apply, r_v9 I]
  exact rfl

theorem r_v60 (I : In) : val_main_v60 (F := Ideal) I.aG = L2 (φ := .f32) (fun _ j => I.G 3 j) := eq_L2 fun i j => by
  rw [val_main_v60_apply, r_v59 I]
  exact rfl

theorem r_v61 (I : In) : val_main_v61 (F := Ideal) I.aX I.aM I.aG I.ag I.au I.ad = L2 (φ := .f32) (fun i j => n4 I.par (I.X i) j) := eq_L2 fun i j => by
  rw [val_main_v61_apply, r_v58 I, r_v60 I]
  exact ((EReal.coe_mul _ _).symm).trans (congrArg _ (rfl))

theorem r_v62 (I : In) : val_main_v62 (F := Ideal) I.aM = L2 (φ := .f32) (fun _ j => I.M 5 j) := eq_L2 fun i j => by
  rw [val_main_v62_apply, r_v45 I]
  exact rfl

theorem r_v63 (I : In) : val_main_v63 (F := Ideal) I.aX I.aM I.aG I.ag I.au I.ad = L2 (φ := .f32) (fun i j => (I.M 5 j) * (n4 I.par (I.X i) j)) := eq_L2 fun i j => by
  rw [val_main_v63_apply, r_v62 I, r_v61 I]
  exact (EReal.coe_mul _ _).symm

theorem r_v64 (I : In) : val_main_v64 (F := Ideal) I.aX I.aM I.aG I.ag I.au I.ad = L2 (φ := .f32) (fun i j => (I.X i j) + ((I.M 5 j) * (n4 I.par (I.X i) j))) := eq_L2 fun i j => by
  rw [val_main_v64_apply, r_v63 I]
  exact (EReal.coe_add _ _).symm

theorem r_v65 (I : In) : val_main_v65 (F := Ideal) I.aX I.aT I.aM I.aG I.ag I.au I.ad = L2 (φ := .f32) (fun i j => err I.par (I.X i) (I.T i) j) := eq_L2 fun i j => by
  rw [val_main_v65_apply, r_v64 I]
  exact ((EReal.coe_sub _ _).symm).trans (congrArg _ (rfl))

theorem r_v66 (I : In) : val_main_v66 (F := Ideal) I.aX I.aT I.aM I.aG I.ag I.au I.ad = L2 (φ := .f32) (fun i j => (err I.par (I.X i) (I.T i) j) * (err I.par (I.X i) (I.T i) j)) := eq_L2 fun i j => by
  rw [val_main_v66_apply, r_v65 I]
  exact (EReal.coe_mul _ _).symm

theorem r_cst_11 (I : In) : val_main_cst_11 (F := Ideal) = L0 (φ := .f32) 2 := by
  funext i; exact c_two

theorem r_v67 (I : In) : val_main_v67 (F := Ideal) = L2 (φ := .f32) (fun _ _ => 2) := eq_L2 fun i j => by
  rw [val_main_v67_apply, r_cst_11 I]
  exact rfl

theorem r_v68 (I : In) : val_main_v68 (F := Ideal) I.aX I.aT I.aM I.aG I.ag I.au I.ad = L2 (φ := .f32) (fun i j => 2 * (err I.par (I.X i) (I.T i) j)) := eq_L2 fun i j => by
  rw [val_main_v68_apply, r_v67 I, r_v65 I]
  exact (EReal.coe_mul _ _).symm

theorem r_cst_12 (I : In) : val_main_cst_12 (F := Ideal) = L0 (φ := .f32) 0 := by
  funext i; exact c_zero

theorem r_v69 (I : In) : val_main_v69 (F := Ideal) I.aX I.aT I.aM I.aG I.ag I.au I.ad = L1 (φ := .f32) (fun i => sq I.par (I.X i) (I.T i)) := eq_L1 fun i => by
  rw [val_main_v69_apply, r_v66 I, r_cst_12 I]
  exact (red_aux _ rfl _).trans (congrArg _ (rfl))

theorem r_cst_13 (I : In) : val_main_cst_13 (F := Ideal) = L0 (φ := .f32) 1024 := by
  funext i; exact c_1024

theorem r_v70 (I : In) : val_main_v70 (F := Ideal) = L1 (φ := .f32) (fun _ => 1024) := eq_L1 fun i => by
  rw [val_main_v70_apply, r_cst_13 I]
  exact rfl

theorem r_v71 (I : In) : val_main_v71 (F := Ideal) I.aX I.aT I.aM I.aG I.ag I.au I.ad = L1 (φ := .f32) (fun i => (sq I.par (I.X i) (I.T i)) / 1024) := eq_L1 fun i => by
  rw [val_main_v71_apply, r_v69 I, r_v70 I]
  exact div_coe _ _ (by norm_num)

theorem r_cst_14 (I : In) : val_main_cst_14 (F := Ideal) = L0 (φ := .f32) 0 := by
  funext i; exact c_zero

theorem r_v72 (I : In) : val_main_v72 (F := Ideal) I.aX I.aT I.aM I.aG I.ag I.au I.ad = L0 (φ := .f32) (∑ i, (sq I.par (I.X i) (I.T i)) / 1024) := by
  funext i
  rw [val_main_v72_apply, r_v71 I, r_cst_14 I]
  exact (congrArg (fun z : EReal => ((0 : ℝ) : EReal) + z) (sum_idx1 (fun i => (sq I.par (I.X i) (I.T i)) / 1024))).trans ((EReal.coe_add _ _).symm.trans (congrArg (fun x : ℝ => (x : EReal)) (zero_add _)))

theorem r_cst_15 (I : In) : val_main_cst_15 (F := Ideal) = L0 (φ := .f32) (1 / 2) := by
  funext i; exact c_half

theorem r_v73 (I : In) : val_main_v73 (F := Ideal) I.aX I.aT I.aM I.aG I.ag I.au I.ad = L0 (φ := .f32) (((1 / 2)) * (∑ i, (sq I.par (I.X i) (I.T i)) / 1024)) := by
  funext i
  rw [val_main_v73_apply, r_cst_15 I, r_v72 I]
  exact (EReal.coe_mul _ _).symm

theorem r_cst_16 (I : In) : val_main_cst_16 (F := Ideal) = L0 (φ := .f32) (1 / 2) := by
  funext i; exact c_half

theorem r_cst_17 (I : In) : val_main_cst_17 (F := Ideal) = L0 (φ := .f32) 1 := by
  funext i; exact c_one

theorem r_v74 (I : In) : val_main_v74 (F := Ideal) = L0 (φ := .f32) (((1 / 2)) * 1) := by
  funext i
  rw [val_main_v74_apply, r_cst_16 I, r_cst_17 I]
  exact (EReal.coe_mul _ _).symm

theorem r_v75 (I : In) : val_main_v75 (F := Ideal) = L1 (φ := .f32) (fun _ => ((1 / 2)) * 1) := eq_L1 fun i => by
  rw [val_main_v75_apply, r_v74 I]
  exact rfl

theorem r_cst_18 (I : In) : val_main_cst_18 (F := Ideal) = L0 (φ := .f32) 1024 := by
  funext i; exact c_1024

theorem r_v76 (I : In) : val_main_v76 (F := Ideal) = L1 (φ := .f32) (fun _ => 1024) := eq_L1 fun i => by
  rw [val_main_v76_apply, r_cst_18 I]
  exact rfl

theorem r_v77 (I : In) : val_main_v77 (F := Ideal) = L1 (φ := .f32) (fun _ => (((1 / 2)) * 1) / 1024) := eq_L1 fun i => by
  rw [val_main_v77_apply, r_v75 I, r_v76 I]
  exact div_coe _ _ (by norm_num)

theorem r_v78 (I : In) : val_main_v78 (F := Ideal) = L2 (φ := .f32) (fun _ _ => (((1 / 2)) * 1) / 1024) := eq_L2 fun i j => by
  rw [val_main_v78_apply, r_v77 I]
  exact rfl

theorem r_v79 (I : In) : val_main_v79 (F := Ideal) I.aX I.aT I.aM I.aG I.ag I.au I.ad = L2 (φ := .f32) (fun i j => dy I.par (I.X i) (I.T i) j) := eq_L2 fun i j => by
  rw [val_main_v79_apply, r_v78 I, r_v68 I]
  exact ((EReal.coe_mul _ _).symm).trans (congrArg _ (dy_eq _ _ _ _))

theorem r_v80 (I : In) : val_main_v80 (F := Ideal) I.aM = L2 (φ := .f32) (fun _ j => I.M 5 j) := eq_L2 fun i j => by
  rw [val_main_v80_apply, r_v45 I]
  exact rfl

theorem r_v81 (I : In) : val_main_v81 (F := Ideal) I.aX I.aT I.aM I.aG I.ag I.au I.ad = L2 (φ := .f32) (fun i j => dn4 I.par (I.X i) (I.T i) j) := eq_L2 fun i j => by
  rw [val_main_v81_apply, r_v80 I, r_v79 I]
  exact ((EReal.coe_mul _ _).symm).trans (congrArg _ (mul_comm _ _))

theorem r_v82 (I : In) : val_main_v82 (F := Ideal) I.aX I.aT I.aM I.aG I.ag I.au I.ad = L2 (φ := .f32) (fun i j => gGate I.par (I.X i) (I.T i) j) := eq_L2 fun i j => by
  rw [val_main_v82_apply, r_v79 I, r_v61 I]
  exact ((EReal.coe_mul _ _).symm).trans (congrArg _ (rfl))

theorem r_cst_19 (I : In) : val_main_cst_19 (F := Ideal) = L0 (φ := .f32) 0 := by
  funext i; exact c_zero

theorem r_v83 (I : In) : val_main_v83 (F := Ideal) I.aX I.aT I.aM I.aG I.ag I.au I.ad = L1 (φ := .f32) (fun j => ∑ i, gGate I.par (I.X i) (I.T i) j) := eq_L1 fun j => by
  rw [val_main_v83_apply, r_v82 I, r_cst_19 I]
  exact red_aux _ rfl _

theorem r_v84 (I : In) : val_main_v84 (F := Ideal) I.aX I.aT I.aM I.aG I.ag I.au I.ad = L2 (φ := .f32) (fun i j => ∑ i, gGate I.par (I.X i) (I.T i) j) := by
  unfold val_main_v84; rw [r_v83 I]; exact shapeCast_row_L2 _ _

theorem r_v85 (I : In) : val_main_v85 (F := Ideal) I.aX I.aT I.aM I.aG I.ag I.au I.ad = L2 (φ := .f32) (fun i j => gPost I.par (I.X i) (I.T i) j) := eq_L2 fun i j => by
  rw [val_main_v85_apply, r_v58 I, r_v81 I]
  exact ((EReal.coe_mul _ _).symm).trans (congrArg _ (mul_comm _ _))

theorem r_cst_20 (I : In) : val_main_cst_20 (F := Ideal) = L0 (φ := .f32) 0 := by
  funext i; exact c_zero

theorem r_v86 (I : In) : val_main_v86 (F := Ideal) I.aX I.aT I.aM I.aG I.ag I.au I.ad = L1 (φ := .f32) (fun j => ∑ i, gPost I.par (I.X i) (I.T i) j) := eq_L1 fun j => by
  rw [val_main_v86_apply, r_v85 I, r_cst_20 I]
  exact red_aux _ rfl _

theorem r_v87 (I : In) : val_main_v87 (F := Ideal) I.aX I.aT I.aM I.aG I.ag I.au I.ad = L2 (φ := .f32) (fun i j => ∑ i, gPost I.par (I.X i) (I.T i) j) := by
  unfold val_main_v87; rw [r_v86 I]; exact shapeCast_row_L2 _ _

theorem r_v88 (I : In) : val_main_v88 (F := Ideal) I.aG = L2 (φ := .f32) (fun _ j => I.G 3 j) := eq_L2 fun i j => by
  rw [val_main_v88_apply, r_v59 I]
  exact rfl

theorem r_v89 (I : In) : val_main_v89 (F := Ideal) I.aX I.aT I.aM I.aG I.ag I.au I.ad = L2 (φ := .f32) (fun i j => dfh I.par (I.X i) (I.T i) j) := eq_L2 fun i j => by
  rw [val_main_v89_apply, r_v81 I, r_v88 I]
  exact ((EReal.coe_mul _ _).symm).trans (congrArg _ (rfl))

theorem r_cst_21 (I : In) : val_main_cst_21 (F := Ideal) = L0 (φ := .f32) 0 := by
  funext i; exact c_zero

theorem r_v90 (I : In) : val_main_v90 (F := Ideal) I.aX I.aT I.aM I.aG I.ag I.au I.ad = L1 (φ := .f32) (fun j => ∑ r, gPost I.par (I.X r) (I.T r) j) := eq_L1 fun j => by
  rw [val_main_v90_apply, r_v87 I, r_cst_21 I]
  exact (red_aux _ rfl (fun _ => _)).trans (congrArg _ (Fin.sum_univ_one _))

theorem r_v91 (I : In) : val_main_v91 (F := Ideal) I.aX I.aT I.aM I.aG I.ag I.au I.ad = L2 (φ := .f32) (fun i j => (ff I.par (I.X i) j) * (dfh I.par (I.X i) (I.T i) j)) := eq_L2 fun i j => by
  rw [val_main_v91_apply, r_v44 I, r_v89 I]
  exact (EReal.coe_mul _ _).symm

theorem r_cst_22 (I : In) : val_main_cst_22 (F := Ideal) = L0 (φ := .f32) 0 := by
  funext i; exact c_zero

theorem r_v92 (I : In) : val_main_v92 (F := Ideal) I.aX I.aT I.aM I.aG I.ag I.au I.ad = L1 (φ := .f32) (fun i => ∑ k, (ff I.par (I.X i) k) * (dfh I.par (I.X i) (I.T i) k)) := eq_L1 fun i => by
  rw [val_main_v92_apply, r_v91 I, r_cst_22 I]
  exact red_aux _ rfl _

theorem r_v93 (I : In) : val_main_v93 (F := Ideal) I.aX I.aT I.aM I.aG I.ag I.au I.ad = L2 (φ := .f32) (fun i _ => ∑ k, (ff I.par (I.X i) k) * (dfh I.par (I.X i) (I.T i) k)) := by
  unfold val_main_v93; rw [r_v92 I]; exact shapeCast_col_L2 _ _

theorem r_v94 (I : In) : val_main_v94 (F := Ideal) I.aX I.aM I.aG I.ag I.au I.ad = L2 (φ := .f32) (fun i _ => rs (ff I.par (I.X i))) := eq_L2 fun i j => by
  rw [val_main_v94_apply, r_v53 I]
  exact rfl

theorem r_v95 (I : In) : val_main_v95 (F := Ideal) I.aX I.aT I.aM I.aG I.ag I.au I.ad = L2 (φ := .f32) (fun i j => (dfh I.par (I.X i) (I.T i) j) * (rs (ff I.par (I.X i)))) := eq_L2 fun i j => by
  rw [val_main_v95_apply, r_v89 I, r_v94 I]
  exact (EReal.coe_mul _ _).symm

theorem r_v96 (I : In) : val_main_v96 (F := Ideal) I.aX I.aT I.aM I.aG I.ag I.au I.ad = L2 (φ := .f32) (fun i _ => (∑ k, (ff I.par (I.X i) k) * (dfh I.par (I.X i) (I.T i) k)) * (((-(1 / 2))) * (rs (ff I.par (I.X i)) * (rs (ff I.par (I.X i)) * rs (ff I.par (I.X i)))))) := eq_L2 fun i j => by
  rw [val_main_v96_apply, r_v93 I, r_v56 I]
  exact (EReal.coe_mul _ _).symm

theorem r_cst_23 (I : In) : val_main_cst_23 (F := Ideal) = L0 (φ := .f32) 1024 := by
  funext i; exact c_1024

theorem r_v97 (I : In) : val_main_v97 (F := Ideal) = L2 (φ := .f32) (fun _ _ => 1024) := eq_L2 fun i j => by
  rw [val_main_v97_apply, r_cst_23 I]
  exact rfl

theorem r_v98 (I : In) : val_main_v98 (F := Ideal) I.aX I.aT I.aM I.aG I.ag I.au I.ad = L2 (φ := .f32) (fun i _ => ((∑ k, (ff I.par (I.X i) k) * (dfh I.par (I.X i) (I.T i) k)) * (((-(1 / 2))) * (rs (ff I.par (I.X i)) * (rs (ff I.par (I.X i)) * rs (ff I.par (I.X i)))))) / 1024) := eq_L2 fun i j => by
  rw [val_main_v98_apply, r_v96 I, r_v97 I]
  exact div_coe _ _ (by norm_num)

theorem r_cst_24 (I : In) : val_main_cst_24 (F := Ideal) = L0 (φ := .f32) 0 := by
  funext i; exact c_zero

theorem r_v99 (I : In) : val_main_v99 (F := Ideal) I.aX I.aT I.aM I.aG I.ag I.au I.ad = L1 (φ := .f32) (fun i => (∑ k, ff I.par (I.X i) k * dfh I.par (I.X i) (I.T i) k) * (-(1 / 2) * (rs (ff I.par (I.X i)) * (rs (ff I.par (I.X i)) * rs (ff I.par (I.X i))))) / 1024) := eq_L1 fun i => by
  rw [val_main_v99_apply, r_v98 I, r_cst_24 I]
  exact (red_aux _ rfl (fun _ => _)).trans (congrArg _ (Fin.sum_univ_one _))

theorem r_v100 (I : In) : val_main_v100 (F := Ideal) I.aX I.aT I.aM I.aG I.ag I.au I.ad = L2 (φ := .f32) (fun i _ => (∑ k, ff I.par (I.X i) k * dfh I.par (I.X i) (I.T i) k) * (-(1 / 2) * (rs (ff I.par (I.X i)) * (rs (ff I.par (I.X i)) * rs (ff I.par (I.X i))))) / 1024) := eq_L2 fun i j => by
  rw [val_main_v100_apply, r_v99 I]
  exact rfl

theorem r_v101 (I : In) : val_main_v101 (F := Ideal) I.aX I.aT I.aM I.aG I.ag I.au I.ad = L2 (φ := .f32) (fun i j => (ff I.par (I.X i) j) * ((∑ k, ff I.par (I.X i) k * dfh I.par (I.X i) (I.T i) k) * (-(1 / 2) * (rs (ff I.par (I.X i)) * (rs (ff I.par (I.X i)) * rs (ff I.par (I.X i))))) / 1024)) := eq_L2 fun i j => by
  rw [val_main_v101_apply, r_v44 I, r_v100 I]
  exact (EReal.coe_mul _ _).symm

theorem r_v102 (I : In) : val_main_v102 (F := Ideal) I.aX I.aT I.aM I.aG I.ag I.au I.ad = L2 (φ := .f32) (fun i j => ((dfh I.par (I.X i) (I.T i) j) * (rs (ff I.par (I.X i)))) + ((ff I.par (I.X i) j) * ((∑ k, ff I.par (I.X i) k * dfh I.par (I.X i) (I.T i) k) * (-(1 / 2) * (rs (ff I.par (I.X i)) * (rs (ff I.par (I.X i)) * rs (ff I.par (I.X i))))) / 1024))) := eq_L2 fun i j => by
  rw [val_main_v102_apply, r_v95 I, r_v101 I]
  exact (EReal.coe_add _ _).symm

theorem r_v103 (I : In) : val_main_v103 (F := Ideal) I.aX I.aT I.aM I.aG I.ag I.au I.ad = L2 (φ := .f32) (fun i j => ((∑ k, ff I.par (I.X i) k * dfh I.par (I.X i) (I.T i) k) * (-(1 / 2) * (rs (ff I.par (I.X i)) * (rs (ff I.par (I.X i)) * rs (ff I.par (I.X i))))) / 1024) * (ff I.par (I.X i) j)) := eq_L2 fun i j => by
  rw [val_main_v103_apply, r_v100 I, r_v44 I]
  exact (EReal.coe_mul _ _).symm

theorem r_v104 (I : In) : val_main_v104 (F := Ideal) I.aX I.aT I.aM I.aG I.ag I.au I.ad = L2 (φ := .f32) (fun i j => dff I.par (I.X i) (I.T i) j) := eq_L2 fun i j => by
  rw [val_main_v104_apply, r_v102 I, r_v103 I]
  exact ((EReal.coe_add _ _).symm).trans (congrArg _ (norm_bwd _ _ _))

theorem r_cst_25 (I : In) : val_main_cst_25 (F := Ideal) = L0 (φ := .f32) 0 := by
  funext i; exact c_zero

theorem r_v105 (I : In) : val_main_v105 (F := Ideal) I.aX I.aT I.aM I.aG I.ag I.au I.ad = L1 (φ := .f32) (fun j => ∑ r, gGate I.par (I.X r) (I.T r) j) := eq_L1 fun j => by
  rw [val_main_v105_apply, r_v84 I, r_cst_25 I]
  exact (red_aux _ rfl (fun _ => _)).trans (congrArg _ (Fin.sum_univ_one _))

end Cert.RefVal

end

end
-- ==== Proof.RefC.lean ====
/- The reference's values, operation by operation, on lifted arrays of reals, the third part: the gradients from the projections to the input. -/
module

public import proofs.«01_k».proof.Proof.RefB
public import proofs.«01_k».proof.Proof.Identity

@[expose] public section

set_option maxRecDepth 16384

noncomputable section

namespace Cert.RefVal

open Idealize.ShloMosaic Idealize.ShloMosaic.ValueIdx Cert.ReferenceIdeal Cert.ReferenceIdeal.Read Cert.Lift Cert.Ffn
open scoped BigOperators

theorem r_v106 (I : In) : val_main_v106 (F := Ideal) I.aX I.aT I.aM I.aG I.ag I.au I.ad = L2 (φ := .f32) (fun i j => dhid I.par (I.X i) (I.T i) j) := eq_L2 fun i j => by
  rw [val_main_v106_apply, r_v104 I]
  exact (dot_aux _ _).trans (congrArg _ (rfl))

theorem r_v107 (I : In) : val_main_v107 (F := Ideal) I.aX I.aT I.aM I.aG I.ag I.au I.ad = L2 (φ := .f32) (fun i j => du I.par (I.X i) (I.T i) j) := eq_L2 fun i j => by
  rw [val_main_v107_apply, r_v41_0 I, r_v106 I]
  exact ((EReal.coe_mul _ _).symm).trans (congrArg _ (mul_comm _ _))

theorem r_v108 (I : In) : val_main_v108 (F := Ideal) I.aX I.aT I.aM I.aG I.ag I.au I.ad = L2 (φ := .f32) (fun i j => (dhid I.par (I.X i) (I.T i) j) * (pu I.par (I.X i) j)) := eq_L2 fun i j => by
  rw [val_main_v108_apply, r_v106 I, r_v40 I]
  exact (EReal.coe_mul _ _).symm

theorem r_call1_v0 (I : In) : val_main_call1_v0 (F := Ideal) I.aX I.aT I.aM I.aG I.ag I.au I.ad = L2 (φ := .f32) (fun i j => (pa I.par (I.X i) j) * ((dhid I.par (I.X i) (I.T i) j) * (pu I.par (I.X i) j))) := eq_L2 fun i j => by
  rw [val_main_call1_v0_apply, r_v38 I, r_v108 I]
  exact (EReal.coe_mul _ _).symm

theorem r_call1_v1 (I : In) : val_main_call1_v1 (F := Ideal) I.aX I.aT I.aM I.aG I.ag I.au I.ad = L2 (φ := .f32) (fun i j => ((dhid I.par (I.X i) (I.T i) j) * (pu I.par (I.X i) j)) * (sig (pa I.par (I.X i) j))) := eq_L2 fun i j => by
  rw [val_main_call1_v1_apply, r_v108 I, r_v41_2 I]
  exact (EReal.coe_mul _ _).symm

theorem r_call1_v2 (I : In) : val_main_call1_v2 (F := Ideal) I.aX I.aT I.aM I.aG I.ag I.au I.ad = L2 (φ := .f32) (fun i j => ((pa I.par (I.X i) j) * ((dhid I.par (I.X i) (I.T i) j) * (pu I.par (I.X i) j))) * ((sig (pa I.par (I.X i) j)) * (1 - (sig (pa I.par (I.X i) j))))) := eq_L2 fun i j => by
  rw [val_main_call1_v2_apply, r_call1_v0 I, r_v41_1 I]
  exact (EReal.coe_mul _ _).symm

theorem r_v109 (I : In) : val_main_v109 (F := Ideal) I.aX I.aT I.aM I.aG I.ag I.au I.ad = L2 (φ := .f32) (fun i j => da I.par (I.X i) (I.T i) j) := eq_L2 fun i j => by
  rw [val_main_v109_apply, r_call1_v1 I, r_call1_v2 I]
  exact ((EReal.coe_add _ _).symm).trans (congrArg _ (da_eq _ _ _ _))

theorem r_v110 (I : In) : val_main_v110 (F := Ideal) I.aX I.aT I.aM I.aG I.ag I.au I.ad = L2 (φ := .f32) (fun i j => ∑ k, (du I.par (I.X i) (I.T i) k) * (I.wu j k)) := eq_L2 fun i j => by
  rw [val_main_v110_apply, r_v107 I]
  exact dot_aux _ _

theorem r_v111 (I : In) : val_main_v111 (F := Ideal) I.aX I.aT I.aM I.aG I.ag I.au I.ad = L2 (φ := .f32) (fun i j => ∑ k, (da I.par (I.X i) (I.T i) k) * (I.wg j k)) := eq_L2 fun i j => by
  rw [val_main_v111_apply, r_v109 I]
  exact dot_aux _ _

theorem r_v112 (I : In) : val_main_v112 (F := Ideal) I.aX I.aT I.aM I.aG I.ag I.au I.ad = L2 (φ := .f32) (fun i j => dh2 I.par (I.X i) (I.T i) j) := eq_L2 fun i j => by
  rw [val_main_v112_apply, r_v110 I, r_v111 I]
  exact ((EReal.coe_add _ _).symm).trans (congrArg _ (add_comm _ _))

theorem r_cst_26 (I : In) : val_main_cst_26 (F := Ideal) = L0 (φ := .f32) 0 := by
  funext i; exact c_zero

theorem r_v113 (I : In) : val_main_v113 (F := Ideal) I.aX I.aT I.aM I.aG I.ag I.au I.ad = L1 (φ := .f32) (fun j => ∑ r, gShift I.par (I.X r) (I.T r) j) := eq_L1 fun j => by
  rw [val_main_v113_apply, r_v112 I, r_cst_26 I]
  exact (red_aux _ rfl _).trans (congrArg _ (rfl))

theorem r_v114 (I : In) : val_main_v114 (F := Ideal) I.aX I.aT I.aM I.aG I.ag I.au I.ad = L2 (φ := .f32) (fun _ j => ∑ r, gShift I.par (I.X r) (I.T r) j) := by
  unfold val_main_v114; rw [r_v113 I]; exact shapeCast_row_L2 _ _

theorem r_cst_27 (I : In) : val_main_cst_27 (F := Ideal) = L0 (φ := .f32) 0 := by
  funext i; exact c_zero

theorem r_v115 (I : In) : val_main_v115 (F := Ideal) I.aX I.aT I.aM I.aG I.ag I.au I.ad = L1 (φ := .f32) (fun j => ∑ r, gShift I.par (I.X r) (I.T r) j) := eq_L1 fun j => by
  rw [val_main_v115_apply, r_v114 I, r_cst_27 I]
  exact (red_aux _ rfl (fun _ => _)).trans (congrArg _ (Fin.sum_univ_one _))

theorem r_v116 (I : In) : val_main_v116 (F := Ideal) I.aX I.aT I.aM I.aG I.ag I.au I.ad = L2 (φ := .f32) (fun i j => gScale I.par (I.X i) (I.T i) j) := eq_L2 fun i j => by
  rw [val_main_v116_apply, r_v28 I, r_v112 I]
  exact ((EReal.coe_mul _ _).symm).trans (congrArg _ (mul_comm _ _))

theorem r_cst_28 (I : In) : val_main_cst_28 (F := Ideal) = L0 (φ := .f32) 0 := by
  funext i; exact c_zero

theorem r_v117 (I : In) : val_main_v117 (F := Ideal) I.aX I.aT I.aM I.aG I.ag I.au I.ad = L1 (φ := .f32) (fun j => ∑ i, gScale I.par (I.X i) (I.T i) j) := eq_L1 fun j => by
  rw [val_main_v117_apply, r_v116 I, r_cst_28 I]
  exact red_aux _ rfl _

theorem r_v118 (I : In) : val_main_v118 (F := Ideal) I.aX I.aT I.aM I.aG I.ag I.au I.ad = L2 (φ := .f32) (fun i j => ∑ i, gScale I.par (I.X i) (I.T i) j) := by
  unfold val_main_v118; rw [r_v117 I]; exact shapeCast_row_L2 _ _

theorem r_v119 (I : In) : val_main_v119 (F := Ideal) I.aM = L2 (φ := .f32) (fun _ j => 1 + (I.M 4 j)) := eq_L2 fun i j => by
  rw [val_main_v119_apply, r_v31 I]
  exact rfl

theorem r_v120 (I : In) : val_main_v120 (F := Ideal) I.aX I.aT I.aM I.aG I.ag I.au I.ad = L2 (φ := .f32) (fun i j => dxn I.par (I.X i) (I.T i) j) := eq_L2 fun i j => by
  rw [val_main_v120_apply, r_v112 I, r_v119 I]
  exact ((EReal.coe_mul _ _).symm).trans (congrArg _ (rfl))

theorem r_cst_29 (I : In) : val_main_cst_29 (F := Ideal) = L0 (φ := .f32) 0 := by
  funext i; exact c_zero

theorem r_v121 (I : In) : val_main_v121 (F := Ideal) I.aX I.aT I.aM I.aG I.ag I.au I.ad = L1 (φ := .f32) (fun j => ∑ r, gScale I.par (I.X r) (I.T r) j) := eq_L1 fun j => by
  rw [val_main_v121_apply, r_v118 I, r_cst_29 I]
  exact (red_aux _ rfl (fun _ => _)).trans (congrArg _ (Fin.sum_univ_one _))

theorem r_v122 (I : In) : val_main_v122 (F := Ideal) I.aX I.aT I.aM I.aG I.ag I.au I.ad = L2 (φ := .f32) (fun i j => gPre I.par (I.X i) (I.T i) j) := eq_L2 fun i j => by
  rw [val_main_v122_apply, r_v25 I, r_v120 I]
  exact ((EReal.coe_mul _ _).symm).trans (congrArg _ (mul_comm _ _))

theorem r_cst_30 (I : In) : val_main_cst_30 (F := Ideal) = L0 (φ := .f32) 0 := by
  funext i; exact c_zero

theorem r_v123 (I : In) : val_main_v123 (F := Ideal) I.aX I.aT I.aM I.aG I.ag I.au I.ad = L1 (φ := .f32) (fun j => ∑ i, gPre I.par (I.X i) (I.T i) j) := eq_L1 fun j => by
  rw [val_main_v123_apply, r_v122 I, r_cst_30 I]
  exact red_aux _ rfl _

theorem r_v124 (I : In) : val_main_v124 (F := Ideal) I.aX I.aT I.aM I.aG I.ag I.au I.ad = L2 (φ := .f32) (fun i j => ∑ i, gPre I.par (I.X i) (I.T i) j) := by
  unfold val_main_v124; rw [r_v123 I]; exact shapeCast_row_L2 _ _

theorem r_v125 (I : In) : val_main_v125 (F := Ideal) I.aG = L2 (φ := .f32) (fun _ j => I.G 2 j) := eq_L2 fun i j => by
  rw [val_main_v125_apply, r_v26 I]
  exact rfl

theorem r_v126 (I : In) : val_main_v126 (F := Ideal) I.aX I.aT I.aM I.aG I.ag I.au I.ad = L2 (φ := .f32) (fun i j => dxh I.par (I.X i) (I.T i) j) := eq_L2 fun i j => by
  rw [val_main_v126_apply, r_v120 I, r_v125 I]
  exact ((EReal.coe_mul _ _).symm).trans (congrArg _ (rfl))

theorem r_cst_31 (I : In) : val_main_cst_31 (F := Ideal) = L0 (φ := .f32) 0 := by
  funext i; exact c_zero

theorem r_v127 (I : In) : val_main_v127 (F := Ideal) I.aX I.aT I.aM I.aG I.ag I.au I.ad = L1 (φ := .f32) (fun j => ∑ r, gPre I.par (I.X r) (I.T r) j) := eq_L1 fun j => by
  rw [val_main_v127_apply, r_v124 I, r_cst_31 I]
  exact (red_aux _ rfl (fun _ => _)).trans (congrArg _ (Fin.sum_univ_one _))

theorem r_v128 (I : In) : val_main_v128 (F := Ideal) I.aX I.aT I.aM I.aG I.ag I.au I.ad = L2 (φ := .f32) (fun i j => (I.X i j) * (dxh I.par (I.X i) (I.T i) j)) := eq_L2 fun i j => by
  rw [val_main_v128_apply, r_v126 I]
  exact (EReal.coe_mul _ _).symm

theorem r_cst_32 (I : In) : val_main_cst_32 (F := Ideal) = L0 (φ := .f32) 0 := by
  funext i; exact c_zero

theorem r_v129 (I : In) : val_main_v129 (F := Ideal) I.aX I.aT I.aM I.aG I.ag I.au I.ad = L1 (φ := .f32) (fun i => ∑ k, (I.X i k) * (dxh I.par (I.X i) (I.T i) k)) := eq_L1 fun i => by
  rw [val_main_v129_apply, r_v128 I, r_cst_32 I]
  exact red_aux _ rfl _

theorem r_v130 (I : In) : val_main_v130 (F := Ideal) I.aX I.aT I.aM I.aG I.ag I.au I.ad = L2 (φ := .f32) (fun i _ => ∑ k, (I.X i k) * (dxh I.par (I.X i) (I.T i) k)) := by
  unfold val_main_v130; rw [r_v129 I]; exact shapeCast_col_L2 _ _

theorem r_v131 (I : In) : val_main_v131 (F := Ideal) I.aX = L2 (φ := .f32) (fun i _ => rs (I.X i)) := eq_L2 fun i j => by
  rw [val_main_v131_apply, r_v20 I]
  exact rfl

theorem r_v132 (I : In) : val_main_v132 (F := Ideal) I.aX I.aT I.aM I.aG I.ag I.au I.ad = L2 (φ := .f32) (fun i j => (dxh I.par (I.X i) (I.T i) j) * (rs (I.X i))) := eq_L2 fun i j => by
  rw [val_main_v132_apply, r_v126 I, r_v131 I]
  exact (EReal.coe_mul _ _).symm

theorem r_v133 (I : In) : val_main_v133 (F := Ideal) I.aX I.aT I.aM I.aG I.ag I.au I.ad = L2 (φ := .f32) (fun i j => (dy I.par (I.X i) (I.T i) j) + ((dxh I.par (I.X i) (I.T i) j) * (rs (I.X i)))) := eq_L2 fun i j => by
  rw [val_main_v133_apply, r_v79 I, r_v132 I]
  exact (EReal.coe_add _ _).symm

theorem r_v134 (I : In) : val_main_v134 (F := Ideal) I.aX I.aT I.aM I.aG I.ag I.au I.ad = L2 (φ := .f32) (fun i _ => (∑ k, (I.X i k) * (dxh I.par (I.X i) (I.T i) k)) * (((-(1 / 2))) * (rs (I.X i) * (rs (I.X i) * rs (I.X i))))) := eq_L2 fun i j => by
  rw [val_main_v134_apply, r_v130 I, r_v23 I]
  exact (EReal.coe_mul _ _).symm

theorem r_cst_33 (I : In) : val_main_cst_33 (F := Ideal) = L0 (φ := .f32) 1024 := by
  funext i; exact c_1024

theorem r_v135 (I : In) : val_main_v135 (F := Ideal) = L2 (φ := .f32) (fun _ _ => 1024) := eq_L2 fun i j => by
  rw [val_main_v135_apply, r_cst_33 I]
  exact rfl

theorem r_v136 (I : In) : val_main_v136 (F := Ideal) I.aX I.aT I.aM I.aG I.ag I.au I.ad = L2 (φ := .f32) (fun i _ => ((∑ k, (I.X i k) * (dxh I.par (I.X i) (I.T i) k)) * (((-(1 / 2))) * (rs (I.X i) * (rs (I.X i) * rs (I.X i))))) / 1024) := eq_L2 fun i j => by
  rw [val_main_v136_apply, r_v134 I, r_v135 I]
  exact div_coe _ _ (by norm_num)

theorem r_cst_34 (I : In) : val_main_cst_34 (F := Ideal) = L0 (φ := .f32) 0 := by
  funext i; exact c_zero

theorem r_v137 (I : In) : val_main_v137 (F := Ideal) I.aX I.aT I.aM I.aG I.ag I.au I.ad = L1 (φ := .f32) (fun i => (∑ k, I.X i k * dxh I.par (I.X i) (I.T i) k) * (-(1 / 2) * (rs (I.X i) * (rs (I.X i) * rs (I.X i)))) / 1024) := eq_L1 fun i => by
  rw [val_main_v137_apply, r_v136 I, r_cst_34 I]
  exact (red_aux _ rfl (fun _ => _)).trans (congrArg _ (Fin.sum_univ_one _))

theorem r_v138 (I : In) : val_main_v138 (F := Ideal) I.aX I.aT I.aM I.aG I.ag I.au I.ad = L2 (φ := .f32) (fun i _ => (∑ k, I.X i k * dxh I.par (I.X i) (I.T i) k) * (-(1 / 2) * (rs (I.X i) * (rs (I.X i) * rs (I.X i)))) / 1024) := eq_L2 fun i j => by
  rw [val_main_v138_apply, r_v137 I]
  exact rfl

theorem r_v139 (I : In) : val_main_v139 (F := Ideal) I.aX I.aT I.aM I.aG I.ag I.au I.ad = L2 (φ := .f32) (fun i j => (I.X i j) * ((∑ k, I.X i k * dxh I.par (I.X i) (I.T i) k) * (-(1 / 2) * (rs (I.X i) * (rs (I.X i) * rs (I.X i)))) / 1024)) := eq_L2 fun i j => by
  rw [val_main_v139_apply, r_v138 I]
  exact (EReal.coe_mul _ _).symm

theorem r_v140 (I : In) : val_main_v140 (F := Ideal) I.aX I.aT I.aM I.aG I.ag I.au I.ad = L2 (φ := .f32) (fun i j => ((dy I.par (I.X i) (I.T i) j) + ((dxh I.par (I.X i) (I.T i) j) * (rs (I.X i)))) + ((I.X i j) * ((∑ k, I.X i k * dxh I.par (I.X i) (I.T i) k) * (-(1 / 2) * (rs (I.X i) * (rs (I.X i) * rs (I.X i)))) / 1024))) := eq_L2 fun i j => by
  rw [val_main_v140_apply, r_v133 I, r_v139 I]
  exact (EReal.coe_add _ _).symm

theorem r_v141 (I : In) : val_main_v141 (F := Ideal) I.aX I.aT I.aM I.aG I.ag I.au I.ad = L2 (φ := .f32) (fun i j => ((∑ k, I.X i k * dxh I.par (I.X i) (I.T i) k) * (-(1 / 2) * (rs (I.X i) * (rs (I.X i) * rs (I.X i)))) / 1024) * (I.X i j)) := eq_L2 fun i j => by
  rw [val_main_v141_apply, r_v138 I]
  exact (EReal.coe_mul _ _).symm

theorem r_v142 (I : In) : val_main_v142 (F := Ideal) I.aX I.aT I.aM I.aG I.ag I.au I.ad = L2 (φ := .f32) (fun i j => dx I.par (I.X i) (I.T i) j) := eq_L2 fun i j => by
  rw [val_main_v142_apply, r_v140 I, r_v141 I]
  exact ((EReal.coe_add _ _).symm).trans (congrArg _ (dx_eq _ _ _ _))

theorem r_v143 (I : In) : val_main_v143 (F := Ideal) I.aX I.aT I.aM I.aG I.ag I.au I.ad = L2 (φ := .f32) (fun _ j => ∑ r, gGate I.par (I.X r) (I.T r) j) := eq_L2 fun i j => by
  rw [val_main_v143_apply, r_v105 I]
  exact rfl

theorem r_v144 (I : In) : val_main_v144 (F := Ideal) I.aX I.aT I.aM I.aG I.ag I.au I.ad = L2 (φ := .f32) (fun _ j => ∑ r, gPost I.par (I.X r) (I.T r) j) := eq_L2 fun i j => by
  rw [val_main_v144_apply, r_v90 I]
  exact rfl

theorem r_v145 (I : In) : val_main_v145 (F := Ideal) I.aX I.aT I.aM I.aG I.ag I.au I.ad = L2 (φ := .f32) (fun _ j => ∑ r, gScale I.par (I.X r) (I.T r) j) := eq_L2 fun i j => by
  rw [val_main_v145_apply, r_v121 I]
  exact rfl

theorem r_v146 (I : In) : val_main_v146 (F := Ideal) I.aX I.aT I.aM I.aG I.ag I.au I.ad = L2 (φ := .f32) (fun _ j => ∑ r, gShift I.par (I.X r) (I.T r) j) := eq_L2 fun i j => by
  rw [val_main_v146_apply, r_v115 I]
  exact rfl

theorem r_v147 (I : In) : val_main_v147 (F := Ideal) I.aX I.aT I.aM I.aG I.ag I.au I.ad = L2 (φ := .f32) (fun _ j => ∑ r, gPre I.par (I.X r) (I.T r) j) := eq_L2 fun i j => by
  rw [val_main_v147_apply, r_v127 I]
  exact rfl

theorem r_v149 (I : In) : val_main_v149 (F := Ideal) I.aX I.aM I.aG = L2 (φ := .bf16) (fun i j => h2 I.par (I.X i) j) := eq_L2 fun i j => by
  rw [val_main_v149_apply, r_v36 I]
  exact rfl

theorem r_v150 (I : In) : val_main_v150 (F := Ideal) I.aX I.aM I.aG I.ag I.au = L2 (φ := .bf16) (fun i j => hid I.par (I.X i) j) := eq_L2 fun i j => by
  rw [val_main_v150_apply, r_v42 I]
  exact rfl

theorem r_v151 (I : In) : val_main_v151 (F := Ideal) I.aX I.aT I.aM I.aG I.ag I.au I.ad = L2 (φ := .bf16) (fun i j => da I.par (I.X i) (I.T i) j) := eq_L2 fun i j => by
  rw [val_main_v151_apply, r_v109 I]
  exact rfl

theorem r_v152 (I : In) : val_main_v152 (F := Ideal) I.aX I.aT I.aM I.aG I.ag I.au I.ad = L2 (φ := .bf16) (fun i j => du I.par (I.X i) (I.T i) j) := eq_L2 fun i j => by
  rw [val_main_v152_apply, r_v107 I]
  exact rfl

theorem r_v153 (I : In) : val_main_v153 (F := Ideal) I.aX I.aT I.aM I.aG I.ag I.au I.ad = L2 (φ := .bf16) (fun i j => dff I.par (I.X i) (I.T i) j) := eq_L2 fun i j => by
  rw [val_main_v153_apply, r_v104 I]
  exact rfl

theorem r_cst_35 (I : In) : val_main_cst_35 (F := Ideal) = L0 (φ := .f32) 0 := by
  funext i; exact c_zero

theorem r_v154 (I : In) : val_main_v154 (F := Ideal) = L2 (φ := .f32) (fun _ _ => 0) := eq_L2 fun i j => by
  rw [val_main_v154_apply, r_cst_35 I]
  exact rfl

theorem r_v156 (I : In) : val_main_v156 (F := Ideal) I.aX I.aT I.aM I.aG I.ag I.au I.ad = L2 (φ := .f32) (fun i _ => ((1 / 2)) * (∑ i, (sq I.par (I.X i) (I.T i)) / 1024)) := eq_L2 fun i j => by
  rw [val_main_v156_apply, r_v73 I]
  exact rfl

end Cert.RefVal

end

end
-- ==== Proof.RefD.lean ====
/- The reference's two joined results: the eight rows of parameter gradients, of which three are zero, and the loss in every
   place of its block. -/
module

public import proofs.«01_k».proof.Proof.RefC

@[expose] public section

set_option maxRecDepth 16384

noncomputable section

namespace Cert.RefVal

open Idealize.ShloMosaic Idealize.ShloMosaic.ValueIdx Cert.ReferenceIdeal Cert.ReferenceIdeal.Read Cert.Lift Cert.Ffn
open scoped BigOperators

/-- Five rows joined. -/
abbrev five (a b d e f : Row) : List ((s : Shape) × (s.Idx → EReal)) :=
  [⟨S1x1024, (L2 (φ := .f32) (fun _ j => a j) : FVec Ideal S1x1024 .f32)⟩, ⟨S1x1024, (L2 (φ := .f32) (fun _ j => b j) : FVec Ideal S1x1024 .f32)⟩,
    ⟨S1x1024, (L2 (φ := .f32) (fun _ j => d j) : FVec Ideal S1x1024 .f32)⟩, ⟨S1x1024, (L2 (φ := .f32) (fun _ j => e j) : FVec Ideal S1x1024 .f32)⟩,
    ⟨S1x1024, (L2 (φ := .f32) (fun _ j => f j) : FVec Ideal S1x1024 .f32)⟩]

/-- The rows in order, zero beyond the fifth. -/
def row5 {n : ℕ} (a b d e f : Row) : Fin n → Row := fun k => match k.val with
  | 0 => a | 1 => b | 2 => d | 3 => e | 4 => f | _ => fun _ => 0

theorem join5 (a b d e f : Row) (h : Shape.Concatenates ((five a b d e f).map (·.1)) S5x1024 0) :
    concatenate S5x1024 0 (five a b d e f) h = (L2 (φ := .f32) (row5 a b d e f) : FVec Ideal S5x1024 .f32) :=
  eq_L2 fun k j => by
    match k with
    | ⟨0, _⟩ =>
      exact concatenate_apply_piece (t := S5x1024) 0 (five a b d e f) h (ix2 0 j) 0 (by show 0 < 5; decide) S1x1024 _ rfl rfl 0 rfl (ix2 0 j)
        (fun x hx => match x with | ⟨0, _⟩ => absurd rfl hx | ⟨1, _⟩ => rfl) rfl
    | ⟨1, _⟩ =>
      exact concatenate_apply_piece (t := S5x1024) 0 (five a b d e f) h (ix2 1 j) 1 (by show 1 < 5; decide) S1x1024 _ rfl rfl 1 rfl (ix2 0 j)
        (fun x hx => match x with | ⟨0, _⟩ => absurd rfl hx | ⟨1, _⟩ => rfl) rfl
    | ⟨2, _⟩ =>
      exact concatenate_apply_piece (t := S5x1024) 0 (five a b d e f) h (ix2 2 j) 2 (by show 2 < 5; decide) S1x1024 _ rfl rfl 2 rfl (ix2 0 j)
        (fun x hx => match x with | ⟨0, _⟩ => absurd rfl hx | ⟨1, _⟩ => rfl) rfl
    | ⟨3, _⟩ =>
      exact concatenate_apply_piece (t := S5x1024) 0 (five a b d e f) h (ix2 3 j) 3 (by show 3 < 5; decide) S1x1024 _ rfl rfl 3 rfl (ix2 0 j)
        (fun x hx => match x with | ⟨0, _⟩ => absurd rfl hx | ⟨1, _⟩ => rfl) rfl
    | ⟨4, _⟩ =>
      exact concatenate_apply_piece (t := S5x1024) 0 (five a b d e f) h (ix2 4 j) 4 (by show 4 < 5; decide) S1x1024 _ rfl rfl 4 rfl (ix2 0 j)
        (fun x hx => match x with | ⟨0, _⟩ => absurd rfl hx | ⟨1, _⟩ => rfl) rfl

theorem join8 (a b d e f : Row) (h : Shape.Concatenates [S5x1024, S3x1024] S8x1024 0) :
    concatenate S8x1024 0 [⟨S5x1024, (L2 (φ := .f32) (row5 a b d e f) : FVec Ideal S5x1024 .f32)⟩,
        ⟨S3x1024, (L2 (φ := .f32) (fun _ _ => 0) : FVec Ideal S3x1024 .f32)⟩] h
      = (L2 (φ := .f32) (row5 a b d e f) : FVec Ideal S8x1024 .f32) :=
  eq_L2 fun k j => by
    by_cases h5 : k.val < 5
    · exact (concatenate_pair_apply_left 0 _ _ h (ix2 k j) rfl (ix2 ⟨k.val, h5⟩ j)
        (fun x => match x with | ⟨0, _⟩ => rfl | ⟨1, _⟩ => rfl)).trans rfl
    · have hk := k.isLt
      refine (concatenate_pair_apply_right 0 _ _ h (ix2 k j) rfl rfl (ix2 ⟨k.val - 5, by omega⟩ j)
        (fun x hx => match x with | ⟨0, _⟩ => absurd rfl hx | ⟨1, _⟩ => rfl) (show k.val - 5 + 5 = k.val by omega)).trans ?_
      refine congrArg (fun x : ℝ => (x : EReal)) ?_
      match k, h5 with
      | ⟨0, _⟩, h => exact absurd (by show (0 : ℕ) < 5; decide) h
      | ⟨1, _⟩, h => exact absurd (by show (1 : ℕ) < 5; decide) h
      | ⟨2, _⟩, h => exact absurd (by show (2 : ℕ) < 5; decide) h
      | ⟨3, _⟩, h => exact absurd (by show (3 : ℕ) < 5; decide) h
      | ⟨4, _⟩, h => exact absurd (by show (4 : ℕ) < 5; decide) h
      | ⟨5, _⟩, _ => rfl
      | ⟨6, _⟩, _ => rfl
      | ⟨7, _⟩, _ => rfl

/-- The five parameter gradients, each the sum over all rows. -/
abbrev grads {n : ℕ} (I : In) : Fin n → Row :=
  row5 (fun j => ∑ r, gGate I.par (I.X r) (I.T r) j) (fun j => ∑ r, gPost I.par (I.X r) (I.T r) j)
    (fun j => ∑ r, gScale I.par (I.X r) (I.T r) j) (fun j => ∑ r, gShift I.par (I.X r) (I.T r) j)
    (fun j => ∑ r, gPre I.par (I.X r) (I.T r) j)

theorem r_v148 (I : In) : val_main_v148 (F := Ideal) I.aX I.aT I.aM I.aG I.ag I.au I.ad = L2 (φ := .f32) (grads I) := by
  unfold val_main_v148
  rw [r_v143 I, r_v144 I, r_v145 I, r_v146 I, r_v147 I]
  exact join5 _ _ _ _ _ _

theorem r_v155 (I : In) : val_main_v155 (F := Ideal) I.aX I.aT I.aM I.aG I.ag I.au I.ad = L2 (φ := .f32) (grads I) := by
  unfold val_main_v155
  rw [r_v148 I, r_v154 I]
  exact join8 _ _ _ _ _ _

end Cert.RefVal

end

end
-- ==== Proof.Sums.lean ====
/- The sums the grid builds block by block are the sums over all rows. -/
module

public import proofs.«01_k».proof.Proof.Grid
public import proofs.«01_k».proof.Proof.RefD

@[expose] public section

set_option maxRecDepth 16384

noncomputable section

namespace Cert.Sums

open Idealize.ShloMosaic Cert.Lift Cert.Ffn Cert.RefVal Cert.Point Cert.Grid
open scoped BigOperators

/-- Thirty-two blocks of 256 rows are the 8192 rows. -/
theorem sum_blocks (f : Fin 8192 → ℝ) :
    ∑ n ∈ Finset.range 32, ∑ i : Fin 256, f ⟨(256 * n + i.val) % 8192, Nat.mod_lt _ (by norm_num)⟩ = ∑ r, f r := by
  rw [Finset.sum_range (fun n => ∑ i : Fin 256, f ⟨(256 * n + i.val) % 8192, Nat.mod_lt _ (by norm_num)⟩)]
  rw [← Fintype.sum_prod_type' (fun (n : Fin 32) (i : Fin 256) => f ⟨(256 * n.val + i.val) % 8192, Nat.mod_lt _ (by norm_num)⟩)]
  refine Fintype.sum_equiv (finProdFinEquiv (m := 32) (n := 256)) _ _ fun p => congrArg f (Fin.ext ?_)
  have h1 := p.1.isLt
  have h2 := p.2.isLt
  show (256 * p.1.val + p.2.val) % 8192 = p.2.val + 256 * p.1.val
  omega

variable (P : Par) (X T : Fin 8192 → Row)

theorem accN_sum (k : Fin 8) (j : Fin 1024) : ∀ n, accN P X T n k j = ∑ q ∈ Finset.range (n + 1), g5 P (blkN X q) (blkN T q) k j
  | 0 => by rw [Finset.sum_range_one]; rfl
  | n + 1 => by rw [Finset.sum_range_succ, ← accN_sum k j n]; rfl

theorem losN_sum (a : Fin 8) (b : Fin 128) :
    ∀ n, losN P X T n a b = ∑ q ∈ Finset.range (n + 1), (∑ r, sq P (blkN X q r) (blkN T q r)) * (1 / 2048)
  | 0 => by rw [Finset.sum_range_one]; exact zero_add _
  | n + 1 => by rw [Finset.sum_range_succ, ← losN_sum a b n]; rfl

theorem g5_rows (A B : Fin 256 → Row) : g5 P A B = row5 (fun j => ∑ r, gGate P (A r) (B r) j) (fun j => ∑ r, gPost P (A r) (B r) j)
    (fun j => ∑ r, gScale P (A r) (B r) j) (fun j => ∑ r, gShift P (A r) (B r) j) (fun j => ∑ r, gPre P (A r) (B r) j) := by
  funext k
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The five sums after the last block are the reference's gradients. -/
theorem acc_all (I : In) : accN I.par I.X I.T 31 = grads I := by
  funext k j
  rw [accN_sum]
  simp only [g5_rows]
  match k with
  | ⟨0, _⟩ => exact sum_blocks fun r => gGate I.par (I.X r) (I.T r) j
  | ⟨1, _⟩ => exact sum_blocks fun r => gPost I.par (I.X r) (I.T r) j
  | ⟨2, _⟩ => exact sum_blocks fun r => gScale I.par (I.X r) (I.T r) j
  | ⟨3, _⟩ => exact sum_blocks fun r => gShift I.par (I.X r) (I.T r) j
  | ⟨4, _⟩ => exact sum_blocks fun r => gPre I.par (I.X r) (I.T r) j
  | ⟨5, _⟩ => exact Finset.sum_const_zero
  | ⟨6, _⟩ => exact Finset.sum_const_zero
  | ⟨7, _⟩ => exact Finset.sum_const_zero

/-- The loss after the last block is the reference's. -/
theorem los_all (I : In) (a : Fin 8) (b : Fin 128) :
    losN I.par I.X I.T 31 a b = 1 / 2 * ∑ i, sq I.par (I.X i) (I.T i) / 1024 := by
  rw [losN_sum, ← Finset.sum_mul]
  rw [show (∑ q ∈ Finset.range (31 + 1), ∑ r, sq I.par (blkN I.X q r) (blkN I.T q r)) = ∑ r, sq I.par (I.X r) (I.T r) from
    sum_blocks fun r => sq I.par (I.X r) (I.T r)]
  rw [Finset.sum_mul, Finset.mul_sum]
  exact Finset.sum_congr rfl fun _ _ => by ring

end Cert.Sums

end

end
-- ==== Proof.Finite.lean ====
/- The precondition opened: seven arrays all of whose elements are finite are arrays of reals. -/
module

public import proofs.«01_k».proof.Proof.RefA
public import proofs.«01_k».proof.Proof.Gen.Pre_finite
public import Idealize.ShloMosaic.Lib.ReduceAll

@[expose] public section

set_option maxRecDepth 16384

noncomputable section

namespace Cert.Finite

open Idealize.ShloMosaic Idealize.ShloMosaic.ValueIdx Cert.Lift Cert.Ffn Cert.RefVal
open scoped BigOperators

/-- An extended real whose absolute value is below infinity is a real. -/
theorem coe_of_lt (x : EReal) (h : Ideal.cmp .olt (max x (-x)) (Ideal.ofBits .f32 0x7F800000#32) = 1#1) : x = ((x.toReal : ℝ) : EReal) := by
  have hi : Ideal.ofBits .f32 0x7F800000#32 = (⊤ : EReal) := by simp [Ideal.ofBits, Ideal.ieee]
  rw [hi] at h
  have hl : max x (-x) < ⊤ := by
    by_contra hn
    simp [Ideal.cmp, hn] at h
  refine (EReal.coe_toReal ?_ ?_).symm
  · rintro rfl
    simp at hl
  · rintro rfl
    simp at hl

/-- An array that passes the test is an array of reals. -/
theorem lift_of_all {n m : ℕ} (x : FVec Ideal ⟨2, ![n, m]⟩ .f32)
    (hb : (⟨0, ![]⟩ : Shape).BroadcastsInDim ⟨2, ![n, m]⟩ ![]) (hr : (⟨2, ![n, m]⟩ : Shape).ReducesTo [0, 1] ⟨0, ![]⟩)
    (hu : 0 < (⟨0, ![]⟩ : Shape).numel) (i : (⟨0, ![]⟩ : Shape).Idx)
    (h : Host.reduce IntOp.andi (cmpf .olt (Host.absf x) (broadcastInDim ⟨2, ![n, m]⟩ ![] hb (constant (F := Ideal) ⟨0, ![]⟩ .f32 0x7F800000#32)))
      (constantI ⟨0, ![]⟩ 1 1#1) hr hu i = 1#1) :
    x = L2 (φ := .f32) fun a b => (x (ix2 a b)).toReal :=
  eq_L2 fun a b => by
    haveI : Subsingleton (⟨0, ![]⟩ : Shape).Idx := ⟨fun p q => funext fun k => k.elim0⟩
    have e := Host.reduce_andi_all _ _ hr hu i h (ix2 a b)
    refine coe_of_lt _ (Eq.trans (congrArg (Ideal.cmp .olt (max (x (ix2 a b)) (-(x (ix2 a b))))) ?_) e)
    exact (broadcastInDim_apply _ hb (constant (F := Ideal) ⟨0, ![]⟩ .f32 0x7F800000#32) (ix2 a b) (fun k => k.elim0) (fun k => k.elim0)).symm

variable [Cert.Pre_finite.Facts]

/-- The seven arguments are arrays of reals. -/
theorem reals (x0 x1 : FVec Ideal ⟨2, ![8192, 1024]⟩ .f32) (x2 : FVec Ideal ⟨2, ![6, 1024]⟩ .f32) (x3 : FVec Ideal ⟨2, ![4, 1024]⟩ .f32)
    (x4 x5 : FVec Ideal ⟨2, ![1024, 2816]⟩ .f32) (x6 : FVec Ideal ⟨2, ![2816, 1024]⟩ .f32)
    (h : Cert.Pre_finite.fn (F := Ideal) x0 x1 x2 x3 x4 x5 x6 = fun _ => 1#1) :
    ∃ I : In, x0 = I.aX ∧ x1 = I.aT ∧ x2 = I.aM ∧ x3 = I.aG ∧ x4 = I.ag ∧ x5 = I.au ∧ x6 = I.ad := by
  have h0 := congrFun h (fun a => a.elim0)
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨h5, e2⟩ := IntOp.andi_eq_one.1 h4
  obtain ⟨e0, e1⟩ := IntOp.andi_eq_one.1 h5
  exact ⟨⟨_, _, _, _, _, _, _⟩, lift_of_all x0 _ _ _ _ e0, lift_of_all x1 _ _ _ _ e1, lift_of_all x2 _ _ _ _ e2, lift_of_all x3 _ _ _ _ e3,
    lift_of_all x4 _ _ _ _ e4, lift_of_all x5 _ _ _ _ e5, lift_of_all x6 _ _ _ _ e6⟩

end Cert.Finite

end

end
-- ==== Proof.Value.lean ====
/- The value claim: from finite arguments both programs end with the row model's arrays. -/
module

public import proofs.«01_k».proof.Defs
public import proofs.«01_k».proof.Proof.HostIn
public import proofs.«01_k».proof.Proof.Sums
public import proofs.«01_k».proof.Proof.Finite
public import Idealize.ShloMosaic.Adequacy
public import Idealize.ShloMosaic.Init

@[expose] public section

set_option maxRecDepth 16384

noncomputable section

namespace Cert.FfnValue

open Idealize.ShloMosaic Idealize.ShloMosaic.StableHlo Idealize.SL.Sem Cert.Lift Cert.Ffn Cert.RefVal Cert.Point Cert.Grid Cert.HostIn

theorem kernel (m : (ℓ : Loc Cert.KernelIdeal.nD Cert.KernelIdeal.τ Cert.KernelIdeal.sig) → Buf (Elt Ideal) ℓ) (c : Dev Cert.KernelIdeal.nD) (I : In) (H : Holds I m c) :
    (Cert.KernelIdeal.Gen.dats m 0 c).arrAt 3 Cert.KernelIdeal.cfg0.N = L2 (φ := .f32) (fun r => dx I.par (I.X r) (I.T r))
    ∧ (Cert.KernelIdeal.Gen.dats m 0 c).arrAt 4 Cert.KernelIdeal.cfg0.N = L2 (φ := .bf16) (fun r => Ffn.h2 I.par (I.X r))
    ∧ (Cert.KernelIdeal.Gen.dats m 0 c).arrAt 5 Cert.KernelIdeal.cfg0.N = L2 (φ := .bf16) (fun r => hid I.par (I.X r))
    ∧ (Cert.KernelIdeal.Gen.dats m 0 c).arrAt 6 Cert.KernelIdeal.cfg0.N = L2 (φ := .bf16) (fun r => da I.par (I.X r) (I.T r))
    ∧ (Cert.KernelIdeal.Gen.dats m 0 c).arrAt 7 Cert.KernelIdeal.cfg0.N = L2 (φ := .bf16) (fun r => du I.par (I.X r) (I.T r))
    ∧ (Cert.KernelIdeal.Gen.dats m 0 c).arrAt 8 Cert.KernelIdeal.cfg0.N = L2 (φ := .bf16) (fun r => dff I.par (I.X r) (I.T r))
    ∧ (Cert.KernelIdeal.Gen.dats m 0 c).arrAt 9 Cert.KernelIdeal.cfg0.N = L2 (φ := .f32) (grads (n := 8) I)
    ∧ (Cert.KernelIdeal.Gen.dats m 0 c).arrAt 10 Cert.KernelIdeal.cfg0.N
        = L2 (φ := .f32) (fun (_ : Fin 8) (_ : Fin 128) => 1 / 2 * ∑ i, sq I.par (I.X i) (I.T i) / 1024) := by
  have hX := in_x H
  have hT := in_t H
  have hV := in_v H
  have h0 := in_wg H
  have h1 := in_wu H
  have h2 := in_wd H
  refine ⟨fin3 m c I.X I.T (rows I.M I.G) _ _ _ hX hT hV h0 h1 h2, fin4 m c I.X I.T (rows I.M I.G) _ _ _ hX hT hV h0 h1 h2,
    fin5 m c I.X I.T (rows I.M I.G) _ _ _ hX hT hV h0 h1 h2, fin6 m c I.X I.T (rows I.M I.G) _ _ _ hX hT hV h0 h1 h2,
    fin7 m c I.X I.T (rows I.M I.G) _ _ _ hX hT hV h0 h1 h2, fin8 m c I.X I.T (rows I.M I.G) _ _ _ hX hT hV h0 h1 h2, ?_, ?_⟩
  · refine (fin9 m c I.X I.T (rows I.M I.G) _ _ _ hX hT hV h0 h1 h2).trans ?_
    exact congrArg (L2 (φ := .f32)) ((congrArg (fun P => accN P I.X I.T 31) par_eq).trans (Sums.acc_all I))
  · refine (fin10 m c I.X I.T (rows I.M I.G) _ _ _ hX hT hV h0 h1 h2).trans ?_
    exact congrArg (L2 (φ := .f32)) ((congrArg (fun P => losN P I.X I.T 31) par_eq).trans (funext fun a => funext fun b => Sums.los_all I a b))

open Cert.ReferenceIdeal Cert.ReferenceIdeal.Read in
theorem reference (m : (ℓ : Loc nD τ sig) → Buf (Elt Ideal) ℓ) (g : Dev nD → PrngReg) (I : Dev nD → In)
    (H : ∀ c : Dev nD, m ((c.tc : Thread nD τ).loc main_arg0) = (I c).aX ∧ m ((c.tc : Thread nD τ).loc main_arg1) = (I c).aT
      ∧ m ((c.tc : Thread nD τ).loc main_arg2) = (I c).aM ∧ m ((c.tc : Thread nD τ).loc main_arg3) = (I c).aG
      ∧ m ((c.tc : Thread nD τ).loc main_arg4) = (I c).ag ∧ m ((c.tc : Thread nD τ).loc main_arg5) = (I c).au
      ∧ m ((c.tc : Thread nD τ).loc main_arg6) = (I c).ad) :
    θ_run defs (onTc (τ := τ) (main (F := Ideal))) ⟨m, fun _ => 0, g⟩ fun r => ∀ c : Dev nD,
      r.2.mem ((c.tc : Thread nD τ).loc main_v142) = L2 (φ := .f32) (fun r => dx (I c).par ((I c).X r) ((I c).T r))
      ∧ r.2.mem ((c.tc : Thread nD τ).loc main_v149) = L2 (φ := .bf16) (fun r => Ffn.h2 (I c).par ((I c).X r))
      ∧ r.2.mem ((c.tc : Thread nD τ).loc main_v150) = L2 (φ := .bf16) (fun r => hid (I c).par ((I c).X r))
      ∧ r.2.mem ((c.tc : Thread nD τ).loc main_v151) = L2 (φ := .bf16) (fun r => da (I c).par ((I c).X r) ((I c).T r))
      ∧ r.2.mem ((c.tc : Thread nD τ).loc main_v152) = L2 (φ := .bf16) (fun r => du (I c).par ((I c).X r) ((I c).T r))
      ∧ r.2.mem ((c.tc : Thread nD τ).loc main_v153) = L2 (φ := .bf16) (fun r => dff (I c).par ((I c).X r) ((I c).T r))
      ∧ r.2.mem ((c.tc : Thread nD τ).loc main_v155) = L2 (φ := .f32) (grads (n := 8) (I c))
      ∧ r.2.mem ((c.tc : Thread nD τ).loc main_v156)
          = L2 (φ := .f32) (fun (_ : Fin 8) (_ : Fin 128) => 1 / 2 * ∑ i, sq (I c).par ((I c).X i) ((I c).T i) / 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.ReferenceIdeal.Value.run (F := Ideal) m g)
  obtain ⟨e0, e1, e2, e3, e4, e5, e6, e7, k⟩ := h c
  obtain ⟨a0, a1, a2, a3, a4, a5, a6⟩ := H c
  refine ⟨(e0.trans (val_main_v142_eq (launchContents m c))).trans ?_, (e1.trans (val_main_v149_eq (launchContents m c))).trans ?_,
    (e2.trans (val_main_v150_eq (launchContents m c))).trans ?_, (e3.trans (val_main_v151_eq (launchContents m c))).trans ?_,
    (e4.trans (val_main_v152_eq (launchContents m c))).trans ?_, (e5.trans (val_main_v153_eq (launchContents m c))).trans ?_,
    (e6.trans (val_main_v155_eq (launchContents m c))).trans ?_, (e7.trans (val_main_v156_eq (launchContents m c))).trans ?_, k⟩
  all_goals simp only [launchContents_devRef, a0, a1, a2, a3, a4, a5, a6]
  · exact r_v142 _
  · exact r_v149 _
  · exact r_v150 _
  · exact r_v151 _
  · exact r_v152 _
  · exact r_v153 _
  · exact r_v155 _
  · exact r_v156 _

theorem algebraic (hp : Cert.Pre_finite.Facts) :
    Cert.algebraic_KernelIdeal_ReferenceIdeal_pre_finite (hKernelIdeal := Cert.KernelIdeal.Gen.facts) (hReferenceIdeal := Cert.ReferenceIdeal.Gen.facts)
      (hPre_finite := hp) := by
  intro m g m' g' hpre hag
  have hI : ∀ c : Dev Cert.KernelIdeal.nD, ∃ I : In, Holds I m c := fun c => by
    obtain ⟨I, h0, h1, h2, h3, h4, h5, h6⟩ := Finite.reals _ _ _ _ _ _ _ (hpre c)
    exact ⟨I, h0, h1, h2, h3, h4, h5, h6⟩
  choose I H using hI
  refine ⟨fun c => L2 (φ := .f32) (fun r => dx (I c).par ((I c).X r) ((I c).T r)), fun c => L2 (φ := .bf16) (fun r => Ffn.h2 (I c).par ((I c).X r)),
    fun c => L2 (φ := .bf16) (fun r => hid (I c).par ((I c).X r)), fun c => L2 (φ := .bf16) (fun r => da (I c).par ((I c).X r) ((I c).T r)),
    fun c => L2 (φ := .bf16) (fun r => du (I c).par ((I c).X r) ((I c).T r)), fun c => L2 (φ := .bf16) (fun r => dff (I c).par ((I c).X r) ((I c).T r)),
    fun c => L2 (φ := .f32) (grads (n := 8) (I c)),
    fun c => L2 (φ := .f32) (fun (_ : Fin 8) (_ : Fin 128) => 1 / 2 * ∑ i, sq (I c).par ((I c).X i) ((I c).T i) / 1024), ?_, ?_⟩
  · refine (θ_run Cert.KernelIdeal.defs _ _).mono (fun r h c => ?_) (Cert.KernelIdeal.Value.run_blocks m g)
    obtain ⟨e0, e1, e2, e3, e4, e5, e6, e7, k⟩ := h c
    obtain ⟨f0, f1, f2, f3, f4, f5, f6, f7⟩ := kernel m c (I c) (H c)
    exact ⟨e0.trans f0, e1.trans f1, e2.trans f2, e3.trans f3, e4.trans f4, e5.trans f5, e6.trans f6, e7.trans f7, k⟩
  · exact reference m' g' I fun c => by
      obtain ⟨b0, b1, b2, b3, b4, b5, b6⟩ := hag c
      exact ⟨b0.trans (H c).a0, b1.trans (H c).a1, b2.trans (H c).a2, b3.trans (H c).a3, b4.trans (H c).a4, b5.trans (H c).a5, b6.trans (H c).a6⟩

theorem frame : Cert.quiescent_ReferenceIdeal (hReferenceIdeal := Cert.ReferenceIdeal.Gen.facts) := fun m g _ =>
  (θ_run Cert.ReferenceIdeal.defs _ _).mono (fun r h => ⟨fun c => (h c).2.2.2.2.2.2.2.2, sem_eq_zero_of_no_sems (by decide) r.2⟩)
    (Cert.ReferenceIdeal.Value.run (F := Ideal) m g)

theorem frame_pre (hp : Cert.Pre_finite.Facts) :
    Cert.quiescent_ReferenceIdeal_pre_finite (hReferenceIdeal := Cert.ReferenceIdeal.Gen.facts) (hPre_finite := hp) := fun m g _ =>
  frame m g trivial

end Cert.FfnValue

end

end
-- ==== Proof.Whole.lean ====
/- Loads and stores of whole buffers, and the product that contracts the rows of both its factors. -/
module

public import Idealize.ShloMosaic.PureOps.Ideal.Laws
public import Idealize.ShloMosaic.Lib.StackMember
public import Idealize.ShloMosaic.Lib.MatmulPlain
public import Idealize.ShloMosaic.Lib.ValueIdx
public import Idealize.ShloMosaic.Lib.ValueLayout
public import Idealize.ShloMosaic.Lib.WritesUnit
public import Idealize.ShloMosaic.Lib.Pipeline.ReadBack
public import Idealize.ShloMosaic.Lib.Pipeline.Value
public import Idealize.ShloMosaic.Lib.IdealHost

@[expose] public section

set_option maxRecDepth 16384

noncomputable section

namespace Cert.Whole

open Idealize.ShloMosaic Idealize.ShloMosaic.Pipeline Idealize.ShloMosaic.ValueIdx
open scoped BigOperators

variable {sig : RefSig}

theorem off2 : (![0, 0] : Fin 2 → ℕ) = fun _ => 0 := funext fun d => match d with | ⟨0, _⟩ => rfl | ⟨1, _⟩ => rfl

/-- A load of the whole of a whole buffer. -/
theorem load {n m : ℕ} {e : EltTy} {a : Memref sig .tc .vmem ⟨2, ![n, m]⟩ e} (ha : a.IsWhole) (x : Vec Ideal ⟨2, ![n, m]⟩ e) (inb) :
    View.readAt (Elt Ideal) a.view (Rect.unit ![0, 0] ![n, m] inb).toLoadRect (ha.unread x) = x :=
  (View.readAt_eq_ld _ _ _).trans ((congrArg (fun z => View.ld z _) (ha.read_unread x)).trans (View.ld_unit_zero (S := ⟨2, ![n, m]⟩) off2 inb x))

/-- A load of the whole of a buffer whose last store was of the whole. -/
theorem reload {n m : ℕ} {e : EltTy} (v : View sig .tc .vmem ⟨2, ![n, m]⟩ e) (w : Vec Ideal ⟨2, ![n, m]⟩ e) (inb) :
    v.readCov [(⟨Rect.unit ![0, 0] ![n, m] inb, w⟩ : View.Piece (Elt Ideal) ⟨2, ![n, m]⟩ e)] (Rect.unit ![0, 0] ![n, m] inb).toLoadRect = w :=
  View.readCov_unit_zero (S := ⟨2, ![n, m]⟩) v off2 inb w

/-- A buffer whose last store was of the whole. -/
theorem stored {n m : ℕ} {e : EltTy} (v : View sig .tc .vmem ⟨2, ![n, m]⟩ e) (f) (L) (w : Vec Ideal ⟨2, ![n, m]⟩ e) (inb) :
    v.read (Elt Ideal) (v.writes (Elt Ideal) f ((⟨Rect.unit ![0, 0] ![n, m] inb, w⟩ : View.Piece (Elt Ideal) ⟨2, ![n, m]⟩ e) :: L)) = w :=
  funext fun y => View.read_writes_cons_unit_of_mem v f inb w L y y rfl fun a => match a with | ⟨0, _⟩ => (Nat.zero_add _).symm | ⟨1, _⟩ => (Nat.zero_add _).symm

end Cert.Whole

namespace Cert.MatTn

open Idealize.ShloMosaic Idealize.ShloMosaic.ValueIdx
open scoped BigOperators

variable {k M N : ℕ} {φ₁ φ₂ : FTy}

/-- Matrices with equal entries are equal. -/
theorem ext2 {φ : FTy} {v w : FVec Ideal ⟨2, ![M, N]⟩ φ} (h : ∀ (a : Fin M) (b : Fin N), v (ix2 a b) = w (ix2 a b)) : v = w := by
  funext i
  rw [eq_ix2 i]
  exact h _ _

/-- The record of the product over the rows of both factors. -/
abbrev tn (w : DotDims.WF ⟨2, ![k, M]⟩ ⟨2, ![k, N]⟩ ⟨2, ![M, N]⟩ [0] [0] [1] [1] [] []) : DotDims ⟨2, ![k, M]⟩ ⟨2, ![k, N]⟩ ⟨2, ![M, N]⟩ :=
  ⟨[0], [0], [1], [1], [], [], w⟩

theorem sum_tn (w : DotDims.WF ⟨2, ![k, M]⟩ ⟨2, ![k, N]⟩ ⟨2, ![M, N]⟩ [0] [0] [1] [1] [] []) (A : FVec Ideal ⟨2, ![k, M]⟩ φ₁) (B : FVec Ideal ⟨2, ![k, N]⟩ φ₂)
    (a : Fin M) (b : Fin N) :
    ∑ c : (tn w).contr.Idx, A ((tn w).lhsIdx (ix2 a b) c) * B ((tn w).rhsIdx (ix2 a b) c) = ∑ r : Fin k, A (ix2 r a) * B (ix2 r b) := by
  rw [← Equiv.sum_comp (contrEquiv1 (tn w) k rfl rfl).symm]
  refine Finset.sum_congr rfl fun r _ => ?_
  have hr := contrEquiv1_symm_val (tn w) k rfl rfl r
  have hl : (tn w).lhsIdx (ix2 a b) ((contrEquiv1 (tn w) k rfl rfl).symm r) = ix2 r a := by
    funext x; apply Fin.ext
    match x with
    | ⟨0, _⟩ => simp [DotDims.lhsIdx]; exact hr
    | ⟨1, _⟩ => simp [DotDims.lhsIdx]; rfl
  have hR : (tn w).rhsIdx (ix2 a b) ((contrEquiv1 (tn w) k rfl rfl).symm r) = ix2 r b := by
    funext x; apply Fin.ext
    match x with
    | ⟨0, _⟩ => simp [DotDims.rhsIdx]; exact hr
    | ⟨1, _⟩ => simp [DotDims.rhsIdx]; rfl
  rw [hl, hR]

/-- The product over all 8192 rows. -/
def full (A : FVec Ideal ⟨2, ![8192, M]⟩ φ₁) (B : FVec Ideal ⟨2, ![8192, N]⟩ φ₂) (φ : FTy) : FVec Ideal ⟨2, ![M, N]⟩ φ :=
  fun i => ∑ r : Fin 8192, A (ix2 r (i 0)) * B (ix2 r (i 1))

theorem host (w : DotDims.WF ⟨2, ![8192, M]⟩ ⟨2, ![8192, N]⟩ ⟨2, ![M, N]⟩ [0] [0] [1] [1] [] []) (p : Option ContractPrecision)
    (A : FVec Ideal ⟨2, ![8192, M]⟩ φ₁) (B : FVec Ideal ⟨2, ![8192, N]⟩ φ₂) :
    Host.dotGeneral (tn w) p A B = full A B .f32 :=
  ext2 fun a b => (Ideal.dotGeneral_apply (tn w) p HostSchedule.single A B (ix2 a b)).trans (sum_tn w A B a b)

/-- Block `q` of 1024 rows. -/
def blk {d : ℕ} {φ : FTy} (A : FVec Ideal ⟨2, ![8192, d]⟩ φ) (q : ℕ) : FVec Ideal ⟨2, ![1024, d]⟩ φ :=
  fun i => A (ix2 (⟨(1024 * q + (i 0).val) % 8192, Nat.mod_lt _ (by decide)⟩ : Fin 8192) (i 1))

/-- The product over the first `n` blocks of rows. -/
def part (A : FVec Ideal ⟨2, ![8192, M]⟩ φ₁) (B : FVec Ideal ⟨2, ![8192, N]⟩ φ₂) (n : ℕ) : FVec Ideal ⟨2, ![M, N]⟩ .f32 :=
  fun i => ∑ q ∈ Finset.range n, ∑ r : Fin 1024, blk A q (ix2 r (i 0)) * blk B q (ix2 r (i 1))

/-- One more block is one more product added. -/
theorem step (w : DotDims.WF ⟨2, ![1024, M]⟩ ⟨2, ![1024, N]⟩ ⟨2, ![M, N]⟩ [0] [0] [1] [1] [] []) (p : Option ContractPrecision)
    (A : FVec Ideal ⟨2, ![8192, M]⟩ φ₁) (B : FVec Ideal ⟨2, ![8192, N]⟩ φ₂) (n : ℕ) :
    addf (part A B n) (matmul (tn w) p (blk A n) (blk B n) (constant _ .f32 0x00000000#32)) = part A B (n + 1) := by
  refine ext2 fun a b => ?_
  refine Eq.trans ?_ (Finset.sum_range_succ (fun q => ∑ r : Fin 1024, blk A q (ix2 r a) * blk B q (ix2 r b)) n).symm
  refine congrArg (fun z => part A B n (ix2 a b) + z) ?_
  refine (Ideal.matmul_apply (tn w) p (blk A n) (blk B n) _ _).trans ?_
  rw [constant_apply, Ideal.ofBits_zero_f32, zero_add]
  exact sum_tn w (blk A n) (blk B n) a b

/-- Before the first block the sum is zero. -/
theorem part_zero (A : FVec Ideal ⟨2, ![8192, M]⟩ φ₁) (B : FVec Ideal ⟨2, ![8192, N]⟩ φ₂) :
    (broadcast ⟨2, ![M, N]⟩ (Scalar.ofBits .f32 0x00000000#32 : Ideal .f32)) = part A B 0 := by
  funext i
  refine Eq.trans ?_ (Finset.sum_range_zero _).symm
  exact Ideal.ofBits_zero_f32

/-- All eight blocks are all rows. -/
theorem part_all (A : FVec Ideal ⟨2, ![8192, M]⟩ φ₁) (B : FVec Ideal ⟨2, ![8192, N]⟩ φ₂) : part A B 8 = full A B .f32 := by
  funext i
  show ∑ q ∈ Finset.range 8, ∑ r : Fin 1024, A (ix2 (⟨(1024 * q + r.val) % 8192, Nat.mod_lt _ (by decide)⟩ : Fin 8192) (i 0)) * B (ix2 (⟨(1024 * q + r.val) % 8192, Nat.mod_lt _ (by decide)⟩ : Fin 8192) (i 1)) = _
  rw [Finset.sum_range (fun q => ∑ r : Fin 1024, A (ix2 (⟨(1024 * q + r.val) % 8192, Nat.mod_lt _ (by decide)⟩ : Fin 8192) (i 0)) * B (ix2 (⟨(1024 * q + r.val) % 8192, Nat.mod_lt _ (by decide)⟩ : Fin 8192) (i 1)))]
  rw [← Fintype.sum_prod_type' (fun (q : Fin 8) (r : Fin 1024) => A (ix2 (⟨(1024 * q.val + r.val) % 8192, Nat.mod_lt _ (by decide)⟩ : Fin 8192) (i 0)) * B (ix2 (⟨(1024 * q.val + r.val) % 8192, Nat.mod_lt _ (by decide)⟩ : Fin 8192) (i 1)))]
  refine Fintype.sum_equiv (finProdFinEquiv (m := 8) (n := 1024)) _ _ fun p => ?_
  have e : (⟨(1024 * p.1.val + p.2.val) % 8192, Nat.mod_lt _ (by decide)⟩ : Fin 8192) = finProdFinEquiv p := by
    apply Fin.ext
    have h1 := p.1.isLt
    have h2 := p.2.isLt
    show (1024 * p.1.val + p.2.val) % 8192 = p.2.val + 1024 * p.1.val
    omega
  rw [e]

/-- A product transposed is the product of the factors exchanged. -/
theorem full_transpose (A : FVec Ideal ⟨2, ![8192, M]⟩ φ₁) (B : FVec Ideal ⟨2, ![8192, N]⟩ φ₂) (φ : FTy)
    (h : (⟨2, ![M, N]⟩ : Shape).Transposes [1, 0] ⟨2, ![N, M]⟩) : transpose ⟨2, ![N, M]⟩ [1, 0] (full A B φ) h = full B A φ :=
  ext2 fun a b => (transpose_ix2_apply (full A B φ) h a b).trans (Finset.sum_congr rfl fun _ _ => mul_comm _ _)

/-- A reference's weight gradient. -/
theorem once (w : DotDims.WF ⟨2, ![8192, N]⟩ ⟨2, ![8192, M]⟩ ⟨2, ![N, M]⟩ [0] [0] [1] [1] [] []) (p : Option ContractPrecision)
    (A : FVec Ideal ⟨2, ![8192, M]⟩ .bf16) (B : FVec Ideal ⟨2, ![8192, N]⟩ .bf16) (he : FTy.bits .bf16 < FTy.bits .f32)
    (h : (⟨2, ![N, M]⟩ : Shape).Transposes [1, 0] ⟨2, ![M, N]⟩) :
    truncf .bf16 (transpose ⟨2, ![M, N]⟩ [1, 0] (Host.dotGeneral (tn w) p (extf .f32 B he) (extf .f32 A he)) h) he = full A B .bf16 := by
  rw [host w p]
  exact full_transpose B A .bf16 h

/-- A reference's weight gradient, transposed. -/
theorem twice (w : DotDims.WF ⟨2, ![8192, M]⟩ ⟨2, ![8192, N]⟩ ⟨2, ![M, N]⟩ [0] [0] [1] [1] [] []) (p : Option ContractPrecision)
    (A : FVec Ideal ⟨2, ![8192, M]⟩ .bf16) (B : FVec Ideal ⟨2, ![8192, N]⟩ .bf16) (he : FTy.bits .bf16 < FTy.bits .f32)
    (h : (⟨2, ![M, N]⟩ : Shape).Transposes [1, 0] ⟨2, ![N, M]⟩) (h' : (⟨2, ![N, M]⟩ : Shape).Transposes [1, 0] ⟨2, ![M, N]⟩) :
    truncf .bf16 (transpose ⟨2, ![M, N]⟩ [1, 0] (transpose ⟨2, ![N, M]⟩ [1, 0] (Host.dotGeneral (tn w) p (extf .f32 A he) (extf .f32 B he)) h) h') he
      = full A B .bf16 := by
  rw [host w p, full_transpose]
  exact full_transpose B A .bf16 h'

/-- A block of an array, read where the block's rows start. -/
theorem blk_of {d : ℕ} {φ : FTy} (A : FVec Ideal ⟨2, ![8192, d]⟩ φ) (q : ℕ) (hq : q < 8) (e : (⟨2, ![1024, d]⟩ : Shape).Idx → (⟨2, ![8192, d]⟩ : Shape).Idx)
    (h0 : ∀ i, (e i 0).val = 1024 * q + (i 0).val) (h1 : ∀ i, (e i 1).val = (i 1).val) : (fun i => A (e i)) = blk A q := by
  funext i
  refine congrArg A (funext fun x => Fin.ext ?_)
  match x with
  | ⟨0, _⟩ =>
    have h2 : (i 0).val < 1024 := (i 0).isLt
    refine (h0 i).trans ?_
    show 1024 * q + (i 0).val = (1024 * q + (i 0).val) % 8192
    omega
  | ⟨1, _⟩ => exact h1 i

end Cert.MatTn

end
-- ==== Proof.Dw2.lean ====
/- The weight gradient of program 2: the grid's eight blocks of rows sum to the product over all rows. -/
module

public import proofs.«01_k».proof.Defs
public import proofs.«01_k».proof.Proof.Whole
public import proofs.«01_k».proof.Proof.Gen.Kernel2Ideal.Value
public import proofs.«01_k».proof.Proof.Gen.Reference2Ideal.Run
public import proofs.«01_k».proof.Proof.Gen.Reference2Ideal
public import Idealize.ShloMosaic.Adequacy
public import Idealize.ShloMosaic.Init

@[expose] public section

set_option maxRecDepth 16384

noncomputable section

namespace Cert.Dw2

open Idealize.ShloMosaic Idealize.ShloMosaic.Pipeline Idealize.SL.Sem Cert.Kernel2Ideal Cert.Kernel2Ideal.Gen Cert.Whole Cert.MatTn

variable (m : (ℓ : Loc nD τ sig) → Buf (Elt Ideal) ℓ) (c : Dev nD)

abbrev aA : FVec Ideal S8192x2816 .bf16 := V m c (arrRef spec0 0)
abbrev aB : FVec Ideal S8192x1024 .bf16 := V m c (arrRef spec0 1)

theorem lt8 (t : Fin cfg0.N) : t.val < 8 := Nat.lt_of_lt_of_eq t.isLt N_0

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem in0 (t : Fin cfg0.N) : iblk m c 0 t = blk (aA m c) t.val :=
  blk_of (aA m c) t.val (lt8 t) (fun i => ((cfg0.win 0).blk t).view.emb i)
    (fun i => (by show win0_0.index t 0 * 1024 + 1 * (i 0).val = _; rw [(idx0 t).1]; omega))
    (fun i => (by show win0_0.index t 1 * 2816 + 1 * (i 1).val = _; rw [(idx0 t).2]; omega))

theorem in1 (t : Fin cfg0.N) : iblk m c 1 t = blk (aB m c) t.val :=
  blk_of (aB m c) t.val (lt8 t) (fun i => ((cfg0.win 1).blk t).view.emb i)
    (fun i => (by show win0_1.index t 0 * 1024 + 1 * (i 0).val = _; rw [(idx1 t).1]; omega))
    (fun i => (by show win0_1.index t 1 * 1024 + 1 * (i 1).val = _; rw [(idx1 t).2]; omega))

/-- The body's update is one more block. -/
theorem update (n : ℕ) : k0_pay2 (F := Ideal) (part (aA m c) (aB m c) n) (blk (aA m c) n) (blk (aB m c) n) = part (aA m c) (aB m c) (n + 1) :=
  (shapeCast_self _ _).trans (step _ none (aA m c) (aB m c) n)

theorem clear : k0_pay1 (F := Ideal) = part (aA m c) (aB m c) 0 :=
  (shapeCast_self _ _).trans (part_zero (aA m c) (aB m c))

/-- The scratch after the first point. -/
theorem first (t : Fin cfg0.N) (h : t.val % 8 = 0) : (outsAt0 m c t.val t.isLt).2 = part (aA m c) (aB m c) (t.val + 1) := by
  have hz : t.val = 0 := by have := lt8 t; omega
  rw [outsAt0_A m c t h (by omega), in0 m c t, in1 m c t]
  dsimp only
  unfold sout0_A_0 kernelRun0_A
  dsimp only
  refine (stored VS0_0 _ _ _ _).trans ?_
  refine Eq.trans ?_ (update m c t.val)
  refine congr (congr (congrArg (k0_pay2 (F := Ideal)) ?_) (load _ _ _)) (load _ _ _)
  refine (reload _ _ _).trans ((clear m c).trans ?_)
  rw [hz]

/-- The scratch after a later point. -/
theorem next (t : Fin cfg0.N) (h : ¬t.val % 8 = 0)
    (hp : (outsAt0 m c (t.val - 1) (Nat.lt_of_le_of_lt (Nat.sub_le _ _) t.isLt)).2 = part (aA m c) (aB m c) t.val) :
    (outsAt0 m c t.val t.isLt).2 = part (aA m c) (aB m c) (t.val + 1) := by
  by_cases h7 : t.val % 8 = 7
  · rw [outsAt0_C m c t h h7, in0 m c t, in1 m c t, hp]
    dsimp only
    unfold sout0_C_0 kernelRun0_C
    dsimp only
    refine (stored VS0_0 _ _ _ _).trans (Eq.trans ?_ (update m c t.val))
    exact congr (congr (congrArg (k0_pay2 (F := Ideal)) (load _ _ _)) (load _ _ _)) (load _ _ _)
  · rw [outsAt0_B m c t h h7, in0 m c t, in1 m c t, hp]
    dsimp only
    unfold sout0_B_0 kernelRun0_B
    dsimp only
    refine (stored VS0_0 _ _ _ _).trans (Eq.trans ?_ (update m c t.val))
    exact congr (congr (congrArg (k0_pay2 (F := Ideal)) (load _ _ _)) (load _ _ _)) (load _ _ _)

theorem scratch : ∀ (n : ℕ) (hn : n < cfg0.N), (outsAt0 m c n hn).2 = part (aA m c) (aB m c) (n + 1)
  | 0, hn => first m c ⟨0, hn⟩ rfl
  | n + 1, hn => by
    have h8 : n + 1 < 8 := lt8 ⟨n + 1, hn⟩
    exact next m c ⟨n + 1, hn⟩ (by show ¬(n + 1) % 8 = 0; omega) (scratch n (Nat.lt_of_succ_lt hn))

/-- The last point writes the whole sum. -/
theorem last (t : Fin cfg0.N) (h : ¬t.val % 8 = 0) (h7 : t.val % 8 = 7) : (outsAt0 m c t.val t.isLt).1 = full (aA m c) (aB m c) .bf16 := by
  have ht : t.val = 7 := by have := lt8 t; omega
  have hp : (outsAt0 m c (t.val - 1) (Nat.lt_of_le_of_lt (Nat.sub_le _ _) t.isLt)).2 = part (aA m c) (aB m c) t.val := by
    have e := scratch m c (t.val - 1) (Nat.lt_of_le_of_lt (Nat.sub_le _ _) t.isLt)
    rwa [show t.val - 1 + 1 = t.val by omega] at e
  rw [outsAt0_C m c t h h7, in0 m c t, in1 m c t, hp]
  dsimp only
  unfold out0_C_2 kernelRun0_C
  dsimp only
  refine (stored VO0_2 _ _ _ _).trans ?_
  refine congrArg (k0_pay3 (F := Ideal)) (a₂ := full (aA m c) (aB m c) .f32) ?_
  unfold kernelRun0_C.sl.v14 kernelRun0_C.sl.HS0_1
  refine (reload _ _ _).trans (Eq.trans ?_ (part_all (aA m c) (aB m c)))
  refine Eq.trans ?_ ((update m c t.val).trans (congrArg (part (aA m c) (aB m c)) (by omega)))
  exact congr (congr (congrArg (k0_pay2 (F := Ideal)) (load _ _ _)) (load _ _ _)) (load _ _ _)

theorem result : Value.G2 m c = full (aA m c) (aB m c) .bf16 := by
  rw [Value.G2_last, ← Value.outsAt0_sweep m c 7]
  exact last m c ⟨7, lt_of_lt_of_eq (by decide) N_0.symm⟩ (by decide) (by decide)

theorem algebraic : Cert.algebraic_Kernel2Ideal_Reference2Ideal (hKernel2Ideal := Cert.Kernel2Ideal.Gen.facts) (hReference2Ideal := Cert.Reference2Ideal.Gen.facts) := by
  intro m g m' g' _ hag
  refine ⟨fun c => full (aA m c) (aB m c) .bf16, ?_, ?_⟩
  · refine (θ_run Cert.Kernel2Ideal.defs _ _).mono (fun r h c => ?_) (Value.run m g)
    exact ⟨(h c).1.trans (result m c), (h c).2⟩
  · refine (θ_run Cert.Reference2Ideal.defs _ _).mono (fun r h c => ⟨(h c).1.trans ?_, (h c).2⟩) (Cert.Reference2Ideal.Value.run (F := Ideal) m' g')
    rw [(hag c).1, (hag c).2]
    exact twice _ none _ _ bitsLt_bf16_f32 _ _

theorem frame : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩) (Cert.Reference2Ideal.Value.run (F := Ideal) m g)

end Cert.Dw2

end
-- ==== Proof.Dw3.lean ====
/- The weight gradient of program 3: the grid's eight blocks of rows sum to the product over all rows. -/
module

public import proofs.«01_k».proof.Defs
public import proofs.«01_k».proof.Proof.Whole
public import proofs.«01_k».proof.Proof.Gen.Kernel3Ideal.Value
public import proofs.«01_k».proof.Proof.Gen.Reference3Ideal.Run
public import proofs.«01_k».proof.Proof.Gen.Reference3Ideal
public import Idealize.ShloMosaic.Adequacy
public import Idealize.ShloMosaic.Init

@[expose] public section

set_option maxRecDepth 16384

noncomputable section

namespace Cert.Dw3

open Idealize.ShloMosaic Idealize.ShloMosaic.Pipeline Idealize.SL.Sem Cert.Kernel3Ideal Cert.Kernel3Ideal.Gen Cert.Whole Cert.MatTn

variable (m : (ℓ : Loc nD τ sig) → Buf (Elt Ideal) ℓ) (c : Dev nD)

abbrev aA : FVec Ideal S8192x1024 .bf16 := V m c (arrRef spec0 0)
abbrev aB : FVec Ideal S8192x1024 .bf16 := V m c (arrRef spec0 1)

theorem lt8 (t : Fin cfg0.N) : t.val < 8 := Nat.lt_of_lt_of_eq t.isLt N_0

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem in0 (t : Fin cfg0.N) : iblk m c 0 t = blk (aA m c) t.val :=
  blk_of (aA m c) t.val (lt8 t) (fun i => ((cfg0.win 0).blk t).view.emb i)
    (fun i => (by show win0_0.index t 0 * 1024 + 1 * (i 0).val = _; rw [(idx0 t).1]; omega))
    (fun i => (by show win0_0.index t 1 * 1024 + 1 * (i 1).val = _; rw [(idx0 t).2]; omega))

theorem in1 (t : Fin cfg0.N) : iblk m c 1 t = blk (aB m c) t.val :=
  blk_of (aB m c) t.val (lt8 t) (fun i => ((cfg0.win 1).blk t).view.emb i)
    (fun i => (by show win0_1.index t 0 * 1024 + 1 * (i 0).val = _; rw [(idx1 t).1]; omega))
    (fun i => (by show win0_1.index t 1 * 1024 + 1 * (i 1).val = _; rw [(idx1 t).2]; omega))

/-- The body's update is one more block. -/
theorem update (n : ℕ) : k0_pay2 (F := Ideal) (part (aA m c) (aB m c) n) (blk (aA m c) n) (blk (aB m c) n) = part (aA m c) (aB m c) (n + 1) :=
  (shapeCast_self _ _).trans (step _ none (aA m c) (aB m c) n)

theorem clear : k0_pay1 (F := Ideal) = part (aA m c) (aB m c) 0 :=
  (shapeCast_self _ _).trans (part_zero (aA m c) (aB m c))

/-- The scratch after the first point. -/
theorem first (t : Fin cfg0.N) (h : t.val % 8 = 0) : (outsAt0 m c t.val t.isLt).2 = part (aA m c) (aB m c) (t.val + 1) := by
  have hz : t.val = 0 := by have := lt8 t; omega
  rw [outsAt0_A m c t h (by omega), in0 m c t, in1 m c t]
  dsimp only
  unfold sout0_A_0 kernelRun0_A
  dsimp only
  refine (stored VS0_0 _ _ _ _).trans ?_
  refine Eq.trans ?_ (update m c t.val)
  refine congr (congr (congrArg (k0_pay2 (F := Ideal)) ?_) (load _ _ _)) (load _ _ _)
  refine (reload _ _ _).trans ((clear m c).trans ?_)
  rw [hz]

/-- The scratch after a later point. -/
theorem next (t : Fin cfg0.N) (h : ¬t.val % 8 = 0)
    (hp : (outsAt0 m c (t.val - 1) (Nat.lt_of_le_of_lt (Nat.sub_le _ _) t.isLt)).2 = part (aA m c) (aB m c) t.val) :
    (outsAt0 m c t.val t.isLt).2 = part (aA m c) (aB m c) (t.val + 1) := by
  by_cases h7 : t.val % 8 = 7
  · rw [outsAt0_C m c t h h7, in0 m c t, in1 m c t, hp]
    dsimp only
    unfold sout0_C_0 kernelRun0_C
    dsimp only
    refine (stored VS0_0 _ _ _ _).trans (Eq.trans ?_ (update m c t.val))
    exact congr (congr (congrArg (k0_pay2 (F := Ideal)) (load _ _ _)) (load _ _ _)) (load _ _ _)
  · rw [outsAt0_B m c t h h7, in0 m c t, in1 m c t, hp]
    dsimp only
    unfold sout0_B_0 kernelRun0_B
    dsimp only
    refine (stored VS0_0 _ _ _ _).trans (Eq.trans ?_ (update m c t.val))
    exact congr (congr (congrArg (k0_pay2 (F := Ideal)) (load _ _ _)) (load _ _ _)) (load _ _ _)

theorem scratch : ∀ (n : ℕ) (hn : n < cfg0.N), (outsAt0 m c n hn).2 = part (aA m c) (aB m c) (n + 1)
  | 0, hn => first m c ⟨0, hn⟩ rfl
  | n + 1, hn => by
    have h8 : n + 1 < 8 := lt8 ⟨n + 1, hn⟩
    exact next m c ⟨n + 1, hn⟩ (by show ¬(n + 1) % 8 = 0; omega) (scratch n (Nat.lt_of_succ_lt hn))

/-- The last point writes the whole sum. -/
theorem last (t : Fin cfg0.N) (h : ¬t.val % 8 = 0) (h7 : t.val % 8 = 7) : (outsAt0 m c t.val t.isLt).1 = full (aA m c) (aB m c) .bf16 := by
  have ht : t.val = 7 := by have := lt8 t; omega
  have hp : (outsAt0 m c (t.val - 1) (Nat.lt_of_le_of_lt (Nat.sub_le _ _) t.isLt)).2 = part (aA m c) (aB m c) t.val := by
    have e := scratch m c (t.val - 1) (Nat.lt_of_le_of_lt (Nat.sub_le _ _) t.isLt)
    rwa [show t.val - 1 + 1 = t.val by omega] at e
  rw [outsAt0_C m c t h h7, in0 m c t, in1 m c t, hp]
  dsimp only
  unfold out0_C_2 kernelRun0_C
  dsimp only
  refine (stored VO0_2 _ _ _ _).trans ?_
  refine congrArg (k0_pay3 (F := Ideal)) (a₂ := full (aA m c) (aB m c) .f32) ?_
  unfold kernelRun0_C.sl.v14 kernelRun0_C.sl.HS0_1
  refine (reload _ _ _).trans (Eq.trans ?_ (part_all (aA m c) (aB m c)))
  refine Eq.trans ?_ ((update m c t.val).trans (congrArg (part (aA m c) (aB m c)) (by omega)))
  exact congr (congr (congrArg (k0_pay2 (F := Ideal)) (load _ _ _)) (load _ _ _)) (load _ _ _)

theorem result : Value.G2 m c = full (aA m c) (aB m c) .bf16 := by
  rw [Value.G2_last, ← Value.outsAt0_sweep m c 7]
  exact last m c ⟨7, lt_of_lt_of_eq (by decide) N_0.symm⟩ (by decide) (by decide)

theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => full (aA m c) (aB m c) .bf16, ?_, ?_⟩
  · refine (θ_run Cert.Kernel3Ideal.defs _ _).mono (fun r h c => ?_) (Value.run m g)
    exact ⟨(h c).1.trans (result m c), (h c).2⟩
  · refine (θ_run Cert.Reference3Ideal.defs _ _).mono (fun r h c => ⟨(h c).1.trans ?_, (h c).2⟩) (Cert.Reference3Ideal.Value.run (F := Ideal) m' g')
    rw [(hag c).1, (hag c).2]
    exact once _ none _ _ bitsLt_bf16_f32 _

theorem frame : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩) (Cert.Reference3Ideal.Value.run (F := Ideal) m g)

end Cert.Dw3

end
-- ==== Proof.Dw4.lean ====
/- The weight gradient of program 4: the grid's eight blocks of rows sum to the product over all rows. -/
module

public import proofs.«01_k».proof.Defs
public import proofs.«01_k».proof.Proof.Whole
public import proofs.«01_k».proof.Proof.Gen.Kernel4Ideal.Value
public import proofs.«01_k».proof.Proof.Gen.Reference4Ideal.Run
public import proofs.«01_k».proof.Proof.Gen.Reference4Ideal
public import Idealize.ShloMosaic.Adequacy
public import Idealize.ShloMosaic.Init

@[expose] public section

set_option maxRecDepth 16384

noncomputable section

namespace Cert.Dw4

open Idealize.ShloMosaic Idealize.ShloMosaic.Pipeline Idealize.SL.Sem Cert.Kernel4Ideal Cert.Kernel4Ideal.Gen Cert.Whole Cert.MatTn

variable (m : (ℓ : Loc nD τ sig) → Buf (Elt Ideal) ℓ) (c : Dev nD)

abbrev aA : FVec Ideal S8192x512 .bf16 := V m c (arrRef spec0 0)
abbrev aB : FVec Ideal S8192x1024 .bf16 := V m c (arrRef spec0 1)

theorem lt8 (t : Fin cfg0.N) : t.val < 8 := Nat.lt_of_lt_of_eq t.isLt N_0

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem in0 (t : Fin cfg0.N) : iblk m c 0 t = blk (aA m c) t.val :=
  blk_of (aA m c) t.val (lt8 t) (fun i => ((cfg0.win 0).blk t).view.emb i)
    (fun i => (by show win0_0.index t 0 * 1024 + 1 * (i 0).val = _; rw [(idx0 t).1]; omega))
    (fun i => (by show win0_0.index t 1 * 512 + 1 * (i 1).val = _; rw [(idx0 t).2]; omega))

theorem in1 (t : Fin cfg0.N) : iblk m c 1 t = blk (aB m c) t.val :=
  blk_of (aB m c) t.val (lt8 t) (fun i => ((cfg0.win 1).blk t).view.emb i)
    (fun i => (by show win0_1.index t 0 * 1024 + 1 * (i 0).val = _; rw [(idx1 t).1]; omega))
    (fun i => (by show win0_1.index t 1 * 1024 + 1 * (i 1).val = _; rw [(idx1 t).2]; omega))

/-- The body's update is one more block. -/
theorem update (n : ℕ) : k0_pay2 (F := Ideal) (part (aA m c) (aB m c) n) (blk (aA m c) n) (blk (aB m c) n) = part (aA m c) (aB m c) (n + 1) :=
  (shapeCast_self _ _).trans (step _ none (aA m c) (aB m c) n)

theorem clear : k0_pay1 (F := Ideal) = part (aA m c) (aB m c) 0 :=
  (shapeCast_self _ _).trans (part_zero (aA m c) (aB m c))

/-- The scratch after the first point. -/
theorem first (t : Fin cfg0.N) (h : t.val % 8 = 0) : (outsAt0 m c t.val t.isLt).2 = part (aA m c) (aB m c) (t.val + 1) := by
  have hz : t.val = 0 := by have := lt8 t; omega
  rw [outsAt0_A m c t h (by omega), in0 m c t, in1 m c t]
  dsimp only
  unfold sout0_A_0 kernelRun0_A
  dsimp only
  refine (stored VS0_0 _ _ _ _).trans ?_
  refine Eq.trans ?_ (update m c t.val)
  refine congr (congr (congrArg (k0_pay2 (F := Ideal)) ?_) (load _ _ _)) (load _ _ _)
  refine (reload _ _ _).trans ((clear m c).trans ?_)
  rw [hz]

/-- The scratch after a later point. -/
theorem next (t : Fin cfg0.N) (h : ¬t.val % 8 = 0)
    (hp : (outsAt0 m c (t.val - 1) (Nat.lt_of_le_of_lt (Nat.sub_le _ _) t.isLt)).2 = part (aA m c) (aB m c) t.val) :
    (outsAt0 m c t.val t.isLt).2 = part (aA m c) (aB m c) (t.val + 1) := by
  by_cases h7 : t.val % 8 = 7
  · rw [outsAt0_C m c t h h7, in0 m c t, in1 m c t, hp]
    dsimp only
    unfold sout0_C_0 kernelRun0_C
    dsimp only
    refine (stored VS0_0 _ _ _ _).trans (Eq.trans ?_ (update m c t.val))
    exact congr (congr (congrArg (k0_pay2 (F := Ideal)) (load _ _ _)) (load _ _ _)) (load _ _ _)
  · rw [outsAt0_B m c t h h7, in0 m c t, in1 m c t, hp]
    dsimp only
    unfold sout0_B_0 kernelRun0_B
    dsimp only
    refine (stored VS0_0 _ _ _ _).trans (Eq.trans ?_ (update m c t.val))
    exact congr (congr (congrArg (k0_pay2 (F := Ideal)) (load _ _ _)) (load _ _ _)) (load _ _ _)

theorem scratch : ∀ (n : ℕ) (hn : n < cfg0.N), (outsAt0 m c n hn).2 = part (aA m c) (aB m c) (n + 1)
  | 0, hn => first m c ⟨0, hn⟩ rfl
  | n + 1, hn => by
    have h8 : n + 1 < 8 := lt8 ⟨n + 1, hn⟩
    exact next m c ⟨n + 1, hn⟩ (by show ¬(n + 1) % 8 = 0; omega) (scratch n (Nat.lt_of_succ_lt hn))

/-- The last point writes the whole sum. -/
theorem last (t : Fin cfg0.N) (h : ¬t.val % 8 = 0) (h7 : t.val % 8 = 7) : (outsAt0 m c t.val t.isLt).1 = full (aA m c) (aB m c) .bf16 := by
  have ht : t.val = 7 := by have := lt8 t; omega
  have hp : (outsAt0 m c (t.val - 1) (Nat.lt_of_le_of_lt (Nat.sub_le _ _) t.isLt)).2 = part (aA m c) (aB m c) t.val := by
    have e := scratch m c (t.val - 1) (Nat.lt_of_le_of_lt (Nat.sub_le _ _) t.isLt)
    rwa [show t.val - 1 + 1 = t.val by omega] at e
  rw [outsAt0_C m c t h h7, in0 m c t, in1 m c t, hp]
  dsimp only
  unfold out0_C_2 kernelRun0_C
  dsimp only
  refine (stored VO0_2 _ _ _ _).trans ?_
  refine congrArg (k0_pay3 (F := Ideal)) (a₂ := full (aA m c) (aB m c) .f32) ?_
  unfold kernelRun0_C.sl.v14 kernelRun0_C.sl.HS0_1
  refine (reload _ _ _).trans (Eq.trans ?_ (part_all (aA m c) (aB m c)))
  refine Eq.trans ?_ ((update m c t.val).trans (congrArg (part (aA m c) (aB m c)) (by omega)))
  exact congr (congr (congrArg (k0_pay2 (F := Ideal)) (load _ _ _)) (load _ _ _)) (load _ _ _)

theorem result : Value.G2 m c = full (aA m c) (aB m c) .bf16 := by
  rw [Value.G2_last, ← Value.outsAt0_sweep m c 7]
  exact last m c ⟨7, lt_of_lt_of_eq (by decide) N_0.symm⟩ (by decide) (by decide)

theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => full (aA m c) (aB m c) .bf16, ?_, ?_⟩
  · refine (θ_run Cert.Kernel4Ideal.defs _ _).mono (fun r h c => ?_) (Value.run m g)
    exact ⟨(h c).1.trans (result m c), (h c).2⟩
  · refine (θ_run Cert.Reference4Ideal.defs _ _).mono (fun r h c => ⟨(h c).1.trans ?_, (h c).2⟩) (Cert.Reference4Ideal.Value.run (F := Ideal) m' g')
    rw [(hag c).1, (hag c).2]
    exact once _ none _ _ bitsLt_bf16_f32 _

theorem frame : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩) (Cert.Reference4Ideal.Value.run (F := Ideal) m g)

end Cert.Dw4

end
-- ==== Proof.Dw5.lean ====
/- The weight gradient of program 5: the grid's eight blocks of rows sum to the product over all rows. -/
module

public import proofs.«01_k».proof.Defs
public import proofs.«01_k».proof.Proof.Whole
public import proofs.«01_k».proof.Proof.Gen.Kernel5Ideal.Value
public import proofs.«01_k».proof.Proof.Gen.Reference5Ideal.Run
public import proofs.«01_k».proof.Proof.Gen.Reference5Ideal
public import Idealize.ShloMosaic.Adequacy
public import Idealize.ShloMosaic.Init

@[expose] public section

set_option maxRecDepth 16384

noncomputable section

namespace Cert.Dw5

open Idealize.ShloMosaic Idealize.ShloMosaic.Pipeline Idealize.SL.Sem Cert.Kernel5Ideal Cert.Kernel5Ideal.Gen Cert.Whole Cert.MatTn

variable (m : (ℓ : Loc nD τ sig) → Buf (Elt Ideal) ℓ) (c : Dev nD)

abbrev aA : FVec Ideal S8192x1024 .bf16 := V m c (arrRef spec0 0)
abbrev aB : FVec Ideal S8192x768 .bf16 := V m c (arrRef spec0 1)

theorem lt8 (t : Fin cfg0.N) : t.val < 8 := Nat.lt_of_lt_of_eq t.isLt N_0

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem in0 (t : Fin cfg0.N) : iblk m c 0 t = blk (aA m c) t.val :=
  blk_of (aA m c) t.val (lt8 t) (fun i => ((cfg0.win 0).blk t).view.emb i)
    (fun i => (by show win0_0.index t 0 * 1024 + 1 * (i 0).val = _; rw [(idx0 t).1]; omega))
    (fun i => (by show win0_0.index t 1 * 1024 + 1 * (i 1).val = _; rw [(idx0 t).2]; omega))

theorem in1 (t : Fin cfg0.N) : iblk m c 1 t = blk (aB m c) t.val :=
  blk_of (aB m c) t.val (lt8 t) (fun i => ((cfg0.win 1).blk t).view.emb i)
    (fun i => (by show win0_1.index t 0 * 1024 + 1 * (i 0).val = _; rw [(idx1 t).1]; omega))
    (fun i => (by show win0_1.index t 1 * 768 + 1 * (i 1).val = _; rw [(idx1 t).2]; omega))

/-- The body's update is one more block. -/
theorem update (n : ℕ) : k0_pay2 (F := Ideal) (part (aA m c) (aB m c) n) (blk (aA m c) n) (blk (aB m c) n) = part (aA m c) (aB m c) (n + 1) :=
  (shapeCast_self _ _).trans (step _ none (aA m c) (aB m c) n)

theorem clear : k0_pay1 (F := Ideal) = part (aA m c) (aB m c) 0 :=
  (shapeCast_self _ _).trans (part_zero (aA m c) (aB m c))

/-- The scratch after the first point. -/
theorem first (t : Fin cfg0.N) (h : t.val % 8 = 0) : (outsAt0 m c t.val t.isLt).2 = part (aA m c) (aB m c) (t.val + 1) := by
  have hz : t.val = 0 := by have := lt8 t; omega
  rw [outsAt0_A m c t h (by omega), in0 m c t, in1 m c t]
  dsimp only
  unfold sout0_A_0 kernelRun0_A
  dsimp only
  refine (stored VS0_0 _ _ _ _).trans ?_
  refine Eq.trans ?_ (update m c t.val)
  refine congr (congr (congrArg (k0_pay2 (F := Ideal)) ?_) (load _ _ _)) (load _ _ _)
  refine (reload _ _ _).trans ((clear m c).trans ?_)
  rw [hz]

/-- The scratch after a later point. -/
theorem next (t : Fin cfg0.N) (h : ¬t.val % 8 = 0)
    (hp : (outsAt0 m c (t.val - 1) (Nat.lt_of_le_of_lt (Nat.sub_le _ _) t.isLt)).2 = part (aA m c) (aB m c) t.val) :
    (outsAt0 m c t.val t.isLt).2 = part (aA m c) (aB m c) (t.val + 1) := by
  by_cases h7 : t.val % 8 = 7
  · rw [outsAt0_C m c t h h7, in0 m c t, in1 m c t, hp]
    dsimp only
    unfold sout0_C_0 kernelRun0_C
    dsimp only
    refine (stored VS0_0 _ _ _ _).trans (Eq.trans ?_ (update m c t.val))
    exact congr (congr (congrArg (k0_pay2 (F := Ideal)) (load _ _ _)) (load _ _ _)) (load _ _ _)
  · rw [outsAt0_B m c t h h7, in0 m c t, in1 m c t, hp]
    dsimp only
    unfold sout0_B_0 kernelRun0_B
    dsimp only
    refine (stored VS0_0 _ _ _ _).trans (Eq.trans ?_ (update m c t.val))
    exact congr (congr (congrArg (k0_pay2 (F := Ideal)) (load _ _ _)) (load _ _ _)) (load _ _ _)

theorem scratch : ∀ (n : ℕ) (hn : n < cfg0.N), (outsAt0 m c n hn).2 = part (aA m c) (aB m c) (n + 1)
  | 0, hn => first m c ⟨0, hn⟩ rfl
  | n + 1, hn => by
    have h8 : n + 1 < 8 := lt8 ⟨n + 1, hn⟩
    exact next m c ⟨n + 1, hn⟩ (by show ¬(n + 1) % 8 = 0; omega) (scratch n (Nat.lt_of_succ_lt hn))

/-- The last point writes the whole sum. -/
theorem last (t : Fin cfg0.N) (h : ¬t.val % 8 = 0) (h7 : t.val % 8 = 7) : (outsAt0 m c t.val t.isLt).1 = full (aA m c) (aB m c) .bf16 := by
  have ht : t.val = 7 := by have := lt8 t; omega
  have hp : (outsAt0 m c (t.val - 1) (Nat.lt_of_le_of_lt (Nat.sub_le _ _) t.isLt)).2 = part (aA m c) (aB m c) t.val := by
    have e := scratch m c (t.val - 1) (Nat.lt_of_le_of_lt (Nat.sub_le _ _) t.isLt)
    rwa [show t.val - 1 + 1 = t.val by omega] at e
  rw [outsAt0_C m c t h h7, in0 m c t, in1 m c t, hp]
  dsimp only
  unfold out0_C_2 kernelRun0_C
  dsimp only
  refine (stored VO0_2 _ _ _ _).trans ?_
  refine congrArg (k0_pay3 (F := Ideal)) (a₂ := full (aA m c) (aB m c) .f32) ?_
  unfold kernelRun0_C.sl.v14 kernelRun0_C.sl.HS0_1
  refine (reload _ _ _).trans (Eq.trans ?_ (part_all (aA m c) (aB m c)))
  refine Eq.trans ?_ ((update m c t.val).trans (congrArg (part (aA m c) (aB m c)) (by omega)))
  exact congr (congr (congrArg (k0_pay2 (F := Ideal)) (load _ _ _)) (load _ _ _)) (load _ _ _)

theorem result : Value.G2 m c = full (aA m c) (aB m c) .bf16 := by
  rw [Value.G2_last, ← Value.outsAt0_sweep m c 7]
  exact last m c ⟨7, lt_of_lt_of_eq (by decide) N_0.symm⟩ (by decide) (by decide)

theorem algebraic : Cert.algebraic_Kernel5Ideal_Reference5Ideal (hKernel5Ideal := Cert.Kernel5Ideal.Gen.facts) (hReference5Ideal := Cert.Reference5Ideal.Gen.facts) := by
  intro m g m' g' _ hag
  refine ⟨fun c => full (aA m c) (aB m c) .bf16, ?_, ?_⟩
  · refine (θ_run Cert.Kernel5Ideal.defs _ _).mono (fun r h c => ?_) (Value.run m g)
    exact ⟨(h c).1.trans (result m c), (h c).2⟩
  · refine (θ_run Cert.Reference5Ideal.defs _ _).mono (fun r h c => ⟨(h c).1.trans ?_, (h c).2⟩) (Cert.Reference5Ideal.Value.run (F := Ideal) m' g')
    rw [(hag c).1, (hag c).2]
    exact once _ none _ _ bitsLt_bf16_f32 _

theorem frame : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩) (Cert.Reference5Ideal.Value.run (F := Ideal) m g)

end Cert.Dw5

end
-- ==== Proof.Dw6.lean ====
/- The weight gradient of program 6: the grid's eight blocks of rows sum to the product over all rows. -/
module

public import proofs.«01_k».proof.Defs
public import proofs.«01_k».proof.Proof.Whole
public import proofs.«01_k».proof.Proof.Gen.Kernel6Ideal.Value
public import proofs.«01_k».proof.Proof.Gen.Reference6Ideal.Run
public import proofs.«01_k».proof.Proof.Gen.Reference6Ideal
public import Idealize.ShloMosaic.Adequacy
public import Idealize.ShloMosaic.Init

@[expose] public section

set_option maxRecDepth 16384

noncomputable section

namespace Cert.Dw6

open Idealize.ShloMosaic Idealize.ShloMosaic.Pipeline Idealize.SL.Sem Cert.Kernel6Ideal Cert.Kernel6Ideal.Gen Cert.Whole Cert.MatTn

variable (m : (ℓ : Loc nD τ sig) → Buf (Elt Ideal) ℓ) (c : Dev nD)

abbrev aA : FVec Ideal S8192x1024 .bf16 := V m c (arrRef spec0 0)
abbrev aB : FVec Ideal S8192x2176 .bf16 := V m c (arrRef spec0 1)

theorem lt8 (t : Fin cfg0.N) : t.val < 8 := Nat.lt_of_lt_of_eq t.isLt N_0

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem in0 (t : Fin cfg0.N) : iblk m c 0 t = blk (aA m c) t.val :=
  blk_of (aA m c) t.val (lt8 t) (fun i => ((cfg0.win 0).blk t).view.emb i)
    (fun i => (by show win0_0.index t 0 * 1024 + 1 * (i 0).val = _; rw [(idx0 t).1]; omega))
    (fun i => (by show win0_0.index t 1 * 1024 + 1 * (i 1).val = _; rw [(idx0 t).2]; omega))

theorem in1 (t : Fin cfg0.N) : iblk m c 1 t = blk (aB m c) t.val :=
  blk_of (aB m c) t.val (lt8 t) (fun i => ((cfg0.win 1).blk t).view.emb i)
    (fun i => (by show win0_1.index t 0 * 1024 + 1 * (i 0).val = _; rw [(idx1 t).1]; omega))
    (fun i => (by show win0_1.index t 1 * 2176 + 1 * (i 1).val = _; rw [(idx1 t).2]; omega))

/-- The body's update is one more block. -/
theorem update (n : ℕ) : k0_pay2 (F := Ideal) (part (aA m c) (aB m c) n) (blk (aA m c) n) (blk (aB m c) n) = part (aA m c) (aB m c) (n + 1) :=
  (shapeCast_self _ _).trans (step _ none (aA m c) (aB m c) n)

theorem clear : k0_pay1 (F := Ideal) = part (aA m c) (aB m c) 0 :=
  (shapeCast_self _ _).trans (part_zero (aA m c) (aB m c))

/-- The scratch after the first point. -/
theorem first (t : Fin cfg0.N) (h : t.val % 8 = 0) : (outsAt0 m c t.val t.isLt).2 = part (aA m c) (aB m c) (t.val + 1) := by
  have hz : t.val = 0 := by have := lt8 t; omega
  rw [outsAt0_A m c t h (by omega), in0 m c t, in1 m c t]
  dsimp only
  unfold sout0_A_0 kernelRun0_A
  dsimp only
  refine (stored VS0_0 _ _ _ _).trans ?_
  refine Eq.trans ?_ (update m c t.val)
  refine congr (congr (congrArg (k0_pay2 (F := Ideal)) ?_) (load _ _ _)) (load _ _ _)
  refine (reload _ _ _).trans ((clear m c).trans ?_)
  rw [hz]

/-- The scratch after a later point. -/
theorem next (t : Fin cfg0.N) (h : ¬t.val % 8 = 0)
    (hp : (outsAt0 m c (t.val - 1) (Nat.lt_of_le_of_lt (Nat.sub_le _ _) t.isLt)).2 = part (aA m c) (aB m c) t.val) :
    (outsAt0 m c t.val t.isLt).2 = part (aA m c) (aB m c) (t.val + 1) := by
  by_cases h7 : t.val % 8 = 7
  · rw [outsAt0_C m c t h h7, in0 m c t, in1 m c t, hp]
    dsimp only
    unfold sout0_C_0 kernelRun0_C
    dsimp only
    refine (stored VS0_0 _ _ _ _).trans (Eq.trans ?_ (update m c t.val))
    exact congr (congr (congrArg (k0_pay2 (F := Ideal)) (load _ _ _)) (load _ _ _)) (load _ _ _)
  · rw [outsAt0_B m c t h h7, in0 m c t, in1 m c t, hp]
    dsimp only
    unfold sout0_B_0 kernelRun0_B
    dsimp only
    refine (stored VS0_0 _ _ _ _).trans (Eq.trans ?_ (update m c t.val))
    exact congr (congr (congrArg (k0_pay2 (F := Ideal)) (load _ _ _)) (load _ _ _)) (load _ _ _)

theorem scratch : ∀ (n : ℕ) (hn : n < cfg0.N), (outsAt0 m c n hn).2 = part (aA m c) (aB m c) (n + 1)
  | 0, hn => first m c ⟨0, hn⟩ rfl
  | n + 1, hn => by
    have h8 : n + 1 < 8 := lt8 ⟨n + 1, hn⟩
    exact next m c ⟨n + 1, hn⟩ (by show ¬(n + 1) % 8 = 0; omega) (scratch n (Nat.lt_of_succ_lt hn))

/-- The last point writes the whole sum. -/
theorem last (t : Fin cfg0.N) (h : ¬t.val % 8 = 0) (h7 : t.val % 8 = 7) : (outsAt0 m c t.val t.isLt).1 = full (aA m c) (aB m c) .bf16 := by
  have ht : t.val = 7 := by have := lt8 t; omega
  have hp : (outsAt0 m c (t.val - 1) (Nat.lt_of_le_of_lt (Nat.sub_le _ _) t.isLt)).2 = part (aA m c) (aB m c) t.val := by
    have e := scratch m c (t.val - 1) (Nat.lt_of_le_of_lt (Nat.sub_le _ _) t.isLt)
    rwa [show t.val - 1 + 1 = t.val by omega] at e
  rw [outsAt0_C m c t h h7, in0 m c t, in1 m c t, hp]
  dsimp only
  unfold out0_C_2 kernelRun0_C
  dsimp only
  refine (stored VO0_2 _ _ _ _).trans ?_
  refine congrArg (k0_pay3 (F := Ideal)) (a₂ := full (aA m c) (aB m c) .f32) ?_
  unfold kernelRun0_C.sl.v14 kernelRun0_C.sl.HS0_1
  refine (reload _ _ _).trans (Eq.trans ?_ (part_all (aA m c) (aB m c)))
  refine Eq.trans ?_ ((update m c t.val).trans (congrArg (part (aA m c) (aB m c)) (by omega)))
  exact congr (congr (congrArg (k0_pay2 (F := Ideal)) (load _ _ _)) (load _ _ _)) (load _ _ _)

theorem result : Value.G2 m c = full (aA m c) (aB m c) .bf16 := by
  rw [Value.G2_last, ← Value.outsAt0_sweep m c 7]
  exact last m c ⟨7, lt_of_lt_of_eq (by decide) N_0.symm⟩ (by decide) (by decide)

theorem algebraic : Cert.algebraic_Kernel6Ideal_Reference6Ideal (hKernel6Ideal := Cert.Kernel6Ideal.Gen.facts) (hReference6Ideal := Cert.Reference6Ideal.Gen.facts) := by
  intro m g m' g' _ hag
  refine ⟨fun c => full (aA m c) (aB m c) .bf16, ?_, ?_⟩
  · refine (θ_run Cert.Kernel6Ideal.defs _ _).mono (fun r h c => ?_) (Value.run m g)
    exact ⟨(h c).1.trans (result m c), (h c).2⟩
  · refine (θ_run Cert.Reference6Ideal.defs _ _).mono (fun r h c => ⟨(h c).1.trans ?_, (h c).2⟩) (Cert.Reference6Ideal.Value.run (F := Ideal) m' g')
    rw [(hag c).1, (hag c).2]
    exact once _ none _ _ bitsLt_bf16_f32 _

theorem frame : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩) (Cert.Reference6Ideal.Value.run (F := Ideal) m g)

end Cert.Dw6

end
-- ==== Proof.Dw7.lean ====
/- The weight gradient of program 7: for each tile of 1024 columns the grid's eight blocks of rows sum to the product over all rows. -/
module

public import proofs.«01_k».proof.Defs
public import proofs.«01_k».proof.Proof.Whole
public import proofs.«01_k».proof.Proof.Gen.Kernel7Ideal.Value
public import proofs.«01_k».proof.Proof.Gen.Reference7Ideal.Run
public import proofs.«01_k».proof.Proof.Gen.Reference7Ideal
public import Idealize.ShloMosaic.Adequacy
public import Idealize.ShloMosaic.Init

@[expose] public section

set_option maxRecDepth 16384

noncomputable section

namespace Cert.Dw7

open Idealize.ShloMosaic Idealize.ShloMosaic.Pipeline Idealize.SL.Sem Cert.Kernel7Ideal Cert.Kernel7Ideal.Gen Cert.Whole Cert.MatTn

variable (m : (ℓ : Loc nD τ sig) → Buf (Elt Ideal) ℓ) (c : Dev nD)

abbrev aA : FVec Ideal S8192x1024 .bf16 := V m c (arrRef spec0 0)
abbrev aB : FVec Ideal S8192x2048 .bf16 := V m c (arrRef spec0 1)

/-- Tile `j` of 1024 columns. -/
def tile (B : FVec Ideal S8192x2048 .bf16) (j : ℕ) : FVec Ideal S8192x1024 .bf16 :=
  fun i => B (ValueIdx.ix2 (i 0) (⟨(1024 * j + (i 1).val) % 2048, Nat.mod_lt _ (by decide)⟩ : Fin 2048))

abbrev tB (j : ℕ) : FVec Ideal S8192x1024 .bf16 := tile (aB m c) j

theorem lt16 (t : Fin cfg0.N) : t.val < 16 := Nat.lt_of_lt_of_eq t.isLt N_0

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)

theorem idx1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

theorem idx2 : ∀ t : Fin cfg0.N, win0_2.index t 0 = 0 ∧ win0_2.index t 1 = t.val / 8 :=
  (by decide +kernel : ∀ t : Fin grid0.N, win0_2.index t 0 = 0 ∧ win0_2.index t 1 = t.val / 8)

theorem in0 (t : Fin cfg0.N) : iblk m c 0 t = blk (aA m c) (t.val % 8) :=
  blk_of (aA m c) (t.val % 8) (Nat.mod_lt _ (by decide)) (fun i => ((cfg0.win 0).blk t).view.emb i)
    (fun i => (by show win0_0.index t 0 * 1024 + 1 * (i 0).val = _; rw [(idx0 t).1]; omega))
    (fun i => (by show win0_0.index t 1 * 1024 + 1 * (i 1).val = _; rw [(idx0 t).2]; omega))

theorem in1 (t : Fin cfg0.N) : iblk m c 1 t = blk (tB m c (t.val / 8)) (t.val % 8) := by
  have ht := lt16 t
  funext i
  have h0 : (i 0).val < 1024 := (i 0).isLt
  have h1 : (i 1).val < 1024 := (i 1).isLt
  refine congrArg (aB m c) (funext fun x => Fin.ext ?_)
  match x with
  | ⟨0, _⟩ =>
    show win0_1.index t 0 * 1024 + 1 * (i 0).val = (1024 * (t.val % 8) + (i 0).val) % 8192
    rw [(idx1 t).1]; omega
  | ⟨1, _⟩ =>
    show win0_1.index t 1 * 1024 + 1 * (i 1).val = (1024 * (t.val / 8) + (i 1).val) % 2048
    rw [(idx1 t).2]; omega

/-- A product with a tile of columns is the product's tile of columns. -/
theorem out2 (t : Fin cfg0.N) :
    full (aA m c) (tB m c (t.val / 8)) .bf16 = ((cfg0.win 2).blk t).view.read (Elt Ideal) (full (aA m c) (aB m c) .bf16) := by
  have ht := lt16 t
  refine ext2 fun a b => ?_
  have e : ((cfg0.win 2).blk t).view.emb (ValueIdx.ix2 a b) = ValueIdx.ix2 a (⟨(1024 * (t.val / 8) + b.val) % 2048, Nat.mod_lt _ (by decide)⟩ : Fin 2048) := by
    funext x
    apply Fin.ext
    match x with
    | ⟨0, _⟩ => show win0_2.index t 0 * 1024 + 1 * a.val = a.val; rw [(idx2 t).1]; omega
    | ⟨1, _⟩ => show win0_2.index t 1 * 1024 + 1 * b.val = (1024 * (t.val / 8) + b.val) % 2048; rw [(idx2 t).2]; omega
  rw [View.read_apply]
  exact (congrArg (full (aA m c) (aB m c) .bf16) e).symm

/-- The body's update is one more block. -/
theorem update (n j : ℕ) : k0_pay2 (F := Ideal) (part (aA m c) (tB m c j) n) (blk (aA m c) n) (blk (tB m c j) n) = part (aA m c) (tB m c j) (n + 1) :=
  (shapeCast_self _ _).trans (step _ none (aA m c) (tB m c j) n)

theorem clear (j : ℕ) : k0_pay1 (F := Ideal) = part (aA m c) (tB m c j) 0 :=
  (shapeCast_self _ _).trans (part_zero (aA m c) (tB m c j))

/-- The scratch after the first point. -/
theorem first (t : Fin cfg0.N) (h : t.val % 8 = 0) : (outsAt0 m c t.val t.isLt).2 = part (aA m c) (tB m c (t.val / 8)) (t.val % 8 + 1) := by
  rw [outsAt0_A m c t h (by omega), in0 m c t, in1 m c t]
  dsimp only
  unfold sout0_A_0 kernelRun0_A
  dsimp only
  refine (stored VS0_0 _ _ _ _).trans ?_
  refine Eq.trans ?_ (update m c (t.val % 8) (t.val / 8))
  refine congr (congr (congrArg (k0_pay2 (F := Ideal)) ?_) (load _ _ _)) (load _ _ _)
  refine (reload _ _ _).trans ((clear m c (t.val / 8)).trans ?_)
  rw [h]

/-- The scratch after a later point. -/
theorem next (t : Fin cfg0.N) (h : ¬t.val % 8 = 0)
    (hp : (outsAt0 m c (t.val - 1) (Nat.lt_of_le_of_lt (Nat.sub_le _ _) t.isLt)).2 = part (aA m c) (tB m c (t.val / 8)) (t.val % 8)) :
    (outsAt0 m c t.val t.isLt).2 = part (aA m c) (tB m c (t.val / 8)) (t.val % 8 + 1) := by
  by_cases h7 : t.val % 8 = 7
  · rw [outsAt0_C m c t h h7, in0 m c t, in1 m c t, hp]
    dsimp only
    unfold sout0_C_0 kernelRun0_C
    dsimp only
    refine (stored VS0_0 _ _ _ _).trans (Eq.trans ?_ (update m c (t.val % 8) (t.val / 8)))
    exact congr (congr (congrArg (k0_pay2 (F := Ideal)) (load _ _ _)) (load _ _ _)) (load _ _ _)
  · rw [outsAt0_B m c t h h7, in0 m c t, in1 m c t, hp]
    dsimp only
    unfold sout0_B_0 kernelRun0_B
    dsimp only
    refine (stored VS0_0 _ _ _ _).trans (Eq.trans ?_ (update m c (t.val % 8) (t.val / 8)))
    exact congr (congr (congrArg (k0_pay2 (F := Ideal)) (load _ _ _)) (load _ _ _)) (load _ _ _)

theorem scratch : ∀ (n : ℕ) (hn : n < cfg0.N), (outsAt0 m c n hn).2 = part (aA m c) (tB m c (n / 8)) (n % 8 + 1)
  | 0, hn => first m c ⟨0, hn⟩ rfl
  | n + 1, hn => by
    by_cases h : (n + 1) % 8 = 0
    · exact first m c ⟨n + 1, hn⟩ h
    · refine next m c ⟨n + 1, hn⟩ h ((scratch n (Nat.lt_of_succ_lt hn)).trans ?_)
      show part (aA m c) (tB m c (n / 8)) (n % 8 + 1) = part (aA m c) (tB m c ((n + 1) / 8)) ((n + 1) % 8)
      rw [show (n + 1) / 8 = n / 8 by omega, show (n + 1) % 8 = n % 8 + 1 by omega]

/-- The last point of a tile writes the tile's whole sum. -/
theorem last (t : Fin cfg0.N) (h : ¬t.val % 8 = 0) (h7 : t.val % 8 = 7) : (outsAt0 m c t.val t.isLt).1 = full (aA m c) (tB m c (t.val / 8)) .bf16 := by
  have hp : (outsAt0 m c (t.val - 1) (Nat.lt_of_le_of_lt (Nat.sub_le _ _) t.isLt)).2 = part (aA m c) (tB m c (t.val / 8)) (t.val % 8) := by
    have e := scratch m c (t.val - 1) (Nat.lt_of_le_of_lt (Nat.sub_le _ _) t.isLt)
    rwa [show (t.val - 1) / 8 = t.val / 8 by omega, show (t.val - 1) % 8 + 1 = t.val % 8 by omega] at e
  rw [outsAt0_C m c t h h7, in0 m c t, in1 m c t, hp]
  dsimp only
  unfold out0_C_2 kernelRun0_C
  dsimp only
  refine (stored VO0_2 _ _ _ _).trans ?_
  refine congrArg (k0_pay3 (F := Ideal)) (a₂ := full (aA m c) (tB m c (t.val / 8)) .f32) ?_
  unfold kernelRun0_C.sl.v14 kernelRun0_C.sl.HS0_1
  refine (reload _ _ _).trans (Eq.trans ?_ (part_all (aA m c) (tB m c (t.val / 8))))
  refine Eq.trans ?_ ((update m c (t.val % 8) (t.val / 8)).trans (congrArg (part (aA m c) (tB m c (t.val / 8))) (by omega)))
  exact congr (congr (congrArg (k0_pay2 (F := Ideal)) (load _ _ _)) (load _ _ _)) (load _ _ _)

theorem result : (dats m 0 c).arrAt 2 cfg0.N = full (aA m c) (aB m c) .bf16 :=
  (dats m 0 c).arrAt_eq_of_cover 2 _ (fun t hf =>
    have h7 : t.val % 8 = 7 := (flush0_2 t).mp hf
    (Value.flushed2 m c t).trans ((congrArg (fun s => (cfg0.win 2).cut (grid0.coords t) s) (last m c t (by omega) h7)).trans (out2 m c t)))
    (fun i => (Value.covered_iff2 i).2 (by
      have h0 : (i 0).val < 1024 := (i 0).isLt; have h1 : (i 1).val < 2048 := (i 1).isLt; omega))

theorem algebraic : Cert.algebraic_Kernel7Ideal_Reference7Ideal (hKernel7Ideal := Cert.Kernel7Ideal.Gen.facts) (hReference7Ideal := Cert.Reference7Ideal.Gen.facts) := by
  intro m g m' g' _ hag
  refine ⟨fun c => full (aA m c) (aB m c) .bf16, ?_, ?_⟩
  · refine (θ_run Cert.Kernel7Ideal.defs _ _).mono (fun r h c => ?_) (Value.run_blocks m g)
    exact ⟨(h c).1.trans (result m c), (h c).2⟩
  · refine (θ_run Cert.Reference7Ideal.defs _ _).mono (fun r h c => ⟨(h c).1.trans ?_, (h c).2⟩) (Cert.Reference7Ideal.Value.run (F := Ideal) m' g')
    rw [(hag c).1, (hag c).2]
    exact once _ none _ _ bitsLt_bf16_f32 _

theorem frame : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩) (Cert.Reference7Ideal.Value.run (F := Ideal) m g)

end Cert.Dw7

end
-- ==== Proof.Cells.lean ====
/- Matrices of extended reals given by their cells: the operations of a block of 512 rows, read cell by cell; a block of rows of an array; loads of parts of a buffer. -/
module

public import Idealize.ShloMosaic.Lib.Pipeline.Value
public import proofs.«01_k».proof.Proof.Lift
public import proofs.«01_k».proof.Proof.Whole

@[expose] public section

set_option maxRecDepth 16384

noncomputable section

namespace Cert.Cells

open Idealize.ShloMosaic Idealize.ShloMosaic.Pipeline Idealize.ShloMosaic.ValueIdx Cert.Lift
open scoped BigOperators

/-- The matrix with the given cells, at any format. -/
def E2 {φ : FTy} {n m : ℕ} (A : Fin n → Fin m → EReal) : FVec Ideal ⟨2, ![n, m]⟩ φ := fun i => A (i 0) (i 1)

/-- The vector with the given cells. -/
def E1 {φ : FTy} {n : ℕ} (A : Fin n → EReal) : FVec Ideal ⟨1, ![n]⟩ φ := fun i => A (i 0)

/-- The cells of a matrix. -/
def un {φ : FTy} {n m : ℕ} (v : FVec Ideal ⟨2, ![n, m]⟩ φ) : Fin n → Fin m → EReal := fun a b => v (ix2 a b)

theorem eq_E2 {φ : FTy} {n m : ℕ} {v : FVec Ideal ⟨2, ![n, m]⟩ φ} {A : Fin n → Fin m → EReal} (h : ∀ a b, v (ix2 a b) = A a b) : v = E2 A := by
  funext i
  rw [eq_ix2 i]
  exact h _ _

theorem eq_E1 {φ : FTy} {n : ℕ} {v : FVec Ideal ⟨1, ![n]⟩ φ} {A : Fin n → EReal} (h : ∀ a, v (ix1 a) = A a) : v = E1 A := by
  funext i
  rw [eq_ix1 i]
  exact h _

theorem E2_un {φ : FTy} {n m : ℕ} (v : FVec Ideal ⟨2, ![n, m]⟩ φ) : v = E2 (un v) := eq_E2 fun _ _ => rfl

theorem L2_E2 {φ : FTy} {n m : ℕ} (A : Fin n → Fin m → ℝ) : (L2 A : FVec Ideal _ φ) = E2 fun i j => ((A i j : ℝ) : EReal) := rfl

section Ops
variable {φ ψ : FTy} {n m : ℕ} (A B : Fin n → Fin m → EReal)

theorem mulf_E2 : mulf (E2 A : FVec Ideal _ φ) (E2 B) = E2 fun i j => A i j * B i j := rfl
theorem addf_E2 : addf (E2 A : FVec Ideal _ φ) (E2 B) = E2 fun i j => A i j + B i j := rfl
theorem subf_E2 : subf (E2 A : FVec Ideal _ φ) (E2 B) = E2 fun i j => A i j - B i j := rfl
theorem divf_E2 : divf (E2 A : FVec Ideal _ φ) (E2 B) = E2 fun i j => Ideal.div (A i j) (B i j) := rfl
theorem rsqrt_E2 : rsqrt (E2 A : FVec Ideal _ φ) = E2 fun i j => Ideal.rsqrt (A i j) := rfl
theorem truncf_E2 (h : ψ.bits < φ.bits) : (truncf ψ (E2 A : FVec Ideal _ φ) h : FVec Ideal _ ψ) = E2 A := rfl
theorem extf_E2 (h : φ.bits < ψ.bits) : (extf ψ (E2 A : FVec Ideal _ φ) h : FVec Ideal _ ψ) = E2 A := rfl
theorem broadcast_E2 (x : Ideal φ) : (broadcast ⟨2, ![n, m]⟩ x : FVec Ideal _ φ) = E2 fun _ _ => x := rfl

theorem cast_E2 (h : (⟨2, ![n, m]⟩ : Shape).ShapeCasts ⟨2, ![n, m]⟩) : (shapeCast ⟨2, ![n, m]⟩ (E2 A : FVec Ideal _ φ) h : FVec Ideal _ φ) = E2 A := by
  funext i; exact shapeCast_apply _ h _ _ rfl

theorem col_E2 (v : Fin n → EReal) (h : (⟨1, ![n]⟩ : Shape).ShapeCasts ⟨2, ![n, 1]⟩) :
    (shapeCast ⟨2, ![n, 1]⟩ (E1 v : FVec Ideal _ φ) h : FVec Ideal _ φ) = E2 fun i _ => v i :=
  eq_E2 fun a b => (shapeCast_apply _ h (ix2 a b) (ix1 a) (by
    have hb : b.val = 0 := by omega
    rw [Shape.rowMajor_val_two, Shape.rowMajor_val_one]
    show a.val = a.val * 1 + b.val
    rw [hb, Nat.mul_one, Nat.add_zero])).trans rfl

theorem down_E2 (R : Fin 1 → Fin m → EReal) (h : (⟨2, ![1, m]⟩ : Shape).Broadcasts ⟨2, ![n, m]⟩) :
    (broadcastTo ⟨2, ![n, m]⟩ (E2 R : FVec Ideal _ φ) h : FVec Ideal _ φ) = E2 fun _ j => R 0 j :=
  eq_E2 fun a b => (broadcastTo_1b_ab_apply _ h a b).trans rfl

theorem over_E2 (C : Fin n → Fin 1 → EReal) (h : (⟨2, ![n, 1]⟩ : Shape).Broadcasts ⟨2, ![n, m]⟩) :
    (broadcastTo ⟨2, ![n, m]⟩ (E2 C : FVec Ideal _ φ) h : FVec Ideal _ φ) = E2 fun i _ => C i 0 :=
  eq_E2 fun a b => (broadcastTo_apply _ h (ix2 a b) (ix2 a 0) (fun ax => by
    match ax with
    | ⟨0, _⟩ =>
      show a.val = if n = 1 then 0 else a.val
      split
      · have := a.isLt; omega
      · rfl
    | ⟨1, _⟩ => rfl)).trans rfl

theorem sum_E2 (acc : BitVec φ.bits) (h : (⟨2, ![n, m]⟩ : Shape).Reduces [1] ⟨1, ![n]⟩) (hφ : FKind.Formats φ) (hacc : acc = FKind.add.neutral φ hφ) :
    multiReduction .add [1] ⟨1, ![n]⟩ (E2 A : FVec Ideal _ φ) acc h hφ hacc = E1 fun i => ∑ j, A i j :=
  eq_E1 fun a => by
    rw [Ideal.multiReduction_add_single]
    rfl

end Ops

theorem dot_E2 {φ₁ φ₂ : FTy} {M K N : ℕ} (p : Option ContractPrecision) (A : Fin M → Fin K → EReal) (B : Fin K → Fin N → EReal) :
    matmul (DotDims.plain M K N) p (E2 A : FVec Ideal _ φ₁) (E2 B : FVec Ideal _ φ₂) (constant _ .f32 0x00000000#32) = E2 fun i j => ∑ k, A i k * B k j :=
  eq_E2 fun a b => by
    refine (Ideal.matmul_plain_apply p _ _ _ a b).trans ?_
    rw [constant_apply, Ideal.ofBits_zero_f32, zero_add]
    rfl

/-! ## The root mean square of a row -/

/-- The reciprocal of the root of a row's mean square with the constant added. -/
def inv (x : Fin 1024 → EReal) : EReal :=
  Ideal.rsqrt (Ideal.div (∑ k, x k * x k) (Ideal.ofBits .f32 0x44800000#32) + Ideal.ofBits .f32 0x358637BD#32)

/-- A row normed, scaled by the gain and by one plus the modulation's scale, and shifted. -/
def modu (x g sc sh : Fin 1024 → EReal) (j : Fin 1024) : EReal := x j * inv x * g j * (Ideal.ofBits .f32 0x3F800000#32 + sc j) + sh j

theorem inv_E2 (X : Fin 512 → Fin 1024 → EReal) (acc : BitVec (FTy.bits .f32)) (h : (⟨2, ![512, 1024]⟩ : Shape).Reduces [1] ⟨1, ![512]⟩) (hφ : FKind.Formats .f32)
    (hacc : acc = FKind.add.neutral .f32 hφ) (hc : (⟨1, ![512]⟩ : Shape).ShapeCasts ⟨2, ![512, 1]⟩) (hb : (⟨2, ![512, 1]⟩ : Shape).Broadcasts ⟨2, ![512, 1024]⟩) :
    broadcastTo ⟨2, ![512, 1024]⟩ (rsqrt (addf (divf (shapeCast ⟨2, ![512, 1]⟩ (multiReduction .add [1] ⟨1, ![512]⟩ (mulf (E2 X) (E2 X)) acc h hφ hacc) hc)
        (broadcast ⟨2, ![512, 1]⟩ (Scalar.ofBits .f32 0x44800000#32 : Ideal .f32))) (broadcast ⟨2, ![512, 1]⟩ (Scalar.ofBits .f32 0x358637BD#32 : Ideal .f32)))) hb
      = (E2 (fun i _ => inv (X i)) : FVec Ideal _ .f32) := by
  rw [mulf_E2, sum_E2, col_E2, broadcast_E2, broadcast_E2, divf_E2, addf_E2, rsqrt_E2, over_E2]
  rfl

/-! ## Blocks of 512 rows -/

/-- Block `q` of 512 of the 8192 rows. -/
def rows {α : Type} {d : ℕ} (A : Fin 8192 → Fin d → α) (q : ℕ) : Fin 512 → Fin d → α :=
  fun i => A (⟨(512 * q + i.val) % 8192, Nat.mod_lt _ (by decide)⟩ : Fin 8192)

theorem rows_of {d : ℕ} {φ : FTy} (A : Fin 8192 → Fin d → EReal) (q : ℕ) (hq : q < 16) (e : (⟨2, ![512, d]⟩ : Shape).Idx → (⟨2, ![8192, d]⟩ : Shape).Idx)
    (h0 : ∀ i, (e i 0).val = 512 * q + (i 0).val) (h1 : ∀ i, (e i 1).val = (i 1).val) :
    (fun i => (E2 A : FVec Ideal _ φ) (e i)) = (E2 (rows A q) : FVec Ideal ⟨2, ![512, d]⟩ φ) := by
  funext i
  have h2 : (i 0).val < 512 := (i 0).isLt
  exact congr (congrArg A (Fin.ext ((h0 i).trans (by show 512 * q + (i 0).val = (512 * q + (i 0).val) % 8192; omega)))) (Fin.ext (h1 i))

theorem whole_of {n d : ℕ} {φ : FTy} (A : FVec Ideal ⟨2, ![n, d]⟩ φ) (e : (⟨2, ![n, d]⟩ : Shape).Idx → (⟨2, ![n, d]⟩ : Shape).Idx)
    (h0 : ∀ i, (e i 0).val = (i 0).val) (h1 : ∀ i, (e i 1).val = (i 1).val) : (fun i => A (e i)) = A :=
  funext fun i => congrArg A (funext fun x => Fin.ext (match x with | ⟨0, _⟩ => h0 i | ⟨1, _⟩ => h1 i))

/-! ## Loads of a part of a buffer -/

variable {sig : RefSig}

theorem part {n m p q : ℕ} {e : EltTy} {a : Memref sig .tc .vmem ⟨2, ![n, m]⟩ e} (ha : a.IsWhole) (x : Vec Ideal ⟨2, ![n, m]⟩ e) (r c : ℕ)
    (hr : r + p ≤ n) (hc : c + q ≤ m) (inb) :
    View.readAt (Elt Ideal) a.view (Rect.unit ![r, c] ![p, q] inb).toLoadRect (ha.unread x)
      = fun i : (⟨2, ![p, q]⟩ : Shape).Idx => x (ix2 (⟨r + (i 0).val, by have h : (i 0).val < p := (i 0).isLt; omega⟩ : Fin n)
          (⟨c + (i 1).val, by have h : (i 1).val < q := (i 1).isLt; omega⟩ : Fin m)) := by
  rw [View.readAt_eq_ld, ha.read_unread, View.ld_unit]
  refine funext fun i => extractStridedSlice_apply _ _ _ _ _ fun ax => ?_
  match ax with
  | ⟨0, _⟩ => rfl
  | ⟨1, _⟩ => rfl

/-- A load of one row. -/
theorem one_row {n m : ℕ} {a : Memref sig .tc .vmem ⟨2, ![n, m]⟩ .f32} (ha : a.IsWhole) (A : Fin n → Fin m → EReal) (r : ℕ) (hr : r < n) (inb) :
    View.readAt (Elt Ideal) a.view (Rect.unit ![r, 0] ![1, m] inb).toLoadRect (ha.unread (E2 (φ := .f32) A)) = E2 (φ := .f32) fun _ j => A ⟨r, hr⟩ j :=
  (part ha _ r 0 (by omega) (by omega) inb).trans (funext fun i => by
    have h : (i 0).val < 1 := (i 0).isLt
    exact congr (congrArg A (Fin.ext (by show r + (i 0).val = r; omega))) (Fin.ext (Nat.zero_add _)))

/-- A load of some columns, all rows. -/
theorem some_cols {n m q : ℕ} {a : Memref sig .tc .vmem ⟨2, ![n, m]⟩ .bf16} (ha : a.IsWhole) (A : Fin n → Fin m → EReal) (c : ℕ) (hc : c + q ≤ m) (inb) :
    View.readAt (Elt Ideal) a.view (Rect.unit ![0, c] ![n, q] inb).toLoadRect (ha.unread (E2 (φ := .bf16) A))
      = E2 (φ := .bf16) fun i j => A i (⟨c + j.val, by omega⟩ : Fin m) :=
  (part ha _ 0 c (by omega) (by omega) inb).trans (funext fun i => congrArg (fun z => A z _) (Fin.ext (Nat.zero_add _)))

/-! ## The parameters on the host -/

/-- Six rows of modulation, four of gains, six of zeros. -/
def vecs {α : Type} [Zero α] (M : Fin 6 → Fin 1024 → α) (G : Fin 4 → Fin 1024 → α) : Fin 16 → Fin 1024 → α := fun a j =>
  if h : a.val < 6 then M ⟨a.val, h⟩ j else if h' : a.val < 10 then G ⟨a.val - 6, by omega⟩ j else 0

theorem coe_vecs (M : Fin 6 → Fin 1024 → ℝ) (G : Fin 4 → Fin 1024 → ℝ) :
    vecs (fun i j => ((M i j : ℝ) : EReal)) (fun i j => ((G i j : ℝ) : EReal)) = fun a j => ((vecs M G a j : ℝ) : EReal) := by
  funext a j
  unfold vecs
  split
  · rfl
  · split <;> rfl

/-- The three arrays the sixteen rows are joined from. -/
abbrev vecs3 (M : Fin 6 → Fin 1024 → EReal) (G : Fin 4 → Fin 1024 → EReal) : List ((s : Shape) × (s.Idx → EReal)) :=
  [⟨⟨2, ![6, 1024]⟩, E2 (φ := .f32) M⟩, ⟨⟨2, ![4, 1024]⟩, E2 (φ := .f32) G⟩, ⟨⟨2, ![6, 1024]⟩, E2 (φ := .f32) fun _ _ => 0⟩]

theorem vecs_join (M : Fin 6 → Fin 1024 → EReal) (G : Fin 4 → Fin 1024 → EReal) (h : Shape.Concatenates ((vecs3 M G).map (·.1)) ⟨2, ![16, 1024]⟩ 0) :
    concatenate ⟨2, ![16, 1024]⟩ 0 (vecs3 M G) h = (E2 (vecs M G) : FVec Ideal _ .f32) :=
  eq_E2 fun a j => by
    by_cases h6 : a.val < 6
    · refine (concatenate_apply_piece (t := ⟨2, ![16, 1024]⟩) 0 (vecs3 M G) h (ix2 a j) 0 (by show 0 < 3; decide) ⟨2, ![6, 1024]⟩ _ rfl rfl 0 rfl (ix2 ⟨a.val, h6⟩ j)
        (fun b hb => match b with | ⟨0, _⟩ => absurd rfl hb | ⟨1, _⟩ => rfl) (Nat.zero_add _)).trans ?_
      show M ⟨a.val, h6⟩ j = vecs M G a j
      unfold vecs; rw [dif_pos h6]
    · by_cases h10 : a.val < 10
      · refine (concatenate_apply_piece (t := ⟨2, ![16, 1024]⟩) 0 (vecs3 M G) h (ix2 a j) 1 (by show 1 < 3; decide) ⟨2, ![4, 1024]⟩ _ rfl rfl 6 rfl (ix2 ⟨a.val - 6, by omega⟩ j)
          (fun b hb => match b with | ⟨0, _⟩ => absurd rfl hb | ⟨1, _⟩ => rfl) (show 6 + (a.val - 6) = a.val by omega)).trans ?_
        show G ⟨a.val - 6, _⟩ j = vecs M G a j
        unfold vecs; rw [dif_neg h6, dif_pos h10]
      · have ha := a.isLt
        refine (concatenate_apply_piece (t := ⟨2, ![16, 1024]⟩) 0 (vecs3 M G) h (ix2 a j) 2 (by show 2 < 3; decide) ⟨2, ![6, 1024]⟩ _ rfl rfl 10 rfl (ix2 ⟨a.val - 10, by omega⟩ j)
          (fun b hb => match b with | ⟨0, _⟩ => absurd rfl hb | ⟨1, _⟩ => rfl) (show 10 + (a.val - 10) = a.val by omega)).trans ?_
        show (0 : EReal) = vecs M G a j
        unfold vecs; rw [dif_neg h6, dif_neg h10]

/-- The projection's columns in three groups: the first 2824, then 120 of zeros, then the last 2048. -/
def spread {α : Type} [Zero α] (W : Fin 1024 → Fin 4872 → α) : Fin 1024 → Fin 4992 → α := fun k j =>
  if h : j.val < 2824 then W k ⟨j.val, by omega⟩ else if j.val < 2944 then 0 else W k ⟨j.val - 120, by omega⟩

theorem coe_spread (W : Fin 1024 → Fin 4872 → ℝ) : spread (fun i j => ((W i j : ℝ) : EReal)) = fun k j => ((spread W k j : ℝ) : EReal) := by
  funext k j
  unfold spread
  split
  · rfl
  · split <;> rfl

abbrev spread3 (A : Fin 1024 → Fin 2824 → EReal) (B : Fin 1024 → Fin 2048 → EReal) : List ((s : Shape) × (s.Idx → EReal)) :=
  [⟨⟨2, ![1024, 2824]⟩, E2 (φ := .bf16) A⟩, ⟨⟨2, ![1024, 120]⟩, E2 (φ := .bf16) fun _ _ => 0⟩, ⟨⟨2, ![1024, 2048]⟩, E2 (φ := .bf16) B⟩]

theorem spread_join (W : Fin 1024 → Fin 4872 → EReal)
    (h : Shape.Concatenates ((spread3 (fun k j => W k ⟨j.val, by omega⟩) (fun k j => W k ⟨2824 + j.val, by omega⟩)).map (·.1)) ⟨2, ![1024, 4992]⟩ 1) :
    concatenate ⟨2, ![1024, 4992]⟩ 1 (spread3 (fun k j => W k ⟨j.val, by omega⟩) (fun k j => W k ⟨2824 + j.val, by omega⟩)) h = (E2 (spread W) : FVec Ideal _ .bf16) :=
  eq_E2 fun k j => by
    have hj := j.isLt
    by_cases h1 : j.val < 2824
    · refine (concatenate_apply_piece (t := ⟨2, ![1024, 4992]⟩) 1 (spread3 _ _) h (ix2 k j) 0 (by show 0 < 3; decide) ⟨2, ![1024, 2824]⟩ _ rfl rfl 0 rfl (ix2 k ⟨j.val, h1⟩)
        (fun b hb => match b with | ⟨0, _⟩ => rfl | ⟨1, _⟩ => absurd rfl hb) (Nat.zero_add _)).trans ?_
      show W k ⟨j.val, _⟩ = spread W k j
      unfold spread; rw [dif_pos h1]
    · by_cases h2 : j.val < 2944
      · refine (concatenate_apply_piece (t := ⟨2, ![1024, 4992]⟩) 1 (spread3 _ _) h (ix2 k j) 1 (by show 1 < 3; decide) ⟨2, ![1024, 120]⟩ _ rfl rfl 2824 rfl (ix2 k ⟨j.val - 2824, by omega⟩)
          (fun b hb => match b with | ⟨0, _⟩ => rfl | ⟨1, _⟩ => absurd rfl hb) (show 2824 + (j.val - 2824) = j.val by omega)).trans ?_
        show (0 : EReal) = spread W k j
        unfold spread; rw [dif_neg h1, if_pos h2]
      · refine (concatenate_apply_piece (t := ⟨2, ![1024, 4992]⟩) 1 (spread3 _ _) h (ix2 k j) 2 (by show 2 < 3; decide) ⟨2, ![1024, 2048]⟩ _ rfl rfl 2944 rfl (ix2 k ⟨j.val - 2944, by omega⟩)
          (fun b hb => match b with | ⟨0, _⟩ => rfl | ⟨1, _⟩ => absurd rfl hb) (show 2944 + (j.val - 2944) = j.val by omega)).trans ?_
        show W k ⟨2824 + (j.val - 2944), _⟩ = spread W k j
        unfold spread; rw [dif_neg h1, if_neg h2]
        exact congrArg (W k) (Fin.ext (by show 2824 + (j.val - 2944) = j.val - 120; omega))

/-- Joined arrays are equal where their pieces are. -/
theorem join3 {s₁ s₂ s₃ t : Shape} {d} {a a' : s₁.Idx → EReal} {b b' : s₂.Idx → EReal} {z z' : s₃.Idx → EReal} (ha : a = a') (hb : b = b') (hz : z = z')
    (h : Shape.Concatenates [s₁, s₂, s₃] t d) :
    concatenate t d [⟨s₁, a⟩, ⟨s₂, b⟩, ⟨s₃, z⟩] h = concatenate t d [⟨s₁, a'⟩, ⟨s₂, b'⟩, ⟨s₃, z'⟩] h := by
  subst ha hb hz; rfl

end Cert.Cells

end

end
-- ==== Proof.Tables.lean ====
/- Blocks of 512 rows of reals: loads and stores of single rows, the table of sums a grid of sixteen points builds up, and the root mean square of the rows of a block. -/
module

public import Idealize.ShloMosaic.Lib.WritesUnit
public import Idealize.ShloMosaic.Lib.Pipeline.ReadBack
public import proofs.«01_k».proof.Proof.Cells
public import proofs.«01_k».proof.Proof.Identity

@[expose] public section

set_option maxRecDepth 16384

noncomputable section

namespace Cert.Tables

open Idealize.ShloMosaic Idealize.ShloMosaic.Pipeline Idealize.ShloMosaic.ValueIdx Cert.Lift Cert.Ffn Cert.Cells Cert.Whole
open scoped BigOperators

/-- One row of reals as a matrix. -/
abbrev one (w : Row) : FVec Ideal ⟨2, ![1, 1024]⟩ .f32 := L2 fun _ j => w j

section Buffers
variable {sig : RefSig}

theorem ld_row {n : ℕ} (A : Fin n → Row) (k : ℕ) (hk : k < n) (inb) :
    View.ld (Val := Elt Ideal) (e' := .f32) (L2 (φ := .f32) A : FVec Ideal ⟨2, ![n, 1024]⟩ .f32) (Rect.unit (s := ⟨2, ![n, 1024]⟩) ![k, 0] ![1, 1024] inb) = one (A ⟨k, hk⟩) := by
  refine eq_L2 (φ := .f32) fun a b => ?_
  rw [View.ld_unit]
  refine (extractStridedSlice_apply _ _ _ _ (ix2 (⟨k, hk⟩ : Fin n) b) fun ax => ?_).trans rfl
  match ax with
  | ⟨0, _⟩ => show k = k + a.val; omega
  | ⟨1, _⟩ => exact (Nat.zero_add _).symm

/-- A load of one row. -/
theorem rd_row {n : ℕ} {a : Memref sig .tc .vmem ⟨2, ![n, 1024]⟩ .f32} (ha : a.IsWhole) (A : Fin n → Row) (k : ℕ) (hk : k < n) (inb) :
    View.readAt (Elt Ideal) a.view (Rect.unit ![k, 0] ![1, 1024] inb).toLoadRect (ha.unread (L2 (φ := .f32) A)) = one (A ⟨k, hk⟩) := by
  rw [View.readAt_eq_ld, ha.read_unread]
  exact ld_row A k hk inb

/-- A load of one row of what earlier stores left. -/
theorem rd_cov {n : ℕ} (v : View sig .tc .vmem ⟨2, ![n, 1024]⟩ .f32) (L) (A : Fin n → Row)
    (h : v.read (Elt Ideal) (v.writes (Elt Ideal) v.junk L) = L2 (φ := .f32) A) (k : ℕ) (hk : k < n) (inb) :
    v.readCov L (Rect.unit ![k, 0] ![1, 1024] inb).toLoadRect = one (A ⟨k, hk⟩) := by
  unfold View.readCov
  rw [View.readAt_eq_ld, h]
  exact ld_row A k hk inb

/-- A store of one row over what earlier stores left. -/
theorem st_row {n : ℕ} (v : View sig .tc .vmem ⟨2, ![n, 1024]⟩ .f32) (f) (L) (A : Fin n → Row)
    (h : v.read (Elt Ideal) (v.writes (Elt Ideal) f L) = L2 (φ := .f32) A) (k : Fin n) (inb) (w : Row) (p) (hp : p = one w) :
    v.read (Elt Ideal) (v.writes (Elt Ideal) f ((⟨Rect.unit ![k.val, 0] ![1, 1024] inb, p⟩ : View.Piece (Elt Ideal) ⟨2, ![n, 1024]⟩ .f32) :: L))
      = L2 (φ := .f32) (Function.update A k w) := by
  subst hp
  refine eq_L2 (φ := .f32) fun a b => ?_
  by_cases hak : a = k
  · subst hak
    refine (View.read_writes_cons_rows_of_mem v f inb _ L (ix2 a b) (ix2 (0 : Fin 1) b) rfl ?_ rfl).trans ?_
    · exact (Nat.add_zero _).symm
    · rw [Function.update_self]
      rfl
  · refine (View.read_writes_cons_rows_of_not_mem v f inb _ L (ix2 a b) rfl (W := 1) rfl ?_).trans ?_
    · have : a.val ≠ k.val := fun e => hak (Fin.ext e)
      show a.val < k.val ∨ k.val + 1 ≤ a.val
      omega
    · rw [h, Function.update_of_ne hak]
      rfl

/-- A load of some columns, all rows. -/
theorem rd_cols {n m q : ℕ} {a : Memref sig .tc .vmem ⟨2, ![n, m]⟩ .bf16} (ha : a.IsWhole) (A : Fin n → Fin m → ℝ) (c : ℕ) (hc : c + q ≤ m) (inb) :
    View.readAt (Elt Ideal) a.view (Rect.unit ![0, c] ![n, q] inb).toLoadRect (ha.unread (L2 (φ := .bf16) A))
      = L2 (φ := .bf16) fun i (j : Fin q) => A i (⟨c + j.val, by omega⟩ : Fin m) :=
  some_cols ha (fun i j => ((A i j : ℝ) : EReal)) c hc inb

end Buffers

/-! ## The root mean square of a block's rows -/

theorem rs_L2 (X : Fin 512 → Row) (acc : BitVec (FTy.bits .f32)) (h : (⟨2, ![512, 1024]⟩ : Shape).Reduces [1] ⟨1, ![512]⟩) (hφ : FKind.Formats .f32)
    (hacc : acc = FKind.add.neutral .f32 hφ) (hc : (⟨1, ![512]⟩ : Shape).ShapeCasts ⟨2, ![512, 1]⟩) :
    rsqrt (addf (divf (shapeCast ⟨2, ![512, 1]⟩ (multiReduction .add [1] ⟨1, ![512]⟩ (mulf (L2 X) (L2 X)) acc h hφ hacc) hc)
        (broadcast ⟨2, ![512, 1]⟩ (Scalar.ofBits .f32 0x44800000#32 : Ideal .f32))) (broadcast ⟨2, ![512, 1]⟩ (Scalar.ofBits .f32 0x358637BD#32 : Ideal .f32)))
      = (L2 (fun i _ => rs (X i)) : FVec Ideal _ .f32) := by
  rw [mulf_L2, reduce_cols_L2, shapeCast_col_L2, broadcast_L2 (Scalar.ofBits .f32 0x44800000#32 : Ideal .f32) 1024 c_1024,
    broadcast_L2 (Scalar.ofBits .f32 0x358637BD#32 : Ideal .f32) eps c_eps, divf_L2 _ _ (fun _ _ => by norm_num), addf_L2, rsqrt_L2 _ (fun i _ => ms_pos (X i))]
  rfl

/-! ## Sums over the sixteen blocks -/

theorem sum16 (f : Fin 8192 → ℝ) :
    ∑ n ∈ Finset.range 16, ∑ i : Fin 512, f ⟨(512 * n + i.val) % 8192, Nat.mod_lt _ (by decide)⟩ = ∑ r, f r := by
  rw [Finset.sum_range (fun n => ∑ i : Fin 512, f ⟨(512 * n + i.val) % 8192, Nat.mod_lt _ (by decide)⟩)]
  rw [← Fintype.sum_prod_type' (fun (n : Fin 16) (i : Fin 512) => f ⟨(512 * n.val + i.val) % 8192, Nat.mod_lt _ (by decide)⟩)]
  refine Fintype.sum_equiv (finProdFinEquiv (m := 16) (n := 512)) _ _ fun p => congrArg f (Fin.ext ?_)
  have h1 := p.1.isLt
  have h2 := p.2.isLt
  show (512 * p.1.val + p.2.val) % 8192 = p.2.val + 512 * p.1.val
  omega

/-- A table after point `n`, where each point adds to it. -/
def acc (g : ℕ → Fin 8 → Row) : ℕ → Fin 8 → Row
  | 0 => g 0
  | n + 1 => fun k j => acc g n k j + g (n + 1) k j

theorem acc_sum (g : ℕ → Fin 8 → Row) (k : Fin 8) (j : Fin 1024) : ∀ n, acc g n k j = ∑ q ∈ Finset.range (n + 1), g q k j
  | 0 => (Finset.sum_range_one fun q => g q k j).symm
  | n + 1 => by
    rw [Finset.sum_range_succ, ← acc_sum g k j n]
    rfl

end Cert.Tables

end

end
-- ==== Proof.PreRows.lean ====
/- The backward of the normed and modulated first projection, one row at a time, on reals. -/
module

public import proofs.«01_k».proof.Proof.Tables

@[expose] public section

set_option maxRecDepth 16384

noncomputable section

namespace Cert.PreBwd

open Cert.Ffn Cert.Cells
open scoped BigOperators

/-- A row's gradient through the projection, in the three groups of columns the kernel keeps. -/
def dh (q : Fin 768 → ℝ) (d : Fin 2176 → ℝ) (p : Fin 2048 → ℝ) (U : Fin 1024 → Fin 4992 → ℝ) : Row := fun j =>
  ((∑ l, q l * U j (⟨0 + l.val, by omega⟩ : Fin 4992)) + ∑ l, d l * U j (⟨768 + l.val, by omega⟩ : Fin 4992)) + ∑ l, p l * U j (⟨2944 + l.val, by omega⟩ : Fin 4992)

/-- The row as one array of columns, for the projection the parameters hold. -/
def cat (q : Fin 768 → ℝ) (d : Fin 2176 → ℝ) (p : Fin 2048 → ℝ) : Fin 4872 → ℝ := fun l =>
  if h : l.val < 768 then q ⟨l.val, h⟩ else if h' : l.val < 2824 then d ⟨l.val - 768, by omega⟩ else p ⟨l.val - 2824, by omega⟩

/-- The two sums are one. -/
theorem dh_eq (q : Fin 768 → ℝ) (d : Fin 2176 → ℝ) (p : Fin 2048 → ℝ) (W : Fin 1024 → Fin 4872 → ℝ) (j : Fin 1024) :
    dh q d p (spread W) j = ∑ l, cat q d p l * W j l := by
  have e1 : ∑ l, cat q d p l * W j l = (∑ l : Fin 2824, cat q d p (Fin.castAdd 2048 l) * W j (Fin.castAdd 2048 l)) + ∑ l : Fin 2048, cat q d p (Fin.natAdd 2824 l) * W j (Fin.natAdd 2824 l) :=
    Fin.sum_univ_add (a := 2824) (b := 2048) fun l => cat q d p l * W j l
  have e2 : (∑ l : Fin 2824, cat q d p (Fin.castAdd 2048 l) * W j (Fin.castAdd 2048 l))
      = (∑ l : Fin 768, cat q d p (Fin.castAdd 2048 (Fin.castAdd 2056 l)) * W j (Fin.castAdd 2048 (Fin.castAdd 2056 l)))
        + ∑ l : Fin 2056, cat q d p (Fin.castAdd 2048 (Fin.natAdd 768 l)) * W j (Fin.castAdd 2048 (Fin.natAdd 768 l)) :=
    Fin.sum_univ_add (a := 768) (b := 2056) fun l => cat q d p (Fin.castAdd 2048 l) * W j (Fin.castAdd 2048 l)
  have e3 : (∑ l : Fin 2176, d l * spread W j (⟨768 + l.val, by omega⟩ : Fin 4992))
      = (∑ l : Fin 2056, d (Fin.castAdd 120 l) * spread W j (⟨768 + l.val, by omega⟩ : Fin 4992)) + ∑ l : Fin 120, d (Fin.natAdd 2056 l) * spread W j (⟨768 + (2056 + l.val), by omega⟩ : Fin 4992) :=
    Fin.sum_univ_add (a := 2056) (b := 120) fun l => d l * spread W j (⟨768 + l.val, by omega⟩ : Fin 4992)
  have e4 : ∑ l : Fin 120, d (Fin.natAdd 2056 l) * spread W j (⟨768 + (2056 + l.val), by omega⟩ : Fin 4992) = 0 := by
    refine Finset.sum_eq_zero fun l _ => ?_
    unfold spread
    rw [dif_neg (by show ¬768 + (2056 + l.val) < 2824; omega), if_pos (by show 768 + (2056 + l.val) < 2944; omega), mul_zero]
  unfold dh
  rw [e1, e2, e3, e4, add_zero]
  refine congr (congrArg _ (congr (congrArg _ (Finset.sum_congr rfl fun l _ => ?_)) (Finset.sum_congr rfl fun l _ => ?_))) (Finset.sum_congr rfl fun l _ => ?_)
  · have hl := l.isLt
    unfold cat spread
    rw [dif_pos (show 0 + l.val < 2824 by omega), dif_pos (show (Fin.castAdd 2048 (Fin.castAdd 2056 l)).val < 768 from hl)]
    exact congrArg (fun z => q l * W j z) (Fin.ext (Nat.zero_add _))
  · have hl := l.isLt
    unfold cat spread
    rw [dif_pos (show 768 + l.val < 2824 by omega), dif_neg (show ¬(Fin.castAdd 2048 (Fin.natAdd 768 l)).val < 768 by show ¬768 + l.val < 768; omega),
      dif_pos (show (Fin.castAdd 2048 (Fin.natAdd 768 l)).val < 2824 by show 768 + l.val < 2824; omega)]
    exact congrArg (fun z => d z * W j _) (Fin.ext (show l.val = 768 + l.val - 768 by omega))
  · have hl := l.isLt
    unfold cat spread
    rw [dif_neg (show ¬2944 + l.val < 2824 by omega), if_neg (show ¬2944 + l.val < 2944 by omega), dif_neg (show ¬(Fin.natAdd 2824 l).val < 768 by show ¬2824 + l.val < 768; omega),
      dif_neg (show ¬(Fin.natAdd 2824 l).val < 2824 by show ¬2824 + l.val < 2824; omega)]
    exact congrArg₂ (fun a b => p a * W j b) (Fin.ext (show l.val = 2824 + l.val - 2824 by omega)) (Fin.ext (show 2944 + l.val - 120 = 2824 + l.val by omega))

/-- The gradient of the normed row, before its gain. -/
def hm (sc h : Row) : Row := fun j => h j * (1 + sc j)

/-- The gradient of the input row. -/
def dxr (sc g d x h : Row) : Row := fun j => d j + rs x * cen (hat x) (fun k => hm sc h k * g k) j

/-- The table of sums over rows: the scale's, the shift's and the gain's gradient, then zeros. -/
def sums {n : ℕ} (sc g : Row) (H X : Fin n → Row) : Fin 8 → Row := fun k => match k.val with
  | 0 => fun j => ∑ i, H i j * (hat (X i) j * g j)
  | 1 => fun j => ∑ i, H i j
  | 2 => fun j => ∑ i, hm sc (H i) j * hat (X i) j
  | _ => fun _ => 0

/-- Three rows of a table with their sums added, the rest kept. -/
theorem upd3 {n : ℕ} (A : Fin 8 → Row) (sc g : Row) (H X : Fin n → Row) :
    Function.update (Function.update (Function.update A 0 fun j => A 0 j + ∑ i, H i j * (hat (X i) j * g j)) 1 fun j => A 1 j + ∑ i, H i j) 2
      (fun j => A 2 j + ∑ i, hm sc (H i) j * hat (X i) j) = fun k j => A k j + sums sc g H X k j := by
  funext k j
  fin_cases k <;> simp [sums, Function.update]

theorem sums_all (sc g : Row) (H X : Fin 8192 → Row) (k : Fin 8) (j : Fin 1024) :
    ∑ q ∈ Finset.range 16, sums sc g (rows H q) (rows X q) k j = sums sc g H X k j := by
  match k with
  | ⟨0, _⟩ => exact Tables.sum16 fun r => H r j * (hat (X r) j * g j)
  | ⟨1, _⟩ => exact Tables.sum16 fun r => H r j
  | ⟨2, _⟩ => exact Tables.sum16 fun r => hm sc (H r) j * hat (X r) j
  | ⟨3, _⟩ | ⟨4, _⟩ | ⟨5, _⟩ | ⟨6, _⟩ | ⟨7, _⟩ => exact Finset.sum_const_zero

/-- The table the sixteen points build up is the table of all rows. -/
theorem acc_all (sc g : Row) (H X : Fin 8192 → Row) : Tables.acc (fun q => sums sc g (rows H q) (rows X q)) 15 = sums sc g H X := by
  funext k j
  rw [Tables.acc_sum]
  exact sums_all sc g H X k j

end Cert.PreBwd

end

end
-- ==== Proof.PreBwdA.lean ====
/- The first projection, backward: the two arrays the kernel's blocks of 512 rows leave, on arrays of reals. -/
module

public import proofs.«01_k».proof.Proof.PreRows
public import proofs.«01_k».proof.Proof.Gen.Kernel8Ideal.Value

@[expose] public section

set_option maxRecDepth 16384

noncomputable section

namespace Cert.PreBwd

open Idealize.ShloMosaic Idealize.ShloMosaic.Pipeline Idealize.ShloMosaic.ValueIdx Idealize.SL.Sem Cert.Cells Cert.Whole Cert.Lift Cert.Ffn Cert.Tables
open scoped BigOperators
open Cert.Kernel8Ideal Cert.Kernel8Ideal.Gen

/-! ## What the body computes on a block -/

section Payloads
variable {v16 v17 v27 v61 v62 : FVec Ideal S512x1024 .f32} {v25 v65 v66 : FVec Ideal S512x1 .f32} {v28 v29 v30 v31 v39 v45 v51 v58 : FVec Ideal S1x1024 .f32}
variable {X D H K : Fin 512 → Row} {a g sc : Row}

theorem mul_tr {k : ℕ} {A : FVec Ideal ⟨2, ![512, k]⟩ .bf16} {B : FVec Ideal ⟨2, ![1024, k]⟩ .bf16} {P : Fin 512 → Fin k → ℝ} {U : Fin 1024 → Fin k → ℝ}
    (hA : A = L2 (φ := .bf16) P) (hB : B = L2 (φ := .bf16) U) (h) :
    matmul (DotDims.transposedRhs 512 k 1024) none A (shapeCast ⟨2, ![1024, k]⟩ B h) (constant (F := Ideal) ⟨2, ![512, 1024]⟩ .f32 0x00000000#32)
      = L2 (φ := .f32) fun i j => ∑ l, P i l * U j l := by
  subst hA hB
  rw [shapeCast_self_L2]
  exact matmul_tr_L2 none _ _

theorem add_L2 {n m : ℕ} {A B : FVec Ideal ⟨2, ![n, m]⟩ .f32} {P U : Fin n → Fin m → ℝ} (hA : A = L2 (φ := .f32) P) (hB : B = L2 (φ := .f32) U) :
    addf A B = L2 (φ := .f32) fun i j => P i j + U i j := by
  subst hA hB
  exact addf_L2 _ _

theorem pay3 {v3 : FVec Ideal S512x768 .bf16} {v4 : FVec Ideal S1024x768 .bf16} {v7 : FVec Ideal S512x2176 .bf16} {v8 : FVec Ideal S1024x2176 .bf16} {v12 : FVec Ideal S512x2048 .bf16}
    {v13 : FVec Ideal S1024x2048 .bf16} {Q : Fin 512 → Fin 768 → ℝ} {E : Fin 512 → Fin 2176 → ℝ} {P : Fin 512 → Fin 2048 → ℝ} {U : Fin 1024 → Fin 4992 → ℝ}
    (h3 : v3 = L2 (φ := .bf16) Q) (h4 : v4 = L2 (φ := .bf16) fun i (l : Fin 768) => U i (⟨0 + l.val, by omega⟩ : Fin 4992)) (h7 : v7 = L2 (φ := .bf16) E)
    (h8 : v8 = L2 (φ := .bf16) fun i (l : Fin 2176) => U i (⟨768 + l.val, by omega⟩ : Fin 4992)) (h12 : v12 = L2 (φ := .bf16) P)
    (h13 : v13 = L2 (φ := .bf16) fun i (l : Fin 2048) => U i (⟨2944 + l.val, by omega⟩ : Fin 4992)) :
    k0_pay3 (F := Ideal) v3 v4 v7 v8 v12 v13 = L2 (φ := .f32) fun i => dh (Q i) (E i) (P i) U := by
  unfold k0_pay3
  exact add_L2 (add_L2 (mul_tr h3 h4 _) (mul_tr h7 h8 _)) (mul_tr h12 h13 _)

theorem pay4 (h : v17 = L2 (φ := .f32) X) : k0_pay4 (F := Ideal) v17 = L2 (φ := .f32) fun i _ => rs (X i) := by
  subst h
  unfold k0_pay4
  exact rs_L2 X _ _ _ _ _

theorem pay5 (h : v17 = L2 (φ := .f32) X) : k0_pay5 (F := Ideal) v17 = L2 (φ := .f32) fun i => hat (X i) := by
  unfold k0_pay5
  rw [pay4 h]
  subst h
  dsimp only
  erw [broadcastTo_col_L2, mulf_L2]
  rfl

theorem pay6 (h : v28 = one a) : k0_pay6 (F := Ideal) v28 = one a := by
  subst h
  unfold k0_pay6
  exact shapeCast_self_L2 _ _

theorem pay7 (h : v30 = one a) : k0_pay7 (F := Ideal) v30 = one a := by
  subst h
  unfold k0_pay7
  exact shapeCast_self_L2 _ _

theorem pay8 (h16 : v16 = L2 (φ := .f32) H) (h27 : v27 = L2 (φ := .f32) K) (h29 : v29 = one a) (h31 : v31 = one g) :
    k0_pay8 (F := Ideal) v16 v27 v29 v31 = one fun j => a j + ∑ i, H i j * (K i j * g j) := by
  subst h16 h27 h29 h31
  unfold k0_pay8
  dsimp only
  erw [broadcastTo_row_L2, mulf_L2, mulf_L2, reduce_rows_L2, shapeCast_row_L2, addf_L2]

theorem pay9 (h16 : v16 = L2 (φ := .f32) H) (h39 : v39 = one a) : k0_pay9 (F := Ideal) v16 v39 = one fun j => a j + ∑ i, H i j := by
  subst h16 h39
  unfold k0_pay9
  dsimp only
  erw [shapeCast_self_L2, reduce_rows_L2, shapeCast_row_L2, addf_L2]

theorem pay10 (h16 : v16 = L2 (φ := .f32) H) (h45 : v45 = one sc) : k0_pay10 (F := Ideal) v16 v45 = L2 (φ := .f32) fun i => hm sc (H i) := by
  subst h16 h45
  unfold k0_pay10
  dsimp only
  erw [shapeCast_self_L2, broadcast_L2 (Scalar.ofBits .f32 0x3F800000#32 : Ideal .f32) 1 c_one, addf_L2, broadcastTo_row_L2, mulf_L2]
  rfl

theorem pay11 (h16 : v16 = L2 (φ := .f32) H) (h27 : v27 = L2 (φ := .f32) K) (h45 : v45 = one sc) (h51 : v51 = one a) :
    k0_pay11 (F := Ideal) v16 v27 v45 v51 = one fun j => a j + ∑ i, hm sc (H i) j * K i j := by
  unfold k0_pay11
  rw [pay10 h16 h45]
  subst h27 h51
  dsimp only
  erw [shapeCast_self_L2, mulf_L2, reduce_rows_L2, shapeCast_row_L2, addf_L2]

theorem pay12 (h16 : v16 = L2 (φ := .f32) H) (h45 : v45 = one sc) (h58 : v58 = one g) :
    k0_pay12 (F := Ideal) v16 v45 v58 = L2 (φ := .f32) fun i j => hm sc (H i) j * g j := by
  unfold k0_pay12
  rw [pay10 h16 h45]
  subst h58
  dsimp only
  erw [shapeCast_self_L2, broadcastTo_row_L2, mulf_L2]

theorem pay13 (h16 : v16 = L2 (φ := .f32) H) (h27 : v27 = L2 (φ := .f32) K) (h45 : v45 = one sc) (h58 : v58 = one g) :
    k0_pay13 (F := Ideal) v16 v27 v45 v58 = L2 (φ := .f32) fun i _ => ∑ j, hm sc (H i) j * g j * K i j := by
  unfold k0_pay13
  rw [pay12 h16 h45 h58]
  subst h27
  dsimp only
  erw [mulf_L2, reduce_cols_L2, shapeCast_col_L2]

theorem pay14 : k0_pay14 (F := Ideal) = L2 (φ := .f32) fun _ _ => 1024 := by
  unfold k0_pay14
  exact broadcast_L2 (Scalar.ofBits .f32 0x44800000#32 : Ideal .f32) 1024 c_1024

theorem pay1 (h25 : v25 = L2 (φ := .f32) fun i _ => rs (X i)) (h27 : v27 = L2 (φ := .f32) fun i => hat (X i)) (h61 : v61 = L2 (φ := .f32) fun i j => hm sc (H i) j * g j)
    (h62 : v62 = L2 (φ := .f32) D) (h65 : v65 = L2 (φ := .f32) fun i _ => ∑ j, hm sc (H i) j * g j * hat (X i) j) (h66 : v66 = L2 (φ := .f32) fun _ _ => 1024) :
    k0_pay1 (F := Ideal) v25 v27 v61 v62 v65 v66 = L2 (φ := .f32) fun i => dxr sc g (D i) (X i) (H i) := by
  subst h25 h27 h61 h62 h65 h66
  unfold k0_pay1
  dsimp only
  erw [divf_L2 _ _ (fun _ _ => by norm_num), broadcastTo_col_L2, broadcastTo_col_L2, mulf_L2, subf_L2, mulf_L2, addf_L2]
  rfl

theorem pay2 : k0_pay2 (F := Ideal) = L2 (φ := .f32) fun _ _ => 0 := by
  unfold k0_pay2
  exact broadcast_L2 (Scalar.ofBits .f32 0x00000000#32 : Ideal .f32) 0 c_zero

end Payloads

/-! ## One point -/

section Point
variable (c : Dev nD) (i : grid0.Coords)
variable {arg1 : Memref sig .tc .vmem S512x768 .bf16} (harg1 : arg1.IsWhole) {arg2 : Memref sig .tc .vmem S512x2176 .bf16} (harg2 : arg2.IsWhole)
  {arg3 : Memref sig .tc .vmem S512x2048 .bf16} (harg3 : arg3.IsWhole) {arg4 arg5 : Memref sig .tc .vmem S512x1024 .f32} (harg4 : arg4.IsWhole) (harg5 : arg5.IsWhole)
  {arg6 : Memref sig .tc .vmem S16x1024 .f32} (harg6 : arg6.IsWhole) {arg7 : Memref sig .tc .vmem S1024x4992 .bf16} (harg7 : arg7.IsWhole)
  {arg9 : Memref sig .tc .vmem S512x1024 .f32} (harg9 : arg9.IsWhole) {arg10 : Memref sig .tc .vmem S8x1024 .f32} (harg10 : arg10.IsWhole)
variable (Q : Fin 512 → Fin 768 → ℝ) (E : Fin 512 → Fin 2176 → ℝ) (P : Fin 512 → Fin 2048 → ℝ) (X D : Fin 512 → Row) (V : Fin 16 → Row) (U : Fin 1024 → Fin 4992 → ℝ)

/-- The block's rows of gradient through the projection. -/
abbrev hs : Fin 512 → Row := fun i => dh (Q i) (E i) (P i) U

theorem A_r : kernelRun0_A.sl.r (F := Ideal) c arg1 harg1 arg2 harg2 arg3 harg3 arg7 harg7 (L2 (φ := .bf16) Q) (L2 (φ := .bf16) E) (L2 (φ := .bf16) P) (L2 (φ := .bf16) U)
    = L2 (φ := .f32) (hs Q E P U) := by
  unfold kernelRun0_A.sl.r
  exact pay3 (load harg1 _ _) (rd_cols harg7 U 0 (by decide) _) (load harg2 _ _) (rd_cols harg7 U 768 (by decide) _) (load harg3 _ _) (rd_cols harg7 U 2944 (by decide) _)

theorem A_r1 : kernelRun0_A.sl.r_1 (F := Ideal) c arg4 harg4 (L2 (φ := .f32) X) = L2 (φ := .f32) fun i _ => rs (X i) := by
  unfold kernelRun0_A.sl.r_1
  exact pay4 (load harg4 _ _)

theorem A_r2 : kernelRun0_A.sl.r_2 (F := Ideal) c arg4 harg4 (L2 (φ := .f32) X) = L2 (φ := .f32) fun i => hat (X i) := by
  unfold kernelRun0_A.sl.r_2
  exact pay5 (load harg4 _ _)

theorem A_r4 : kernelRun0_A.sl.r_4 (F := Ideal) c arg6 harg6 (L2 (φ := .f32) V) = one (V 6) := by
  unfold kernelRun0_A.sl.r_4
  exact pay7 (rd_row harg6 V 6 (by decide) _)

theorem B_r : kernelRun0_B.sl.r (F := Ideal) c arg1 harg1 arg2 harg2 arg3 harg3 arg7 harg7 (L2 (φ := .bf16) Q) (L2 (φ := .bf16) E) (L2 (φ := .bf16) P) (L2 (φ := .bf16) U)
    = L2 (φ := .f32) (hs Q E P U) := by
  unfold kernelRun0_B.sl.r
  exact pay3 (load harg1 _ _) (rd_cols harg7 U 0 (by decide) _) (load harg2 _ _) (rd_cols harg7 U 768 (by decide) _) (load harg3 _ _) (rd_cols harg7 U 2944 (by decide) _)

theorem B_r1 : kernelRun0_B.sl.r_1 (F := Ideal) c arg4 harg4 (L2 (φ := .f32) X) = L2 (φ := .f32) fun i _ => rs (X i) := by
  unfold kernelRun0_B.sl.r_1
  exact pay4 (load harg4 _ _)

theorem B_r2 : kernelRun0_B.sl.r_2 (F := Ideal) c arg4 harg4 (L2 (φ := .f32) X) = L2 (φ := .f32) fun i => hat (X i) := by
  unfold kernelRun0_B.sl.r_2
  exact pay5 (load harg4 _ _)

theorem B_r4 : kernelRun0_B.sl.r_4 (F := Ideal) c arg6 harg6 (L2 (φ := .f32) V) = one (V 6) := by
  unfold kernelRun0_B.sl.r_4
  exact pay7 (rd_row harg6 V 6 (by decide) _)

theorem A_H1 (v : View sig .tc .vmem S8x1024 .f32) (f) : v.read (Elt Ideal) (v.writes (Elt Ideal) f (kernelRun0_A.sl.H8_1 (F := Ideal))) = L2 (φ := .f32) fun _ _ => 0 := by
  unfold kernelRun0_A.sl.H8_1
  exact (stored v f [] _ _).trans pay2

theorem A_r3 : kernelRun0_A.sl.r_3 (F := Ideal) c arg10 = one fun _ => 0 := by
  unfold kernelRun0_A.sl.r_3 kernelRun0_A.sl.v28
  exact pay6 (rd_cov arg10.view _ (fun _ _ => 0) (A_H1 _ _) 0 (by decide) _)

/-- The table after its first row's store. -/
abbrev z1 : Fin 8 → Row := Function.update (fun _ _ => 0) 0 fun j => 0 + ∑ i, hs Q E P U i j * (hat (X i) j * V 6 j)

theorem A_H2 (v : View sig .tc .vmem S8x1024 .f32) (f) :
    v.read (Elt Ideal) (v.writes (Elt Ideal) f (kernelRun0_A.sl.H8_2 (F := Ideal) c arg1 harg1 arg2 harg2 arg3 harg3 arg4 harg4 arg6 harg6 arg7 harg7 arg10 (L2 (φ := .bf16) Q) (L2 (φ := .bf16) E) (L2 (φ := .bf16) P) (L2 (φ := .f32) X) (L2 (φ := .f32) V) (L2 (φ := .bf16) U)))
      = L2 (φ := .f32) (z1 Q E P X V U) := by
  unfold kernelRun0_A.sl.H8_2
  exact st_row v f _ _ (A_H1 v f) 0 _ _ _ (pay8 (A_r c harg1 harg2 harg3 harg7 Q E P U) (A_r2 c harg4 X) (A_r3 c) (A_r4 c harg6 V))

theorem A_v39 : kernelRun0_A.sl.v39 (F := Ideal) c arg1 harg1 arg2 harg2 arg3 harg3 arg4 harg4 arg6 harg6 arg7 harg7 arg10 (L2 (φ := .bf16) Q) (L2 (φ := .bf16) E) (L2 (φ := .bf16) P) (L2 (φ := .f32) X) (L2 (φ := .f32) V) (L2 (φ := .bf16) U) = one fun _ => 0 := by
  unfold kernelRun0_A.sl.v39
  exact (rd_cov arg10.view _ _ (A_H2 c harg1 harg2 harg3 harg4 harg6 harg7 Q E P X V U _ _) 1 (by decide) _).trans
    (congrArg one (Function.update_of_ne (by decide) _ _))

/-- The table after its second row's store. -/
abbrev z2 : Fin 8 → Row := Function.update (z1 Q E P X V U) 1 fun j => 0 + ∑ i, hs Q E P U i j

theorem A_H3 (v : View sig .tc .vmem S8x1024 .f32) (f) :
    v.read (Elt Ideal) (v.writes (Elt Ideal) f (kernelRun0_A.sl.H8_3 (F := Ideal) c arg1 harg1 arg2 harg2 arg3 harg3 arg4 harg4 arg6 harg6 arg7 harg7 arg10 (L2 (φ := .bf16) Q) (L2 (φ := .bf16) E) (L2 (φ := .bf16) P) (L2 (φ := .f32) X) (L2 (φ := .f32) V) (L2 (φ := .bf16) U)))
      = L2 (φ := .f32) (z2 Q E P X V U) := by
  unfold kernelRun0_A.sl.H8_3
  exact st_row v f _ _ (A_H2 c harg1 harg2 harg3 harg4 harg6 harg7 Q E P X V U v f) 1 _ _ _
    (pay9 (A_r c harg1 harg2 harg3 harg7 Q E P U) (A_v39 c harg1 harg2 harg3 harg4 harg6 harg7 Q E P X V U))

theorem A_v51 : kernelRun0_A.sl.v51 (F := Ideal) c arg1 harg1 arg2 harg2 arg3 harg3 arg4 harg4 arg6 harg6 arg7 harg7 arg10 (L2 (φ := .bf16) Q) (L2 (φ := .bf16) E) (L2 (φ := .bf16) P) (L2 (φ := .f32) X) (L2 (φ := .f32) V) (L2 (φ := .bf16) U) = one fun _ => 0 := by
  unfold kernelRun0_A.sl.v51
  exact (rd_cov arg10.view _ _ (A_H3 c harg1 harg2 harg3 harg4 harg6 harg7 Q E P X V U _ _) 2 (by decide) _).trans
    (congrArg one ((Function.update_of_ne (by decide) _ _).trans (Function.update_of_ne (by decide) _ _)))

section
variable (T : Fin 8 → Row)

theorem B_r3 : kernelRun0_B.sl.r_3 (F := Ideal) c arg10 harg10 (L2 (φ := .f32) T) = one (T 0) := by
  unfold kernelRun0_B.sl.r_3
  exact pay6 (rd_row harg10 T 0 (by decide) _)

theorem B_v39 : kernelRun0_B.sl.v39 (F := Ideal) c arg10 harg10 (L2 (φ := .f32) T) = one (T 1) := by
  unfold kernelRun0_B.sl.v39
  exact rd_row harg10 T 1 (by decide) _

theorem B_v51 : kernelRun0_B.sl.v51 (F := Ideal) c arg10 harg10 (L2 (φ := .f32) T) = one (T 2) := by
  unfold kernelRun0_B.sl.v51
  exact rd_row harg10 T 2 (by decide) _
end

theorem outA_7 (hc0 : cond0_0 i) : out0_A_7 (F := Ideal) c i arg1 harg1 arg2 harg2 arg3 harg3 arg4 harg4 arg5 harg5 arg6 harg6 arg7 harg7 arg9 harg9 arg10 harg10 hc0 (L2 (φ := .bf16) Q) (L2 (φ := .bf16) E) (L2 (φ := .bf16) P) (L2 (φ := .f32) X) (L2 (φ := .f32) D) (L2 (φ := .f32) V) (L2 (φ := .bf16) U)
    = L2 (φ := .f32) fun i => dxr (V 1) (V 6) (D i) (X i) (hs Q E P U i) := by
  unfold out0_A_7 kernelRun0_A
  dsimp only
  refine (stored _ _ _ _ _).trans ?_
  refine pay1 (A_r1 c harg4 X) (A_r2 c harg4 X) ?_ ?_ ?_ pay14
  · exact pay12 (A_r c harg1 harg2 harg3 harg7 Q E P U) (rd_row harg6 V 1 (by decide) _) (rd_row harg6 V 6 (by decide) _)
  · exact load harg5 _ _
  · exact pay13 (A_r c harg1 harg2 harg3 harg7 Q E P U) (A_r2 c harg4 X) (rd_row harg6 V 1 (by decide) _) (rd_row harg6 V 6 (by decide) _)

theorem outA_8 (hc0 : cond0_0 i) : out0_A_8 (F := Ideal) c i arg1 harg1 arg2 harg2 arg3 harg3 arg4 harg4 arg5 harg5 arg6 harg6 arg7 harg7 arg9 harg9 arg10 harg10 hc0 (L2 (φ := .bf16) Q) (L2 (φ := .bf16) E) (L2 (φ := .bf16) P) (L2 (φ := .f32) X) (L2 (φ := .f32) D) (L2 (φ := .f32) V) (L2 (φ := .bf16) U)
    = L2 (φ := .f32) (sums (V 1) (V 6) (hs Q E P U) X) := by
  unfold out0_A_8 kernelRun0_A
  dsimp only
  refine (st_row _ _ _ _ (A_H3 c harg1 harg2 harg3 harg4 harg6 harg7 Q E P X V U _ _) 2 _ _ _ (pay11 (A_r c harg1 harg2 harg3 harg7 Q E P U) (A_r2 c harg4 X) (rd_row harg6 V 1 (by decide) _) (A_v51 c harg1 harg2 harg3 harg4 harg6 harg7 Q E P X V U))).trans ?_
  refine (congrArg (L2 (φ := .f32)) (upd3 (fun _ _ => 0) (V 1) (V 6) (hs Q E P U) X)).trans ?_
  exact congrArg (L2 (φ := .f32)) (funext fun k => funext fun j => zero_add _)

theorem outB_7 (hc0 : ¬cond0_0 i) (T : Fin 8 → Row) : out0_B_7 (F := Ideal) c i arg1 harg1 arg2 harg2 arg3 harg3 arg4 harg4 arg5 harg5 arg6 harg6 arg7 harg7 arg9 harg9 arg10 harg10 hc0 (L2 (φ := .bf16) Q) (L2 (φ := .bf16) E) (L2 (φ := .bf16) P) (L2 (φ := .f32) X) (L2 (φ := .f32) D) (L2 (φ := .f32) V) (L2 (φ := .bf16) U) (L2 (φ := .f32) T)
    = L2 (φ := .f32) fun i => dxr (V 1) (V 6) (D i) (X i) (hs Q E P U i) := by
  unfold out0_B_7 kernelRun0_B
  dsimp only
  refine (stored _ _ _ _ _).trans ?_
  refine pay1 (B_r1 c harg4 X) (B_r2 c harg4 X) ?_ ?_ ?_ pay14
  · exact pay12 (B_r c harg1 harg2 harg3 harg7 Q E P U) (rd_row harg6 V 1 (by decide) _) (rd_row harg6 V 6 (by decide) _)
  · exact load harg5 _ _
  · exact pay13 (B_r c harg1 harg2 harg3 harg7 Q E P U) (B_r2 c harg4 X) (rd_row harg6 V 1 (by decide) _) (rd_row harg6 V 6 (by decide) _)

theorem outB_8 (hc0 : ¬cond0_0 i) (T : Fin 8 → Row) : out0_B_8 (F := Ideal) c i arg1 harg1 arg2 harg2 arg3 harg3 arg4 harg4 arg5 harg5 arg6 harg6 arg7 harg7 arg9 harg9 arg10 harg10 hc0 (L2 (φ := .bf16) Q) (L2 (φ := .bf16) E) (L2 (φ := .bf16) P) (L2 (φ := .f32) X) (L2 (φ := .f32) D) (L2 (φ := .f32) V) (L2 (φ := .bf16) U) (L2 (φ := .f32) T)
    = L2 (φ := .f32) fun k j => T k j + sums (V 1) (V 6) (hs Q E P U) X k j := by
  unfold out0_B_8 kernelRun0_B
  dsimp only
  refine (st_row _ _ _ _ (st_row _ _ _ _ (st_row _ _ _ _ (harg10.read_unread _) 0 _ _ _
    (pay8 (B_r c harg1 harg2 harg3 harg7 Q E P U) (B_r2 c harg4 X) (B_r3 c harg10 T) (B_r4 c harg6 V))) 1 _ _ _ (pay9 (B_r c harg1 harg2 harg3 harg7 Q E P U) (B_v39 c harg10 T))) 2 _ _ _
    (pay11 (B_r c harg1 harg2 harg3 harg7 Q E P U) (B_r2 c harg4 X) (rd_row harg6 V 1 (by decide) _) (B_v51 c harg10 T))).trans ?_
  exact congrArg (L2 (φ := .f32)) (upd3 T (V 1) (V 6) (hs Q E P U) X)

end Point

end Cert.PreBwd

end

end
-- ==== Proof.PreBwdB.lean ====
/- The first projection, backward: the whole grid. What the buffers hold after every point, and the final arrays, on arrays of reals. -/
module

public import proofs.«01_k».proof.Proof.PreBwdA
public import proofs.«01_k».proof.Proof.Tile

@[expose] public section

set_option maxRecDepth 16384

noncomputable section

namespace Cert.PreBwd

open Idealize.ShloMosaic Idealize.ShloMosaic.Pipeline Idealize.ShloMosaic.ValueIdx Idealize.SL.Sem Cert.Cells Cert.Whole Cert.Lift Cert.Ffn Cert.Tables Cert.Tile
open scoped BigOperators
open Cert.Kernel8Ideal Cert.Kernel8Ideal.Gen

variable (m : (ℓ : Loc nD τ sig) → Buf (Elt Ideal) ℓ) (c : Dev nD)
variable {Q : Fin 8192 → Fin 768 → ℝ} {E : Fin 8192 → Fin 2176 → ℝ} {P : Fin 8192 → Fin 2048 → ℝ} {X D : Fin 8192 → Row} {M : Fin 6 → Row} {G : Fin 4 → Row} {W : Fin 1024 → Fin 4872 → ℝ}

/-- The launch memory holds the eight arguments. -/
structure Holds (Q : Fin 8192 → Fin 768 → ℝ) (E : Fin 8192 → Fin 2176 → ℝ) (P : Fin 8192 → Fin 2048 → ℝ) (X D : Fin 8192 → Row) (M : Fin 6 → Row) (G : Fin 4 → Row)
    (W : Fin 1024 → Fin 4872 → ℝ) : Prop where
  a0 : m ((c.tc : Thread nD τ).loc main_arg0) = L2 (φ := .bf16) Q
  a1 : m ((c.tc : Thread nD τ).loc main_arg1) = L2 (φ := .bf16) E
  a2 : m ((c.tc : Thread nD τ).loc main_arg2) = L2 (φ := .bf16) P
  a3 : m ((c.tc : Thread nD τ).loc main_arg3) = L2 (φ := .f32) X
  a4 : m ((c.tc : Thread nD τ).loc main_arg4) = L2 (φ := .f32) D
  a5 : m ((c.tc : Thread nD τ).loc main_arg5) = L2 (φ := .f32) M
  a6 : m ((c.tc : Thread nD τ).loc main_arg6) = L2 (φ := .f32) G
  a7 : m ((c.tc : Thread nD τ).loc main_arg7) = L2 (φ := .f32) W

variable {m c}

/-! ## The host's operations -/

theorem in0 (H : Holds m c Q E P X D M G W) : V m c (Pipeline.arrRef spec0 0) = L2 (φ := .bf16) Q := (V_main_arg0 m c).trans H.a0
theorem in1 (H : Holds m c Q E P X D M G W) : V m c (Pipeline.arrRef spec0 1) = L2 (φ := .bf16) E := (V_main_arg1 m c).trans H.a1
theorem in2 (H : Holds m c Q E P X D M G W) : V m c (Pipeline.arrRef spec0 2) = L2 (φ := .bf16) P := (V_main_arg2 m c).trans H.a2
theorem in3 (H : Holds m c Q E P X D M G W) : V m c (Pipeline.arrRef spec0 3) = L2 (φ := .f32) X := (V_main_arg3 m c).trans H.a3
theorem in4 (H : Holds m c Q E P X D M G W) : V m c (Pipeline.arrRef spec0 4) = L2 (φ := .f32) D := (V_main_arg4 m c).trans H.a4

/-- The operations before the rows are joined. -/
abbrev ops2 {F : FTy → Type} [FloatOps F] : List (HloOp τ sig (Elt F)) :=
  [ StableHlo.nullary main_cst (constant S_ .f32 0x00000000#32),
    StableHlo.unary main_cst main_v0 (broadcastInDim S6x1024 ![] bcast_S_S6x1024 : (⟨S_, .f32⟩ : BufTy).Contents (Elt F) → (⟨S6x1024, .f32⟩ : BufTy).Contents (Elt F)) ]

theorem in5 (H : Holds m c Q E P X D M G W) : V m c (Pipeline.arrRef spec0 5) = L2 (φ := .f32) (vecs M G) := by
  show StableHlo.after hostOps0 (fun b => m (c, b)) (Proc.devRef .tc main_v1) = _
  after_results
  refine Eq.trans ((join3 ?_ ?_ ?_ _).trans (vecs_join (fun i j => ((M i j : ℝ) : EReal)) (fun i j => ((G i j : ℝ) : EReal)) concatenates_S6x1024_S4x1024_S6x1024_S16x1024_d0)) (congrArg (E2 (φ := .f32)) (coe_vecs M G))
  · refine Eq.trans ?_ H.a5
    show StableHlo.after (ops2 (F := Ideal)) (fun b => m (c, b)) (Proc.devRef .tc main_arg5) = _
    after_results
  · refine Eq.trans ?_ H.a6
    show StableHlo.after (ops2 (F := Ideal)) (fun b => m (c, b)) (Proc.devRef .tc main_arg6) = _
    after_results
  · show StableHlo.after (ops2 (F := Ideal)) (fun b => m (c, b)) (Proc.devRef .tc main_v0) = _
    after_results
    funext i
    exact (broadcastInDim_apply _ bcast_S_S6x1024 _ i (fun a => a.elim0) (fun a => a.elim0)).trans Ideal.ofBits_zero_f32

/-- The operations before the columns are joined. -/
abbrev ops9 {F : FTy → Type} [FloatOps F] : List (HloOp τ sig (Elt F)) :=
  [ StableHlo.nullary main_cst (constant S_ .f32 0x00000000#32),
    StableHlo.unary main_cst main_v0 (broadcastInDim S6x1024 ![] bcast_S_S6x1024 : (⟨S_, .f32⟩ : BufTy).Contents (Elt F) → (⟨S6x1024, .f32⟩ : BufTy).Contents (Elt F)),
    StableHlo.nary ![main_arg5, main_arg6, main_v0] main_v1 (fun u => (concatenate S16x1024 0 [⟨S6x1024, (u 0 : (⟨S6x1024, .f32⟩ : BufTy).Contents (Elt F))⟩, ⟨S4x1024, (u 1 : (⟨S4x1024, .f32⟩ : BufTy).Contents (Elt F))⟩, ⟨S6x1024, (u 2 : (⟨S6x1024, .f32⟩ : BufTy).Contents (Elt F))⟩] concatenates_S6x1024_S4x1024_S6x1024_S16x1024_d0 : (⟨S16x1024, .f32⟩ : BufTy).Contents (Elt F))),
    StableHlo.nullary main_cst_0 (constant S_ .bf16 0x0000#16),
    StableHlo.unary main_cst_0 main_v2 (broadcastInDim S1024x120 ![] bcast_S_S1024x120 : (⟨S_, .bf16⟩ : BufTy).Contents (Elt F) → (⟨S1024x120, .bf16⟩ : BufTy).Contents (Elt F)),
    StableHlo.unary main_arg7 main_v3 ((extractStridedSlice S1024x2824 ![0, 0] · slices_S1024x4872_S1024x2824_0_0) : (⟨S1024x4872, .f32⟩ : BufTy).Contents (Elt F) → (⟨S1024x2824, .f32⟩ : BufTy).Contents (Elt F)),
    StableHlo.unary main_v3 main_v4 ((truncf .bf16 · bitsLt_bf16_f32) : (⟨S1024x2824, .f32⟩ : BufTy).Contents (Elt F) → (⟨S1024x2824, .bf16⟩ : BufTy).Contents (Elt F)),
    StableHlo.unary main_arg7 main_v5 ((extractStridedSlice S1024x2048 ![0, 2824] · slices_S1024x4872_S1024x2048_0_2824) : (⟨S1024x4872, .f32⟩ : BufTy).Contents (Elt F) → (⟨S1024x2048, .f32⟩ : BufTy).Contents (Elt F)),
    StableHlo.unary main_v5 main_v6 ((truncf .bf16 · bitsLt_bf16_f32) : (⟨S1024x2048, .f32⟩ : BufTy).Contents (Elt F) → (⟨S1024x2048, .bf16⟩ : BufTy).Contents (Elt F)) ]

theorem in6 (H : Holds m c Q E P X D M G W) : V m c (Pipeline.arrRef spec0 6) = L2 (φ := .bf16) (spread W) := by
  show StableHlo.after hostOps0 (fun b => m (c, b)) (Proc.devRef .tc main_v7) = _
  after_results
  refine Eq.trans ((join3 ?_ ?_ ?_ _).trans (spread_join (fun i j => ((W i j : ℝ) : EReal)) concatenates_S1024x2824_S1024x120_S1024x2048_S1024x4992_d1)) (congrArg (E2 (φ := .bf16)) (coe_spread W))
  · show StableHlo.after (ops9 (F := Ideal)) (fun b => m (c, b)) (Proc.devRef .tc main_v4) = _
    after_results
    rw [show m (c, Proc.devRef .tc main_arg7) = E2 (φ := .f32) (fun i j => ((W i j : ℝ) : EReal)) from H.a7]
    exact eq_E2 (φ := .bf16) fun k j => (extractStridedSlice_apply ![0, 0] (E2 (φ := .f32) fun i j => ((W i j : ℝ) : EReal)) slices_S1024x4872_S1024x2824_0_0 (ix2 k j) (ix2 k ⟨j.val, by omega⟩) (fun ax => match ax with
      | ⟨0, _⟩ => (Nat.zero_add _).symm
      | ⟨1, _⟩ => (Nat.zero_add _).symm))
  · show StableHlo.after (ops9 (F := Ideal)) (fun b => m (c, b)) (Proc.devRef .tc main_v2) = _
    after_results
    funext i
    refine (broadcastInDim_apply _ bcast_S_S1024x120 _ i (fun a => a.elim0) (fun a => a.elim0)).trans ?_
    show Ideal.ofBits .bf16 0x0000#16 = 0
    simp [Ideal.ofBits, Ideal.ieee]
  · show StableHlo.after (ops9 (F := Ideal)) (fun b => m (c, b)) (Proc.devRef .tc main_v6) = _
    after_results
    rw [show m (c, Proc.devRef .tc main_arg7) = E2 (φ := .f32) (fun i j => ((W i j : ℝ) : EReal)) from H.a7]
    exact eq_E2 (φ := .bf16) fun k j => (extractStridedSlice_apply ![0, 2824] (E2 (φ := .f32) fun i j => ((W i j : ℝ) : EReal)) slices_S1024x4872_S1024x2048_0_2824 (ix2 k j) (ix2 k ⟨2824 + j.val, by omega⟩) (fun ax => match ax with
      | ⟨0, _⟩ => (Nat.zero_add _).symm
      | ⟨1, _⟩ => rfl))

/-! ## The windows' blocks -/

theorem lt16 (t : Fin cfg0.N) : t.val < 16 := Nat.lt_of_lt_of_eq t.isLt N_0

theorem idx0 : ∀ t : Fin cfg0.N, (win0_0.index t 0 = t.val ∧ win0_0.index t 1 = 0) := (by decide +kernel : ∀ t : Fin grid0.N, (win0_0.index t 0 = t.val ∧ win0_0.index t 1 = 0))

theorem i0 (H : Holds m c Q E P X D M G W) (t : Fin cfg0.N) : iblk m c 0 t = L2 (φ := .bf16) (rows Q t.val) :=
  (congrArg (fun (A : FVec Ideal S8192x768 .bf16) => fun i => A (((cfg0.win 0).blk t).view.emb i)) (in0 H)).trans
    (rows_of (fun i j => ((Q i j : ℝ) : EReal)) t.val (lt16 t) (fun i => ((cfg0.win 0).blk t).view.emb i)
      (fun i => (by show win0_0.index t 0 * 512 + 1 * (i 0).val = _; rw [(idx0 t).1]; omega))
      (fun i => (by show win0_0.index t 1 * 768 + 1 * (i 1).val = _; rw [(idx0 t).2]; omega)))

theorem idx1 : ∀ t : Fin cfg0.N, (win0_1.index t 0 = t.val ∧ win0_1.index t 1 = 0) := (by decide +kernel : ∀ t : Fin grid0.N, (win0_1.index t 0 = t.val ∧ win0_1.index t 1 = 0))

theorem i1 (H : Holds m c Q E P X D M G W) (t : Fin cfg0.N) : iblk m c 1 t = L2 (φ := .bf16) (rows E t.val) :=
  (congrArg (fun (A : FVec Ideal S8192x2176 .bf16) => fun i => A (((cfg0.win 1).blk t).view.emb i)) (in1 H)).trans
    (rows_of (fun i j => ((E i j : ℝ) : EReal)) t.val (lt16 t) (fun i => ((cfg0.win 1).blk t).view.emb i)
      (fun i => (by show win0_1.index t 0 * 512 + 1 * (i 0).val = _; rw [(idx1 t).1]; omega))
      (fun i => (by show win0_1.index t 1 * 2176 + 1 * (i 1).val = _; rw [(idx1 t).2]; omega)))

theorem idx2 : ∀ t : Fin cfg0.N, (win0_2.index t 0 = t.val ∧ win0_2.index t 1 = 0) := (by decide +kernel : ∀ t : Fin grid0.N, (win0_2.index t 0 = t.val ∧ win0_2.index t 1 = 0))

theorem i2 (H : Holds m c Q E P X D M G W) (t : Fin cfg0.N) : iblk m c 2 t = L2 (φ := .bf16) (rows P t.val) :=
  (congrArg (fun (A : FVec Ideal S8192x2048 .bf16) => fun i => A (((cfg0.win 2).blk t).view.emb i)) (in2 H)).trans
    (rows_of (fun i j => ((P i j : ℝ) : EReal)) t.val (lt16 t) (fun i => ((cfg0.win 2).blk t).view.emb i)
      (fun i => (by show win0_2.index t 0 * 512 + 1 * (i 0).val = _; rw [(idx2 t).1]; omega))
      (fun i => (by show win0_2.index t 1 * 2048 + 1 * (i 1).val = _; rw [(idx2 t).2]; omega)))

theorem idx3 : ∀ t : Fin cfg0.N, (win0_3.index t 0 = t.val ∧ win0_3.index t 1 = 0) := (by decide +kernel : ∀ t : Fin grid0.N, (win0_3.index t 0 = t.val ∧ win0_3.index t 1 = 0))

theorem i3 (H : Holds m c Q E P X D M G W) (t : Fin cfg0.N) : iblk m c 3 t = L2 (φ := .f32) (rows X t.val) :=
  (congrArg (fun (A : FVec Ideal S8192x1024 .f32) => fun i => A (((cfg0.win 3).blk t).view.emb i)) (in3 H)).trans
    (rows_of (fun i j => ((X i j : ℝ) : EReal)) t.val (lt16 t) (fun i => ((cfg0.win 3).blk t).view.emb i)
      (fun i => (by show win0_3.index t 0 * 512 + 1 * (i 0).val = _; rw [(idx3 t).1]; omega))
      (fun i => (by show win0_3.index t 1 * 1024 + 1 * (i 1).val = _; rw [(idx3 t).2]; omega)))

theorem idx4 : ∀ t : Fin cfg0.N, (win0_4.index t 0 = t.val ∧ win0_4.index t 1 = 0) := (by decide +kernel : ∀ t : Fin grid0.N, (win0_4.index t 0 = t.val ∧ win0_4.index t 1 = 0))

theorem i4 (H : Holds m c Q E P X D M G W) (t : Fin cfg0.N) : iblk m c 4 t = L2 (φ := .f32) (rows D t.val) :=
  (congrArg (fun (A : FVec Ideal S8192x1024 .f32) => fun i => A (((cfg0.win 4).blk t).view.emb i)) (in4 H)).trans
    (rows_of (fun i j => ((D i j : ℝ) : EReal)) t.val (lt16 t) (fun i => ((cfg0.win 4).blk t).view.emb i)
      (fun i => (by show win0_4.index t 0 * 512 + 1 * (i 0).val = _; rw [(idx4 t).1]; omega))
      (fun i => (by show win0_4.index t 1 * 1024 + 1 * (i 1).val = _; rw [(idx4 t).2]; omega)))

theorem idx5 : ∀ t : Fin cfg0.N, (win0_5.index t 0 = 0 ∧ win0_5.index t 1 = 0) := (by decide +kernel : ∀ t : Fin grid0.N, (win0_5.index t 0 = 0 ∧ win0_5.index t 1 = 0))

theorem i5 (H : Holds m c Q E P X D M G W) (t : Fin cfg0.N) : iblk m c 5 t = L2 (φ := .f32) (vecs M G) :=
  (congrArg (fun (A : FVec Ideal S16x1024 .f32) => fun i => A (((cfg0.win 5).blk t).view.emb i)) (in5 H)).trans
    (whole_of _ (fun i => ((cfg0.win 5).blk t).view.emb i)
      (fun i => (by show win0_5.index t 0 * 16 + 1 * (i 0).val = _; rw [(idx5 t).1]; omega))
      (fun i => (by show win0_5.index t 1 * 1024 + 1 * (i 1).val = _; rw [(idx5 t).2]; omega)))

theorem idx6 : ∀ t : Fin cfg0.N, (win0_6.index t 0 = 0 ∧ win0_6.index t 1 = 0) := (by decide +kernel : ∀ t : Fin grid0.N, (win0_6.index t 0 = 0 ∧ win0_6.index t 1 = 0))

theorem i6 (H : Holds m c Q E P X D M G W) (t : Fin cfg0.N) : iblk m c 6 t = L2 (φ := .bf16) (spread W) :=
  (congrArg (fun (A : FVec Ideal S1024x4992 .bf16) => fun i => A (((cfg0.win 6).blk t).view.emb i)) (in6 H)).trans
    (whole_of _ (fun i => ((cfg0.win 6).blk t).view.emb i)
      (fun i => (by show win0_6.index t 0 * 1024 + 1 * (i 0).val = _; rw [(idx6 t).1]; omega))
      (fun i => (by show win0_6.index t 1 * 4992 + 1 * (i 1).val = _; rw [(idx6 t).2]; omega)))

theorem idx7 : ∀ t : Fin cfg0.N, (win0_7.index t 0 = t.val ∧ win0_7.index t 1 = 0) := (by decide +kernel : ∀ t : Fin grid0.N, (win0_7.index t 0 = t.val ∧ win0_7.index t 1 = 0))

theorem rd7 (A : Fin 8192 → Fin 1024 → ℝ) (t : Fin cfg0.N) : ((cfg0.win 7).blk t).view.read (Elt Ideal) (L2 (φ := .f32) A) = L2 (φ := .f32) (rows A t.val) :=
  rows_of (φ := .f32) (fun i j => ((A i j : ℝ) : EReal)) t.val (lt16 t) (fun i => ((cfg0.win 7).blk t).view.emb i)
      (fun i => (by show win0_7.index t 0 * 512 + 1 * (i 0).val = _; rw [(idx7 t).1]; omega))
      (fun i => (by show win0_7.index t 1 * 1024 + 1 * (i 1).val = _; rw [(idx7 t).2]; omega))

theorem cov7 (i : S8192x1024.Idx) : ∃ t : Fin cfg0.N, (cfg0.win 7).flush t = true ∧ i ∈ ((cfg0.win 7).blk t).view.set := by
  have h0 : (i 0 : Nat) < 8192 := (i 0).isLt
  let t : Fin cfg0.N := ⟨(i 0 : Nat) / 512, Nat.lt_of_lt_of_eq (by omega) N_0.symm⟩
  refine ⟨t, flush0_7 t, ?_⟩
  show i ∈ ((View.whole main_v9_0).slice (win0_7.rect t)).set
  rw [View.set_slice_whole, Rect.mem_set_unit]
  exact Fin.forall_fin_two.2 (in_tile i 512 (idx7 t).1 (idx7 t).2)

theorem idx8 : ∀ t : Fin cfg0.N, (win0_8.index t 0 = 0 ∧ win0_8.index t 1 = 0) := (by decide +kernel : ∀ t : Fin grid0.N, (win0_8.index t 0 = 0 ∧ win0_8.index t 1 = 0))

theorem rd8 (A : Fin 8 → Fin 1024 → ℝ) (t : Fin cfg0.N) : ((cfg0.win 8).blk t).view.read (Elt Ideal) (L2 (φ := .f32) A) = L2 (φ := .f32) A :=
  whole_of (φ := .f32) (L2 (φ := .f32) A) (fun i => ((cfg0.win 8).blk t).view.emb i)
      (fun i => (by show win0_8.index t 0 * 8 + 1 * (i 0).val = _; rw [(idx8 t).1]; omega))
      (fun i => (by show win0_8.index t 1 * 1024 + 1 * (i 1).val = _; rw [(idx8 t).2]; omega))

theorem cov8 (i : S8x1024.Idx) : ∃ t : Fin cfg0.N, (cfg0.win 8).flush t = true ∧ i ∈ ((cfg0.win 8).blk t).view.set := by
  have h0 : (i 0 : Nat) < 8 := (i 0).isLt
  have h1 : (i 1 : Nat) < 1024 := (i 1).isLt
  let t : Fin cfg0.N := ⟨15, Nat.lt_of_lt_of_eq (by omega) N_0.symm⟩
  refine ⟨t, (flush0_8 t).mpr rfl, ?_⟩
  show i ∈ ((View.whole main_v9_1).slice (win0_8.rect t)).set
  rw [View.set_slice_whole, Rect.mem_set_unit]
  have hi := idx8 t
  intro a
  match a with
  | ⟨0, _⟩ => show win0_8.index t 0 * 8 ≤ (i 0 : Nat) ∧ (i 0 : Nat) < win0_8.index t 0 * 8 + 8
              rw [hi.1]; omega
  | ⟨1, _⟩ => show win0_8.index t 1 * 1024 ≤ (i 1 : Nat) ∧ (i 1 : Nat) < win0_8.index t 1 * 1024 + 1024
              rw [hi.2]; omega

/-! ## What the points leave -/

/-- Every row's gradient through the projection. -/
abbrev hall (Q : Fin 8192 → Fin 768 → ℝ) (E : Fin 8192 → Fin 2176 → ℝ) (P : Fin 8192 → Fin 2048 → ℝ) (W : Fin 1024 → Fin 4872 → ℝ) : Fin 8192 → Row :=
  fun r => dh (Q r) (E r) (P r) (spread W)

/-- Every row's gradient. -/
abbrev dall (Q : Fin 8192 → Fin 768 → ℝ) (E : Fin 8192 → Fin 2176 → ℝ) (P : Fin 8192 → Fin 2048 → ℝ) (X D : Fin 8192 → Row) (M : Fin 6 → Row) (G : Fin 4 → Row) (W : Fin 1024 → Fin 4872 → ℝ) :
    Fin 8192 → Row := fun r => dxr (M 1) (G 0) (D r) (X r) (hall Q E P W r)

/-- A block's table. -/
abbrev gq (Q : Fin 8192 → Fin 768 → ℝ) (E : Fin 8192 → Fin 2176 → ℝ) (P : Fin 8192 → Fin 2048 → ℝ) (X : Fin 8192 → Row) (M : Fin 6 → Row) (G : Fin 4 → Row) (W : Fin 1024 → Fin 4872 → ℝ) :
    ℕ → Fin 8 → Row := fun q => sums (M 1) (G 0) (rows (hall Q E P W) q) (rows X q)

theorem mk2 {α β : Type} {a a' : α} {b b' : β} (h : a = a') (h' : b = b') : (a, b) = (a', b') := by subst h h'; rfl

theorem at_first (H : Holds m c Q E P X D M G W) (t : Fin cfg0.N) (ht : t.val % 16 = 0) :
    outsAt0 m c t.val t.isLt = (L2 (φ := .f32) (rows (dall Q E P X D M G W) t.val), L2 (φ := .f32) (acc (gq Q E P X M G W) t.val)) := by
  have hz : t.val = 0 := by have := lt16 t; omega
  have ea : L2 (φ := .f32) (gq Q E P X M G W t.val) = L2 (φ := .f32) (acc (gq Q E P X M G W) t.val) := by rw [hz]; rfl
  rw [outsAt0_A m c t ht, i0 H t, i1 H t, i2 H t, i3 H t, i4 H t, i5 H t, i6 H t]
  exact mk2
    (outA_7 c (grid0.coords t) (hs0_0 t) (hs0_1 t) (hs0_2 t) (hs0_3 t) (hs0_4 t) (hs0_5 t) (hs0_6 t) (hs0_7 t) (hs0_8 t) (rows Q t.val) (rows E t.val) (rows P t.val) (rows X t.val) (rows D t.val) (vecs M G) (spread W) ((hcond0_0 t).mpr ht))
    ((outA_8 c (grid0.coords t) (hs0_0 t) (hs0_1 t) (hs0_2 t) (hs0_3 t) (hs0_4 t) (hs0_5 t) (hs0_6 t) (hs0_7 t) (hs0_8 t) (rows Q t.val) (rows E t.val) (rows P t.val) (rows X t.val) (rows D t.val) (vecs M G) (spread W) ((hcond0_0 t).mpr ht)).trans ea)

theorem at_next (H : Holds m c Q E P X D M G W) (t : Fin cfg0.N) (ht : ¬t.val % 16 = 0)
    (hp : (outsAt0 m c (t.val - 1) (Nat.lt_of_le_of_lt (Nat.sub_le _ _) t.isLt)).2 = L2 (φ := .f32) (acc (gq Q E P X M G W) (t.val - 1))) :
    outsAt0 m c t.val t.isLt = (L2 (φ := .f32) (rows (dall Q E P X D M G W) t.val), L2 (φ := .f32) (acc (gq Q E P X M G W) t.val)) := by
  obtain ⟨n, hn⟩ : ∃ n, t.val = n + 1 := ⟨t.val - 1, by omega⟩
  have ea : L2 (φ := .f32) (fun k j => acc (gq Q E P X M G W) (t.val - 1) k j + gq Q E P X M G W t.val k j) = L2 (φ := .f32) (acc (gq Q E P X M G W) t.val) := by rw [hn]; rfl
  rw [outsAt0_B m c t ht, i0 H t, i1 H t, i2 H t, i3 H t, i4 H t, i5 H t, i6 H t, hp]
  exact mk2
    (outB_7 c (grid0.coords t) (hs0_0 t) (hs0_1 t) (hs0_2 t) (hs0_3 t) (hs0_4 t) (hs0_5 t) (hs0_6 t) (hs0_7 t) (hs0_8 t) (rows Q t.val) (rows E t.val) (rows P t.val) (rows X t.val) (rows D t.val) (vecs M G) (spread W) (fun h => ht ((hcond0_0 t).mp h)) (acc (gq Q E P X M G W) (t.val - 1)))
    ((outB_8 c (grid0.coords t) (hs0_0 t) (hs0_1 t) (hs0_2 t) (hs0_3 t) (hs0_4 t) (hs0_5 t) (hs0_6 t) (hs0_7 t) (hs0_8 t) (rows Q t.val) (rows E t.val) (rows P t.val) (rows X t.val) (rows D t.val) (vecs M G) (spread W) (fun h => ht ((hcond0_0 t).mp h)) (acc (gq Q E P X M G W) (t.val - 1))).trans ea)

theorem at_all (H : Holds m c Q E P X D M G W) : ∀ (n : ℕ) (hn : n < cfg0.N),
    outsAt0 m c n hn = (L2 (φ := .f32) (rows (dall Q E P X D M G W) n), L2 (φ := .f32) (acc (gq Q E P X M G W) n))
  | 0, hn => at_first H ⟨0, hn⟩ rfl
  | n + 1, hn => by
    have h16 : n + 1 < 16 := lt16 ⟨n + 1, hn⟩
    exact at_next H ⟨n + 1, hn⟩ (by show ¬(n + 1) % 16 = 0; omega) (congrArg Prod.snd (at_all H n (Nat.lt_of_succ_lt hn)))

theorem kernel (H : Holds m c Q E P X D M G W) :
    (dats m 0 c).arrAt 7 cfg0.N = L2 (φ := .f32) (dall Q E P X D M G W)
    ∧ (dats m 0 c).arrAt 8 cfg0.N = L2 (φ := .f32) (sums (M 1) (G 0) (hall Q E P W) X) := by
  refine ⟨?_, ?_⟩
  · exact (dats m 0 c).arrAt_eq_of_cover 7 _ (fun t _ => (Value.flushed7 m c t).trans
      ((congrArg (fun s => (cfg0.win 7).cut (grid0.coords t) s.1) (at_all H t.val t.isLt)).trans (rd7 _ t).symm)) cov7
  · rw [← acc_all (M 1) (G 0) (hall Q E P W) X]
    refine (dats m 0 c).arrAt_eq_of_cover 8 _ (fun t hf => (Value.flushed8 m c t).trans
      ((congrArg (fun s => (cfg0.win 8).cut (grid0.coords t) s.2) (at_all H t.val t.isLt)).trans (Eq.trans ?_ (rd8 _ t).symm))) cov8
    have h15 : t.val = 15 := by have h := (flush0_8 t).mp hf; have := lt16 t; omega
    rw [h15]
    rfl

end Cert.PreBwd

end

end
-- ==== Proof.PreBwdR.lean ====
/- The first projection, backward: the reference's values, operation by operation, on arrays of reals. -/
module

public import proofs.«01_k».proof.Proof.Gen.Reference8Ideal.Read
public import proofs.«01_k».proof.Proof.RefA
public import proofs.«01_k».proof.Proof.PreRows

@[expose] public section

set_option maxRecDepth 16384

noncomputable section

namespace Cert.PreBwd

open Idealize.ShloMosaic Idealize.ShloMosaic.ValueIdx Cert.Reference8Ideal Cert.Reference8Ideal.Read Cert.Lift Cert.Ffn Cert.Cells
open Cert.RefVal (rsqrt_coe dot_aux red_aux shapeCast_flat_L2)
open scoped BigOperators

/-- The eight arguments as arrays of reals. -/
structure In where
  Q : Fin 8192 → Fin 768 → ℝ
  E : Fin 8192 → Fin 2176 → ℝ
  P : Fin 8192 → Fin 2048 → ℝ
  X : Fin 8192 → Row
  D : Fin 8192 → Row
  M : Fin 6 → Row
  G : Fin 4 → Row
  W : Fin 1024 → Fin 4872 → ℝ

/-- The arguments as the programs hold them. -/
abbrev In.aQ (I : In) : (⟨S8192x768, .bf16⟩ : BufTy).Contents (Elt Ideal) := L2 (φ := .bf16) I.Q
abbrev In.aE (I : In) : (⟨S8192x2176, .bf16⟩ : BufTy).Contents (Elt Ideal) := L2 (φ := .bf16) I.E
abbrev In.aP (I : In) : (⟨S8192x2048, .bf16⟩ : BufTy).Contents (Elt Ideal) := L2 (φ := .bf16) I.P
abbrev In.aX (I : In) : (⟨S8192x1024, .f32⟩ : BufTy).Contents (Elt Ideal) := L2 (φ := .f32) I.X
abbrev In.aD (I : In) : (⟨S8192x1024, .f32⟩ : BufTy).Contents (Elt Ideal) := L2 (φ := .f32) I.D
abbrev In.aM (I : In) : (⟨S6x1024, .f32⟩ : BufTy).Contents (Elt Ideal) := L2 (φ := .f32) I.M
abbrev In.aG (I : In) : (⟨S4x1024, .f32⟩ : BufTy).Contents (Elt Ideal) := L2 (φ := .f32) I.G
abbrev In.aW (I : In) : (⟨S1024x4872, .f32⟩ : BufTy).Contents (Elt Ideal) := L2 (φ := .f32) I.W

/-- Every row's gradient through the projection, with the columns in one array. -/
def hr (I : In) : Fin 8192 → Row := fun r j => ∑ l, cat (I.Q r) (I.E r) (I.P r) l * I.W j l

theorem dxr_eq (d x h sc g : Row) (j : Fin 1024) :
    d j + hm sc h j * g j * rs x + x j * ((∑ k, x k * (hm sc h k * g k)) * (-(1 / 2) * (rs x * (rs x * rs x))) / 1024)
        + (∑ k, x k * (hm sc h k * g k)) * (-(1 / 2) * (rs x * (rs x * rs x))) / 1024 * x j
      = dxr sc g d x h j := by
  have e := norm_bwd x (fun k => hm sc h k * g k) j
  unfold dxr
  rw [← e]
  ring

/-- Three arrays of columns joined. -/
abbrev cols3 (Q : Fin 8192 → Fin 768 → ℝ) (E : Fin 8192 → Fin 2056 → ℝ) (P : Fin 8192 → Fin 2048 → ℝ) : List ((s : Shape) × (s.Idx → EReal)) :=
  [⟨S8192x768, (L2 (φ := .f32) Q : FVec Ideal S8192x768 .f32)⟩, ⟨S8192x2056, (L2 (φ := .f32) E : FVec Ideal S8192x2056 .f32)⟩, ⟨S8192x2048, (L2 (φ := .f32) P : FVec Ideal S8192x2048 .f32)⟩]

theorem join_cols (Q : Fin 8192 → Fin 768 → ℝ) (E : Fin 8192 → Fin 2176 → ℝ) (P : Fin 8192 → Fin 2048 → ℝ)
    (h : Shape.Concatenates ((cols3 Q (fun i j => E i (⟨j.val, by omega⟩ : Fin 2176)) P).map (·.1)) S8192x4872 1) :
    concatenate S8192x4872 1 (cols3 Q (fun i j => E i (⟨j.val, by omega⟩ : Fin 2176)) P) h
      = (L2 (φ := .f32) (fun i l => cat (Q i) (E i) (P i) l) : FVec Ideal S8192x4872 .f32) :=
  eq_L2 fun i l => by
    have hl := l.isLt
    by_cases h1 : l.val < 768
    · refine (concatenate_apply_piece (t := S8192x4872) 1 (cols3 Q (fun i j => E i (⟨j.val, by omega⟩ : Fin 2176)) P) h (ix2 i l) 0 (by show 0 < 3; decide) S8192x768 _ rfl rfl 0 rfl (ix2 i ⟨l.val, h1⟩)
        (fun x hx => match x with | ⟨0, _⟩ => rfl | ⟨1, _⟩ => absurd rfl hx) (by show 0 + l.val = l.val; omega)).trans ?_
      refine congrArg (fun x : ℝ => (x : EReal)) ?_
      show Q i ⟨l.val, h1⟩ = cat (Q i) (E i) (P i) l
      unfold cat
      rw [dif_pos h1]
    · by_cases h2 : l.val < 2824
      · refine (concatenate_apply_piece (t := S8192x4872) 1 (cols3 Q (fun i j => E i (⟨j.val, by omega⟩ : Fin 2176)) P) h (ix2 i l) 1 (by show 1 < 3; decide) S8192x2056 _ rfl rfl 768 rfl (ix2 i ⟨l.val - 768, by omega⟩)
          (fun x hx => match x with | ⟨0, _⟩ => rfl | ⟨1, _⟩ => absurd rfl hx) (by show 768 + (l.val - 768) = l.val; omega)).trans ?_
        refine congrArg (fun x : ℝ => (x : EReal)) ?_
        show E i ⟨l.val - 768, _⟩ = cat (Q i) (E i) (P i) l
        unfold cat
        rw [dif_neg h1, dif_pos h2]
      · refine (concatenate_apply_piece (t := S8192x4872) 1 (cols3 Q (fun i j => E i (⟨j.val, by omega⟩ : Fin 2176)) P) h (ix2 i l) 2 (by show 2 < 3; decide) S8192x2048 _ rfl rfl 2824 rfl (ix2 i ⟨l.val - 2824, by omega⟩)
          (fun x hx => match x with | ⟨0, _⟩ => rfl | ⟨1, _⟩ => absurd rfl hx) (by show 2824 + (l.val - 2824) = l.val; omega)).trans ?_
        refine congrArg (fun x : ℝ => (x : EReal)) ?_
        show P i ⟨l.val - 2824, _⟩ = cat (Q i) (E i) (P i) l
        unfold cat
        rw [dif_neg h1, dif_neg h2]

/-- Three rows joined. -/
abbrev three (a b d : Row) : List ((s : Shape) × (s.Idx → EReal)) :=
  [⟨S1x1024, (L2 (φ := .f32) (fun _ j => a j) : FVec Ideal S1x1024 .f32)⟩, ⟨S1x1024, (L2 (φ := .f32) (fun _ j => b j) : FVec Ideal S1x1024 .f32)⟩,
    ⟨S1x1024, (L2 (φ := .f32) (fun _ j => d j) : FVec Ideal S1x1024 .f32)⟩]

/-- The rows in order. -/
def row3 (a b d : Row) : Fin 3 → Row := fun k => match k.val with
  | 0 => a | 1 => b | _ => d

theorem join_rows (a b d : Row) (h : Shape.Concatenates ((three a b d).map (·.1)) S3x1024 0) :
    concatenate S3x1024 0 (three a b d) h = (L2 (φ := .f32) (fun i j => row3 a b d i j) : FVec Ideal S3x1024 .f32) :=
  eq_L2 fun k j => by
    match k with
    | ⟨0, _⟩ =>
      exact concatenate_apply_piece (t := S3x1024) 0 (three a b d) h (ix2 0 j) 0 (by show 0 < 3; decide) S1x1024 _ rfl rfl 0 rfl (ix2 0 j)
        (fun x hx => match x with | ⟨0, _⟩ => absurd rfl hx | ⟨1, _⟩ => rfl) rfl
    | ⟨1, _⟩ =>
      exact concatenate_apply_piece (t := S3x1024) 0 (three a b d) h (ix2 1 j) 1 (by show 1 < 3; decide) S1x1024 _ rfl rfl 1 rfl (ix2 0 j)
        (fun x hx => match x with | ⟨0, _⟩ => absurd rfl hx | ⟨1, _⟩ => rfl) rfl
    | ⟨2, _⟩ =>
      exact concatenate_apply_piece (t := S3x1024) 0 (three a b d) h (ix2 2 j) 2 (by show 2 < 3; decide) S1x1024 _ rfl rfl 2 rfl (ix2 0 j)
        (fun x hx => match x with | ⟨0, _⟩ => absurd rfl hx | ⟨1, _⟩ => rfl) rfl

theorem join_zero (sc g : Row) (H X : Fin 8192 → Row) (h : Shape.Concatenates [S3x1024, S5x1024] S8x1024 0) :
    concatenate S8x1024 0 [⟨S3x1024, (L2 (φ := .f32) (fun i j => row3 (fun j => ∑ r, H r j * (hat (X r) j * g j)) (fun j => ∑ r, H r j) (fun j => ∑ r, hm sc (H r) j * hat (X r) j) i j) : FVec Ideal S3x1024 .f32)⟩,
        ⟨S5x1024, (L2 (φ := .f32) (fun _ _ => 0) : FVec Ideal S5x1024 .f32)⟩] h
      = (L2 (φ := .f32) (fun i j => sums sc g H X i j) : FVec Ideal S8x1024 .f32) :=
  eq_L2 fun k j => by
    by_cases h5 : k.val < 3
    · refine (concatenate_pair_apply_left 0 _ _ h (ix2 k j) rfl (ix2 ⟨k.val, h5⟩ j)
        (fun x => match x with | ⟨0, _⟩ => rfl | ⟨1, _⟩ => rfl)).trans ?_
      refine congrArg (fun x : ℝ => (x : EReal)) ?_
      match k, h5 with
      | ⟨0, _⟩, _ => rfl
      | ⟨1, _⟩, _ => rfl
      | ⟨2, _⟩, _ => rfl
    · have hk := k.isLt
      refine (concatenate_pair_apply_right 0 _ _ h (ix2 k j) rfl rfl (ix2 ⟨k.val - 3, by omega⟩ j)
        (fun x hx => match x with | ⟨0, _⟩ => absurd rfl hx | ⟨1, _⟩ => rfl) (show k.val - 3 + 3 = k.val by omega)).trans ?_
      refine congrArg (fun x : ℝ => (x : EReal)) ?_
      match k, h5 with
      | ⟨0, _⟩, h => exact absurd (by show (0 : ℕ) < 3; decide) h
      | ⟨1, _⟩, h => exact absurd (by show (1 : ℕ) < 3; decide) h
      | ⟨2, _⟩, h => exact absurd (by show (2 : ℕ) < 3; decide) h
      | ⟨3, _⟩, _ => rfl
      | ⟨4, _⟩, _ => rfl
      | ⟨5, _⟩, _ => rfl
      | ⟨6, _⟩, _ => rfl
      | ⟨7, _⟩, _ => rfl

theorem r_v2 (I : In) : val_main_v2 (F := Ideal) I.aM = L2 (φ := .f32) (fun _ j => I.M 1 j) := eq_L2 fun i j => by
  rw [val_main_v2_apply]
  exact congrArg (fun k : Fin 6 => ((I.M k j : ℝ) : EReal)) (Fin.ext (by have := i.isLt; show 1 + i.val = 1; omega))

theorem r_v3 (I : In) : val_main_v3 (F := Ideal) I.aM = L1 (φ := .f32) (fun j => I.M 1 j) := by
  unfold val_main_v3; rw [r_v2 I]; exact shapeCast_flat_L2 _ _

theorem r_v4 (I : In) : val_main_v4 (F := Ideal) I.aG = L2 (φ := .f32) (fun _ j => I.G 0 j) := eq_L2 fun i j => by
  rw [val_main_v4_apply]
  exact congrArg (fun k : Fin 4 => ((I.G k j : ℝ) : EReal)) (Fin.ext (by have := i.isLt; show i.val = 0; omega))

theorem r_v5 (I : In) : val_main_v5 (F := Ideal) I.aG = L1 (φ := .f32) (fun j => I.G 0 j) := by
  unfold val_main_v5; rw [r_v4 I]; exact shapeCast_flat_L2 _ _

theorem r_v6 (I : In) : val_main_v6 (F := Ideal) I.aX = L2 (φ := .f32) (fun i j => (I.X i j) * (I.X i j)) := eq_L2 fun i j => by
  rw [val_main_v6_apply]
  exact (EReal.coe_mul _ _).symm

theorem r_cst (I : In) : val_main_cst (F := Ideal) = L0 (φ := .f32) 0 := by
  funext i; exact c_zero

theorem r_v7 (I : In) : val_main_v7 (F := Ideal) I.aX = L1 (φ := .f32) (fun i => ∑ k, I.X i k * I.X i k) := eq_L1 fun i => by
  rw [val_main_v7_apply, r_v6 I, r_cst I]
  exact (red_aux _ rfl _).trans (congrArg _ (rfl))

theorem r_v8 (I : In) : val_main_v8 (F := Ideal) I.aX = L2 (φ := .f32) (fun i _ => ∑ k, I.X i k * I.X i k) := eq_L2 fun i j => by
  rw [val_main_v8_apply, r_v7 I]
  exact rfl

theorem r_cst_0 (I : In) : val_main_cst_0 (F := Ideal) = L0 (φ := .f32) 1024 := by
  funext i; exact c_1024

theorem r_v9 (I : In) : val_main_v9 (F := Ideal) = L2 (φ := .f32) (fun _ _ => 1024) := eq_L2 fun i j => by
  rw [val_main_v9_apply, r_cst_0 I]
  exact rfl

theorem r_v10 (I : In) : val_main_v10 (F := Ideal) I.aX = L2 (φ := .f32) (fun i _ => (∑ k, I.X i k * I.X i k) / 1024) := eq_L2 fun i j => by
  rw [val_main_v10_apply, r_v8 I, r_v9 I]
  exact div_coe _ _ (by norm_num)

theorem r_cst_1 (I : In) : val_main_cst_1 (F := Ideal) = L0 (φ := .f32) eps := by
  funext i; exact c_eps

theorem r_v11 (I : In) : val_main_v11 (F := Ideal) = L2 (φ := .f32) (fun _ _ => eps) := eq_L2 fun i j => by
  rw [val_main_v11_apply, r_cst_1 I]
  exact rfl

theorem r_v12 (I : In) : val_main_v12 (F := Ideal) I.aX = L2 (φ := .f32) (fun i _ => ((∑ k, I.X i k * I.X i k) / 1024) + eps) := eq_L2 fun i j => by
  rw [val_main_v12_apply, r_v10 I, r_v11 I]
  exact (EReal.coe_add _ _).symm

theorem r_v13 (I : In) : val_main_v13 (F := Ideal) I.aX = L2 (φ := .f32) (fun i _ => rs (I.X i)) := eq_L2 fun i j => by
  rw [val_main_v13_apply, r_v12 I]
  exact (rsqrt_coe _ (ms_pos _)).trans (congrArg _ (rfl))

theorem r_v14 (I : In) : val_main_v14 (F := Ideal) I.aX = L2 (φ := .f32) (fun i _ => rs (I.X i) * (rs (I.X i) * rs (I.X i))) := eq_L2 fun i j => by
  rw [val_main_v14_apply, r_v13 I, r_v12 I]
  exact (div_coe _ _ ((ms_pos _).ne')).trans (congrArg _ (rs_div _))

theorem r_cst_2 (I : In) : val_main_cst_2 (F := Ideal) = L0 (φ := .f32) (-(1 / 2)) := by
  funext i; exact c_neghalf

theorem r_v15 (I : In) : val_main_v15 (F := Ideal) = L2 (φ := .f32) (fun _ _ => (-(1 / 2))) := eq_L2 fun i j => by
  rw [val_main_v15_apply, r_cst_2 I]
  exact rfl

theorem r_v16 (I : In) : val_main_v16 (F := Ideal) I.aX = L2 (φ := .f32) (fun i _ => ((-(1 / 2))) * (rs (I.X i) * (rs (I.X i) * rs (I.X i)))) := eq_L2 fun i j => by
  rw [val_main_v16_apply, r_v15 I, r_v14 I]
  exact (EReal.coe_mul _ _).symm

theorem r_v17 (I : In) : val_main_v17 (F := Ideal) I.aX = L2 (φ := .f32) (fun i _ => rs (I.X i)) := eq_L2 fun i j => by
  rw [val_main_v17_apply, r_v13 I]
  exact rfl

theorem r_v18 (I : In) : val_main_v18 (F := Ideal) I.aX = L2 (φ := .f32) (fun i j => hat (I.X i) j) := eq_L2 fun i j => by
  rw [val_main_v18_apply, r_v17 I]
  exact ((EReal.coe_mul _ _).symm).trans (congrArg _ (rfl))

theorem r_v19 (I : In) : val_main_v19 (F := Ideal) I.aG = L2 (φ := .f32) (fun _ j => I.G 0 j) := eq_L2 fun i j => by
  rw [val_main_v19_apply, r_v5 I]
  exact rfl

theorem r_v20 (I : In) : val_main_v20 (F := Ideal) I.aG = L2 (φ := .f32) (fun _ j => I.G 0 j) := eq_L2 fun i j => by
  rw [val_main_v20_apply, r_v19 I]
  exact rfl

theorem r_v21 (I : In) : val_main_v21 (F := Ideal) I.aX I.aG = L2 (φ := .f32) (fun i j => (hat (I.X i) j) * (I.G 0 j)) := eq_L2 fun i j => by
  rw [val_main_v21_apply, r_v18 I, r_v20 I]
  exact (EReal.coe_mul _ _).symm

theorem r_v22 (I : In) : val_main_v22 (F := Ideal) I.aM = L2 (φ := .f32) (fun _ j => I.M 1 j) := eq_L2 fun i j => by
  rw [val_main_v22_apply, r_v3 I]
  exact rfl

theorem r_cst_3 (I : In) : val_main_cst_3 (F := Ideal) = L0 (φ := .f32) 1 := by
  funext i; exact c_one

theorem r_v23 (I : In) : val_main_v23 (F := Ideal) = L2 (φ := .f32) (fun _ _ => 1) := eq_L2 fun i j => by
  rw [val_main_v23_apply, r_cst_3 I]
  exact rfl

theorem r_v24 (I : In) : val_main_v24 (F := Ideal) I.aM = L2 (φ := .f32) (fun _ j => 1 + (I.M 1 j)) := eq_L2 fun i j => by
  rw [val_main_v24_apply, r_v23 I, r_v22 I]
  exact (EReal.coe_add _ _).symm

theorem r_v31 (I : In) : val_main_v31 (F := Ideal) I.aE = L2 (φ := .bf16) (fun i j => I.E i (⟨j.val, by omega⟩ : Fin 2176)) := eq_L2 fun i j => by
  rw [val_main_v31_apply]
  exact (rfl).trans (congrArg _ (rfl))

theorem r_v32 (I : In) : val_main_v32 (F := Ideal) I.aQ = L2 (φ := .f32) (fun i j => I.Q i j) := eq_L2 fun i j => by
  rw [val_main_v32_apply]
  exact rfl

theorem r_v33 (I : In) : val_main_v33 (F := Ideal) I.aE = L2 (φ := .f32) (fun i j => I.E i (⟨j.val, by omega⟩ : Fin 2176)) := eq_L2 fun i j => by
  rw [val_main_v33_apply, r_v31 I]
  exact rfl

theorem r_v34 (I : In) : val_main_v34 (F := Ideal) I.aP = L2 (φ := .f32) (fun i j => I.P i j) := eq_L2 fun i j => by
  rw [val_main_v34_apply]
  exact rfl

theorem r_v35 (I : In) : val_main_v35 (F := Ideal) I.aQ I.aE I.aP = L2 (φ := .f32) (fun i j => cat (I.Q i) (I.E i) (I.P i) j) := by
  unfold val_main_v35
  rw [r_v32 I, r_v33 I, r_v34 I]
  exact join_cols _ _ _ _

theorem r_v36 (I : In) : val_main_v36 (F := Ideal) I.aQ I.aE I.aP I.aW = L2 (φ := .f32) (fun i j => hr I i j) := eq_L2 fun i j => by
  rw [val_main_v36_apply, r_v35 I]
  exact (dot_aux _ _).trans (congrArg _ (rfl))

theorem r_cst_4 (I : In) : val_main_cst_4 (F := Ideal) = L0 (φ := .f32) 0 := by
  funext i; exact c_zero

theorem r_v37 (I : In) : val_main_v37 (F := Ideal) I.aQ I.aE I.aP I.aW = L1 (φ := .f32) (fun j => ∑ r, hr I r j) := eq_L1 fun j => by
  rw [val_main_v37_apply, r_v36 I, r_cst_4 I]
  exact (red_aux _ rfl _).trans (congrArg _ (rfl))

theorem r_v38 (I : In) : val_main_v38 (F := Ideal) I.aQ I.aE I.aP I.aW = L2 (φ := .f32) (fun _ j => ∑ r, hr I r j) := by
  unfold val_main_v38; rw [r_v37 I]; exact shapeCast_row_L2 _ _

theorem r_cst_5 (I : In) : val_main_cst_5 (F := Ideal) = L0 (φ := .f32) 0 := by
  funext i; exact c_zero

theorem r_v39 (I : In) : val_main_v39 (F := Ideal) I.aQ I.aE I.aP I.aW = L1 (φ := .f32) (fun j => ∑ r, hr I r j) := eq_L1 fun j => by
  rw [val_main_v39_apply, r_v38 I, r_cst_5 I]
  exact (red_aux _ rfl (fun _ => _)).trans (congrArg _ (Fin.sum_univ_one _))

theorem r_v40 (I : In) : val_main_v40 (F := Ideal) I.aQ I.aE I.aP I.aX I.aG I.aW = L2 (φ := .f32) (fun i j => hr I i j * (hat (I.X i) j * I.G 0 j)) := eq_L2 fun i j => by
  rw [val_main_v40_apply, r_v21 I, r_v36 I]
  exact ((EReal.coe_mul _ _).symm).trans (congrArg _ (mul_comm _ _))

theorem r_cst_6 (I : In) : val_main_cst_6 (F := Ideal) = L0 (φ := .f32) 0 := by
  funext i; exact c_zero

theorem r_v41 (I : In) : val_main_v41 (F := Ideal) I.aQ I.aE I.aP I.aX I.aG I.aW = L1 (φ := .f32) (fun j => ∑ r, hr I r j * (hat (I.X r) j * I.G 0 j)) := eq_L1 fun j => by
  rw [val_main_v41_apply, r_v40 I, r_cst_6 I]
  exact (red_aux _ rfl _).trans (congrArg _ (rfl))

theorem r_v42 (I : In) : val_main_v42 (F := Ideal) I.aQ I.aE I.aP I.aX I.aG I.aW = L2 (φ := .f32) (fun _ j => ∑ r, hr I r j * (hat (I.X r) j * I.G 0 j)) := by
  unfold val_main_v42; rw [r_v41 I]; exact shapeCast_row_L2 _ _

theorem r_v43 (I : In) : val_main_v43 (F := Ideal) I.aM = L2 (φ := .f32) (fun _ j => 1 + (I.M 1 j)) := eq_L2 fun i j => by
  rw [val_main_v43_apply, r_v24 I]
  exact rfl

theorem r_v44 (I : In) : val_main_v44 (F := Ideal) I.aQ I.aE I.aP I.aM I.aW = L2 (φ := .f32) (fun i j => hm (I.M 1) (hr I i) j) := eq_L2 fun i j => by
  rw [val_main_v44_apply, r_v36 I, r_v43 I]
  exact ((EReal.coe_mul _ _).symm).trans (congrArg _ (rfl))

theorem r_cst_7 (I : In) : val_main_cst_7 (F := Ideal) = L0 (φ := .f32) 0 := by
  funext i; exact c_zero

theorem r_v45 (I : In) : val_main_v45 (F := Ideal) I.aQ I.aE I.aP I.aX I.aG I.aW = L1 (φ := .f32) (fun j => ∑ r, hr I r j * (hat (I.X r) j * I.G 0 j)) := eq_L1 fun j => by
  rw [val_main_v45_apply, r_v42 I, r_cst_7 I]
  exact (red_aux _ rfl (fun _ => _)).trans (congrArg _ (Fin.sum_univ_one _))

theorem r_v46 (I : In) : val_main_v46 (F := Ideal) I.aQ I.aE I.aP I.aX I.aM I.aW = L2 (φ := .f32) (fun i j => hm (I.M 1) (hr I i) j * hat (I.X i) j) := eq_L2 fun i j => by
  rw [val_main_v46_apply, r_v18 I, r_v44 I]
  exact ((EReal.coe_mul _ _).symm).trans (congrArg _ (mul_comm _ _))

theorem r_cst_8 (I : In) : val_main_cst_8 (F := Ideal) = L0 (φ := .f32) 0 := by
  funext i; exact c_zero

theorem r_v47 (I : In) : val_main_v47 (F := Ideal) I.aQ I.aE I.aP I.aX I.aM I.aW = L1 (φ := .f32) (fun j => ∑ r, hm (I.M 1) (hr I r) j * hat (I.X r) j) := eq_L1 fun j => by
  rw [val_main_v47_apply, r_v46 I, r_cst_8 I]
  exact (red_aux _ rfl _).trans (congrArg _ (rfl))

theorem r_v48 (I : In) : val_main_v48 (F := Ideal) I.aQ I.aE I.aP I.aX I.aM I.aW = L2 (φ := .f32) (fun _ j => ∑ r, hm (I.M 1) (hr I r) j * hat (I.X r) j) := by
  unfold val_main_v48; rw [r_v47 I]; exact shapeCast_row_L2 _ _

theorem r_v49 (I : In) : val_main_v49 (F := Ideal) I.aG = L2 (φ := .f32) (fun _ j => I.G 0 j) := eq_L2 fun i j => by
  rw [val_main_v49_apply, r_v19 I]
  exact rfl

theorem r_v50 (I : In) : val_main_v50 (F := Ideal) I.aQ I.aE I.aP I.aM I.aG I.aW = L2 (φ := .f32) (fun i j => (hm (I.M 1) (hr I i) j) * (I.G 0 j)) := eq_L2 fun i j => by
  rw [val_main_v50_apply, r_v44 I, r_v49 I]
  exact (EReal.coe_mul _ _).symm

theorem r_cst_9 (I : In) : val_main_cst_9 (F := Ideal) = L0 (φ := .f32) 0 := by
  funext i; exact c_zero

theorem r_v51 (I : In) : val_main_v51 (F := Ideal) I.aQ I.aE I.aP I.aX I.aM I.aW = L1 (φ := .f32) (fun j => ∑ r, hm (I.M 1) (hr I r) j * hat (I.X r) j) := eq_L1 fun j => by
  rw [val_main_v51_apply, r_v48 I, r_cst_9 I]
  exact (red_aux _ rfl (fun _ => _)).trans (congrArg _ (Fin.sum_univ_one _))

theorem r_v52 (I : In) : val_main_v52 (F := Ideal) I.aQ I.aE I.aP I.aX I.aM I.aG I.aW = L2 (φ := .f32) (fun i j => (I.X i j) * ((hm (I.M 1) (hr I i) j) * (I.G 0 j))) := eq_L2 fun i j => by
  rw [val_main_v52_apply, r_v50 I]
  exact (EReal.coe_mul _ _).symm

theorem r_cst_10 (I : In) : val_main_cst_10 (F := Ideal) = L0 (φ := .f32) 0 := by
  funext i; exact c_zero

theorem r_v53 (I : In) : val_main_v53 (F := Ideal) I.aQ I.aE I.aP I.aX I.aM I.aG I.aW = L1 (φ := .f32) (fun i => ∑ k, (I.X i k) * ((hm (I.M 1) (hr I i) k) * (I.G 0 k))) := eq_L1 fun i => by
  rw [val_main_v53_apply, r_v52 I, r_cst_10 I]
  exact red_aux _ rfl _

theorem r_v54 (I : In) : val_main_v54 (F := Ideal) I.aQ I.aE I.aP I.aX I.aM I.aG I.aW = L2 (φ := .f32) (fun i _ => ∑ k, (I.X i k) * ((hm (I.M 1) (hr I i) k) * (I.G 0 k))) := by
  unfold val_main_v54; rw [r_v53 I]; exact shapeCast_col_L2 _ _

theorem r_v55 (I : In) : val_main_v55 (F := Ideal) I.aX = L2 (φ := .f32) (fun i _ => rs (I.X i)) := eq_L2 fun i j => by
  rw [val_main_v55_apply, r_v13 I]
  exact rfl

theorem r_v56 (I : In) : val_main_v56 (F := Ideal) I.aQ I.aE I.aP I.aX I.aM I.aG I.aW = L2 (φ := .f32) (fun i j => ((hm (I.M 1) (hr I i) j) * (I.G 0 j)) * (rs (I.X i))) := eq_L2 fun i j => by
  rw [val_main_v56_apply, r_v50 I, r_v55 I]
  exact (EReal.coe_mul _ _).symm

theorem r_v57 (I : In) : val_main_v57 (F := Ideal) I.aQ I.aE I.aP I.aX I.aD I.aM I.aG I.aW = L2 (φ := .f32) (fun i j => (I.D i j) + (((hm (I.M 1) (hr I i) j) * (I.G 0 j)) * (rs (I.X i)))) := eq_L2 fun i j => by
  rw [val_main_v57_apply, r_v56 I]
  exact (EReal.coe_add _ _).symm

theorem r_v58 (I : In) : val_main_v58 (F := Ideal) I.aQ I.aE I.aP I.aX I.aM I.aG I.aW = L2 (φ := .f32) (fun i _ => (∑ k, (I.X i k) * ((hm (I.M 1) (hr I i) k) * (I.G 0 k))) * (((-(1 / 2))) * (rs (I.X i) * (rs (I.X i) * rs (I.X i))))) := eq_L2 fun i j => by
  rw [val_main_v58_apply, r_v54 I, r_v16 I]
  exact (EReal.coe_mul _ _).symm

theorem r_cst_11 (I : In) : val_main_cst_11 (F := Ideal) = L0 (φ := .f32) 1024 := by
  funext i; exact c_1024

theorem r_v59 (I : In) : val_main_v59 (F := Ideal) = L2 (φ := .f32) (fun _ _ => 1024) := eq_L2 fun i j => by
  rw [val_main_v59_apply, r_cst_11 I]
  exact rfl

theorem r_v60 (I : In) : val_main_v60 (F := Ideal) I.aQ I.aE I.aP I.aX I.aM I.aG I.aW = L2 (φ := .f32) (fun i _ => ((∑ k, (I.X i k) * ((hm (I.M 1) (hr I i) k) * (I.G 0 k))) * (((-(1 / 2))) * (rs (I.X i) * (rs (I.X i) * rs (I.X i))))) / 1024) := eq_L2 fun i j => by
  rw [val_main_v60_apply, r_v58 I, r_v59 I]
  exact div_coe _ _ (by norm_num)

theorem r_cst_12 (I : In) : val_main_cst_12 (F := Ideal) = L0 (φ := .f32) 0 := by
  funext i; exact c_zero

theorem r_v61 (I : In) : val_main_v61 (F := Ideal) I.aQ I.aE I.aP I.aX I.aM I.aG I.aW = L1 (φ := .f32) (fun i => (∑ k, I.X i k * (hm (I.M 1) (hr I i) k * I.G 0 k)) * (-(1 / 2) * (rs (I.X i) * (rs (I.X i) * rs (I.X i)))) / 1024) := eq_L1 fun i => by
  rw [val_main_v61_apply, r_v60 I, r_cst_12 I]
  exact (red_aux _ rfl (fun _ => _)).trans (congrArg _ (Fin.sum_univ_one _))

theorem r_v62 (I : In) : val_main_v62 (F := Ideal) I.aQ I.aE I.aP I.aX I.aM I.aG I.aW = L2 (φ := .f32) (fun i _ => (∑ k, I.X i k * (hm (I.M 1) (hr I i) k * I.G 0 k)) * (-(1 / 2) * (rs (I.X i) * (rs (I.X i) * rs (I.X i)))) / 1024) := eq_L2 fun i j => by
  rw [val_main_v62_apply, r_v61 I]
  exact rfl

theorem r_v63 (I : In) : val_main_v63 (F := Ideal) I.aQ I.aE I.aP I.aX I.aM I.aG I.aW = L2 (φ := .f32) (fun i j => (I.X i j) * ((∑ k, I.X i k * (hm (I.M 1) (hr I i) k * I.G 0 k)) * (-(1 / 2) * (rs (I.X i) * (rs (I.X i) * rs (I.X i)))) / 1024)) := eq_L2 fun i j => by
  rw [val_main_v63_apply, r_v62 I]
  exact (EReal.coe_mul _ _).symm

theorem r_v64 (I : In) : val_main_v64 (F := Ideal) I.aQ I.aE I.aP I.aX I.aD I.aM I.aG I.aW = L2 (φ := .f32) (fun i j => ((I.D i j) + (((hm (I.M 1) (hr I i) j) * (I.G 0 j)) * (rs (I.X i)))) + ((I.X i j) * ((∑ k, I.X i k * (hm (I.M 1) (hr I i) k * I.G 0 k)) * (-(1 / 2) * (rs (I.X i) * (rs (I.X i) * rs (I.X i)))) / 1024))) := eq_L2 fun i j => by
  rw [val_main_v64_apply, r_v57 I, r_v63 I]
  exact (EReal.coe_add _ _).symm

theorem r_v65 (I : In) : val_main_v65 (F := Ideal) I.aQ I.aE I.aP I.aX I.aM I.aG I.aW = L2 (φ := .f32) (fun i j => ((∑ k, I.X i k * (hm (I.M 1) (hr I i) k * I.G 0 k)) * (-(1 / 2) * (rs (I.X i) * (rs (I.X i) * rs (I.X i)))) / 1024) * (I.X i j)) := eq_L2 fun i j => by
  rw [val_main_v65_apply, r_v62 I]
  exact (EReal.coe_mul _ _).symm

theorem r_v66 (I : In) : val_main_v66 (F := Ideal) I.aQ I.aE I.aP I.aX I.aD I.aM I.aG I.aW = L2 (φ := .f32) (fun i j => dxr (I.M 1) (I.G 0) (I.D i) (I.X i) (hr I i) j) := eq_L2 fun i j => by
  rw [val_main_v66_apply, r_v64 I, r_v65 I]
  exact ((EReal.coe_add _ _).symm).trans (congrArg _ (dxr_eq _ _ _ _ _ _))

theorem r_v67 (I : In) : val_main_v67 (F := Ideal) I.aQ I.aE I.aP I.aX I.aG I.aW = L2 (φ := .f32) (fun _ j => ∑ r, hr I r j * (hat (I.X r) j * I.G 0 j)) := eq_L2 fun i j => by
  rw [val_main_v67_apply, r_v45 I]
  exact rfl

theorem r_v68 (I : In) : val_main_v68 (F := Ideal) I.aQ I.aE I.aP I.aW = L2 (φ := .f32) (fun _ j => ∑ r, hr I r j) := eq_L2 fun i j => by
  rw [val_main_v68_apply, r_v39 I]
  exact rfl

theorem r_v69 (I : In) : val_main_v69 (F := Ideal) I.aQ I.aE I.aP I.aX I.aM I.aW = L2 (φ := .f32) (fun _ j => ∑ r, hm (I.M 1) (hr I r) j * hat (I.X r) j) := eq_L2 fun i j => by
  rw [val_main_v69_apply, r_v51 I]
  exact rfl

theorem r_v70 (I : In) : val_main_v70 (F := Ideal) I.aQ I.aE I.aP I.aX I.aM I.aG I.aW = L2 (φ := .f32) (fun i j => row3 (fun j => ∑ r, hr I r j * (hat (I.X r) j * I.G 0 j)) (fun j => ∑ r, hr I r j) (fun j => ∑ r, hm (I.M 1) (hr I r) j * hat (I.X r) j) i j) := by
  unfold val_main_v70
  rw [r_v67 I, r_v68 I, r_v69 I]
  exact join_rows _ _ _ _

theorem r_cst_13 (I : In) : val_main_cst_13 (F := Ideal) = L0 (φ := .f32) 0 := by
  funext i; exact c_zero

theorem r_v71 (I : In) : val_main_v71 (F := Ideal) = L2 (φ := .f32) (fun _ _ => 0) := eq_L2 fun i j => by
  rw [val_main_v71_apply, r_cst_13 I]
  exact rfl

theorem r_v72 (I : In) : val_main_v72 (F := Ideal) I.aQ I.aE I.aP I.aX I.aM I.aG I.aW = L2 (φ := .f32) (fun i j => sums (I.M 1) (I.G 0) (hr I) I.X i j) := by
  unfold val_main_v72
  rw [r_v70 I, r_v71 I]
  exact join_zero _ _ _ _ _

end Cert.PreBwd

end

end
-- ==== Proof.PreBwd.lean ====
/- The first projection, backward: from finite arguments the kernel and the reference end with the same arrays. -/
module

public import proofs.«01_k».proof.Defs
public import proofs.«01_k».proof.Proof.PreBwdB
public import proofs.«01_k».proof.Proof.PreBwdR
public import proofs.«01_k».proof.Proof.Finite
public import proofs.«01_k».proof.Proof.Gen.Pre_finite8
public import Idealize.ShloMosaic.Adequacy
public import Idealize.ShloMosaic.Init

@[expose] public section

set_option maxRecDepth 16384

noncomputable section

namespace Cert.PreBwd

open Idealize.ShloMosaic Idealize.ShloMosaic.StableHlo Idealize.ShloMosaic.ValueIdx Idealize.SL.Sem Cert.Lift Cert.Ffn Cert.Cells
open Cert.Finite (lift_of_all)

/-- The eight arguments are arrays of reals. -/
theorem reals [Cert.Pre_finite8.Facts] (x0 : FVec Ideal ⟨2, ![8192, 768]⟩ .bf16) (x1 : FVec Ideal ⟨2, ![8192, 2176]⟩ .bf16) (x2 : FVec Ideal ⟨2, ![8192, 2048]⟩ .bf16)
    (x3 x4 : FVec Ideal ⟨2, ![8192, 1024]⟩ .f32) (x5 : FVec Ideal ⟨2, ![6, 1024]⟩ .f32) (x6 : FVec Ideal ⟨2, ![4, 1024]⟩ .f32) (x7 : FVec Ideal ⟨2, ![1024, 4872]⟩ .f32)
    (h : Cert.Pre_finite8.fn (F := Ideal) x0 x1 x2 x3 x4 x5 x6 x7 = fun _ => 1#1) :
    ∃ I : In, x0 = I.aQ ∧ x1 = I.aE ∧ x2 = I.aP ∧ x3 = I.aX ∧ x4 = I.aD ∧ x5 = I.aM ∧ x6 = I.aG ∧ x7 = I.aW := by
  have h0 := congrFun h (fun a => a.elim0)
  obtain ⟨h1, e7⟩ := IntOp.andi_eq_one.1 h0
  obtain ⟨h2, e6⟩ := IntOp.andi_eq_one.1 h1
  obtain ⟨h3, e5⟩ := IntOp.andi_eq_one.1 h2
  obtain ⟨h4, e4⟩ := IntOp.andi_eq_one.1 h3
  obtain ⟨h5, e3⟩ := IntOp.andi_eq_one.1 h4
  obtain ⟨h6, e2⟩ := IntOp.andi_eq_one.1 h5
  obtain ⟨e0, e1⟩ := IntOp.andi_eq_one.1 h6
  exact ⟨⟨fun a b => EReal.toReal (x0 (ix2 a b)), fun a b => EReal.toReal (x1 (ix2 a b)), fun a b => EReal.toReal (x2 (ix2 a b)), fun a b => EReal.toReal (x3 (ix2 a b)), fun a b => EReal.toReal (x4 (ix2 a b)), fun a b => EReal.toReal (x5 (ix2 a b)), fun a b => EReal.toReal (x6 (ix2 a b)), fun a b => EReal.toReal (x7 (ix2 a b))⟩, lift_of_all x0 _ _ _ _ e0, lift_of_all x1 _ _ _ _ e1, lift_of_all x2 _ _ _ _ e2, lift_of_all x3 _ _ _ _ e3,
    lift_of_all x4 _ _ _ _ e4, lift_of_all x5 _ _ _ _ e5, lift_of_all x6 _ _ _ _ e6, lift_of_all x7 _ _ _ _ e7⟩

/-- The two ways to write the projection's transpose give the same rows. -/
theorem hr_eq (I : In) : hr I = hall I.Q I.E I.P I.W := funext fun r => funext fun j => (dh_eq (I.Q r) (I.E r) (I.P r) I.W j).symm

open Cert.Reference8Ideal.Read in
theorem algebraic (hp : Cert.Pre_finite8.Facts) :
    Cert.algebraic_Kernel8Ideal_Reference8Ideal_pre_finite8 (hKernel8Ideal := Cert.Kernel8Ideal.Gen.facts) (hReference8Ideal := Cert.Reference8Ideal.Gen.facts)
      (hPre_finite8 := hp) := by
  intro m g m' g' hpre hag
  have hI : ∀ c : Dev Cert.Kernel8Ideal.nD, ∃ I : In, Holds m c I.Q I.E I.P I.X I.D I.M I.G I.W := fun c => by
    obtain ⟨I, h0, h1, h2, h3, h4, h5, h6, h7⟩ := reals _ _ _ _ _ _ _ _ (hpre c)
    exact ⟨I, h0, h1, h2, h3, h4, h5, h6, h7⟩
  choose I H using hI
  refine ⟨fun c => L2 (φ := .f32) (dall (I c).Q (I c).E (I c).P (I c).X (I c).D (I c).M (I c).G (I c).W),
    fun c => L2 (φ := .f32) (sums ((I c).M 1) ((I c).G 0) (hall (I c).Q (I c).E (I c).P (I c).W) (I c).X), ?_, ?_⟩
  · refine (θ_run Cert.Kernel8Ideal.defs _ _).mono (fun r h c => ?_) (Cert.Kernel8Ideal.Value.run_blocks m g)
    obtain ⟨e0, e1, k⟩ := h c
    obtain ⟨f0, f1⟩ := kernel (H c)
    exact ⟨e0.trans f0, e1.trans f1, k⟩
  · refine (θ_run Cert.Reference8Ideal.defs _ _).mono (fun r h c => ?_) (Cert.Reference8Ideal.Value.run (F := Ideal) m' g')
    obtain ⟨e0, e1, k⟩ := h c
    obtain ⟨b0, b1, b2, b3, b4, b5, b6, b7⟩ := hag c
    have a0 := b0.trans (H c).a0
    have a1 := b1.trans (H c).a1
    have a2 := b2.trans (H c).a2
    have a3 := b3.trans (H c).a3
    have a4 := b4.trans (H c).a4
    have a5 := b5.trans (H c).a5
    have a6 := b6.trans (H c).a6
    have a7 := b7.trans (H c).a7
    refine ⟨(e0.trans (val_main_v66_eq _ _)).trans ?_, (e1.trans (val_main_v72_eq _ _)).trans ?_, k⟩
    all_goals simp only [a0, a1, a2, a3, a4, a5, a6, a7]
    · exact (r_v66 (I c)).trans (congrArg (fun h : Fin 8192 → Row => L2 (φ := .f32) fun r => dxr ((I c).M 1) ((I c).G 0) ((I c).D r) ((I c).X r) (h r)) (hr_eq (I c)))
    · exact (r_v72 (I c)).trans (congrArg (fun h => L2 (φ := .f32) (sums ((I c).M 1) ((I c).G 0) h (I c).X)) (hr_eq (I c)))

theorem frame : Cert.quiescent_Reference8Ideal (hReference8Ideal := Cert.Reference8Ideal.Gen.facts) := fun m g _ =>
  (θ_run Cert.Reference8Ideal.defs _ _).mono (fun r h => ⟨fun c => (h c).2.2, sem_eq_zero_of_no_sems (by decide) r.2⟩)
    (Cert.Reference8Ideal.Value.run (F := Ideal) m g)

theorem frame_pre (hp : Cert.Pre_finite8.Facts) :
    Cert.quiescent_Reference8Ideal_pre_finite8 (hReference8Ideal := Cert.Reference8Ideal.Gen.facts) (hPre_finite8 := hp) := fun m g _ =>
  frame m g trivial

end Cert.PreBwd

end

end
-- ==== Proof.MixRows.lean ====
/- The backward of the mixer's output, one row at a time, on reals. -/
module

public import Idealize.ShloMosaic.Lib.WritesUnit
public import proofs.«01_k».proof.Proof.Tables

@[expose] public section

set_option maxRecDepth 16384

noncomputable section

namespace Cert.MixBwd

open Idealize.ShloMosaic Idealize.ShloMosaic.ValueIdx Cert.Ffn Cert.Cells Cert.Lift
open scoped BigOperators

/-- The first half of a row of gates. -/
def lo (p : Fin 2048 → ℝ) : Row := fun j => p (⟨j.val, by omega⟩ : Fin 2048)

/-- The second half. -/
def hi (p : Fin 2048 → ℝ) : Row := fun j => p (⟨1024 + j.val, by omega⟩ : Fin 2048)

/-- A row of 512 through a projection. -/
def up (y : Fin 512 → ℝ) (W : Fin 512 → Row) : Row := fun j => ∑ k, y k * W k j

/-- The two gated projections added. -/
def merge (p : Fin 2048 → ℝ) (a b : Row) : Row := fun j => sig (lo p j) * a j + sig (hi p j) * b j

/-- A row through the output projection. -/
def fin (u : Row) (W : Fin 1024 → Row) : Row := fun j => ∑ k, u k * W k j

/-- The gradient of the mixer's output, through the norm, the gain and the gate. -/
def dmx (gt gp d x : Row) : Row := fun j => rs x * cen (hat x) (fun k => d k * gt k * gp k) j

/-- The gradient of the sum of the gated projections. -/
def dmg (gt gp d x : Row) (W : Fin 1024 → Row) : Row := fun j => ∑ l, dmx gt gp d x l * W j l

/-- The gradient of one projection. -/
def gated (w p : Row) : Row := fun j => w j * sig (p j)

/-- The gradient of one half of the gates. -/
def gate (w p y : Row) : Row := fun j => w j * y j * (sig (p j) * (1 - sig (p j)))

/-- The two halves side by side. -/
def both (a b : Row) : Fin 2048 → ℝ := fun j => if h : j.val < 1024 then a ⟨j.val, h⟩ else b ⟨j.val - 1024, by omega⟩

/-- The gradient of a projection's argument. -/
def back (u : Row) (W : Fin 512 → Row) : Fin 512 → ℝ := fun j => ∑ l, u l * W j l

/-- The table of sums over rows: the gate's and the gain's gradient, then zeros. -/
def sums {n : ℕ} (gt gp : Row) (D X : Fin n → Row) : Fin 8 → Row := fun k => match k.val with
  | 0 => fun j => ∑ i, D i j * (hat (X i) j * gp j)
  | 1 => fun j => ∑ i, D i j * gt j * hat (X i) j
  | _ => fun _ => 0

theorem upd2 {n : ℕ} (A : Fin 8 → Row) (gt gp : Row) (D X : Fin n → Row) :
    Function.update (Function.update A 0 fun j => A 0 j + ∑ i, D i j * (hat (X i) j * gp j)) 1
      (fun j => A 1 j + ∑ i, D i j * gt j * hat (X i) j) = fun k j => A k j + sums gt gp D X k j := by
  funext k j
  fin_cases k <;> simp [sums, Function.update]

theorem sums_all (gt gp : Row) (D X : Fin 8192 → Row) (k : Fin 8) (j : Fin 1024) :
    ∑ q ∈ Finset.range 16, sums gt gp (rows D q) (rows X q) k j = sums gt gp D X k j := by
  match k with
  | ⟨0, _⟩ => exact Tables.sum16 fun r => D r j * (hat (X r) j * gp j)
  | ⟨1, _⟩ => exact Tables.sum16 fun r => D r j * gt j * hat (X r) j
  | ⟨2, _⟩ | ⟨3, _⟩ | ⟨4, _⟩ | ⟨5, _⟩ | ⟨6, _⟩ | ⟨7, _⟩ => exact Finset.sum_const_zero

theorem acc_all (gt gp : Row) (D X : Fin 8192 → Row) : Tables.acc (fun q => sums gt gp (rows D q) (rows X q)) 15 = sums gt gp D X := by
  funext k j
  rw [Tables.acc_sum]
  exact sums_all gt gp D X k j

/-- The gradient as the norm's two terms, each added on its own. -/
theorem dmx_eq (gt gp d x : Row) (j : Fin 1024) :
    d j * gt j * gp j * rs x + x j * ((∑ k, x k * (d k * gt k * gp k)) * (-(1 / 2) * (rs x * (rs x * rs x))) / 1024)
        + (∑ k, x k * (d k * gt k * gp k)) * (-(1 / 2) * (rs x * (rs x * rs x))) / 1024 * x j = dmx gt gp d x j :=
  norm_bwd x (fun k => d k * gt k * gp k) j

/-- A buffer whose two halves of columns were stored. -/
theorem st_both {sig : RefSig} (v : View sig .tc .vmem ⟨2, ![512, 2048]⟩ .bf16) (f) (L) (A B : Fin 512 → Row) (inb inb')
    (p q : FVec Ideal ⟨2, ![512, 1024]⟩ .bf16) (hp : p = L2 (φ := .bf16) A) (hq : q = L2 (φ := .bf16) B) :
    v.read (Elt Ideal) (v.writes (Elt Ideal) f ((⟨Rect.unit ![0, 1024] ![512, 1024] inb, q⟩ : View.Piece (Elt Ideal) ⟨2, ![512, 2048]⟩ .bf16)
        :: (⟨Rect.unit ![0, 0] ![512, 1024] inb', p⟩ : View.Piece (Elt Ideal) ⟨2, ![512, 2048]⟩ .bf16) :: L))
      = L2 (φ := .bf16) fun i => both (A i) (B i) := by
  subst hp hq
  refine eq_L2 (φ := .bf16) fun a b => ?_
  have hb := b.isLt
  by_cases h : b.val < 1024
  · refine (View.read_writes_cons_unit_of_not_mem v f inb _ _ (ix2 a b) rfl 1 (Or.inl h)).trans ?_
    refine (View.read_writes_cons_unit_of_mem v f inb' _ L (ix2 a b) (ix2 a (⟨b.val, h⟩ : Fin 1024)) rfl fun x => ?_).trans ?_
    · match x with
      | ⟨0, _⟩ => exact (Nat.zero_add _).symm
      | ⟨1, _⟩ => exact (Nat.zero_add _).symm
    · refine congrArg (fun x : ℝ => (x : EReal)) ?_
      show A a ⟨b.val, h⟩ = both (A a) (B a) b
      unfold both
      rw [dif_pos h]
  · refine (View.read_writes_cons_unit_of_mem v f inb _ _ (ix2 a b) (ix2 a (⟨b.val - 1024, by omega⟩ : Fin 1024)) rfl fun x => ?_).trans ?_
    · match x with
      | ⟨0, _⟩ => exact (Nat.zero_add _).symm
      | ⟨1, _⟩ => show b.val = 1024 + (b.val - 1024); omega
    · refine congrArg (fun x : ℝ => (x : EReal)) ?_
      show B a ⟨b.val - 1024, _⟩ = both (A a) (B a) b
      unfold both
      rw [dif_neg h]

end Cert.MixBwd

end

end
-- ==== Proof.MixBwdA.lean ====
/- The mixer's output, backward: the seven arrays the kernel's blocks of 512 rows leave, on arrays of reals. -/
module

public import proofs.«01_k».proof.Proof.MixRows
public import proofs.«01_k».proof.Proof.Gen.Kernel9Ideal.Value

@[expose] public section

set_option maxRecDepth 16384

noncomputable section

namespace Cert.MixBwd

open Idealize.ShloMosaic Idealize.ShloMosaic.Pipeline Idealize.ShloMosaic.ValueIdx Idealize.SL.Sem Cert.Cells Cert.Whole Cert.Lift Cert.Ffn Cert.Tables
open scoped BigOperators
open Cert.Kernel9Ideal Cert.Kernel9Ideal.Gen

/-! ## What the body computes on a block -/

section Payloads
variable {v3 v16 v31 v57 v66 v73 : FVec Ideal S512x1024 .f32} {v4 v58 v67 v82 v92 v102 : FVec Ideal S512x1024 .bf16} {v14 : FVec Ideal S512x1 .f32}
  {v17 v19 v28 v32 v33 v39 : FVec Ideal S1x1024 .f32} {v35 : FVec Ideal S1024 .f32} {v55 : FVec Ideal S1024x1024 .bf16}
variable {X D K W S Q Y : Fin 512 → Row} {a g : Row}

theorem mul_tr {n k p : ℕ} {A : FVec Ideal ⟨2, ![n, k]⟩ .bf16} {B : FVec Ideal ⟨2, ![p, k]⟩ .bf16} {P : Fin n → Fin k → ℝ} {U : Fin p → Fin k → ℝ}
    (hA : A = L2 (φ := .bf16) P) (hB : B = L2 (φ := .bf16) U) (h) :
    matmul (DotDims.transposedRhs n k p) none A (shapeCast ⟨2, ![p, k]⟩ B h) (constant (F := Ideal) ⟨2, ![n, p]⟩ .f32 0x00000000#32)
      = L2 (φ := .f32) fun i j => ∑ l, P i l * U j l := by
  subst hA hB
  rw [shapeCast_self_L2]
  exact matmul_tr_L2 none _ _

theorem ext_L2 {n m : ℕ} (A : Fin n → Fin m → ℝ) (h : FTy.bits .bf16 < FTy.bits .f32) :
    (extf .f32 (L2 A : FVec Ideal ⟨2, ![n, m]⟩ .bf16) h : FVec Ideal ⟨2, ![n, m]⟩ .f32) = L2 A := rfl

theorem pay3 (h : v4 = L2 (φ := .bf16) X) : k0_pay3 (F := Ideal) v4 = L2 (φ := .f32) X := by
  subst h
  unfold k0_pay3
  dsimp only
  erw [shapeCast_self_L2]
  rfl

theorem pay4 (h : v4 = L2 (φ := .bf16) X) : k0_pay4 (F := Ideal) v4 = L2 (φ := .f32) fun i _ => rs (X i) := by
  unfold k0_pay4
  rw [pay3 h]
  exact rs_L2 X _ _ _ _ _

theorem pay5 (h : v4 = L2 (φ := .bf16) X) : k0_pay5 (F := Ideal) v4 = L2 (φ := .f32) fun i => hat (X i) := by
  unfold k0_pay5
  rw [pay4 h, pay3 h]
  dsimp only
  erw [broadcastTo_col_L2, mulf_L2]
  rfl

theorem pay6 (h3 : v3 = L2 (φ := .f32) D) (h4 : v4 = L2 (φ := .bf16) X) (h17 : v17 = one a) (h19 : v19 = one g) :
    k0_pay6 (F := Ideal) v3 v4 v17 v19 = one fun j => a j + ∑ i, D i j * (hat (X i) j * g j) := by
  unfold k0_pay6
  rw [pay5 h4]
  subst h3 h17 h19
  dsimp only
  erw [shapeCast_self_L2, shapeCast_self_L2, broadcastTo_row_L2, mulf_L2, mulf_L2, reduce_rows_L2, shapeCast_row_L2, addf_L2]

theorem pay7 (h3 : v3 = L2 (φ := .f32) D) (h28 : v28 = one g) : k0_pay7 (F := Ideal) v3 v28 = L2 (φ := .f32) fun i j => D i j * g j := by
  subst h3 h28
  unfold k0_pay7
  dsimp only
  erw [shapeCast_self_L2, broadcastTo_row_L2, mulf_L2]

theorem pay8 (h : v32 = one a) : k0_pay8 (F := Ideal) v32 = one a := by
  subst h
  unfold k0_pay8
  exact shapeCast_self_L2 _ _

theorem pay9 (h3 : v3 = L2 (φ := .f32) D) (h4 : v4 = L2 (φ := .bf16) X) (h28 : v28 = one g) :
    k0_pay9 (F := Ideal) v3 v4 v28 = L1 (φ := .f32) fun j => ∑ i, D i j * g j * hat (X i) j := by
  unfold k0_pay9
  rw [pay7 h3 h28, pay5 h4]
  dsimp only
  erw [mulf_L2, reduce_rows_L2]

theorem pay10 (h33 : v33 = one a) (h35 : v35 = L1 (φ := .f32) g) : k0_pay10 (F := Ideal) v33 v35 = one fun j => a j + g j := by
  subst h33 h35
  unfold k0_pay10
  dsimp only
  erw [shapeCast_row_L2, addf_L2]

theorem pay11 (h14 : v14 = L2 (φ := .f32) fun i _ => rs (X i)) (h16 : v16 = L2 (φ := .f32) fun i => hat (X i)) (h31 : v31 = L2 (φ := .f32) K) (h39 : v39 = one g) :
    k0_pay11 (F := Ideal) v14 v16 v31 v39 = L2 (φ := .bf16) fun i j => rs (X i) * cen (hat (X i)) (fun k => K i k * g k) j := by
  subst h14 h16 h31 h39
  unfold k0_pay11
  dsimp only
  erw [shapeCast_self_L2, broadcastTo_row_L2, mulf_L2, mulf_L2, reduce_cols_L2, shapeCast_col_L2,
    broadcast_L2 (Scalar.ofBits .f32 0x44800000#32 : Ideal .f32) 1024 c_1024, divf_L2 _ _ (fun _ _ => by norm_num), broadcastTo_col_L2, broadcastTo_col_L2, mulf_L2, subf_L2,
    mulf_L2]
  rfl

theorem pay12 {O : Fin 1024 → Row} (h14 : v14 = L2 (φ := .f32) fun i _ => rs (X i)) (h16 : v16 = L2 (φ := .f32) fun i => hat (X i)) (h31 : v31 = L2 (φ := .f32) K)
    (h39 : v39 = one g) (h55 : v55 = L2 (φ := .bf16) O) :
    k0_pay12 (F := Ideal) v14 v16 v31 v39 v55 = L2 (φ := .f32) fun i j => ∑ l, (rs (X i) * cen (hat (X i)) (fun k => K i k * g k) l) * O j l := by
  unfold k0_pay12
  exact mul_tr (pay11 h14 h16 h31 h39) h55 _

theorem pay14 (h : v67 = L2 (φ := .bf16) Q) : k0_pay14 (F := Ideal) v67 = L2 (φ := .f32) fun i j => 1 + Real.exp (0 - Q i j) := by
  subst h
  unfold k0_pay14
  dsimp only
  erw [ext_L2, broadcast_L2 (Scalar.ofBits .f32 0x00000000#32 : Ideal .f32) 0 c_zero, subf_L2, exp_L2, broadcast_L2 (Scalar.ofBits .f32 0x3F800000#32 : Ideal .f32) 1 c_one, addf_L2]

theorem pay15 (h : v73 = L2 (φ := .f32) fun i j => 1 + Real.exp (0 - Q i j)) : k0_pay15 (F := Ideal) v73 = L2 (φ := .f32) fun i j => sig (Q i j) := by
  subst h
  unfold k0_pay15
  dsimp only
  erw [broadcast_L2 (Scalar.ofBits .f32 0x3F800000#32 : Ideal .f32) 1 c_one, divf_L2 _ _ (fun _ _ => (add_pos one_pos (Real.exp_pos _)).ne')]
  rfl

theorem pay13 (h : v58 = L2 (φ := .bf16) Q) : k0_pay13 (F := Ideal) v58 = L2 (φ := .f32) fun i j => sig (Q i j) := pay15 (pay14 h)

theorem pay16 (h57 : v57 = L2 (φ := .f32) W) (h66 : v66 = L2 (φ := .f32) fun i j => sig (Q i j)) : k0_pay16 (F := Ideal) v57 v66 = L2 (φ := .bf16) fun i => gated (W i) (Q i) := by
  subst h57 h66
  unfold k0_pay16
  dsimp only
  erw [mulf_L2]
  rfl

theorem pay17 (h57 : v57 = L2 (φ := .f32) W) (h73 : v73 = L2 (φ := .f32) fun i j => 1 + Real.exp (0 - Q i j)) :
    k0_pay17 (F := Ideal) v57 v73 = L2 (φ := .bf16) fun i => gated (W i) (Q i) := by
  unfold k0_pay17
  rw [pay15 h73]
  subst h57
  dsimp only
  erw [mulf_L2]
  rfl

theorem pay18 (h57 : v57 = L2 (φ := .f32) W) (h66 : v66 = L2 (φ := .f32) fun i j => sig (Q i j)) (h82 : v82 = L2 (φ := .bf16) Y) :
    k0_pay18 (F := Ideal) v57 v66 v82 = L2 (φ := .bf16) fun i => gate (W i) (Q i) (Y i) := by
  subst h57 h66 h82
  unfold k0_pay18
  dsimp only
  erw [shapeCast_self_L2, ext_L2, mulf_L2, broadcast_L2 (Scalar.ofBits .f32 0x3F800000#32 : Ideal .f32) 1 c_one, subf_L2, mulf_L2, mulf_L2]
  rfl

theorem pay19 (h57 : v57 = L2 (φ := .f32) W) (h73 : v73 = L2 (φ := .f32) fun i j => 1 + Real.exp (0 - Q i j)) (h92 : v92 = L2 (φ := .bf16) Y) :
    k0_pay19 (F := Ideal) v57 v73 v92 = L2 (φ := .bf16) fun i => gate (W i) (Q i) (Y i) := pay18 h57 (pay15 h73) h92

theorem pay20 {U : Fin 512 → Row} (h57 : v57 = L2 (φ := .f32) W) (h66 : v66 = L2 (φ := .f32) fun i j => sig (Q i j)) (h102 : v102 = L2 (φ := .bf16) U) :
    k0_pay20 (F := Ideal) v57 v66 v102 = L2 (φ := .bf16) fun i => back (gated (W i) (Q i)) U := by
  unfold k0_pay20
  exact congrArg (fun x : FVec Ideal S512x512 .f32 => truncf .bf16 x bitsLt_bf16_f32) (mul_tr (pay16 h57 h66) h102 _)

theorem pay1 {U : Fin 512 → Row} {v79 v107 : FVec Ideal S512x1024 .bf16} (h79 : v79 = L2 (φ := .bf16) fun i => gated (W i) (Q i)) (h107 : v107 = L2 (φ := .bf16) U) :
    k0_pay1 (F := Ideal) v79 v107 = L2 (φ := .f32) fun i => back (gated (W i) (Q i)) U := by
  unfold k0_pay1
  exact mul_tr h79 h107 _

theorem pay2 : k0_pay2 (F := Ideal) = L2 (φ := .f32) fun _ _ => 0 := by
  unfold k0_pay2
  exact broadcast_L2 (Scalar.ofBits .f32 0x00000000#32 : Ideal .f32) 0 c_zero

end Payloads

/-- A load of the first half of the gates. -/
theorem rd_lo {sig : RefSig} {a : Memref sig .tc .vmem S512x2048 .bf16} (ha : a.IsWhole) (P : Fin 512 → Fin 2048 → ℝ) (inb) :
    View.readAt (Elt Ideal) a.view (Rect.unit ![0, 0] ![512, 1024] inb).toLoadRect (ha.unread (L2 (φ := .bf16) P)) = L2 (φ := .bf16) fun i => lo (P i) :=
  (rd_cols ha P 0 (by decide) inb).trans (congrArg (L2 (φ := .bf16)) (funext fun i => funext fun j => congrArg (P i) (Fin.ext (Nat.zero_add _))))

/-- A load of the second half. -/
theorem rd_hi {sig : RefSig} {a : Memref sig .tc .vmem S512x2048 .bf16} (ha : a.IsWhole) (P : Fin 512 → Fin 2048 → ℝ) (inb) :
    View.readAt (Elt Ideal) a.view (Rect.unit ![0, 1024] ![512, 1024] inb).toLoadRect (ha.unread (L2 (φ := .bf16) P)) = L2 (φ := .bf16) fun i => hi (P i) :=
  rd_cols ha P 1024 (by decide) inb

/-! ## One point -/

section Point
variable (c : Dev nD) (i : grid0.Coords)
variable {arg1 : Memref sig .tc .vmem S512x1024 .f32} (harg1 : arg1.IsWhole) {arg2 arg3 arg4 : Memref sig .tc .vmem S512x1024 .bf16} (harg2 : arg2.IsWhole) (harg3 : arg3.IsWhole)
  (harg4 : arg4.IsWhole) {arg5 : Memref sig .tc .vmem S512x2048 .bf16} (harg5 : arg5.IsWhole) {arg6 : Memref sig .tc .vmem S16x1024 .f32} (harg6 : arg6.IsWhole)
  {arg7 arg8 : Memref sig .tc .vmem S512x1024 .bf16} (harg7 : arg7.IsWhole) (harg8 : arg8.IsWhole) {arg9 : Memref sig .tc .vmem S1024x1024 .bf16} (harg9 : arg9.IsWhole)
  {arg11 arg12 arg13 : Memref sig .tc .vmem S512x1024 .bf16} (harg11 : arg11.IsWhole) (harg12 : arg12.IsWhole) (harg13 : arg13.IsWhole)
  {arg14 : Memref sig .tc .vmem S512x2048 .bf16} (harg14 : arg14.IsWhole) {arg15 : Memref sig .tc .vmem S512x512 .bf16} (harg15 : arg15.IsWhole)
  {arg16 : Memref sig .tc .vmem S512x512 .f32} (harg16 : arg16.IsWhole) {arg17 : Memref sig .tc .vmem S8x1024 .f32} (harg17 : arg17.IsWhole)
variable (D X Y Z : Fin 512 → Row) (P : Fin 512 → Fin 2048 → ℝ) (V : Fin 16 → Row) (U N : Fin 512 → Row) (O : Fin 1024 → Row)

/-- The block's rows of gradient of the gated projections' sum. -/
abbrev ws : Fin 512 → Row := fun i => dmg (V 2) (V 7) (D i) (X i) O

theorem A_r : kernelRun0_A.sl.r (F := Ideal) c arg2 harg2 (L2 (φ := .bf16) X) = L2 (φ := .f32) fun i _ => rs (X i) := by
  unfold kernelRun0_A.sl.r
  exact pay4 (load harg2 _ _)

theorem A_r1 : kernelRun0_A.sl.r_1 (F := Ideal) c arg2 harg2 (L2 (φ := .bf16) X) = L2 (φ := .f32) fun i => hat (X i) := by
  unfold kernelRun0_A.sl.r_1
  exact pay5 (load harg2 _ _)

theorem A_r2 : kernelRun0_A.sl.r_2 (F := Ideal) c arg1 harg1 arg6 harg6 (L2 (φ := .f32) D) (L2 (φ := .f32) V) = L2 (φ := .f32) fun i j => D i j * V 2 j := by
  unfold kernelRun0_A.sl.r_2
  exact pay7 (load harg1 _ _) (rd_row harg6 V 2 (by decide) _)

theorem A_r4 : kernelRun0_A.sl.r_4 (F := Ideal) c arg1 harg1 arg2 harg2 arg6 harg6 (L2 (φ := .f32) D) (L2 (φ := .bf16) X) (L2 (φ := .f32) V) = L1 (φ := .f32) fun j => ∑ i, D i j * V 2 j * hat (X i) j := by
  unfold kernelRun0_A.sl.r_4
  exact pay9 (load harg1 _ _) (load harg2 _ _) (rd_row harg6 V 2 (by decide) _)

theorem A_r5 : kernelRun0_A.sl.r_5 (F := Ideal) c arg1 harg1 arg2 harg2 arg6 harg6 arg9 harg9 (L2 (φ := .f32) D) (L2 (φ := .bf16) X) (L2 (φ := .f32) V) (L2 (φ := .bf16) O) = L2 (φ := .f32) (ws D X V O) := by
  unfold kernelRun0_A.sl.r_5
  exact pay12 (A_r c harg2 X) (A_r1 c harg2 X) (A_r2 c harg1 harg6 D V) (rd_row harg6 V 7 (by decide) _) (load harg9 _ _)

theorem A_r6 : kernelRun0_A.sl.r_6 (F := Ideal) c arg5 harg5 (L2 (φ := .bf16) P) = L2 (φ := .f32) fun i j => sig (lo (P i) j) := by
  unfold kernelRun0_A.sl.r_6
  exact pay13 (rd_lo harg5 P _)

theorem A_r7 : kernelRun0_A.sl.r_7 (F := Ideal) c arg5 harg5 (L2 (φ := .bf16) P) = L2 (φ := .f32) fun i j => 1 + Real.exp (0 - hi (P i) j) := by
  unfold kernelRun0_A.sl.r_7
  exact pay14 (rd_hi harg5 P _)

theorem A_r8 : kernelRun0_A.sl.r_8 (F := Ideal) c arg1 harg1 arg2 harg2 arg5 harg5 arg6 harg6 arg9 harg9 (L2 (φ := .f32) D) (L2 (φ := .bf16) X) (L2 (φ := .bf16) P) (L2 (φ := .f32) V) (L2 (φ := .bf16) O) = L2 (φ := .bf16) fun i => gated (ws D X V O i) (hi (P i)) := by
  unfold kernelRun0_A.sl.r_8
  exact pay17 (A_r5 c harg1 harg2 harg6 harg9 D X V O) (A_r7 c harg5 P)

theorem B_r : kernelRun0_B.sl.r (F := Ideal) c arg2 harg2 (L2 (φ := .bf16) X) = L2 (φ := .f32) fun i _ => rs (X i) := by
  unfold kernelRun0_B.sl.r
  exact pay4 (load harg2 _ _)

theorem B_r1 : kernelRun0_B.sl.r_1 (F := Ideal) c arg2 harg2 (L2 (φ := .bf16) X) = L2 (φ := .f32) fun i => hat (X i) := by
  unfold kernelRun0_B.sl.r_1
  exact pay5 (load harg2 _ _)

theorem B_r2 : kernelRun0_B.sl.r_2 (F := Ideal) c arg1 harg1 arg6 harg6 (L2 (φ := .f32) D) (L2 (φ := .f32) V) = L2 (φ := .f32) fun i j => D i j * V 2 j := by
  unfold kernelRun0_B.sl.r_2
  exact pay7 (load harg1 _ _) (rd_row harg6 V 2 (by decide) _)

theorem B_r4 : kernelRun0_B.sl.r_4 (F := Ideal) c arg1 harg1 arg2 harg2 arg6 harg6 (L2 (φ := .f32) D) (L2 (φ := .bf16) X) (L2 (φ := .f32) V) = L1 (φ := .f32) fun j => ∑ i, D i j * V 2 j * hat (X i) j := by
  unfold kernelRun0_B.sl.r_4
  exact pay9 (load harg1 _ _) (load harg2 _ _) (rd_row harg6 V 2 (by decide) _)

theorem B_r5 : kernelRun0_B.sl.r_5 (F := Ideal) c arg1 harg1 arg2 harg2 arg6 harg6 arg9 harg9 (L2 (φ := .f32) D) (L2 (φ := .bf16) X) (L2 (φ := .f32) V) (L2 (φ := .bf16) O) = L2 (φ := .f32) (ws D X V O) := by
  unfold kernelRun0_B.sl.r_5
  exact pay12 (B_r c harg2 X) (B_r1 c harg2 X) (B_r2 c harg1 harg6 D V) (rd_row harg6 V 7 (by decide) _) (load harg9 _ _)

theorem B_r6 : kernelRun0_B.sl.r_6 (F := Ideal) c arg5 harg5 (L2 (φ := .bf16) P) = L2 (φ := .f32) fun i j => sig (lo (P i) j) := by
  unfold kernelRun0_B.sl.r_6
  exact pay13 (rd_lo harg5 P _)

theorem B_r7 : kernelRun0_B.sl.r_7 (F := Ideal) c arg5 harg5 (L2 (φ := .bf16) P) = L2 (φ := .f32) fun i j => 1 + Real.exp (0 - hi (P i) j) := by
  unfold kernelRun0_B.sl.r_7
  exact pay14 (rd_hi harg5 P _)

theorem B_r8 : kernelRun0_B.sl.r_8 (F := Ideal) c arg1 harg1 arg2 harg2 arg5 harg5 arg6 harg6 arg9 harg9 (L2 (φ := .f32) D) (L2 (φ := .bf16) X) (L2 (φ := .bf16) P) (L2 (φ := .f32) V) (L2 (φ := .bf16) O) = L2 (φ := .bf16) fun i => gated (ws D X V O i) (hi (P i)) := by
  unfold kernelRun0_B.sl.r_8
  exact pay17 (B_r5 c harg1 harg2 harg6 harg9 D X V O) (B_r7 c harg5 P)

theorem A_H1 (v : View sig .tc .vmem S8x1024 .f32) (f) : v.read (Elt Ideal) (v.writes (Elt Ideal) f (kernelRun0_A.sl.H15_1 (F := Ideal))) = L2 (φ := .f32) fun _ _ => 0 := by
  unfold kernelRun0_A.sl.H15_1
  exact (stored v f [] _ _).trans pay2

theorem A_v17 : kernelRun0_A.sl.v17 (F := Ideal) c arg17 = one fun _ => 0 := by
  unfold kernelRun0_A.sl.v17
  exact rd_cov arg17.view _ (fun _ _ => 0) (A_H1 _ _) 0 (by decide) _

/-- The table after its first row's store. -/
abbrev z1 : Fin 8 → Row := Function.update (fun _ _ => 0) 0 fun j => 0 + ∑ i, D i j * (hat (X i) j * V 7 j)

theorem A_H2 (v : View sig .tc .vmem S8x1024 .f32) (f) :
    v.read (Elt Ideal) (v.writes (Elt Ideal) f (kernelRun0_A.sl.H15_2 (F := Ideal) c arg1 harg1 arg2 harg2 arg6 harg6 arg17 (L2 (φ := .f32) D) (L2 (φ := .bf16) X) (L2 (φ := .f32) V))) = L2 (φ := .f32) (z1 D X V) := by
  unfold kernelRun0_A.sl.H15_2
  exact st_row v f _ _ (A_H1 v f) 0 _ _ _ (pay6 (load harg1 _ _) (load harg2 _ _) (A_v17 c) (rd_row harg6 V 7 (by decide) _))

theorem A_r3 : kernelRun0_A.sl.r_3 (F := Ideal) c arg1 harg1 arg2 harg2 arg6 harg6 arg17 (L2 (φ := .f32) D) (L2 (φ := .bf16) X) (L2 (φ := .f32) V) = one fun _ => 0 := by
  unfold kernelRun0_A.sl.r_3 kernelRun0_A.sl.v32
  exact pay8 ((rd_cov arg17.view _ _ (A_H2 c harg1 harg2 harg6 D X V _ _) 1 (by decide) _).trans (congrArg one (Function.update_of_ne (by decide) _ _)))

section
variable (T : Fin 8 → Row)

theorem B_r3 : kernelRun0_B.sl.r_3 (F := Ideal) c arg17 harg17 (L2 (φ := .f32) T) = one (T 1) := by
  unfold kernelRun0_B.sl.r_3 kernelRun0_B.sl.v32
  exact pay8 (rd_row harg17 T 1 (by decide) _)
end

theorem outA_9 (hc0 : cond0_0 i) : out0_A_9 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O)
    = L2 (φ := .bf16) fun i => dmx (V 2) (V 7) (D i) (X i) := by
  unfold out0_A_9 kernelRun0_A
  dsimp only
  exact (stored _ _ _ _ _).trans (pay11 (A_r c harg2 X) (A_r1 c harg2 X) (A_r2 c harg1 harg6 D V) (rd_row harg6 V 7 (by decide) _))

theorem outA_10 (hc0 : cond0_0 i) : out0_A_10 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O)
    = L2 (φ := .bf16) fun i => gated (ws D X V O i) (lo (P i)) := by
  unfold out0_A_10 kernelRun0_A
  dsimp only
  exact (stored _ _ _ _ _).trans (pay16 (A_r5 c harg1 harg2 harg6 harg9 D X V O) (A_r6 c harg5 P))

theorem outA_11 (hc0 : cond0_0 i) : out0_A_11 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O)
    = L2 (φ := .bf16) fun i => gated (ws D X V O i) (hi (P i)) := by
  unfold out0_A_11 kernelRun0_A
  dsimp only
  exact (stored _ _ _ _ _).trans (pay17 (A_r5 c harg1 harg2 harg6 harg9 D X V O) (A_r7 c harg5 P))

theorem outA_12 (hc0 : cond0_0 i) : out0_A_12 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O)
    = L2 (φ := .bf16) fun i => both (gate (ws D X V O i) (lo (P i)) (Y i)) (gate (ws D X V O i) (hi (P i)) (Z i)) := by
  unfold out0_A_12 kernelRun0_A
  dsimp only
  exact st_both _ _ _ _ _ _ _ _ _ (pay18 (A_r5 c harg1 harg2 harg6 harg9 D X V O) (A_r6 c harg5 P) (load harg3 _ _)) (pay19 (A_r5 c harg1 harg2 harg6 harg9 D X V O) (A_r7 c harg5 P) (load harg4 _ _))

theorem outA_13 (hc0 : cond0_0 i) : out0_A_13 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O)
    = L2 (φ := .bf16) fun i => back (gated (ws D X V O i) (lo (P i))) U := by
  unfold out0_A_13 kernelRun0_A
  dsimp only
  exact (stored _ _ _ _ _).trans (pay20 (A_r5 c harg1 harg2 harg6 harg9 D X V O) (A_r6 c harg5 P) (load harg7 _ _))

theorem outA_14 (hc0 : cond0_0 i) : out0_A_14 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O)
    = L2 (φ := .f32) fun i => back (gated (ws D X V O i) (hi (P i))) N := by
  unfold out0_A_14 kernelRun0_A
  dsimp only
  exact (stored _ _ _ _ _).trans (pay1 (A_r8 c harg1 harg2 harg5 harg6 harg9 D X P V O) (load harg8 _ _))

theorem outA_15 (hc0 : cond0_0 i) : out0_A_15 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O)
    = L2 (φ := .f32) (sums (V 2) (V 7) D X) := by
  unfold out0_A_15 kernelRun0_A
  dsimp only
  refine (st_row _ _ _ _ (A_H2 c harg1 harg2 harg6 D X V _ _) 1 _ _ _ (pay10 (A_r3 c harg1 harg2 harg6 D X V) (A_r4 c harg1 harg2 harg6 D X V))).trans ?_
  refine (congrArg (L2 (φ := .f32)) (upd2 (fun _ _ => 0) (V 2) (V 7) D X)).trans ?_
  exact congrArg (L2 (φ := .f32)) (funext fun k => funext fun j => zero_add _)

theorem outB_9 (hc0 : ¬cond0_0 i) (T : Fin 8 → Row) : out0_B_9 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O) (L2 (φ := .f32) T)
    = L2 (φ := .bf16) fun i => dmx (V 2) (V 7) (D i) (X i) := by
  unfold out0_B_9 kernelRun0_B
  dsimp only
  exact (stored _ _ _ _ _).trans (pay11 (B_r c harg2 X) (B_r1 c harg2 X) (B_r2 c harg1 harg6 D V) (rd_row harg6 V 7 (by decide) _))

theorem outB_10 (hc0 : ¬cond0_0 i) (T : Fin 8 → Row) : out0_B_10 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O) (L2 (φ := .f32) T)
    = L2 (φ := .bf16) fun i => gated (ws D X V O i) (lo (P i)) := by
  unfold out0_B_10 kernelRun0_B
  dsimp only
  exact (stored _ _ _ _ _).trans (pay16 (B_r5 c harg1 harg2 harg6 harg9 D X V O) (B_r6 c harg5 P))

theorem outB_11 (hc0 : ¬cond0_0 i) (T : Fin 8 → Row) : out0_B_11 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O) (L2 (φ := .f32) T)
    = L2 (φ := .bf16) fun i => gated (ws D X V O i) (hi (P i)) := by
  unfold out0_B_11 kernelRun0_B
  dsimp only
  exact (stored _ _ _ _ _).trans (pay17 (B_r5 c harg1 harg2 harg6 harg9 D X V O) (B_r7 c harg5 P))

theorem outB_12 (hc0 : ¬cond0_0 i) (T : Fin 8 → Row) : out0_B_12 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O) (L2 (φ := .f32) T)
    = L2 (φ := .bf16) fun i => both (gate (ws D X V O i) (lo (P i)) (Y i)) (gate (ws D X V O i) (hi (P i)) (Z i)) := by
  unfold out0_B_12 kernelRun0_B
  dsimp only
  exact st_both _ _ _ _ _ _ _ _ _ (pay18 (B_r5 c harg1 harg2 harg6 harg9 D X V O) (B_r6 c harg5 P) (load harg3 _ _)) (pay19 (B_r5 c harg1 harg2 harg6 harg9 D X V O) (B_r7 c harg5 P) (load harg4 _ _))

theorem outB_13 (hc0 : ¬cond0_0 i) (T : Fin 8 → Row) : out0_B_13 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O) (L2 (φ := .f32) T)
    = L2 (φ := .bf16) fun i => back (gated (ws D X V O i) (lo (P i))) U := by
  unfold out0_B_13 kernelRun0_B
  dsimp only
  exact (stored _ _ _ _ _).trans (pay20 (B_r5 c harg1 harg2 harg6 harg9 D X V O) (B_r6 c harg5 P) (load harg7 _ _))

theorem outB_14 (hc0 : ¬cond0_0 i) (T : Fin 8 → Row) : out0_B_14 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O) (L2 (φ := .f32) T)
    = L2 (φ := .f32) fun i => back (gated (ws D X V O i) (hi (P i))) N := by
  unfold out0_B_14 kernelRun0_B
  dsimp only
  exact (stored _ _ _ _ _).trans (pay1 (B_r8 c harg1 harg2 harg5 harg6 harg9 D X P V O) (load harg8 _ _))

theorem outB_15 (hc0 : ¬cond0_0 i) (T : Fin 8 → Row) : out0_B_15 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 hc0 (L2 (φ := .f32) D) (L2 (φ := .bf16) X) (L2 (φ := .bf16) Y) (L2 (φ := .bf16) Z) (L2 (φ := .bf16) P) (L2 (φ := .f32) V) (L2 (φ := .bf16) U) (L2 (φ := .bf16) N) (L2 (φ := .bf16) O) (L2 (φ := .f32) T)
    = L2 (φ := .f32) fun k j => T k j + sums (V 2) (V 7) D X k j := by
  unfold out0_B_15 kernelRun0_B
  dsimp only
  refine (st_row _ _ _ _ (st_row _ _ _ _ (harg17.read_unread _) 0 _ _ _ (pay6 (load harg1 _ _) (load harg2 _ _) (rd_row harg17 T 0 (by decide) _) (rd_row harg6 V 7 (by decide) _))) 1 _ _ _
    (pay10 (B_r3 c harg17 T) (B_r4 c harg1 harg2 harg6 D X V))).trans ?_
  exact congrArg (L2 (φ := .f32)) (upd2 T (V 2) (V 7) D X)

end Point

end Cert.MixBwd

end

end
-- ==== Proof.MixBwdR.lean ====
/- The mixer's output, backward: the reference's values, operation by operation, on arrays of reals. -/
module

public import proofs.«01_k».proof.Proof.Gen.Reference9Ideal.Read
public import proofs.«01_k».proof.Proof.RefA
public import proofs.«01_k».proof.Proof.MixRows

@[expose] public section

set_option maxRecDepth 16384

noncomputable section

namespace Cert.MixBwd

open Idealize.ShloMosaic Idealize.ShloMosaic.ValueIdx Cert.Reference9Ideal Cert.Reference9Ideal.Read Cert.Lift Cert.Ffn Cert.Cells
open Cert.RefVal (rsqrt_coe dot_aux red_aux shapeCast_flat_L2)
open scoped BigOperators

/-- The nine arguments as arrays of reals. -/
structure In where
  D : Fin 8192 → Row
  A : Fin 8192 → Fin 512 → ℝ
  B : Fin 8192 → Fin 512 → ℝ
  P : Fin 8192 → Fin 2048 → ℝ
  M : Fin 6 → Row
  G : Fin 4 → Row
  U : Fin 512 → Row
  N : Fin 512 → Row
  O : Fin 1024 → Row

/-- The arguments as the programs hold them. -/
abbrev In.aD (I : In) : (⟨S8192x1024, .f32⟩ : BufTy).Contents (Elt Ideal) := L2 (φ := .f32) I.D
abbrev In.aA (I : In) : (⟨S8192x512, .bf16⟩ : BufTy).Contents (Elt Ideal) := L2 (φ := .bf16) I.A
abbrev In.aB (I : In) : (⟨S8192x512, .bf16⟩ : BufTy).Contents (Elt Ideal) := L2 (φ := .bf16) I.B
abbrev In.aP (I : In) : (⟨S8192x2048, .bf16⟩ : BufTy).Contents (Elt Ideal) := L2 (φ := .bf16) I.P
abbrev In.aM (I : In) : (⟨S6x1024, .f32⟩ : BufTy).Contents (Elt Ideal) := L2 (φ := .f32) I.M
abbrev In.aG (I : In) : (⟨S4x1024, .f32⟩ : BufTy).Contents (Elt Ideal) := L2 (φ := .f32) I.G
abbrev In.aU (I : In) : (⟨S512x1024, .f32⟩ : BufTy).Contents (Elt Ideal) := L2 (φ := .f32) I.U
abbrev In.aN (I : In) : (⟨S512x1024, .f32⟩ : BufTy).Contents (Elt Ideal) := L2 (φ := .f32) I.N
abbrev In.aO (I : In) : (⟨S1024x1024, .f32⟩ : BufTy).Contents (Elt Ideal) := L2 (φ := .f32) I.O

/-- Every row of the mixer's output. -/
def mx (I : In) : Fin 8192 → Row := fun r => fin (merge (I.P r) (up (I.A r) I.U) (up (I.B r) I.N)) I.O

/-- Every row's gradient of the gated projections' sum. -/
def wr (I : In) : Fin 8192 → Row := fun r => dmg (I.M 2) (I.G 1) (I.D r) (mx I r) I.O

theorem join_cols (A B : Fin 8192 → Row) (h : Shape.Concatenates [S8192x1024, S8192x1024] S8192x2048 1) :
    concatenate S8192x2048 1 [⟨S8192x1024, (L2 (φ := .f32) A : FVec Ideal S8192x1024 .f32)⟩, ⟨S8192x1024, (L2 (φ := .f32) B : FVec Ideal S8192x1024 .f32)⟩] h
      = (L2 (φ := .f32) (fun i j => both (A i) (B i) j) : FVec Ideal S8192x2048 .f32) :=
  eq_L2 fun a b => by
    have hb := b.isLt
    by_cases h1 : b.val < 1024
    · refine (concatenate_pair_apply_left 1 _ _ h (ix2 a b) rfl (ix2 a ⟨b.val, h1⟩)
        (fun x => match x with | ⟨0, _⟩ => rfl | ⟨1, _⟩ => rfl)).trans ?_
      refine congrArg (fun x : ℝ => (x : EReal)) ?_
      show A a ⟨b.val, h1⟩ = both (A a) (B a) b
      unfold both
      rw [dif_pos h1]
    · refine (concatenate_pair_apply_right 1 _ _ h (ix2 a b) rfl rfl (ix2 a ⟨b.val - 1024, by omega⟩)
        (fun x hx => match x with | ⟨0, _⟩ => rfl | ⟨1, _⟩ => absurd rfl hx) (show b.val - 1024 + 1024 = b.val by omega)).trans ?_
      refine congrArg (fun x : ℝ => (x : EReal)) ?_
      show B a ⟨b.val - 1024, _⟩ = both (A a) (B a) b
      unfold both
      rw [dif_neg h1]

/-- Two rows in order. -/
def row2 (a b : Row) : Fin 2 → Row := fun k => match k.val with
  | 0 => a | _ => b

theorem join_rows (a b : Row) (h : Shape.Concatenates [S1x1024, S1x1024] S2x1024 0) :
    concatenate S2x1024 0 [⟨S1x1024, (L2 (φ := .f32) (fun _ j => a j) : FVec Ideal S1x1024 .f32)⟩, ⟨S1x1024, (L2 (φ := .f32) (fun _ j => b j) : FVec Ideal S1x1024 .f32)⟩] h
      = (L2 (φ := .f32) (fun i j => row2 a b i j) : FVec Ideal S2x1024 .f32) :=
  eq_L2 fun k j => by
    match k with
    | ⟨0, _⟩ =>
      exact concatenate_pair_apply_left 0 _ _ h (ix2 0 j) rfl (ix2 0 j) (fun x => match x with | ⟨0, _⟩ => rfl | ⟨1, _⟩ => rfl)
    | ⟨1, _⟩ =>
      exact concatenate_pair_apply_right 0 _ _ h (ix2 1 j) rfl rfl (ix2 0 j) (fun x hx => match x with | ⟨0, _⟩ => absurd rfl hx | ⟨1, _⟩ => rfl) rfl

theorem join_zero (gt gp : Row) (D X : Fin 8192 → Row) (h : Shape.Concatenates [S2x1024, S6x1024] S8x1024 0) :
    concatenate S8x1024 0 [⟨S2x1024, (L2 (φ := .f32) (fun i j => row2 (fun j => ∑ r, D r j * (hat (X r) j * gp j)) (fun j => ∑ r, D r j * gt j * hat (X r) j) i j) : FVec Ideal S2x1024 .f32)⟩,
        ⟨S6x1024, (L2 (φ := .f32) (fun _ _ => 0) : FVec Ideal S6x1024 .f32)⟩] h
      = (L2 (φ := .f32) (fun i j => sums gt gp D X i j) : FVec Ideal S8x1024 .f32) :=
  eq_L2 fun k j => by
    by_cases h2 : k.val < 2
    · refine (concatenate_pair_apply_left 0 _ _ h (ix2 k j) rfl (ix2 ⟨k.val, h2⟩ j)
        (fun x => match x with | ⟨0, _⟩ => rfl | ⟨1, _⟩ => rfl)).trans ?_
      refine congrArg (fun x : ℝ => (x : EReal)) ?_
      match k, h2 with
      | ⟨0, _⟩, _ => rfl
      | ⟨1, _⟩, _ => rfl
    · have hk := k.isLt
      refine (concatenate_pair_apply_right 0 _ _ h (ix2 k j) rfl rfl (ix2 ⟨k.val - 2, by omega⟩ j)
        (fun x hx => match x with | ⟨0, _⟩ => absurd rfl hx | ⟨1, _⟩ => rfl) (show k.val - 2 + 2 = k.val by omega)).trans ?_
      refine congrArg (fun x : ℝ => (x : EReal)) ?_
      match k, h2 with
      | ⟨0, _⟩, h => exact absurd (by show (0 : ℕ) < 2; decide) h
      | ⟨1, _⟩, h => exact absurd (by show (1 : ℕ) < 2; decide) h
      | ⟨2, _⟩, _ => rfl
      | ⟨3, _⟩, _ => rfl
      | ⟨4, _⟩, _ => rfl
      | ⟨5, _⟩, _ => rfl
      | ⟨6, _⟩, _ => rfl
      | ⟨7, _⟩, _ => rfl

theorem r_v0 (I : In) : val_main_v0 (F := Ideal) I.aP = L2 (φ := .f32) (fun i j => I.P i j) := eq_L2 fun i j => by
  rw [val_main_v0_apply]
  exact rfl

theorem r_cst (I : In) : val_main_cst (F := Ideal) = L0 (φ := .f32) 0 := by
  funext i; exact c_zero

theorem r_v1 (I : In) : val_main_v1 (F := Ideal) = L2 (φ := .f32) (fun _ _ => 0) := eq_L2 fun i j => by
  rw [val_main_v1_apply, r_cst I]
  exact rfl

theorem r_v2 (I : In) : val_main_v2 (F := Ideal) I.aA = L2 (φ := .f32) (fun i j => I.A i j) := eq_L2 fun i j => by
  rw [val_main_v2_apply]
  exact rfl

theorem r_v3 (I : In) : val_main_v3 (F := Ideal) I.aB = L2 (φ := .f32) (fun i j => I.B i j) := eq_L2 fun i j => by
  rw [val_main_v3_apply]
  exact rfl

theorem r_v4 (I : In) : val_main_v4 (F := Ideal) I.aP = L2 (φ := .f32) (fun i j => lo (I.P i) j) := eq_L2 fun i j => by
  rw [val_main_v4_apply, r_v0 I]
  exact (rfl).trans (congrArg _ (rfl))

theorem r_v5 (I : In) : val_main_v5 (F := Ideal) I.aP = L2 (φ := .f32) (fun i j => hi (I.P i) j) := eq_L2 fun i j => by
  rw [val_main_v5_apply, r_v0 I]
  exact (rfl).trans (congrArg _ (rfl))

theorem r_v6 (I : In) : val_main_v6 (F := Ideal) I.aM = L2 (φ := .f32) (fun _ j => I.M 2 j) := eq_L2 fun i j => by
  rw [val_main_v6_apply]
  exact congrArg (fun k : Fin 6 => ((I.M k j : ℝ) : EReal)) (Fin.ext (by have := i.isLt; show 2 + i.val = 2; omega))

theorem r_v7 (I : In) : val_main_v7 (F := Ideal) I.aM = L1 (φ := .f32) (fun j => I.M 2 j) := by
  unfold val_main_v7; rw [r_v6 I]; exact shapeCast_flat_L2 _ _

theorem r_v8 (I : In) : val_main_v8 (F := Ideal) I.aG = L2 (φ := .f32) (fun _ j => I.G 1 j) := eq_L2 fun i j => by
  rw [val_main_v8_apply]
  exact congrArg (fun k : Fin 4 => ((I.G k j : ℝ) : EReal)) (Fin.ext (by have := i.isLt; show 1 + i.val = 1; omega))

theorem r_v9 (I : In) : val_main_v9 (F := Ideal) I.aG = L1 (φ := .f32) (fun j => I.G 1 j) := by
  unfold val_main_v9; rw [r_v8 I]; exact shapeCast_flat_L2 _ _

theorem r_v10 (I : In) : val_main_v10 (F := Ideal) I.aP = L2 (φ := .f32) (fun i j => -(lo (I.P i) j)) := eq_L2 fun i j => by
  rw [val_main_v10_apply, r_v4 I]
  exact (EReal.coe_neg _).symm

theorem r_v11 (I : In) : val_main_v11 (F := Ideal) I.aP = L2 (φ := .f32) (fun i j => Real.exp (-(lo (I.P i) j))) := eq_L2 fun i j => by
  rw [val_main_v11_apply, r_v10 I]
  exact rfl

theorem r_cst_0 (I : In) : val_main_cst_0 (F := Ideal) = L0 (φ := .f32) 1 := by
  funext i; exact c_one

theorem r_v12 (I : In) : val_main_v12 (F := Ideal) = L2 (φ := .f32) (fun _ _ => 1) := eq_L2 fun i j => by
  rw [val_main_v12_apply, r_cst_0 I]
  exact rfl

theorem r_v13 (I : In) : val_main_v13 (F := Ideal) I.aP = L2 (φ := .f32) (fun i j => 1 + (Real.exp (-(lo (I.P i) j)))) := eq_L2 fun i j => by
  rw [val_main_v13_apply, r_v12 I, r_v11 I]
  exact (EReal.coe_add _ _).symm

theorem r_cst_1 (I : In) : val_main_cst_1 (F := Ideal) = L0 (φ := .f32) 1 := by
  funext i; exact c_one

theorem r_v14 (I : In) : val_main_v14 (F := Ideal) = L2 (φ := .f32) (fun _ _ => 1) := eq_L2 fun i j => by
  rw [val_main_v14_apply, r_cst_1 I]
  exact rfl

theorem r_v15 (I : In) : val_main_v15 (F := Ideal) I.aP = L2 (φ := .f32) (fun i j => sig (lo (I.P i) j)) := eq_L2 fun i j => by
  rw [val_main_v15_apply, r_v14 I, r_v13 I]
  exact (div_coe _ _ ((add_pos one_pos (Real.exp_pos _)).ne')).trans (congrArg _ (sig_eq _))

theorem r_cst_2 (I : In) : val_main_cst_2 (F := Ideal) = L0 (φ := .f32) 1 := by
  funext i; exact c_one

theorem r_v16 (I : In) : val_main_v16 (F := Ideal) = L2 (φ := .f32) (fun _ _ => 1) := eq_L2 fun i j => by
  rw [val_main_v16_apply, r_cst_2 I]
  exact rfl

theorem r_v17 (I : In) : val_main_v17 (F := Ideal) I.aP = L2 (φ := .f32) (fun i j => 1 - (sig (lo (I.P i) j))) := eq_L2 fun i j => by
  rw [val_main_v17_apply, r_v16 I, r_v15 I]
  exact (EReal.coe_sub _ _).symm

theorem r_v18 (I : In) : val_main_v18 (F := Ideal) I.aP = L2 (φ := .f32) (fun i j => (sig (lo (I.P i) j)) * (1 - (sig (lo (I.P i) j)))) := eq_L2 fun i j => by
  rw [val_main_v18_apply, r_v15 I, r_v17 I]
  exact (EReal.coe_mul _ _).symm

theorem r_v19 (I : In) : val_main_v19 (F := Ideal) I.aA I.aU = L2 (φ := .f32) (fun i j => ∑ k, (I.A i k) * (I.U k j)) := eq_L2 fun i j => by
  rw [val_main_v19_apply, r_v2 I]
  exact dot_aux _ _

theorem r_v20 (I : In) : val_main_v20 (F := Ideal) I.aA I.aU = L2 (φ := .f32) (fun i j => up (I.A i) I.U j) := eq_L2 fun i j => by
  rw [val_main_v20_apply, r_v19 I, r_v1 I]
  exact ((EReal.coe_add _ _).symm).trans (congrArg _ (add_zero _))

theorem r_v21 (I : In) : val_main_v21 (F := Ideal) I.aA I.aP I.aU = L2 (φ := .f32) (fun i j => (sig (lo (I.P i) j)) * (up (I.A i) I.U j)) := eq_L2 fun i j => by
  rw [val_main_v21_apply, r_v15 I, r_v20 I]
  exact (EReal.coe_mul _ _).symm

theorem r_v22 (I : In) : val_main_v22 (F := Ideal) I.aP = L2 (φ := .f32) (fun i j => -(hi (I.P i) j)) := eq_L2 fun i j => by
  rw [val_main_v22_apply, r_v5 I]
  exact (EReal.coe_neg _).symm

theorem r_v23 (I : In) : val_main_v23 (F := Ideal) I.aP = L2 (φ := .f32) (fun i j => Real.exp (-(hi (I.P i) j))) := eq_L2 fun i j => by
  rw [val_main_v23_apply, r_v22 I]
  exact rfl

theorem r_cst_3 (I : In) : val_main_cst_3 (F := Ideal) = L0 (φ := .f32) 1 := by
  funext i; exact c_one

theorem r_v24 (I : In) : val_main_v24 (F := Ideal) = L2 (φ := .f32) (fun _ _ => 1) := eq_L2 fun i j => by
  rw [val_main_v24_apply, r_cst_3 I]
  exact rfl

theorem r_v25 (I : In) : val_main_v25 (F := Ideal) I.aP = L2 (φ := .f32) (fun i j => 1 + (Real.exp (-(hi (I.P i) j)))) := eq_L2 fun i j => by
  rw [val_main_v25_apply, r_v24 I, r_v23 I]
  exact (EReal.coe_add _ _).symm

theorem r_cst_4 (I : In) : val_main_cst_4 (F := Ideal) = L0 (φ := .f32) 1 := by
  funext i; exact c_one

theorem r_v26 (I : In) : val_main_v26 (F := Ideal) = L2 (φ := .f32) (fun _ _ => 1) := eq_L2 fun i j => by
  rw [val_main_v26_apply, r_cst_4 I]
  exact rfl

theorem r_v27 (I : In) : val_main_v27 (F := Ideal) I.aP = L2 (φ := .f32) (fun i j => sig (hi (I.P i) j)) := eq_L2 fun i j => by
  rw [val_main_v27_apply, r_v26 I, r_v25 I]
  exact (div_coe _ _ ((add_pos one_pos (Real.exp_pos _)).ne')).trans (congrArg _ (sig_eq _))

theorem r_cst_5 (I : In) : val_main_cst_5 (F := Ideal) = L0 (φ := .f32) 1 := by
  funext i; exact c_one

theorem r_v28 (I : In) : val_main_v28 (F := Ideal) = L2 (φ := .f32) (fun _ _ => 1) := eq_L2 fun i j => by
  rw [val_main_v28_apply, r_cst_5 I]
  exact rfl

theorem r_v29 (I : In) : val_main_v29 (F := Ideal) I.aP = L2 (φ := .f32) (fun i j => 1 - (sig (hi (I.P i) j))) := eq_L2 fun i j => by
  rw [val_main_v29_apply, r_v28 I, r_v27 I]
  exact (EReal.coe_sub _ _).symm

theorem r_v30 (I : In) : val_main_v30 (F := Ideal) I.aP = L2 (φ := .f32) (fun i j => (sig (hi (I.P i) j)) * (1 - (sig (hi (I.P i) j)))) := eq_L2 fun i j => by
  rw [val_main_v30_apply, r_v27 I, r_v29 I]
  exact (EReal.coe_mul _ _).symm

theorem r_v31 (I : In) : val_main_v31 (F := Ideal) I.aB I.aN = L2 (φ := .f32) (fun i j => ∑ k, (I.B i k) * (I.N k j)) := eq_L2 fun i j => by
  rw [val_main_v31_apply, r_v3 I]
  exact dot_aux _ _

theorem r_v32 (I : In) : val_main_v32 (F := Ideal) I.aB I.aN = L2 (φ := .f32) (fun i j => up (I.B i) I.N j) := eq_L2 fun i j => by
  rw [val_main_v32_apply, r_v31 I, r_v1 I]
  exact ((EReal.coe_add _ _).symm).trans (congrArg _ (add_zero _))

theorem r_v33 (I : In) : val_main_v33 (F := Ideal) I.aB I.aP I.aN = L2 (φ := .f32) (fun i j => (sig (hi (I.P i) j)) * (up (I.B i) I.N j)) := eq_L2 fun i j => by
  rw [val_main_v33_apply, r_v27 I, r_v32 I]
  exact (EReal.coe_mul _ _).symm

theorem r_v34 (I : In) : val_main_v34 (F := Ideal) I.aA I.aB I.aP I.aU I.aN = L2 (φ := .f32) (fun i j => merge (I.P i) (up (I.A i) I.U) (up (I.B i) I.N) j) := eq_L2 fun i j => by
  rw [val_main_v34_apply, r_v21 I, r_v33 I]
  exact ((EReal.coe_add _ _).symm).trans (congrArg _ (rfl))

theorem r_v35 (I : In) : val_main_v35 (F := Ideal) I.aA I.aB I.aP I.aU I.aN I.aO = L2 (φ := .f32) (fun i j => ∑ k, (merge (I.P i) (up (I.A i) I.U) (up (I.B i) I.N) k) * (I.O k j)) := eq_L2 fun i j => by
  rw [val_main_v35_apply, r_v34 I]
  exact dot_aux _ _

theorem r_v36 (I : In) : val_main_v36 (F := Ideal) I.aA I.aB I.aP I.aU I.aN I.aO = L2 (φ := .f32) (fun i j => mx I i j) := eq_L2 fun i j => by
  rw [val_main_v36_apply, r_v35 I, r_v1 I]
  exact ((EReal.coe_add _ _).symm).trans (congrArg _ (add_zero _))

theorem r_v37 (I : In) : val_main_v37 (F := Ideal) I.aM = L2 (φ := .f32) (fun _ j => I.M 2 j) := eq_L2 fun i j => by
  rw [val_main_v37_apply, r_v7 I]
  exact rfl

theorem r_v38 (I : In) : val_main_v38 (F := Ideal) I.aA I.aB I.aP I.aU I.aN I.aO = L2 (φ := .f32) (fun i j => (mx I i j) * (mx I i j)) := eq_L2 fun i j => by
  rw [val_main_v38_apply, r_v36 I]
  exact (EReal.coe_mul _ _).symm

theorem r_cst_6 (I : In) : val_main_cst_6 (F := Ideal) = L0 (φ := .f32) 0 := by
  funext i; exact c_zero

theorem r_v39 (I : In) : val_main_v39 (F := Ideal) I.aA I.aB I.aP I.aU I.aN I.aO = L1 (φ := .f32) (fun i => ∑ k, mx I i k * mx I i k) := eq_L1 fun i => by
  rw [val_main_v39_apply, r_v38 I, r_cst_6 I]
  exact (red_aux _ rfl _).trans (congrArg _ (rfl))

theorem r_v40 (I : In) : val_main_v40 (F := Ideal) I.aA I.aB I.aP I.aU I.aN I.aO = L2 (φ := .f32) (fun i _ => ∑ k, mx I i k * mx I i k) := eq_L2 fun i j => by
  rw [val_main_v40_apply, r_v39 I]
  exact rfl

theorem r_cst_7 (I : In) : val_main_cst_7 (F := Ideal) = L0 (φ := .f32) 1024 := by
  funext i; exact c_1024

theorem r_v41 (I : In) : val_main_v41 (F := Ideal) = L2 (φ := .f32) (fun _ _ => 1024) := eq_L2 fun i j => by
  rw [val_main_v41_apply, r_cst_7 I]
  exact rfl

theorem r_v42 (I : In) : val_main_v42 (F := Ideal) I.aA I.aB I.aP I.aU I.aN I.aO = L2 (φ := .f32) (fun i _ => (∑ k, mx I i k * mx I i k) / 1024) := eq_L2 fun i j => by
  rw [val_main_v42_apply, r_v40 I, r_v41 I]
  exact div_coe _ _ (by norm_num)

theorem r_cst_8 (I : In) : val_main_cst_8 (F := Ideal) = L0 (φ := .f32) eps := by
  funext i; exact c_eps

theorem r_v43 (I : In) : val_main_v43 (F := Ideal) = L2 (φ := .f32) (fun _ _ => eps) := eq_L2 fun i j => by
  rw [val_main_v43_apply, r_cst_8 I]
  exact rfl

theorem r_v44 (I : In) : val_main_v44 (F := Ideal) I.aA I.aB I.aP I.aU I.aN I.aO = L2 (φ := .f32) (fun i _ => ((∑ k, mx I i k * mx I i k) / 1024) + eps) := eq_L2 fun i j => by
  rw [val_main_v44_apply, r_v42 I, r_v43 I]
  exact (EReal.coe_add _ _).symm

theorem r_v45 (I : In) : val_main_v45 (F := Ideal) I.aA I.aB I.aP I.aU I.aN I.aO = L2 (φ := .f32) (fun i _ => rs (mx I i)) := eq_L2 fun i j => by
  rw [val_main_v45_apply, r_v44 I]
  exact (rsqrt_coe _ (ms_pos _)).trans (congrArg _ (rfl))

theorem r_v46 (I : In) : val_main_v46 (F := Ideal) I.aA I.aB I.aP I.aU I.aN I.aO = L2 (φ := .f32) (fun i _ => rs (mx I i) * (rs (mx I i) * rs (mx I i))) := eq_L2 fun i j => by
  rw [val_main_v46_apply, r_v45 I, r_v44 I]
  exact (div_coe _ _ ((ms_pos _).ne')).trans (congrArg _ (rs_div _))

theorem r_cst_9 (I : In) : val_main_cst_9 (F := Ideal) = L0 (φ := .f32) (-(1 / 2)) := by
  funext i; exact c_neghalf

theorem r_v47 (I : In) : val_main_v47 (F := Ideal) = L2 (φ := .f32) (fun _ _ => (-(1 / 2))) := eq_L2 fun i j => by
  rw [val_main_v47_apply, r_cst_9 I]
  exact rfl

theorem r_v48 (I : In) : val_main_v48 (F := Ideal) I.aA I.aB I.aP I.aU I.aN I.aO = L2 (φ := .f32) (fun i _ => ((-(1 / 2))) * (rs (mx I i) * (rs (mx I i) * rs (mx I i)))) := eq_L2 fun i j => by
  rw [val_main_v48_apply, r_v47 I, r_v46 I]
  exact (EReal.coe_mul _ _).symm

theorem r_v49 (I : In) : val_main_v49 (F := Ideal) I.aA I.aB I.aP I.aU I.aN I.aO = L2 (φ := .f32) (fun i _ => rs (mx I i)) := eq_L2 fun i j => by
  rw [val_main_v49_apply, r_v45 I]
  exact rfl

theorem r_v50 (I : In) : val_main_v50 (F := Ideal) I.aA I.aB I.aP I.aU I.aN I.aO = L2 (φ := .f32) (fun i j => hat (mx I i) j) := eq_L2 fun i j => by
  rw [val_main_v50_apply, r_v36 I, r_v49 I]
  exact ((EReal.coe_mul _ _).symm).trans (congrArg _ (rfl))

theorem r_v51 (I : In) : val_main_v51 (F := Ideal) I.aG = L2 (φ := .f32) (fun _ j => I.G 1 j) := eq_L2 fun i j => by
  rw [val_main_v51_apply, r_v9 I]
  exact rfl

theorem r_v52 (I : In) : val_main_v52 (F := Ideal) I.aG = L2 (φ := .f32) (fun _ j => I.G 1 j) := eq_L2 fun i j => by
  rw [val_main_v52_apply, r_v51 I]
  exact rfl

theorem r_v53 (I : In) : val_main_v53 (F := Ideal) I.aA I.aB I.aP I.aG I.aU I.aN I.aO = L2 (φ := .f32) (fun i j => (hat (mx I i) j) * (I.G 1 j)) := eq_L2 fun i j => by
  rw [val_main_v53_apply, r_v50 I, r_v52 I]
  exact (EReal.coe_mul _ _).symm

theorem r_v56 (I : In) : val_main_v56 (F := Ideal) I.aM = L2 (φ := .f32) (fun _ j => I.M 2 j) := eq_L2 fun i j => by
  rw [val_main_v56_apply, r_v37 I]
  exact rfl

theorem r_v57 (I : In) : val_main_v57 (F := Ideal) I.aD I.aM = L2 (φ := .f32) (fun i j => I.D i j * I.M 2 j) := eq_L2 fun i j => by
  rw [val_main_v57_apply, r_v56 I]
  exact ((EReal.coe_mul _ _).symm).trans (congrArg _ (mul_comm _ _))

theorem r_v58 (I : In) : val_main_v58 (F := Ideal) I.aD I.aA I.aB I.aP I.aG I.aU I.aN I.aO = L2 (φ := .f32) (fun i j => I.D i j * (hat (mx I i) j * I.G 1 j)) := eq_L2 fun i j => by
  rw [val_main_v58_apply, r_v53 I]
  exact ((EReal.coe_mul _ _).symm).trans (congrArg _ (rfl))

theorem r_cst_10 (I : In) : val_main_cst_10 (F := Ideal) = L0 (φ := .f32) 0 := by
  funext i; exact c_zero

theorem r_v59 (I : In) : val_main_v59 (F := Ideal) I.aD I.aA I.aB I.aP I.aG I.aU I.aN I.aO = L1 (φ := .f32) (fun j => ∑ r, I.D r j * (hat (mx I r) j * I.G 1 j)) := eq_L1 fun j => by
  rw [val_main_v59_apply, r_v58 I, r_cst_10 I]
  exact (red_aux _ rfl _).trans (congrArg _ (rfl))

theorem r_v60 (I : In) : val_main_v60 (F := Ideal) I.aD I.aA I.aB I.aP I.aG I.aU I.aN I.aO = L2 (φ := .f32) (fun _ j => ∑ r, I.D r j * (hat (mx I r) j * I.G 1 j)) := by
  unfold val_main_v60; rw [r_v59 I]; exact shapeCast_row_L2 _ _

theorem r_v61 (I : In) : val_main_v61 (F := Ideal) I.aD I.aA I.aB I.aP I.aM I.aU I.aN I.aO = L2 (φ := .f32) (fun i j => I.D i j * I.M 2 j * hat (mx I i) j) := eq_L2 fun i j => by
  rw [val_main_v61_apply, r_v50 I, r_v57 I]
  exact ((EReal.coe_mul _ _).symm).trans (congrArg _ (mul_comm _ _))

theorem r_cst_11 (I : In) : val_main_cst_11 (F := Ideal) = L0 (φ := .f32) 0 := by
  funext i; exact c_zero

theorem r_v62 (I : In) : val_main_v62 (F := Ideal) I.aD I.aA I.aB I.aP I.aM I.aU I.aN I.aO = L1 (φ := .f32) (fun j => ∑ r, I.D r j * I.M 2 j * hat (mx I r) j) := eq_L1 fun j => by
  rw [val_main_v62_apply, r_v61 I, r_cst_11 I]
  exact (red_aux _ rfl _).trans (congrArg _ (rfl))

theorem r_v63 (I : In) : val_main_v63 (F := Ideal) I.aD I.aA I.aB I.aP I.aM I.aU I.aN I.aO = L2 (φ := .f32) (fun _ j => ∑ r, I.D r j * I.M 2 j * hat (mx I r) j) := by
  unfold val_main_v63; rw [r_v62 I]; exact shapeCast_row_L2 _ _

theorem r_v64 (I : In) : val_main_v64 (F := Ideal) I.aG = L2 (φ := .f32) (fun _ j => I.G 1 j) := eq_L2 fun i j => by
  rw [val_main_v64_apply, r_v51 I]
  exact rfl

theorem r_v65 (I : In) : val_main_v65 (F := Ideal) I.aD I.aM I.aG = L2 (φ := .f32) (fun i j => I.D i j * I.M 2 j * I.G 1 j) := eq_L2 fun i j => by
  rw [val_main_v65_apply, r_v57 I, r_v64 I]
  exact ((EReal.coe_mul _ _).symm).trans (congrArg _ (rfl))

theorem r_cst_12 (I : In) : val_main_cst_12 (F := Ideal) = L0 (φ := .f32) 0 := by
  funext i; exact c_zero

theorem r_v66 (I : In) : val_main_v66 (F := Ideal) I.aD I.aA I.aB I.aP I.aM I.aU I.aN I.aO = L1 (φ := .f32) (fun j => ∑ r, I.D r j * I.M 2 j * hat (mx I r) j) := eq_L1 fun j => by
  rw [val_main_v66_apply, r_v63 I, r_cst_12 I]
  exact (red_aux _ rfl (fun _ => _)).trans (congrArg _ (Fin.sum_univ_one _))

theorem r_v67 (I : In) : val_main_v67 (F := Ideal) I.aD I.aA I.aB I.aP I.aM I.aG I.aU I.aN I.aO = L2 (φ := .f32) (fun i j => mx I i j * (I.D i j * I.M 2 j * I.G 1 j)) := eq_L2 fun i j => by
  rw [val_main_v67_apply, r_v36 I, r_v65 I]
  exact ((EReal.coe_mul _ _).symm).trans (congrArg _ (rfl))

theorem r_cst_13 (I : In) : val_main_cst_13 (F := Ideal) = L0 (φ := .f32) 0 := by
  funext i; exact c_zero

theorem r_v68 (I : In) : val_main_v68 (F := Ideal) I.aD I.aA I.aB I.aP I.aM I.aG I.aU I.aN I.aO = L1 (φ := .f32) (fun i => ∑ k, mx I i k * (I.D i k * I.M 2 k * I.G 1 k)) := eq_L1 fun i => by
  rw [val_main_v68_apply, r_v67 I, r_cst_13 I]
  exact (red_aux _ rfl _).trans (congrArg _ (rfl))

theorem r_v69 (I : In) : val_main_v69 (F := Ideal) I.aD I.aA I.aB I.aP I.aM I.aG I.aU I.aN I.aO = L2 (φ := .f32) (fun i _ => ∑ k, mx I i k * (I.D i k * I.M 2 k * I.G 1 k)) := by
  unfold val_main_v69; rw [r_v68 I]; exact shapeCast_col_L2 _ _

theorem r_v70 (I : In) : val_main_v70 (F := Ideal) I.aA I.aB I.aP I.aU I.aN I.aO = L2 (φ := .f32) (fun i _ => rs (mx I i)) := eq_L2 fun i j => by
  rw [val_main_v70_apply, r_v45 I]
  exact rfl

theorem r_v71 (I : In) : val_main_v71 (F := Ideal) I.aD I.aA I.aB I.aP I.aM I.aG I.aU I.aN I.aO = L2 (φ := .f32) (fun i j => (I.D i j * I.M 2 j * I.G 1 j) * (rs (mx I i))) := eq_L2 fun i j => by
  rw [val_main_v71_apply, r_v65 I, r_v70 I]
  exact (EReal.coe_mul _ _).symm

theorem r_v72 (I : In) : val_main_v72 (F := Ideal) I.aD I.aA I.aB I.aP I.aM I.aG I.aU I.aN I.aO = L2 (φ := .f32) (fun i _ => (∑ k, mx I i k * (I.D i k * I.M 2 k * I.G 1 k)) * (((-(1 / 2))) * (rs (mx I i) * (rs (mx I i) * rs (mx I i))))) := eq_L2 fun i j => by
  rw [val_main_v72_apply, r_v69 I, r_v48 I]
  exact (EReal.coe_mul _ _).symm

theorem r_cst_14 (I : In) : val_main_cst_14 (F := Ideal) = L0 (φ := .f32) 1024 := by
  funext i; exact c_1024

theorem r_v73 (I : In) : val_main_v73 (F := Ideal) = L2 (φ := .f32) (fun _ _ => 1024) := eq_L2 fun i j => by
  rw [val_main_v73_apply, r_cst_14 I]
  exact rfl

theorem r_v74 (I : In) : val_main_v74 (F := Ideal) I.aD I.aA I.aB I.aP I.aM I.aG I.aU I.aN I.aO = L2 (φ := .f32) (fun i _ => ((∑ k, mx I i k * (I.D i k * I.M 2 k * I.G 1 k)) * (((-(1 / 2))) * (rs (mx I i) * (rs (mx I i) * rs (mx I i))))) / 1024) := eq_L2 fun i j => by
  rw [val_main_v74_apply, r_v72 I, r_v73 I]
  exact div_coe _ _ (by norm_num)

theorem r_cst_15 (I : In) : val_main_cst_15 (F := Ideal) = L0 (φ := .f32) 0 := by
  funext i; exact c_zero

theorem r_v75 (I : In) : val_main_v75 (F := Ideal) I.aD I.aA I.aB I.aP I.aM I.aG I.aU I.aN I.aO = L1 (φ := .f32) (fun i => (∑ k, mx I i k * (I.D i k * I.M 2 k * I.G 1 k)) * (-(1 / 2) * (rs (mx I i) * (rs (mx I i) * rs (mx I i)))) / 1024) := eq_L1 fun i => by
  rw [val_main_v75_apply, r_v74 I, r_cst_15 I]
  exact (red_aux _ rfl (fun _ => _)).trans (congrArg _ (Fin.sum_univ_one _))

theorem r_v76 (I : In) : val_main_v76 (F := Ideal) I.aD I.aA I.aB I.aP I.aM I.aG I.aU I.aN I.aO = L2 (φ := .f32) (fun i _ => (∑ k, mx I i k * (I.D i k * I.M 2 k * I.G 1 k)) * (-(1 / 2) * (rs (mx I i) * (rs (mx I i) * rs (mx I i)))) / 1024) := eq_L2 fun i j => by
  rw [val_main_v76_apply, r_v75 I]
  exact rfl

theorem r_v77 (I : In) : val_main_v77 (F := Ideal) I.aD I.aA I.aB I.aP I.aM I.aG I.aU I.aN I.aO = L2 (φ := .f32) (fun i j => (mx I i j) * ((∑ k, mx I i k * (I.D i k * I.M 2 k * I.G 1 k)) * (-(1 / 2) * (rs (mx I i) * (rs (mx I i) * rs (mx I i)))) / 1024)) := eq_L2 fun i j => by
  rw [val_main_v77_apply, r_v36 I, r_v76 I]
  exact (EReal.coe_mul _ _).symm

theorem r_v78 (I : In) : val_main_v78 (F := Ideal) I.aD I.aA I.aB I.aP I.aM I.aG I.aU I.aN I.aO = L2 (φ := .f32) (fun i j => ((I.D i j * I.M 2 j * I.G 1 j) * (rs (mx I i))) + ((mx I i j) * ((∑ k, mx I i k * (I.D i k * I.M 2 k * I.G 1 k)) * (-(1 / 2) * (rs (mx I i) * (rs (mx I i) * rs (mx I i)))) / 1024))) := eq_L2 fun i j => by
  rw [val_main_v78_apply, r_v71 I, r_v77 I]
  exact (EReal.coe_add _ _).symm

theorem r_v79 (I : In) : val_main_v79 (F := Ideal) I.aD I.aA I.aB I.aP I.aM I.aG I.aU I.aN I.aO = L2 (φ := .f32) (fun i j => ((∑ k, mx I i k * (I.D i k * I.M 2 k * I.G 1 k)) * (-(1 / 2) * (rs (mx I i) * (rs (mx I i) * rs (mx I i)))) / 1024) * (mx I i j)) := eq_L2 fun i j => by
  rw [val_main_v79_apply, r_v76 I, r_v36 I]
  exact (EReal.coe_mul _ _).symm

theorem r_v80 (I : In) : val_main_v80 (F := Ideal) I.aD I.aA I.aB I.aP I.aM I.aG I.aU I.aN I.aO = L2 (φ := .f32) (fun i j => dmx (I.M 2) (I.G 1) (I.D i) (mx I i) j) := eq_L2 fun i j => by
  rw [val_main_v80_apply, r_v78 I, r_v79 I]
  exact ((EReal.coe_add _ _).symm).trans (congrArg _ (dmx_eq _ _ _ _ _))

theorem r_cst_16 (I : In) : val_main_cst_16 (F := Ideal) = L0 (φ := .f32) 0 := by
  funext i; exact c_zero

theorem r_v81 (I : In) : val_main_v81 (F := Ideal) I.aD I.aA I.aB I.aP I.aG I.aU I.aN I.aO = L1 (φ := .f32) (fun j => ∑ r, I.D r j * (hat (mx I r) j * I.G 1 j)) := eq_L1 fun j => by
  rw [val_main_v81_apply, r_v60 I, r_cst_16 I]
  exact (red_aux _ rfl (fun _ => _)).trans (congrArg _ (Fin.sum_univ_one _))

theorem r_v82 (I : In) : val_main_v82 (F := Ideal) I.aD I.aA I.aB I.aP I.aM I.aG I.aU I.aN I.aO = L2 (φ := .f32) (fun i j => wr I i j) := eq_L2 fun i j => by
  rw [val_main_v82_apply, r_v80 I]
  exact (dot_aux _ _).trans (congrArg _ (rfl))

theorem r_v83 (I : In) : val_main_v83 (F := Ideal) I.aD I.aA I.aB I.aP I.aM I.aG I.aU I.aN I.aO = L2 (φ := .f32) (fun i j => gated (wr I i) (hi (I.P i)) j) := eq_L2 fun i j => by
  rw [val_main_v83_apply, r_v27 I, r_v82 I]
  exact ((EReal.coe_mul _ _).symm).trans (congrArg _ (mul_comm _ _))

theorem r_v84 (I : In) : val_main_v84 (F := Ideal) I.aD I.aA I.aB I.aP I.aM I.aG I.aU I.aN I.aO = L2 (φ := .f32) (fun i j => (wr I i j) * (up (I.B i) I.N j)) := eq_L2 fun i j => by
  rw [val_main_v84_apply, r_v82 I, r_v32 I]
  exact (EReal.coe_mul _ _).symm

theorem r_v85 (I : In) : val_main_v85 (F := Ideal) I.aD I.aA I.aB I.aP I.aM I.aG I.aU I.aN I.aO = L2 (φ := .f32) (fun i j => back (gated (wr I i) (hi (I.P i))) I.N j) := eq_L2 fun i j => by
  rw [val_main_v85_apply, r_v83 I]
  exact (dot_aux _ _).trans (congrArg _ (rfl))

theorem r_v86 (I : In) : val_main_v86 (F := Ideal) I.aD I.aA I.aB I.aP I.aM I.aG I.aU I.aN I.aO = L2 (φ := .f32) (fun i j => gate (wr I i) (hi (I.P i)) (up (I.B i) I.N) j) := eq_L2 fun i j => by
  rw [val_main_v86_apply, r_v84 I, r_v30 I]
  exact ((EReal.coe_mul _ _).symm).trans (congrArg _ (rfl))

theorem r_v87 (I : In) : val_main_v87 (F := Ideal) I.aD I.aA I.aB I.aP I.aM I.aG I.aU I.aN I.aO = L2 (φ := .f32) (fun i j => gated (wr I i) (lo (I.P i)) j) := eq_L2 fun i j => by
  rw [val_main_v87_apply, r_v15 I, r_v82 I]
  exact ((EReal.coe_mul _ _).symm).trans (congrArg _ (mul_comm _ _))

theorem r_v88 (I : In) : val_main_v88 (F := Ideal) I.aD I.aA I.aB I.aP I.aM I.aG I.aU I.aN I.aO = L2 (φ := .f32) (fun i j => (wr I i j) * (up (I.A i) I.U j)) := eq_L2 fun i j => by
  rw [val_main_v88_apply, r_v82 I, r_v20 I]
  exact (EReal.coe_mul _ _).symm

theorem r_v89 (I : In) : val_main_v89 (F := Ideal) I.aD I.aA I.aB I.aP I.aM I.aG I.aU I.aN I.aO = L2 (φ := .f32) (fun i j => back (gated (wr I i) (lo (I.P i))) I.U j) := eq_L2 fun i j => by
  rw [val_main_v89_apply, r_v87 I]
  exact (dot_aux _ _).trans (congrArg _ (rfl))

theorem r_v90 (I : In) : val_main_v90 (F := Ideal) I.aD I.aA I.aB I.aP I.aM I.aG I.aU I.aN I.aO = L2 (φ := .f32) (fun i j => gate (wr I i) (lo (I.P i)) (up (I.A i) I.U) j) := eq_L2 fun i j => by
  rw [val_main_v90_apply, r_v88 I, r_v18 I]
  exact ((EReal.coe_mul _ _).symm).trans (congrArg _ (rfl))

theorem r_v91 (I : In) : val_main_v91 (F := Ideal) I.aD I.aA I.aB I.aP I.aM I.aG I.aU I.aN I.aO = L2 (φ := .f32) (fun i j => both (gate (wr I i) (lo (I.P i)) (up (I.A i) I.U)) (gate (wr I i) (hi (I.P i)) (up (I.B i) I.N)) j) := by
  unfold val_main_v91
  rw [r_v90 I, r_v86 I]
  exact join_cols _ _ _

theorem r_v92 (I : In) : val_main_v92 (F := Ideal) I.aD I.aA I.aB I.aP I.aM I.aG I.aU I.aN I.aO = L2 (φ := .bf16) (fun i j => dmx (I.M 2) (I.G 1) (I.D i) (mx I i) j) := eq_L2 fun i j => by
  rw [val_main_v92_apply, r_v80 I]
  exact rfl

theorem r_v93 (I : In) : val_main_v93 (F := Ideal) I.aD I.aA I.aB I.aP I.aM I.aG I.aU I.aN I.aO = L2 (φ := .bf16) (fun i j => gated (wr I i) (lo (I.P i)) j) := eq_L2 fun i j => by
  rw [val_main_v93_apply, r_v87 I]
  exact rfl

theorem r_v94 (I : In) : val_main_v94 (F := Ideal) I.aD I.aA I.aB I.aP I.aM I.aG I.aU I.aN I.aO = L2 (φ := .bf16) (fun i j => gated (wr I i) (hi (I.P i)) j) := eq_L2 fun i j => by
  rw [val_main_v94_apply, r_v83 I]
  exact rfl

theorem r_v95 (I : In) : val_main_v95 (F := Ideal) I.aD I.aA I.aB I.aP I.aM I.aG I.aU I.aN I.aO = L2 (φ := .bf16) (fun i j => both (gate (wr I i) (lo (I.P i)) (up (I.A i) I.U)) (gate (wr I i) (hi (I.P i)) (up (I.B i) I.N)) j) := eq_L2 fun i j => by
  rw [val_main_v95_apply, r_v91 I]
  exact rfl

theorem r_v96 (I : In) : val_main_v96 (F := Ideal) I.aD I.aA I.aB I.aP I.aM I.aG I.aU I.aN I.aO = L2 (φ := .bf16) (fun i j => back (gated (wr I i) (lo (I.P i))) I.U j) := eq_L2 fun i j => by
  rw [val_main_v96_apply, r_v89 I]
  exact rfl

theorem r_v97 (I : In) : val_main_v97 (F := Ideal) I.aD I.aA I.aB I.aP I.aG I.aU I.aN I.aO = L2 (φ := .f32) (fun _ j => ∑ r, I.D r j * (hat (mx I r) j * I.G 1 j)) := eq_L2 fun i j => by
  rw [val_main_v97_apply, r_v81 I]
  exact rfl

theorem r_v98 (I : In) : val_main_v98 (F := Ideal) I.aD I.aA I.aB I.aP I.aM I.aU I.aN I.aO = L2 (φ := .f32) (fun _ j => ∑ r, I.D r j * I.M 2 j * hat (mx I r) j) := eq_L2 fun i j => by
  rw [val_main_v98_apply, r_v66 I]
  exact rfl

theorem r_v99 (I : In) : val_main_v99 (F := Ideal) I.aD I.aA I.aB I.aP I.aM I.aG I.aU I.aN I.aO = L2 (φ := .f32) (fun i j => row2 (fun j => ∑ r, I.D r j * (hat (mx I r) j * I.G 1 j)) (fun j => ∑ r, I.D r j * I.M 2 j * hat (mx I r) j) i j) := by
  unfold val_main_v99
  rw [r_v97 I, r_v98 I]
  exact join_rows _ _ _

theorem r_cst_17 (I : In) : val_main_cst_17 (F := Ideal) = L0 (φ := .f32) 0 := by
  funext i; exact c_zero

theorem r_v100 (I : In) : val_main_v100 (F := Ideal) = L2 (φ := .f32) (fun _ _ => 0) := eq_L2 fun i j => by
  rw [val_main_v100_apply, r_cst_17 I]
  exact rfl

theorem r_v101 (I : In) : val_main_v101 (F := Ideal) I.aD I.aA I.aB I.aP I.aM I.aG I.aU I.aN I.aO = L2 (φ := .f32) (fun i j => sums (I.M 2) (I.G 1) I.D (mx I) i j) := by
  unfold val_main_v101
  rw [r_v99 I, r_v100 I]
  exact join_zero _ _ _ _ _

end Cert.MixBwd

end

end
-- ==== Proof.MixBwdB.lean ====
/- The mixer's output, backward: the whole grid. What the buffers hold after every point, and the final arrays, on arrays of reals. -/
module

public import proofs.«01_k».proof.Proof.MixBwdA
public import proofs.«01_k».proof.Proof.MixBwdR
public import Idealize.ShloMosaic.Lib.StackMember
public import Idealize.ShloMosaic.Lib.StableHlo.RunRead
public import proofs.«01_k».proof.Proof.Tile

@[expose] public section

set_option maxRecDepth 16384

noncomputable section

namespace Cert.MixBwd

open Idealize.ShloMosaic Idealize.ShloMosaic.Pipeline Idealize.ShloMosaic.ValueIdx Idealize.SL.Sem Cert.Cells Cert.Whole Cert.Lift Cert.Ffn Cert.Tables Cert.Tile
open Cert.RefVal (dot_aux)
open scoped BigOperators
open Cert.Kernel9Ideal Cert.Kernel9Ideal.Gen

/-! ## The host's operations -/

theorem hdot {φ₁ φ₂ : FTy} {n k p : ℕ} (A : Fin n → Fin k → ℝ) (B : Fin k → Fin p → ℝ) :
    Host.dotGeneral (DotDims.plain n k p) none (L2 (φ := φ₁) A) (L2 (φ := φ₂) B) = L2 fun i j => ∑ l, A i l * B l j :=
  eq_L2 fun i j => (StackMember.dotGeneral_plain_apply none _ _ i j).trans (dot_aux _ _)

theorem hone : broadcastInDim S8192x1024 ![] bcast_S_S8192x1024 (constant (F := Ideal) S_ .f32 0x3F800000#32) = (L2 (φ := .f32) (fun _ _ => 1) : FVec Ideal S8192x1024 .f32) := by
  funext i
  exact (broadcastInDim_apply _ bcast_S_S8192x1024 _ i (fun a => a.elim0) (fun a => a.elim0)).trans c_one

theorem hlo (P : Fin 8192 → Fin 2048 → ℝ) : extractStridedSlice S8192x1024 ![0, 0] (L2 (φ := .f32) P : FVec Ideal S8192x2048 .f32) slices_S8192x2048_S8192x1024_0_0
    = (L2 (φ := .f32) (fun i => lo (P i)) : FVec Ideal S8192x1024 .f32) :=
  eq_L2 fun k j => extractStridedSlice_apply ![0, 0] (L2 (φ := .f32) P : FVec Ideal S8192x2048 .f32) slices_S8192x2048_S8192x1024_0_0 (ix2 k j) (ix2 k ⟨j.val, by omega⟩) (fun ax => match ax with
      | ⟨0, _⟩ => (Nat.zero_add _).symm
      | ⟨1, _⟩ => (Nat.zero_add _).symm)

theorem hhi (P : Fin 8192 → Fin 2048 → ℝ) : extractStridedSlice S8192x1024 ![0, 1024] (L2 (φ := .f32) P : FVec Ideal S8192x2048 .f32) slices_S8192x2048_S8192x1024_0_1024
    = (L2 (φ := .f32) (fun i => hi (P i)) : FVec Ideal S8192x1024 .f32) :=
  eq_L2 fun k j => extractStridedSlice_apply ![0, 1024] (L2 (φ := .f32) P : FVec Ideal S8192x2048 .f32) slices_S8192x2048_S8192x1024_0_1024 (ix2 k j) (ix2 k ⟨1024 + j.val, by omega⟩) (fun ax => match ax with
      | ⟨0, _⟩ => (Nat.zero_add _).symm
      | ⟨1, _⟩ => rfl)

/-- The gate of an array. -/
theorem hsig {a : FVec Ideal S8192x1024 .f32} {A : Fin 8192 → Row} (h : a = L2 (φ := .f32) A) :
    Host.divf (broadcastInDim S8192x1024 ![] bcast_S_S8192x1024 (constant (F := Ideal) S_ .f32 0x3F800000#32))
      (addf (broadcastInDim S8192x1024 ![] bcast_S_S8192x1024 (constant (F := Ideal) S_ .f32 0x3F800000#32)) (Host.exp (Host.negf a)))
      = (L2 (φ := .f32) (fun i j => sig (A i j)) : FVec Ideal S8192x1024 .f32) := by
  have e : Host.exp (Host.negf a) = (L2 (φ := .f32) (fun i j => Real.exp (-A i j)) : FVec Ideal S8192x1024 .f32) := by
    rw [h]
    exact eq_L2 fun i j => congrArg Ideal.exp (EReal.coe_neg _).symm
  rw [hone, e, addf_L2]
  exact eq_L2 fun i j => (div_coe _ _ ((add_pos one_pos (Real.exp_pos _)).ne')).trans (congrArg _ (sig_eq _))

/-- A block of rows through a projection. -/
theorem hup {a : FVec Ideal S8192x512 .bf16} {u : FVec Ideal S512x1024 .f32} {A : Fin 8192 → Fin 512 → ℝ} {U : Fin 512 → Row} (ha : a = L2 (φ := .bf16) A) (hu : u = L2 (φ := .f32) U) :
    Host.dotGeneral dot_S8192x512_S512x1024_S8192x1024_1_0_0_1_n_n none (extf .f32 a bitsLt_bf16_f32) u = (L2 (φ := .f32) (fun i => up (A i) U) : FVec Ideal S8192x1024 .f32) := by
  subst ha hu
  exact hdot (φ₁ := .f32) A U

/-- The mixer's output from the gates and the two projections. -/
theorem hmix {b b' g g' : FVec Ideal S8192x1024 .f32} {o : FVec Ideal S1024x1024 .f32} {I : In}
    (hg : g = L2 (φ := .f32) fun i j => sig (lo (I.P i) j)) (hg' : g' = L2 (φ := .f32) fun i j => sig (hi (I.P i) j))
    (hb : b = L2 (φ := .f32) fun i => up (I.A i) I.U) (hb' : b' = L2 (φ := .f32) fun i => up (I.B i) I.N) (ho : o = L2 (φ := .f32) I.O) :
    Host.dotGeneral dot_S8192x1024_S1024x1024_S8192x1024_1_0_0_1_n_n none (addf (mulf g b) (mulf g' b')) o = (L2 (φ := .f32) (mx I) : FVec Ideal S8192x1024 .f32) := by
  subst hg hg' hb hb' ho
  rw [mulf_L2, mulf_L2, addf_L2]
  exact hdot (φ₁ := .f32) (fun i => merge (I.P i) (up (I.A i) I.U) (up (I.B i) I.N)) I.O

variable (I : In) (m : (ℓ : Loc nD τ sig) → Buf (Elt Ideal) ℓ) (c : Dev nD)

/-- The launch memory holds the nine arguments. -/
structure Holds : Prop where
  a0 : m ((c.tc : Thread nD τ).loc main_arg0) = I.aD
  a1 : m ((c.tc : Thread nD τ).loc main_arg1) = I.aA
  a2 : m ((c.tc : Thread nD τ).loc main_arg2) = I.aB
  a3 : m ((c.tc : Thread nD τ).loc main_arg3) = I.aP
  a4 : m ((c.tc : Thread nD τ).loc main_arg4) = I.aM
  a5 : m ((c.tc : Thread nD τ).loc main_arg5) = I.aG
  a6 : m ((c.tc : Thread nD τ).loc main_arg6) = I.aU
  a7 : m ((c.tc : Thread nD τ).loc main_arg7) = I.aN
  a8 : m ((c.tc : Thread nD τ).loc main_arg8) = I.aO

variable {I m c}

theorem in0 (H : Holds I m c) : V m c (Pipeline.arrRef spec0 0) = L2 (φ := .f32) I.D := (V_main_arg0 m c).trans H.a0
theorem in4 (H : Holds I m c) : V m c (Pipeline.arrRef spec0 4) = L2 (φ := .bf16) I.P := (V_main_arg3 m c).trans H.a3

theorem in1 (H : Holds I m c) : V m c (Pipeline.arrRef spec0 1) = L2 (φ := .bf16) (mx I) := by
  show StableHlo.after hostOps0 (fun b => m (c, b)) (Proc.devRef .tc main_v25) = _
  after_results
  refine congrArg (fun x : FVec Ideal S8192x1024 .f32 => truncf .bf16 x bitsLt_bf16_f32)
    (hmix (hsig ?_) (hsig ?_) (hup H.a1 H.a6) (hup H.a2 H.a7) H.a8)
  · rw [show m (c, Proc.devRef .tc main_arg3) = I.aP from H.a3]
    exact hlo I.P
  · rw [show m (c, Proc.devRef .tc main_arg3) = I.aP from H.a3]
    exact hhi I.P

theorem in2 (H : Holds I m c) : V m c (Pipeline.arrRef spec0 2) = L2 (φ := .bf16) fun i => up (I.A i) I.U := by
  show StableHlo.after hostOps0 (fun b => m (c, b)) (Proc.devRef .tc main_v26) = _
  after_results
  exact congrArg (fun x : FVec Ideal S8192x1024 .f32 => truncf .bf16 x bitsLt_bf16_f32) (hup H.a1 H.a6)

theorem in3 (H : Holds I m c) : V m c (Pipeline.arrRef spec0 3) = L2 (φ := .bf16) fun i => up (I.B i) I.N := by
  show StableHlo.after hostOps0 (fun b => m (c, b)) (Proc.devRef .tc main_v27) = _
  after_results
  exact congrArg (fun x : FVec Ideal S8192x1024 .f32 => truncf .bf16 x bitsLt_bf16_f32) (hup H.a2 H.a7)

theorem in6 (H : Holds I m c) : V m c (Pipeline.arrRef spec0 6) = L2 (φ := .bf16) I.U := by
  show StableHlo.after hostOps0 (fun b => m (c, b)) (Proc.devRef .tc main_v28) = _
  after_results
  rw [show m (c, Proc.devRef .tc main_arg6) = I.aU from H.a6]
  rfl

theorem in7 (H : Holds I m c) : V m c (Pipeline.arrRef spec0 7) = L2 (φ := .bf16) I.N := by
  show StableHlo.after hostOps0 (fun b => m (c, b)) (Proc.devRef .tc main_v29) = _
  after_results
  rw [show m (c, Proc.devRef .tc main_arg7) = I.aN from H.a7]
  rfl

theorem in8 (H : Holds I m c) : V m c (Pipeline.arrRef spec0 8) = L2 (φ := .bf16) I.O := by
  show StableHlo.after hostOps0 (fun b => m (c, b)) (Proc.devRef .tc main_v30) = _
  after_results
  rw [show m (c, Proc.devRef .tc main_arg8) = I.aO from H.a8]
  rfl

/-- The operations before the rows are joined. -/
abbrev ops2 {F : FTy → Type} [FloatOps F] : List (HloOp τ sig (Elt F)) :=
  [ StableHlo.nullary main_cst (constant S_ .f32 0x00000000#32),
    StableHlo.unary main_cst main_v0 (broadcastInDim S6x1024 ![] bcast_S_S6x1024 : (⟨S_, .f32⟩ : BufTy).Contents (Elt F) → (⟨S6x1024, .f32⟩ : BufTy).Contents (Elt F)) ]

theorem in5 (H : Holds I m c) : V m c (Pipeline.arrRef spec0 5) = L2 (φ := .f32) (vecs I.M I.G) := by
  show StableHlo.after hostOps0 (fun b => m (c, b)) (Proc.devRef .tc main_v1) = _
  after_results
  refine Eq.trans ((join3 ?_ ?_ ?_ _).trans (vecs_join (fun i j => ((I.M i j : ℝ) : EReal)) (fun i j => ((I.G i j : ℝ) : EReal)) concatenates_S6x1024_S4x1024_S6x1024_S16x1024_d0)) (congrArg (E2 (φ := .f32)) (coe_vecs I.M I.G))
  · refine Eq.trans ?_ H.a4
    show StableHlo.after (ops2 (F := Ideal)) (fun b => m (c, b)) (Proc.devRef .tc main_arg4) = _
    after_results
  · refine Eq.trans ?_ H.a5
    show StableHlo.after (ops2 (F := Ideal)) (fun b => m (c, b)) (Proc.devRef .tc main_arg5) = _
    after_results
  · show StableHlo.after (ops2 (F := Ideal)) (fun b => m (c, b)) (Proc.devRef .tc main_v0) = _
    after_results
    funext i
    exact (broadcastInDim_apply _ bcast_S_S6x1024 _ i (fun a => a.elim0) (fun a => a.elim0)).trans Ideal.ofBits_zero_f32

/-! ## The windows' blocks -/

theorem lt16 (t : Fin cfg0.N) : t.val < 16 := Nat.lt_of_lt_of_eq t.isLt N_0

theorem idx0 : ∀ t : Fin cfg0.N, (win0_0.index t 0 = t.val ∧ win0_0.index t 1 = 0) := (by decide +kernel : ∀ t : Fin grid0.N, (win0_0.index t 0 = t.val ∧ win0_0.index t 1 = 0))

theorem i0 (H : Holds I m c) (t : Fin cfg0.N) : iblk m c 0 t = L2 (φ := .f32) (rows I.D t.val) :=
  (congrArg (fun (A : FVec Ideal S8192x1024 .f32) => fun i => A (((cfg0.win 0).blk t).view.emb i)) (in0 H)).trans
    (rows_of (φ := .f32) (fun i j => ((I.D i j : ℝ) : EReal)) t.val (lt16 t) (fun i => ((cfg0.win 0).blk t).view.emb i)
      (fun i => (by show win0_0.index t 0 * 512 + 1 * (i 0).val = _; rw [(idx0 t).1]; omega))
      (fun i => (by show win0_0.index t 1 * 1024 + 1 * (i 1).val = _; rw [(idx0 t).2]; omega)))

theorem idx1 : ∀ t : Fin cfg0.N, (win0_1.index t 0 = t.val ∧ win0_1.index t 1 = 0) := (by decide +kernel : ∀ t : Fin grid0.N, (win0_1.index t 0 = t.val ∧ win0_1.index t 1 = 0))

theorem i1 (H : Holds I m c) (t : Fin cfg0.N) : iblk m c 1 t = L2 (φ := .bf16) (rows (mx I) t.val) :=
  (congrArg (fun (A : FVec Ideal S8192x1024 .bf16) => fun i => A (((cfg0.win 1).blk t).view.emb i)) (in1 H)).trans
    (rows_of (φ := .bf16) (fun i j => (((mx I) i j : ℝ) : EReal)) t.val (lt16 t) (fun i => ((cfg0.win 1).blk t).view.emb i)
      (fun i => (by show win0_1.index t 0 * 512 + 1 * (i 0).val = _; rw [(idx1 t).1]; omega))
      (fun i => (by show win0_1.index t 1 * 1024 + 1 * (i 1).val = _; rw [(idx1 t).2]; omega)))

theorem idx2 : ∀ t : Fin cfg0.N, (win0_2.index t 0 = t.val ∧ win0_2.index t 1 = 0) := (by decide +kernel : ∀ t : Fin grid0.N, (win0_2.index t 0 = t.val ∧ win0_2.index t 1 = 0))

theorem i2 (H : Holds I m c) (t : Fin cfg0.N) : iblk m c 2 t = L2 (φ := .bf16) (rows (fun r => up (I.A r) I.U) t.val) :=
  (congrArg (fun (A : FVec Ideal S8192x1024 .bf16) => fun i => A (((cfg0.win 2).blk t).view.emb i)) (in2 H)).trans
    (rows_of (φ := .bf16) (fun i j => (((fun r => up (I.A r) I.U) i j : ℝ) : EReal)) t.val (lt16 t) (fun i => ((cfg0.win 2).blk t).view.emb i)
      (fun i => (by show win0_2.index t 0 * 512 + 1 * (i 0).val = _; rw [(idx2 t).1]; omega))
      (fun i => (by show win0_2.index t 1 * 1024 + 1 * (i 1).val = _; rw [(idx2 t).2]; omega)))

theorem idx3 : ∀ t : Fin cfg0.N, (win0_3.index t 0 = t.val ∧ win0_3.index t 1 = 0) := (by decide +kernel : ∀ t : Fin grid0.N, (win0_3.index t 0 = t.val ∧ win0_3.index t 1 = 0))

theorem i3 (H : Holds I m c) (t : Fin cfg0.N) : iblk m c 3 t = L2 (φ := .bf16) (rows (fun r => up (I.B r) I.N) t.val) :=
  (congrArg (fun (A : FVec Ideal S8192x1024 .bf16) => fun i => A (((cfg0.win 3).blk t).view.emb i)) (in3 H)).trans
    (rows_of (φ := .bf16) (fun i j => (((fun r => up (I.B r) I.N) i j : ℝ) : EReal)) t.val (lt16 t) (fun i => ((cfg0.win 3).blk t).view.emb i)
      (fun i => (by show win0_3.index t 0 * 512 + 1 * (i 0).val = _; rw [(idx3 t).1]; omega))
      (fun i => (by show win0_3.index t 1 * 1024 + 1 * (i 1).val = _; rw [(idx3 t).2]; omega)))

theorem idx4 : ∀ t : Fin cfg0.N, (win0_4.index t 0 = t.val ∧ win0_4.index t 1 = 0) := (by decide +kernel : ∀ t : Fin grid0.N, (win0_4.index t 0 = t.val ∧ win0_4.index t 1 = 0))

theorem i4 (H : Holds I m c) (t : Fin cfg0.N) : iblk m c 4 t = L2 (φ := .bf16) (rows I.P t.val) :=
  (congrArg (fun (A : FVec Ideal S8192x2048 .bf16) => fun i => A (((cfg0.win 4).blk t).view.emb i)) (in4 H)).trans
    (rows_of (φ := .bf16) (fun i j => ((I.P i j : ℝ) : EReal)) t.val (lt16 t) (fun i => ((cfg0.win 4).blk t).view.emb i)
      (fun i => (by show win0_4.index t 0 * 512 + 1 * (i 0).val = _; rw [(idx4 t).1]; omega))
      (fun i => (by show win0_4.index t 1 * 2048 + 1 * (i 1).val = _; rw [(idx4 t).2]; omega)))

theorem idx5 : ∀ t : Fin cfg0.N, (win0_5.index t 0 = 0 ∧ win0_5.index t 1 = 0) := (by decide +kernel : ∀ t : Fin grid0.N, (win0_5.index t 0 = 0 ∧ win0_5.index t 1 = 0))

theorem i5 (H : Holds I m c) (t : Fin cfg0.N) : iblk m c 5 t = L2 (φ := .f32) (vecs I.M I.G) :=
  (congrArg (fun (A : FVec Ideal S16x1024 .f32) => fun i => A (((cfg0.win 5).blk t).view.emb i)) (in5 H)).trans
    (whole_of (φ := .f32) _ (fun i => ((cfg0.win 5).blk t).view.emb i)
      (fun i => (by show win0_5.index t 0 * 16 + 1 * (i 0).val = _; rw [(idx5 t).1]; omega))
      (fun i => (by show win0_5.index t 1 * 1024 + 1 * (i 1).val = _; rw [(idx5 t).2]; omega)))

theorem idx6 : ∀ t : Fin cfg0.N, (win0_6.index t 0 = 0 ∧ win0_6.index t 1 = 0) := (by decide +kernel : ∀ t : Fin grid0.N, (win0_6.index t 0 = 0 ∧ win0_6.index t 1 = 0))

theorem i6 (H : Holds I m c) (t : Fin cfg0.N) : iblk m c 6 t = L2 (φ := .bf16) I.U :=
  (congrArg (fun (A : FVec Ideal S512x1024 .bf16) => fun i => A (((cfg0.win 6).blk t).view.emb i)) (in6 H)).trans
    (whole_of (φ := .bf16) _ (fun i => ((cfg0.win 6).blk t).view.emb i)
      (fun i => (by show win0_6.index t 0 * 512 + 1 * (i 0).val = _; rw [(idx6 t).1]; omega))
      (fun i => (by show win0_6.index t 1 * 1024 + 1 * (i 1).val = _; rw [(idx6 t).2]; omega)))

theorem idx7 : ∀ t : Fin cfg0.N, (win0_7.index t 0 = 0 ∧ win0_7.index t 1 = 0) := (by decide +kernel : ∀ t : Fin grid0.N, (win0_7.index t 0 = 0 ∧ win0_7.index t 1 = 0))

theorem i7 (H : Holds I m c) (t : Fin cfg0.N) : iblk m c 7 t = L2 (φ := .bf16) I.N :=
  (congrArg (fun (A : FVec Ideal S512x1024 .bf16) => fun i => A (((cfg0.win 7).blk t).view.emb i)) (in7 H)).trans
    (whole_of (φ := .bf16) _ (fun i => ((cfg0.win 7).blk t).view.emb i)
      (fun i => (by show win0_7.index t 0 * 512 + 1 * (i 0).val = _; rw [(idx7 t).1]; omega))
      (fun i => (by show win0_7.index t 1 * 1024 + 1 * (i 1).val = _; rw [(idx7 t).2]; omega)))

theorem idx8 : ∀ t : Fin cfg0.N, (win0_8.index t 0 = 0 ∧ win0_8.index t 1 = 0) := (by decide +kernel : ∀ t : Fin grid0.N, (win0_8.index t 0 = 0 ∧ win0_8.index t 1 = 0))

theorem i8 (H : Holds I m c) (t : Fin cfg0.N) : iblk m c 8 t = L2 (φ := .bf16) I.O :=
  (congrArg (fun (A : FVec Ideal S1024x1024 .bf16) => fun i => A (((cfg0.win 8).blk t).view.emb i)) (in8 H)).trans
    (whole_of (φ := .bf16) _ (fun i => ((cfg0.win 8).blk t).view.emb i)
      (fun i => (by show win0_8.index t 0 * 1024 + 1 * (i 0).val = _; rw [(idx8 t).1]; omega))
      (fun i => (by show win0_8.index t 1 * 1024 + 1 * (i 1).val = _; rw [(idx8 t).2]; omega)))

theorem idx9 : ∀ t : Fin cfg0.N, (win0_9.index t 0 = t.val ∧ win0_9.index t 1 = 0) := (by decide +kernel : ∀ t : Fin grid0.N, (win0_9.index t 0 = t.val ∧ win0_9.index t 1 = 0))

theorem rd9 (A : Fin 8192 → Fin 1024 → ℝ) (t : Fin cfg0.N) : ((cfg0.win 9).blk t).view.read (Elt Ideal) (L2 (φ := .bf16) A) = L2 (φ := .bf16) (rows A t.val) :=
  rows_of (φ := .bf16) (fun i j => ((A i j : ℝ) : EReal)) t.val (lt16 t) (fun i => ((cfg0.win 9).blk t).view.emb i)
      (fun i => (by show win0_9.index t 0 * 512 + 1 * (i 0).val = _; rw [(idx9 t).1]; omega))
      (fun i => (by show win0_9.index t 1 * 1024 + 1 * (i 1).val = _; rw [(idx9 t).2]; omega))

theorem cov9 (i : S8192x1024.Idx) : ∃ t : Fin cfg0.N, (cfg0.win 9).flush t = true ∧ i ∈ ((cfg0.win 9).blk t).view.set := by
  have h0 : (i 0 : Nat) < 8192 := (i 0).isLt
  let t : Fin cfg0.N := ⟨(i 0 : Nat) / 512, Nat.lt_of_lt_of_eq (by omega) N_0.symm⟩
  refine ⟨t, flush0_9 t, ?_⟩
  show i ∈ ((View.whole main_v32_0).slice (win0_9.rect t)).set
  rw [View.set_slice_whole, Rect.mem_set_unit]
  exact Fin.forall_fin_two.2 (in_tile i 512 (idx9 t).1 (idx9 t).2)

theorem idx10 : ∀ t : Fin cfg0.N, (win0_10.index t 0 = t.val ∧ win0_10.index t 1 = 0) := (by decide +kernel : ∀ t : Fin grid0.N, (win0_10.index t 0 = t.val ∧ win0_10.index t 1 = 0))

theorem rd10 (A : Fin 8192 → Fin 1024 → ℝ) (t : Fin cfg0.N) : ((cfg0.win 10).blk t).view.read (Elt Ideal) (L2 (φ := .bf16) A) = L2 (φ := .bf16) (rows A t.val) :=
  rows_of (φ := .bf16) (fun i j => ((A i j : ℝ) : EReal)) t.val (lt16 t) (fun i => ((cfg0.win 10).blk t).view.emb i)
      (fun i => (by show win0_10.index t 0 * 512 + 1 * (i 0).val = _; rw [(idx10 t).1]; omega))
      (fun i => (by show win0_10.index t 1 * 1024 + 1 * (i 1).val = _; rw [(idx10 t).2]; omega))

theorem cov10 (i : S8192x1024.Idx) : ∃ t : Fin cfg0.N, (cfg0.win 10).flush t = true ∧ i ∈ ((cfg0.win 10).blk t).view.set := by
  have h0 : (i 0 : Nat) < 8192 := (i 0).isLt
  let t : Fin cfg0.N := ⟨(i 0 : Nat) / 512, Nat.lt_of_lt_of_eq (by omega) N_0.symm⟩
  refine ⟨t, flush0_10 t, ?_⟩
  show i ∈ ((View.whole main_v32_1).slice (win0_10.rect t)).set
  rw [View.set_slice_whole, Rect.mem_set_unit]
  exact Fin.forall_fin_two.2 (in_tile i 512 (idx10 t).1 (idx10 t).2)

theorem idx11 : ∀ t : Fin cfg0.N, (win0_11.index t 0 = t.val ∧ win0_11.index t 1 = 0) := (by decide +kernel : ∀ t : Fin grid0.N, (win0_11.index t 0 = t.val ∧ win0_11.index t 1 = 0))

theorem rd11 (A : Fin 8192 → Fin 1024 → ℝ) (t : Fin cfg0.N) : ((cfg0.win 11).blk t).view.read (Elt Ideal) (L2 (φ := .bf16) A) = L2 (φ := .bf16) (rows A t.val) :=
  rows_of (φ := .bf16) (fun i j => ((A i j : ℝ) : EReal)) t.val (lt16 t) (fun i => ((cfg0.win 11).blk t).view.emb i)
      (fun i => (by show win0_11.index t 0 * 512 + 1 * (i 0).val = _; rw [(idx11 t).1]; omega))
      (fun i => (by show win0_11.index t 1 * 1024 + 1 * (i 1).val = _; rw [(idx11 t).2]; omega))

theorem cov11 (i : S8192x1024.Idx) : ∃ t : Fin cfg0.N, (cfg0.win 11).flush t = true ∧ i ∈ ((cfg0.win 11).blk t).view.set := by
  have h0 : (i 0 : Nat) < 8192 := (i 0).isLt
  let t : Fin cfg0.N := ⟨(i 0 : Nat) / 512, Nat.lt_of_lt_of_eq (by omega) N_0.symm⟩
  refine ⟨t, flush0_11 t, ?_⟩
  show i ∈ ((View.whole main_v32_2).slice (win0_11.rect t)).set
  rw [View.set_slice_whole, Rect.mem_set_unit]
  exact Fin.forall_fin_two.2 (in_tile i 512 (idx11 t).1 (idx11 t).2)

theorem idx12 : ∀ t : Fin cfg0.N, (win0_12.index t 0 = t.val ∧ win0_12.index t 1 = 0) := (by decide +kernel : ∀ t : Fin grid0.N, (win0_12.index t 0 = t.val ∧ win0_12.index t 1 = 0))

theorem rd12 (A : Fin 8192 → Fin 2048 → ℝ) (t : Fin cfg0.N) : ((cfg0.win 12).blk t).view.read (Elt Ideal) (L2 (φ := .bf16) A) = L2 (φ := .bf16) (rows A t.val) :=
  rows_of (φ := .bf16) (fun i j => ((A i j : ℝ) : EReal)) t.val (lt16 t) (fun i => ((cfg0.win 12).blk t).view.emb i)
      (fun i => (by show win0_12.index t 0 * 512 + 1 * (i 0).val = _; rw [(idx12 t).1]; omega))
      (fun i => (by show win0_12.index t 1 * 2048 + 1 * (i 1).val = _; rw [(idx12 t).2]; omega))

theorem cov12 (i : S8192x2048.Idx) : ∃ t : Fin cfg0.N, (cfg0.win 12).flush t = true ∧ i ∈ ((cfg0.win 12).blk t).view.set := by
  have h0 : (i 0 : Nat) < 8192 := (i 0).isLt
  let t : Fin cfg0.N := ⟨(i 0 : Nat) / 512, Nat.lt_of_lt_of_eq (by omega) N_0.symm⟩
  refine ⟨t, flush0_12 t, ?_⟩
  show i ∈ ((View.whole main_v32_3).slice (win0_12.rect t)).set
  rw [View.set_slice_whole, Rect.mem_set_unit]
  exact Fin.forall_fin_two.2 (in_tile i 512 (idx12 t).1 (idx12 t).2)

theorem idx13 : ∀ t : Fin cfg0.N, (win0_13.index t 0 = t.val ∧ win0_13.index t 1 = 0) := (by decide +kernel : ∀ t : Fin grid0.N, (win0_13.index t 0 = t.val ∧ win0_13.index t 1 = 0))

theorem rd13 (A : Fin 8192 → Fin 512 → ℝ) (t : Fin cfg0.N) : ((cfg0.win 13).blk t).view.read (Elt Ideal) (L2 (φ := .bf16) A) = L2 (φ := .bf16) (rows A t.val) :=
  rows_of (φ := .bf16) (fun i j => ((A i j : ℝ) : EReal)) t.val (lt16 t) (fun i => ((cfg0.win 13).blk t).view.emb i)
      (fun i => (by show win0_13.index t 0 * 512 + 1 * (i 0).val = _; rw [(idx13 t).1]; omega))
      (fun i => (by show win0_13.index t 1 * 512 + 1 * (i 1).val = _; rw [(idx13 t).2]; omega))

theorem cov13 (i : S8192x512.Idx) : ∃ t : Fin cfg0.N, (cfg0.win 13).flush t = true ∧ i ∈ ((cfg0.win 13).blk t).view.set := by
  have h0 : (i 0 : Nat) < 8192 := (i 0).isLt
  let t : Fin cfg0.N := ⟨(i 0 : Nat) / 512, Nat.lt_of_lt_of_eq (by omega) N_0.symm⟩
  refine ⟨t, flush0_13 t, ?_⟩
  show i ∈ ((View.whole main_v32_4).slice (win0_13.rect t)).set
  rw [View.set_slice_whole, Rect.mem_set_unit]
  exact Fin.forall_fin_two.2 (in_tile i 512 (idx13 t).1 (idx13 t).2)

theorem idx14 : ∀ t : Fin cfg0.N, (win0_14.index t 0 = t.val ∧ win0_14.index t 1 = 0) := (by decide +kernel : ∀ t : Fin grid0.N, (win0_14.index t 0 = t.val ∧ win0_14.index t 1 = 0))

theorem rd14 (A : Fin 8192 → Fin 512 → ℝ) (t : Fin cfg0.N) : ((cfg0.win 14).blk t).view.read (Elt Ideal) (L2 (φ := .f32) A) = L2 (φ := .f32) (rows A t.val) :=
  rows_of (φ := .f32) (fun i j => ((A i j : ℝ) : EReal)) t.val (lt16 t) (fun i => ((cfg0.win 14).blk t).view.emb i)
      (fun i => (by show win0_14.index t 0 * 512 + 1 * (i 0).val = _; rw [(idx14 t).1]; omega))
      (fun i => (by show win0_14.index t 1 * 512 + 1 * (i 1).val = _; rw [(idx14 t).2]; omega))

theorem cov14 (i : S8192x512.Idx) : ∃ t : Fin cfg0.N, (cfg0.win 14).flush t = true ∧ i ∈ ((cfg0.win 14).blk t).view.set := by
  have h0 : (i 0 : Nat) < 8192 := (i 0).isLt
  let t : Fin cfg0.N := ⟨(i 0 : Nat) / 512, Nat.lt_of_lt_of_eq (by omega) N_0.symm⟩
  refine ⟨t, flush0_14 t, ?_⟩
  show i ∈ ((View.whole main_v32_5).slice (win0_14.rect t)).set
  rw [View.set_slice_whole, Rect.mem_set_unit]
  exact Fin.forall_fin_two.2 (in_tile i 512 (idx14 t).1 (idx14 t).2)

theorem idx15 : ∀ t : Fin cfg0.N, (win0_15.index t 0 = 0 ∧ win0_15.index t 1 = 0) := (by decide +kernel : ∀ t : Fin grid0.N, (win0_15.index t 0 = 0 ∧ win0_15.index t 1 = 0))

theorem rd15 (A : Fin 8 → Fin 1024 → ℝ) (t : Fin cfg0.N) : ((cfg0.win 15).blk t).view.read (Elt Ideal) (L2 (φ := .f32) A) = L2 (φ := .f32) A :=
  whole_of (φ := .f32) (L2 (φ := .f32) A) (fun i => ((cfg0.win 15).blk t).view.emb i)
      (fun i => (by show win0_15.index t 0 * 8 + 1 * (i 0).val = _; rw [(idx15 t).1]; omega))
      (fun i => (by show win0_15.index t 1 * 1024 + 1 * (i 1).val = _; rw [(idx15 t).2]; omega))

theorem cov15 (i : S8x1024.Idx) : ∃ t : Fin cfg0.N, (cfg0.win 15).flush t = true ∧ i ∈ ((cfg0.win 15).blk t).view.set := by
  have h0 : (i 0 : Nat) < 8 := (i 0).isLt
  have h1 : (i 1 : Nat) < 1024 := (i 1).isLt
  let t : Fin cfg0.N := ⟨15, Nat.lt_of_lt_of_eq (by omega) N_0.symm⟩
  refine ⟨t, (flush0_15 t).mpr rfl, ?_⟩
  show i ∈ ((View.whole main_v32_6).slice (win0_15.rect t)).set
  rw [View.set_slice_whole, Rect.mem_set_unit]
  have hi := idx15 t
  intro a
  match a with
  | ⟨0, _⟩ => show win0_15.index t 0 * 8 ≤ (i 0 : Nat) ∧ (i 0 : Nat) < win0_15.index t 0 * 8 + 8
              rw [hi.1]; omega
  | ⟨1, _⟩ => show win0_15.index t 1 * 1024 ≤ (i 1 : Nat) ∧ (i 1 : Nat) < win0_15.index t 1 * 1024 + 1024
              rw [hi.2]; omega

/-! ## What the points leave -/

/-- The gradient of the mixer's output. -/
abbrev d9 (I : In) : Fin 8192 → Row := fun r => dmx (I.M 2) (I.G 1) (I.D r) (mx I r)

/-- The gradient of the first projection. -/
abbrev d10 (I : In) : Fin 8192 → Row := fun r => gated (wr I r) (lo (I.P r))

/-- The gradient of the second projection. -/
abbrev d11 (I : In) : Fin 8192 → Row := fun r => gated (wr I r) (hi (I.P r))

/-- The gradient of the gates. -/
abbrev d12 (I : In) : Fin 8192 → Fin 2048 → ℝ := fun r => both (gate (wr I r) (lo (I.P r)) (up (I.A r) I.U)) (gate (wr I r) (hi (I.P r)) (up (I.B r) I.N))

/-- The gradient of the first mixed rows. -/
abbrev d13 (I : In) : Fin 8192 → Fin 512 → ℝ := fun r => back (gated (wr I r) (lo (I.P r))) I.U

/-- The gradient of the second mixed rows. -/
abbrev d14 (I : In) : Fin 8192 → Fin 512 → ℝ := fun r => back (gated (wr I r) (hi (I.P r))) I.N

/-- A block's table. -/
abbrev gq (I : In) : ℕ → Fin 8 → Row := fun q => sums (I.M 2) (I.G 1) (rows I.D q) (rows (mx I) q)

theorem mk7 {α₁ α₂ α₃ α₄ α₅ α₆ α₇ : Type} {a₁ b₁ : α₁} {a₂ b₂ : α₂} {a₃ b₃ : α₃} {a₄ b₄ : α₄} {a₅ b₅ : α₅} {a₆ b₆ : α₆} {a₇ b₇ : α₇}
    (h₁ : a₁ = b₁) (h₂ : a₂ = b₂) (h₃ : a₃ = b₃) (h₄ : a₄ = b₄) (h₅ : a₅ = b₅) (h₆ : a₆ = b₆) (h₇ : a₇ = b₇) :
    (a₁, a₂, a₃, a₄, a₅, a₆, a₇) = (b₁, b₂, b₃, b₄, b₅, b₆, b₇) := by subst h₁ h₂ h₃ h₄ h₅ h₆ h₇; rfl

theorem at_first (H : Holds I m c) (t : Fin cfg0.N) (ht : t.val % 16 = 0) :
    outsAt0 m c t.val t.isLt = (L2 (φ := .bf16) (rows (d9 I) t.val), L2 (φ := .bf16) (rows (d10 I) t.val), L2 (φ := .bf16) (rows (d11 I) t.val), L2 (φ := .bf16) (rows (d12 I) t.val), L2 (φ := .bf16) (rows (d13 I) t.val), L2 (φ := .f32) (rows (d14 I) t.val), L2 (φ := .f32) (acc (gq I) t.val)) := by
  have hz : t.val = 0 := by have := lt16 t; omega
  have ea : L2 (φ := .f32) (gq I t.val) = L2 (φ := .f32) (acc (gq I) t.val) := by rw [hz]; rfl
  rw [outsAt0_A m c t ht, i0 H t, i1 H t, i2 H t, i3 H t, i4 H t, i5 H t, i6 H t, i7 H t, i8 H t]
  exact mk7
    (outA_9 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O ((hcond0_0 t).mpr ht))
    (outA_10 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O ((hcond0_0 t).mpr ht))
    (outA_11 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O ((hcond0_0 t).mpr ht))
    (outA_12 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O ((hcond0_0 t).mpr ht))
    (outA_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O ((hcond0_0 t).mpr ht))
    (outA_14 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O ((hcond0_0 t).mpr ht))
    ((outA_15 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O ((hcond0_0 t).mpr ht)).trans ea)

theorem at_next (H : Holds I m c) (t : Fin cfg0.N) (ht : ¬t.val % 16 = 0)
    (hp : (outsAt0 m c (t.val - 1) (Nat.lt_of_le_of_lt (Nat.sub_le _ _) t.isLt)).2.2.2.2.2.2 = L2 (φ := .f32) (acc (gq I) (t.val - 1))) :
    outsAt0 m c t.val t.isLt = (L2 (φ := .bf16) (rows (d9 I) t.val), L2 (φ := .bf16) (rows (d10 I) t.val), L2 (φ := .bf16) (rows (d11 I) t.val), L2 (φ := .bf16) (rows (d12 I) t.val), L2 (φ := .bf16) (rows (d13 I) t.val), L2 (φ := .f32) (rows (d14 I) t.val), L2 (φ := .f32) (acc (gq I) t.val)) := by
  obtain ⟨n, hn⟩ : ∃ n, t.val = n + 1 := ⟨t.val - 1, by omega⟩
  have ea : L2 (φ := .f32) (fun k j => acc (gq I) (t.val - 1) k j + gq I t.val k j) = L2 (φ := .f32) (acc (gq I) t.val) := by rw [hn]; rfl
  rw [outsAt0_B m c t ht, i0 H t, i1 H t, i2 H t, i3 H t, i4 H t, i5 H t, i6 H t, i7 H t, i8 H t, hp]
  exact mk7
    (outB_9 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O (fun h => ht ((hcond0_0 t).mp h)) (acc (gq I) (t.val - 1)))
    (outB_10 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O (fun h => ht ((hcond0_0 t).mp h)) (acc (gq I) (t.val - 1)))
    (outB_11 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O (fun h => ht ((hcond0_0 t).mp h)) (acc (gq I) (t.val - 1)))
    (outB_12 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O (fun h => ht ((hcond0_0 t).mp h)) (acc (gq I) (t.val - 1)))
    (outB_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O (fun h => ht ((hcond0_0 t).mp h)) (acc (gq I) (t.val - 1)))
    (outB_14 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O (fun h => ht ((hcond0_0 t).mp h)) (acc (gq I) (t.val - 1)))
    ((outB_15 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (rows I.D t.val) (rows (mx I) t.val) (rows (fun r => up (I.A r) I.U) t.val) (rows (fun r => up (I.B r) I.N) t.val) (rows I.P t.val) (vecs I.M I.G) I.U I.N I.O (fun h => ht ((hcond0_0 t).mp h)) (acc (gq I) (t.val - 1))).trans ea)

theorem at_all (H : Holds I m c) : ∀ (n : ℕ) (hn : n < cfg0.N),
    outsAt0 m c n hn = (L2 (φ := .bf16) (rows (d9 I) n), L2 (φ := .bf16) (rows (d10 I) n), L2 (φ := .bf16) (rows (d11 I) n), L2 (φ := .bf16) (rows (d12 I) n), L2 (φ := .bf16) (rows (d13 I) n), L2 (φ := .f32) (rows (d14 I) n), L2 (φ := .f32) (acc (gq I) n))
  | 0, hn => at_first H ⟨0, hn⟩ rfl
  | n + 1, hn => by
    have h16 : n + 1 < 16 := lt16 ⟨n + 1, hn⟩
    exact at_next H ⟨n + 1, hn⟩ (by show ¬(n + 1) % 16 = 0; omega) (congrArg (fun s => s.2.2.2.2.2.2) (at_all H n (Nat.lt_of_succ_lt hn)))

theorem kernel (H : Holds I m c) :
    (dats m 0 c).arrAt 9 cfg0.N = L2 (φ := .bf16) (d9 I)
    ∧ (dats m 0 c).arrAt 10 cfg0.N = L2 (φ := .bf16) (d10 I)
    ∧ (dats m 0 c).arrAt 11 cfg0.N = L2 (φ := .bf16) (d11 I)
    ∧ (dats m 0 c).arrAt 12 cfg0.N = L2 (φ := .bf16) (d12 I)
    ∧ (dats m 0 c).arrAt 13 cfg0.N = L2 (φ := .bf16) (d13 I)
    ∧ (dats m 0 c).arrAt 14 cfg0.N = L2 (φ := .f32) (d14 I)
    ∧ (dats m 0 c).arrAt 15 cfg0.N = L2 (φ := .f32) (sums (I.M 2) (I.G 1) I.D (mx I)) := by
  refine ⟨?_, ?_, ?_, ?_, ?_, ?_, ?_⟩
  · exact (dats m 0 c).arrAt_eq_of_cover 9 _ (fun t _ => (Value.flushed9 m c t).trans
      ((congrArg (fun s => (cfg0.win 9).cut (grid0.coords t) s.1) (at_all H t.val t.isLt)).trans (rd9 _ t).symm)) cov9
  · exact (dats m 0 c).arrAt_eq_of_cover 10 _ (fun t _ => (Value.flushed10 m c t).trans
      ((congrArg (fun s => (cfg0.win 10).cut (grid0.coords t) s.2.1) (at_all H t.val t.isLt)).trans (rd10 _ t).symm)) cov10
  · exact (dats m 0 c).arrAt_eq_of_cover 11 _ (fun t _ => (Value.flushed11 m c t).trans
      ((congrArg (fun s => (cfg0.win 11).cut (grid0.coords t) s.2.2.1) (at_all H t.val t.isLt)).trans (rd11 _ t).symm)) cov11
  · exact (dats m 0 c).arrAt_eq_of_cover 12 _ (fun t _ => (Value.flushed12 m c t).trans
      ((congrArg (fun s => (cfg0.win 12).cut (grid0.coords t) s.2.2.2.1) (at_all H t.val t.isLt)).trans (rd12 _ t).symm)) cov12
  · exact (dats m 0 c).arrAt_eq_of_cover 13 _ (fun t _ => (Value.flushed13 m c t).trans
      ((congrArg (fun s => (cfg0.win 13).cut (grid0.coords t) s.2.2.2.2.1) (at_all H t.val t.isLt)).trans (rd13 _ t).symm)) cov13
  · exact (dats m 0 c).arrAt_eq_of_cover 14 _ (fun t _ => (Value.flushed14 m c t).trans
      ((congrArg (fun s => (cfg0.win 14).cut (grid0.coords t) s.2.2.2.2.2.1) (at_all H t.val t.isLt)).trans (rd14 _ t).symm)) cov14
  · rw [← acc_all (I.M 2) (I.G 1) I.D (mx I)]
    refine (dats m 0 c).arrAt_eq_of_cover 15 _ (fun t hf => (Value.flushed15 m c t).trans
      ((congrArg (fun s => (cfg0.win 15).cut (grid0.coords t) s.2.2.2.2.2.2) (at_all H t.val t.isLt)).trans (Eq.trans ?_ (rd15 _ t).symm))) cov15
    have h15 : t.val = 15 := by have h := (flush0_15 t).mp hf; have := lt16 t; omega
    rw [h15]
    rfl

end Cert.MixBwd

end

end
-- ==== Proof.MixBwd.lean ====
/- The mixer's output, backward: from finite arguments the kernel and the reference end with the same arrays. -/
module

public import proofs.«01_k».proof.Defs
public import proofs.«01_k».proof.Proof.MixBwdB
public import proofs.«01_k».proof.Proof.MixBwdR
public import proofs.«01_k».proof.Proof.Finite
public import proofs.«01_k».proof.Proof.Gen.Pre_finite9
public import Idealize.ShloMosaic.Adequacy
public import Idealize.ShloMosaic.Init

@[expose] public section

set_option maxRecDepth 16384

noncomputable section

namespace Cert.MixBwd

open Idealize.ShloMosaic Idealize.ShloMosaic.StableHlo Idealize.ShloMosaic.ValueIdx Idealize.SL.Sem Cert.Lift Cert.Ffn Cert.Cells
open Cert.Finite (lift_of_all)

/-- The nine arguments are arrays of reals. -/
theorem reals [Cert.Pre_finite9.Facts] (x0 : FVec Ideal ⟨2, ![8192, 1024]⟩ .f32)
    (x1 : FVec Ideal ⟨2, ![8192, 512]⟩ .bf16)
    (x2 : FVec Ideal ⟨2, ![8192, 512]⟩ .bf16)
    (x3 : FVec Ideal ⟨2, ![8192, 2048]⟩ .bf16)
    (x4 : FVec Ideal ⟨2, ![6, 1024]⟩ .f32)
    (x5 : FVec Ideal ⟨2, ![4, 1024]⟩ .f32)
    (x6 : FVec Ideal ⟨2, ![512, 1024]⟩ .f32)
    (x7 : FVec Ideal ⟨2, ![512, 1024]⟩ .f32)
    (x8 : FVec Ideal ⟨2, ![1024, 1024]⟩ .f32)
    (h : Cert.Pre_finite9.fn (F := Ideal) x0 x1 x2 x3 x4 x5 x6 x7 x8 = fun _ => 1#1) :
    ∃ I : In, x0 = I.aD ∧ x1 = I.aA ∧ x2 = I.aB ∧ x3 = I.aP ∧ x4 = I.aM ∧ x5 = I.aG ∧ x6 = I.aU ∧ x7 = I.aN ∧ x8 = I.aO := by
  have h0 := congrFun h (fun a => a.elim0)
  obtain ⟨h1, e8⟩ := IntOp.andi_eq_one.1 h0
  obtain ⟨h2, e7⟩ := IntOp.andi_eq_one.1 h1
  obtain ⟨h3, e6⟩ := IntOp.andi_eq_one.1 h2
  obtain ⟨h4, e5⟩ := IntOp.andi_eq_one.1 h3
  obtain ⟨h5, e4⟩ := IntOp.andi_eq_one.1 h4
  obtain ⟨h6, e3⟩ := IntOp.andi_eq_one.1 h5
  obtain ⟨h7, e2⟩ := IntOp.andi_eq_one.1 h6
  obtain ⟨e0, e1⟩ := IntOp.andi_eq_one.1 h7
  exact ⟨⟨fun a b => EReal.toReal (x0 (ix2 a b)), fun a b => EReal.toReal (x1 (ix2 a b)), fun a b => EReal.toReal (x2 (ix2 a b)), fun a b => EReal.toReal (x3 (ix2 a b)), fun a b => EReal.toReal (x4 (ix2 a b)), fun a b => EReal.toReal (x5 (ix2 a b)), fun a b => EReal.toReal (x6 (ix2 a b)), fun a b => EReal.toReal (x7 (ix2 a b)), fun a b => EReal.toReal (x8 (ix2 a b))⟩,
    lift_of_all x0 _ _ _ _ e0, lift_of_all x1 _ _ _ _ e1, lift_of_all x2 _ _ _ _ e2, lift_of_all x3 _ _ _ _ e3, lift_of_all x4 _ _ _ _ e4, lift_of_all x5 _ _ _ _ e5, lift_of_all x6 _ _ _ _ e6, lift_of_all x7 _ _ _ _ e7, lift_of_all x8 _ _ _ _ e8⟩

open Cert.Reference9Ideal.Read in
theorem algebraic (hp : Cert.Pre_finite9.Facts) :
    Cert.algebraic_Kernel9Ideal_Reference9Ideal_pre_finite9 (hKernel9Ideal := Cert.Kernel9Ideal.Gen.facts) (hReference9Ideal := Cert.Reference9Ideal.Gen.facts)
      (hPre_finite9 := hp) := by
  intro m g m' g' hpre hag
  have hI : ∀ c : Dev Cert.Kernel9Ideal.nD, ∃ I : In, Holds I m c := fun c => by
    obtain ⟨I, h0, h1, h2, h3, h4, h5, h6, h7, h8⟩ := reals _ _ _ _ _ _ _ _ _ (hpre c)
    exact ⟨I, h0, h1, h2, h3, h4, h5, h6, h7, h8⟩
  choose I H using hI
  refine ⟨fun c => L2 (φ := .bf16) (d9 (I c)),
    fun c => L2 (φ := .bf16) (d10 (I c)),
    fun c => L2 (φ := .bf16) (d11 (I c)),
    fun c => L2 (φ := .bf16) (d12 (I c)),
    fun c => L2 (φ := .bf16) (d13 (I c)),
    fun c => L2 (φ := .f32) (d14 (I c)),
    fun c => L2 (φ := .f32) (sums ((I c).M 2) ((I c).G 1) (I c).D (mx (I c))), ?_, ?_⟩
  · refine (θ_run Cert.Kernel9Ideal.defs _ _).mono (fun r h c => ?_) (Cert.Kernel9Ideal.Value.run_blocks m g)
    obtain ⟨e0, e1, e2, e3, e4, e5, e6, k⟩ := h c
    obtain ⟨f0, f1, f2, f3, f4, f5, f6⟩ := kernel (H c)
    exact ⟨e0.trans f0, e1.trans f1, e2.trans f2, e3.trans f3, e4.trans f4, e5.trans f5, e6.trans f6, k⟩
  · refine (θ_run Cert.Reference9Ideal.defs _ _).mono (fun r h c => ?_) (Cert.Reference9Ideal.Value.run (F := Ideal) m' g')
    obtain ⟨e0, e1, e2, e3, e4, e5, e6, k⟩ := h c
    obtain ⟨b0, b1, b2, b3, b4, b5, b6, b7, b8⟩ := hag c
    have a0 := b0.trans (H c).a0
    have a1 := b1.trans (H c).a1
    have a2 := b2.trans (H c).a2
    have a3 := b3.trans (H c).a3
    have a4 := b4.trans (H c).a4
    have a5 := b5.trans (H c).a5
    have a6 := b6.trans (H c).a6
    have a7 := b7.trans (H c).a7
    have a8 := b8.trans (H c).a8
    refine ⟨(e0.trans (val_main_v92_eq _ _)).trans ?_, (e1.trans (val_main_v93_eq _ _)).trans ?_, (e2.trans (val_main_v94_eq _ _)).trans ?_, (e3.trans (val_main_v95_eq _ _)).trans ?_, (e4.trans (val_main_v96_eq _ _)).trans ?_, (e5.trans (val_main_v85_eq _ _)).trans ?_, (e6.trans (val_main_v101_eq _ _)).trans ?_, k⟩
    all_goals simp only [a0, a1, a2, a3, a4, a5, a6, a7, a8]
    · exact r_v92 (I c)
    · exact r_v93 (I c)
    · exact r_v94 (I c)
    · exact r_v95 (I c)
    · exact r_v96 (I c)
    · exact r_v85 (I c)
    · exact r_v101 (I c)

theorem frame : Cert.quiescent_Reference9Ideal (hReference9Ideal := Cert.Reference9Ideal.Gen.facts) := fun m g _ =>
  (θ_run Cert.Reference9Ideal.defs _ _).mono (fun r h => ⟨fun c => (h c).2.2.2.2.2.2.2, sem_eq_zero_of_no_sems (by decide) r.2⟩)
    (Cert.Reference9Ideal.Value.run (F := Ideal) m g)

theorem frame_pre (hp : Cert.Pre_finite9.Facts) :
    Cert.quiescent_Reference9Ideal_pre_finite9 (hReference9Ideal := Cert.Reference9Ideal.Gen.facts) (hPre_finite9 := hp) := fun m g _ =>
  frame m g trivial

end Cert.MixBwd

end

end
-- ==== Proof.PreProj.lean ====
/- The first projection, forward: the five arrays the kernel's blocks of 512 rows leave are the reference's, for all values. -/
module

public import proofs.«01_k».proof.Defs
public import proofs.«01_k».proof.Proof.Cells
public import proofs.«01_k».proof.Proof.Gen.Kernel10Ideal.Value
public import proofs.«01_k».proof.Proof.Gen.Reference10Ideal.Read
public import proofs.«01_k».proof.Proof.Gen.Reference10Ideal
public import Idealize.ShloMosaic.Adequacy
public import Idealize.ShloMosaic.Init
public import proofs.«01_k».proof.Proof.Tile

@[expose] public section

set_option maxRecDepth 16384

noncomputable section

namespace Cert.PreProj

open Idealize.ShloMosaic Idealize.ShloMosaic.Pipeline Idealize.ShloMosaic.ValueIdx Idealize.SL.Sem Cert.Cells Cert.Whole Cert.Tile
open scoped BigOperators

/-- The normed and modulated rows. -/
def hid (X : Fin 8192 → Fin 1024 → EReal) (M : Fin 6 → Fin 1024 → EReal) (G : Fin 4 → Fin 1024 → EReal) : Fin 8192 → Fin 1024 → EReal :=
  fun i => modu (X i) (G 0) (M 1) (M 0)

/-- Their product with the columns of a weight from `c` on. -/
def prod {w : ℕ} (H : Fin 8192 → Fin 1024 → EReal) (W : Fin 1024 → Fin w → EReal) (c n : ℕ) (hc : c + n ≤ w) : Fin 8192 → Fin n → EReal :=
  fun i j => ∑ k, H i k * W k ⟨c + j.val, by omega⟩

/-- The eight columns of the gates, then zeros. -/
def gates (H : Fin 8192 → Fin 1024 → EReal) (W : Fin 1024 → Fin 4872 → EReal) : Fin 8192 → Fin 128 → EReal :=
  fun i j => if h : j.val < 8 then ∑ k, H i k * W k ⟨2816 + j.val, by omega⟩ else 0

/-! ## Columns of the weight in its three groups -/

theorem prod_spread (H : Fin 8192 → Fin 1024 → EReal) (W : Fin 1024 → Fin 4872 → EReal) (c n : ℕ) (h : c + n ≤ 2824) :
    prod H (spread W) c n (by omega) = prod H W c n (by omega) := by
  funext i j
  refine Finset.sum_congr rfl fun k _ => congrArg (H i k * ·) ?_
  show spread W k _ = _
  unfold spread; rw [dif_pos (by show c + j.val < 2824; omega)]

theorem prod_last (H : Fin 8192 → Fin 1024 → EReal) (W : Fin 1024 → Fin 4872 → EReal) :
    prod H (spread W) 2944 2048 (by decide) = prod H W 2824 2048 (by decide) := by
  funext i j
  refine Finset.sum_congr rfl fun k _ => congrArg (H i k * ·) ?_
  show spread W k _ = _
  unfold spread; rw [dif_neg (by show ¬2944 + j.val < 2824; omega), if_neg (by show ¬2944 + j.val < 2944; omega)]
  exact congrArg (W k) (Fin.ext (by show 2944 + j.val - 120 = 2824 + j.val; omega))

theorem prod_gates (H : Fin 8192 → Fin 1024 → EReal) (W : Fin 1024 → Fin 4872 → EReal) :
    prod H (spread W) 2816 128 (by decide) = gates H W := by
  funext i j
  have hj := j.isLt
  unfold gates
  split
  · rename_i h
    refine Finset.sum_congr rfl fun k _ => congrArg (H i k * ·) ?_
    show spread W k _ = _
    unfold spread; rw [dif_pos (by show 2816 + j.val < 2824; omega)]
  · rename_i h
    refine (Finset.sum_congr rfl fun k _ => ?_).trans Finset.sum_const_zero
    have : spread W k (⟨2816 + j.val, by omega⟩ : Fin 4992) = 0 := by
      unfold spread; rw [dif_neg (by show ¬2816 + j.val < 2824; omega), if_pos (by show 2816 + j.val < 2944; omega)]
    rw [this, mul_zero]

section Kernel
open Cert.Kernel10Ideal Cert.Kernel10Ideal.Gen

/-! ## What the body computes on a block -/

theorem pay3 (X : Fin 512 → Fin 1024 → EReal) (g sc sh : Fin 1 → Fin 1024 → EReal) :
    k0_pay3 (F := Ideal) (E2 (φ := .f32) X) (E2 (φ := .f32) g) (E2 (φ := .f32) sc) (E2 (φ := .f32) sh) = E2 (φ := .bf16) fun i => modu (X i) (g 0) (sc 0) (sh 0) := by
  unfold k0_pay3
  dsimp only
  erw [inv_E2, cast_E2, cast_E2, cast_E2, broadcast_E2, addf_E2, down_E2, down_E2, down_E2, mulf_E2, mulf_E2, mulf_E2, addf_E2]
  rfl

variable (m : (ℓ : Loc nD τ sig) → Buf (Elt Ideal) ℓ) (c : Dev nD)
variable {X : Fin 8192 → Fin 1024 → EReal} {M : Fin 6 → Fin 1024 → EReal} {G : Fin 4 → Fin 1024 → EReal} {W : Fin 1024 → Fin 4872 → EReal}

/-- The launch memory holds the four arguments. -/
structure Holds (X : Fin 8192 → Fin 1024 → EReal) (M : Fin 6 → Fin 1024 → EReal) (G : Fin 4 → Fin 1024 → EReal) (W : Fin 1024 → Fin 4872 → EReal) : Prop where
  a0 : m ((c.tc : Thread nD τ).loc main_arg0) = E2 (φ := .f32) X
  a1 : m ((c.tc : Thread nD τ).loc main_arg1) = E2 (φ := .f32) M
  a2 : m ((c.tc : Thread nD τ).loc main_arg2) = E2 (φ := .f32) G
  a3 : m ((c.tc : Thread nD τ).loc main_arg3) = E2 (φ := .f32) W

variable {m c}

/-! ## The host's operations -/

theorem in_x (H : Holds m c X M G W) : V m c (Pipeline.arrRef spec0 0) = E2 (φ := .f32) X := (V_main_arg0 m c).trans H.a0

/-- The operations before the rows are joined. -/
abbrev ops2 {F : FTy → Type} [FloatOps F] : List (HloOp τ sig (Elt F)) :=
  [ StableHlo.nullary main_cst (constant S_ .f32 0x00000000#32),
    StableHlo.unary main_cst main_v0 (broadcastInDim S6x1024 ![] bcast_S_S6x1024 : (⟨S_, .f32⟩ : BufTy).Contents (Elt F) → (⟨S6x1024, .f32⟩ : BufTy).Contents (Elt F)) ]

theorem in_v (H : Holds m c X M G W) : V m c (Pipeline.arrRef spec0 1) = E2 (φ := .f32) (vecs M G) := by
  show StableHlo.after hostOps0 (fun b => m (c, b)) (Proc.devRef .tc main_v1) = _
  after_results
  refine (join3 ?_ ?_ ?_ _).trans (vecs_join M G concatenates_S6x1024_S4x1024_S6x1024_S16x1024_d0)
  · refine Eq.trans ?_ H.a1
    show StableHlo.after (ops2 (F := Ideal)) (fun b => m (c, b)) (Proc.devRef .tc main_arg1) = _
    after_results
  · refine Eq.trans ?_ H.a2
    show StableHlo.after (ops2 (F := Ideal)) (fun b => m (c, b)) (Proc.devRef .tc main_arg2) = _
    after_results
  · show StableHlo.after (ops2 (F := Ideal)) (fun b => m (c, b)) (Proc.devRef .tc main_v0) = _
    after_results
    funext i
    exact (broadcastInDim_apply _ bcast_S_S6x1024 _ i (fun a => a.elim0) (fun a => a.elim0)).trans Ideal.ofBits_zero_f32

/-- The operations before the columns are joined. -/
abbrev ops9 {F : FTy → Type} [FloatOps F] : List (HloOp τ sig (Elt F)) :=
  [ StableHlo.nullary main_cst (constant S_ .f32 0x00000000#32),
    StableHlo.unary main_cst main_v0 (broadcastInDim S6x1024 ![] bcast_S_S6x1024 : (⟨S_, .f32⟩ : BufTy).Contents (Elt F) → (⟨S6x1024, .f32⟩ : BufTy).Contents (Elt F)),
    StableHlo.nary ![main_arg1, main_arg2, main_v0] main_v1 (fun u => (concatenate S16x1024 0 [⟨S6x1024, (u 0 : (⟨S6x1024, .f32⟩ : BufTy).Contents (Elt F))⟩, ⟨S4x1024, (u 1 : (⟨S4x1024, .f32⟩ : BufTy).Contents (Elt F))⟩, ⟨S6x1024, (u 2 : (⟨S6x1024, .f32⟩ : BufTy).Contents (Elt F))⟩] concatenates_S6x1024_S4x1024_S6x1024_S16x1024_d0 : (⟨S16x1024, .f32⟩ : BufTy).Contents (Elt F))),
    StableHlo.nullary main_cst_0 (constant S_ .bf16 0x0000#16),
    StableHlo.unary main_cst_0 main_v2 (broadcastInDim S1024x120 ![] bcast_S_S1024x120 : (⟨S_, .bf16⟩ : BufTy).Contents (Elt F) → (⟨S1024x120, .bf16⟩ : BufTy).Contents (Elt F)),
    StableHlo.unary main_arg3 main_v3 ((extractStridedSlice S1024x2824 ![0, 0] · slices_S1024x4872_S1024x2824_0_0) : (⟨S1024x4872, .f32⟩ : BufTy).Contents (Elt F) → (⟨S1024x2824, .f32⟩ : BufTy).Contents (Elt F)),
    StableHlo.unary main_v3 main_v4 ((truncf .bf16 · bitsLt_bf16_f32) : (⟨S1024x2824, .f32⟩ : BufTy).Contents (Elt F) → (⟨S1024x2824, .bf16⟩ : BufTy).Contents (Elt F)),
    StableHlo.unary main_arg3 main_v5 ((extractStridedSlice S1024x2048 ![0, 2824] · slices_S1024x4872_S1024x2048_0_2824) : (⟨S1024x4872, .f32⟩ : BufTy).Contents (Elt F) → (⟨S1024x2048, .f32⟩ : BufTy).Contents (Elt F)),
    StableHlo.unary main_v5 main_v6 ((truncf .bf16 · bitsLt_bf16_f32) : (⟨S1024x2048, .f32⟩ : BufTy).Contents (Elt F) → (⟨S1024x2048, .bf16⟩ : BufTy).Contents (Elt F)) ]

theorem in_w (H : Holds m c X M G W) : V m c (Pipeline.arrRef spec0 2) = E2 (φ := .bf16) (spread W) := by
  show StableHlo.after hostOps0 (fun b => m (c, b)) (Proc.devRef .tc main_v7) = _
  after_results
  refine (join3 ?_ ?_ ?_ _).trans (spread_join W concatenates_S1024x2824_S1024x120_S1024x2048_S1024x4992_d1)
  · show StableHlo.after (ops9 (F := Ideal)) (fun b => m (c, b)) (Proc.devRef .tc main_v4) = _
    after_results
    rw [show m (c, Proc.devRef .tc main_arg3) = E2 (φ := .f32) W from H.a3]
    exact eq_E2 (φ := .bf16) fun k j => (extractStridedSlice_apply ![0, 0] (E2 (φ := .f32) W) slices_S1024x4872_S1024x2824_0_0 (ix2 k j) (ix2 k ⟨j.val, by omega⟩) (fun ax => match ax with
      | ⟨0, _⟩ => (Nat.zero_add _).symm
      | ⟨1, _⟩ => (Nat.zero_add _).symm))
  · show StableHlo.after (ops9 (F := Ideal)) (fun b => m (c, b)) (Proc.devRef .tc main_v2) = _
    after_results
    funext i
    refine (broadcastInDim_apply _ bcast_S_S1024x120 _ i (fun a => a.elim0) (fun a => a.elim0)).trans ?_
    show Ideal.ofBits .bf16 0x0000#16 = 0
    simp [Ideal.ofBits, Ideal.ieee]
  · show StableHlo.after (ops9 (F := Ideal)) (fun b => m (c, b)) (Proc.devRef .tc main_v6) = _
    after_results
    rw [show m (c, Proc.devRef .tc main_arg3) = E2 (φ := .f32) W from H.a3]
    exact eq_E2 (φ := .bf16) fun k j => (extractStridedSlice_apply ![0, 2824] (E2 (φ := .f32) W) slices_S1024x4872_S1024x2048_0_2824 (ix2 k j) (ix2 k ⟨2824 + j.val, by omega⟩) (fun ax => match ax with
      | ⟨0, _⟩ => (Nat.zero_add _).symm
      | ⟨1, _⟩ => rfl))

/-! ## The windows' blocks -/

theorem lt16 (t : Fin cfg0.N) : t.val < 16 := Nat.lt_of_lt_of_eq t.isLt N_0

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0))

theorem i0 (H : Holds m c X M G W) (t : Fin cfg0.N) : iblk m c 0 t = E2 (φ := .f32) (rows X t.val) :=
  (congrArg (fun (A : FVec Ideal S8192x1024 .f32) => fun i => A (((cfg0.win 0).blk t).view.emb i)) (in_x H)).trans
    (rows_of X t.val (lt16 t) (fun i => ((cfg0.win 0).blk t).view.emb i)
      (fun i => (by show win0_0.index t 0 * 512 + 1 * (i 0).val = _; rw [(idx t).1.1]; omega))
      (fun i => (by show win0_0.index t 1 * 1024 + 1 * (i 1).val = _; rw [(idx t).1.2]; omega)))

theorem i1 (H : Holds m c X M G W) (t : Fin cfg0.N) : iblk m c 1 t = E2 (φ := .f32) (vecs M G) :=
  (congrArg (fun (A : FVec Ideal S16x1024 .f32) => fun i => A (((cfg0.win 1).blk t).view.emb i)) (in_v H)).trans
    (whole_of _ (fun i => ((cfg0.win 1).blk t).view.emb i)
      (fun i => (by show win0_1.index t 0 * 16 + 1 * (i 0).val = _; rw [(idx t).2.1.1]; omega))
      (fun i => (by show win0_1.index t 1 * 1024 + 1 * (i 1).val = _; rw [(idx t).2.1.2]; omega)))

theorem i2 (H : Holds m c X M G W) (t : Fin cfg0.N) : iblk m c 2 t = E2 (φ := .bf16) (spread W) :=
  (congrArg (fun (A : FVec Ideal S1024x4992 .bf16) => fun i => A (((cfg0.win 2).blk t).view.emb i)) (in_w H)).trans
    (whole_of _ (fun i => ((cfg0.win 2).blk t).view.emb i)
      (fun i => (by show win0_2.index t 0 * 1024 + 1 * (i 0).val = _; rw [(idx t).2.2.1.1]; omega))
      (fun i => (by show win0_2.index t 1 * 4992 + 1 * (i 1).val = _; rw [(idx t).2.2.1.2]; omega)))

theorem rd3 (A : Fin 8192 → Fin 1024 → EReal) (t : Fin cfg0.N) : ((cfg0.win 3).blk t).view.read (Elt Ideal) (E2 (φ := .bf16) A) = E2 (φ := .bf16) (rows A t.val) :=
  rows_of A t.val (lt16 t) (fun i => ((cfg0.win 3).blk t).view.emb i)
    (fun i => (by show win0_3.index t 0 * 512 + 1 * (i 0).val = _; rw [(idx t).2.2.2.1.1]; omega))
    (fun i => (by show win0_3.index t 1 * 1024 + 1 * (i 1).val = _; rw [(idx t).2.2.2.1.2]; omega))

theorem cov3 (i : S8192x1024.Idx) : ∃ t : Fin cfg0.N, (cfg0.win 3).flush t = true ∧ i ∈ ((cfg0.win 3).blk t).view.set := by
  have h0 : (i 0 : Nat) < 8192 := (i 0).isLt
  let t : Fin cfg0.N := ⟨(i 0 : Nat) / 512, Nat.lt_of_lt_of_eq (by omega) N_0.symm⟩
  refine ⟨t, flush0_3 t, ?_⟩
  show i ∈ ((View.whole main_v9_0).slice (win0_3.rect t)).set
  rw [View.set_slice_whole, Rect.mem_set_unit]
  exact Fin.forall_fin_two.2 (in_tile i 512 (idx t).2.2.2.1.1 (idx t).2.2.2.1.2)

theorem rd4 (A : Fin 8192 → Fin 768 → EReal) (t : Fin cfg0.N) : ((cfg0.win 4).blk t).view.read (Elt Ideal) (E2 (φ := .f32) A) = E2 (φ := .f32) (rows A t.val) :=
  rows_of A t.val (lt16 t) (fun i => ((cfg0.win 4).blk t).view.emb i)
    (fun i => (by show win0_4.index t 0 * 512 + 1 * (i 0).val = _; rw [(idx t).2.2.2.2.1.1]; omega))
    (fun i => (by show win0_4.index t 1 * 768 + 1 * (i 1).val = _; rw [(idx t).2.2.2.2.1.2]; omega))

theorem cov4 (i : S8192x768.Idx) : ∃ t : Fin cfg0.N, (cfg0.win 4).flush t = true ∧ i ∈ ((cfg0.win 4).blk t).view.set := by
  have h0 : (i 0 : Nat) < 8192 := (i 0).isLt
  let t : Fin cfg0.N := ⟨(i 0 : Nat) / 512, Nat.lt_of_lt_of_eq (by omega) N_0.symm⟩
  refine ⟨t, flush0_4 t, ?_⟩
  show i ∈ ((View.whole main_v9_1).slice (win0_4.rect t)).set
  rw [View.set_slice_whole, Rect.mem_set_unit]
  exact Fin.forall_fin_two.2 (in_tile i 512 (idx t).2.2.2.2.1.1 (idx t).2.2.2.2.1.2)

theorem rd5 (A : Fin 8192 → Fin 2048 → EReal) (t : Fin cfg0.N) : ((cfg0.win 5).blk t).view.read (Elt Ideal) (E2 (φ := .f32) A) = E2 (φ := .f32) (rows A t.val) :=
  rows_of A t.val (lt16 t) (fun i => ((cfg0.win 5).blk t).view.emb i)
    (fun i => (by show win0_5.index t 0 * 512 + 1 * (i 0).val = _; rw [(idx t).2.2.2.2.2.1.1]; omega))
    (fun i => (by show win0_5.index t 1 * 2048 + 1 * (i 1).val = _; rw [(idx t).2.2.2.2.2.1.2]; omega))

theorem cov5 (i : S8192x2048.Idx) : ∃ t : Fin cfg0.N, (cfg0.win 5).flush t = true ∧ i ∈ ((cfg0.win 5).blk t).view.set := by
  have h0 : (i 0 : Nat) < 8192 := (i 0).isLt
  let t : Fin cfg0.N := ⟨(i 0 : Nat) / 512, Nat.lt_of_lt_of_eq (by omega) N_0.symm⟩
  refine ⟨t, flush0_5 t, ?_⟩
  show i ∈ ((View.whole main_v9_2).slice (win0_5.rect t)).set
  rw [View.set_slice_whole, Rect.mem_set_unit]
  exact Fin.forall_fin_two.2 (in_tile i 512 (idx t).2.2.2.2.2.1.1 (idx t).2.2.2.2.2.1.2)

theorem rd6 (A : Fin 8192 → Fin 128 → EReal) (t : Fin cfg0.N) : ((cfg0.win 6).blk t).view.read (Elt Ideal) (E2 (φ := .f32) A) = E2 (φ := .f32) (rows A t.val) :=
  rows_of A t.val (lt16 t) (fun i => ((cfg0.win 6).blk t).view.emb i)
    (fun i => (by show win0_6.index t 0 * 512 + 1 * (i 0).val = _; rw [(idx t).2.2.2.2.2.2.1.1]; omega))
    (fun i => (by show win0_6.index t 1 * 128 + 1 * (i 1).val = _; rw [(idx t).2.2.2.2.2.2.1.2]; omega))

theorem cov6 (i : S8192x128.Idx) : ∃ t : Fin cfg0.N, (cfg0.win 6).flush t = true ∧ i ∈ ((cfg0.win 6).blk t).view.set := by
  have h0 : (i 0 : Nat) < 8192 := (i 0).isLt
  let t : Fin cfg0.N := ⟨(i 0 : Nat) / 512, Nat.lt_of_lt_of_eq (by omega) N_0.symm⟩
  refine ⟨t, flush0_6 t, ?_⟩
  show i ∈ ((View.whole main_v9_3).slice (win0_6.rect t)).set
  rw [View.set_slice_whole, Rect.mem_set_unit]
  exact Fin.forall_fin_two.2 (in_tile i 512 (idx t).2.2.2.2.2.2.1.1 (idx t).2.2.2.2.2.2.1.2)

theorem rd7 (A : Fin 8192 → Fin 2048 → EReal) (t : Fin cfg0.N) : ((cfg0.win 7).blk t).view.read (Elt Ideal) (E2 (φ := .bf16) A) = E2 (φ := .bf16) (rows A t.val) :=
  rows_of A t.val (lt16 t) (fun i => ((cfg0.win 7).blk t).view.emb i)
    (fun i => (by show win0_7.index t 0 * 512 + 1 * (i 0).val = _; rw [(idx t).2.2.2.2.2.2.2.1]; omega))
    (fun i => (by show win0_7.index t 1 * 2048 + 1 * (i 1).val = _; rw [(idx t).2.2.2.2.2.2.2.2]; omega))

theorem cov7 (i : S8192x2048.Idx) : ∃ t : Fin cfg0.N, (cfg0.win 7).flush t = true ∧ i ∈ ((cfg0.win 7).blk t).view.set := by
  have h0 : (i 0 : Nat) < 8192 := (i 0).isLt
  let t : Fin cfg0.N := ⟨(i 0 : Nat) / 512, Nat.lt_of_lt_of_eq (by omega) N_0.symm⟩
  refine ⟨t, flush0_7 t, ?_⟩
  show i ∈ ((View.whole main_v9_4).slice (win0_7.rect t)).set
  rw [View.set_slice_whole, Rect.mem_set_unit]
  exact Fin.forall_fin_two.2 (in_tile i 512 (idx t).2.2.2.2.2.2.2.1 (idx t).2.2.2.2.2.2.2.2)

/-! ## What a point leaves -/

theorem vec0 : vecs M G ⟨0, by decide⟩ = M 0 := rfl
theorem vec1 : vecs M G ⟨1, by decide⟩ = M 1 := rfl
theorem vec6 : vecs M G ⟨6, by decide⟩ = G 0 := rfl

/-- The body's rows, from its loads. -/
theorem rows3 (t : ℕ) {x : FVec Ideal S512x1024 .f32} {v w u : FVec Ideal S1x1024 .f32} (hx : x = E2 (φ := .f32) (rows X t))
    (hv : v = E2 (φ := .f32) fun _ j => vecs M G ⟨6, by decide⟩ j) (hw : w = E2 (φ := .f32) fun _ j => vecs M G ⟨1, by decide⟩ j)
    (hu : u = E2 (φ := .f32) fun _ j => vecs M G ⟨0, by decide⟩ j) : k0_pay3 (F := Ideal) x v w u = E2 (φ := .bf16) (rows (hid X M G) t) := by
  subst hx hv hw hu
  rw [vec0, vec1, vec6]
  exact pay3 _ _ _ _

/-- A block's product with some columns. -/
theorem mul_cols {n : ℕ} (t : ℕ) (A : FVec Ideal ⟨2, ![512, 1024]⟩ .bf16) (B : FVec Ideal ⟨2, ![1024, n]⟩ .bf16) (K : Fin 8192 → Fin 1024 → EReal) (U : Fin 1024 → Fin n → EReal)
    (hA : A = E2 (φ := .bf16) (rows K t)) (hB : B = E2 (φ := .bf16) U) (h) :
    matmul (DotDims.plain 512 1024 n) none A (shapeCast ⟨2, ![1024, n]⟩ B h) (constant (F := Ideal) ⟨2, ![512, n]⟩ .f32 0x00000000#32)
      = E2 (φ := .f32) (rows (fun i j => ∑ k, K i k * U k j) t) := by
  subst hA hB
  rw [cast_E2]
  exact dot_E2 none _ _

theorem pay4 (t : ℕ) {x : FVec Ideal S512x1024 .f32} {v w u : FVec Ideal S1x1024 .f32} {B : FVec Ideal S1024x768 .bf16} {K : Fin 8192 → Fin 1024 → EReal} {U : Fin 1024 → Fin 768 → EReal}
    (h : k0_pay3 (F := Ideal) x v w u = E2 (φ := .bf16) (rows K t)) (hB : B = E2 (φ := .bf16) U) :
    k0_pay4 (F := Ideal) x v w u B = E2 (φ := .f32) (rows (fun i j => ∑ k, K i k * U k j) t) := by
  unfold k0_pay4
  exact mul_cols t _ _ K U h hB _

theorem pay5 (t : ℕ) {x : FVec Ideal S512x1024 .f32} {v w u : FVec Ideal S1x1024 .f32} {B : FVec Ideal S1024x2048 .bf16} {K : Fin 8192 → Fin 1024 → EReal} {U : Fin 1024 → Fin 2048 → EReal}
    (h : k0_pay3 (F := Ideal) x v w u = E2 (φ := .bf16) (rows K t)) (hB : B = E2 (φ := .bf16) U) :
    k0_pay5 (F := Ideal) x v w u B = E2 (φ := .f32) (rows (fun i j => ∑ k, K i k * U k j) t) := by
  unfold k0_pay5
  exact mul_cols t _ _ K U h hB _

theorem pay1 (t : ℕ) {x : FVec Ideal S512x1024 .bf16} {B : FVec Ideal S1024x128 .bf16} {K : Fin 8192 → Fin 1024 → EReal} {U : Fin 1024 → Fin 128 → EReal}
    (h : x = E2 (φ := .bf16) (rows K t)) (hB : B = E2 (φ := .bf16) U) : k0_pay1 (F := Ideal) x B = E2 (φ := .f32) (rows (fun i j => ∑ k, K i k * U k j) t) := by
  unfold k0_pay1
  exact mul_cols t _ _ K U h hB _

theorem pay2 (t : ℕ) {x : FVec Ideal S512x1024 .bf16} {B : FVec Ideal S1024x2048 .bf16} {K : Fin 8192 → Fin 1024 → EReal} {U : Fin 1024 → Fin 2048 → EReal}
    (h : x = E2 (φ := .bf16) (rows K t)) (hB : B = E2 (φ := .bf16) U) : k0_pay2 (F := Ideal) x B = E2 (φ := .bf16) (rows (fun i j => ∑ k, K i k * U k j) t) := by
  unfold k0_pay2
  exact congrArg (fun z => truncf .bf16 z bitsLt_bf16_f32) (mul_cols t _ _ K U h hB _)

theorem at3 (H : Holds m c X M G W) (t : Fin cfg0.N) : (outsAt0 m c t).1 = E2 (φ := .bf16) (rows (hid X M G) t.val) := by
  unfold outsAt0
  rw [i0 H t, i1 H t, i2 H t]
  dsimp only
  unfold out0_A_3 kernelRun0_A
  dsimp only
  exact (stored _ _ _ _ _).trans (rows3 t.val (load (hs0_0 t) _ _) (one_row (hs0_1 t) (vecs M G) 6 (by decide) _) (one_row (hs0_1 t) (vecs M G) 1 (by decide) _) (one_row (hs0_1 t) (vecs M G) 0 (by decide) _))

theorem at4 (H : Holds m c X M G W) (t : Fin cfg0.N) : (outsAt0 m c t).2.1 = E2 (φ := .f32) (rows (prod (hid X M G) W 0 768 (by decide)) t.val) := by
  rw [← prod_spread (hid X M G) W 0 768 (by decide)]
  unfold outsAt0
  rw [i0 H t, i1 H t, i2 H t]
  dsimp only
  unfold out0_A_4 kernelRun0_A
  dsimp only
  refine (stored _ _ _ _ _).trans ?_
  exact pay4 t.val (rows3 t.val (load (hs0_0 t) _ _) (one_row (hs0_1 t) (vecs M G) 6 (by decide) _) (one_row (hs0_1 t) (vecs M G) 1 (by decide) _) (one_row (hs0_1 t) (vecs M G) 0 (by decide) _)) (some_cols (hs0_2 t) (spread W) 0 (by decide) _)

theorem at5 (H : Holds m c X M G W) (t : Fin cfg0.N) : (outsAt0 m c t).2.2.1 = E2 (φ := .f32) (rows (prod (hid X M G) W 768 2048 (by decide)) t.val) := by
  rw [← prod_spread (hid X M G) W 768 2048 (by decide)]
  unfold outsAt0
  rw [i0 H t, i1 H t, i2 H t]
  dsimp only
  unfold out0_A_5 kernelRun0_A
  dsimp only
  refine (stored _ _ _ _ _).trans ?_
  exact pay5 t.val (rows3 t.val (load (hs0_0 t) _ _) (one_row (hs0_1 t) (vecs M G) 6 (by decide) _) (one_row (hs0_1 t) (vecs M G) 1 (by decide) _) (one_row (hs0_1 t) (vecs M G) 0 (by decide) _)) (some_cols (hs0_2 t) (spread W) 768 (by decide) _)

theorem at6 (H : Holds m c X M G W) (t : Fin cfg0.N) : (outsAt0 m c t).2.2.2.1 = E2 (φ := .f32) (rows (gates (hid X M G) W) t.val) := by
  rw [← prod_gates (hid X M G) W]
  unfold outsAt0
  rw [i0 H t, i1 H t, i2 H t]
  dsimp only
  unfold out0_A_6 kernelRun0_A
  dsimp only
  refine (stored _ _ _ _ _).trans ?_
  exact pay1 t.val (rows3 t.val (load (hs0_0 t) _ _) (one_row (hs0_1 t) (vecs M G) 6 (by decide) _) (one_row (hs0_1 t) (vecs M G) 1 (by decide) _) (one_row (hs0_1 t) (vecs M G) 0 (by decide) _)) (some_cols (hs0_2 t) (spread W) 2816 (by decide) _)

theorem at7 (H : Holds m c X M G W) (t : Fin cfg0.N) : (outsAt0 m c t).2.2.2.2 = E2 (φ := .bf16) (rows (prod (hid X M G) W 2824 2048 (by decide)) t.val) := by
  rw [← prod_last (hid X M G) W]
  unfold outsAt0
  rw [i0 H t, i1 H t, i2 H t]
  dsimp only
  unfold out0_A_7 kernelRun0_A
  dsimp only
  refine (stored _ _ _ _ _).trans ?_
  exact pay2 t.val (rows3 t.val (load (hs0_0 t) _ _) (one_row (hs0_1 t) (vecs M G) 6 (by decide) _) (one_row (hs0_1 t) (vecs M G) 1 (by decide) _) (one_row (hs0_1 t) (vecs M G) 0 (by decide) _)) (some_cols (hs0_2 t) (spread W) 2944 (by decide) _)

theorem kernel (H : Holds m c X M G W) :
    (dats m 0 c).arrAt 3 cfg0.N = E2 (φ := .bf16) (hid X M G)
    ∧ (dats m 0 c).arrAt 4 cfg0.N = E2 (φ := .f32) (prod (hid X M G) W 0 768 (by decide))
    ∧ (dats m 0 c).arrAt 5 cfg0.N = E2 (φ := .f32) (prod (hid X M G) W 768 2048 (by decide))
    ∧ (dats m 0 c).arrAt 6 cfg0.N = E2 (φ := .f32) (gates (hid X M G) W)
    ∧ (dats m 0 c).arrAt 7 cfg0.N = E2 (φ := .bf16) (prod (hid X M G) W 2824 2048 (by decide)) := by
  refine ⟨?_, ?_, ?_, ?_, ?_⟩
  · exact (dats m 0 c).arrAt_eq_of_cover 3 _ (fun t _ => (Value.flushed3 m c t).trans ((congrArg (fun s => (cfg0.win 3).cut (grid0.coords t) s) (at3 H t)).trans (rd3 _ t).symm)) cov3
  · exact (dats m 0 c).arrAt_eq_of_cover 4 _ (fun t _ => (Value.flushed4 m c t).trans ((congrArg (fun s => (cfg0.win 4).cut (grid0.coords t) s) (at4 H t)).trans (rd4 _ t).symm)) cov4
  · exact (dats m 0 c).arrAt_eq_of_cover 5 _ (fun t _ => (Value.flushed5 m c t).trans ((congrArg (fun s => (cfg0.win 5).cut (grid0.coords t) s) (at5 H t)).trans (rd5 _ t).symm)) cov5
  · exact (dats m 0 c).arrAt_eq_of_cover 6 _ (fun t _ => (Value.flushed6 m c t).trans ((congrArg (fun s => (cfg0.win 6).cut (grid0.coords t) s) (at6 H t)).trans (rd6 _ t).symm)) cov6
  · exact (dats m 0 c).arrAt_eq_of_cover 7 _ (fun t _ => (Value.flushed7 m c t).trans ((congrArg (fun s => (cfg0.win 7).cut (grid0.coords t) s) (at7 H t)).trans (rd7 _ t).symm)) cov7

end Kernel

section Reference
open Cert.Reference10Ideal Cert.Reference10Ideal.Gen Cert.Reference10Ideal.Read
variable (X : Fin 8192 → Fin 1024 → EReal) (M : Fin 6 → Fin 1024 → EReal) (G : Fin 4 → Fin 1024 → EReal) (W : Fin 1024 → Fin 4872 → EReal)

theorem r10 : val_main_v10 (F := Ideal) (E2 (φ := .f32) X) = E2 (φ := .f32) fun i _ => inv (X i) :=
  eq_E2 fun a b => by
    rw [val_main_v10_apply, val_main_v9_apply, val_main_v8_apply, val_main_v6_apply, val_main_v4_apply, val_main_v3_apply, val_main_v5_apply, val_main_v7_apply]
    refine congrArg (fun z => Ideal.rsqrt (Ideal.div z _ + _)) ?_
    exact (congrArg (· + _) (show val_main_cst (F := Ideal) _ = 0 from Ideal.ofBits_zero_f32)).trans (zero_add _)

theorem r13 : val_main_v13 (F := Ideal) (E2 (φ := .f32) G) = E2 (φ := .f32) fun _ j => G 0 j :=
  eq_E2 fun a b => by
    rw [val_main_v13_apply, val_main_v12_apply, val_main_v1_apply, val_main_v0_apply]
    exact congrArg (G 0) (Fin.ext (Nat.mod_eq_of_lt b.isLt))

theorem r17 : val_main_v17 (F := Ideal) (E2 (φ := .f32) M) = E2 (φ := .f32) fun _ j => M 1 j :=
  eq_E2 fun a b => by
    rw [val_main_v17_apply, val_main_v16_apply, val_main_v15_apply]
    exact congrArg (M 1) (Fin.ext (Nat.mod_eq_of_lt b.isLt))

theorem r25 : val_main_v25 (F := Ideal) (E2 (φ := .f32) M) = E2 (φ := .f32) fun _ j => M 0 j :=
  eq_E2 fun a b => by
    rw [val_main_v25_apply, val_main_v24_apply, val_main_v23_apply, val_main_v22_apply]
    exact congrArg (M 0) (Fin.ext (Nat.mod_eq_of_lt b.isLt))

theorem r26 : val_main_v26 (F := Ideal) (E2 (φ := .f32) X) (E2 (φ := .f32) M) (E2 (φ := .f32) G) = E2 (φ := .f32) (hid X M G) :=
  eq_E2 fun a b => by
    rw [val_main_v26_apply, r25, val_main_v21_apply, val_main_v20_apply, val_main_v19_apply, r17, val_main_v18_apply, val_main_v14_apply, r13, val_main_v11_apply, r10]
    rfl

theorem r27 : val_main_v27 (F := Ideal) (E2 (φ := .f32) X) (E2 (φ := .f32) M) (E2 (φ := .f32) G) (E2 (φ := .f32) W) = E2 (φ := .f32) fun i j => ∑ k, hid X M G i k * W k j :=
  eq_E2 fun a b => by
    rw [val_main_v27_apply, r26]
    rfl

theorem r31 : val_main_v31 (F := Ideal) (E2 (φ := .f32) X) (E2 (φ := .f32) M) (E2 (φ := .f32) G) = E2 (φ := .bf16) (hid X M G) :=
  eq_E2 fun a b => by
    rw [val_main_v31_apply, r26]
    rfl

theorem r32 : val_main_v32 (F := Ideal) (E2 (φ := .f32) X) (E2 (φ := .f32) M) (E2 (φ := .f32) G) (E2 (φ := .f32) W)
    = E2 (φ := .f32) (prod (hid X M G) W 0 768 (by decide)) :=
  eq_E2 fun a b => by
    rw [val_main_v32_apply, r27]
    exact Finset.sum_congr rfl fun k _ => congrArg (fun z => hid X M G a k * W k z) (Fin.ext (Nat.zero_add _).symm)

theorem r33 : val_main_v33 (F := Ideal) (E2 (φ := .f32) X) (E2 (φ := .f32) M) (E2 (φ := .f32) G) (E2 (φ := .f32) W)
    = E2 (φ := .f32) (prod (hid X M G) W 768 2048 (by decide)) :=
  eq_E2 fun a b => by
    rw [val_main_v33_apply, r27]
    rfl

theorem r35 : val_main_v35 (F := Ideal) (E2 (φ := .f32) X) (E2 (φ := .f32) M) (E2 (φ := .f32) G) (E2 (φ := .f32) W)
    = E2 (φ := .bf16) (prod (hid X M G) W 2824 2048 (by decide)) :=
  eq_E2 fun a b => by
    rw [val_main_v35_apply, val_main_v34_apply, r27]
    rfl

abbrev pieces (A : FVec Ideal S8192x8 .f32) (B : FVec Ideal S8192x120 .f32) : List ((s : Shape) × (s.Idx → EReal)) := [⟨S8192x8, A⟩, ⟨S8192x120, B⟩]

theorem r30 : val_main_v30 (F := Ideal) (E2 (φ := .f32) X) (E2 (φ := .f32) M) (E2 (φ := .f32) G) (E2 (φ := .f32) W)
    = E2 (φ := .f32) (gates (hid X M G) W) :=
  eq_E2 fun a b => by
    have hb := b.isLt
    unfold val_main_v30 gates
    split
    · rename_i h
      refine (concatenate_apply_piece (t := S8192x128) 1 (pieces _ _) concatenates_S8192x8_S8192x120_S8192x128_d1 (ix2 a b) 0 (by show 0 < 2; decide) S8192x8 _ rfl rfl 0 rfl
        (ix2 a ⟨b.val, h⟩) (fun x hx => match x with | ⟨0, _⟩ => rfl | ⟨1, _⟩ => absurd rfl hx) (Nat.zero_add _)).trans ?_
      rw [val_main_v28_apply, r27]
      rfl
    · rename_i h
      refine (concatenate_apply_piece (t := S8192x128) 1 (pieces _ _) concatenates_S8192x8_S8192x120_S8192x128_d1 (ix2 a b) 1 (by show 1 < 2; decide) S8192x120 _ rfl rfl 8 rfl
        (ix2 a ⟨b.val - 8, by omega⟩) (fun x hx => match x with | ⟨0, _⟩ => rfl | ⟨1, _⟩ => absurd rfl hx) (show 8 + (b.val - 8) = b.val by omega)).trans ?_
      rw [val_main_v29_apply]
      exact Ideal.ofBits_zero_f32

end Reference

open Idealize.ShloMosaic.StableHlo Cert.Reference10Ideal.Read in
theorem algebraic : Cert.algebraic_Kernel10Ideal_Reference10Ideal (hKernel10Ideal := Cert.Kernel10Ideal.Gen.facts) (hReference10Ideal := Cert.Reference10Ideal.Gen.facts) := by
  intro m g m' g' _ hag
  let X (c : Dev Cert.Kernel10Ideal.nD) := un (φ := .f32) (n := 8192) (m := 1024) (m ((c.tc : Thread Cert.Kernel10Ideal.nD Cert.Kernel10Ideal.τ).loc Cert.Kernel10Ideal.main_arg0))
  let M (c : Dev Cert.Kernel10Ideal.nD) := un (φ := .f32) (n := 6) (m := 1024) (m ((c.tc : Thread Cert.Kernel10Ideal.nD Cert.Kernel10Ideal.τ).loc Cert.Kernel10Ideal.main_arg1))
  let G (c : Dev Cert.Kernel10Ideal.nD) := un (φ := .f32) (n := 4) (m := 1024) (m ((c.tc : Thread Cert.Kernel10Ideal.nD Cert.Kernel10Ideal.τ).loc Cert.Kernel10Ideal.main_arg2))
  let W (c : Dev Cert.Kernel10Ideal.nD) := un (φ := .f32) (n := 1024) (m := 4872) (m ((c.tc : Thread Cert.Kernel10Ideal.nD Cert.Kernel10Ideal.τ).loc Cert.Kernel10Ideal.main_arg3))
  have H : ∀ c, Holds m c (X c) (M c) (G c) (W c) := fun c => ⟨E2_un _, E2_un _, E2_un _, E2_un _⟩
  refine ⟨fun c => E2 (φ := .bf16) (hid (X c) (M c) (G c)), fun c => E2 (φ := .f32) (prod (hid (X c) (M c) (G c)) (W c) 0 768 (by decide)),
    fun c => E2 (φ := .f32) (prod (hid (X c) (M c) (G c)) (W c) 768 2048 (by decide)), fun c => E2 (φ := .f32) (gates (hid (X c) (M c) (G c)) (W c)),
    fun c => E2 (φ := .bf16) (prod (hid (X c) (M c) (G c)) (W c) 2824 2048 (by decide)), ?_, ?_⟩
  · refine (θ_run Cert.Kernel10Ideal.defs _ _).mono (fun r h c => ?_) (Cert.Kernel10Ideal.Value.run_blocks m g)
    obtain ⟨e0, e1, e2, e3, e4, k⟩ := h c
    obtain ⟨f0, f1, f2, f3, f4⟩ := kernel (H c)
    exact ⟨e0.trans f0, e1.trans f1, e2.trans f2, e3.trans f3, e4.trans f4, k⟩
  · refine (θ_run Cert.Reference10Ideal.defs _ _).mono (fun r h c => ?_) (Cert.Reference10Ideal.Value.run (F := Ideal) m' g')
    obtain ⟨e0, e1, e2, e3, e4, k⟩ := h c
    obtain ⟨b0, b1, b2, b3⟩ := hag c
    have a0 := b0.trans (H c).a0
    have a1 := b1.trans (H c).a1
    have a2 := b2.trans (H c).a2
    have a3 := b3.trans (H c).a3
    refine ⟨(e0.trans (val_main_v31_eq _ _ _)).trans ?_, (e1.trans (val_main_v32_eq _ _ _ _)).trans ?_,
      (e2.trans (val_main_v33_eq _ _ _ _)).trans ?_, (e3.trans (val_main_v30_eq _ _ _ _)).trans ?_,
      (e4.trans (val_main_v35_eq _ _ _ _)).trans ?_, k⟩
    all_goals simp only [a0, a1, a2, a3]
    · exact r31 _ _ _
    · exact r32 _ _ _ _
    · exact r33 _ _ _ _
    · exact r30 _ _ _ _
    · exact r35 _ _ _ _

theorem frame : Cert.quiescent_Reference10Ideal (hReference10Ideal := Cert.Reference10Ideal.Gen.facts) := fun m g _ =>
  (θ_run Cert.Reference10Ideal.defs _ _).mono (fun r h => ⟨fun c => (h c).2.2.2.2.2, sem_eq_zero_of_no_sems (by decide) r.2⟩)
    (Cert.Reference10Ideal.Value.run (F := Ideal) m g)

end Cert.PreProj

end

end
-- ==== Proof.MixFwd.lean ====
/- The gated merge of the two branches, forward: the five arrays the kernel's blocks of 512 rows leave are the reference's, for all values. -/
module

public import proofs.«01_k».proof.Defs
public import proofs.«01_k».proof.Proof.Cells
public import proofs.«01_k».proof.Proof.Gen.Kernel11Ideal.Value
public import proofs.«01_k».proof.Proof.Gen.Reference11Ideal.Read
public import proofs.«01_k».proof.Proof.Gen.Reference11Ideal
public import Idealize.ShloMosaic.Adequacy
public import Idealize.ShloMosaic.Init
public import proofs.«01_k».proof.Proof.Tile

@[expose] public section

set_option maxRecDepth 16384

noncomputable section

namespace Cert.MixFwd

open Idealize.ShloMosaic Idealize.ShloMosaic.Pipeline Idealize.ShloMosaic.ValueIdx Idealize.SL.Sem Cert.Cells Cert.Whole Cert.Tile
open scoped BigOperators

abbrev Mat (n m : ℕ) : Type := Fin n → Fin m → EReal

/-- The sigmoid. -/
def sg (z : EReal) : EReal := Ideal.div (Ideal.ofBits .f32 0x3F800000#32) (Ideal.ofBits .f32 0x3F800000#32 + Ideal.exp (-z))

/-- The product of a branch with its weight. -/
def pr (Y : Mat 8192 512) (W : Mat 512 1024) : Mat 8192 1024 := fun i j => ∑ k, Y i k * W k j

/-- Columns of an array from `c` on. -/
def colsFrom {n : ℕ} (P : Mat n 2048) (c : ℕ) (h : c + 1024 ≤ 2048) : Mat n 1024 := fun i j => P i ⟨c + j.val, by omega⟩

/-- The merged branches. -/
def mg (A B : Mat 8192 1024) (P : Mat 8192 2048) : Mat 8192 1024 := fun i j =>
  sg (colsFrom P 0 (by decide) i j) * A i j + sg (colsFrom P 1024 (by decide) i j) * B i j

/-- Their product with the output weight. -/
def mx (Z : Mat 8192 1024) (W : Mat 1024 1024) : Mat 8192 1024 := fun i j => ∑ k, Z i k * W k j

/-- The rows with the gated and normed product added. -/
def added (X N : Mat 8192 1024) (g w : Fin 1024 → EReal) : Mat 8192 1024 := fun i j => X i j + g j * (N i j * inv (N i) * w j)

section Kernel
open Cert.Kernel11Ideal Cert.Kernel11Ideal.Gen

/-! ## Loads -/

theorem ld_all {n m : ℕ} {e : EltTy} (x : Vec Ideal ⟨2, ![n, m]⟩ e) (inb) : View.ld x (Rect.unit (s := ⟨2, ![n, m]⟩) ![0, 0] ![n, m] inb) = x :=
  View.ld_unit_zero (S := ⟨2, ![n, m]⟩) off2 inb x

theorem ld_row {n : ℕ} (A : Mat n 1024) (r : ℕ) (hr : r < n) (inb) :
    View.ld (Val := Elt Ideal) (e' := .f32) (E2 (φ := .f32) A) (Rect.unit (s := ⟨2, ![n, 1024]⟩) ![r, 0] ![1, 1024] inb) = E2 (φ := .f32) fun _ j => A ⟨r, hr⟩ j := by
  rw [View.ld_unit]
  exact eq_E2 fun a b => extractStridedSlice_apply _ (E2 (φ := .f32) A) _ (ix2 a b) (ix2 ⟨r, hr⟩ b) fun ax => match ax with
    | ⟨0, _⟩ => (show r = r + a.val by omega)
    | ⟨1, _⟩ => (Nat.zero_add _).symm

theorem ld_cols {n : ℕ} (P : Mat n 2048) (c : ℕ) (h : c + 1024 ≤ 2048) (inb) :
    View.ld (Val := Elt Ideal) (e' := .bf16) (E2 (φ := .bf16) P) (Rect.unit (s := ⟨2, ![n, 2048]⟩) ![0, c] ![n, 1024] inb) = E2 (φ := .bf16) (colsFrom P c h) := by
  rw [View.ld_unit]
  exact eq_E2 fun a b => extractStridedSlice_apply _ (E2 (φ := .bf16) P) _ (ix2 a b) (ix2 a ⟨c + b.val, by omega⟩) fun ax => match ax with
    | ⟨0, _⟩ => (Nat.zero_add _).symm
    | ⟨1, _⟩ => rfl

/-! ## What the body computes on a block -/

theorem sg_E2 (A : Mat 512 1024) :
    divf (broadcast S512x1024 (Scalar.ofBits .f32 0x3F800000#32 : Ideal .f32)) (addf (broadcast S512x1024 (Scalar.ofBits .f32 0x3F800000#32 : Ideal .f32))
      (exp (subf (broadcast S512x1024 (Scalar.ofBits .f32 0x00000000#32 : Ideal .f32)) (E2 (φ := .f32) A)))) = E2 (φ := .f32) fun i j => sg (A i j) :=
  eq_E2 fun a b => by
    show Ideal.div (Ideal.ofBits .f32 0x3F800000#32) (Ideal.ofBits .f32 0x3F800000#32 + Ideal.exp (Ideal.ofBits .f32 0x00000000#32 - A a b)) = _
    rw [Ideal.ofBits_zero_f32, zero_sub]
    rfl

/-- A block's product. -/
theorem mul_all {k n : ℕ} (t : ℕ) (A : FVec Ideal ⟨2, ![512, k]⟩ .bf16) (B : FVec Ideal ⟨2, ![k, n]⟩ .bf16) (K : Mat 8192 k) (U : Mat k n)
    (hA : A = E2 (φ := .bf16) (rows K t)) (hB : B = E2 (φ := .bf16) U) (h) :
    matmul (DotDims.plain 512 k n) none A (shapeCast ⟨2, ![k, n]⟩ B h) (constant (F := Ideal) ⟨2, ![512, n]⟩ .f32 0x00000000#32)
      = E2 (φ := .f32) (rows (fun i j => ∑ l, K i l * U l j) t) := by
  subst hA hB
  rw [cast_E2]
  exact dot_E2 none _ _

section Payloads
variable (t : ℕ) {v0 v4 : FVec Ideal S512x512 .bf16} {v1 v5 v8 v18 : FVec Ideal S512x1024 .bf16} {v30 : FVec Ideal S1024x1024 .bf16}
variable {Ya Ym : Mat 8192 512} {P : Mat 8192 2048} {Wa Wm : Mat 512 1024} {Wo : Mat 1024 1024} {A B Z N X : Mat 8192 1024}

theorem pay5 (h0 : v0 = E2 (φ := .bf16) (rows Ya t)) (h1 : v1 = E2 (φ := .bf16) Wa) : k0_pay5 (F := Ideal) v0 v1 = E2 (φ := .f32) (rows (pr Ya Wa) t) := by
  unfold k0_pay5
  exact mul_all t _ _ Ya Wa h0 h1 _

theorem pay6 (h0 : v4 = E2 (φ := .bf16) (rows Ym t)) (h1 : v5 = E2 (φ := .bf16) Wm) : k0_pay6 (F := Ideal) v4 v5 = E2 (φ := .f32) (rows (pr Ym Wm) t) := by
  unfold k0_pay6
  exact mul_all t _ _ Ym Wm h0 h1 _

theorem pay7 (h5 : k0_pay5 (F := Ideal) v0 v1 = E2 (φ := .f32) (rows A t)) (h6 : k0_pay6 (F := Ideal) v4 v5 = E2 (φ := .f32) (rows B t))
    (h8 : v8 = E2 (φ := .bf16) (colsFrom (rows P t) 0 (by decide))) (h18 : v18 = E2 (φ := .bf16) (colsFrom (rows P t) 1024 (by decide))) :
    k0_pay7 (F := Ideal) v0 v1 v4 v5 v8 v18 = E2 (φ := .bf16) (rows (mg A B P) t) := by
  unfold k0_pay7
  rw [h5, h6]
  subst h8 h18
  dsimp only
  erw [extf_E2, extf_E2, sg_E2, sg_E2, mulf_E2, mulf_E2, addf_E2]
  rfl

theorem pay8 (h7 : k0_pay7 (F := Ideal) v0 v1 v4 v5 v8 v18 = E2 (φ := .bf16) (rows Z t)) (hw : v30 = E2 (φ := .bf16) Wo) :
    k0_pay8 (F := Ideal) v0 v1 v4 v5 v8 v18 v30 = E2 (φ := .f32) (rows (mx Z Wo) t) := by
  unfold k0_pay8
  exact mul_all t _ _ Z Wo h7 hw _

theorem pay9 (h8 : k0_pay8 (F := Ideal) v0 v1 v4 v5 v8 v18 v30 = E2 (φ := .f32) (rows N t)) :
    k0_pay9 (F := Ideal) v0 v1 v4 v5 v8 v18 v30 = multiReduction .add [1] S512 (mulf (E2 (φ := .f32) (rows N t)) (E2 (φ := .f32) (rows N t))) 0x00000000#32 reduces_S512x1024_S512 (.inl rfl) rfl := by
  unfold k0_pay9
  rw [h8]

theorem pay1 {v32 x : FVec Ideal S512x1024 .f32} {v34 : FVec Ideal S512 .f32} {p q : FVec Ideal S1x1024 .f32} {g w : Fin 1024 → EReal} (h32 : v32 = E2 (φ := .f32) (rows N t))
    (h34 : v34 = multiReduction .add [1] S512 (mulf (E2 (φ := .f32) (rows N t)) (E2 (φ := .f32) (rows N t))) 0x00000000#32 reduces_S512x1024_S512 (.inl rfl) rfl)
    (hx : x = E2 (φ := .f32) (rows X t)) (hp : p = E2 (φ := .f32) fun _ j => g j) (hq : q = E2 (φ := .f32) fun _ j => w j) :
    k0_pay1 (F := Ideal) v32 v34 x p q = E2 (φ := .f32) (rows (added X N g w) t) := by
  subst h32 h34 hx hp hq
  unfold k0_pay1
  dsimp only
  erw [inv_E2, cast_E2, cast_E2, down_E2, down_E2, mulf_E2, mulf_E2, mulf_E2, addf_E2]
  rfl

end Payloads

variable (m : (ℓ : Loc nD τ sig) → Buf (Elt Ideal) ℓ) (c : Dev nD)
variable {X : Mat 8192 1024} {Ya Ym : Mat 8192 512} {P : Mat 8192 2048} {M : Mat 6 1024} {G : Mat 4 1024} {Wa Wm : Mat 512 1024} {Wo : Mat 1024 1024}

/-- The launch memory holds the nine arguments. -/
structure Holds (X : Mat 8192 1024) (Ya Ym : Mat 8192 512) (P : Mat 8192 2048) (M : Mat 6 1024) (G : Mat 4 1024) (Wa Wm : Mat 512 1024) (Wo : Mat 1024 1024) : Prop where
  a0 : m ((c.tc : Thread nD τ).loc main_arg0) = E2 (φ := .f32) X
  a1 : m ((c.tc : Thread nD τ).loc main_arg1) = E2 (φ := .bf16) Ya
  a2 : m ((c.tc : Thread nD τ).loc main_arg2) = E2 (φ := .bf16) Ym
  a3 : m ((c.tc : Thread nD τ).loc main_arg3) = E2 (φ := .bf16) P
  a4 : m ((c.tc : Thread nD τ).loc main_arg4) = E2 (φ := .f32) M
  a5 : m ((c.tc : Thread nD τ).loc main_arg5) = E2 (φ := .f32) G
  a6 : m ((c.tc : Thread nD τ).loc main_arg6) = E2 (φ := .f32) Wa
  a7 : m ((c.tc : Thread nD τ).loc main_arg7) = E2 (φ := .f32) Wm
  a8 : m ((c.tc : Thread nD τ).loc main_arg8) = E2 (φ := .f32) Wo

variable {m c}

/-! ## The host's operations -/

theorem in0 (H : Holds m c X Ya Ym P M G Wa Wm Wo) : V m c (Pipeline.arrRef spec0 0) = E2 (φ := .f32) X := (V_main_arg0 m c).trans H.a0
theorem in1 (H : Holds m c X Ya Ym P M G Wa Wm Wo) : V m c (Pipeline.arrRef spec0 1) = E2 (φ := .bf16) Ya := (V_main_arg1 m c).trans H.a1
theorem in2 (H : Holds m c X Ya Ym P M G Wa Wm Wo) : V m c (Pipeline.arrRef spec0 2) = E2 (φ := .bf16) Ym := (V_main_arg2 m c).trans H.a2
theorem in3 (H : Holds m c X Ya Ym P M G Wa Wm Wo) : V m c (Pipeline.arrRef spec0 3) = E2 (φ := .bf16) P := (V_main_arg3 m c).trans H.a3

/-- The operations before the rows are joined. -/
abbrev ops2 {F : FTy → Type} [FloatOps F] : List (HloOp τ sig (Elt F)) :=
  [ StableHlo.nullary main_cst (constant S_ .f32 0x00000000#32),
    StableHlo.unary main_cst main_v0 (broadcastInDim S6x1024 ![] bcast_S_S6x1024 : (⟨S_, .f32⟩ : BufTy).Contents (Elt F) → (⟨S6x1024, .f32⟩ : BufTy).Contents (Elt F)) ]

theorem in4 (H : Holds m c X Ya Ym P M G Wa Wm Wo) : V m c (Pipeline.arrRef spec0 4) = E2 (φ := .f32) (vecs M G) := by
  show StableHlo.after hostOps0 (fun b => m (c, b)) (Proc.devRef .tc main_v1) = _
  after_results
  refine (join3 ?_ ?_ ?_ _).trans (vecs_join M G concatenates_S6x1024_S4x1024_S6x1024_S16x1024_d0)
  · refine Eq.trans ?_ H.a4
    show StableHlo.after (ops2 (F := Ideal)) (fun b => m (c, b)) (Proc.devRef .tc main_arg4) = _
    after_results
  · refine Eq.trans ?_ H.a5
    show StableHlo.after (ops2 (F := Ideal)) (fun b => m (c, b)) (Proc.devRef .tc main_arg5) = _
    after_results
  · show StableHlo.after (ops2 (F := Ideal)) (fun b => m (c, b)) (Proc.devRef .tc main_v0) = _
    after_results
    funext i
    exact (broadcastInDim_apply _ bcast_S_S6x1024 _ i (fun a => a.elim0) (fun a => a.elim0)).trans Ideal.ofBits_zero_f32

theorem in5 (H : Holds m c X Ya Ym P M G Wa Wm Wo) : V m c (Pipeline.arrRef spec0 5) = E2 (φ := .bf16) Wa := by
  show StableHlo.after hostOps0 (fun b => m (c, b)) (Proc.devRef .tc main_v2) = _
  after_results
  exact congrArg (fun z => truncf .bf16 z bitsLt_bf16_f32) H.a6

theorem in6 (H : Holds m c X Ya Ym P M G Wa Wm Wo) : V m c (Pipeline.arrRef spec0 6) = E2 (φ := .bf16) Wm := by
  show StableHlo.after hostOps0 (fun b => m (c, b)) (Proc.devRef .tc main_v3) = _
  after_results
  exact congrArg (fun z => truncf .bf16 z bitsLt_bf16_f32) H.a7

theorem in7 (H : Holds m c X Ya Ym P M G Wa Wm Wo) : V m c (Pipeline.arrRef spec0 7) = E2 (φ := .bf16) Wo := by
  show StableHlo.after hostOps0 (fun b => m (c, b)) (Proc.devRef .tc main_v4) = _
  after_results
  exact congrArg (fun z => truncf .bf16 z bitsLt_bf16_f32) H.a8

/-! ## The windows' blocks -/

theorem lt16 (t : Fin cfg0.N) : t.val < 16 := Nat.lt_of_lt_of_eq t.isLt N_0

theorem idx0 : ∀ t : Fin cfg0.N, (win0_0.index t 0 = t.val ∧ win0_0.index t 1 = 0) := (by decide +kernel : ∀ t : Fin grid0.N, (win0_0.index t 0 = t.val ∧ win0_0.index t 1 = 0))

theorem i0 (H : Holds m c X Ya Ym P M G Wa Wm Wo) (t : Fin cfg0.N) : iblk m c 0 t = E2 (φ := .f32) (rows X t.val) :=
  (congrArg (fun (A : FVec Ideal S8192x1024 .f32) => fun i => A (((cfg0.win 0).blk t).view.emb i)) (in0 H)).trans
    (rows_of X t.val (lt16 t) (fun i => ((cfg0.win 0).blk t).view.emb i)
      (fun i => (by show win0_0.index t 0 * 512 + 1 * (i 0).val = _; rw [(idx0 t).1]; omega))
      (fun i => (by show win0_0.index t 1 * 1024 + 1 * (i 1).val = _; rw [(idx0 t).2]; omega)))

theorem idx1 : ∀ t : Fin cfg0.N, (win0_1.index t 0 = t.val ∧ win0_1.index t 1 = 0) := (by decide +kernel : ∀ t : Fin grid0.N, (win0_1.index t 0 = t.val ∧ win0_1.index t 1 = 0))

theorem i1 (H : Holds m c X Ya Ym P M G Wa Wm Wo) (t : Fin cfg0.N) : iblk m c 1 t = E2 (φ := .bf16) (rows Ya t.val) :=
  (congrArg (fun (A : FVec Ideal S8192x512 .bf16) => fun i => A (((cfg0.win 1).blk t).view.emb i)) (in1 H)).trans
    (rows_of Ya t.val (lt16 t) (fun i => ((cfg0.win 1).blk t).view.emb i)
      (fun i => (by show win0_1.index t 0 * 512 + 1 * (i 0).val = _; rw [(idx1 t).1]; omega))
      (fun i => (by show win0_1.index t 1 * 512 + 1 * (i 1).val = _; rw [(idx1 t).2]; omega)))

theorem idx2 : ∀ t : Fin cfg0.N, (win0_2.index t 0 = t.val ∧ win0_2.index t 1 = 0) := (by decide +kernel : ∀ t : Fin grid0.N, (win0_2.index t 0 = t.val ∧ win0_2.index t 1 = 0))

theorem i2 (H : Holds m c X Ya Ym P M G Wa Wm Wo) (t : Fin cfg0.N) : iblk m c 2 t = E2 (φ := .bf16) (rows Ym t.val) :=
  (congrArg (fun (A : FVec Ideal S8192x512 .bf16) => fun i => A (((cfg0.win 2).blk t).view.emb i)) (in2 H)).trans
    (rows_of Ym t.val (lt16 t) (fun i => ((cfg0.win 2).blk t).view.emb i)
      (fun i => (by show win0_2.index t 0 * 512 + 1 * (i 0).val = _; rw [(idx2 t).1]; omega))
      (fun i => (by show win0_2.index t 1 * 512 + 1 * (i 1).val = _; rw [(idx2 t).2]; omega)))

theorem idx3 : ∀ t : Fin cfg0.N, (win0_3.index t 0 = t.val ∧ win0_3.index t 1 = 0) := (by decide +kernel : ∀ t : Fin grid0.N, (win0_3.index t 0 = t.val ∧ win0_3.index t 1 = 0))

theorem i3 (H : Holds m c X Ya Ym P M G Wa Wm Wo) (t : Fin cfg0.N) : iblk m c 3 t = E2 (φ := .bf16) (rows P t.val) :=
  (congrArg (fun (A : FVec Ideal S8192x2048 .bf16) => fun i => A (((cfg0.win 3).blk t).view.emb i)) (in3 H)).trans
    (rows_of P t.val (lt16 t) (fun i => ((cfg0.win 3).blk t).view.emb i)
      (fun i => (by show win0_3.index t 0 * 512 + 1 * (i 0).val = _; rw [(idx3 t).1]; omega))
      (fun i => (by show win0_3.index t 1 * 2048 + 1 * (i 1).val = _; rw [(idx3 t).2]; omega)))

theorem idx4 : ∀ t : Fin cfg0.N, (win0_4.index t 0 = 0 ∧ win0_4.index t 1 = 0) := (by decide +kernel : ∀ t : Fin grid0.N, (win0_4.index t 0 = 0 ∧ win0_4.index t 1 = 0))

theorem i4 (H : Holds m c X Ya Ym P M G Wa Wm Wo) (t : Fin cfg0.N) : iblk m c 4 t = E2 (φ := .f32) (vecs M G) :=
  (congrArg (fun (A : FVec Ideal S16x1024 .f32) => fun i => A (((cfg0.win 4).blk t).view.emb i)) (in4 H)).trans
    (whole_of _ (fun i => ((cfg0.win 4).blk t).view.emb i)
      (fun i => (by show win0_4.index t 0 * 16 + 1 * (i 0).val = _; rw [(idx4 t).1]; omega))
      (fun i => (by show win0_4.index t 1 * 1024 + 1 * (i 1).val = _; rw [(idx4 t).2]; omega)))

theorem idx5 : ∀ t : Fin cfg0.N, (win0_5.index t 0 = 0 ∧ win0_5.index t 1 = 0) := (by decide +kernel : ∀ t : Fin grid0.N, (win0_5.index t 0 = 0 ∧ win0_5.index t 1 = 0))

theorem i5 (H : Holds m c X Ya Ym P M G Wa Wm Wo) (t : Fin cfg0.N) : iblk m c 5 t = E2 (φ := .bf16) Wa :=
  (congrArg (fun (A : FVec Ideal S512x1024 .bf16) => fun i => A (((cfg0.win 5).blk t).view.emb i)) (in5 H)).trans
    (whole_of _ (fun i => ((cfg0.win 5).blk t).view.emb i)
      (fun i => (by show win0_5.index t 0 * 512 + 1 * (i 0).val = _; rw [(idx5 t).1]; omega))
      (fun i => (by show win0_5.index t 1 * 1024 + 1 * (i 1).val = _; rw [(idx5 t).2]; omega)))

theorem idx6 : ∀ t : Fin cfg0.N, (win0_6.index t 0 = 0 ∧ win0_6.index t 1 = 0) := (by decide +kernel : ∀ t : Fin grid0.N, (win0_6.index t 0 = 0 ∧ win0_6.index t 1 = 0))

theorem i6 (H : Holds m c X Ya Ym P M G Wa Wm Wo) (t : Fin cfg0.N) : iblk m c 6 t = E2 (φ := .bf16) Wm :=
  (congrArg (fun (A : FVec Ideal S512x1024 .bf16) => fun i => A (((cfg0.win 6).blk t).view.emb i)) (in6 H)).trans
    (whole_of _ (fun i => ((cfg0.win 6).blk t).view.emb i)
      (fun i => (by show win0_6.index t 0 * 512 + 1 * (i 0).val = _; rw [(idx6 t).1]; omega))
      (fun i => (by show win0_6.index t 1 * 1024 + 1 * (i 1).val = _; rw [(idx6 t).2]; omega)))

theorem idx7 : ∀ t : Fin cfg0.N, (win0_7.index t 0 = 0 ∧ win0_7.index t 1 = 0) := (by decide +kernel : ∀ t : Fin grid0.N, (win0_7.index t 0 = 0 ∧ win0_7.index t 1 = 0))

theorem i7 (H : Holds m c X Ya Ym P M G Wa Wm Wo) (t : Fin cfg0.N) : iblk m c 7 t = E2 (φ := .bf16) Wo :=
  (congrArg (fun (A : FVec Ideal S1024x1024 .bf16) => fun i => A (((cfg0.win 7).blk t).view.emb i)) (in7 H)).trans
    (whole_of _ (fun i => ((cfg0.win 7).blk t).view.emb i)
      (fun i => (by show win0_7.index t 0 * 1024 + 1 * (i 0).val = _; rw [(idx7 t).1]; omega))
      (fun i => (by show win0_7.index t 1 * 1024 + 1 * (i 1).val = _; rw [(idx7 t).2]; omega)))

theorem idx8 : ∀ t : Fin cfg0.N, (win0_8.index t 0 = t.val ∧ win0_8.index t 1 = 0) := (by decide +kernel : ∀ t : Fin grid0.N, (win0_8.index t 0 = t.val ∧ win0_8.index t 1 = 0))

theorem rd8 (A : Mat 8192 1024) (t : Fin cfg0.N) : ((cfg0.win 8).blk t).view.read (Elt Ideal) (E2 (φ := .f32) A) = E2 (φ := .f32) (rows A t.val) :=
  rows_of A t.val (lt16 t) (fun i => ((cfg0.win 8).blk t).view.emb i)
      (fun i => (by show win0_8.index t 0 * 512 + 1 * (i 0).val = _; rw [(idx8 t).1]; omega))
      (fun i => (by show win0_8.index t 1 * 1024 + 1 * (i 1).val = _; rw [(idx8 t).2]; omega))

theorem cov8 (i : S8192x1024.Idx) : ∃ t : Fin cfg0.N, (cfg0.win 8).flush t = true ∧ i ∈ ((cfg0.win 8).blk t).view.set := by
  have h0 : (i 0 : Nat) < 8192 := (i 0).isLt
  let t : Fin cfg0.N := ⟨(i 0 : Nat) / 512, Nat.lt_of_lt_of_eq (by omega) N_0.symm⟩
  refine ⟨t, flush0_8 t, ?_⟩
  show i ∈ ((View.whole main_v5_0).slice (win0_8.rect t)).set
  rw [View.set_slice_whole, Rect.mem_set_unit]
  exact Fin.forall_fin_two.2 (in_tile i 512 (idx8 t).1 (idx8 t).2)

theorem idx9 : ∀ t : Fin cfg0.N, (win0_9.index t 0 = t.val ∧ win0_9.index t 1 = 0) := (by decide +kernel : ∀ t : Fin grid0.N, (win0_9.index t 0 = t.val ∧ win0_9.index t 1 = 0))

theorem rd9 (A : Mat 8192 1024) (t : Fin cfg0.N) : ((cfg0.win 9).blk t).view.read (Elt Ideal) (E2 (φ := .bf16) A) = E2 (φ := .bf16) (rows A t.val) :=
  rows_of A t.val (lt16 t) (fun i => ((cfg0.win 9).blk t).view.emb i)
      (fun i => (by show win0_9.index t 0 * 512 + 1 * (i 0).val = _; rw [(idx9 t).1]; omega))
      (fun i => (by show win0_9.index t 1 * 1024 + 1 * (i 1).val = _; rw [(idx9 t).2]; omega))

theorem cov9 (i : S8192x1024.Idx) : ∃ t : Fin cfg0.N, (cfg0.win 9).flush t = true ∧ i ∈ ((cfg0.win 9).blk t).view.set := by
  have h0 : (i 0 : Nat) < 8192 := (i 0).isLt
  let t : Fin cfg0.N := ⟨(i 0 : Nat) / 512, Nat.lt_of_lt_of_eq (by omega) N_0.symm⟩
  refine ⟨t, flush0_9 t, ?_⟩
  show i ∈ ((View.whole main_v5_1).slice (win0_9.rect t)).set
  rw [View.set_slice_whole, Rect.mem_set_unit]
  exact Fin.forall_fin_two.2 (in_tile i 512 (idx9 t).1 (idx9 t).2)

theorem idx10 : ∀ t : Fin cfg0.N, (win0_10.index t 0 = t.val ∧ win0_10.index t 1 = 0) := (by decide +kernel : ∀ t : Fin grid0.N, (win0_10.index t 0 = t.val ∧ win0_10.index t 1 = 0))

theorem rd10 (A : Mat 8192 1024) (t : Fin cfg0.N) : ((cfg0.win 10).blk t).view.read (Elt Ideal) (E2 (φ := .bf16) A) = E2 (φ := .bf16) (rows A t.val) :=
  rows_of A t.val (lt16 t) (fun i => ((cfg0.win 10).blk t).view.emb i)
      (fun i => (by show win0_10.index t 0 * 512 + 1 * (i 0).val = _; rw [(idx10 t).1]; omega))
      (fun i => (by show win0_10.index t 1 * 1024 + 1 * (i 1).val = _; rw [(idx10 t).2]; omega))

theorem cov10 (i : S8192x1024.Idx) : ∃ t : Fin cfg0.N, (cfg0.win 10).flush t = true ∧ i ∈ ((cfg0.win 10).blk t).view.set := by
  have h0 : (i 0 : Nat) < 8192 := (i 0).isLt
  let t : Fin cfg0.N := ⟨(i 0 : Nat) / 512, Nat.lt_of_lt_of_eq (by omega) N_0.symm⟩
  refine ⟨t, flush0_10 t, ?_⟩
  show i ∈ ((View.whole main_v5_2).slice (win0_10.rect t)).set
  rw [View.set_slice_whole, Rect.mem_set_unit]
  exact Fin.forall_fin_two.2 (in_tile i 512 (idx10 t).1 (idx10 t).2)

theorem idx11 : ∀ t : Fin cfg0.N, (win0_11.index t 0 = t.val ∧ win0_11.index t 1 = 0) := (by decide +kernel : ∀ t : Fin grid0.N, (win0_11.index t 0 = t.val ∧ win0_11.index t 1 = 0))

theorem rd11 (A : Mat 8192 1024) (t : Fin cfg0.N) : ((cfg0.win 11).blk t).view.read (Elt Ideal) (E2 (φ := .bf16) A) = E2 (φ := .bf16) (rows A t.val) :=
  rows_of A t.val (lt16 t) (fun i => ((cfg0.win 11).blk t).view.emb i)
      (fun i => (by show win0_11.index t 0 * 512 + 1 * (i 0).val = _; rw [(idx11 t).1]; omega))
      (fun i => (by show win0_11.index t 1 * 1024 + 1 * (i 1).val = _; rw [(idx11 t).2]; omega))

theorem cov11 (i : S8192x1024.Idx) : ∃ t : Fin cfg0.N, (cfg0.win 11).flush t = true ∧ i ∈ ((cfg0.win 11).blk t).view.set := by
  have h0 : (i 0 : Nat) < 8192 := (i 0).isLt
  let t : Fin cfg0.N := ⟨(i 0 : Nat) / 512, Nat.lt_of_lt_of_eq (by omega) N_0.symm⟩
  refine ⟨t, flush0_11 t, ?_⟩
  show i ∈ ((View.whole main_v5_3).slice (win0_11.rect t)).set
  rw [View.set_slice_whole, Rect.mem_set_unit]
  exact Fin.forall_fin_two.2 (in_tile i 512 (idx11 t).1 (idx11 t).2)

theorem idx12 : ∀ t : Fin cfg0.N, (win0_12.index t 0 = t.val ∧ win0_12.index t 1 = 0) := (by decide +kernel : ∀ t : Fin grid0.N, (win0_12.index t 0 = t.val ∧ win0_12.index t 1 = 0))

theorem rd12 (A : Mat 8192 1024) (t : Fin cfg0.N) : ((cfg0.win 12).blk t).view.read (Elt Ideal) (E2 (φ := .bf16) A) = E2 (φ := .bf16) (rows A t.val) :=
  rows_of A t.val (lt16 t) (fun i => ((cfg0.win 12).blk t).view.emb i)
      (fun i => (by show win0_12.index t 0 * 512 + 1 * (i 0).val = _; rw [(idx12 t).1]; omega))
      (fun i => (by show win0_12.index t 1 * 1024 + 1 * (i 1).val = _; rw [(idx12 t).2]; omega))

theorem cov12 (i : S8192x1024.Idx) : ∃ t : Fin cfg0.N, (cfg0.win 12).flush t = true ∧ i ∈ ((cfg0.win 12).blk t).view.set := by
  have h0 : (i 0 : Nat) < 8192 := (i 0).isLt
  let t : Fin cfg0.N := ⟨(i 0 : Nat) / 512, Nat.lt_of_lt_of_eq (by omega) N_0.symm⟩
  refine ⟨t, flush0_12 t, ?_⟩
  show i ∈ ((View.whole main_v5_4).slice (win0_12.rect t)).set
  rw [View.set_slice_whole, Rect.mem_set_unit]
  exact Fin.forall_fin_two.2 (in_tile i 512 (idx12 t).1 (idx12 t).2)

/-! ## What a point leaves -/

theorem at8 (H : Holds m c X Ya Ym P M G Wa Wm Wo) (t : Fin cfg0.N) : out0_8 (F := Ideal) (iblk m c 0 t) (iblk m c 1 t) (iblk m c 2 t) (iblk m c 3 t) (iblk m c 4 t) (iblk m c 5 t) (iblk m c 6 t) (iblk m c 7 t)
    = E2 (φ := .f32) (rows (added X (mx (mg (pr Ya Wa) (pr Ym Wm) P) Wo) (M 2) (G 1)) t.val) := by
  rw [i0 H t, i1 H t, i2 H t, i3 H t, i4 H t, i5 H t, i6 H t, i7 H t]
  unfold out0_8 k0_pay10
  refine (View.canon_cons_unit_zero (S := S512x1024) off2 _ _ _).trans ?_
  exact pay1 t.val (pay8 t.val (pay7 t.val (pay5 t.val (ld_all _ _) (ld_all _ _)) (pay6 t.val (ld_all _ _) (ld_all _ _)) (ld_cols _ 0 (by decide) _) (ld_cols _ 1024 (by decide) _)) (ld_all _ _)) (pay9 t.val (pay8 t.val (pay7 t.val (pay5 t.val (ld_all _ _) (ld_all _ _)) (pay6 t.val (ld_all _ _) (ld_all _ _)) (ld_cols _ 0 (by decide) _) (ld_cols _ 1024 (by decide) _)) (ld_all _ _))) (ld_all _ _) (ld_row (vecs M G) 2 (by decide) _) (ld_row (vecs M G) 7 (by decide) _)

theorem at9 (H : Holds m c X Ya Ym P M G Wa Wm Wo) (t : Fin cfg0.N) : out0_9 (F := Ideal) (iblk m c 0 t) (iblk m c 1 t) (iblk m c 2 t) (iblk m c 3 t) (iblk m c 4 t) (iblk m c 5 t) (iblk m c 6 t) (iblk m c 7 t)
    = E2 (φ := .bf16) (rows (mg (pr Ya Wa) (pr Ym Wm) P) t.val) := by
  rw [i0 H t, i1 H t, i2 H t, i3 H t, i4 H t, i5 H t, i6 H t, i7 H t]
  unfold out0_9
  refine (View.canon_cons_unit_zero (S := S512x1024) off2 _ _ _).trans ?_
  exact pay7 t.val (pay5 t.val (ld_all _ _) (ld_all _ _)) (pay6 t.val (ld_all _ _) (ld_all _ _)) (ld_cols _ 0 (by decide) _) (ld_cols _ 1024 (by decide) _)

theorem at10 (H : Holds m c X Ya Ym P M G Wa Wm Wo) (t : Fin cfg0.N) : out0_10 (F := Ideal) (iblk m c 0 t) (iblk m c 1 t) (iblk m c 2 t) (iblk m c 3 t) (iblk m c 4 t) (iblk m c 5 t) (iblk m c 6 t) (iblk m c 7 t)
    = E2 (φ := .bf16) (rows (mx (mg (pr Ya Wa) (pr Ym Wm) P) Wo) t.val) := by
  rw [i0 H t, i1 H t, i2 H t, i3 H t, i4 H t, i5 H t, i6 H t, i7 H t]
  unfold out0_10 k0_pay10
  refine (View.canon_cons_unit_zero (S := S512x1024) off2 _ _ _).trans ?_
  exact congrArg (fun z => truncf .bf16 z bitsLt_bf16_f32) (pay8 t.val (pay7 t.val (pay5 t.val (ld_all _ _) (ld_all _ _)) (pay6 t.val (ld_all _ _) (ld_all _ _)) (ld_cols _ 0 (by decide) _) (ld_cols _ 1024 (by decide) _)) (ld_all _ _))

theorem at11 (H : Holds m c X Ya Ym P M G Wa Wm Wo) (t : Fin cfg0.N) : out0_11 (F := Ideal) (iblk m c 0 t) (iblk m c 1 t) (iblk m c 2 t) (iblk m c 3 t) (iblk m c 4 t) (iblk m c 5 t) (iblk m c 6 t) (iblk m c 7 t)
    = E2 (φ := .bf16) (rows (pr Ya Wa) t.val) := by
  rw [i0 H t, i1 H t, i2 H t, i3 H t, i4 H t, i5 H t, i6 H t, i7 H t]
  unfold out0_11
  refine (View.canon_cons_unit_zero (S := S512x1024) off2 _ _ _).trans ?_
  exact congrArg (fun z => truncf .bf16 z bitsLt_bf16_f32) (pay5 t.val (ld_all _ _) (ld_all _ _))

theorem at12 (H : Holds m c X Ya Ym P M G Wa Wm Wo) (t : Fin cfg0.N) : out0_12 (F := Ideal) (iblk m c 0 t) (iblk m c 1 t) (iblk m c 2 t) (iblk m c 3 t) (iblk m c 4 t) (iblk m c 5 t) (iblk m c 6 t) (iblk m c 7 t)
    = E2 (φ := .bf16) (rows (pr Ym Wm) t.val) := by
  rw [i0 H t, i1 H t, i2 H t, i3 H t, i4 H t, i5 H t, i6 H t, i7 H t]
  unfold out0_12
  refine (View.canon_cons_unit_zero (S := S512x1024) off2 _ _ _).trans ?_
  exact congrArg (fun z => truncf .bf16 z bitsLt_bf16_f32) (pay6 t.val (ld_all _ _) (ld_all _ _))

theorem kernel (H : Holds m c X Ya Ym P M G Wa Wm Wo) :
    (dats m 0 c).arrAt 8 cfg0.N = E2 (φ := .f32) (added X (mx (mg (pr Ya Wa) (pr Ym Wm) P) Wo) (M 2) (G 1))
    ∧ (dats m 0 c).arrAt 9 cfg0.N = E2 (φ := .bf16) (mg (pr Ya Wa) (pr Ym Wm) P)
    ∧ (dats m 0 c).arrAt 10 cfg0.N = E2 (φ := .bf16) (mx (mg (pr Ya Wa) (pr Ym Wm) P) Wo)
    ∧ (dats m 0 c).arrAt 11 cfg0.N = E2 (φ := .bf16) (pr Ya Wa)
    ∧ (dats m 0 c).arrAt 12 cfg0.N = E2 (φ := .bf16) (pr Ym Wm) := by
  refine ⟨?_, ?_, ?_, ?_, ?_⟩
  · exact (dats m 0 c).arrAt_eq_of_cover 8 _ (fun t _ => (Value.flushed8 m c t).trans ((congrArg (fun s => (cfg0.win 8).cut (grid0.coords t) s) (at8 H t)).trans (rd8 _ t).symm)) cov8
  · exact (dats m 0 c).arrAt_eq_of_cover 9 _ (fun t _ => (Value.flushed9 m c t).trans ((congrArg (fun s => (cfg0.win 9).cut (grid0.coords t) s) (at9 H t)).trans (rd9 _ t).symm)) cov9
  · exact (dats m 0 c).arrAt_eq_of_cover 10 _ (fun t _ => (Value.flushed10 m c t).trans ((congrArg (fun s => (cfg0.win 10).cut (grid0.coords t) s) (at10 H t)).trans (rd10 _ t).symm)) cov10
  · exact (dats m 0 c).arrAt_eq_of_cover 11 _ (fun t _ => (Value.flushed11 m c t).trans ((congrArg (fun s => (cfg0.win 11).cut (grid0.coords t) s) (at11 H t)).trans (rd11 _ t).symm)) cov11
  · exact (dats m 0 c).arrAt_eq_of_cover 12 _ (fun t _ => (Value.flushed12 m c t).trans ((congrArg (fun s => (cfg0.win 12).cut (grid0.coords t) s) (at12 H t)).trans (rd12 _ t).symm)) cov12

end Kernel

section Reference
open Cert.Reference11Ideal Cert.Reference11Ideal.Gen Cert.Reference11Ideal.Read
variable (X : Mat 8192 1024) (Ya Ym : Mat 8192 512) (P : Mat 8192 2048) (M : Mat 6 1024) (G : Mat 4 1024) (Wa Wm : Mat 512 1024) (Wo : Mat 1024 1024)

theorem r3 : val_main_v3 (F := Ideal) (E2 (φ := .bf16) Ya) (E2 (φ := .f32) Wa) = E2 (φ := .f32) (pr Ya Wa) :=
  eq_E2 fun a b => by
    rw [val_main_v3_apply]
    rfl

theorem r4 : val_main_v4 (F := Ideal) (E2 (φ := .bf16) Ym) (E2 (φ := .f32) Wm) = E2 (φ := .f32) (pr Ym Wm) :=
  eq_E2 fun a b => by
    rw [val_main_v4_apply]
    rfl

theorem r11 : val_main_v11 (F := Ideal) (E2 (φ := .bf16) P) = E2 (φ := .f32) fun i j => sg (colsFrom P 0 (by decide) i j) :=
  eq_E2 fun a b => by
    rw [val_main_v11_apply, val_main_v10_apply, val_main_v9_apply, val_main_v8_apply, val_main_v7_apply, val_main_v6_apply, val_main_v5_apply, val_main_v2_apply]
    exact congrArg (fun z => sg (P a z)) (Fin.ext (Nat.zero_add _).symm)

theorem r19 : val_main_v19 (F := Ideal) (E2 (φ := .bf16) P) = E2 (φ := .f32) fun i j => sg (colsFrom P 1024 (by decide) i j) :=
  eq_E2 fun a b => by
    rw [val_main_v19_apply, val_main_v18_apply, val_main_v17_apply, val_main_v16_apply, val_main_v15_apply, val_main_v14_apply, val_main_v13_apply, val_main_v2_apply]
    rfl

theorem r21 : val_main_v21 (F := Ideal) (E2 (φ := .bf16) Ya) (E2 (φ := .bf16) Ym) (E2 (φ := .bf16) P) (E2 (φ := .f32) Wa) (E2 (φ := .f32) Wm)
    = E2 (φ := .f32) (mg (pr Ya Wa) (pr Ym Wm) P) :=
  eq_E2 fun a b => by
    rw [val_main_v21_apply, val_main_v12_apply, val_main_v20_apply, r3, r4, r11, r19]
    rfl

theorem r22 : val_main_v22 (F := Ideal) (E2 (φ := .bf16) Ya) (E2 (φ := .bf16) Ym) (E2 (φ := .bf16) P) (E2 (φ := .f32) Wa) (E2 (φ := .f32) Wm) (E2 (φ := .f32) Wo)
    = E2 (φ := .f32) (mx (mg (pr Ya Wa) (pr Ym Wm) P) Wo) :=
  eq_E2 fun a b => by
    rw [val_main_v22_apply, r21]
    rfl

theorem r35 : val_main_v35 (F := Ideal) (E2 (φ := .bf16) Ya) (E2 (φ := .bf16) Ym) (E2 (φ := .bf16) P) (E2 (φ := .f32) Wa) (E2 (φ := .f32) Wm) (E2 (φ := .f32) Wo)
    = E2 (φ := .f32) fun i _ => inv (mx (mg (pr Ya Wa) (pr Ym Wm) P) Wo i) :=
  eq_E2 fun a b => by
    rw [val_main_v35_apply, val_main_v34_apply, val_main_v33_apply, val_main_v32_apply, val_main_v31_apply, val_main_v30_apply, val_main_v29_apply]
    refine congrArg (fun z => Ideal.rsqrt (Ideal.div z _ + _)) ?_
    refine (congrArg (· + _) (show val_main_cst_3 (F := Ideal) _ = 0 from Ideal.ofBits_zero_f32)).trans ((zero_add _).trans ?_)
    refine Finset.sum_congr rfl fun k _ => ?_
    rw [val_main_v28_apply, r22]
    rfl

theorem r39 : val_main_v39 (F := Ideal) (E2 (φ := .f32) G) = E2 (φ := .f32) fun _ j => G 1 j :=
  eq_E2 fun a b => by
    rw [val_main_v39_apply, val_main_v38_apply, val_main_v27_apply, val_main_v26_apply]
    exact congrArg (G 1) (Fin.ext (Nat.mod_eq_of_lt b.isLt))

theorem r41 : val_main_v41 (F := Ideal) (E2 (φ := .f32) M) = E2 (φ := .f32) fun _ j => M 2 j :=
  eq_E2 fun a b => by
    rw [val_main_v41_apply, val_main_v25_apply, val_main_v24_apply, val_main_v23_apply]
    exact congrArg (M 2) (Fin.ext (Nat.mod_eq_of_lt b.isLt))

theorem r43 : val_main_v43 (F := Ideal) (E2 (φ := .f32) X) (E2 (φ := .bf16) Ya) (E2 (φ := .bf16) Ym) (E2 (φ := .bf16) P) (E2 (φ := .f32) M) (E2 (φ := .f32) G) (E2 (φ := .f32) Wa)
      (E2 (φ := .f32) Wm) (E2 (φ := .f32) Wo)
    = E2 (φ := .f32) (added X (mx (mg (pr Ya Wa) (pr Ym Wm) P) Wo) (M 2) (G 1)) :=
  eq_E2 fun a b => by
    rw [val_main_v43_apply, val_main_v42_apply, r41, val_main_v40_apply, r39, val_main_v37_apply, val_main_v36_apply, r35, r22]
    rfl

theorem r44 : val_main_v44 (F := Ideal) (E2 (φ := .bf16) Ya) (E2 (φ := .bf16) Ym) (E2 (φ := .bf16) P) (E2 (φ := .f32) Wa) (E2 (φ := .f32) Wm)
    = E2 (φ := .bf16) (mg (pr Ya Wa) (pr Ym Wm) P) :=
  eq_E2 fun a b => by
    rw [val_main_v44_apply, r21]
    rfl

theorem r45 : val_main_v45 (F := Ideal) (E2 (φ := .bf16) Ya) (E2 (φ := .bf16) Ym) (E2 (φ := .bf16) P) (E2 (φ := .f32) Wa) (E2 (φ := .f32) Wm) (E2 (φ := .f32) Wo)
    = E2 (φ := .bf16) (mx (mg (pr Ya Wa) (pr Ym Wm) P) Wo) :=
  eq_E2 fun a b => by
    rw [val_main_v45_apply, r22]
    rfl

theorem r46 : val_main_v46 (F := Ideal) (E2 (φ := .bf16) Ya) (E2 (φ := .f32) Wa) = E2 (φ := .bf16) (pr Ya Wa) :=
  eq_E2 fun a b => by
    rw [val_main_v46_apply, r3]
    rfl

theorem r47 : val_main_v47 (F := Ideal) (E2 (φ := .bf16) Ym) (E2 (φ := .f32) Wm) = E2 (φ := .bf16) (pr Ym Wm) :=
  eq_E2 fun a b => by
    rw [val_main_v47_apply, r4]
    rfl

end Reference

open Idealize.ShloMosaic.StableHlo Cert.Reference11Ideal.Read in
theorem algebraic : Cert.algebraic_Kernel11Ideal_Reference11Ideal (hKernel11Ideal := Cert.Kernel11Ideal.Gen.facts) (hReference11Ideal := Cert.Reference11Ideal.Gen.facts) := by
  intro m g m' g' _ hag
  let X (c : Dev Cert.Kernel11Ideal.nD) := un (φ := .f32) (n := 8192) (m := 1024) (m ((c.tc : Thread Cert.Kernel11Ideal.nD Cert.Kernel11Ideal.τ).loc Cert.Kernel11Ideal.main_arg0))
  let Ya (c : Dev Cert.Kernel11Ideal.nD) := un (φ := .bf16) (n := 8192) (m := 512) (m ((c.tc : Thread Cert.Kernel11Ideal.nD Cert.Kernel11Ideal.τ).loc Cert.Kernel11Ideal.main_arg1))
  let Ym (c : Dev Cert.Kernel11Ideal.nD) := un (φ := .bf16) (n := 8192) (m := 512) (m ((c.tc : Thread Cert.Kernel11Ideal.nD Cert.Kernel11Ideal.τ).loc Cert.Kernel11Ideal.main_arg2))
  let P (c : Dev Cert.Kernel11Ideal.nD) := un (φ := .bf16) (n := 8192) (m := 2048) (m ((c.tc : Thread Cert.Kernel11Ideal.nD Cert.Kernel11Ideal.τ).loc Cert.Kernel11Ideal.main_arg3))
  let M (c : Dev Cert.Kernel11Ideal.nD) := un (φ := .f32) (n := 6) (m := 1024) (m ((c.tc : Thread Cert.Kernel11Ideal.nD Cert.Kernel11Ideal.τ).loc Cert.Kernel11Ideal.main_arg4))
  let G (c : Dev Cert.Kernel11Ideal.nD) := un (φ := .f32) (n := 4) (m := 1024) (m ((c.tc : Thread Cert.Kernel11Ideal.nD Cert.Kernel11Ideal.τ).loc Cert.Kernel11Ideal.main_arg5))
  let Wa (c : Dev Cert.Kernel11Ideal.nD) := un (φ := .f32) (n := 512) (m := 1024) (m ((c.tc : Thread Cert.Kernel11Ideal.nD Cert.Kernel11Ideal.τ).loc Cert.Kernel11Ideal.main_arg6))
  let Wm (c : Dev Cert.Kernel11Ideal.nD) := un (φ := .f32) (n := 512) (m := 1024) (m ((c.tc : Thread Cert.Kernel11Ideal.nD Cert.Kernel11Ideal.τ).loc Cert.Kernel11Ideal.main_arg7))
  let Wo (c : Dev Cert.Kernel11Ideal.nD) := un (φ := .f32) (n := 1024) (m := 1024) (m ((c.tc : Thread Cert.Kernel11Ideal.nD Cert.Kernel11Ideal.τ).loc Cert.Kernel11Ideal.main_arg8))
  have H : ∀ c, Holds m c (X c) (Ya c) (Ym c) (P c) (M c) (G c) (Wa c) (Wm c) (Wo c) := fun c => ⟨E2_un _, E2_un _, E2_un _, E2_un _, E2_un _, E2_un _, E2_un _, E2_un _, E2_un _⟩
  refine ⟨fun c => E2 (φ := .f32) (added (X c) (mx (mg (pr (Ya c) (Wa c)) (pr (Ym c) (Wm c)) (P c)) (Wo c)) (M c 2) (G c 1)),
    fun c => E2 (φ := .bf16) (mg (pr (Ya c) (Wa c)) (pr (Ym c) (Wm c)) (P c)),
    fun c => E2 (φ := .bf16) (mx (mg (pr (Ya c) (Wa c)) (pr (Ym c) (Wm c)) (P c)) (Wo c)),
    fun c => E2 (φ := .bf16) (pr (Ya c) (Wa c)),
    fun c => E2 (φ := .bf16) (pr (Ym c) (Wm c)), ?_, ?_⟩
  · refine (θ_run Cert.Kernel11Ideal.defs _ _).mono (fun r h c => ?_) (Cert.Kernel11Ideal.Value.run_blocks m g)
    obtain ⟨e0, e1, e2, e3, e4, k⟩ := h c
    obtain ⟨f0, f1, f2, f3, f4⟩ := kernel (H c)
    exact ⟨e0.trans f0, e1.trans f1, e2.trans f2, e3.trans f3, e4.trans f4, k⟩
  · refine (θ_run Cert.Reference11Ideal.defs _ _).mono (fun r h c => ?_) (Cert.Reference11Ideal.Value.run (F := Ideal) m' g')
    obtain ⟨e0, e1, e2, e3, e4, k⟩ := h c
    obtain ⟨b0, b1, b2, b3, b4, b5, b6, b7, b8⟩ := hag c
    have a0 := b0.trans (H c).a0
    have a1 := b1.trans (H c).a1
    have a2 := b2.trans (H c).a2
    have a3 := b3.trans (H c).a3
    have a4 := b4.trans (H c).a4
    have a5 := b5.trans (H c).a5
    have a6 := b6.trans (H c).a6
    have a7 := b7.trans (H c).a7
    have a8 := b8.trans (H c).a8
    refine ⟨(e0.trans (val_main_v43_eq _ _)).trans ?_, (e1.trans (val_main_v44_eq _ _ _ _ _)).trans ?_,
      (e2.trans (val_main_v45_eq _ _ _ _ _ _)).trans ?_, (e3.trans (val_main_v46_eq _ _)).trans ?_,
      (e4.trans (val_main_v47_eq _ _)).trans ?_, k⟩
    all_goals simp only [a0, a1, a2, a3, a4, a5, a6, a7, a8]
    · exact r43 _ _ _ _ _ _ _ _ _
    · exact r44 _ _ _ _ _
    · exact r45 _ _ _ _ _ _
    · exact r46 _ _
    · exact r47 _ _

theorem frame : Cert.quiescent_Reference11Ideal (hReference11Ideal := Cert.Reference11Ideal.Gen.facts) := fun m g _ =>
  (θ_run Cert.Reference11Ideal.defs _ _).mono (fun r h => ⟨fun c => (h c).2.2.2.2.2, sem_eq_zero_of_no_sems (by decide) r.2⟩)
    (Cert.Reference11Ideal.Value.run (F := Ideal) m g)

end Cert.MixFwd

end

end
-- ==== Proof.Adam.lean ====
/- The update of a weight, element by element: the two new moments, the change of the weight and the sum of the eight devices' parts,
   as the kernel's bodies compute them on vectors and as the host's operations do. -/
module

public import Idealize.ShloMosaic.PureOps.Ideal.Laws
public import Idealize.ShloMosaic.Lib.ValueIdx
public import Idealize.ShloMosaic.Lib.ValueLayout
public import Idealize.ShloMosaic.Lib.Pipeline.ReadBack
public import Idealize.ShloMosaic.Lib.Pipeline.Value
public import Idealize.ShloMosaic.Lib.IdealHost

@[expose] public section

set_option maxRecDepth 16384

noncomputable section

namespace Cert.Adam

open Idealize.ShloMosaic Idealize.ShloMosaic.Pipeline Idealize.ShloMosaic.ValueIdx
open scoped BigOperators

/-- The new first moment from the gradient and the old one. -/
def mom (g m : EReal) : EReal :=
  FloatOps.addf (F := Ideal) (φ := .f32) (FloatOps.mulf (F := Ideal) (φ := .f32) (Scalar.ofBits (F := Ideal) .f32 0x3F666666#32) m) (FloatOps.mulf (F := Ideal) (φ := .f32) (Scalar.ofBits (F := Ideal) .f32 0x3DCCCCCD#32) g)

/-- The new second moment. -/
def var (g v : EReal) : EReal :=
  FloatOps.addf (F := Ideal) (φ := .f32) (FloatOps.mulf (F := Ideal) (φ := .f32) (Scalar.ofBits (F := Ideal) .f32 0x3F7FBE77#32) v)
    (FloatOps.mulf (F := Ideal) (φ := .f32) (Scalar.ofBits (F := Ideal) .f32 0x3A83126F#32) (FloatOps.mulf (F := Ideal) (φ := .f32) g g))

/-- The change of the weight. -/
def chg (g w m v : EReal) : EReal :=
  FloatOps.mulf (F := Ideal) (φ := .f32) (Scalar.ofBits (F := Ideal) .f32 0xBA83126F#32) (FloatOps.addf (F := Ideal) (φ := .f32)
    (FloatOps.divf (F := Ideal) (φ := .f32) (FloatOps.divf (F := Ideal) (φ := .f32) (mom g m) (Scalar.ofBits (F := Ideal) .f32 0x3F26BD02#32))
      (FloatOps.addf (F := Ideal) (φ := .f32) (FloatOps.sqrt (F := Ideal) (φ := .f32) (FloatOps.divf (F := Ideal) (φ := .f32) (var g v) (Scalar.ofBits (F := Ideal) .f32 0x3C231ACC#32))) (Scalar.ofBits (F := Ideal) .f32 0x322BCC77#32)))
    (FloatOps.mulf (F := Ideal) (φ := .f32) (Scalar.ofBits (F := Ideal) .f32 0x3C23D70A#32) w))

/-! ## The host's operations -/

section Host
variable {S : Shape} (b : Shape.BroadcastsInDim ⟨0, ![]⟩ S ![])

theorem host_mom (g m : FVec Ideal S .f32) :
    addf (mulf (broadcastInDim S ![] b (constant (F := Ideal) ⟨0, ![]⟩ .f32 0x3F666666#32)) m) (mulf (broadcastInDim S ![] b (constant (F := Ideal) ⟨0, ![]⟩ .f32 0x3DCCCCCD#32)) g)
      = fun i => mom (g i) (m i) := rfl

theorem host_var (g v : FVec Ideal S .f32) :
    addf (mulf (broadcastInDim S ![] b (constant (F := Ideal) ⟨0, ![]⟩ .f32 0x3F7FBE77#32)) v) (mulf (broadcastInDim S ![] b (constant (F := Ideal) ⟨0, ![]⟩ .f32 0x3A83126F#32)) (mulf g g))
      = fun i => var (g i) (v i) := rfl

theorem host_chg (g w m v : FVec Ideal S .f32) :
    mulf (broadcastInDim S ![] b (constant (F := Ideal) ⟨0, ![]⟩ .f32 0xBA83126F#32)) (addf (Host.divf (Host.divf
      (addf (mulf (broadcastInDim S ![] b (constant (F := Ideal) ⟨0, ![]⟩ .f32 0x3F666666#32)) m) (mulf (broadcastInDim S ![] b (constant (F := Ideal) ⟨0, ![]⟩ .f32 0x3DCCCCCD#32)) g))
      (broadcastInDim S ![] b (constant (F := Ideal) ⟨0, ![]⟩ .f32 0x3F26BD02#32))) (addf (Host.sqrt (Host.divf
      (addf (mulf (broadcastInDim S ![] b (constant (F := Ideal) ⟨0, ![]⟩ .f32 0x3F7FBE77#32)) v) (mulf (broadcastInDim S ![] b (constant (F := Ideal) ⟨0, ![]⟩ .f32 0x3A83126F#32)) (mulf g g)))
      (broadcastInDim S ![] b (constant (F := Ideal) ⟨0, ![]⟩ .f32 0x3C231ACC#32)))) (broadcastInDim S ![] b (constant (F := Ideal) ⟨0, ![]⟩ .f32 0x322BCC77#32))))
      (mulf (broadcastInDim S ![] b (constant (F := Ideal) ⟨0, ![]⟩ .f32 0x3C23D70A#32)) w))
      = fun i => chg (g i) (w i) (m i) (v i) := rfl

end Host

/-! ## The sum of the eight parts -/

variable {n k : ℕ}

/-- The sum over the devices. -/
def tot (A : (⟨3, ![8, n, k]⟩ : Shape).Idx → EReal) : (⟨2, ![n, k]⟩ : Shape).Idx → EReal := fun i => ∑ d : Fin 8, A (ix3 d (i 0) (i 1))

theorem host_tot (A : FVec Ideal ⟨3, ![8, n, k]⟩ .f32) (h' : Shape.ReducesTo ⟨3, ![8, n, k]⟩ [0] ⟨2, ![n, k]⟩) (h : Shape.Reduces ⟨3, ![8, n, k]⟩ [0] ⟨2, ![n, k]⟩) (hu) :
    Host.reduceAdd A (constant (F := Ideal) ⟨0, ![]⟩ .f32 0x00000000#32) h' hu = tot A := by
  funext i
  simp only [Host.reduceAdd, Ideal.hostReduceAdd_def]
  rw [Ideal.hostReduceAdd_single h' h]
  refine (congrArg (· + _) Ideal.ofBits_zero_f32).trans ((zero_add _).trans (Finset.sum_congr rfl fun d _ => ?_))
  exact congrArg A (funext fun a => Fin.ext (by match a with | ⟨0, _⟩ => rfl | ⟨1, _⟩ => rfl | ⟨2, _⟩ => rfl))

/-- One part, cut out of the eight. -/
theorem part (A : (⟨3, ![8, n, k]⟩ : Shape).Idx → EReal) (d : ℕ) (hd : d < 8) (inb) (hc : Shape.ShapeCasts ⟨3, ![1, n, k]⟩ ⟨2, ![n, k]⟩) (i : (⟨2, ![n, k]⟩ : Shape).Idx) :
    shapeCast ⟨2, ![n, k]⟩ (fun x => A ((Rect.unit (s := ⟨3, ![8, n, k]⟩) ![d, 0, 0] ![1, n, k] inb).idx x)) hc i = A (ix3 ⟨d, hd⟩ (i 0) (i 1)) := by
  refine (shapeCast_apply _ hc i (ix3 0 (i 0) (i 1)) ?_).trans (congrArg A (funext fun a => Fin.ext ?_))
  · rw [Shape.rowMajor_val_three, Shape.rowMajor_val_two]
    show (0 * n + (i 0).val) * k + (i 1).val = (i 0).val * k + (i 1).val
    rw [Nat.zero_mul, Nat.zero_add]
  · match a with
    | ⟨0, _⟩ => show d + 1 * 0 = d; omega
    | ⟨1, _⟩ => show 0 + 1 * (i 0).val = (i 0).val; omega
    | ⟨2, _⟩ => show 0 + 1 * (i 1).val = (i 1).val; omega

/-- One part of the eight, as a matrix. -/
abbrev cutAt (A : (⟨3, ![8, n, k]⟩ : Shape).Idx → EReal) (d : ℕ) (inb : ∀ a : Fin 3, (![d, 0, 0] : Fin 3 → ℕ) a + (![1, n, k] : Fin 3 → ℕ) a ≤ (![8, n, k] : Fin 3 → ℕ) a)
    (hc : Shape.ShapeCasts ⟨3, ![1, n, k]⟩ ⟨2, ![n, k]⟩) : (⟨2, ![n, k]⟩ : Shape).Idx → EReal :=
  shapeCast ⟨2, ![n, k]⟩ (fun x => A ((Rect.unit (s := ⟨3, ![8, n, k]⟩) ![d, 0, 0] ![1, n, k] inb).idx x)) hc

/-- The parts added one after another. -/
theorem tot_parts (A : (⟨3, ![8, n, k]⟩ : Shape).Idx → EReal) (hc : Shape.ShapeCasts ⟨3, ![1, n, k]⟩ ⟨2, ![n, k]⟩) (h0 h1 h2 h3 h4 h5 h6 h7) :
    (fun i => ((((((cutAt A 0 h0 hc i + cutAt A 1 h1 hc i) + cutAt A 2 h2 hc i) + cutAt A 3 h3 hc i) + cutAt A 4 h4 hc i) + cutAt A 5 h5 hc i)
      + cutAt A 6 h6 hc i) + cutAt A 7 h7 hc i) = tot A := by
  funext i
  rw [show cutAt A 0 h0 hc i = _ from part A 0 (by decide) h0 hc i, show cutAt A 1 h1 hc i = _ from part A 1 (by decide) h1 hc i,
    show cutAt A 2 h2 hc i = _ from part A 2 (by decide) h2 hc i, show cutAt A 3 h3 hc i = _ from part A 3 (by decide) h3 hc i,
    show cutAt A 4 h4 hc i = _ from part A 4 (by decide) h4 hc i, show cutAt A 5 h5 hc i = _ from part A 5 (by decide) h5 hc i,
    show cutAt A 6 h6 hc i = _ from part A 6 (by decide) h6 hc i, show cutAt A 7 h7 hc i = _ from part A 7 (by decide) h7 hc i]
  exact (Fin.sum_univ_eight (fun d => A (ix3 d (i 0) (i 1)))).symm

end Cert.Adam

end
-- ==== Proof.OptFfn.lean ====
/- The update of a weight of the feed-forward block, from the eight devices' parts of its gradient: the kernel's arrays are the
   reference's, for all values. -/
module

public import proofs.«01_k».proof.Defs
public import proofs.«01_k».proof.Proof.Adam
public import proofs.«01_k».proof.Proof.Gen.Kernel12Ideal.Value
public import proofs.«01_k».proof.Proof.Gen.Reference12Ideal.Run
public import proofs.«01_k».proof.Proof.Gen.Reference12Ideal
public import Idealize.ShloMosaic.Adequacy
public import Idealize.ShloMosaic.Init

@[expose] public section

set_option maxRecDepth 16384

noncomputable section

namespace Cert.OptFfn

open Idealize.ShloMosaic Idealize.ShloMosaic.ValueIdx Idealize.SL.Sem Cert.Adam

section Kernel
open Cert.Kernel12Ideal Cert.Kernel12Ideal.Gen

/-- The body's sum. -/
theorem sum (A : Vec Ideal S8x352x1024 .bf16) :
    k0_pay4 (F := Ideal) (View.ld A r0_0) (View.ld A r0_1) (View.ld A r0_2) (View.ld A r0_3) (View.ld A r0_4) (View.ld A r0_5) (View.ld A r0_6) (View.ld A r0_7) = tot A := by
  unfold k0_pay4
  exact tot_parts A shapeCasts_S1x352x1024_S352x1024 _ _ _ _ _ _ _ _

variable (A : Vec Ideal S8x352x1024 .bf16) (w u v : Vec Ideal S352x1024 .f32)

theorem sum' : k0_pay5 (F := Ideal) A w u v = tot A := sum A

theorem g5 : Value.G5 (F := Ideal) A w u v = fun i => chg (tot A i) (w i) (u i) (v i) := by
  show k0_pay3 (F := Ideal) (k0_pay5 A w u v) w u v = _
  rw [sum']; rfl

theorem g6 : Value.G6 (F := Ideal) A w u v = fun i => mom (tot A i) (u i) := by
  show k0_pay1 (F := Ideal) (k0_pay5 A w u v) u = _
  rw [sum']; rfl

theorem g7 : Value.G7 (F := Ideal) A w u v = fun i => var (tot A i) (v i) := by
  show k0_pay2 (F := Ideal) (k0_pay5 A w u v) v = _
  rw [sum']; rfl

end Kernel

theorem red : Shape.Reduces ⟨3, ![8, 352, 1024]⟩ [0] ⟨2, ![352, 1024]⟩ := by decide

theorem algebraic : Cert.algebraic_Kernel12Ideal_Reference12Ideal (hKernel12Ideal := Cert.Kernel12Ideal.Gen.facts) (hReference12Ideal := Cert.Reference12Ideal.Gen.facts) := by
  intro m g m' g' _ hag
  refine ⟨_, _, _, _, Cert.Kernel12Ideal.Value.run (F := Ideal) m g, ?_⟩
  refine (θ_run Cert.Reference12Ideal.defs _ _).mono (fun r h c => ?_) (Cert.Reference12Ideal.Value.run (F := Ideal) m' g')
  obtain ⟨e0, e1, e2, e3, k⟩ := h c
  obtain ⟨b0, b1, b2, b3⟩ := hag c
  refine ⟨(e0.trans (host_tot _ _ red _)).trans ?_, (e1.trans (host_chg _ _ _ _ _)).trans ?_, (e2.trans (host_mom _ _ _)).trans ?_, (e3.trans (host_var _ _ _)).trans ?_, k⟩
  · rw [b0]; exact (sum _).symm
  · rw [b0, b1, b2, b3]; erw [host_tot _ _ red _]; exact (g5 _ _ _ _).symm
  · rw [b0, b2]; erw [host_tot _ _ red _]; exact (g6 _ _ _ _).symm
  · rw [b0, b3]; erw [host_tot _ _ red _]; exact (g7 _ _ _ _).symm

theorem frame : Cert.quiescent_Reference12Ideal (hReference12Ideal := Cert.Reference12Ideal.Gen.facts) := fun m g _ =>
  (θ_run Cert.Reference12Ideal.defs _ _).mono (fun r h => ⟨fun c => (h c).2.2.2.2, sem_eq_zero_of_no_sems (by decide) r.2⟩)
    (Cert.Reference12Ideal.Value.run (F := Ideal) m g)

end Cert.OptFfn

end
-- ==== Proof.SumIn.lean ====
/- The sum of the eight devices' parts of the first projection's gradient: the kernel's array is the reference's, for all values. -/
module

public import proofs.«01_k».proof.Defs
public import proofs.«01_k».proof.Proof.Adam
public import proofs.«01_k».proof.Proof.Whole
public import proofs.«01_k».proof.Proof.Gen.Kernel13Ideal.Value
public import proofs.«01_k».proof.Proof.Gen.Reference13Ideal.Run
public import proofs.«01_k».proof.Proof.Gen.Reference13Ideal
public import Idealize.ShloMosaic.Adequacy
public import Idealize.ShloMosaic.Init
public import proofs.«01_k».proof.Proof.Tile

@[expose] public section

set_option maxRecDepth 16384

noncomputable section

namespace Cert.SumIn

open Idealize.ShloMosaic Idealize.ShloMosaic.Pipeline Idealize.ShloMosaic.ValueIdx Idealize.SL.Sem Cert.Adam Cert.Tile
open scoped BigOperators

/-- Two sums over the eight layers agree where their terms do. -/
theorem tot_at {n k n' k' : Nat} (A : (⟨3, ![8, n, k]⟩ : Shape).Idx → EReal) (B : (⟨3, ![8, n', k']⟩ : Shape).Idx → EReal) (i : (⟨2, ![n, k]⟩ : Shape).Idx) (j : (⟨2, ![n', k']⟩ : Shape).Idx)
    (h : ∀ d : Fin 8, A (ix3 d (i 0) (i 1)) = B (ix3 d (j 0) (j 1))) : tot A i = tot B j := Finset.sum_congr rfl fun d _ => h d

section Kernel
open Cert.Kernel13Ideal Cert.Kernel13Ideal.Gen
variable (m : (ℓ : Loc nD τ sig) → Buf (Elt Ideal) ℓ) (c : Dev nD)

theorem body (A : Vec Ideal S8x256x640 .bf16) : out0_1 (F := Ideal) A = tot A := by
  unfold out0_1
  refine (View.canon_unit_zero (S := S256x640) Cert.Whole.off2 _ _).trans ?_
  unfold k0_pay1
  exact tot_parts A shapeCasts_S1x256x640_S256x640 _ _ _ _ _ _ _ _

theorem idx : ∀ t : Fin cfg0.N, (win0_0.index t 0 = 0 ∧ win0_0.index t 1 = t.val ∧ win0_0.index t 2 = 0) ∧ (win0_1.index t 0 = t.val ∧ win0_1.index t 1 = 0) :=
  (by decide +kernel : ∀ t : Fin grid0.N, (win0_0.index t 0 = 0 ∧ win0_0.index t 1 = t.val ∧ win0_0.index t 2 = 0) ∧ (win0_1.index t 0 = t.val ∧ win0_1.index t 1 = 0))

theorem cov (i : S1024x640.Idx) : ∃ t : Fin cfg0.N, (cfg0.win 1).flush t = true ∧ i ∈ ((cfg0.win 1).blk t).view.set := by
  have h0 : (i 0 : Nat) < 1024 := (i 0).isLt
  let t : Fin cfg0.N := ⟨(i 0 : Nat) / 256, Nat.lt_of_lt_of_eq (by omega) N_0.symm⟩
  refine ⟨t, flush0_1 t, ?_⟩
  show i ∈ ((View.whole main_v0).slice (win0_1.rect t)).set
  rw [View.set_slice_whole, Rect.mem_set_unit]
  exact Fin.forall_fin_two.2 (in_tile i 256 (idx t).2.1 (idx t).2.2)

theorem at1 (t : Fin cfg0.N) : (cfg0.win 1).cut (grid0.coords t) (out0_1 (F := Ideal) (iblk m c 0 t))
    = ((cfg0.win 1).blk t).view.read (Elt Ideal) (tot (n := 1024) (k := 640) (V m c (Pipeline.arrRef spec0 0))) := by
  rw [body]
  funext i
  refine tot_at (n := 256) (k := 640) (n' := 1024) (k' := 640) (iblk m c 0 t) (V m c (Pipeline.arrRef spec0 0)) i (((cfg0.win 1).blk t).view.emb i) fun d => ?_
  refine congrArg (V m c (Pipeline.arrRef spec0 0) : FVec Ideal S8x1024x640 .bf16) (funext fun a => Fin.ext ?_)
  match a with
  | ⟨0, _⟩ => show win0_0.index t 0 * 8 + 1 * d.val = d.val
              rw [(idx t).1.1]; omega
  | ⟨1, _⟩ => show win0_0.index t 1 * 256 + 1 * (i 0).val = win0_1.index t 0 * 256 + 1 * (i 0).val
              rw [(idx t).1.2.1, (idx t).2.1]
  | ⟨2, _⟩ => show win0_0.index t 2 * 640 + 1 * (i 1).val = win0_1.index t 1 * 640 + 1 * (i 1).val
              rw [(idx t).1.2.2, (idx t).2.2]

theorem kernel : (dats m 0 c).arrAt 1 cfg0.N = tot (n := 1024) (k := 640) (m ((c.tc : Thread nD τ).loc main_arg0)) :=
  (dats m 0 c).arrAt_eq_of_cover 1 _ (fun t _ => (Value.flushed1 m c t).trans (at1 m c t)) cov

end Kernel

theorem red : Shape.Reduces ⟨3, ![8, 1024, 640]⟩ [0] ⟨2, ![1024, 640]⟩ := by decide

theorem algebraic : Cert.algebraic_Kernel13Ideal_Reference13Ideal (hKernel13Ideal := Cert.Kernel13Ideal.Gen.facts) (hReference13Ideal := Cert.Reference13Ideal.Gen.facts) := by
  intro m g m' g' _ hag
  refine ⟨_, Cert.Kernel13Ideal.Value.run_blocks (F := Ideal) m g, ?_⟩
  refine (θ_run Cert.Reference13Ideal.defs _ _).mono (fun r h c => ?_) (Cert.Reference13Ideal.Value.run (F := Ideal) m' g')
  refine ⟨((h c).1.trans (host_tot _ _ red _)).trans ?_, (h c).2⟩
  rw [hag c]
  exact (kernel m c).symm

theorem frame : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩)
    (Cert.Reference13Ideal.Value.run (F := Ideal) m g)

end Cert.SumIn

end
-- ==== Proof.OptIn.lean ====
/- The update of the first projection's weight, from its gradient: the kernel's arrays are the reference's, for all values. -/
module

public import proofs.«01_k».proof.Defs
public import proofs.«01_k».proof.Proof.Adam
public import proofs.«01_k».proof.Proof.Gen.Kernel14Ideal.Value
public import proofs.«01_k».proof.Proof.Gen.Reference14Ideal.Run
public import proofs.«01_k».proof.Proof.Gen.Reference14Ideal
public import Idealize.ShloMosaic.Adequacy
public import Idealize.ShloMosaic.Init

@[expose] public section

set_option maxRecDepth 16384

noncomputable section

namespace Cert.OptIn

open Idealize.ShloMosaic Idealize.ShloMosaic.ValueIdx Idealize.SL.Sem Cert.Adam

theorem algebraic : Cert.algebraic_Kernel14Ideal_Reference14Ideal (hKernel14Ideal := Cert.Kernel14Ideal.Gen.facts) (hReference14Ideal := Cert.Reference14Ideal.Gen.facts) := by
  intro m g m' g' _ hag
  refine ⟨_, _, _, Cert.Kernel14Ideal.Value.run (F := Ideal) m g, ?_⟩
  refine (θ_run Cert.Reference14Ideal.defs _ _).mono (fun r h c => ?_) (Cert.Reference14Ideal.Value.run (F := Ideal) m' g')
  obtain ⟨e0, e1, e2, k⟩ := h c
  obtain ⟨b0, b1, b2, b3⟩ := hag c
  refine ⟨(e0.trans (host_chg _ _ _ _ _)).trans ?_, (e1.trans (host_mom _ _ _)).trans ?_, (e2.trans (host_var _ _ _)).trans ?_, k⟩
  · rw [b0, b1, b2, b3]; rfl
  · rw [b0, b2]; rfl
  · rw [b0, b3]; rfl

theorem frame : Cert.quiescent_Reference14Ideal (hReference14Ideal := Cert.Reference14Ideal.Gen.facts) := fun m g _ =>
  (θ_run Cert.Reference14Ideal.defs _ _).mono (fun r h => ⟨fun c => (h c).2.2.2, sem_eq_zero_of_no_sems (by decide) r.2⟩)
    (Cert.Reference14Ideal.Value.run (F := Ideal) m g)

end Cert.OptIn

end
-- ==== Proof.OptAda.lean ====
/- The update of the modulation's weight, whose gradient is the product of the activated conditioning and the modulation's gradients: the kernel's
   arrays are the reference's, for all values. -/
module

public import proofs.«01_k».proof.Defs
public import proofs.«01_k».proof.Proof.Adam
public import proofs.«01_k».proof.Proof.Whole
public import proofs.«01_k».proof.Proof.Gen.Kernel15Ideal.Value
public import proofs.«01_k».proof.Proof.Gen.Reference15Ideal.Read
public import proofs.«01_k».proof.Proof.Gen.Reference15Ideal
public import Idealize.ShloMosaic.Adequacy
public import Idealize.ShloMosaic.Init
public import proofs.«01_k».proof.Proof.Tile

@[expose] public section

set_option maxRecDepth 16384

noncomputable section

namespace Cert.OptAda

open Idealize.ShloMosaic Idealize.ShloMosaic.Pipeline Idealize.ShloMosaic.ValueIdx Idealize.SL.Sem Cert.Adam Cert.Tile
open scoped BigOperators

/-- The gradient. -/
def grad {n : ℕ} (C : (⟨2, ![8, n]⟩ : Shape).Idx → EReal) (D : (⟨2, ![8, 768]⟩ : Shape).Idx → EReal) : (⟨2, ![n, 768]⟩ : Shape).Idx → EReal :=
  fun i => ∑ r : Fin 8, C (ix2 r (i 0)) * D (ix2 r (i 1))

section Kernel
open Cert.Kernel15Ideal Cert.Kernel15Ideal.Gen
variable (m : (ℓ : Loc nD τ sig) → Buf (Elt Ideal) ℓ) (c : Dev nD)

theorem pay (C : Vec Ideal S8x256 .f32) (D : Vec Ideal S8x768 .f32) : k0_pay1 (F := Ideal) C D = grad C D := by
  funext i
  unfold k0_pay1
  refine (Ideal.matmul_apply _ _ _ _ _ i).trans ?_
  rw [constant_apply, Ideal.ofBits_zero_f32, zero_add]
  refine (congrArg (fun j => ∑ q : (dot_S8x256_S8x768_S256x768_0_0_1_1_n_n).contr.Idx, C ((dot_S8x256_S8x768_S256x768_0_0_1_1_n_n).lhsIdx j q) * D ((dot_S8x256_S8x768_S256x768_0_0_1_1_n_n).rhsIdx j q)) (eq_ix2 i)).trans ?_
  exact Cert.MatTn.sum_tn (φ₁ := .f32) (φ₂ := .f32) dot_S8x256_S8x768_S256x768_0_0_1_1_n_n.wf C D (i 0) (i 1)

variable (x0 : Vec Ideal S8x256 .f32) (x1 : Vec Ideal S8x768 .f32) (x2 x3 x4 : Vec Ideal S256x768 .f32)

theorem whole (A : Vec Ideal S256x768 .f32) : View.ld A r0_2 = A := View.ld_unit_zero (S := S256x768) Cert.Whole.off2 _ A
theorem whole0 (A : Vec Ideal S8x256 .f32) : View.ld A r0_0 = A := View.ld_unit_zero (S := S8x256) Cert.Whole.off2 _ A
theorem whole1 (A : Vec Ideal S8x768 .f32) : View.ld A r0_1 = A := View.ld_unit_zero (S := S8x768) Cert.Whole.off2 _ A

theorem o5 : out0_5 (F := Ideal) x0 x1 x2 x3 x4 = grad x0 x1 := by
  unfold out0_5
  refine (View.canon_unit_zero (S := S256x768) Cert.Whole.off2 _ _).trans ?_
  rw [whole0, whole1, pay]

theorem o6 : out0_6 (F := Ideal) x0 x1 x2 x3 x4 = fun i => chg (grad x0 x1 i) (x2 i) (x3 i) (x4 i) := by
  unfold out0_6
  refine (View.canon_unit_zero (S := S256x768) Cert.Whole.off2 _ _).trans ?_
  rw [whole0, whole1, whole, whole, whole]
  exact congrArg (fun (T : S256x768.Idx → EReal) (i : S256x768.Idx) => chg (T i) (x2 i) (x3 i) (x4 i)) (pay x0 x1)

theorem o7 : out0_7 (F := Ideal) x0 x1 x2 x3 x4 = fun i => mom (grad x0 x1 i) (x3 i) := by
  unfold out0_7
  refine (View.canon_unit_zero (S := S256x768) Cert.Whole.off2 _ _).trans ?_
  rw [whole0, whole1, whole]
  exact congrArg (fun (T : S256x768.Idx → EReal) (i : S256x768.Idx) => mom (T i) (x3 i)) (pay x0 x1)

theorem o8 : out0_8 (F := Ideal) x0 x1 x2 x3 x4 = fun i => var (grad x0 x1 i) (x4 i) := by
  unfold out0_8
  refine (View.canon_unit_zero (S := S256x768) Cert.Whole.off2 _ _).trans ?_
  rw [whole0, whole1, whole]
  exact congrArg (fun (T : S256x768.Idx → EReal) (i : S256x768.Idx) => var (T i) (x4 i)) (pay x0 x1)

theorem lt4 (t : Fin cfg0.N) : t.val < 4 := Nat.lt_of_lt_of_eq t.isLt N_0

theorem idx : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) :=
  (by decide +kernel : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0))

/-- Where a cell of block `t` lies. -/
abbrev place (t : Fin cfg0.N) (i : S256x768.Idx) : S1024x768.Idx :=
  ix2 ⟨t.val * 256 + (i 0).val, by have h : (i 0).val < 256 := (i 0).isLt; have := lt4 t; omega⟩ (i 1)

theorem emb2 (t : Fin cfg0.N) (i : S256x768.Idx) : ((cfg0.win 2).blk t).view.emb i = place t i := funext fun a => Fin.ext (match a with
  | ⟨0, _⟩ => (by show win0_2.index t 0 * 256 + 1 * (i 0).val = t.val * 256 + (i 0).val; rw [(idx t).2.2.1.1]; omega)
  | ⟨1, _⟩ => (by show win0_2.index t 1 * 768 + 1 * (i 1).val = (i 1).val; rw [(idx t).2.2.1.2]; omega))

theorem emb3 (t : Fin cfg0.N) (i : S256x768.Idx) : ((cfg0.win 3).blk t).view.emb i = place t i := funext fun a => Fin.ext (match a with
  | ⟨0, _⟩ => (by show win0_3.index t 0 * 256 + 1 * (i 0).val = t.val * 256 + (i 0).val; rw [(idx t).2.2.2.1.1]; omega)
  | ⟨1, _⟩ => (by show win0_3.index t 1 * 768 + 1 * (i 1).val = (i 1).val; rw [(idx t).2.2.2.1.2]; omega))

theorem emb4 (t : Fin cfg0.N) (i : S256x768.Idx) : ((cfg0.win 4).blk t).view.emb i = place t i := funext fun a => Fin.ext (match a with
  | ⟨0, _⟩ => (by show win0_4.index t 0 * 256 + 1 * (i 0).val = t.val * 256 + (i 0).val; rw [(idx t).2.2.2.2.1.1]; omega)
  | ⟨1, _⟩ => (by show win0_4.index t 1 * 768 + 1 * (i 1).val = (i 1).val; rw [(idx t).2.2.2.2.1.2]; omega))

theorem emb5 (t : Fin cfg0.N) (i : S256x768.Idx) : ((cfg0.win 5).blk t).view.emb i = place t i := funext fun a => Fin.ext (match a with
  | ⟨0, _⟩ => (by show win0_5.index t 0 * 256 + 1 * (i 0).val = t.val * 256 + (i 0).val; rw [(idx t).2.2.2.2.2.1.1]; omega)
  | ⟨1, _⟩ => (by show win0_5.index t 1 * 768 + 1 * (i 1).val = (i 1).val; rw [(idx t).2.2.2.2.2.1.2]; omega))

theorem emb6 (t : Fin cfg0.N) (i : S256x768.Idx) : ((cfg0.win 6).blk t).view.emb i = place t i := funext fun a => Fin.ext (match a with
  | ⟨0, _⟩ => (by show win0_6.index t 0 * 256 + 1 * (i 0).val = t.val * 256 + (i 0).val; rw [(idx t).2.2.2.2.2.2.1.1]; omega)
  | ⟨1, _⟩ => (by show win0_6.index t 1 * 768 + 1 * (i 1).val = (i 1).val; rw [(idx t).2.2.2.2.2.2.1.2]; omega))

theorem emb7 (t : Fin cfg0.N) (i : S256x768.Idx) : ((cfg0.win 7).blk t).view.emb i = place t i := funext fun a => Fin.ext (match a with
  | ⟨0, _⟩ => (by show win0_7.index t 0 * 256 + 1 * (i 0).val = t.val * 256 + (i 0).val; rw [(idx t).2.2.2.2.2.2.2.1.1]; omega)
  | ⟨1, _⟩ => (by show win0_7.index t 1 * 768 + 1 * (i 1).val = (i 1).val; rw [(idx t).2.2.2.2.2.2.2.1.2]; omega))

theorem emb8 (t : Fin cfg0.N) (i : S256x768.Idx) : ((cfg0.win 8).blk t).view.emb i = place t i := funext fun a => Fin.ext (match a with
  | ⟨0, _⟩ => (by show win0_8.index t 0 * 256 + 1 * (i 0).val = t.val * 256 + (i 0).val; rw [(idx t).2.2.2.2.2.2.2.2.1]; omega)
  | ⟨1, _⟩ => (by show win0_8.index t 1 * 768 + 1 * (i 1).val = (i 1).val; rw [(idx t).2.2.2.2.2.2.2.2.2]; omega))

theorem i2 (t : Fin cfg0.N) (i : S256x768.Idx) : (iblk m c 2 t : Vec Ideal S256x768 .f32) i = (m ((c.tc : Thread nD τ).loc main_arg2) : Vec Ideal S1024x768 .f32) (place t i) :=
  congrArg (m ((c.tc : Thread nD τ).loc main_arg2) : Vec Ideal S1024x768 .f32) (emb2 t i)

theorem i3 (t : Fin cfg0.N) (i : S256x768.Idx) : (iblk m c 3 t : Vec Ideal S256x768 .f32) i = (m ((c.tc : Thread nD τ).loc main_arg3) : Vec Ideal S1024x768 .f32) (place t i) :=
  congrArg (m ((c.tc : Thread nD τ).loc main_arg3) : Vec Ideal S1024x768 .f32) (emb3 t i)

theorem i4 (t : Fin cfg0.N) (i : S256x768.Idx) : (iblk m c 4 t : Vec Ideal S256x768 .f32) i = (m ((c.tc : Thread nD τ).loc main_arg4) : Vec Ideal S1024x768 .f32) (place t i) :=
  congrArg (m ((c.tc : Thread nD τ).loc main_arg4) : Vec Ideal S1024x768 .f32) (emb4 t i)

theorem block (t : Fin cfg0.N) (i : S256x768.Idx) :
    grad (iblk m c 0 t : Vec Ideal S8x256 .f32) (iblk m c 1 t : Vec Ideal S8x768 .f32) i
      = grad (n := 1024) (m ((c.tc : Thread nD τ).loc main_arg0)) (m ((c.tc : Thread nD τ).loc main_arg1)) (place t i) := by
  refine Finset.sum_congr rfl fun r _ => congr (congrArg (fun a b : EReal => a * b) ?_) ?_
  · refine congrArg (m ((c.tc : Thread nD τ).loc main_arg0) : Vec Ideal S8x1024 .f32) (funext fun a => Fin.ext ?_)
    match a with
    | ⟨0, _⟩ => show win0_0.index t 0 * 8 + 1 * r.val = r.val
                rw [(idx t).1.1]; omega
    | ⟨1, _⟩ => show win0_0.index t 1 * 256 + 1 * (i 0).val = t.val * 256 + (i 0).val
                rw [(idx t).1.2]; omega
  · refine congrArg (m ((c.tc : Thread nD τ).loc main_arg1) : Vec Ideal S8x768 .f32) (funext fun a => Fin.ext ?_)
    match a with
    | ⟨0, _⟩ => show win0_1.index t 0 * 8 + 1 * r.val = r.val
                rw [(idx t).2.1.1]; omega
    | ⟨1, _⟩ => show win0_1.index t 1 * 768 + 1 * (i 1).val = (i 1).val
                rw [(idx t).2.1.2]; omega

theorem cov5 (i : S1024x768.Idx) : ∃ t : Fin cfg0.N, (cfg0.win 5).flush t = true ∧ i ∈ ((cfg0.win 5).blk t).view.set := by
  have h0 : (i 0 : Nat) < 1024 := (i 0).isLt
  let t : Fin cfg0.N := ⟨(i 0 : Nat) / 256, Nat.lt_of_lt_of_eq (by omega) N_0.symm⟩
  refine ⟨t, flush0_5 t, ?_⟩
  show i ∈ ((View.whole main_v0_0).slice (win0_5.rect t)).set
  rw [View.set_slice_whole, Rect.mem_set_unit]
  exact Fin.forall_fin_two.2 (in_tile i 256 (idx t).2.2.2.2.2.1.1 (idx t).2.2.2.2.2.1.2)

theorem cov6 (i : S1024x768.Idx) : ∃ t : Fin cfg0.N, (cfg0.win 6).flush t = true ∧ i ∈ ((cfg0.win 6).blk t).view.set := by
  have h0 : (i 0 : Nat) < 1024 := (i 0).isLt
  let t : Fin cfg0.N := ⟨(i 0 : Nat) / 256, Nat.lt_of_lt_of_eq (by omega) N_0.symm⟩
  refine ⟨t, flush0_6 t, ?_⟩
  show i ∈ ((View.whole main_v0_1).slice (win0_6.rect t)).set
  rw [View.set_slice_whole, Rect.mem_set_unit]
  exact Fin.forall_fin_two.2 (in_tile i 256 (idx t).2.2.2.2.2.2.1.1 (idx t).2.2.2.2.2.2.1.2)

theorem cov7 (i : S1024x768.Idx) : ∃ t : Fin cfg0.N, (cfg0.win 7).flush t = true ∧ i ∈ ((cfg0.win 7).blk t).view.set := by
  have h0 : (i 0 : Nat) < 1024 := (i 0).isLt
  let t : Fin cfg0.N := ⟨(i 0 : Nat) / 256, Nat.lt_of_lt_of_eq (by omega) N_0.symm⟩
  refine ⟨t, flush0_7 t, ?_⟩
  show i ∈ ((View.whole main_v0_2).slice (win0_7.rect t)).set
  rw [View.set_slice_whole, Rect.mem_set_unit]
  exact Fin.forall_fin_two.2 (in_tile i 256 (idx t).2.2.2.2.2.2.2.1.1 (idx t).2.2.2.2.2.2.2.1.2)

theorem cov8 (i : S1024x768.Idx) : ∃ t : Fin cfg0.N, (cfg0.win 8).flush t = true ∧ i ∈ ((cfg0.win 8).blk t).view.set := by
  have h0 : (i 0 : Nat) < 1024 := (i 0).isLt
  let t : Fin cfg0.N := ⟨(i 0 : Nat) / 256, Nat.lt_of_lt_of_eq (by omega) N_0.symm⟩
  refine ⟨t, flush0_8 t, ?_⟩
  show i ∈ ((View.whole main_v0_3).slice (win0_8.rect t)).set
  rw [View.set_slice_whole, Rect.mem_set_unit]
  exact Fin.forall_fin_two.2 (in_tile i 256 (idx t).2.2.2.2.2.2.2.2.1 (idx t).2.2.2.2.2.2.2.2.2)

/-- The gradient of the whole weight, from the launch memory. -/
abbrev gr : S1024x768.Idx → EReal := grad (n := 1024) (m ((c.tc : Thread nD τ).loc main_arg0)) (m ((c.tc : Thread nD τ).loc main_arg1))

theorem end5 : (dats m 0 c).arrAt 5 cfg0.N = gr m c := by
  refine (dats m 0 c).arrAt_eq_of_cover 5 _ (fun t _ => (Value.flushed5 m c t).trans ?_) cov5
  rw [o5]
  funext i
  exact (block m c t i).trans (congrArg (gr m c) (emb5 t i).symm)

theorem end6 : (dats m 0 c).arrAt 6 cfg0.N = fun i => chg (gr m c i) ((m ((c.tc : Thread nD τ).loc main_arg2) : Vec Ideal S1024x768 .f32) i) ((m ((c.tc : Thread nD τ).loc main_arg3) : Vec Ideal S1024x768 .f32) i) ((m ((c.tc : Thread nD τ).loc main_arg4) : Vec Ideal S1024x768 .f32) i) := by
  refine (dats m 0 c).arrAt_eq_of_cover 6 _ (fun t _ => (Value.flushed6 m c t).trans ?_) cov6
  rw [o6]
  funext i
  show chg (grad (iblk m c 0 t : Vec Ideal S8x256 .f32) (iblk m c 1 t : Vec Ideal S8x768 .f32) i) ((iblk m c 2 t : Vec Ideal S256x768 .f32) i) ((iblk m c 3 t : Vec Ideal S256x768 .f32) i) ((iblk m c 4 t : Vec Ideal S256x768 .f32) i) = _
  rw [block, i2, i3, i4]
  exact congrArg (fun i => chg (gr m c i) ((m ((c.tc : Thread nD τ).loc main_arg2) : Vec Ideal S1024x768 .f32) i) ((m ((c.tc : Thread nD τ).loc main_arg3) : Vec Ideal S1024x768 .f32) i) ((m ((c.tc : Thread nD τ).loc main_arg4) : Vec Ideal S1024x768 .f32) i)) (emb6 t i).symm

theorem end7 : (dats m 0 c).arrAt 7 cfg0.N = fun i => mom (gr m c i) ((m ((c.tc : Thread nD τ).loc main_arg3) : Vec Ideal S1024x768 .f32) i) := by
  refine (dats m 0 c).arrAt_eq_of_cover 7 _ (fun t _ => (Value.flushed7 m c t).trans ?_) cov7
  rw [o7]
  funext i
  show mom (grad (iblk m c 0 t : Vec Ideal S8x256 .f32) (iblk m c 1 t : Vec Ideal S8x768 .f32) i) ((iblk m c 3 t : Vec Ideal S256x768 .f32) i) = _
  rw [block, i3]
  exact congrArg (fun i => mom (gr m c i) ((m ((c.tc : Thread nD τ).loc main_arg3) : Vec Ideal S1024x768 .f32) i)) (emb7 t i).symm

theorem end8 : (dats m 0 c).arrAt 8 cfg0.N = fun i => var (gr m c i) ((m ((c.tc : Thread nD τ).loc main_arg4) : Vec Ideal S1024x768 .f32) i) := by
  refine (dats m 0 c).arrAt_eq_of_cover 8 _ (fun t _ => (Value.flushed8 m c t).trans ?_) cov8
  rw [o8]
  funext i
  show var (grad (iblk m c 0 t : Vec Ideal S8x256 .f32) (iblk m c 1 t : Vec Ideal S8x768 .f32) i) ((iblk m c 4 t : Vec Ideal S256x768 .f32) i) = _
  rw [block, i4]
  exact congrArg (fun i => var (gr m c i) ((m ((c.tc : Thread nD τ).loc main_arg4) : Vec Ideal S1024x768 .f32) i)) (emb8 t i).symm

end Kernel

section Reference
open Cert.Reference15Ideal Cert.Reference15Ideal.Gen Cert.Reference15Ideal.Read

theorem rgrad (C : FVec Ideal S8x1024 .f32) (D : FVec Ideal S8x768 .f32) :
    transpose S1024x768 [1, 0] (Host.dotGeneral dot_S8x768_S8x1024_S768x1024_0_0_1_1_n_n none D C) transposes_S768x1024_S1024x768_1_0 = grad C D := by
  funext i
  refine (val_main_v2_apply (F := Ideal) C D i).trans ((val_main_v1_apply C D (idx_main_v2 i)).trans (Finset.sum_congr rfl fun r _ => (mul_comm _ _).trans ?_))
  refine congr (congrArg (fun a b : EReal => a * b) (congrArg C (funext fun a => ?_))) (congrArg D (funext fun a => ?_))
  · match a with
    | ⟨0, _⟩ => rfl
    | ⟨1, _⟩ => rfl
  · match a with
    | ⟨0, _⟩ => rfl
    | ⟨1, _⟩ => rfl

end Reference

theorem algebraic : Cert.algebraic_Kernel15Ideal_Reference15Ideal (hKernel15Ideal := Cert.Kernel15Ideal.Gen.facts) (hReference15Ideal := Cert.Reference15Ideal.Gen.facts) := by
  intro m g m' g' _ hag
  refine ⟨_, _, _, _, Cert.Kernel15Ideal.Value.run_blocks (F := Ideal) m g, ?_⟩
  refine (θ_run Cert.Reference15Ideal.defs _ _).mono (fun r h c => ?_) (Cert.Reference15Ideal.Value.run (F := Ideal) m' g')
  obtain ⟨e0, e1, e2, e3, k⟩ := h c
  obtain ⟨b0, b1, b2, b3, b4⟩ := hag c
  refine ⟨(e0.trans (rgrad _ _)).trans ?_, (e1.trans (host_chg _ _ _ _ _)).trans ?_, (e2.trans (host_mom _ _ _)).trans ?_, (e3.trans (host_var _ _ _)).trans ?_, k⟩
  · rw [b0, b1]; exact (end5 m c).symm
  · rw [b0, b1, b2, b3, b4]; erw [rgrad]; exact (end6 m c).symm
  · rw [b0, b1, b3]; erw [rgrad]; exact (end7 m c).symm
  · rw [b0, b1, b4]; erw [rgrad]; exact (end8 m c).symm

theorem frame : Cert.quiescent_Reference15Ideal (hReference15Ideal := Cert.Reference15Ideal.Gen.facts) := fun m g _ =>
  (θ_run Cert.Reference15Ideal.defs _ _).mono (fun r h => ⟨fun c => (h c).2.2.2.2, sem_eq_zero_of_no_sems (by decide) r.2⟩)
    (Cert.Reference15Ideal.Value.run (F := Ideal) m g)

end Cert.OptAda

end
-- ==== Proof.OptMixer.lean ====
/- The update of a weight of the mixers, from the eight devices' parts of its gradient: for the two branches' projections, the output
   projection and the convolution the kernel's arrays are the reference's, for all values. -/
module

public import proofs.«01_k».proof.Defs
public import proofs.«01_k».proof.Proof.Adam
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import Idealize.ShloMosaic.Adequacy
public import Idealize.ShloMosaic.Init

@[expose] public section

set_option maxRecDepth 16384

noncomputable section

open Idealize.ShloMosaic Idealize.ShloMosaic.ValueIdx Idealize.SL.Sem Cert.Adam

namespace Cert.OptBranch

section Kernel
open Cert.Kernel16Ideal Cert.Kernel16Ideal.Gen

/-- The body's sum. -/
theorem sum (A : Vec Ideal S8x512x128 .bf16) :
    k0_pay4 (F := Ideal) (View.ld A r0_0) (View.ld A r0_1) (View.ld A r0_2) (View.ld A r0_3) (View.ld A r0_4) (View.ld A r0_5) (View.ld A r0_6) (View.ld A r0_7) = tot A := by
  unfold k0_pay4
  exact tot_parts A shapeCasts_S1x512x128_S512x128 _ _ _ _ _ _ _ _

end Kernel

theorem algebraic : Cert.algebraic_Kernel16Ideal_Reference16Ideal (hKernel16Ideal := Cert.Kernel16Ideal.Gen.facts) (hReference16Ideal := Cert.Reference16Ideal.Gen.facts) := by
  intro m g m' g' _ hag
  refine ⟨_, _, _, _, Cert.Kernel16Ideal.Value.run (F := Ideal) m g, (θ_run Cert.Reference16Ideal.defs _ _).mono (fun r h c => ?_) (Cert.Reference16Ideal.Value.run (F := Ideal) m' g')⟩
  obtain ⟨e0, e1, e2, e3, k⟩ := h c
  obtain ⟨b0, b1, b2, b3⟩ := hag c
  refine ⟨e0.trans ?_, e1.trans ?_, e2.trans ?_, e3.trans ?_, k⟩
  all_goals (simp only [b0, b1, b2, b3]; erw [host_tot _ _ (by decide : Shape.Reduces ⟨3, ![8, 512, 128]⟩ [0] ⟨2, ![512, 128]⟩) _, ← sum] <;> rfl)

theorem frame : Cert.quiescent_Reference16Ideal (hReference16Ideal := Cert.Reference16Ideal.Gen.facts) := fun m g _ =>
  (θ_run Cert.Reference16Ideal.defs _ _).mono (fun r h => ⟨fun c => (h c).2.2.2.2, sem_eq_zero_of_no_sems (by decide) r.2⟩) (Cert.Reference16Ideal.Value.run (F := Ideal) m g)

end Cert.OptBranch

namespace Cert.OptOut

section Kernel
open Cert.Kernel17Ideal Cert.Kernel17Ideal.Gen

/-- The body's sum. -/
theorem sum (A : Vec Ideal S8x128x1024 .bf16) :
    k0_pay4 (F := Ideal) (View.ld A r0_0) (View.ld A r0_1) (View.ld A r0_2) (View.ld A r0_3) (View.ld A r0_4) (View.ld A r0_5) (View.ld A r0_6) (View.ld A r0_7) = tot A := by
  unfold k0_pay4
  exact tot_parts A shapeCasts_S1x128x1024_S128x1024 _ _ _ _ _ _ _ _

end Kernel

theorem algebraic : Cert.algebraic_Kernel17Ideal_Reference17Ideal (hKernel17Ideal := Cert.Kernel17Ideal.Gen.facts) (hReference17Ideal := Cert.Reference17Ideal.Gen.facts) := by
  intro m g m' g' _ hag
  refine ⟨_, _, _, _, Cert.Kernel17Ideal.Value.run (F := Ideal) m g, (θ_run Cert.Reference17Ideal.defs _ _).mono (fun r h c => ?_) (Cert.Reference17Ideal.Value.run (F := Ideal) m' g')⟩
  obtain ⟨e0, e1, e2, e3, k⟩ := h c
  obtain ⟨b0, b1, b2, b3⟩ := hag c
  refine ⟨e0.trans ?_, e1.trans ?_, e2.trans ?_, e3.trans ?_, k⟩
  all_goals (simp only [b0, b1, b2, b3]; erw [host_tot _ _ (by decide : Shape.Reduces ⟨3, ![8, 128, 1024]⟩ [0] ⟨2, ![128, 1024]⟩) _, ← sum] <;> rfl)

theorem frame : Cert.quiescent_Reference17Ideal (hReference17Ideal := Cert.Reference17Ideal.Gen.facts) := fun m g _ =>
  (θ_run Cert.Reference17Ideal.defs _ _).mono (fun r h => ⟨fun c => (h c).2.2.2.2, sem_eq_zero_of_no_sems (by decide) r.2⟩) (Cert.Reference17Ideal.Value.run (F := Ideal) m g)

end Cert.OptOut

namespace Cert.OptConv

section Kernel
open Cert.Kernel18Ideal Cert.Kernel18Ideal.Gen

/-- The body's sum. -/
theorem sum (A : Vec Ideal S8x8x128 .f32) :
    k0_pay4 (F := Ideal) (View.ld A r0_0) (View.ld A r0_1) (View.ld A r0_2) (View.ld A r0_3) (View.ld A r0_4) (View.ld A r0_5) (View.ld A r0_6) (View.ld A r0_7) = tot A := by
  unfold k0_pay4
  exact tot_parts A shapeCasts_S1x8x128_S8x128 _ _ _ _ _ _ _ _

end Kernel

theorem algebraic : Cert.algebraic_Kernel18Ideal_Reference18Ideal (hKernel18Ideal := Cert.Kernel18Ideal.Gen.facts) (hReference18Ideal := Cert.Reference18Ideal.Gen.facts) := by
  intro m g m' g' _ hag
  refine ⟨_, _, _, _, Cert.Kernel18Ideal.Value.run (F := Ideal) m g, (θ_run Cert.Reference18Ideal.defs _ _).mono (fun r h c => ?_) (Cert.Reference18Ideal.Value.run (F := Ideal) m' g')⟩
  obtain ⟨e0, e1, e2, e3, k⟩ := h c
  obtain ⟨b0, b1, b2, b3⟩ := hag c
  refine ⟨e0.trans ?_, e1.trans ?_, e2.trans ?_, e3.trans ?_, k⟩
  all_goals (simp only [b0, b1, b2, b3]; erw [host_tot _ _ (by decide : Shape.Reduces ⟨3, ![8, 8, 128]⟩ [0] ⟨2, ![8, 128]⟩) _, ← sum] <;> rfl)

theorem frame : Cert.quiescent_Reference18Ideal (hReference18Ideal := Cert.Reference18Ideal.Gen.facts) := fun m g _ =>
  (θ_run Cert.Reference18Ideal.defs _ _).mono (fun r h => ⟨fun c => (h c).2.2.2.2, sem_eq_zero_of_no_sems (by decide) r.2⟩) (Cert.Reference18Ideal.Value.run (F := Ideal) m g)

end Cert.OptConv

end
-- ==== Proof.lean ====
/- The proof of the claims: the generated frames, and the value claims of the calls. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Value
public import proofs.«01_k».proof.Proof.Dw2
public import proofs.«01_k».proof.Proof.Dw3
public import proofs.«01_k».proof.Proof.Dw4
public import proofs.«01_k».proof.Proof.Dw5
public import proofs.«01_k».proof.Proof.Dw6
public import proofs.«01_k».proof.Proof.Dw7
public import proofs.«01_k».proof.Proof.PreBwd
public import proofs.«01_k».proof.Proof.MixBwd
public import proofs.«01_k».proof.Proof.PreProj
public import proofs.«01_k».proof.Proof.MixFwd
public import proofs.«01_k».proof.Proof.OptFfn
public import proofs.«01_k».proof.Proof.SumIn
public import proofs.«01_k».proof.Proof.OptIn
public import proofs.«01_k».proof.Proof.OptAda
public import proofs.«01_k».proof.Proof.OptMixer

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Pre_finite.Gen.facts, Cert.Pre_finite8.Gen.facts, Cert.Pre_finite9.Gen.facts,
    fun m g _ => Cert.Kernel.Gen.frame m g,
    fun m g _ => Cert.KernelIdeal.Gen.frame m g,
    fun m g _ => Cert.KernelIdeal.Gen.frame m g,
    Cert.FfnValue.frame,
    Cert.FfnValue.frame_pre _,
    fun m g _ => Cert.Kernel2.Gen.frame m g,
    fun m g _ => Cert.Kernel2Ideal.Gen.frame m g,
    Cert.Dw2.frame,
    fun m g _ => Cert.Kernel3.Gen.frame m g,
    fun m g _ => Cert.Kernel3Ideal.Gen.frame m g,
    Cert.Dw3.frame,
    fun m g _ => Cert.Kernel4.Gen.frame m g,
    fun m g _ => Cert.Kernel4Ideal.Gen.frame m g,
    Cert.Dw4.frame,
    fun m g _ => Cert.Kernel5.Gen.frame m g,
    fun m g _ => Cert.Kernel5Ideal.Gen.frame m g,
    Cert.Dw5.frame,
    fun m g _ => Cert.Kernel6.Gen.frame m g,
    fun m g _ => Cert.Kernel6Ideal.Gen.frame m g,
    Cert.Dw6.frame,
    fun m g _ => Cert.Kernel7.Gen.frame m g,
    fun m g _ => Cert.Kernel7Ideal.Gen.frame m g,
    Cert.Dw7.frame,
    fun m g _ => Cert.Kernel8.Gen.frame m g,
    fun m g _ => Cert.Kernel8Ideal.Gen.frame m g,
    fun m g _ => Cert.Kernel8Ideal.Gen.frame m g,
    Cert.PreBwd.frame,
    Cert.PreBwd.frame_pre _,
    fun m g _ => Cert.Kernel9.Gen.frame m g,
    fun m g _ => Cert.Kernel9Ideal.Gen.frame m g,
    fun m g _ => Cert.Kernel9Ideal.Gen.frame m g,
    Cert.MixBwd.frame,
    Cert.MixBwd.frame_pre _,
    fun m g _ => Cert.Kernel10.Gen.frame m g,
    fun m g _ => Cert.Kernel10Ideal.Gen.frame m g,
    Cert.PreProj.frame,
    fun m g _ => Cert.Kernel11.Gen.frame m g,
    fun m g _ => Cert.Kernel11Ideal.Gen.frame m g,
    Cert.MixFwd.frame,
    fun m g _ => Cert.Kernel12.Gen.frame m g,
    fun m g _ => Cert.Kernel12Ideal.Gen.frame m g,
    Cert.OptFfn.frame,
    fun m g _ => Cert.Kernel13.Gen.frame m g,
    fun m g _ => Cert.Kernel13Ideal.Gen.frame m g,
    Cert.SumIn.frame,
    fun m g _ => Cert.Kernel14.Gen.frame m g,
    fun m g _ => Cert.Kernel14Ideal.Gen.frame m g,
    Cert.OptIn.frame,
    fun m g _ => Cert.Kernel15.Gen.frame m g,
    fun m g _ => Cert.Kernel15Ideal.Gen.frame m g,
    Cert.OptAda.frame,
    fun m g _ => Cert.Kernel16.Gen.frame m g,
    fun m g _ => Cert.Kernel16Ideal.Gen.frame m g,
    Cert.OptBranch.frame,
    fun m g _ => Cert.Kernel17.Gen.frame m g,
    fun m g _ => Cert.Kernel17Ideal.Gen.frame m g,
    Cert.OptOut.frame,
    fun m g _ => Cert.Kernel18.Gen.frame m g,
    fun m g _ => Cert.Kernel18Ideal.Gen.frame m g,
    Cert.OptConv.frame,
    trivial,
    Cert.FfnValue.algebraic _,
    trivial,
    Cert.Dw2.algebraic,
    trivial,
    Cert.Dw3.algebraic,
    trivial,
    Cert.Dw4.algebraic,
    trivial,
    Cert.Dw5.algebraic,
    trivial,
    Cert.Dw6.algebraic,
    trivial,
    Cert.Dw7.algebraic,
    trivial,
    Cert.PreBwd.algebraic _,
    trivial,
    Cert.MixBwd.algebraic _,
    trivial,
    Cert.PreProj.algebraic,
    trivial,
    Cert.MixFwd.algebraic,
    trivial,
    Cert.OptFfn.algebraic,
    trivial,
    Cert.SumIn.algebraic,
    trivial,
    Cert.OptIn.algebraic,
    trivial,
    Cert.OptAda.algebraic,
    trivial,
    Cert.OptBranch.algebraic,
    trivial,
    Cert.OptOut.algebraic,
    trivial,
    Cert.OptConv.algebraic⟩

end Cert.Proof

end
